-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Update (m : (ℓ : Loc Cert.Update.nD Cert.Update.τ Cert.Update.sig) → Buf (Elt Bits) ℓ) : Prop :=
  True

def Pre_UpdateIdeal (m : (ℓ : Loc Cert.UpdateIdeal.nD Cert.UpdateIdeal.τ Cert.UpdateIdeal.sig) → Buf (Elt Ideal) ℓ) : Prop :=
  True

def Pre_UpdateReferenceIdeal (m : (ℓ : Loc Cert.UpdateReferenceIdeal.nD Cert.UpdateReferenceIdeal.τ Cert.UpdateReferenceIdeal.sig) → Buf (Elt Ideal) ℓ) : Prop :=
  True

def Pre_Scatter (m : (ℓ : Loc Cert.Scatter.nD Cert.Scatter.τ Cert.Scatter.sig) → Buf (Elt Bits) ℓ) : Prop :=
  True

def Pre_ScatterIdeal (m : (ℓ : Loc Cert.ScatterIdeal.nD Cert.ScatterIdeal.τ Cert.ScatterIdeal.sig) → Buf (Elt Ideal) ℓ) : Prop :=
  True

def Pre_ScatterReferenceIdeal (m : (ℓ : Loc Cert.ScatterReferenceIdeal.nD Cert.ScatterReferenceIdeal.τ Cert.ScatterReferenceIdeal.sig) → Buf (Elt Ideal) ℓ) : Prop :=
  True

def Pre_ScatterReference (m : (ℓ : Loc Cert.ScatterReference.nD Cert.ScatterReference.τ Cert.ScatterReference.sig) → Buf (Elt Bits) ℓ) : Prop :=
  True

def Pre_Weights (m : (ℓ : Loc Cert.Weights.nD Cert.Weights.τ Cert.Weights.sig) → Buf (Elt Bits) ℓ) : Prop :=
  True

def Pre_WeightsIdeal (m : (ℓ : Loc Cert.WeightsIdeal.nD Cert.WeightsIdeal.τ Cert.WeightsIdeal.sig) → Buf (Elt Ideal) ℓ) : Prop :=
  True

def Pre_WeightsReferenceIdeal (m : (ℓ : Loc Cert.WeightsReferenceIdeal.nD Cert.WeightsReferenceIdeal.τ Cert.WeightsReferenceIdeal.sig) → Buf (Elt Ideal) ℓ) : Prop :=
  True

def Pre_WeightsReference (m : (ℓ : Loc Cert.WeightsReference.nD Cert.WeightsReference.τ Cert.WeightsReference.sig) → Buf (Elt Bits) ℓ) : Prop :=
  True

def Pre_UpdateIn (m : (ℓ : Loc Cert.UpdateIn.nD Cert.UpdateIn.τ Cert.UpdateIn.sig) → Buf (Elt Bits) ℓ) : Prop :=
  True

def Pre_UpdateInIdeal (m : (ℓ : Loc Cert.UpdateInIdeal.nD Cert.UpdateInIdeal.τ Cert.UpdateInIdeal.sig) → Buf (Elt Ideal) ℓ) : Prop :=
  True

def Pre_UpdateInReferenceIdeal (m : (ℓ : Loc Cert.UpdateInReferenceIdeal.nD Cert.UpdateInReferenceIdeal.τ Cert.UpdateInReferenceIdeal.sig) → Buf (Elt Ideal) ℓ) : Prop :=
  True

def Pre_UpdateKv (m : (ℓ : Loc Cert.UpdateKv.nD Cert.UpdateKv.τ Cert.UpdateKv.sig) → Buf (Elt Bits) ℓ) : Prop :=
  True

def Pre_UpdateKvIdeal (m : (ℓ : Loc Cert.UpdateKvIdeal.nD Cert.UpdateKvIdeal.τ Cert.UpdateKvIdeal.sig) → Buf (Elt Ideal) ℓ) : Prop :=
  True

def Pre_UpdateKvReferenceIdeal (m : (ℓ : Loc Cert.UpdateKvReferenceIdeal.nD Cert.UpdateKvReferenceIdeal.τ Cert.UpdateKvReferenceIdeal.sig) → Buf (Elt Ideal) ℓ) : Prop :=
  True

def Pre_UpdateOut (m : (ℓ : Loc Cert.UpdateOut.nD Cert.UpdateOut.τ Cert.UpdateOut.sig) → Buf (Elt Bits) ℓ) : Prop :=
  True

def Pre_UpdateOutIdeal (m : (ℓ : Loc Cert.UpdateOutIdeal.nD Cert.UpdateOutIdeal.τ Cert.UpdateOutIdeal.sig) → Buf (Elt Ideal) ℓ) : Prop :=
  True

def Pre_UpdateOutReferenceIdeal (m : (ℓ : Loc Cert.UpdateOutReferenceIdeal.nD Cert.UpdateOutReferenceIdeal.τ Cert.UpdateOutReferenceIdeal.sig) → Buf (Elt Ideal) ℓ) : Prop :=
  True

def Pre_SmallSum (m : (ℓ : Loc Cert.SmallSum.nD Cert.SmallSum.τ Cert.SmallSum.sig) → Buf (Elt Bits) ℓ) : Prop :=
  True

def Pre_SmallSumIdeal (m : (ℓ : Loc Cert.SmallSumIdeal.nD Cert.SmallSumIdeal.τ Cert.SmallSumIdeal.sig) → Buf (Elt Ideal) ℓ) : Prop :=
  True

def Pre_SmallSumReferenceIdeal (m : (ℓ : Loc Cert.SmallSumReferenceIdeal.nD Cert.SmallSumReferenceIdeal.τ Cert.SmallSumReferenceIdeal.sig) → Buf (Elt Ideal) ℓ) : Prop :=
  True

def Pre_StepSmall (m : (ℓ : Loc Cert.StepSmall.nD Cert.StepSmall.τ Cert.StepSmall.sig) → Buf (Elt Bits) ℓ) : Prop :=
  True

def Pre_StepSmallIdeal (m : (ℓ : Loc Cert.StepSmallIdeal.nD Cert.StepSmallIdeal.τ Cert.StepSmallIdeal.sig) → Buf (Elt Ideal) ℓ) : Prop :=
  True

def Pre_StepSmallReferenceIdeal (m : (ℓ : Loc Cert.StepSmallReferenceIdeal.nD Cert.StepSmallReferenceIdeal.τ Cert.StepSmallReferenceIdeal.sig) → Buf (Elt Ideal) ℓ) : Prop :=
  True

def Pre_StepDw (m : (ℓ : Loc Cert.StepDw.nD Cert.StepDw.τ Cert.StepDw.sig) → Buf (Elt Bits) ℓ) : Prop :=
  True

def Pre_StepDwIdeal (m : (ℓ : Loc Cert.StepDwIdeal.nD Cert.StepDwIdeal.τ Cert.StepDwIdeal.sig) → Buf (Elt Ideal) ℓ) : Prop :=
  True

def Pre_StepDwReferenceIdeal (m : (ℓ : Loc Cert.StepDwReferenceIdeal.nD Cert.StepDwReferenceIdeal.τ Cert.StepDwReferenceIdeal.sig) → Buf (Elt Ideal) ℓ) : Prop :=
  True

def Pre_FfnW (m : (ℓ : Loc Cert.FfnW.nD Cert.FfnW.τ Cert.FfnW.sig) → Buf (Elt Bits) ℓ) : Prop :=
  True

def Pre_FfnWIdeal (m : (ℓ : Loc Cert.FfnWIdeal.nD Cert.FfnWIdeal.τ Cert.FfnWIdeal.sig) → Buf (Elt Ideal) ℓ) : Prop :=
  True

def Pre_FfnWReferenceIdeal (m : (ℓ : Loc Cert.FfnWReferenceIdeal.nD Cert.FfnWReferenceIdeal.τ Cert.FfnWReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdReferenceIdeal (m : (ℓ : Loc Cert.OutBwdReferenceIdeal.nD Cert.OutBwdReferenceIdeal.τ Cert.OutBwdReferenceIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvReferenceIdeal (m : (ℓ : Loc Cert.MemKvReferenceIdeal.nD Cert.MemKvReferenceIdeal.τ Cert.MemKvReferenceIdeal.sig) → Buf (Elt Ideal) ℓ) : Prop :=
  True

def Pre_KvBwd (m : (ℓ : Loc Cert.KvBwd.nD Cert.KvBwd.τ Cert.KvBwd.sig) → Buf (Elt Bits) ℓ) : Prop :=
  True

def Pre_KvBwdIdeal (m : (ℓ : Loc Cert.KvBwdIdeal.nD Cert.KvBwdIdeal.τ Cert.KvBwdIdeal.sig) → Buf (Elt Ideal) ℓ) : Prop :=
  True

def Pre_KvBwdReferenceIdeal (m : (ℓ : Loc Cert.KvBwdReferenceIdeal.nD Cert.KvBwdReferenceIdeal.τ Cert.KvBwdReferenceIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdReferenceIdeal (m : (ℓ : Loc Cert.InBwdReferenceIdeal.nD Cert.InBwdReferenceIdeal.τ Cert.InBwdReferenceIdeal.sig) → Buf (Elt Ideal) ℓ) : Prop :=
  True

def Pre_ActBwd (m : (ℓ : Loc Cert.ActBwd.nD Cert.ActBwd.τ Cert.ActBwd.sig) → Buf (Elt Bits) ℓ) : Prop :=
  True

def Pre_ActBwdIdeal (m : (ℓ : Loc Cert.ActBwdIdeal.nD Cert.ActBwdIdeal.τ Cert.ActBwdIdeal.sig) → Buf (Elt Ideal) ℓ) : Prop :=
  True

def Pre_ActBwdReferenceIdeal (m : (ℓ : Loc Cert.ActBwdReferenceIdeal.nD Cert.ActBwdReferenceIdeal.τ Cert.ActBwdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Update [hUpdate : Cert.Update.Facts] : Prop :=
  ∀ (m : (ℓ : Loc Cert.Update.nD Cert.Update.τ Cert.Update.sig) → Buf (Elt Bits) ℓ) (g : Dev Cert.Update.nD → PrngReg), Pre_Update m →
    θ_run (Cert.Update.defs (F := Bits)) (onTc (τ := Cert.Update.τ) (Cert.Update.main (F := Bits))) ⟨m, fun _ => 0, g⟩ (fun r => (∀ c : Dev Cert.Update.nD,
      r.2.mem ((c.tc : Thread Cert.Update.nD Cert.Update.τ).loc Cert.Update.main_arg0) = m ((c.tc : Thread Cert.Update.nD Cert.Update.τ).loc Cert.Update.main_arg0)
      ∧ r.2.mem ((c.tc : Thread Cert.Update.nD Cert.Update.τ).loc Cert.Update.main_arg1) = m ((c.tc : Thread Cert.Update.nD Cert.Update.τ).loc Cert.Update.main_arg1)
      ∧ r.2.mem ((c.tc : Thread Cert.Update.nD Cert.Update.τ).loc Cert.Update.main_arg2) = m ((c.tc : Thread Cert.Update.nD Cert.Update.τ).loc Cert.Update.main_arg2)
      ∧ r.2.mem ((c.tc : Thread Cert.Update.nD Cert.Update.τ).loc Cert.Update.main_arg3) = m ((c.tc : Thread Cert.Update.nD Cert.Update.τ).loc Cert.Update.main_arg3))
      ∧ r.2.sem = fun _ => 0)

def quiescent_UpdateIdeal [hUpdateIdeal : Cert.UpdateIdeal.Facts] : Prop :=
  ∀ (m : (ℓ : Loc Cert.UpdateIdeal.nD Cert.UpdateIdeal.τ Cert.UpdateIdeal.sig) → Buf (Elt Ideal) ℓ) (g : Dev Cert.UpdateIdeal.nD → PrngReg), Pre_UpdateIdeal m →
    θ_run (Cert.UpdateIdeal.defs (F := Ideal)) (onTc (τ := Cert.UpdateIdeal.τ) (Cert.UpdateIdeal.main (F := Ideal))) ⟨m, fun _ => 0, g⟩ (fun r => (∀ c : Dev Cert.UpdateIdeal.nD,
      r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
      ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
      ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
      ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3))
      ∧ r.2.sem = fun _ => 0)

def quiescent_UpdateReferenceIdeal [hUpdateReferenceIdeal : Cert.UpdateReferenceIdeal.Facts] : Prop :=
  ∀ (m : (ℓ : Loc Cert.UpdateReferenceIdeal.nD Cert.UpdateReferenceIdeal.τ Cert.UpdateReferenceIdeal.sig) → Buf (Elt Ideal) ℓ) (g : Dev Cert.UpdateReferenceIdeal.nD → PrngReg), Pre_UpdateReferenceIdeal m →
    θ_run (Cert.UpdateReferenceIdeal.defs (F := Ideal)) (onTc (τ := Cert.UpdateReferenceIdeal.τ) (Cert.UpdateReferenceIdeal.main (F := Ideal))) ⟨m, fun _ => 0, g⟩ (fun r => (∀ c : Dev Cert.UpdateReferenceIdeal.nD,
      r.2.mem ((c.tc : Thread Cert.UpdateReferenceIdeal.nD Cert.UpdateReferenceIdeal.τ).loc Cert.UpdateReferenceIdeal.main_arg0) = m ((c.tc : Thread Cert.UpdateReferenceIdeal.nD Cert.UpdateReferenceIdeal.τ).loc Cert.UpdateReferenceIdeal.main_arg0)
      ∧ r.2.mem ((c.tc : Thread Cert.UpdateReferenceIdeal.nD Cert.UpdateReferenceIdeal.τ).loc Cert.UpdateReferenceIdeal.main_arg1) = m ((c.tc : Thread Cert.UpdateReferenceIdeal.nD Cert.UpdateReferenceIdeal.τ).loc Cert.UpdateReferenceIdeal.main_arg1)
      ∧ r.2.mem ((c.tc : Thread Cert.UpdateReferenceIdeal.nD Cert.UpdateReferenceIdeal.τ).loc Cert.UpdateReferenceIdeal.main_arg2) = m ((c.tc : Thread Cert.UpdateReferenceIdeal.nD Cert.UpdateReferenceIdeal.τ).loc Cert.UpdateReferenceIdeal.main_arg2)
      ∧ r.2.mem ((c.tc : Thread Cert.UpdateReferenceIdeal.nD Cert.UpdateReferenceIdeal.τ).loc Cert.UpdateReferenceIdeal.main_arg3) = m ((c.tc : Thread Cert.UpdateReferenceIdeal.nD Cert.UpdateReferenceIdeal.τ).loc Cert.UpdateReferenceIdeal.main_arg3))
      ∧ r.2.sem = fun _ => 0)

def quiescent_Scatter [hScatter : Cert.Scatter.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (onTc (τ := Cert.Scatter.τ) (Cert.Scatter.main (F := Bits))) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0)
      ∧ r.2.mem ((c.tc : Thread Cert.Scatter.nD Cert.Scatter.τ).loc Cert.Scatter.main_arg1) = m ((c.tc : Thread Cert.Scatter.nD Cert.Scatter.τ).loc Cert.Scatter.main_arg1)
      ∧ r.2.mem ((c.tc : Thread Cert.Scatter.nD Cert.Scatter.τ).loc Cert.Scatter.main_arg2) = m ((c.tc : Thread Cert.Scatter.nD Cert.Scatter.τ).loc Cert.Scatter.main_arg2)
      ∧ r.2.mem ((c.tc : Thread Cert.Scatter.nD Cert.Scatter.τ).loc Cert.Scatter.main_arg3) = m ((c.tc : Thread Cert.Scatter.nD Cert.Scatter.τ).loc Cert.Scatter.main_arg3)
      ∧ r.2.mem ((c.tc : Thread Cert.Scatter.nD Cert.Scatter.τ).loc Cert.Scatter.main_arg4) = m ((c.tc : Thread Cert.Scatter.nD Cert.Scatter.τ).loc Cert.Scatter.main_arg4)
      ∧ r.2.mem ((c.tc : Thread Cert.Scatter.nD Cert.Scatter.τ).loc Cert.Scatter.main_arg5) = m ((c.tc : Thread Cert.Scatter.nD Cert.Scatter.τ).loc Cert.Scatter.main_arg5)
      ∧ r.2.mem ((c.tc : Thread Cert.Scatter.nD Cert.Scatter.τ).loc Cert.Scatter.main_arg6) = m ((c.tc : Thread Cert.Scatter.nD Cert.Scatter.τ).loc Cert.Scatter.main_arg6)
      ∧ r.2.mem ((c.tc : Thread Cert.Scatter.nD Cert.Scatter.τ).loc Cert.Scatter.main_arg7) = m ((c.tc : Thread Cert.Scatter.nD Cert.Scatter.τ).loc Cert.Scatter.main_arg7)
      ∧ r.2.mem ((c.tc : Thread Cert.Scatter.nD Cert.Scatter.τ).loc Cert.Scatter.main_arg8) = m ((c.tc : Thread Cert.Scatter.nD Cert.Scatter.τ).loc Cert.Scatter.main_arg8)
      ∧ r.2.mem ((c.tc : Thread Cert.Scatter.nD Cert.Scatter.τ).loc Cert.Scatter.main_arg9) = m ((c.tc : Thread Cert.Scatter.nD Cert.Scatter.τ).loc Cert.Scatter.main_arg9))
      ∧ r.2.sem = fun _ => 0)

def quiescent_ScatterIdeal [hScatterIdeal : Cert.ScatterIdeal.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (onTc (τ := Cert.ScatterIdeal.τ) (Cert.ScatterIdeal.main (F := Ideal))) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
      ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
      ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2)
      ∧ r.2.mem ((c.tc : Thread Cert.ScatterIdeal.nD Cert.ScatterIdeal.τ).loc Cert.ScatterIdeal.main_arg3) = m ((c.tc : Thread Cert.ScatterIdeal.nD Cert.ScatterIdeal.τ).loc Cert.ScatterIdeal.main_arg3)
      ∧ r.2.mem ((c.tc : Thread Cert.ScatterIdeal.nD Cert.ScatterIdeal.τ).loc Cert.ScatterIdeal.main_arg4) = m ((c.tc : Thread Cert.ScatterIdeal.nD Cert.ScatterIdeal.τ).loc Cert.ScatterIdeal.main_arg4)
      ∧ r.2.mem ((c.tc : Thread Cert.ScatterIdeal.nD Cert.ScatterIdeal.τ).loc Cert.ScatterIdeal.main_arg5) = m ((c.tc : Thread Cert.ScatterIdeal.nD Cert.ScatterIdeal.τ).loc Cert.ScatterIdeal.main_arg5)
      ∧ r.2.mem ((c.tc : Thread Cert.ScatterIdeal.nD Cert.ScatterIdeal.τ).loc Cert.ScatterIdeal.main_arg6) = m ((c.tc : Thread Cert.ScatterIdeal.nD Cert.ScatterIdeal.τ).loc Cert.ScatterIdeal.main_arg6)
      ∧ r.2.mem ((c.tc : Thread Cert.ScatterIdeal.nD Cert.ScatterIdeal.τ).loc Cert.ScatterIdeal.main_arg7) = m ((c.tc : Thread Cert.ScatterIdeal.nD Cert.ScatterIdeal.τ).loc Cert.ScatterIdeal.main_arg7)
      ∧ r.2.mem ((c.tc : Thread Cert.ScatterIdeal.nD Cert.ScatterIdeal.τ).loc Cert.ScatterIdeal.main_arg8) = m ((c.tc : Thread Cert.ScatterIdeal.nD Cert.ScatterIdeal.τ).loc Cert.ScatterIdeal.main_arg8)
      ∧ r.2.mem ((c.tc : Thread Cert.ScatterIdeal.nD Cert.ScatterIdeal.τ).loc Cert.ScatterIdeal.main_arg9) = m ((c.tc : Thread Cert.ScatterIdeal.nD Cert.ScatterIdeal.τ).loc Cert.ScatterIdeal.main_arg9))
      ∧ r.2.sem = fun _ => 0)

def quiescent_ScatterReferenceIdeal [hScatterReferenceIdeal : Cert.ScatterReferenceIdeal.Facts] : Prop :=
  ∀ (m : (ℓ : Loc Cert.ScatterReferenceIdeal.nD Cert.ScatterReferenceIdeal.τ Cert.ScatterReferenceIdeal.sig) → Buf (Elt Ideal) ℓ) (g : Dev Cert.ScatterReferenceIdeal.nD → PrngReg), Pre_ScatterReferenceIdeal m →
    θ_run (Cert.ScatterReferenceIdeal.defs (F := Ideal)) (onTc (τ := Cert.ScatterReferenceIdeal.τ) (Cert.ScatterReferenceIdeal.main (F := Ideal))) ⟨m, fun _ => 0, g⟩ (fun r => (∀ c : Dev Cert.ScatterReferenceIdeal.nD,
      r.2.mem ((c.tc : Thread Cert.ScatterReferenceIdeal.nD Cert.ScatterReferenceIdeal.τ).loc Cert.ScatterReferenceIdeal.main_arg0) = m ((c.tc : Thread Cert.ScatterReferenceIdeal.nD Cert.ScatterReferenceIdeal.τ).loc Cert.ScatterReferenceIdeal.main_arg0)
      ∧ r.2.mem ((c.tc : Thread Cert.ScatterReferenceIdeal.nD Cert.ScatterReferenceIdeal.τ).loc Cert.ScatterReferenceIdeal.main_arg1) = m ((c.tc : Thread Cert.ScatterReferenceIdeal.nD Cert.ScatterReferenceIdeal.τ).loc Cert.ScatterReferenceIdeal.main_arg1)
      ∧ r.2.mem ((c.tc : Thread Cert.ScatterReferenceIdeal.nD Cert.ScatterReferenceIdeal.τ).loc Cert.ScatterReferenceIdeal.main_arg2) = m ((c.tc : Thread Cert.ScatterReferenceIdeal.nD Cert.ScatterReferenceIdeal.τ).loc Cert.ScatterReferenceIdeal.main_arg2)
      ∧ r.2.mem ((c.tc : Thread Cert.ScatterReferenceIdeal.nD Cert.ScatterReferenceIdeal.τ).loc Cert.ScatterReferenceIdeal.main_arg3) = m ((c.tc : Thread Cert.ScatterReferenceIdeal.nD Cert.ScatterReferenceIdeal.τ).loc Cert.ScatterReferenceIdeal.main_arg3)
      ∧ r.2.mem ((c.tc : Thread Cert.ScatterReferenceIdeal.nD Cert.ScatterReferenceIdeal.τ).loc Cert.ScatterReferenceIdeal.main_arg4) = m ((c.tc : Thread Cert.ScatterReferenceIdeal.nD Cert.ScatterReferenceIdeal.τ).loc Cert.ScatterReferenceIdeal.main_arg4)
      ∧ r.2.mem ((c.tc : Thread Cert.ScatterReferenceIdeal.nD Cert.ScatterReferenceIdeal.τ).loc Cert.ScatterReferenceIdeal.main_arg5) = m ((c.tc : Thread Cert.ScatterReferenceIdeal.nD Cert.ScatterReferenceIdeal.τ).loc Cert.ScatterReferenceIdeal.main_arg5)
      ∧ r.2.mem ((c.tc : Thread Cert.ScatterReferenceIdeal.nD Cert.ScatterReferenceIdeal.τ).loc Cert.ScatterReferenceIdeal.main_arg6) = m ((c.tc : Thread Cert.ScatterReferenceIdeal.nD Cert.ScatterReferenceIdeal.τ).loc Cert.ScatterReferenceIdeal.main_arg6)
      ∧ r.2.mem ((c.tc : Thread Cert.ScatterReferenceIdeal.nD Cert.ScatterReferenceIdeal.τ).loc Cert.ScatterReferenceIdeal.main_arg7) = m ((c.tc : Thread Cert.ScatterReferenceIdeal.nD Cert.ScatterReferenceIdeal.τ).loc Cert.ScatterReferenceIdeal.main_arg7)
      ∧ r.2.mem ((c.tc : Thread Cert.ScatterReferenceIdeal.nD Cert.ScatterReferenceIdeal.τ).loc Cert.ScatterReferenceIdeal.main_arg8) = m ((c.tc : Thread Cert.ScatterReferenceIdeal.nD Cert.ScatterReferenceIdeal.τ).loc Cert.ScatterReferenceIdeal.main_arg8)
      ∧ r.2.mem ((c.tc : Thread Cert.ScatterReferenceIdeal.nD Cert.ScatterReferenceIdeal.τ).loc Cert.ScatterReferenceIdeal.main_arg9) = m ((c.tc : Thread Cert.ScatterReferenceIdeal.nD Cert.ScatterReferenceIdeal.τ).loc Cert.ScatterReferenceIdeal.main_arg9))
      ∧ r.2.sem = fun _ => 0)

def quiescent_ScatterReference [hScatterReference : Cert.ScatterReference.Facts] : Prop :=
  ∀ (m : (ℓ : Loc Cert.ScatterReference.nD Cert.ScatterReference.τ Cert.ScatterReference.sig) → Buf (Elt Bits) ℓ) (g : Dev Cert.ScatterReference.nD → PrngReg), Pre_ScatterReference m →
    θ_run (Cert.ScatterReference.defs (F := Bits)) (onTc (τ := Cert.ScatterReference.τ) (Cert.ScatterReference.main (F := Bits))) ⟨m, fun _ => 0, g⟩ (fun r => (∀ c : Dev Cert.ScatterReference.nD,
      r.2.mem ((c.tc : Thread Cert.ScatterReference.nD Cert.ScatterReference.τ).loc Cert.ScatterReference.main_arg0) = m ((c.tc : Thread Cert.ScatterReference.nD Cert.ScatterReference.τ).loc Cert.ScatterReference.main_arg0)
      ∧ r.2.mem ((c.tc : Thread Cert.ScatterReference.nD Cert.ScatterReference.τ).loc Cert.ScatterReference.main_arg1) = m ((c.tc : Thread Cert.ScatterReference.nD Cert.ScatterReference.τ).loc Cert.ScatterReference.main_arg1)
      ∧ r.2.mem ((c.tc : Thread Cert.ScatterReference.nD Cert.ScatterReference.τ).loc Cert.ScatterReference.main_arg2) = m ((c.tc : Thread Cert.ScatterReference.nD Cert.ScatterReference.τ).loc Cert.ScatterReference.main_arg2)
      ∧ r.2.mem ((c.tc : Thread Cert.ScatterReference.nD Cert.ScatterReference.τ).loc Cert.ScatterReference.main_arg3) = m ((c.tc : Thread Cert.ScatterReference.nD Cert.ScatterReference.τ).loc Cert.ScatterReference.main_arg3)
      ∧ r.2.mem ((c.tc : Thread Cert.ScatterReference.nD Cert.ScatterReference.τ).loc Cert.ScatterReference.main_arg4) = m ((c.tc : Thread Cert.ScatterReference.nD Cert.ScatterReference.τ).loc Cert.ScatterReference.main_arg4)
      ∧ r.2.mem ((c.tc : Thread Cert.ScatterReference.nD Cert.ScatterReference.τ).loc Cert.ScatterReference.main_arg5) = m ((c.tc : Thread Cert.ScatterReference.nD Cert.ScatterReference.τ).loc Cert.ScatterReference.main_arg5)
      ∧ r.2.mem ((c.tc : Thread Cert.ScatterReference.nD Cert.ScatterReference.τ).loc Cert.ScatterReference.main_arg6) = m ((c.tc : Thread Cert.ScatterReference.nD Cert.ScatterReference.τ).loc Cert.ScatterReference.main_arg6)
      ∧ r.2.mem ((c.tc : Thread Cert.ScatterReference.nD Cert.ScatterReference.τ).loc Cert.ScatterReference.main_arg7) = m ((c.tc : Thread Cert.ScatterReference.nD Cert.ScatterReference.τ).loc Cert.ScatterReference.main_arg7)
      ∧ r.2.mem ((c.tc : Thread Cert.ScatterReference.nD Cert.ScatterReference.τ).loc Cert.ScatterReference.main_arg8) = m ((c.tc : Thread Cert.ScatterReference.nD Cert.ScatterReference.τ).loc Cert.ScatterReference.main_arg8)
      ∧ r.2.mem ((c.tc : Thread Cert.ScatterReference.nD Cert.ScatterReference.τ).loc Cert.ScatterReference.main_arg9) = m ((c.tc : Thread Cert.ScatterReference.nD Cert.ScatterReference.τ).loc Cert.ScatterReference.main_arg9))
      ∧ r.2.sem = fun _ => 0)

def quiescent_Weights [hWeights : Cert.Weights.Facts] : Prop :=
  ∀ (m : (ℓ : Loc Cert.Weights.nD Cert.Weights.τ Cert.Weights.sig) → Buf (Elt Bits) ℓ) (g : Dev Cert.Weights.nD → PrngReg), Pre_Weights m →
    θ_run (Cert.Weights.defs (F := Bits)) (onTc (τ := Cert.Weights.τ) (Cert.Weights.main (F := Bits))) ⟨m, fun _ => 0, g⟩ (fun r => (∀ c : Dev Cert.Weights.nD,
      r.2.mem ((c.tc : Thread Cert.Weights.nD Cert.Weights.τ).loc Cert.Weights.main_arg0) = m ((c.tc : Thread Cert.Weights.nD Cert.Weights.τ).loc Cert.Weights.main_arg0)
      ∧ r.2.mem ((c.tc : Thread Cert.Weights.nD Cert.Weights.τ).loc Cert.Weights.main_arg1) = m ((c.tc : Thread Cert.Weights.nD Cert.Weights.τ).loc Cert.Weights.main_arg1)
      ∧ r.2.mem ((c.tc : Thread Cert.Weights.nD Cert.Weights.τ).loc Cert.Weights.main_arg2) = m ((c.tc : Thread Cert.Weights.nD Cert.Weights.τ).loc Cert.Weights.main_arg2)
      ∧ r.2.mem ((c.tc : Thread Cert.Weights.nD Cert.Weights.τ).loc Cert.Weights.main_arg3) = m ((c.tc : Thread Cert.Weights.nD Cert.Weights.τ).loc Cert.Weights.main_arg3)
      ∧ r.2.mem ((c.tc : Thread Cert.Weights.nD Cert.Weights.τ).loc Cert.Weights.main_arg4) = m ((c.tc : Thread Cert.Weights.nD Cert.Weights.τ).loc Cert.Weights.main_arg4)
      ∧ r.2.mem ((c.tc : Thread Cert.Weights.nD Cert.Weights.τ).loc Cert.Weights.main_arg5) = m ((c.tc : Thread Cert.Weights.nD Cert.Weights.τ).loc Cert.Weights.main_arg5)
      ∧ r.2.mem ((c.tc : Thread Cert.Weights.nD Cert.Weights.τ).loc Cert.Weights.main_arg6) = m ((c.tc : Thread Cert.Weights.nD Cert.Weights.τ).loc Cert.Weights.main_arg6)
      ∧ r.2.mem ((c.tc : Thread Cert.Weights.nD Cert.Weights.τ).loc Cert.Weights.main_arg7) = m ((c.tc : Thread Cert.Weights.nD Cert.Weights.τ).loc Cert.Weights.main_arg7)
      ∧ r.2.mem ((c.tc : Thread Cert.Weights.nD Cert.Weights.τ).loc Cert.Weights.main_arg8) = m ((c.tc : Thread Cert.Weights.nD Cert.Weights.τ).loc Cert.Weights.main_arg8)
      ∧ r.2.mem ((c.tc : Thread Cert.Weights.nD Cert.Weights.τ).loc Cert.Weights.main_arg9) = m ((c.tc : Thread Cert.Weights.nD Cert.Weights.τ).loc Cert.Weights.main_arg9))
      ∧ r.2.sem = fun _ => 0)

def quiescent_WeightsIdeal [hWeightsIdeal : Cert.WeightsIdeal.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
      ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
      ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2)
      ∧ r.2.mem ((c.tc : Thread Cert.WeightsIdeal.nD Cert.WeightsIdeal.τ).loc Cert.WeightsIdeal.main_arg3) = m ((c.tc : Thread Cert.WeightsIdeal.nD Cert.WeightsIdeal.τ).loc Cert.WeightsIdeal.main_arg3)
      ∧ r.2.mem ((c.tc : Thread Cert.WeightsIdeal.nD Cert.WeightsIdeal.τ).loc Cert.WeightsIdeal.main_arg4) = m ((c.tc : Thread Cert.WeightsIdeal.nD Cert.WeightsIdeal.τ).loc Cert.WeightsIdeal.main_arg4)
      ∧ r.2.mem ((c.tc : Thread Cert.WeightsIdeal.nD Cert.WeightsIdeal.τ).loc Cert.WeightsIdeal.main_arg5) = m ((c.tc : Thread Cert.WeightsIdeal.nD Cert.WeightsIdeal.τ).loc Cert.WeightsIdeal.main_arg5)
      ∧ r.2.mem ((c.tc : Thread Cert.WeightsIdeal.nD Cert.WeightsIdeal.τ).loc Cert.WeightsIdeal.main_arg6) = m ((c.tc : Thread Cert.WeightsIdeal.nD Cert.WeightsIdeal.τ).loc Cert.WeightsIdeal.main_arg6)
      ∧ r.2.mem ((c.tc : Thread Cert.WeightsIdeal.nD Cert.WeightsIdeal.τ).loc Cert.WeightsIdeal.main_arg7) = m ((c.tc : Thread Cert.WeightsIdeal.nD Cert.WeightsIdeal.τ).loc Cert.WeightsIdeal.main_arg7)
      ∧ r.2.mem ((c.tc : Thread Cert.WeightsIdeal.nD Cert.WeightsIdeal.τ).loc Cert.WeightsIdeal.main_arg8) = m ((c.tc : Thread Cert.WeightsIdeal.nD Cert.WeightsIdeal.τ).loc Cert.WeightsIdeal.main_arg8)
      ∧ r.2.mem ((c.tc : Thread Cert.WeightsIdeal.nD Cert.WeightsIdeal.τ).loc Cert.WeightsIdeal.main_arg9) = m ((c.tc : Thread Cert.WeightsIdeal.nD Cert.WeightsIdeal.τ).loc Cert.WeightsIdeal.main_arg9))
      ∧ r.2.sem = fun _ => 0)

def quiescent_WeightsReferenceIdeal [hWeightsReferenceIdeal : Cert.WeightsReferenceIdeal.Facts] : Prop :=
  ∀ (m : (ℓ : Loc Cert.WeightsReferenceIdeal.nD Cert.WeightsReferenceIdeal.τ Cert.WeightsReferenceIdeal.sig) → Buf (Elt Ideal) ℓ) (g : Dev Cert.WeightsReferenceIdeal.nD → PrngReg), Pre_WeightsReferenceIdeal m →
    θ_run (Cert.WeightsReferenceIdeal.defs (F := Ideal)) (onTc (τ := Cert.WeightsReferenceIdeal.τ) (Cert.WeightsReferenceIdeal.main (F := Ideal))) ⟨m, fun _ => 0, g⟩ (fun r => (∀ c : Dev Cert.WeightsReferenceIdeal.nD,
      r.2.mem ((c.tc : Thread Cert.WeightsReferenceIdeal.nD Cert.WeightsReferenceIdeal.τ).loc Cert.WeightsReferenceIdeal.main_arg0) = m ((c.tc : Thread Cert.WeightsReferenceIdeal.nD Cert.WeightsReferenceIdeal.τ).loc Cert.WeightsReferenceIdeal.main_arg0)
      ∧ r.2.mem ((c.tc : Thread Cert.WeightsReferenceIdeal.nD Cert.WeightsReferenceIdeal.τ).loc Cert.WeightsReferenceIdeal.main_arg1) = m ((c.tc : Thread Cert.WeightsReferenceIdeal.nD Cert.WeightsReferenceIdeal.τ).loc Cert.WeightsReferenceIdeal.main_arg1)
      ∧ r.2.mem ((c.tc : Thread Cert.WeightsReferenceIdeal.nD Cert.WeightsReferenceIdeal.τ).loc Cert.WeightsReferenceIdeal.main_arg2) = m ((c.tc : Thread Cert.WeightsReferenceIdeal.nD Cert.WeightsReferenceIdeal.τ).loc Cert.WeightsReferenceIdeal.main_arg2)
      ∧ r.2.mem ((c.tc : Thread Cert.WeightsReferenceIdeal.nD Cert.WeightsReferenceIdeal.τ).loc Cert.WeightsReferenceIdeal.main_arg3) = m ((c.tc : Thread Cert.WeightsReferenceIdeal.nD Cert.WeightsReferenceIdeal.τ).loc Cert.WeightsReferenceIdeal.main_arg3)
      ∧ r.2.mem ((c.tc : Thread Cert.WeightsReferenceIdeal.nD Cert.WeightsReferenceIdeal.τ).loc Cert.WeightsReferenceIdeal.main_arg4) = m ((c.tc : Thread Cert.WeightsReferenceIdeal.nD Cert.WeightsReferenceIdeal.τ).loc Cert.WeightsReferenceIdeal.main_arg4)
      ∧ r.2.mem ((c.tc : Thread Cert.WeightsReferenceIdeal.nD Cert.WeightsReferenceIdeal.τ).loc Cert.WeightsReferenceIdeal.main_arg5) = m ((c.tc : Thread Cert.WeightsReferenceIdeal.nD Cert.WeightsReferenceIdeal.τ).loc Cert.WeightsReferenceIdeal.main_arg5)
      ∧ r.2.mem ((c.tc : Thread Cert.WeightsReferenceIdeal.nD Cert.WeightsReferenceIdeal.τ).loc Cert.WeightsReferenceIdeal.main_arg6) = m ((c.tc : Thread Cert.WeightsReferenceIdeal.nD Cert.WeightsReferenceIdeal.τ).loc Cert.WeightsReferenceIdeal.main_arg6)
      ∧ r.2.mem ((c.tc : Thread Cert.WeightsReferenceIdeal.nD Cert.WeightsReferenceIdeal.τ).loc Cert.WeightsReferenceIdeal.main_arg7) = m ((c.tc : Thread Cert.WeightsReferenceIdeal.nD Cert.WeightsReferenceIdeal.τ).loc Cert.WeightsReferenceIdeal.main_arg7)
      ∧ r.2.mem ((c.tc : Thread Cert.WeightsReferenceIdeal.nD Cert.WeightsReferenceIdeal.τ).loc Cert.WeightsReferenceIdeal.main_arg8) = m ((c.tc : Thread Cert.WeightsReferenceIdeal.nD Cert.WeightsReferenceIdeal.τ).loc Cert.WeightsReferenceIdeal.main_arg8)
      ∧ r.2.mem ((c.tc : Thread Cert.WeightsReferenceIdeal.nD Cert.WeightsReferenceIdeal.τ).loc Cert.WeightsReferenceIdeal.main_arg9) = m ((c.tc : Thread Cert.WeightsReferenceIdeal.nD Cert.WeightsReferenceIdeal.τ).loc Cert.WeightsReferenceIdeal.main_arg9))
      ∧ r.2.sem = fun _ => 0)

def quiescent_WeightsReference [hWeightsReference : Cert.WeightsReference.Facts] : Prop :=
  ∀ (m : (ℓ : Loc Cert.WeightsReference.nD Cert.WeightsReference.τ Cert.WeightsReference.sig) → Buf (Elt Bits) ℓ) (g : Dev Cert.WeightsReference.nD → PrngReg), Pre_WeightsReference m →
    θ_run (Cert.WeightsReference.defs (F := Bits)) (onTc (τ := Cert.WeightsReference.τ) (Cert.WeightsReference.main (F := Bits))) ⟨m, fun _ => 0, g⟩ (fun r => (∀ c : Dev Cert.WeightsReference.nD,
      r.2.mem ((c.tc : Thread Cert.WeightsReference.nD Cert.WeightsReference.τ).loc Cert.WeightsReference.main_arg0) = m ((c.tc : Thread Cert.WeightsReference.nD Cert.WeightsReference.τ).loc Cert.WeightsReference.main_arg0)
      ∧ r.2.mem ((c.tc : Thread Cert.WeightsReference.nD Cert.WeightsReference.τ).loc Cert.WeightsReference.main_arg1) = m ((c.tc : Thread Cert.WeightsReference.nD Cert.WeightsReference.τ).loc Cert.WeightsReference.main_arg1)
      ∧ r.2.mem ((c.tc : Thread Cert.WeightsReference.nD Cert.WeightsReference.τ).loc Cert.WeightsReference.main_arg2) = m ((c.tc : Thread Cert.WeightsReference.nD Cert.WeightsReference.τ).loc Cert.WeightsReference.main_arg2)
      ∧ r.2.mem ((c.tc : Thread Cert.WeightsReference.nD Cert.WeightsReference.τ).loc Cert.WeightsReference.main_arg3) = m ((c.tc : Thread Cert.WeightsReference.nD Cert.WeightsReference.τ).loc Cert.WeightsReference.main_arg3)
      ∧ r.2.mem ((c.tc : Thread Cert.WeightsReference.nD Cert.WeightsReference.τ).loc Cert.WeightsReference.main_arg4) = m ((c.tc : Thread Cert.WeightsReference.nD Cert.WeightsReference.τ).loc Cert.WeightsReference.main_arg4)
      ∧ r.2.mem ((c.tc : Thread Cert.WeightsReference.nD Cert.WeightsReference.τ).loc Cert.WeightsReference.main_arg5) = m ((c.tc : Thread Cert.WeightsReference.nD Cert.WeightsReference.τ).loc Cert.WeightsReference.main_arg5)
      ∧ r.2.mem ((c.tc : Thread Cert.WeightsReference.nD Cert.WeightsReference.τ).loc Cert.WeightsReference.main_arg6) = m ((c.tc : Thread Cert.WeightsReference.nD Cert.WeightsReference.τ).loc Cert.WeightsReference.main_arg6)
      ∧ r.2.mem ((c.tc : Thread Cert.WeightsReference.nD Cert.WeightsReference.τ).loc Cert.WeightsReference.main_arg7) = m ((c.tc : Thread Cert.WeightsReference.nD Cert.WeightsReference.τ).loc Cert.WeightsReference.main_arg7)
      ∧ r.2.mem ((c.tc : Thread Cert.WeightsReference.nD Cert.WeightsReference.τ).loc Cert.WeightsReference.main_arg8) = m ((c.tc : Thread Cert.WeightsReference.nD Cert.WeightsReference.τ).loc Cert.WeightsReference.main_arg8)
      ∧ r.2.mem ((c.tc : Thread Cert.WeightsReference.nD Cert.WeightsReference.τ).loc Cert.WeightsReference.main_arg9) = m ((c.tc : Thread Cert.WeightsReference.nD Cert.WeightsReference.τ).loc Cert.WeightsReference.main_arg9))
      ∧ r.2.sem = fun _ => 0)

def quiescent_UpdateIn [hUpdateIn : Cert.UpdateIn.Facts] : Prop :=
  ∀ (m : (ℓ : Loc Cert.UpdateIn.nD Cert.UpdateIn.τ Cert.UpdateIn.sig) → Buf (Elt Bits) ℓ) (g : Dev Cert.UpdateIn.nD → PrngReg), Pre_UpdateIn m →
    θ_run (Cert.UpdateIn.defs (F := Bits)) (onTc (τ := Cert.UpdateIn.τ) (Cert.UpdateIn.main (F := Bits))) ⟨m, fun _ => 0, g⟩ (fun r => (∀ c : Dev Cert.UpdateIn.nD,
      r.2.mem ((c.tc : Thread Cert.UpdateIn.nD Cert.UpdateIn.τ).loc Cert.UpdateIn.main_arg0) = m ((c.tc : Thread Cert.UpdateIn.nD Cert.UpdateIn.τ).loc Cert.UpdateIn.main_arg0)
      ∧ r.2.mem ((c.tc : Thread Cert.UpdateIn.nD Cert.UpdateIn.τ).loc Cert.UpdateIn.main_arg1) = m ((c.tc : Thread Cert.UpdateIn.nD Cert.UpdateIn.τ).loc Cert.UpdateIn.main_arg1)
      ∧ r.2.mem ((c.tc : Thread Cert.UpdateIn.nD Cert.UpdateIn.τ).loc Cert.UpdateIn.main_arg2) = m ((c.tc : Thread Cert.UpdateIn.nD Cert.UpdateIn.τ).loc Cert.UpdateIn.main_arg2)
      ∧ r.2.mem ((c.tc : Thread Cert.UpdateIn.nD Cert.UpdateIn.τ).loc Cert.UpdateIn.main_arg3) = m ((c.tc : Thread Cert.UpdateIn.nD Cert.UpdateIn.τ).loc Cert.UpdateIn.main_arg3))
      ∧ r.2.sem = fun _ => 0)

def quiescent_UpdateInIdeal [hUpdateInIdeal : Cert.UpdateInIdeal.Facts] : Prop :=
  ∀ (m : (ℓ : Loc Cert.UpdateInIdeal.nD Cert.UpdateInIdeal.τ Cert.UpdateInIdeal.sig) → Buf (Elt Ideal) ℓ) (g : Dev Cert.UpdateInIdeal.nD → PrngReg), Pre_UpdateInIdeal m →
    θ_run (Cert.UpdateInIdeal.defs (F := Ideal)) (onTc (τ := Cert.UpdateInIdeal.τ) (Cert.UpdateInIdeal.main (F := Ideal))) ⟨m, fun _ => 0, g⟩ (fun r => (∀ c : Dev Cert.UpdateInIdeal.nD,
      r.2.mem ((c.tc : Thread Cert.UpdateInIdeal.nD Cert.UpdateInIdeal.τ).loc Cert.UpdateInIdeal.main_arg0) = m ((c.tc : Thread Cert.UpdateInIdeal.nD Cert.UpdateInIdeal.τ).loc Cert.UpdateInIdeal.main_arg0)
      ∧ r.2.mem ((c.tc : Thread Cert.UpdateInIdeal.nD Cert.UpdateInIdeal.τ).loc Cert.UpdateInIdeal.main_arg1) = m ((c.tc : Thread Cert.UpdateInIdeal.nD Cert.UpdateInIdeal.τ).loc Cert.UpdateInIdeal.main_arg1)
      ∧ r.2.mem ((c.tc : Thread Cert.UpdateInIdeal.nD Cert.UpdateInIdeal.τ).loc Cert.UpdateInIdeal.main_arg2) = m ((c.tc : Thread Cert.UpdateInIdeal.nD Cert.UpdateInIdeal.τ).loc Cert.UpdateInIdeal.main_arg2)
      ∧ r.2.mem ((c.tc : Thread Cert.UpdateInIdeal.nD Cert.UpdateInIdeal.τ).loc Cert.UpdateInIdeal.main_arg3) = m ((c.tc : Thread Cert.UpdateInIdeal.nD Cert.UpdateInIdeal.τ).loc Cert.UpdateInIdeal.main_arg3))
      ∧ r.2.sem = fun _ => 0)

def quiescent_UpdateInReferenceIdeal [hUpdateInReferenceIdeal : Cert.UpdateInReferenceIdeal.Facts] : Prop :=
  ∀ (m : (ℓ : Loc Cert.UpdateInReferenceIdeal.nD Cert.UpdateInReferenceIdeal.τ Cert.UpdateInReferenceIdeal.sig) → Buf (Elt Ideal) ℓ) (g : Dev Cert.UpdateInReferenceIdeal.nD → PrngReg), Pre_UpdateInReferenceIdeal m →
    θ_run (Cert.UpdateInReferenceIdeal.defs (F := Ideal)) (onTc (τ := Cert.UpdateInReferenceIdeal.τ) (Cert.UpdateInReferenceIdeal.main (F := Ideal))) ⟨m, fun _ => 0, g⟩ (fun r => (∀ c : Dev Cert.UpdateInReferenceIdeal.nD,
      r.2.mem ((c.tc : Thread Cert.UpdateInReferenceIdeal.nD Cert.UpdateInReferenceIdeal.τ).loc Cert.UpdateInReferenceIdeal.main_arg0) = m ((c.tc : Thread Cert.UpdateInReferenceIdeal.nD Cert.UpdateInReferenceIdeal.τ).loc Cert.UpdateInReferenceIdeal.main_arg0)
      ∧ r.2.mem ((c.tc : Thread Cert.UpdateInReferenceIdeal.nD Cert.UpdateInReferenceIdeal.τ).loc Cert.UpdateInReferenceIdeal.main_arg1) = m ((c.tc : Thread Cert.UpdateInReferenceIdeal.nD Cert.UpdateInReferenceIdeal.τ).loc Cert.UpdateInReferenceIdeal.main_arg1)
      ∧ r.2.mem ((c.tc : Thread Cert.UpdateInReferenceIdeal.nD Cert.UpdateInReferenceIdeal.τ).loc Cert.UpdateInReferenceIdeal.main_arg2) = m ((c.tc : Thread Cert.UpdateInReferenceIdeal.nD Cert.UpdateInReferenceIdeal.τ).loc Cert.UpdateInReferenceIdeal.main_arg2)
      ∧ r.2.mem ((c.tc : Thread Cert.UpdateInReferenceIdeal.nD Cert.UpdateInReferenceIdeal.τ).loc Cert.UpdateInReferenceIdeal.main_arg3) = m ((c.tc : Thread Cert.UpdateInReferenceIdeal.nD Cert.UpdateInReferenceIdeal.τ).loc Cert.UpdateInReferenceIdeal.main_arg3))
      ∧ r.2.sem = fun _ => 0)

def quiescent_UpdateKv [hUpdateKv : Cert.UpdateKv.Facts] : Prop :=
  ∀ (m : (ℓ : Loc Cert.UpdateKv.nD Cert.UpdateKv.τ Cert.UpdateKv.sig) → Buf (Elt Bits) ℓ) (g : Dev Cert.UpdateKv.nD → PrngReg), Pre_UpdateKv m →
    θ_run (Cert.UpdateKv.defs (F := Bits)) (onTc (τ := Cert.UpdateKv.τ) (Cert.UpdateKv.main (F := Bits))) ⟨m, fun _ => 0, g⟩ (fun r => (∀ c : Dev Cert.UpdateKv.nD,
      r.2.mem ((c.tc : Thread Cert.UpdateKv.nD Cert.UpdateKv.τ).loc Cert.UpdateKv.main_arg0) = m ((c.tc : Thread Cert.UpdateKv.nD Cert.UpdateKv.τ).loc Cert.UpdateKv.main_arg0)
      ∧ r.2.mem ((c.tc : Thread Cert.UpdateKv.nD Cert.UpdateKv.τ).loc Cert.UpdateKv.main_arg1) = m ((c.tc : Thread Cert.UpdateKv.nD Cert.UpdateKv.τ).loc Cert.UpdateKv.main_arg1)
      ∧ r.2.mem ((c.tc : Thread Cert.UpdateKv.nD Cert.UpdateKv.τ).loc Cert.UpdateKv.main_arg2) = m ((c.tc : Thread Cert.UpdateKv.nD Cert.UpdateKv.τ).loc Cert.UpdateKv.main_arg2)
      ∧ r.2.mem ((c.tc : Thread Cert.UpdateKv.nD Cert.UpdateKv.τ).loc Cert.UpdateKv.main_arg3) = m ((c.tc : Thread Cert.UpdateKv.nD Cert.UpdateKv.τ).loc Cert.UpdateKv.main_arg3))
      ∧ r.2.sem = fun _ => 0)

def quiescent_UpdateKvIdeal [hUpdateKvIdeal : Cert.UpdateKvIdeal.Facts] : Prop :=
  ∀ (m : (ℓ : Loc Cert.UpdateKvIdeal.nD Cert.UpdateKvIdeal.τ Cert.UpdateKvIdeal.sig) → Buf (Elt Ideal) ℓ) (g : Dev Cert.UpdateKvIdeal.nD → PrngReg), Pre_UpdateKvIdeal m →
    θ_run (Cert.UpdateKvIdeal.defs (F := Ideal)) (onTc (τ := Cert.UpdateKvIdeal.τ) (Cert.UpdateKvIdeal.main (F := Ideal))) ⟨m, fun _ => 0, g⟩ (fun r => (∀ c : Dev Cert.UpdateKvIdeal.nD,
      r.2.mem ((c.tc : Thread Cert.UpdateKvIdeal.nD Cert.UpdateKvIdeal.τ).loc Cert.UpdateKvIdeal.main_arg0) = m ((c.tc : Thread Cert.UpdateKvIdeal.nD Cert.UpdateKvIdeal.τ).loc Cert.UpdateKvIdeal.main_arg0)
      ∧ r.2.mem ((c.tc : Thread Cert.UpdateKvIdeal.nD Cert.UpdateKvIdeal.τ).loc Cert.UpdateKvIdeal.main_arg1) = m ((c.tc : Thread Cert.UpdateKvIdeal.nD Cert.UpdateKvIdeal.τ).loc Cert.UpdateKvIdeal.main_arg1)
      ∧ r.2.mem ((c.tc : Thread Cert.UpdateKvIdeal.nD Cert.UpdateKvIdeal.τ).loc Cert.UpdateKvIdeal.main_arg2) = m ((c.tc : Thread Cert.UpdateKvIdeal.nD Cert.UpdateKvIdeal.τ).loc Cert.UpdateKvIdeal.main_arg2)
      ∧ r.2.mem ((c.tc : Thread Cert.UpdateKvIdeal.nD Cert.UpdateKvIdeal.τ).loc Cert.UpdateKvIdeal.main_arg3) = m ((c.tc : Thread Cert.UpdateKvIdeal.nD Cert.UpdateKvIdeal.τ).loc Cert.UpdateKvIdeal.main_arg3))
      ∧ r.2.sem = fun _ => 0)

def quiescent_UpdateKvReferenceIdeal [hUpdateKvReferenceIdeal : Cert.UpdateKvReferenceIdeal.Facts] : Prop :=
  ∀ (m : (ℓ : Loc Cert.UpdateKvReferenceIdeal.nD Cert.UpdateKvReferenceIdeal.τ Cert.UpdateKvReferenceIdeal.sig) → Buf (Elt Ideal) ℓ) (g : Dev Cert.UpdateKvReferenceIdeal.nD → PrngReg), Pre_UpdateKvReferenceIdeal m →
    θ_run (Cert.UpdateKvReferenceIdeal.defs (F := Ideal)) (onTc (τ := Cert.UpdateKvReferenceIdeal.τ) (Cert.UpdateKvReferenceIdeal.main (F := Ideal))) ⟨m, fun _ => 0, g⟩ (fun r => (∀ c : Dev Cert.UpdateKvReferenceIdeal.nD,
      r.2.mem ((c.tc : Thread Cert.UpdateKvReferenceIdeal.nD Cert.UpdateKvReferenceIdeal.τ).loc Cert.UpdateKvReferenceIdeal.main_arg0) = m ((c.tc : Thread Cert.UpdateKvReferenceIdeal.nD Cert.UpdateKvReferenceIdeal.τ).loc Cert.UpdateKvReferenceIdeal.main_arg0)
      ∧ r.2.mem ((c.tc : Thread Cert.UpdateKvReferenceIdeal.nD Cert.UpdateKvReferenceIdeal.τ).loc Cert.UpdateKvReferenceIdeal.main_arg1) = m ((c.tc : Thread Cert.UpdateKvReferenceIdeal.nD Cert.UpdateKvReferenceIdeal.τ).loc Cert.UpdateKvReferenceIdeal.main_arg1)
      ∧ r.2.mem ((c.tc : Thread Cert.UpdateKvReferenceIdeal.nD Cert.UpdateKvReferenceIdeal.τ).loc Cert.UpdateKvReferenceIdeal.main_arg2) = m ((c.tc : Thread Cert.UpdateKvReferenceIdeal.nD Cert.UpdateKvReferenceIdeal.τ).loc Cert.UpdateKvReferenceIdeal.main_arg2)
      ∧ r.2.mem ((c.tc : Thread Cert.UpdateKvReferenceIdeal.nD Cert.UpdateKvReferenceIdeal.τ).loc Cert.UpdateKvReferenceIdeal.main_arg3) = m ((c.tc : Thread Cert.UpdateKvReferenceIdeal.nD Cert.UpdateKvReferenceIdeal.τ).loc Cert.UpdateKvReferenceIdeal.main_arg3))
      ∧ r.2.sem = fun _ => 0)

def quiescent_UpdateOut [hUpdateOut : Cert.UpdateOut.Facts] : Prop :=
  ∀ (m : (ℓ : Loc Cert.UpdateOut.nD Cert.UpdateOut.τ Cert.UpdateOut.sig) → Buf (Elt Bits) ℓ) (g : Dev Cert.UpdateOut.nD → PrngReg), Pre_UpdateOut m →
    θ_run (Cert.UpdateOut.defs (F := Bits)) (onTc (τ := Cert.UpdateOut.τ) (Cert.UpdateOut.main (F := Bits))) ⟨m, fun _ => 0, g⟩ (fun r => (∀ c : Dev Cert.UpdateOut.nD,
      r.2.mem ((c.tc : Thread Cert.UpdateOut.nD Cert.UpdateOut.τ).loc Cert.UpdateOut.main_arg0) = m ((c.tc : Thread Cert.UpdateOut.nD Cert.UpdateOut.τ).loc Cert.UpdateOut.main_arg0)
      ∧ r.2.mem ((c.tc : Thread Cert.UpdateOut.nD Cert.UpdateOut.τ).loc Cert.UpdateOut.main_arg1) = m ((c.tc : Thread Cert.UpdateOut.nD Cert.UpdateOut.τ).loc Cert.UpdateOut.main_arg1)
      ∧ r.2.mem ((c.tc : Thread Cert.UpdateOut.nD Cert.UpdateOut.τ).loc Cert.UpdateOut.main_arg2) = m ((c.tc : Thread Cert.UpdateOut.nD Cert.UpdateOut.τ).loc Cert.UpdateOut.main_arg2)
      ∧ r.2.mem ((c.tc : Thread Cert.UpdateOut.nD Cert.UpdateOut.τ).loc Cert.UpdateOut.main_arg3) = m ((c.tc : Thread Cert.UpdateOut.nD Cert.UpdateOut.τ).loc Cert.UpdateOut.main_arg3))
      ∧ r.2.sem = fun _ => 0)

def quiescent_UpdateOutIdeal [hUpdateOutIdeal : Cert.UpdateOutIdeal.Facts] : Prop :=
  ∀ (m : (ℓ : Loc Cert.UpdateOutIdeal.nD Cert.UpdateOutIdeal.τ Cert.UpdateOutIdeal.sig) → Buf (Elt Ideal) ℓ) (g : Dev Cert.UpdateOutIdeal.nD → PrngReg), Pre_UpdateOutIdeal m →
    θ_run (Cert.UpdateOutIdeal.defs (F := Ideal)) (onTc (τ := Cert.UpdateOutIdeal.τ) (Cert.UpdateOutIdeal.main (F := Ideal))) ⟨m, fun _ => 0, g⟩ (fun r => (∀ c : Dev Cert.UpdateOutIdeal.nD,
      r.2.mem ((c.tc : Thread Cert.UpdateOutIdeal.nD Cert.UpdateOutIdeal.τ).loc Cert.UpdateOutIdeal.main_arg0) = m ((c.tc : Thread Cert.UpdateOutIdeal.nD Cert.UpdateOutIdeal.τ).loc Cert.UpdateOutIdeal.main_arg0)
      ∧ r.2.mem ((c.tc : Thread Cert.UpdateOutIdeal.nD Cert.UpdateOutIdeal.τ).loc Cert.UpdateOutIdeal.main_arg1) = m ((c.tc : Thread Cert.UpdateOutIdeal.nD Cert.UpdateOutIdeal.τ).loc Cert.UpdateOutIdeal.main_arg1)
      ∧ r.2.mem ((c.tc : Thread Cert.UpdateOutIdeal.nD Cert.UpdateOutIdeal.τ).loc Cert.UpdateOutIdeal.main_arg2) = m ((c.tc : Thread Cert.UpdateOutIdeal.nD Cert.UpdateOutIdeal.τ).loc Cert.UpdateOutIdeal.main_arg2)
      ∧ r.2.mem ((c.tc : Thread Cert.UpdateOutIdeal.nD Cert.UpdateOutIdeal.τ).loc Cert.UpdateOutIdeal.main_arg3) = m ((c.tc : Thread Cert.UpdateOutIdeal.nD Cert.UpdateOutIdeal.τ).loc Cert.UpdateOutIdeal.main_arg3))
      ∧ r.2.sem = fun _ => 0)

def quiescent_UpdateOutReferenceIdeal [hUpdateOutReferenceIdeal : Cert.UpdateOutReferenceIdeal.Facts] : Prop :=
  ∀ (m : (ℓ : Loc Cert.UpdateOutReferenceIdeal.nD Cert.UpdateOutReferenceIdeal.τ Cert.UpdateOutReferenceIdeal.sig) → Buf (Elt Ideal) ℓ) (g : Dev Cert.UpdateOutReferenceIdeal.nD → PrngReg), Pre_UpdateOutReferenceIdeal m →
    θ_run (Cert.UpdateOutReferenceIdeal.defs (F := Ideal)) (onTc (τ := Cert.UpdateOutReferenceIdeal.τ) (Cert.UpdateOutReferenceIdeal.main (F := Ideal))) ⟨m, fun _ => 0, g⟩ (fun r => (∀ c : Dev Cert.UpdateOutReferenceIdeal.nD,
      r.2.mem ((c.tc : Thread Cert.UpdateOutReferenceIdeal.nD Cert.UpdateOutReferenceIdeal.τ).loc Cert.UpdateOutReferenceIdeal.main_arg0) = m ((c.tc : Thread Cert.UpdateOutReferenceIdeal.nD Cert.UpdateOutReferenceIdeal.τ).loc Cert.UpdateOutReferenceIdeal.main_arg0)
      ∧ r.2.mem ((c.tc : Thread Cert.UpdateOutReferenceIdeal.nD Cert.UpdateOutReferenceIdeal.τ).loc Cert.UpdateOutReferenceIdeal.main_arg1) = m ((c.tc : Thread Cert.UpdateOutReferenceIdeal.nD Cert.UpdateOutReferenceIdeal.τ).loc Cert.UpdateOutReferenceIdeal.main_arg1)
      ∧ r.2.mem ((c.tc : Thread Cert.UpdateOutReferenceIdeal.nD Cert.UpdateOutReferenceIdeal.τ).loc Cert.UpdateOutReferenceIdeal.main_arg2) = m ((c.tc : Thread Cert.UpdateOutReferenceIdeal.nD Cert.UpdateOutReferenceIdeal.τ).loc Cert.UpdateOutReferenceIdeal.main_arg2)
      ∧ r.2.mem ((c.tc : Thread Cert.UpdateOutReferenceIdeal.nD Cert.UpdateOutReferenceIdeal.τ).loc Cert.UpdateOutReferenceIdeal.main_arg3) = m ((c.tc : Thread Cert.UpdateOutReferenceIdeal.nD Cert.UpdateOutReferenceIdeal.τ).loc Cert.UpdateOutReferenceIdeal.main_arg3))
      ∧ r.2.sem = fun _ => 0)

def quiescent_SmallSum [hSmallSum : Cert.SmallSum.Facts] : Prop :=
  ∀ (m : (ℓ : Loc Cert.SmallSum.nD Cert.SmallSum.τ Cert.SmallSum.sig) → Buf (Elt Bits) ℓ) (g : Dev Cert.SmallSum.nD → PrngReg), Pre_SmallSum m →
    θ_run (Cert.SmallSum.defs (F := Bits)) (onTc (τ := Cert.SmallSum.τ) (Cert.SmallSum.main (F := Bits))) ⟨m, fun _ => 0, g⟩ (fun r => (∀ c : Dev Cert.SmallSum.nD,
      r.2.mem ((c.tc : Thread Cert.SmallSum.nD Cert.SmallSum.τ).loc Cert.SmallSum.main_arg0) = m ((c.tc : Thread Cert.SmallSum.nD Cert.SmallSum.τ).loc Cert.SmallSum.main_arg0))
      ∧ r.2.sem = fun _ => 0)

def quiescent_SmallSumIdeal [hSmallSumIdeal : Cert.SmallSumIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg), Pre_SmallSumIdeal m →
    θ_run (Cert.SmallSumIdeal.defs (F := Ideal)) (onTc (τ := Cert.SmallSumIdeal.τ) (Cert.SmallSumIdeal.main (F := Ideal))) ⟨m, fun _ => 0, g⟩ (fun r => (∀ c : Dev Cert.SmallSumIdeal.nD,
      r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ r.2.sem = fun _ => 0)

def quiescent_SmallSumReferenceIdeal [hSmallSumReferenceIdeal : Cert.SmallSumReferenceIdeal.Facts] : Prop :=
  ∀ (m : (ℓ : Loc Cert.SmallSumReferenceIdeal.nD Cert.SmallSumReferenceIdeal.τ Cert.SmallSumReferenceIdeal.sig) → Buf (Elt Ideal) ℓ) (g : Dev Cert.SmallSumReferenceIdeal.nD → PrngReg), Pre_SmallSumReferenceIdeal m →
    θ_run (Cert.SmallSumReferenceIdeal.defs (F := Ideal)) (onTc (τ := Cert.SmallSumReferenceIdeal.τ) (Cert.SmallSumReferenceIdeal.main (F := Ideal))) ⟨m, fun _ => 0, g⟩ (fun r => (∀ c : Dev Cert.SmallSumReferenceIdeal.nD,
      r.2.mem ((c.tc : Thread Cert.SmallSumReferenceIdeal.nD Cert.SmallSumReferenceIdeal.τ).loc Cert.SmallSumReferenceIdeal.main_arg0) = m ((c.tc : Thread Cert.SmallSumReferenceIdeal.nD Cert.SmallSumReferenceIdeal.τ).loc Cert.SmallSumReferenceIdeal.main_arg0))
      ∧ r.2.sem = fun _ => 0)

def quiescent_StepSmall [hStepSmall : Cert.StepSmall.Facts] : Prop :=
  ∀ (m : (ℓ : Loc Cert.StepSmall.nD Cert.StepSmall.τ Cert.StepSmall.sig) → Buf (Elt Bits) ℓ) (g : Dev Cert.StepSmall.nD → PrngReg), Pre_StepSmall m →
    θ_run (Cert.StepSmall.defs (F := Bits)) (onTc (τ := Cert.StepSmall.τ) (Cert.StepSmall.main (F := Bits))) ⟨m, fun _ => 0, g⟩ (fun r => (∀ c : Dev Cert.StepSmall.nD,
      r.2.mem ((c.tc : Thread Cert.StepSmall.nD Cert.StepSmall.τ).loc Cert.StepSmall.main_arg0) = m ((c.tc : Thread Cert.StepSmall.nD Cert.StepSmall.τ).loc Cert.StepSmall.main_arg0)
      ∧ r.2.mem ((c.tc : Thread Cert.StepSmall.nD Cert.StepSmall.τ).loc Cert.StepSmall.main_arg1) = m ((c.tc : Thread Cert.StepSmall.nD Cert.StepSmall.τ).loc Cert.StepSmall.main_arg1)
      ∧ r.2.mem ((c.tc : Thread Cert.StepSmall.nD Cert.StepSmall.τ).loc Cert.StepSmall.main_arg2) = m ((c.tc : Thread Cert.StepSmall.nD Cert.StepSmall.τ).loc Cert.StepSmall.main_arg2)
      ∧ r.2.mem ((c.tc : Thread Cert.StepSmall.nD Cert.StepSmall.τ).loc Cert.StepSmall.main_arg3) = m ((c.tc : Thread Cert.StepSmall.nD Cert.StepSmall.τ).loc Cert.StepSmall.main_arg3))
      ∧ r.2.sem = fun _ => 0)

def quiescent_StepSmallIdeal [hStepSmallIdeal : Cert.StepSmallIdeal.Facts] : Prop :=
  ∀ (m : (ℓ : Loc Cert.StepSmallIdeal.nD Cert.StepSmallIdeal.τ Cert.StepSmallIdeal.sig) → Buf (Elt Ideal) ℓ) (g : Dev Cert.StepSmallIdeal.nD → PrngReg), Pre_StepSmallIdeal m →
    θ_run (Cert.StepSmallIdeal.defs (F := Ideal)) (onTc (τ := Cert.StepSmallIdeal.τ) (Cert.StepSmallIdeal.main (F := Ideal))) ⟨m, fun _ => 0, g⟩ (fun r => (∀ c : Dev Cert.StepSmallIdeal.nD,
      r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
      ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
      ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
      ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3))
      ∧ r.2.sem = fun _ => 0)

def quiescent_StepSmallReferenceIdeal [hStepSmallReferenceIdeal : Cert.StepSmallReferenceIdeal.Facts] : Prop :=
  ∀ (m : (ℓ : Loc Cert.StepSmallReferenceIdeal.nD Cert.StepSmallReferenceIdeal.τ Cert.StepSmallReferenceIdeal.sig) → Buf (Elt Ideal) ℓ) (g : Dev Cert.StepSmallReferenceIdeal.nD → PrngReg), Pre_StepSmallReferenceIdeal m →
    θ_run (Cert.StepSmallReferenceIdeal.defs (F := Ideal)) (onTc (τ := Cert.StepSmallReferenceIdeal.τ) (Cert.StepSmallReferenceIdeal.main (F := Ideal))) ⟨m, fun _ => 0, g⟩ (fun r => (∀ c : Dev Cert.StepSmallReferenceIdeal.nD,
      r.2.mem ((c.tc : Thread Cert.StepSmallReferenceIdeal.nD Cert.StepSmallReferenceIdeal.τ).loc Cert.StepSmallReferenceIdeal.main_arg0) = m ((c.tc : Thread Cert.StepSmallReferenceIdeal.nD Cert.StepSmallReferenceIdeal.τ).loc Cert.StepSmallReferenceIdeal.main_arg0)
      ∧ r.2.mem ((c.tc : Thread Cert.StepSmallReferenceIdeal.nD Cert.StepSmallReferenceIdeal.τ).loc Cert.StepSmallReferenceIdeal.main_arg1) = m ((c.tc : Thread Cert.StepSmallReferenceIdeal.nD Cert.StepSmallReferenceIdeal.τ).loc Cert.StepSmallReferenceIdeal.main_arg1)
      ∧ r.2.mem ((c.tc : Thread Cert.StepSmallReferenceIdeal.nD Cert.StepSmallReferenceIdeal.τ).loc Cert.StepSmallReferenceIdeal.main_arg2) = m ((c.tc : Thread Cert.StepSmallReferenceIdeal.nD Cert.StepSmallReferenceIdeal.τ).loc Cert.StepSmallReferenceIdeal.main_arg2)
      ∧ r.2.mem ((c.tc : Thread Cert.StepSmallReferenceIdeal.nD Cert.StepSmallReferenceIdeal.τ).loc Cert.StepSmallReferenceIdeal.main_arg3) = m ((c.tc : Thread Cert.StepSmallReferenceIdeal.nD Cert.StepSmallReferenceIdeal.τ).loc Cert.StepSmallReferenceIdeal.main_arg3))
      ∧ r.2.sem = fun _ => 0)

def quiescent_StepDw [hStepDw : Cert.StepDw.Facts] : Prop :=
  ∀ (m : (ℓ : Loc Cert.StepDw.nD Cert.StepDw.τ Cert.StepDw.sig) → Buf (Elt Bits) ℓ) (g : Dev Cert.StepDw.nD → PrngReg), Pre_StepDw m →
    θ_run (Cert.StepDw.defs (F := Bits)) (onTc (τ := Cert.StepDw.τ) (Cert.StepDw.main (F := Bits))) ⟨m, fun _ => 0, g⟩ (fun r => (∀ c : Dev Cert.StepDw.nD,
      r.2.mem ((c.tc : Thread Cert.StepDw.nD Cert.StepDw.τ).loc Cert.StepDw.main_arg0) = m ((c.tc : Thread Cert.StepDw.nD Cert.StepDw.τ).loc Cert.StepDw.main_arg0)
      ∧ r.2.mem ((c.tc : Thread Cert.StepDw.nD Cert.StepDw.τ).loc Cert.StepDw.main_arg1) = m ((c.tc : Thread Cert.StepDw.nD Cert.StepDw.τ).loc Cert.StepDw.main_arg1)
      ∧ r.2.mem ((c.tc : Thread Cert.StepDw.nD Cert.StepDw.τ).loc Cert.StepDw.main_arg2) = m ((c.tc : Thread Cert.StepDw.nD Cert.StepDw.τ).loc Cert.StepDw.main_arg2)
      ∧ r.2.mem ((c.tc : Thread Cert.StepDw.nD Cert.StepDw.τ).loc Cert.StepDw.main_arg3) = m ((c.tc : Thread Cert.StepDw.nD Cert.StepDw.τ).loc Cert.StepDw.main_arg3))
      ∧ r.2.sem = fun _ => 0)

def quiescent_StepDwIdeal [hStepDwIdeal : Cert.StepDwIdeal.Facts] : Prop :=
  ∀ (m : (ℓ : Loc Cert.StepDwIdeal.nD Cert.StepDwIdeal.τ Cert.StepDwIdeal.sig) → Buf (Elt Ideal) ℓ) (g : Dev Cert.StepDwIdeal.nD → PrngReg), Pre_StepDwIdeal m →
    θ_run (Cert.StepDwIdeal.defs (F := Ideal)) (onTc (τ := Cert.StepDwIdeal.τ) (Cert.StepDwIdeal.main (F := Ideal))) ⟨m, fun _ => 0, g⟩ (fun r => (∀ c : Dev Cert.StepDwIdeal.nD,
      r.2.mem ((c.tc : Thread Cert.StepDwIdeal.nD Cert.StepDwIdeal.τ).loc Cert.StepDwIdeal.main_arg0) = m ((c.tc : Thread Cert.StepDwIdeal.nD Cert.StepDwIdeal.τ).loc Cert.StepDwIdeal.main_arg0)
      ∧ r.2.mem ((c.tc : Thread Cert.StepDwIdeal.nD Cert.StepDwIdeal.τ).loc Cert.StepDwIdeal.main_arg1) = m ((c.tc : Thread Cert.StepDwIdeal.nD Cert.StepDwIdeal.τ).loc Cert.StepDwIdeal.main_arg1)
      ∧ r.2.mem ((c.tc : Thread Cert.StepDwIdeal.nD Cert.StepDwIdeal.τ).loc Cert.StepDwIdeal.main_arg2) = m ((c.tc : Thread Cert.StepDwIdeal.nD Cert.StepDwIdeal.τ).loc Cert.StepDwIdeal.main_arg2)
      ∧ r.2.mem ((c.tc : Thread Cert.StepDwIdeal.nD Cert.StepDwIdeal.τ).loc Cert.StepDwIdeal.main_arg3) = m ((c.tc : Thread Cert.StepDwIdeal.nD Cert.StepDwIdeal.τ).loc Cert.StepDwIdeal.main_arg3))
      ∧ r.2.sem = fun _ => 0)

def quiescent_StepDwReferenceIdeal [hStepDwReferenceIdeal : Cert.StepDwReferenceIdeal.Facts] : Prop :=
  ∀ (m : (ℓ : Loc Cert.StepDwReferenceIdeal.nD Cert.StepDwReferenceIdeal.τ Cert.StepDwReferenceIdeal.sig) → Buf (Elt Ideal) ℓ) (g : Dev Cert.StepDwReferenceIdeal.nD → PrngReg), Pre_StepDwReferenceIdeal m →
    θ_run (Cert.StepDwReferenceIdeal.defs (F := Ideal)) (onTc (τ := Cert.StepDwReferenceIdeal.τ) (Cert.StepDwReferenceIdeal.main (F := Ideal))) ⟨m, fun _ => 0, g⟩ (fun r => (∀ c : Dev Cert.StepDwReferenceIdeal.nD,
      r.2.mem ((c.tc : Thread Cert.StepDwReferenceIdeal.nD Cert.StepDwReferenceIdeal.τ).loc Cert.StepDwReferenceIdeal.main_arg0) = m ((c.tc : Thread Cert.StepDwReferenceIdeal.nD Cert.StepDwReferenceIdeal.τ).loc Cert.StepDwReferenceIdeal.main_arg0)
      ∧ r.2.mem ((c.tc : Thread Cert.StepDwReferenceIdeal.nD Cert.StepDwReferenceIdeal.τ).loc Cert.StepDwReferenceIdeal.main_arg1) = m ((c.tc : Thread Cert.StepDwReferenceIdeal.nD Cert.StepDwReferenceIdeal.τ).loc Cert.StepDwReferenceIdeal.main_arg1)
      ∧ r.2.mem ((c.tc : Thread Cert.StepDwReferenceIdeal.nD Cert.StepDwReferenceIdeal.τ).loc Cert.StepDwReferenceIdeal.main_arg2) = m ((c.tc : Thread Cert.StepDwReferenceIdeal.nD Cert.StepDwReferenceIdeal.τ).loc Cert.StepDwReferenceIdeal.main_arg2)
      ∧ r.2.mem ((c.tc : Thread Cert.StepDwReferenceIdeal.nD Cert.StepDwReferenceIdeal.τ).loc Cert.StepDwReferenceIdeal.main_arg3) = m ((c.tc : Thread Cert.StepDwReferenceIdeal.nD Cert.StepDwReferenceIdeal.τ).loc Cert.StepDwReferenceIdeal.main_arg3))
      ∧ r.2.sem = fun _ => 0)

def quiescent_FfnW [hFfnW : Cert.FfnW.Facts] : Prop :=
  ∀ (m : (ℓ : Loc Cert.FfnW.nD Cert.FfnW.τ Cert.FfnW.sig) → Buf (Elt Bits) ℓ) (g : Dev Cert.FfnW.nD → PrngReg), Pre_FfnW m →
    θ_run (Cert.FfnW.defs (F := Bits)) (onTc (τ := Cert.FfnW.τ) (Cert.FfnW.main (F := Bits))) ⟨m, fun _ => 0, g⟩ (fun r => (∀ c : Dev Cert.FfnW.nD,
      r.2.mem ((c.tc : Thread Cert.FfnW.nD Cert.FfnW.τ).loc Cert.FfnW.main_arg0) = m ((c.tc : Thread Cert.FfnW.nD Cert.FfnW.τ).loc Cert.FfnW.main_arg0)
      ∧ r.2.mem ((c.tc : Thread Cert.FfnW.nD Cert.FfnW.τ).loc Cert.FfnW.main_arg1) = m ((c.tc : Thread Cert.FfnW.nD Cert.FfnW.τ).loc Cert.FfnW.main_arg1)
      ∧ r.2.mem ((c.tc : Thread Cert.FfnW.nD Cert.FfnW.τ).loc Cert.FfnW.main_arg2) = m ((c.tc : Thread Cert.FfnW.nD Cert.FfnW.τ).loc Cert.FfnW.main_arg2)
      ∧ r.2.mem ((c.tc : Thread Cert.FfnW.nD Cert.FfnW.τ).loc Cert.FfnW.main_arg3) = m ((c.tc : Thread Cert.FfnW.nD Cert.FfnW.τ).loc Cert.FfnW.main_arg3)
      ∧ r.2.mem ((c.tc : Thread Cert.FfnW.nD Cert.FfnW.τ).loc Cert.FfnW.main_arg4) = m ((c.tc : Thread Cert.FfnW.nD Cert.FfnW.τ).loc Cert.FfnW.main_arg4))
      ∧ r.2.sem = fun _ => 0)

def quiescent_FfnWIdeal [hFfnWIdeal : Cert.FfnWIdeal.Facts] : Prop :=
  ∀ (m : (ℓ : Loc Cert.FfnWIdeal.nD Cert.FfnWIdeal.τ Cert.FfnWIdeal.sig) → Buf (Elt Ideal) ℓ) (g : Dev Cert.FfnWIdeal.nD → PrngReg), Pre_FfnWIdeal m →
    θ_run (Cert.FfnWIdeal.defs (F := Ideal)) (onTc (τ := Cert.FfnWIdeal.τ) (Cert.FfnWIdeal.main (F := Ideal))) ⟨m, fun _ => 0, g⟩ (fun r => (∀ c : Dev Cert.FfnWIdeal.nD,
      r.2.mem ((c.tc : Thread Cert.FfnWIdeal.nD Cert.FfnWIdeal.τ).loc Cert.FfnWIdeal.main_arg0) = m ((c.tc : Thread Cert.FfnWIdeal.nD Cert.FfnWIdeal.τ).loc Cert.FfnWIdeal.main_arg0)
      ∧ r.2.mem ((c.tc : Thread Cert.FfnWIdeal.nD Cert.FfnWIdeal.τ).loc Cert.FfnWIdeal.main_arg1) = m ((c.tc : Thread Cert.FfnWIdeal.nD Cert.FfnWIdeal.τ).loc Cert.FfnWIdeal.main_arg1)
      ∧ r.2.mem ((c.tc : Thread Cert.FfnWIdeal.nD Cert.FfnWIdeal.τ).loc Cert.FfnWIdeal.main_arg2) = m ((c.tc : Thread Cert.FfnWIdeal.nD Cert.FfnWIdeal.τ).loc Cert.FfnWIdeal.main_arg2)
      ∧ r.2.mem ((c.tc : Thread Cert.FfnWIdeal.nD Cert.FfnWIdeal.τ).loc Cert.FfnWIdeal.main_arg3) = m ((c.tc : Thread Cert.FfnWIdeal.nD Cert.FfnWIdeal.τ).loc Cert.FfnWIdeal.main_arg3)
      ∧ r.2.mem ((c.tc : Thread Cert.FfnWIdeal.nD Cert.FfnWIdeal.τ).loc Cert.FfnWIdeal.main_arg4) = m ((c.tc : Thread Cert.FfnWIdeal.nD Cert.FfnWIdeal.τ).loc Cert.FfnWIdeal.main_arg4))
      ∧ r.2.sem = fun _ => 0)

def quiescent_FfnWReferenceIdeal [hFfnWReferenceIdeal : Cert.FfnWReferenceIdeal.Facts] : Prop :=
  ∀ (m : (ℓ : Loc Cert.FfnWReferenceIdeal.nD Cert.FfnWReferenceIdeal.τ Cert.FfnWReferenceIdeal.sig) → Buf (Elt Ideal) ℓ) (g : Dev Cert.FfnWReferenceIdeal.nD → PrngReg), Pre_FfnWReferenceIdeal m →
    θ_run (Cert.FfnWReferenceIdeal.defs (F := Ideal)) (onTc (τ := Cert.FfnWReferenceIdeal.τ) (Cert.FfnWReferenceIdeal.main (F := Ideal))) ⟨m, fun _ => 0, g⟩ (fun r => (∀ c : Dev Cert.FfnWReferenceIdeal.nD,
      r.2.mem ((c.tc : Thread Cert.FfnWReferenceIdeal.nD Cert.FfnWReferenceIdeal.τ).loc Cert.FfnWReferenceIdeal.main_arg0) = m ((c.tc : Thread Cert.FfnWReferenceIdeal.nD Cert.FfnWReferenceIdeal.τ).loc Cert.FfnWReferenceIdeal.main_arg0)
      ∧ r.2.mem ((c.tc : Thread Cert.FfnWReferenceIdeal.nD Cert.FfnWReferenceIdeal.τ).loc Cert.FfnWReferenceIdeal.main_arg1) = m ((c.tc : Thread Cert.FfnWReferenceIdeal.nD Cert.FfnWReferenceIdeal.τ).loc Cert.FfnWReferenceIdeal.main_arg1)
      ∧ r.2.mem ((c.tc : Thread Cert.FfnWReferenceIdeal.nD Cert.FfnWReferenceIdeal.τ).loc Cert.FfnWReferenceIdeal.main_arg2) = m ((c.tc : Thread Cert.FfnWReferenceIdeal.nD Cert.FfnWReferenceIdeal.τ).loc Cert.FfnWReferenceIdeal.main_arg2)
      ∧ r.2.mem ((c.tc : Thread Cert.FfnWReferenceIdeal.nD Cert.FfnWReferenceIdeal.τ).loc Cert.FfnWReferenceIdeal.main_arg3) = m ((c.tc : Thread Cert.FfnWReferenceIdeal.nD Cert.FfnWReferenceIdeal.τ).loc Cert.FfnWReferenceIdeal.main_arg3)
      ∧ r.2.mem ((c.tc : Thread Cert.FfnWReferenceIdeal.nD Cert.FfnWReferenceIdeal.τ).loc Cert.FfnWReferenceIdeal.main_arg4) = m ((c.tc : Thread Cert.FfnWReferenceIdeal.nD Cert.FfnWReferenceIdeal.τ).loc Cert.FfnWReferenceIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3)
      ∧ r.2.mem ((c.tc : Thread Cert.OutBwd.nD Cert.OutBwd.τ).loc Cert.OutBwd.main_arg4) = m ((c.tc : Thread Cert.OutBwd.nD Cert.OutBwd.τ).loc Cert.OutBwd.main_arg4))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4))
      ∧ r.2.sem = fun _ => 0)

def quiescent_OutBwdReferenceIdeal [hOutBwdReferenceIdeal : Cert.OutBwdReferenceIdeal.Facts] : Prop :=
  ∀ (m : (ℓ : Loc Cert.OutBwdReferenceIdeal.nD Cert.OutBwdReferenceIdeal.τ Cert.OutBwdReferenceIdeal.sig) → Buf (Elt Ideal) ℓ) (g : Dev Cert.OutBwdReferenceIdeal.nD → PrngReg), Pre_OutBwdReferenceIdeal m →
    θ_run (Cert.OutBwdReferenceIdeal.defs (F := Ideal)) (onTc (τ := Cert.OutBwdReferenceIdeal.τ) (Cert.OutBwdReferenceIdeal.main (F := Ideal))) ⟨m, fun _ => 0, g⟩ (fun r => (∀ c : Dev Cert.OutBwdReferenceIdeal.nD,
      r.2.mem ((c.tc : Thread Cert.OutBwdReferenceIdeal.nD Cert.OutBwdReferenceIdeal.τ).loc Cert.OutBwdReferenceIdeal.main_arg0) = m ((c.tc : Thread Cert.OutBwdReferenceIdeal.nD Cert.OutBwdReferenceIdeal.τ).loc Cert.OutBwdReferenceIdeal.main_arg0)
      ∧ r.2.mem ((c.tc : Thread Cert.OutBwdReferenceIdeal.nD Cert.OutBwdReferenceIdeal.τ).loc Cert.OutBwdReferenceIdeal.main_arg1) = m ((c.tc : Thread Cert.OutBwdReferenceIdeal.nD Cert.OutBwdReferenceIdeal.τ).loc Cert.OutBwdReferenceIdeal.main_arg1)
      ∧ r.2.mem ((c.tc : Thread Cert.OutBwdReferenceIdeal.nD Cert.OutBwdReferenceIdeal.τ).loc Cert.OutBwdReferenceIdeal.main_arg2) = m ((c.tc : Thread Cert.OutBwdReferenceIdeal.nD Cert.OutBwdReferenceIdeal.τ).loc Cert.OutBwdReferenceIdeal.main_arg2)
      ∧ r.2.mem ((c.tc : Thread Cert.OutBwdReferenceIdeal.nD Cert.OutBwdReferenceIdeal.τ).loc Cert.OutBwdReferenceIdeal.main_arg3) = m ((c.tc : Thread Cert.OutBwdReferenceIdeal.nD Cert.OutBwdReferenceIdeal.τ).loc Cert.OutBwdReferenceIdeal.main_arg3)
      ∧ r.2.mem ((c.tc : Thread Cert.OutBwdReferenceIdeal.nD Cert.OutBwdReferenceIdeal.τ).loc Cert.OutBwdReferenceIdeal.main_arg4) = m ((c.tc : Thread Cert.OutBwdReferenceIdeal.nD Cert.OutBwdReferenceIdeal.τ).loc Cert.OutBwdReferenceIdeal.main_arg4))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1)
      ∧ r.2.mem ((c.tc : Thread Cert.MemKvReferenceIdeal.nD Cert.MemKvReferenceIdeal.τ).loc Cert.MemKvReferenceIdeal.main_arg2) = m ((c.tc : Thread Cert.MemKvReferenceIdeal.nD Cert.MemKvReferenceIdeal.τ).loc Cert.MemKvReferenceIdeal.main_arg2))
      ∧ r.2.sem = fun _ => 0)

def quiescent_KvBwd [hKvBwd : Cert.KvBwd.Facts] : Prop :=
  ∀ (m : (ℓ : Loc Cert.KvBwd.nD Cert.KvBwd.τ Cert.KvBwd.sig) → Buf (Elt Bits) ℓ) (g : Dev Cert.KvBwd.nD → PrngReg), Pre_KvBwd m →
    θ_run (Cert.KvBwd.defs (F := Bits)) (onTc (τ := Cert.KvBwd.τ) (Cert.KvBwd.main (F := Bits))) ⟨m, fun _ => 0, g⟩ (fun r => (∀ c : Dev Cert.KvBwd.nD,
      r.2.mem ((c.tc : Thread Cert.KvBwd.nD Cert.KvBwd.τ).loc Cert.KvBwd.main_arg0) = m ((c.tc : Thread Cert.KvBwd.nD Cert.KvBwd.τ).loc Cert.KvBwd.main_arg0)
      ∧ r.2.mem ((c.tc : Thread Cert.KvBwd.nD Cert.KvBwd.τ).loc Cert.KvBwd.main_arg1) = m ((c.tc : Thread Cert.KvBwd.nD Cert.KvBwd.τ).loc Cert.KvBwd.main_arg1)
      ∧ r.2.mem ((c.tc : Thread Cert.KvBwd.nD Cert.KvBwd.τ).loc Cert.KvBwd.main_arg2) = m ((c.tc : Thread Cert.KvBwd.nD Cert.KvBwd.τ).loc Cert.KvBwd.main_arg2)
      ∧ r.2.mem ((c.tc : Thread Cert.KvBwd.nD Cert.KvBwd.τ).loc Cert.KvBwd.main_arg3) = m ((c.tc : Thread Cert.KvBwd.nD Cert.KvBwd.τ).loc Cert.KvBwd.main_arg3)
      ∧ r.2.mem ((c.tc : Thread Cert.KvBwd.nD Cert.KvBwd.τ).loc Cert.KvBwd.main_arg4) = m ((c.tc : Thread Cert.KvBwd.nD Cert.KvBwd.τ).loc Cert.KvBwd.main_arg4))
      ∧ r.2.sem = fun _ => 0)

def quiescent_KvBwdIdeal [hKvBwdIdeal : Cert.KvBwdIdeal.Facts] : Prop :=
  ∀ (m : (ℓ : Loc Cert.KvBwdIdeal.nD Cert.KvBwdIdeal.τ Cert.KvBwdIdeal.sig) → Buf (Elt Ideal) ℓ) (g : Dev Cert.KvBwdIdeal.nD → PrngReg), Pre_KvBwdIdeal m →
    θ_run (Cert.KvBwdIdeal.defs (F := Ideal)) (onTc (τ := Cert.KvBwdIdeal.τ) (Cert.KvBwdIdeal.main (F := Ideal))) ⟨m, fun _ => 0, g⟩ (fun r => (∀ c : Dev Cert.KvBwdIdeal.nD,
      r.2.mem ((c.tc : Thread Cert.KvBwdIdeal.nD Cert.KvBwdIdeal.τ).loc Cert.KvBwdIdeal.main_arg0) = m ((c.tc : Thread Cert.KvBwdIdeal.nD Cert.KvBwdIdeal.τ).loc Cert.KvBwdIdeal.main_arg0)
      ∧ r.2.mem ((c.tc : Thread Cert.KvBwdIdeal.nD Cert.KvBwdIdeal.τ).loc Cert.KvBwdIdeal.main_arg1) = m ((c.tc : Thread Cert.KvBwdIdeal.nD Cert.KvBwdIdeal.τ).loc Cert.KvBwdIdeal.main_arg1)
      ∧ r.2.mem ((c.tc : Thread Cert.KvBwdIdeal.nD Cert.KvBwdIdeal.τ).loc Cert.KvBwdIdeal.main_arg2) = m ((c.tc : Thread Cert.KvBwdIdeal.nD Cert.KvBwdIdeal.τ).loc Cert.KvBwdIdeal.main_arg2)
      ∧ r.2.mem ((c.tc : Thread Cert.KvBwdIdeal.nD Cert.KvBwdIdeal.τ).loc Cert.KvBwdIdeal.main_arg3) = m ((c.tc : Thread Cert.KvBwdIdeal.nD Cert.KvBwdIdeal.τ).loc Cert.KvBwdIdeal.main_arg3)
      ∧ r.2.mem ((c.tc : Thread Cert.KvBwdIdeal.nD Cert.KvBwdIdeal.τ).loc Cert.KvBwdIdeal.main_arg4) = m ((c.tc : Thread Cert.KvBwdIdeal.nD Cert.KvBwdIdeal.τ).loc Cert.KvBwdIdeal.main_arg4))
      ∧ r.2.sem = fun _ => 0)

def quiescent_KvBwdReferenceIdeal [hKvBwdReferenceIdeal : Cert.KvBwdReferenceIdeal.Facts] : Prop :=
  ∀ (m : (ℓ : Loc Cert.KvBwdReferenceIdeal.nD Cert.KvBwdReferenceIdeal.τ Cert.KvBwdReferenceIdeal.sig) → Buf (Elt Ideal) ℓ) (g : Dev Cert.KvBwdReferenceIdeal.nD → PrngReg), Pre_KvBwdReferenceIdeal m →
    θ_run (Cert.KvBwdReferenceIdeal.defs (F := Ideal)) (onTc (τ := Cert.KvBwdReferenceIdeal.τ) (Cert.KvBwdReferenceIdeal.main (F := Ideal))) ⟨m, fun _ => 0, g⟩ (fun r => (∀ c : Dev Cert.KvBwdReferenceIdeal.nD,
      r.2.mem ((c.tc : Thread Cert.KvBwdReferenceIdeal.nD Cert.KvBwdReferenceIdeal.τ).loc Cert.KvBwdReferenceIdeal.main_arg0) = m ((c.tc : Thread Cert.KvBwdReferenceIdeal.nD Cert.KvBwdReferenceIdeal.τ).loc Cert.KvBwdReferenceIdeal.main_arg0)
      ∧ r.2.mem ((c.tc : Thread Cert.KvBwdReferenceIdeal.nD Cert.KvBwdReferenceIdeal.τ).loc Cert.KvBwdReferenceIdeal.main_arg1) = m ((c.tc : Thread Cert.KvBwdReferenceIdeal.nD Cert.KvBwdReferenceIdeal.τ).loc Cert.KvBwdReferenceIdeal.main_arg1)
      ∧ r.2.mem ((c.tc : Thread Cert.KvBwdReferenceIdeal.nD Cert.KvBwdReferenceIdeal.τ).loc Cert.KvBwdReferenceIdeal.main_arg2) = m ((c.tc : Thread Cert.KvBwdReferenceIdeal.nD Cert.KvBwdReferenceIdeal.τ).loc Cert.KvBwdReferenceIdeal.main_arg2)
      ∧ r.2.mem ((c.tc : Thread Cert.KvBwdReferenceIdeal.nD Cert.KvBwdReferenceIdeal.τ).loc Cert.KvBwdReferenceIdeal.main_arg3) = m ((c.tc : Thread Cert.KvBwdReferenceIdeal.nD Cert.KvBwdReferenceIdeal.τ).loc Cert.KvBwdReferenceIdeal.main_arg3)
      ∧ r.2.mem ((c.tc : Thread Cert.KvBwdReferenceIdeal.nD Cert.KvBwdReferenceIdeal.τ).loc Cert.KvBwdReferenceIdeal.main_arg4) = m ((c.tc : Thread Cert.KvBwdReferenceIdeal.nD Cert.KvBwdReferenceIdeal.τ).loc Cert.KvBwdReferenceIdeal.main_arg4))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6)
      ∧ r.2.mem ((c.tc : Thread Cert.InBwd.nD Cert.InBwd.τ).loc Cert.InBwd.main_arg7) = m ((c.tc : Thread Cert.InBwd.nD Cert.InBwd.τ).loc Cert.InBwd.main_arg7)
      ∧ r.2.mem ((c.tc : Thread Cert.InBwd.nD Cert.InBwd.τ).loc Cert.InBwd.main_arg8) = m ((c.tc : Thread Cert.InBwd.nD Cert.InBwd.τ).loc Cert.InBwd.main_arg8)
      ∧ r.2.mem ((c.tc : Thread Cert.InBwd.nD Cert.InBwd.τ).loc Cert.InBwd.main_arg9) = m ((c.tc : Thread Cert.InBwd.nD Cert.InBwd.τ).loc Cert.InBwd.main_arg9))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
      ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
      ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9))
      ∧ r.2.sem = fun _ => 0)

def quiescent_InBwdReferenceIdeal [hInBwdReferenceIdeal : Cert.InBwdReferenceIdeal.Facts] : Prop :=
  ∀ (m : (ℓ : Loc Cert.InBwdReferenceIdeal.nD Cert.InBwdReferenceIdeal.τ Cert.InBwdReferenceIdeal.sig) → Buf (Elt Ideal) ℓ) (g : Dev Cert.InBwdReferenceIdeal.nD → PrngReg), Pre_InBwdReferenceIdeal m →
    θ_run (Cert.InBwdReferenceIdeal.defs (F := Ideal)) (onTc (τ := Cert.InBwdReferenceIdeal.τ) (Cert.InBwdReferenceIdeal.main (F := Ideal))) ⟨m, fun _ => 0, g⟩ (fun r => (∀ c : Dev Cert.InBwdReferenceIdeal.nD,
      r.2.mem ((c.tc : Thread Cert.InBwdReferenceIdeal.nD Cert.InBwdReferenceIdeal.τ).loc Cert.InBwdReferenceIdeal.main_arg0) = m ((c.tc : Thread Cert.InBwdReferenceIdeal.nD Cert.InBwdReferenceIdeal.τ).loc Cert.InBwdReferenceIdeal.main_arg0)
      ∧ r.2.mem ((c.tc : Thread Cert.InBwdReferenceIdeal.nD Cert.InBwdReferenceIdeal.τ).loc Cert.InBwdReferenceIdeal.main_arg1) = m ((c.tc : Thread Cert.InBwdReferenceIdeal.nD Cert.InBwdReferenceIdeal.τ).loc Cert.InBwdReferenceIdeal.main_arg1)
      ∧ r.2.mem ((c.tc : Thread Cert.InBwdReferenceIdeal.nD Cert.InBwdReferenceIdeal.τ).loc Cert.InBwdReferenceIdeal.main_arg2) = m ((c.tc : Thread Cert.InBwdReferenceIdeal.nD Cert.InBwdReferenceIdeal.τ).loc Cert.InBwdReferenceIdeal.main_arg2)
      ∧ r.2.mem ((c.tc : Thread Cert.InBwdReferenceIdeal.nD Cert.InBwdReferenceIdeal.τ).loc Cert.InBwdReferenceIdeal.main_arg3) = m ((c.tc : Thread Cert.InBwdReferenceIdeal.nD Cert.InBwdReferenceIdeal.τ).loc Cert.InBwdReferenceIdeal.main_arg3)
      ∧ r.2.mem ((c.tc : Thread Cert.InBwdReferenceIdeal.nD Cert.InBwdReferenceIdeal.τ).loc Cert.InBwdReferenceIdeal.main_arg4) = m ((c.tc : Thread Cert.InBwdReferenceIdeal.nD Cert.InBwdReferenceIdeal.τ).loc Cert.InBwdReferenceIdeal.main_arg4)
      ∧ r.2.mem ((c.tc : Thread Cert.InBwdReferenceIdeal.nD Cert.InBwdReferenceIdeal.τ).loc Cert.InBwdReferenceIdeal.main_arg5) = m ((c.tc : Thread Cert.InBwdReferenceIdeal.nD Cert.InBwdReferenceIdeal.τ).loc Cert.InBwdReferenceIdeal.main_arg5)
      ∧ r.2.mem ((c.tc : Thread Cert.InBwdReferenceIdeal.nD Cert.InBwdReferenceIdeal.τ).loc Cert.InBwdReferenceIdeal.main_arg6) = m ((c.tc : Thread Cert.InBwdReferenceIdeal.nD Cert.InBwdReferenceIdeal.τ).loc Cert.InBwdReferenceIdeal.main_arg6)
      ∧ r.2.mem ((c.tc : Thread Cert.InBwdReferenceIdeal.nD Cert.InBwdReferenceIdeal.τ).loc Cert.InBwdReferenceIdeal.main_arg7) = m ((c.tc : Thread Cert.InBwdReferenceIdeal.nD Cert.InBwdReferenceIdeal.τ).loc Cert.InBwdReferenceIdeal.main_arg7)
      ∧ r.2.mem ((c.tc : Thread Cert.InBwdReferenceIdeal.nD Cert.InBwdReferenceIdeal.τ).loc Cert.InBwdReferenceIdeal.main_arg8) = m ((c.tc : Thread Cert.InBwdReferenceIdeal.nD Cert.InBwdReferenceIdeal.τ).loc Cert.InBwdReferenceIdeal.main_arg8)
      ∧ r.2.mem ((c.tc : Thread Cert.InBwdReferenceIdeal.nD Cert.InBwdReferenceIdeal.τ).loc Cert.InBwdReferenceIdeal.main_arg9) = m ((c.tc : Thread Cert.InBwdReferenceIdeal.nD Cert.InBwdReferenceIdeal.τ).loc Cert.InBwdReferenceIdeal.main_arg9))
      ∧ r.2.sem = fun _ => 0)

def quiescent_ActBwd [hActBwd : Cert.ActBwd.Facts] : Prop :=
  ∀ (m : (ℓ : Loc Cert.ActBwd.nD Cert.ActBwd.τ Cert.ActBwd.sig) → Buf (Elt Bits) ℓ) (g : Dev Cert.ActBwd.nD → PrngReg), Pre_ActBwd m →
    θ_run (Cert.ActBwd.defs (F := Bits)) (onTc (τ := Cert.ActBwd.τ) (Cert.ActBwd.main (F := Bits))) ⟨m, fun _ => 0, g⟩ (fun r => (∀ c : Dev Cert.ActBwd.nD,
      r.2.mem ((c.tc : Thread Cert.ActBwd.nD Cert.ActBwd.τ).loc Cert.ActBwd.main_arg0) = m ((c.tc : Thread Cert.ActBwd.nD Cert.ActBwd.τ).loc Cert.ActBwd.main_arg0)
      ∧ r.2.mem ((c.tc : Thread Cert.ActBwd.nD Cert.ActBwd.τ).loc Cert.ActBwd.main_arg1) = m ((c.tc : Thread Cert.ActBwd.nD Cert.ActBwd.τ).loc Cert.ActBwd.main_arg1)
      ∧ r.2.mem ((c.tc : Thread Cert.ActBwd.nD Cert.ActBwd.τ).loc Cert.ActBwd.main_arg2) = m ((c.tc : Thread Cert.ActBwd.nD Cert.ActBwd.τ).loc Cert.ActBwd.main_arg2)
      ∧ r.2.mem ((c.tc : Thread Cert.ActBwd.nD Cert.ActBwd.τ).loc Cert.ActBwd.main_arg3) = m ((c.tc : Thread Cert.ActBwd.nD Cert.ActBwd.τ).loc Cert.ActBwd.main_arg3)
      ∧ r.2.mem ((c.tc : Thread Cert.ActBwd.nD Cert.ActBwd.τ).loc Cert.ActBwd.main_arg4) = m ((c.tc : Thread Cert.ActBwd.nD Cert.ActBwd.τ).loc Cert.ActBwd.main_arg4)
      ∧ r.2.mem ((c.tc : Thread Cert.ActBwd.nD Cert.ActBwd.τ).loc Cert.ActBwd.main_arg5) = m ((c.tc : Thread Cert.ActBwd.nD Cert.ActBwd.τ).loc Cert.ActBwd.main_arg5)
      ∧ r.2.mem ((c.tc : Thread Cert.ActBwd.nD Cert.ActBwd.τ).loc Cert.ActBwd.main_arg6) = m ((c.tc : Thread Cert.ActBwd.nD Cert.ActBwd.τ).loc Cert.ActBwd.main_arg6)
      ∧ r.2.mem ((c.tc : Thread Cert.ActBwd.nD Cert.ActBwd.τ).loc Cert.ActBwd.main_arg7) = m ((c.tc : Thread Cert.ActBwd.nD Cert.ActBwd.τ).loc Cert.ActBwd.main_arg7))
      ∧ r.2.sem = fun _ => 0)

def quiescent_ActBwdIdeal [hActBwdIdeal : Cert.ActBwdIdeal.Facts] : Prop :=
  ∀ (m : (ℓ : Loc Cert.ActBwdIdeal.nD Cert.ActBwdIdeal.τ Cert.ActBwdIdeal.sig) → Buf (Elt Ideal) ℓ) (g : Dev Cert.ActBwdIdeal.nD → PrngReg), Pre_ActBwdIdeal m →
    θ_run (Cert.ActBwdIdeal.defs (F := Ideal)) (onTc (τ := Cert.ActBwdIdeal.τ) (Cert.ActBwdIdeal.main (F := Ideal))) ⟨m, fun _ => 0, g⟩ (fun r => (∀ c : Dev Cert.ActBwdIdeal.nD,
      r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
      ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1)
      ∧ r.2.mem ((c.tc : Thread Cert.ActBwdIdeal.nD Cert.ActBwdIdeal.τ).loc Cert.ActBwdIdeal.main_arg2) = m ((c.tc : Thread Cert.ActBwdIdeal.nD Cert.ActBwdIdeal.τ).loc Cert.ActBwdIdeal.main_arg2)
      ∧ r.2.mem ((c.tc : Thread Cert.ActBwdIdeal.nD Cert.ActBwdIdeal.τ).loc Cert.ActBwdIdeal.main_arg3) = m ((c.tc : Thread Cert.ActBwdIdeal.nD Cert.ActBwdIdeal.τ).loc Cert.ActBwdIdeal.main_arg3)
      ∧ r.2.mem ((c.tc : Thread Cert.ActBwdIdeal.nD Cert.ActBwdIdeal.τ).loc Cert.ActBwdIdeal.main_arg4) = m ((c.tc : Thread Cert.ActBwdIdeal.nD Cert.ActBwdIdeal.τ).loc Cert.ActBwdIdeal.main_arg4)
      ∧ r.2.mem ((c.tc : Thread Cert.ActBwdIdeal.nD Cert.ActBwdIdeal.τ).loc Cert.ActBwdIdeal.main_arg5) = m ((c.tc : Thread Cert.ActBwdIdeal.nD Cert.ActBwdIdeal.τ).loc Cert.ActBwdIdeal.main_arg5)
      ∧ r.2.mem ((c.tc : Thread Cert.ActBwdIdeal.nD Cert.ActBwdIdeal.τ).loc Cert.ActBwdIdeal.main_arg6) = m ((c.tc : Thread Cert.ActBwdIdeal.nD Cert.ActBwdIdeal.τ).loc Cert.ActBwdIdeal.main_arg6)
      ∧ r.2.mem ((c.tc : Thread Cert.ActBwdIdeal.nD Cert.ActBwdIdeal.τ).loc Cert.ActBwdIdeal.main_arg7) = m ((c.tc : Thread Cert.ActBwdIdeal.nD Cert.ActBwdIdeal.τ).loc Cert.ActBwdIdeal.main_arg7))
      ∧ r.2.sem = fun _ => 0)

def quiescent_ActBwdReferenceIdeal [hActBwdReferenceIdeal : Cert.ActBwdReferenceIdeal.Facts] : Prop :=
  ∀ (m : (ℓ : Loc Cert.ActBwdReferenceIdeal.nD Cert.ActBwdReferenceIdeal.τ Cert.ActBwdReferenceIdeal.sig) → Buf (Elt Ideal) ℓ) (g : Dev Cert.ActBwdReferenceIdeal.nD → PrngReg), Pre_ActBwdReferenceIdeal m →
    θ_run (Cert.ActBwdReferenceIdeal.defs (F := Ideal)) (onTc (τ := Cert.ActBwdReferenceIdeal.τ) (Cert.ActBwdReferenceIdeal.main (F := Ideal))) ⟨m, fun _ => 0, g⟩ (fun r => (∀ c : Dev Cert.ActBwdReferenceIdeal.nD,
      r.2.mem ((c.tc : Thread Cert.ActBwdReferenceIdeal.nD Cert.ActBwdReferenceIdeal.τ).loc Cert.ActBwdReferenceIdeal.main_arg0) = m ((c.tc : Thread Cert.ActBwdReferenceIdeal.nD Cert.ActBwdReferenceIdeal.τ).loc Cert.ActBwdReferenceIdeal.main_arg0)
      ∧ r.2.mem ((c.tc : Thread Cert.ActBwdReferenceIdeal.nD Cert.ActBwdReferenceIdeal.τ).loc Cert.ActBwdReferenceIdeal.main_arg1) = m ((c.tc : Thread Cert.ActBwdReferenceIdeal.nD Cert.ActBwdReferenceIdeal.τ).loc Cert.ActBwdReferenceIdeal.main_arg1)
      ∧ r.2.mem ((c.tc : Thread Cert.ActBwdReferenceIdeal.nD Cert.ActBwdReferenceIdeal.τ).loc Cert.ActBwdReferenceIdeal.main_arg2) = m ((c.tc : Thread Cert.ActBwdReferenceIdeal.nD Cert.ActBwdReferenceIdeal.τ).loc Cert.ActBwdReferenceIdeal.main_arg2)
      ∧ r.2.mem ((c.tc : Thread Cert.ActBwdReferenceIdeal.nD Cert.ActBwdReferenceIdeal.τ).loc Cert.ActBwdReferenceIdeal.main_arg3) = m ((c.tc : Thread Cert.ActBwdReferenceIdeal.nD Cert.ActBwdReferenceIdeal.τ).loc Cert.ActBwdReferenceIdeal.main_arg3)
      ∧ r.2.mem ((c.tc : Thread Cert.ActBwdReferenceIdeal.nD Cert.ActBwdReferenceIdeal.τ).loc Cert.ActBwdReferenceIdeal.main_arg4) = m ((c.tc : Thread Cert.ActBwdReferenceIdeal.nD Cert.ActBwdReferenceIdeal.τ).loc Cert.ActBwdReferenceIdeal.main_arg4)
      ∧ r.2.mem ((c.tc : Thread Cert.ActBwdReferenceIdeal.nD Cert.ActBwdReferenceIdeal.τ).loc Cert.ActBwdReferenceIdeal.main_arg5) = m ((c.tc : Thread Cert.ActBwdReferenceIdeal.nD Cert.ActBwdReferenceIdeal.τ).loc Cert.ActBwdReferenceIdeal.main_arg5)
      ∧ r.2.mem ((c.tc : Thread Cert.ActBwdReferenceIdeal.nD Cert.ActBwdReferenceIdeal.τ).loc Cert.ActBwdReferenceIdeal.main_arg6) = m ((c.tc : Thread Cert.ActBwdReferenceIdeal.nD Cert.ActBwdReferenceIdeal.τ).loc Cert.ActBwdReferenceIdeal.main_arg6)
      ∧ r.2.mem ((c.tc : Thread Cert.ActBwdReferenceIdeal.nD Cert.ActBwdReferenceIdeal.τ).loc Cert.ActBwdReferenceIdeal.main_arg7) = m ((c.tc : Thread Cert.ActBwdReferenceIdeal.nD Cert.ActBwdReferenceIdeal.τ).loc Cert.ActBwdReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![352, 1024]⟩ ⟨2, ![2816, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![352, 1024]⟩ ⟨2, ![2816, 1024]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![352, 1024]⟩ ⟨2, ![2816, 1024]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v0)) (v1 : Buf (Elt Ideal) (((0 : Dev Cert.ReferenceIdeal.nD).tc : Thread Cert.ReferenceIdeal.nD Cert.ReferenceIdeal.τ).loc Cert.ReferenceIdeal.main_v1)) (v2 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_v1_1) = v1
          ∧ r.2.mem ((c.tc : Thread Cert.KernelIdeal.nD Cert.KernelIdeal.τ).loc Cert.KernelIdeal.main_v1_2) = v2
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_v1) = v1
          ∧ r.2.mem (((0 : Dev Cert.ReferenceIdeal.nD).tc : Thread Cert.ReferenceIdeal.nD Cert.ReferenceIdeal.τ).loc Cert.ReferenceIdeal.main_v2) = v2
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨2, ![352, 1024]⟩ ⟨2, ![2816, 1024]⟩ 0 8 c (m' (((0 : Dev Cert.Reference.nD).tc : Thread Cert.Reference.nD Cert.Reference.τ).loc Cert.Reference.main_arg0))
      ∧ m ((c.tc : Thread Cert.Kernel.nD Cert.Kernel.τ).loc Cert.Kernel.main_arg1) = Layout.block ⟨2, ![352, 1024]⟩ ⟨2, ![2816, 1024]⟩ 0 8 c (m' (((0 : Dev Cert.Reference.nD).tc : Thread Cert.Reference.nD Cert.Reference.τ).loc Cert.Reference.main_arg1))
      ∧ m ((c.tc : Thread Cert.Kernel.nD Cert.Kernel.τ).loc Cert.Kernel.main_arg2) = Layout.block ⟨2, ![352, 1024]⟩ ⟨2, ![2816, 1024]⟩ 0 8 c (m' (((0 : Dev Cert.Reference.nD).tc : Thread Cert.Reference.nD Cert.Reference.τ).loc Cert.Reference.main_arg2))) →
    ∃ (v0 : Buf (Elt Bits) (((0 : Dev Cert.Reference.nD).tc : Thread Cert.Reference.nD Cert.Reference.τ).loc Cert.Reference.main_v0)) (v1 : Buf (Elt Bits) (((0 : Dev Cert.Reference.nD).tc : Thread Cert.Reference.nD Cert.Reference.τ).loc Cert.Reference.main_v1)) (v2 : Buf (Elt Bits) (((0 : Dev Cert.Reference.nD).tc : Thread Cert.Reference.nD Cert.Reference.τ).loc Cert.Reference.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1_0) = v0
          ∧ r.2.mem ((c.tc : Thread Cert.Kernel.nD Cert.Kernel.τ).loc Cert.Kernel.main_v1_1) = v1
          ∧ r.2.mem ((c.tc : Thread Cert.Kernel.nD Cert.Kernel.τ).loc Cert.Kernel.main_v1_2) = v2
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v0) = v0
          ∧ r.2.mem (((0 : Dev Cert.Reference.nD).tc : Thread Cert.Reference.nD Cert.Reference.τ).loc Cert.Reference.main_v1) = v1
          ∧ r.2.mem (((0 : Dev Cert.Reference.nD).tc : Thread Cert.Reference.nD Cert.Reference.τ).loc Cert.Reference.main_v2) = v2
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1)
          ∧ r.2.mem (((0 : Dev Cert.Reference.nD).tc : Thread Cert.Reference.nD Cert.Reference.τ).loc Cert.Reference.main_arg2) = m' (((0 : Dev Cert.Reference.nD).tc : Thread Cert.Reference.nD Cert.Reference.τ).loc Cert.Reference.main_arg2))

def preserves_Update_UpdateIdeal : Prop :=
  True

def algebraic_UpdateIdeal_UpdateReferenceIdeal [hUpdateIdeal : Cert.UpdateIdeal.Facts] [hUpdateReferenceIdeal : Cert.UpdateReferenceIdeal.Facts] : Prop :=
  ∀ (m : (ℓ : Loc Cert.UpdateIdeal.nD Cert.UpdateIdeal.τ Cert.UpdateIdeal.sig) → Buf (Elt Ideal) ℓ) (g : Dev Cert.UpdateIdeal.nD → PrngReg)
    (m' : (ℓ : Loc Cert.UpdateReferenceIdeal.nD Cert.UpdateReferenceIdeal.τ Cert.UpdateReferenceIdeal.sig) → Buf (Elt Ideal) ℓ) (g' : Dev Cert.UpdateReferenceIdeal.nD → PrngReg), Pre_UpdateIdeal m →
    (∀ c : Dev Cert.UpdateIdeal.nD,
      m' ((c.tc : Thread Cert.UpdateReferenceIdeal.nD Cert.UpdateReferenceIdeal.τ).loc Cert.UpdateReferenceIdeal.main_arg0) = m ((c.tc : Thread Cert.UpdateIdeal.nD Cert.UpdateIdeal.τ).loc Cert.UpdateIdeal.main_arg0)
      ∧ m' ((c.tc : Thread Cert.UpdateReferenceIdeal.nD Cert.UpdateReferenceIdeal.τ).loc Cert.UpdateReferenceIdeal.main_arg1) = m ((c.tc : Thread Cert.UpdateIdeal.nD Cert.UpdateIdeal.τ).loc Cert.UpdateIdeal.main_arg1)
      ∧ m' ((c.tc : Thread Cert.UpdateReferenceIdeal.nD Cert.UpdateReferenceIdeal.τ).loc Cert.UpdateReferenceIdeal.main_arg2) = m ((c.tc : Thread Cert.UpdateIdeal.nD Cert.UpdateIdeal.τ).loc Cert.UpdateIdeal.main_arg2)
      ∧ m' ((c.tc : Thread Cert.UpdateReferenceIdeal.nD Cert.UpdateReferenceIdeal.τ).loc Cert.UpdateReferenceIdeal.main_arg3) = m ((c.tc : Thread Cert.UpdateIdeal.nD Cert.UpdateIdeal.τ).loc Cert.UpdateIdeal.main_arg3)) →
    ∃ (v0 : (c : Dev Cert.UpdateIdeal.nD) → Buf (Elt Ideal) ((c.tc : Thread Cert.UpdateIdeal.nD Cert.UpdateIdeal.τ).loc Cert.UpdateIdeal.main_v0_0)) (v1 : (c : Dev Cert.UpdateIdeal.nD) → Buf (Elt Ideal) ((c.tc : Thread Cert.UpdateIdeal.nD Cert.UpdateIdeal.τ).loc Cert.UpdateIdeal.main_v0_1)) (v2 : (c : Dev Cert.UpdateIdeal.nD) → Buf (Elt Ideal) ((c.tc : Thread Cert.UpdateIdeal.nD Cert.UpdateIdeal.τ).loc Cert.UpdateIdeal.main_v0_2)) (v3 : (c : Dev Cert.UpdateIdeal.nD) → Buf (Elt Ideal) ((c.tc : Thread Cert.UpdateIdeal.nD Cert.UpdateIdeal.τ).loc Cert.UpdateIdeal.main_v0_3)),
      θ_run (Cert.UpdateIdeal.defs (F := Ideal)) (onTc (τ := Cert.UpdateIdeal.τ) (Cert.UpdateIdeal.main (F := Ideal))) ⟨m, fun _ => 0, g⟩ (fun r => ∀ c : Dev Cert.UpdateIdeal.nD,
          r.2.mem ((c.tc : Thread Cert.UpdateIdeal.nD Cert.UpdateIdeal.τ).loc Cert.UpdateIdeal.main_v0_0) = v0 c
          ∧ r.2.mem ((c.tc : Thread Cert.UpdateIdeal.nD Cert.UpdateIdeal.τ).loc Cert.UpdateIdeal.main_v0_1) = v1 c
          ∧ r.2.mem ((c.tc : Thread Cert.UpdateIdeal.nD Cert.UpdateIdeal.τ).loc Cert.UpdateIdeal.main_v0_2) = v2 c
          ∧ r.2.mem ((c.tc : Thread Cert.UpdateIdeal.nD Cert.UpdateIdeal.τ).loc Cert.UpdateIdeal.main_v0_3) = v3 c
          ∧ r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
          ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
          ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
          ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3))
      ∧ θ_run (Cert.UpdateReferenceIdeal.defs (F := Ideal)) (onTc (τ := Cert.UpdateReferenceIdeal.τ) (Cert.UpdateReferenceIdeal.main (F := Ideal))) ⟨m', fun _ => 0, g'⟩ (fun r => ∀ c : Dev Cert.UpdateReferenceIdeal.nD,
          r.2.mem ((c.tc : Thread Cert.UpdateReferenceIdeal.nD Cert.UpdateReferenceIdeal.τ).loc Cert.UpdateReferenceIdeal.main_v1) = v0 c
          ∧ r.2.mem ((c.tc : Thread Cert.UpdateReferenceIdeal.nD Cert.UpdateReferenceIdeal.τ).loc Cert.UpdateReferenceIdeal.main_v25) = v1 c
          ∧ r.2.mem ((c.tc : Thread Cert.UpdateReferenceIdeal.nD Cert.UpdateReferenceIdeal.τ).loc Cert.UpdateReferenceIdeal.main_v6) = v2 c
          ∧ r.2.mem ((c.tc : Thread Cert.UpdateReferenceIdeal.nD Cert.UpdateReferenceIdeal.τ).loc Cert.UpdateReferenceIdeal.main_v12) = v3 c
          ∧ r.2.mem ((c.tc : Thread Cert.UpdateReferenceIdeal.nD Cert.UpdateReferenceIdeal.τ).loc Cert.UpdateReferenceIdeal.main_arg0) = m' ((c.tc : Thread Cert.UpdateReferenceIdeal.nD Cert.UpdateReferenceIdeal.τ).loc Cert.UpdateReferenceIdeal.main_arg0)
          ∧ r.2.mem ((c.tc : Thread Cert.UpdateReferenceIdeal.nD Cert.UpdateReferenceIdeal.τ).loc Cert.UpdateReferenceIdeal.main_arg1) = m' ((c.tc : Thread Cert.UpdateReferenceIdeal.nD Cert.UpdateReferenceIdeal.τ).loc Cert.UpdateReferenceIdeal.main_arg1)
          ∧ r.2.mem ((c.tc : Thread Cert.UpdateReferenceIdeal.nD Cert.UpdateReferenceIdeal.τ).loc Cert.UpdateReferenceIdeal.main_arg2) = m' ((c.tc : Thread Cert.UpdateReferenceIdeal.nD Cert.UpdateReferenceIdeal.τ).loc Cert.UpdateReferenceIdeal.main_arg2)
          ∧ r.2.mem ((c.tc : Thread Cert.UpdateReferenceIdeal.nD Cert.UpdateReferenceIdeal.τ).loc Cert.UpdateReferenceIdeal.main_arg3) = m' ((c.tc : Thread Cert.UpdateReferenceIdeal.nD Cert.UpdateReferenceIdeal.τ).loc Cert.UpdateReferenceIdeal.main_arg3))

def preserves_Scatter_ScatterIdeal : Prop :=
  True

def algebraic_ScatterIdeal_ScatterReferenceIdeal [hScatterIdeal : Cert.ScatterIdeal.Facts] [hScatterReferenceIdeal : Cert.ScatterReferenceIdeal.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterReferenceIdeal.nD Cert.ScatterReferenceIdeal.τ Cert.ScatterReferenceIdeal.sig) → Buf (Elt Ideal) ℓ) (g' : Dev Cert.ScatterReferenceIdeal.nD → PrngReg), Pre_ScatterIdeal m →
    (∀ c : Dev Cert.ScatterIdeal.nD,
      m ((c.tc : Thread Cert.ScatterIdeal.nD Cert.ScatterIdeal.τ).loc Cert.ScatterIdeal.main_arg0) = Layout.block ⟨2, ![16, 1024]⟩ ⟨2, ![128, 1024]⟩ 0 8 c (m' (((0 : Dev Cert.ScatterReferenceIdeal.nD).tc : Thread Cert.ScatterReferenceIdeal.nD Cert.ScatterReferenceIdeal.τ).loc Cert.ScatterReferenceIdeal.main_arg0))
      ∧ m ((c.tc : Thread Cert.ScatterIdeal.nD Cert.ScatterIdeal.τ).loc Cert.ScatterIdeal.main_arg1) = Layout.block ⟨3, ![8, 1024, 352]⟩ ⟨3, ![64, 1024, 352]⟩ 0 8 c (m' (((0 : Dev Cert.ScatterReferenceIdeal.nD).tc : Thread Cert.ScatterReferenceIdeal.nD Cert.ScatterReferenceIdeal.τ).loc Cert.ScatterReferenceIdeal.main_arg1))
      ∧ m ((c.tc : Thread Cert.ScatterIdeal.nD Cert.ScatterIdeal.τ).loc Cert.ScatterIdeal.main_arg2) = Layout.block ⟨3, ![8, 1024, 352]⟩ ⟨3, ![64, 1024, 352]⟩ 0 8 c (m' (((0 : Dev Cert.ScatterReferenceIdeal.nD).tc : Thread Cert.ScatterReferenceIdeal.nD Cert.ScatterReferenceIdeal.τ).loc Cert.ScatterReferenceIdeal.main_arg2))
      ∧ m ((c.tc : Thread Cert.ScatterIdeal.nD Cert.ScatterIdeal.τ).loc Cert.ScatterIdeal.main_arg3) = Layout.block ⟨3, ![8, 352, 1024]⟩ ⟨3, ![64, 352, 1024]⟩ 0 8 c (m' (((0 : Dev Cert.ScatterReferenceIdeal.nD).tc : Thread Cert.ScatterReferenceIdeal.nD Cert.ScatterReferenceIdeal.τ).loc Cert.ScatterReferenceIdeal.main_arg3))
      ∧ m ((c.tc : Thread Cert.ScatterIdeal.nD Cert.ScatterIdeal.τ).loc Cert.ScatterIdeal.main_arg4) = Layout.block ⟨3, ![8, 1024, 192]⟩ ⟨3, ![64, 1024, 192]⟩ 0 8 c (m' (((0 : Dev Cert.ScatterReferenceIdeal.nD).tc : Thread Cert.ScatterReferenceIdeal.nD Cert.ScatterReferenceIdeal.τ).loc Cert.ScatterReferenceIdeal.main_arg4))
      ∧ m ((c.tc : Thread Cert.ScatterIdeal.nD Cert.ScatterIdeal.τ).loc Cert.ScatterIdeal.main_arg5) = Layout.block ⟨3, ![8, 128, 512]⟩ ⟨3, ![64, 128, 512]⟩ 0 8 c (m' (((0 : Dev Cert.ScatterReferenceIdeal.nD).tc : Thread Cert.ScatterReferenceIdeal.nD Cert.ScatterReferenceIdeal.τ).loc Cert.ScatterReferenceIdeal.main_arg5))
      ∧ m ((c.tc : Thread Cert.ScatterIdeal.nD Cert.ScatterIdeal.τ).loc Cert.ScatterIdeal.main_arg6) = Layout.block ⟨3, ![8, 128, 1024]⟩ ⟨3, ![64, 128, 1024]⟩ 0 8 c (m' (((0 : Dev Cert.ScatterReferenceIdeal.nD).tc : Thread Cert.ScatterReferenceIdeal.nD Cert.ScatterReferenceIdeal.τ).loc Cert.ScatterReferenceIdeal.main_arg6))
      ∧ m ((c.tc : Thread Cert.ScatterIdeal.nD Cert.ScatterIdeal.τ).loc Cert.ScatterIdeal.main_arg7) = Layout.block ⟨3, ![8, 1024, 352]⟩ ⟨3, ![64, 1024, 352]⟩ 0 8 c (m' (((0 : Dev Cert.ScatterReferenceIdeal.nD).tc : Thread Cert.ScatterReferenceIdeal.nD Cert.ScatterReferenceIdeal.τ).loc Cert.ScatterReferenceIdeal.main_arg7))
      ∧ m ((c.tc : Thread Cert.ScatterIdeal.nD Cert.ScatterIdeal.τ).loc Cert.ScatterIdeal.main_arg8) = Layout.block ⟨3, ![8, 1024, 352]⟩ ⟨3, ![64, 1024, 352]⟩ 0 8 c (m' (((0 : Dev Cert.ScatterReferenceIdeal.nD).tc : Thread Cert.ScatterReferenceIdeal.nD Cert.ScatterReferenceIdeal.τ).loc Cert.ScatterReferenceIdeal.main_arg8))
      ∧ m ((c.tc : Thread Cert.ScatterIdeal.nD Cert.ScatterIdeal.τ).loc Cert.ScatterIdeal.main_arg9) = Layout.block ⟨3, ![8, 352, 1024]⟩ ⟨3, ![64, 352, 1024]⟩ 0 8 c (m' (((0 : Dev Cert.ScatterReferenceIdeal.nD).tc : Thread Cert.ScatterReferenceIdeal.nD Cert.ScatterReferenceIdeal.τ).loc Cert.ScatterReferenceIdeal.main_arg9))) →
    ∃ (v0 : Buf (Elt Ideal) (((0 : Dev Cert.ScatterReferenceIdeal.nD).tc : Thread Cert.ScatterReferenceIdeal.nD Cert.ScatterReferenceIdeal.τ).loc Cert.ScatterReferenceIdeal.main_v27)) (v1 : Buf (Elt Ideal) (((0 : Dev Cert.ScatterReferenceIdeal.nD).tc : Thread Cert.ScatterReferenceIdeal.nD Cert.ScatterReferenceIdeal.τ).loc Cert.ScatterReferenceIdeal.main_v2)) (v2 : Buf (Elt Ideal) (((0 : Dev Cert.ScatterReferenceIdeal.nD).tc : Thread Cert.ScatterReferenceIdeal.nD Cert.ScatterReferenceIdeal.τ).loc Cert.ScatterReferenceIdeal.main_v5)) (v3 : Buf (Elt Ideal) (((0 : Dev Cert.ScatterReferenceIdeal.nD).tc : Thread Cert.ScatterReferenceIdeal.nD Cert.ScatterReferenceIdeal.τ).loc Cert.ScatterReferenceIdeal.main_v8)) (v4 : Buf (Elt Ideal) (((0 : Dev Cert.ScatterReferenceIdeal.nD).tc : Thread Cert.ScatterReferenceIdeal.nD Cert.ScatterReferenceIdeal.τ).loc Cert.ScatterReferenceIdeal.main_v11)) (v5 : Buf (Elt Ideal) (((0 : Dev Cert.ScatterReferenceIdeal.nD).tc : Thread Cert.ScatterReferenceIdeal.nD Cert.ScatterReferenceIdeal.τ).loc Cert.ScatterReferenceIdeal.main_v14)) (v6 : Buf (Elt Ideal) (((0 : Dev Cert.ScatterReferenceIdeal.nD).tc : Thread Cert.ScatterReferenceIdeal.nD Cert.ScatterReferenceIdeal.τ).loc Cert.ScatterReferenceIdeal.main_v17)) (v7 : Buf (Elt Ideal) (((0 : Dev Cert.ScatterReferenceIdeal.nD).tc : Thread Cert.ScatterReferenceIdeal.nD Cert.ScatterReferenceIdeal.τ).loc Cert.ScatterReferenceIdeal.main_v20)) (v8 : Buf (Elt Ideal) (((0 : Dev Cert.ScatterReferenceIdeal.nD).tc : Thread Cert.ScatterReferenceIdeal.nD Cert.ScatterReferenceIdeal.τ).loc Cert.ScatterReferenceIdeal.main_v23)) (v9 : Buf (Elt Ideal) (((0 : Dev Cert.ScatterReferenceIdeal.nD).tc : Thread Cert.ScatterReferenceIdeal.nD Cert.ScatterReferenceIdeal.τ).loc Cert.ScatterReferenceIdeal.main_v26)),
      θ_run (Cert.ScatterIdeal.defs (F := Ideal)) (onTc (τ := Cert.ScatterIdeal.τ) (Cert.ScatterIdeal.main (F := Ideal))) ⟨m, fun _ => 0, g⟩ (fun r => ∀ c : Dev Cert.ScatterIdeal.nD,
          r.2.mem ((c.tc : Thread Cert.ScatterIdeal.nD Cert.ScatterIdeal.τ).loc Cert.ScatterIdeal.main_v1_0) = v0
          ∧ r.2.mem ((c.tc : Thread Cert.ScatterIdeal.nD Cert.ScatterIdeal.τ).loc Cert.ScatterIdeal.main_v1_1) = Layout.block ⟨3, ![8, 1024, 352]⟩ ⟨3, ![64, 1024, 352]⟩ 0 8 c v1
          ∧ r.2.mem ((c.tc : Thread Cert.ScatterIdeal.nD Cert.ScatterIdeal.τ).loc Cert.ScatterIdeal.main_v1_2) = Layout.block ⟨3, ![8, 1024, 352]⟩ ⟨3, ![64, 1024, 352]⟩ 0 8 c v2
          ∧ r.2.mem ((c.tc : Thread Cert.ScatterIdeal.nD Cert.ScatterIdeal.τ).loc Cert.ScatterIdeal.main_v1_3) = Layout.block ⟨3, ![8, 352, 1024]⟩ ⟨3, ![64, 352, 1024]⟩ 0 8 c v3
          ∧ r.2.mem ((c.tc : Thread Cert.ScatterIdeal.nD Cert.ScatterIdeal.τ).loc Cert.ScatterIdeal.main_v1_4) = Layout.block ⟨3, ![8, 1024, 192]⟩ ⟨3, ![64, 1024, 192]⟩ 0 8 c v4
          ∧ r.2.mem ((c.tc : Thread Cert.ScatterIdeal.nD Cert.ScatterIdeal.τ).loc Cert.ScatterIdeal.main_v1_5) = Layout.block ⟨3, ![8, 128, 512]⟩ ⟨3, ![64, 128, 512]⟩ 0 8 c v5
          ∧ r.2.mem ((c.tc : Thread Cert.ScatterIdeal.nD Cert.ScatterIdeal.τ).loc Cert.ScatterIdeal.main_v1_6) = Layout.block ⟨3, ![8, 128, 1024]⟩ ⟨3, ![64, 128, 1024]⟩ 0 8 c v6
          ∧ r.2.mem ((c.tc : Thread Cert.ScatterIdeal.nD Cert.ScatterIdeal.τ).loc Cert.ScatterIdeal.main_v1_7) = Layout.block ⟨3, ![8, 1024, 352]⟩ ⟨3, ![64, 1024, 352]⟩ 0 8 c v7
          ∧ r.2.mem ((c.tc : Thread Cert.ScatterIdeal.nD Cert.ScatterIdeal.τ).loc Cert.ScatterIdeal.main_v1_8) = Layout.block ⟨3, ![8, 1024, 352]⟩ ⟨3, ![64, 1024, 352]⟩ 0 8 c v8
          ∧ r.2.mem ((c.tc : Thread Cert.ScatterIdeal.nD Cert.ScatterIdeal.τ).loc Cert.ScatterIdeal.main_v1_9) = Layout.block ⟨3, ![8, 352, 1024]⟩ ⟨3, ![64, 352, 1024]⟩ 0 8 c v9
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
          ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
          ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2)
          ∧ r.2.mem ((c.tc : Thread Cert.ScatterIdeal.nD Cert.ScatterIdeal.τ).loc Cert.ScatterIdeal.main_arg3) = m ((c.tc : Thread Cert.ScatterIdeal.nD Cert.ScatterIdeal.τ).loc Cert.ScatterIdeal.main_arg3)
          ∧ r.2.mem ((c.tc : Thread Cert.ScatterIdeal.nD Cert.ScatterIdeal.τ).loc Cert.ScatterIdeal.main_arg4) = m ((c.tc : Thread Cert.ScatterIdeal.nD Cert.ScatterIdeal.τ).loc Cert.ScatterIdeal.main_arg4)
          ∧ r.2.mem ((c.tc : Thread Cert.ScatterIdeal.nD Cert.ScatterIdeal.τ).loc Cert.ScatterIdeal.main_arg5) = m ((c.tc : Thread Cert.ScatterIdeal.nD Cert.ScatterIdeal.τ).loc Cert.ScatterIdeal.main_arg5)
          ∧ r.2.mem ((c.tc : Thread Cert.ScatterIdeal.nD Cert.ScatterIdeal.τ).loc Cert.ScatterIdeal.main_arg6) = m ((c.tc : Thread Cert.ScatterIdeal.nD Cert.ScatterIdeal.τ).loc Cert.ScatterIdeal.main_arg6)
          ∧ r.2.mem ((c.tc : Thread Cert.ScatterIdeal.nD Cert.ScatterIdeal.τ).loc Cert.ScatterIdeal.main_arg7) = m ((c.tc : Thread Cert.ScatterIdeal.nD Cert.ScatterIdeal.τ).loc Cert.ScatterIdeal.main_arg7)
          ∧ r.2.mem ((c.tc : Thread Cert.ScatterIdeal.nD Cert.ScatterIdeal.τ).loc Cert.ScatterIdeal.main_arg8) = m ((c.tc : Thread Cert.ScatterIdeal.nD Cert.ScatterIdeal.τ).loc Cert.ScatterIdeal.main_arg8)
          ∧ r.2.mem ((c.tc : Thread Cert.ScatterIdeal.nD Cert.ScatterIdeal.τ).loc Cert.ScatterIdeal.main_arg9) = m ((c.tc : Thread Cert.ScatterIdeal.nD Cert.ScatterIdeal.τ).loc Cert.ScatterIdeal.main_arg9))
      ∧ θ_run (Cert.ScatterReferenceIdeal.defs (F := Ideal)) (onTc (τ := Cert.ScatterReferenceIdeal.τ) (Cert.ScatterReferenceIdeal.main (F := Ideal))) ⟨m', fun _ => 0, g'⟩ (fun r =>
          r.2.mem (((0 : Dev Cert.ScatterReferenceIdeal.nD).tc : Thread Cert.ScatterReferenceIdeal.nD Cert.ScatterReferenceIdeal.τ).loc Cert.ScatterReferenceIdeal.main_v27) = v0
          ∧ r.2.mem (((0 : Dev Cert.ScatterReferenceIdeal.nD).tc : Thread Cert.ScatterReferenceIdeal.nD Cert.ScatterReferenceIdeal.τ).loc Cert.ScatterReferenceIdeal.main_v2) = v1
          ∧ r.2.mem (((0 : Dev Cert.ScatterReferenceIdeal.nD).tc : Thread Cert.ScatterReferenceIdeal.nD Cert.ScatterReferenceIdeal.τ).loc Cert.ScatterReferenceIdeal.main_v5) = v2
          ∧ r.2.mem (((0 : Dev Cert.ScatterReferenceIdeal.nD).tc : Thread Cert.ScatterReferenceIdeal.nD Cert.ScatterReferenceIdeal.τ).loc Cert.ScatterReferenceIdeal.main_v8) = v3
          ∧ r.2.mem (((0 : Dev Cert.ScatterReferenceIdeal.nD).tc : Thread Cert.ScatterReferenceIdeal.nD Cert.ScatterReferenceIdeal.τ).loc Cert.ScatterReferenceIdeal.main_v11) = v4
          ∧ r.2.mem (((0 : Dev Cert.ScatterReferenceIdeal.nD).tc : Thread Cert.ScatterReferenceIdeal.nD Cert.ScatterReferenceIdeal.τ).loc Cert.ScatterReferenceIdeal.main_v14) = v5
          ∧ r.2.mem (((0 : Dev Cert.ScatterReferenceIdeal.nD).tc : Thread Cert.ScatterReferenceIdeal.nD Cert.ScatterReferenceIdeal.τ).loc Cert.ScatterReferenceIdeal.main_v17) = v6
          ∧ r.2.mem (((0 : Dev Cert.ScatterReferenceIdeal.nD).tc : Thread Cert.ScatterReferenceIdeal.nD Cert.ScatterReferenceIdeal.τ).loc Cert.ScatterReferenceIdeal.main_v20) = v7
          ∧ r.2.mem (((0 : Dev Cert.ScatterReferenceIdeal.nD).tc : Thread Cert.ScatterReferenceIdeal.nD Cert.ScatterReferenceIdeal.τ).loc Cert.ScatterReferenceIdeal.main_v23) = v8
          ∧ r.2.mem (((0 : Dev Cert.ScatterReferenceIdeal.nD).tc : Thread Cert.ScatterReferenceIdeal.nD Cert.ScatterReferenceIdeal.τ).loc Cert.ScatterReferenceIdeal.main_v26) = v9
          ∧ r.2.mem (((0 : Dev Cert.ScatterReferenceIdeal.nD).tc : Thread Cert.ScatterReferenceIdeal.nD Cert.ScatterReferenceIdeal.τ).loc Cert.ScatterReferenceIdeal.main_arg0) = m' (((0 : Dev Cert.ScatterReferenceIdeal.nD).tc : Thread Cert.ScatterReferenceIdeal.nD Cert.ScatterReferenceIdeal.τ).loc Cert.ScatterReferenceIdeal.main_arg0)
          ∧ r.2.mem (((0 : Dev Cert.ScatterReferenceIdeal.nD).tc : Thread Cert.ScatterReferenceIdeal.nD Cert.ScatterReferenceIdeal.τ).loc Cert.ScatterReferenceIdeal.main_arg1) = m' (((0 : Dev Cert.ScatterReferenceIdeal.nD).tc : Thread Cert.ScatterReferenceIdeal.nD Cert.ScatterReferenceIdeal.τ).loc Cert.ScatterReferenceIdeal.main_arg1)
          ∧ r.2.mem (((0 : Dev Cert.ScatterReferenceIdeal.nD).tc : Thread Cert.ScatterReferenceIdeal.nD Cert.ScatterReferenceIdeal.τ).loc Cert.ScatterReferenceIdeal.main_arg2) = m' (((0 : Dev Cert.ScatterReferenceIdeal.nD).tc : Thread Cert.ScatterReferenceIdeal.nD Cert.ScatterReferenceIdeal.τ).loc Cert.ScatterReferenceIdeal.main_arg2)
          ∧ r.2.mem (((0 : Dev Cert.ScatterReferenceIdeal.nD).tc : Thread Cert.ScatterReferenceIdeal.nD Cert.ScatterReferenceIdeal.τ).loc Cert.ScatterReferenceIdeal.main_arg3) = m' (((0 : Dev Cert.ScatterReferenceIdeal.nD).tc : Thread Cert.ScatterReferenceIdeal.nD Cert.ScatterReferenceIdeal.τ).loc Cert.ScatterReferenceIdeal.main_arg3)
          ∧ r.2.mem (((0 : Dev Cert.ScatterReferenceIdeal.nD).tc : Thread Cert.ScatterReferenceIdeal.nD Cert.ScatterReferenceIdeal.τ).loc Cert.ScatterReferenceIdeal.main_arg4) = m' (((0 : Dev Cert.ScatterReferenceIdeal.nD).tc : Thread Cert.ScatterReferenceIdeal.nD Cert.ScatterReferenceIdeal.τ).loc Cert.ScatterReferenceIdeal.main_arg4)
          ∧ r.2.mem (((0 : Dev Cert.ScatterReferenceIdeal.nD).tc : Thread Cert.ScatterReferenceIdeal.nD Cert.ScatterReferenceIdeal.τ).loc Cert.ScatterReferenceIdeal.main_arg5) = m' (((0 : Dev Cert.ScatterReferenceIdeal.nD).tc : Thread Cert.ScatterReferenceIdeal.nD Cert.ScatterReferenceIdeal.τ).loc Cert.ScatterReferenceIdeal.main_arg5)
          ∧ r.2.mem (((0 : Dev Cert.ScatterReferenceIdeal.nD).tc : Thread Cert.ScatterReferenceIdeal.nD Cert.ScatterReferenceIdeal.τ).loc Cert.ScatterReferenceIdeal.main_arg6) = m' (((0 : Dev Cert.ScatterReferenceIdeal.nD).tc : Thread Cert.ScatterReferenceIdeal.nD Cert.ScatterReferenceIdeal.τ).loc Cert.ScatterReferenceIdeal.main_arg6)
          ∧ r.2.mem (((0 : Dev Cert.ScatterReferenceIdeal.nD).tc : Thread Cert.ScatterReferenceIdeal.nD Cert.ScatterReferenceIdeal.τ).loc Cert.ScatterReferenceIdeal.main_arg7) = m' (((0 : Dev Cert.ScatterReferenceIdeal.nD).tc : Thread Cert.ScatterReferenceIdeal.nD Cert.ScatterReferenceIdeal.τ).loc Cert.ScatterReferenceIdeal.main_arg7)
          ∧ r.2.mem (((0 : Dev Cert.ScatterReferenceIdeal.nD).tc : Thread Cert.ScatterReferenceIdeal.nD Cert.ScatterReferenceIdeal.τ).loc Cert.ScatterReferenceIdeal.main_arg8) = m' (((0 : Dev Cert.ScatterReferenceIdeal.nD).tc : Thread Cert.ScatterReferenceIdeal.nD Cert.ScatterReferenceIdeal.τ).loc Cert.ScatterReferenceIdeal.main_arg8)
          ∧ r.2.mem (((0 : Dev Cert.ScatterReferenceIdeal.nD).tc : Thread Cert.ScatterReferenceIdeal.nD Cert.ScatterReferenceIdeal.τ).loc Cert.ScatterReferenceIdeal.main_arg9) = m' (((0 : Dev Cert.ScatterReferenceIdeal.nD).tc : Thread Cert.ScatterReferenceIdeal.nD Cert.ScatterReferenceIdeal.τ).loc Cert.ScatterReferenceIdeal.main_arg9))

def bitexact_Scatter_ScatterReference [hScatter : Cert.Scatter.Facts] [hScatterReference : Cert.ScatterReference.Facts] : Prop :=
  ∀ (m : (ℓ : Loc Cert.Scatter.nD Cert.Scatter.τ Cert.Scatter.sig) → Buf (Elt Bits) ℓ) (g : Dev Cert.Scatter.nD → PrngReg)
    (m' : (ℓ : Loc Cert.ScatterReference.nD Cert.ScatterReference.τ Cert.ScatterReference.sig) → Buf (Elt Bits) ℓ) (g' : Dev Cert.ScatterReference.nD → PrngReg), Pre_Scatter m →
    (∀ c : Dev Cert.Scatter.nD,
      m ((c.tc : Thread Cert.Scatter.nD Cert.Scatter.τ).loc Cert.Scatter.main_arg0) = Layout.block ⟨2, ![16, 1024]⟩ ⟨2, ![128, 1024]⟩ 0 8 c (m' (((0 : Dev Cert.ScatterReference.nD).tc : Thread Cert.ScatterReference.nD Cert.ScatterReference.τ).loc Cert.ScatterReference.main_arg0))
      ∧ m ((c.tc : Thread Cert.Scatter.nD Cert.Scatter.τ).loc Cert.Scatter.main_arg1) = Layout.block ⟨3, ![8, 1024, 352]⟩ ⟨3, ![64, 1024, 352]⟩ 0 8 c (m' (((0 : Dev Cert.ScatterReference.nD).tc : Thread Cert.ScatterReference.nD Cert.ScatterReference.τ).loc Cert.ScatterReference.main_arg1))
      ∧ m ((c.tc : Thread Cert.Scatter.nD Cert.Scatter.τ).loc Cert.Scatter.main_arg2) = Layout.block ⟨3, ![8, 1024, 352]⟩ ⟨3, ![64, 1024, 352]⟩ 0 8 c (m' (((0 : Dev Cert.ScatterReference.nD).tc : Thread Cert.ScatterReference.nD Cert.ScatterReference.τ).loc Cert.ScatterReference.main_arg2))
      ∧ m ((c.tc : Thread Cert.Scatter.nD Cert.Scatter.τ).loc Cert.Scatter.main_arg3) = Layout.block ⟨3, ![8, 352, 1024]⟩ ⟨3, ![64, 352, 1024]⟩ 0 8 c (m' (((0 : Dev Cert.ScatterReference.nD).tc : Thread Cert.ScatterReference.nD Cert.ScatterReference.τ).loc Cert.ScatterReference.main_arg3))
      ∧ m ((c.tc : Thread Cert.Scatter.nD Cert.Scatter.τ).loc Cert.Scatter.main_arg4) = Layout.block ⟨3, ![8, 1024, 192]⟩ ⟨3, ![64, 1024, 192]⟩ 0 8 c (m' (((0 : Dev Cert.ScatterReference.nD).tc : Thread Cert.ScatterReference.nD Cert.ScatterReference.τ).loc Cert.ScatterReference.main_arg4))
      ∧ m ((c.tc : Thread Cert.Scatter.nD Cert.Scatter.τ).loc Cert.Scatter.main_arg5) = Layout.block ⟨3, ![8, 128, 512]⟩ ⟨3, ![64, 128, 512]⟩ 0 8 c (m' (((0 : Dev Cert.ScatterReference.nD).tc : Thread Cert.ScatterReference.nD Cert.ScatterReference.τ).loc Cert.ScatterReference.main_arg5))
      ∧ m ((c.tc : Thread Cert.Scatter.nD Cert.Scatter.τ).loc Cert.Scatter.main_arg6) = Layout.block ⟨3, ![8, 128, 1024]⟩ ⟨3, ![64, 128, 1024]⟩ 0 8 c (m' (((0 : Dev Cert.ScatterReference.nD).tc : Thread Cert.ScatterReference.nD Cert.ScatterReference.τ).loc Cert.ScatterReference.main_arg6))
      ∧ m ((c.tc : Thread Cert.Scatter.nD Cert.Scatter.τ).loc Cert.Scatter.main_arg7) = Layout.block ⟨3, ![8, 1024, 352]⟩ ⟨3, ![64, 1024, 352]⟩ 0 8 c (m' (((0 : Dev Cert.ScatterReference.nD).tc : Thread Cert.ScatterReference.nD Cert.ScatterReference.τ).loc Cert.ScatterReference.main_arg7))
      ∧ m ((c.tc : Thread Cert.Scatter.nD Cert.Scatter.τ).loc Cert.Scatter.main_arg8) = Layout.block ⟨3, ![8, 1024, 352]⟩ ⟨3, ![64, 1024, 352]⟩ 0 8 c (m' (((0 : Dev Cert.ScatterReference.nD).tc : Thread Cert.ScatterReference.nD Cert.ScatterReference.τ).loc Cert.ScatterReference.main_arg8))
      ∧ m ((c.tc : Thread Cert.Scatter.nD Cert.Scatter.τ).loc Cert.Scatter.main_arg9) = Layout.block ⟨3, ![8, 352, 1024]⟩ ⟨3, ![64, 352, 1024]⟩ 0 8 c (m' (((0 : Dev Cert.ScatterReference.nD).tc : Thread Cert.ScatterReference.nD Cert.ScatterReference.τ).loc Cert.ScatterReference.main_arg9))) →
    ∃ (v0 : Buf (Elt Bits) (((0 : Dev Cert.ScatterReference.nD).tc : Thread Cert.ScatterReference.nD Cert.ScatterReference.τ).loc Cert.ScatterReference.main_v27)) (v1 : Buf (Elt Bits) (((0 : Dev Cert.ScatterReference.nD).tc : Thread Cert.ScatterReference.nD Cert.ScatterReference.τ).loc Cert.ScatterReference.main_v2)) (v2 : Buf (Elt Bits) (((0 : Dev Cert.ScatterReference.nD).tc : Thread Cert.ScatterReference.nD Cert.ScatterReference.τ).loc Cert.ScatterReference.main_v5)) (v3 : Buf (Elt Bits) (((0 : Dev Cert.ScatterReference.nD).tc : Thread Cert.ScatterReference.nD Cert.ScatterReference.τ).loc Cert.ScatterReference.main_v8)) (v4 : Buf (Elt Bits) (((0 : Dev Cert.ScatterReference.nD).tc : Thread Cert.ScatterReference.nD Cert.ScatterReference.τ).loc Cert.ScatterReference.main_v11)) (v5 : Buf (Elt Bits) (((0 : Dev Cert.ScatterReference.nD).tc : Thread Cert.ScatterReference.nD Cert.ScatterReference.τ).loc Cert.ScatterReference.main_v14)) (v6 : Buf (Elt Bits) (((0 : Dev Cert.ScatterReference.nD).tc : Thread Cert.ScatterReference.nD Cert.ScatterReference.τ).loc Cert.ScatterReference.main_v17)) (v7 : Buf (Elt Bits) (((0 : Dev Cert.ScatterReference.nD).tc : Thread Cert.ScatterReference.nD Cert.ScatterReference.τ).loc Cert.ScatterReference.main_v20)) (v8 : Buf (Elt Bits) (((0 : Dev Cert.ScatterReference.nD).tc : Thread Cert.ScatterReference.nD Cert.ScatterReference.τ).loc Cert.ScatterReference.main_v23)) (v9 : Buf (Elt Bits) (((0 : Dev Cert.ScatterReference.nD).tc : Thread Cert.ScatterReference.nD Cert.ScatterReference.τ).loc Cert.ScatterReference.main_v26)),
      θ_run (Cert.Scatter.defs (F := Bits)) (onTc (τ := Cert.Scatter.τ) (Cert.Scatter.main (F := Bits))) ⟨m, fun _ => 0, g⟩ (fun r => ∀ c : Dev Cert.Scatter.nD,
          r.2.mem ((c.tc : Thread Cert.Scatter.nD Cert.Scatter.τ).loc Cert.Scatter.main_v1_0) = v0
          ∧ r.2.mem ((c.tc : Thread Cert.Scatter.nD Cert.Scatter.τ).loc Cert.Scatter.main_v1_1) = Layout.block ⟨3, ![8, 1024, 352]⟩ ⟨3, ![64, 1024, 352]⟩ 0 8 c v1
          ∧ r.2.mem ((c.tc : Thread Cert.Scatter.nD Cert.Scatter.τ).loc Cert.Scatter.main_v1_2) = Layout.block ⟨3, ![8, 1024, 352]⟩ ⟨3, ![64, 1024, 352]⟩ 0 8 c v2
          ∧ r.2.mem ((c.tc : Thread Cert.Scatter.nD Cert.Scatter.τ).loc Cert.Scatter.main_v1_3) = Layout.block ⟨3, ![8, 352, 1024]⟩ ⟨3, ![64, 352, 1024]⟩ 0 8 c v3
          ∧ r.2.mem ((c.tc : Thread Cert.Scatter.nD Cert.Scatter.τ).loc Cert.Scatter.main_v1_4) = Layout.block ⟨3, ![8, 1024, 192]⟩ ⟨3, ![64, 1024, 192]⟩ 0 8 c v4
          ∧ r.2.mem ((c.tc : Thread Cert.Scatter.nD Cert.Scatter.τ).loc Cert.Scatter.main_v1_5) = Layout.block ⟨3, ![8, 128, 512]⟩ ⟨3, ![64, 128, 512]⟩ 0 8 c v5
          ∧ r.2.mem ((c.tc : Thread Cert.Scatter.nD Cert.Scatter.τ).loc Cert.Scatter.main_v1_6) = Layout.block ⟨3, ![8, 128, 1024]⟩ ⟨3, ![64, 128, 1024]⟩ 0 8 c v6
          ∧ r.2.mem ((c.tc : Thread Cert.Scatter.nD Cert.Scatter.τ).loc Cert.Scatter.main_v1_7) = Layout.block ⟨3, ![8, 1024, 352]⟩ ⟨3, ![64, 1024, 352]⟩ 0 8 c v7
          ∧ r.2.mem ((c.tc : Thread Cert.Scatter.nD Cert.Scatter.τ).loc Cert.Scatter.main_v1_8) = Layout.block ⟨3, ![8, 1024, 352]⟩ ⟨3, ![64, 1024, 352]⟩ 0 8 c v8
          ∧ r.2.mem ((c.tc : Thread Cert.Scatter.nD Cert.Scatter.τ).loc Cert.Scatter.main_v1_9) = Layout.block ⟨3, ![8, 352, 1024]⟩ ⟨3, ![64, 352, 1024]⟩ 0 8 c v9
          ∧ r.2.mem ((c.tc : Thread Cert.Scatter.nD Cert.Scatter.τ).loc Cert.Scatter.main_arg0) = m ((c.tc : Thread Cert.Scatter.nD Cert.Scatter.τ).loc Cert.Scatter.main_arg0)
          ∧ r.2.mem ((c.tc : Thread Cert.Scatter.nD Cert.Scatter.τ).loc Cert.Scatter.main_arg1) = m ((c.tc : Thread Cert.Scatter.nD Cert.Scatter.τ).loc Cert.Scatter.main_arg1)
          ∧ r.2.mem ((c.tc : Thread Cert.Scatter.nD Cert.Scatter.τ).loc Cert.Scatter.main_arg2) = m ((c.tc : Thread Cert.Scatter.nD Cert.Scatter.τ).loc Cert.Scatter.main_arg2)
          ∧ r.2.mem ((c.tc : Thread Cert.Scatter.nD Cert.Scatter.τ).loc Cert.Scatter.main_arg3) = m ((c.tc : Thread Cert.Scatter.nD Cert.Scatter.τ).loc Cert.Scatter.main_arg3)
          ∧ r.2.mem ((c.tc : Thread Cert.Scatter.nD Cert.Scatter.τ).loc Cert.Scatter.main_arg4) = m ((c.tc : Thread Cert.Scatter.nD Cert.Scatter.τ).loc Cert.Scatter.main_arg4)
          ∧ r.2.mem ((c.tc : Thread Cert.Scatter.nD Cert.Scatter.τ).loc Cert.Scatter.main_arg5) = m ((c.tc : Thread Cert.Scatter.nD Cert.Scatter.τ).loc Cert.Scatter.main_arg5)
          ∧ r.2.mem ((c.tc : Thread Cert.Scatter.nD Cert.Scatter.τ).loc Cert.Scatter.main_arg6) = m ((c.tc : Thread Cert.Scatter.nD Cert.Scatter.τ).loc Cert.Scatter.main_arg6)
          ∧ r.2.mem ((c.tc : Thread Cert.Scatter.nD Cert.Scatter.τ).loc Cert.Scatter.main_arg7) = m ((c.tc : Thread Cert.Scatter.nD Cert.Scatter.τ).loc Cert.Scatter.main_arg7)
          ∧ r.2.mem ((c.tc : Thread Cert.Scatter.nD Cert.Scatter.τ).loc Cert.Scatter.main_arg8) = m ((c.tc : Thread Cert.Scatter.nD Cert.Scatter.τ).loc Cert.Scatter.main_arg8)
          ∧ r.2.mem ((c.tc : Thread Cert.Scatter.nD Cert.Scatter.τ).loc Cert.Scatter.main_arg9) = m ((c.tc : Thread Cert.Scatter.nD Cert.Scatter.τ).loc Cert.Scatter.main_arg9))
      ∧ θ_run (Cert.ScatterReference.defs (F := Bits)) (onTc (τ := Cert.ScatterReference.τ) (Cert.ScatterReference.main (F := Bits))) ⟨m', fun _ => 0, g'⟩ (fun r =>
          r.2.mem (((0 : Dev Cert.ScatterReference.nD).tc : Thread Cert.ScatterReference.nD Cert.ScatterReference.τ).loc Cert.ScatterReference.main_v27) = v0
          ∧ r.2.mem (((0 : Dev Cert.ScatterReference.nD).tc : Thread Cert.ScatterReference.nD Cert.ScatterReference.τ).loc Cert.ScatterReference.main_v2) = v1
          ∧ r.2.mem (((0 : Dev Cert.ScatterReference.nD).tc : Thread Cert.ScatterReference.nD Cert.ScatterReference.τ).loc Cert.ScatterReference.main_v5) = v2
          ∧ r.2.mem (((0 : Dev Cert.ScatterReference.nD).tc : Thread Cert.ScatterReference.nD Cert.ScatterReference.τ).loc Cert.ScatterReference.main_v8) = v3
          ∧ r.2.mem (((0 : Dev Cert.ScatterReference.nD).tc : Thread Cert.ScatterReference.nD Cert.ScatterReference.τ).loc Cert.ScatterReference.main_v11) = v4
          ∧ r.2.mem (((0 : Dev Cert.ScatterReference.nD).tc : Thread Cert.ScatterReference.nD Cert.ScatterReference.τ).loc Cert.ScatterReference.main_v14) = v5
          ∧ r.2.mem (((0 : Dev Cert.ScatterReference.nD).tc : Thread Cert.ScatterReference.nD Cert.ScatterReference.τ).loc Cert.ScatterReference.main_v17) = v6
          ∧ r.2.mem (((0 : Dev Cert.ScatterReference.nD).tc : Thread Cert.ScatterReference.nD Cert.ScatterReference.τ).loc Cert.ScatterReference.main_v20) = v7
          ∧ r.2.mem (((0 : Dev Cert.ScatterReference.nD).tc : Thread Cert.ScatterReference.nD Cert.ScatterReference.τ).loc Cert.ScatterReference.main_v23) = v8
          ∧ r.2.mem (((0 : Dev Cert.ScatterReference.nD).tc : Thread Cert.ScatterReference.nD Cert.ScatterReference.τ).loc Cert.ScatterReference.main_v26) = v9
          ∧ r.2.mem (((0 : Dev Cert.ScatterReference.nD).tc : Thread Cert.ScatterReference.nD Cert.ScatterReference.τ).loc Cert.ScatterReference.main_arg0) = m' (((0 : Dev Cert.ScatterReference.nD).tc : Thread Cert.ScatterReference.nD Cert.ScatterReference.τ).loc Cert.ScatterReference.main_arg0)
          ∧ r.2.mem (((0 : Dev Cert.ScatterReference.nD).tc : Thread Cert.ScatterReference.nD Cert.ScatterReference.τ).loc Cert.ScatterReference.main_arg1) = m' (((0 : Dev Cert.ScatterReference.nD).tc : Thread Cert.ScatterReference.nD Cert.ScatterReference.τ).loc Cert.ScatterReference.main_arg1)
          ∧ r.2.mem (((0 : Dev Cert.ScatterReference.nD).tc : Thread Cert.ScatterReference.nD Cert.ScatterReference.τ).loc Cert.ScatterReference.main_arg2) = m' (((0 : Dev Cert.ScatterReference.nD).tc : Thread Cert.ScatterReference.nD Cert.ScatterReference.τ).loc Cert.ScatterReference.main_arg2)
          ∧ r.2.mem (((0 : Dev Cert.ScatterReference.nD).tc : Thread Cert.ScatterReference.nD Cert.ScatterReference.τ).loc Cert.ScatterReference.main_arg3) = m' (((0 : Dev Cert.ScatterReference.nD).tc : Thread Cert.ScatterReference.nD Cert.ScatterReference.τ).loc Cert.ScatterReference.main_arg3)
          ∧ r.2.mem (((0 : Dev Cert.ScatterReference.nD).tc : Thread Cert.ScatterReference.nD Cert.ScatterReference.τ).loc Cert.ScatterReference.main_arg4) = m' (((0 : Dev Cert.ScatterReference.nD).tc : Thread Cert.ScatterReference.nD Cert.ScatterReference.τ).loc Cert.ScatterReference.main_arg4)
          ∧ r.2.mem (((0 : Dev Cert.ScatterReference.nD).tc : Thread Cert.ScatterReference.nD Cert.ScatterReference.τ).loc Cert.ScatterReference.main_arg5) = m' (((0 : Dev Cert.ScatterReference.nD).tc : Thread Cert.ScatterReference.nD Cert.ScatterReference.τ).loc Cert.ScatterReference.main_arg5)
          ∧ r.2.mem (((0 : Dev Cert.ScatterReference.nD).tc : Thread Cert.ScatterReference.nD Cert.ScatterReference.τ).loc Cert.ScatterReference.main_arg6) = m' (((0 : Dev Cert.ScatterReference.nD).tc : Thread Cert.ScatterReference.nD Cert.ScatterReference.τ).loc Cert.ScatterReference.main_arg6)
          ∧ r.2.mem (((0 : Dev Cert.ScatterReference.nD).tc : Thread Cert.ScatterReference.nD Cert.ScatterReference.τ).loc Cert.ScatterReference.main_arg7) = m' (((0 : Dev Cert.ScatterReference.nD).tc : Thread Cert.ScatterReference.nD Cert.ScatterReference.τ).loc Cert.ScatterReference.main_arg7)
          ∧ r.2.mem (((0 : Dev Cert.ScatterReference.nD).tc : Thread Cert.ScatterReference.nD Cert.ScatterReference.τ).loc Cert.ScatterReference.main_arg8) = m' (((0 : Dev Cert.ScatterReference.nD).tc : Thread Cert.ScatterReference.nD Cert.ScatterReference.τ).loc Cert.ScatterReference.main_arg8)
          ∧ r.2.mem (((0 : Dev Cert.ScatterReference.nD).tc : Thread Cert.ScatterReference.nD Cert.ScatterReference.τ).loc Cert.ScatterReference.main_arg9) = m' (((0 : Dev Cert.ScatterReference.nD).tc : Thread Cert.ScatterReference.nD Cert.ScatterReference.τ).loc Cert.ScatterReference.main_arg9))

def preserves_Weights_WeightsIdeal : Prop :=
  True

def algebraic_WeightsIdeal_WeightsReferenceIdeal [hWeightsIdeal : Cert.WeightsIdeal.Facts] [hWeightsReferenceIdeal : Cert.WeightsReferenceIdeal.Facts] : Prop :=
  ∀ (m : (ℓ : Loc Cert.WeightsIdeal.nD Cert.WeightsIdeal.τ Cert.WeightsIdeal.sig) → Buf (Elt Ideal) ℓ) (g : Dev Cert.WeightsIdeal.nD → PrngReg)
    (m' : (ℓ : Loc Cert.WeightsReferenceIdeal.nD Cert.WeightsReferenceIdeal.τ Cert.WeightsReferenceIdeal.sig) → Buf (Elt Ideal) ℓ) (g' : Dev Cert.WeightsReferenceIdeal.nD → PrngReg), Pre_WeightsIdeal m →
    (∀ c : Dev Cert.WeightsIdeal.nD,
      m ((c.tc : Thread Cert.WeightsIdeal.nD Cert.WeightsIdeal.τ).loc Cert.WeightsIdeal.main_arg0) = Layout.block ⟨2, ![1024, 352]⟩ ⟨2, ![1024, 2816]⟩ 1 8 c (m' (((0 : Dev Cert.WeightsReferenceIdeal.nD).tc : Thread Cert.WeightsReferenceIdeal.nD Cert.WeightsReferenceIdeal.τ).loc Cert.WeightsReferenceIdeal.main_arg0))
      ∧ m ((c.tc : Thread Cert.WeightsIdeal.nD Cert.WeightsIdeal.τ).loc Cert.WeightsIdeal.main_arg1) = Layout.block ⟨2, ![1024, 352]⟩ ⟨2, ![1024, 2816]⟩ 1 8 c (m' (((0 : Dev Cert.WeightsReferenceIdeal.nD).tc : Thread Cert.WeightsReferenceIdeal.nD Cert.WeightsReferenceIdeal.τ).loc Cert.WeightsReferenceIdeal.main_arg1))
      ∧ m ((c.tc : Thread Cert.WeightsIdeal.nD Cert.WeightsIdeal.τ).loc Cert.WeightsIdeal.main_arg2) = Layout.block ⟨2, ![352, 1024]⟩ ⟨2, ![2816, 1024]⟩ 0 8 c (m' (((0 : Dev Cert.WeightsReferenceIdeal.nD).tc : Thread Cert.WeightsReferenceIdeal.nD Cert.WeightsReferenceIdeal.τ).loc Cert.WeightsReferenceIdeal.main_arg2))
      ∧ m ((c.tc : Thread Cert.WeightsIdeal.nD Cert.WeightsIdeal.τ).loc Cert.WeightsIdeal.main_arg3) = Layout.block ⟨2, ![1024, 192]⟩ ⟨2, ![1024, 1536]⟩ 1 8 c (m' (((0 : Dev Cert.WeightsReferenceIdeal.nD).tc : Thread Cert.WeightsReferenceIdeal.nD Cert.WeightsReferenceIdeal.τ).loc Cert.WeightsReferenceIdeal.main_arg3))
      ∧ m ((c.tc : Thread Cert.WeightsIdeal.nD Cert.WeightsIdeal.τ).loc Cert.WeightsIdeal.main_arg4) = Layout.block ⟨2, ![128, 512]⟩ ⟨2, ![1024, 512]⟩ 0 8 c (m' (((0 : Dev Cert.WeightsReferenceIdeal.nD).tc : Thread Cert.WeightsReferenceIdeal.nD Cert.WeightsReferenceIdeal.τ).loc Cert.WeightsReferenceIdeal.main_arg4))
      ∧ m ((c.tc : Thread Cert.WeightsIdeal.nD Cert.WeightsIdeal.τ).loc Cert.WeightsIdeal.main_arg5) = Layout.block ⟨2, ![128, 1024]⟩ ⟨2, ![1024, 1024]⟩ 0 8 c (m' (((0 : Dev Cert.WeightsReferenceIdeal.nD).tc : Thread Cert.WeightsReferenceIdeal.nD Cert.WeightsReferenceIdeal.τ).loc Cert.WeightsReferenceIdeal.main_arg5))
      ∧ m ((c.tc : Thread Cert.WeightsIdeal.nD Cert.WeightsIdeal.τ).loc Cert.WeightsIdeal.main_arg6) = Layout.block ⟨2, ![1024, 352]⟩ ⟨2, ![1024, 2816]⟩ 1 8 c (m' (((0 : Dev Cert.WeightsReferenceIdeal.nD).tc : Thread Cert.WeightsReferenceIdeal.nD Cert.WeightsReferenceIdeal.τ).loc Cert.WeightsReferenceIdeal.main_arg6))
      ∧ m ((c.tc : Thread Cert.WeightsIdeal.nD Cert.WeightsIdeal.τ).loc Cert.WeightsIdeal.main_arg7) = Layout.block ⟨2, ![1024, 352]⟩ ⟨2, ![1024, 2816]⟩ 1 8 c (m' (((0 : Dev Cert.WeightsReferenceIdeal.nD).tc : Thread Cert.WeightsReferenceIdeal.nD Cert.WeightsReferenceIdeal.τ).loc Cert.WeightsReferenceIdeal.main_arg7))
      ∧ m ((c.tc : Thread Cert.WeightsIdeal.nD Cert.WeightsIdeal.τ).loc Cert.WeightsIdeal.main_arg8) = Layout.block ⟨2, ![352, 1024]⟩ ⟨2, ![2816, 1024]⟩ 0 8 c (m' (((0 : Dev Cert.WeightsReferenceIdeal.nD).tc : Thread Cert.WeightsReferenceIdeal.nD Cert.WeightsReferenceIdeal.τ).loc Cert.WeightsReferenceIdeal.main_arg8))
      ∧ m ((c.tc : Thread Cert.WeightsIdeal.nD Cert.WeightsIdeal.τ).loc Cert.WeightsIdeal.main_arg9) = Layout.block ⟨2, ![31, 32]⟩ ⟨2, ![31, 256]⟩ 1 8 c (m' (((0 : Dev Cert.WeightsReferenceIdeal.nD).tc : Thread Cert.WeightsReferenceIdeal.nD Cert.WeightsReferenceIdeal.τ).loc Cert.WeightsReferenceIdeal.main_arg9))) →
    ∃ (v0 : Buf (Elt Ideal) (((0 : Dev Cert.WeightsReferenceIdeal.nD).tc : Thread Cert.WeightsReferenceIdeal.nD Cert.WeightsReferenceIdeal.τ).loc Cert.WeightsReferenceIdeal.main_v1)) (v1 : Buf (Elt Ideal) (((0 : Dev Cert.WeightsReferenceIdeal.nD).tc : Thread Cert.WeightsReferenceIdeal.nD Cert.WeightsReferenceIdeal.τ).loc Cert.WeightsReferenceIdeal.main_v3)) (v2 : Buf (Elt Ideal) (((0 : Dev Cert.WeightsReferenceIdeal.nD).tc : Thread Cert.WeightsReferenceIdeal.nD Cert.WeightsReferenceIdeal.τ).loc Cert.WeightsReferenceIdeal.main_v4)) (v3 : Buf (Elt Ideal) (((0 : Dev Cert.WeightsReferenceIdeal.nD).tc : Thread Cert.WeightsReferenceIdeal.nD Cert.WeightsReferenceIdeal.τ).loc Cert.WeightsReferenceIdeal.main_v6)) (v4 : Buf (Elt Ideal) (((0 : Dev Cert.WeightsReferenceIdeal.nD).tc : Thread Cert.WeightsReferenceIdeal.nD Cert.WeightsReferenceIdeal.τ).loc Cert.WeightsReferenceIdeal.main_v7)) (v5 : Buf (Elt Ideal) (((0 : Dev Cert.WeightsReferenceIdeal.nD).tc : Thread Cert.WeightsReferenceIdeal.nD Cert.WeightsReferenceIdeal.τ).loc Cert.WeightsReferenceIdeal.main_v8)) (v6 : Buf (Elt Ideal) (((0 : Dev Cert.WeightsReferenceIdeal.nD).tc : Thread Cert.WeightsReferenceIdeal.nD Cert.WeightsReferenceIdeal.τ).loc Cert.WeightsReferenceIdeal.main_v10)) (v7 : Buf (Elt Ideal) (((0 : Dev Cert.WeightsReferenceIdeal.nD).tc : Thread Cert.WeightsReferenceIdeal.nD Cert.WeightsReferenceIdeal.τ).loc Cert.WeightsReferenceIdeal.main_v12)) (v8 : Buf (Elt Ideal) (((0 : Dev Cert.WeightsReferenceIdeal.nD).tc : Thread Cert.WeightsReferenceIdeal.nD Cert.WeightsReferenceIdeal.τ).loc Cert.WeightsReferenceIdeal.main_v13)) (v9 : Buf (Elt Ideal) (((0 : Dev Cert.WeightsReferenceIdeal.nD).tc : Thread Cert.WeightsReferenceIdeal.nD Cert.WeightsReferenceIdeal.τ).loc Cert.WeightsReferenceIdeal.main_v15)),
      θ_run (Cert.WeightsIdeal.defs (F := Ideal)) (onTc (τ := Cert.WeightsIdeal.τ) (Cert.WeightsIdeal.main (F := Ideal))) ⟨m, fun _ => 0, g⟩ (fun r => ∀ c : Dev Cert.WeightsIdeal.nD,
          r.2.mem ((c.tc : Thread Cert.WeightsIdeal.nD Cert.WeightsIdeal.τ).loc Cert.WeightsIdeal.main_v1_0) = v0
          ∧ r.2.mem ((c.tc : Thread Cert.WeightsIdeal.nD Cert.WeightsIdeal.τ).loc Cert.WeightsIdeal.main_v1_1) = v1
          ∧ r.2.mem ((c.tc : Thread Cert.WeightsIdeal.nD Cert.WeightsIdeal.τ).loc Cert.WeightsIdeal.main_v1_2) = v2
          ∧ r.2.mem ((c.tc : Thread Cert.WeightsIdeal.nD Cert.WeightsIdeal.τ).loc Cert.WeightsIdeal.main_v1_3) = v3
          ∧ r.2.mem ((c.tc : Thread Cert.WeightsIdeal.nD Cert.WeightsIdeal.τ).loc Cert.WeightsIdeal.main_v1_4) = v4
          ∧ r.2.mem ((c.tc : Thread Cert.WeightsIdeal.nD Cert.WeightsIdeal.τ).loc Cert.WeightsIdeal.main_v1_5) = v5
          ∧ r.2.mem ((c.tc : Thread Cert.WeightsIdeal.nD Cert.WeightsIdeal.τ).loc Cert.WeightsIdeal.main_v1_6) = v6
          ∧ r.2.mem ((c.tc : Thread Cert.WeightsIdeal.nD Cert.WeightsIdeal.τ).loc Cert.WeightsIdeal.main_v1_7) = v7
          ∧ r.2.mem ((c.tc : Thread Cert.WeightsIdeal.nD Cert.WeightsIdeal.τ).loc Cert.WeightsIdeal.main_v1_8) = v8
          ∧ r.2.mem ((c.tc : Thread Cert.WeightsIdeal.nD Cert.WeightsIdeal.τ).loc Cert.WeightsIdeal.main_v1_9) = v9
          ∧ r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
          ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
          ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2)
          ∧ r.2.mem ((c.tc : Thread Cert.WeightsIdeal.nD Cert.WeightsIdeal.τ).loc Cert.WeightsIdeal.main_arg3) = m ((c.tc : Thread Cert.WeightsIdeal.nD Cert.WeightsIdeal.τ).loc Cert.WeightsIdeal.main_arg3)
          ∧ r.2.mem ((c.tc : Thread Cert.WeightsIdeal.nD Cert.WeightsIdeal.τ).loc Cert.WeightsIdeal.main_arg4) = m ((c.tc : Thread Cert.WeightsIdeal.nD Cert.WeightsIdeal.τ).loc Cert.WeightsIdeal.main_arg4)
          ∧ r.2.mem ((c.tc : Thread Cert.WeightsIdeal.nD Cert.WeightsIdeal.τ).loc Cert.WeightsIdeal.main_arg5) = m ((c.tc : Thread Cert.WeightsIdeal.nD Cert.WeightsIdeal.τ).loc Cert.WeightsIdeal.main_arg5)
          ∧ r.2.mem ((c.tc : Thread Cert.WeightsIdeal.nD Cert.WeightsIdeal.τ).loc Cert.WeightsIdeal.main_arg6) = m ((c.tc : Thread Cert.WeightsIdeal.nD Cert.WeightsIdeal.τ).loc Cert.WeightsIdeal.main_arg6)
          ∧ r.2.mem ((c.tc : Thread Cert.WeightsIdeal.nD Cert.WeightsIdeal.τ).loc Cert.WeightsIdeal.main_arg7) = m ((c.tc : Thread Cert.WeightsIdeal.nD Cert.WeightsIdeal.τ).loc Cert.WeightsIdeal.main_arg7)
          ∧ r.2.mem ((c.tc : Thread Cert.WeightsIdeal.nD Cert.WeightsIdeal.τ).loc Cert.WeightsIdeal.main_arg8) = m ((c.tc : Thread Cert.WeightsIdeal.nD Cert.WeightsIdeal.τ).loc Cert.WeightsIdeal.main_arg8)
          ∧ r.2.mem ((c.tc : Thread Cert.WeightsIdeal.nD Cert.WeightsIdeal.τ).loc Cert.WeightsIdeal.main_arg9) = m ((c.tc : Thread Cert.WeightsIdeal.nD Cert.WeightsIdeal.τ).loc Cert.WeightsIdeal.main_arg9))
      ∧ θ_run (Cert.WeightsReferenceIdeal.defs (F := Ideal)) (onTc (τ := Cert.WeightsReferenceIdeal.τ) (Cert.WeightsReferenceIdeal.main (F := Ideal))) ⟨m', fun _ => 0, g'⟩ (fun r =>
          r.2.mem (((0 : Dev Cert.WeightsReferenceIdeal.nD).tc : Thread Cert.WeightsReferenceIdeal.nD Cert.WeightsReferenceIdeal.τ).loc Cert.WeightsReferenceIdeal.main_v1) = v0
          ∧ r.2.mem (((0 : Dev Cert.WeightsReferenceIdeal.nD).tc : Thread Cert.WeightsReferenceIdeal.nD Cert.WeightsReferenceIdeal.τ).loc Cert.WeightsReferenceIdeal.main_v3) = v1
          ∧ r.2.mem (((0 : Dev Cert.WeightsReferenceIdeal.nD).tc : Thread Cert.WeightsReferenceIdeal.nD Cert.WeightsReferenceIdeal.τ).loc Cert.WeightsReferenceIdeal.main_v4) = v2
          ∧ r.2.mem (((0 : Dev Cert.WeightsReferenceIdeal.nD).tc : Thread Cert.WeightsReferenceIdeal.nD Cert.WeightsReferenceIdeal.τ).loc Cert.WeightsReferenceIdeal.main_v6) = v3
          ∧ r.2.mem (((0 : Dev Cert.WeightsReferenceIdeal.nD).tc : Thread Cert.WeightsReferenceIdeal.nD Cert.WeightsReferenceIdeal.τ).loc Cert.WeightsReferenceIdeal.main_v7) = v4
          ∧ r.2.mem (((0 : Dev Cert.WeightsReferenceIdeal.nD).tc : Thread Cert.WeightsReferenceIdeal.nD Cert.WeightsReferenceIdeal.τ).loc Cert.WeightsReferenceIdeal.main_v8) = v5
          ∧ r.2.mem (((0 : Dev Cert.WeightsReferenceIdeal.nD).tc : Thread Cert.WeightsReferenceIdeal.nD Cert.WeightsReferenceIdeal.τ).loc Cert.WeightsReferenceIdeal.main_v10) = v6
          ∧ r.2.mem (((0 : Dev Cert.WeightsReferenceIdeal.nD).tc : Thread Cert.WeightsReferenceIdeal.nD Cert.WeightsReferenceIdeal.τ).loc Cert.WeightsReferenceIdeal.main_v12) = v7
          ∧ r.2.mem (((0 : Dev Cert.WeightsReferenceIdeal.nD).tc : Thread Cert.WeightsReferenceIdeal.nD Cert.WeightsReferenceIdeal.τ).loc Cert.WeightsReferenceIdeal.main_v13) = v8
          ∧ r.2.mem (((0 : Dev Cert.WeightsReferenceIdeal.nD).tc : Thread Cert.WeightsReferenceIdeal.nD Cert.WeightsReferenceIdeal.τ).loc Cert.WeightsReferenceIdeal.main_v15) = v9
          ∧ r.2.mem (((0 : Dev Cert.WeightsReferenceIdeal.nD).tc : Thread Cert.WeightsReferenceIdeal.nD Cert.WeightsReferenceIdeal.τ).loc Cert.WeightsReferenceIdeal.main_arg0) = m' (((0 : Dev Cert.WeightsReferenceIdeal.nD).tc : Thread Cert.WeightsReferenceIdeal.nD Cert.WeightsReferenceIdeal.τ).loc Cert.WeightsReferenceIdeal.main_arg0)
          ∧ r.2.mem (((0 : Dev Cert.WeightsReferenceIdeal.nD).tc : Thread Cert.WeightsReferenceIdeal.nD Cert.WeightsReferenceIdeal.τ).loc Cert.WeightsReferenceIdeal.main_arg1) = m' (((0 : Dev Cert.WeightsReferenceIdeal.nD).tc : Thread Cert.WeightsReferenceIdeal.nD Cert.WeightsReferenceIdeal.τ).loc Cert.WeightsReferenceIdeal.main_arg1)
          ∧ r.2.mem (((0 : Dev Cert.WeightsReferenceIdeal.nD).tc : Thread Cert.WeightsReferenceIdeal.nD Cert.WeightsReferenceIdeal.τ).loc Cert.WeightsReferenceIdeal.main_arg2) = m' (((0 : Dev Cert.WeightsReferenceIdeal.nD).tc : Thread Cert.WeightsReferenceIdeal.nD Cert.WeightsReferenceIdeal.τ).loc Cert.WeightsReferenceIdeal.main_arg2)
          ∧ r.2.mem (((0 : Dev Cert.WeightsReferenceIdeal.nD).tc : Thread Cert.WeightsReferenceIdeal.nD Cert.WeightsReferenceIdeal.τ).loc Cert.WeightsReferenceIdeal.main_arg3) = m' (((0 : Dev Cert.WeightsReferenceIdeal.nD).tc : Thread Cert.WeightsReferenceIdeal.nD Cert.WeightsReferenceIdeal.τ).loc Cert.WeightsReferenceIdeal.main_arg3)
          ∧ r.2.mem (((0 : Dev Cert.WeightsReferenceIdeal.nD).tc : Thread Cert.WeightsReferenceIdeal.nD Cert.WeightsReferenceIdeal.τ).loc Cert.WeightsReferenceIdeal.main_arg4) = m' (((0 : Dev Cert.WeightsReferenceIdeal.nD).tc : Thread Cert.WeightsReferenceIdeal.nD Cert.WeightsReferenceIdeal.τ).loc Cert.WeightsReferenceIdeal.main_arg4)
          ∧ r.2.mem (((0 : Dev Cert.WeightsReferenceIdeal.nD).tc : Thread Cert.WeightsReferenceIdeal.nD Cert.WeightsReferenceIdeal.τ).loc Cert.WeightsReferenceIdeal.main_arg5) = m' (((0 : Dev Cert.WeightsReferenceIdeal.nD).tc : Thread Cert.WeightsReferenceIdeal.nD Cert.WeightsReferenceIdeal.τ).loc Cert.WeightsReferenceIdeal.main_arg5)
          ∧ r.2.mem (((0 : Dev Cert.WeightsReferenceIdeal.nD).tc : Thread Cert.WeightsReferenceIdeal.nD Cert.WeightsReferenceIdeal.τ).loc Cert.WeightsReferenceIdeal.main_arg6) = m' (((0 : Dev Cert.WeightsReferenceIdeal.nD).tc : Thread Cert.WeightsReferenceIdeal.nD Cert.WeightsReferenceIdeal.τ).loc Cert.WeightsReferenceIdeal.main_arg6)
          ∧ r.2.mem (((0 : Dev Cert.WeightsReferenceIdeal.nD).tc : Thread Cert.WeightsReferenceIdeal.nD Cert.WeightsReferenceIdeal.τ).loc Cert.WeightsReferenceIdeal.main_arg7) = m' (((0 : Dev Cert.WeightsReferenceIdeal.nD).tc : Thread Cert.WeightsReferenceIdeal.nD Cert.WeightsReferenceIdeal.τ).loc Cert.WeightsReferenceIdeal.main_arg7)
          ∧ r.2.mem (((0 : Dev Cert.WeightsReferenceIdeal.nD).tc : Thread Cert.WeightsReferenceIdeal.nD Cert.WeightsReferenceIdeal.τ).loc Cert.WeightsReferenceIdeal.main_arg8) = m' (((0 : Dev Cert.WeightsReferenceIdeal.nD).tc : Thread Cert.WeightsReferenceIdeal.nD Cert.WeightsReferenceIdeal.τ).loc Cert.WeightsReferenceIdeal.main_arg8)
          ∧ r.2.mem (((0 : Dev Cert.WeightsReferenceIdeal.nD).tc : Thread Cert.WeightsReferenceIdeal.nD Cert.WeightsReferenceIdeal.τ).loc Cert.WeightsReferenceIdeal.main_arg9) = m' (((0 : Dev Cert.WeightsReferenceIdeal.nD).tc : Thread Cert.WeightsReferenceIdeal.nD Cert.WeightsReferenceIdeal.τ).loc Cert.WeightsReferenceIdeal.main_arg9))

def bitexact_Weights_WeightsReference [hWeights : Cert.Weights.Facts] [hWeightsReference : Cert.WeightsReference.Facts] : Prop :=
  ∀ (m : (ℓ : Loc Cert.Weights.nD Cert.Weights.τ Cert.Weights.sig) → Buf (Elt Bits) ℓ) (g : Dev Cert.Weights.nD → PrngReg)
    (m' : (ℓ : Loc Cert.WeightsReference.nD Cert.WeightsReference.τ Cert.WeightsReference.sig) → Buf (Elt Bits) ℓ) (g' : Dev Cert.WeightsReference.nD → PrngReg), Pre_Weights m →
    (∀ c : Dev Cert.Weights.nD,
      m ((c.tc : Thread Cert.Weights.nD Cert.Weights.τ).loc Cert.Weights.main_arg0) = Layout.block ⟨2, ![1024, 352]⟩ ⟨2, ![1024, 2816]⟩ 1 8 c (m' (((0 : Dev Cert.WeightsReference.nD).tc : Thread Cert.WeightsReference.nD Cert.WeightsReference.τ).loc Cert.WeightsReference.main_arg0))
      ∧ m ((c.tc : Thread Cert.Weights.nD Cert.Weights.τ).loc Cert.Weights.main_arg1) = Layout.block ⟨2, ![1024, 352]⟩ ⟨2, ![1024, 2816]⟩ 1 8 c (m' (((0 : Dev Cert.WeightsReference.nD).tc : Thread Cert.WeightsReference.nD Cert.WeightsReference.τ).loc Cert.WeightsReference.main_arg1))
      ∧ m ((c.tc : Thread Cert.Weights.nD Cert.Weights.τ).loc Cert.Weights.main_arg2) = Layout.block ⟨2, ![352, 1024]⟩ ⟨2, ![2816, 1024]⟩ 0 8 c (m' (((0 : Dev Cert.WeightsReference.nD).tc : Thread Cert.WeightsReference.nD Cert.WeightsReference.τ).loc Cert.WeightsReference.main_arg2))
      ∧ m ((c.tc : Thread Cert.Weights.nD Cert.Weights.τ).loc Cert.Weights.main_arg3) = Layout.block ⟨2, ![1024, 192]⟩ ⟨2, ![1024, 1536]⟩ 1 8 c (m' (((0 : Dev Cert.WeightsReference.nD).tc : Thread Cert.WeightsReference.nD Cert.WeightsReference.τ).loc Cert.WeightsReference.main_arg3))
      ∧ m ((c.tc : Thread Cert.Weights.nD Cert.Weights.τ).loc Cert.Weights.main_arg4) = Layout.block ⟨2, ![128, 512]⟩ ⟨2, ![1024, 512]⟩ 0 8 c (m' (((0 : Dev Cert.WeightsReference.nD).tc : Thread Cert.WeightsReference.nD Cert.WeightsReference.τ).loc Cert.WeightsReference.main_arg4))
      ∧ m ((c.tc : Thread Cert.Weights.nD Cert.Weights.τ).loc Cert.Weights.main_arg5) = Layout.block ⟨2, ![128, 1024]⟩ ⟨2, ![1024, 1024]⟩ 0 8 c (m' (((0 : Dev Cert.WeightsReference.nD).tc : Thread Cert.WeightsReference.nD Cert.WeightsReference.τ).loc Cert.WeightsReference.main_arg5))
      ∧ m ((c.tc : Thread Cert.Weights.nD Cert.Weights.τ).loc Cert.Weights.main_arg6) = Layout.block ⟨2, ![1024, 352]⟩ ⟨2, ![1024, 2816]⟩ 1 8 c (m' (((0 : Dev Cert.WeightsReference.nD).tc : Thread Cert.WeightsReference.nD Cert.WeightsReference.τ).loc Cert.WeightsReference.main_arg6))
      ∧ m ((c.tc : Thread Cert.Weights.nD Cert.Weights.τ).loc Cert.Weights.main_arg7) = Layout.block ⟨2, ![1024, 352]⟩ ⟨2, ![1024, 2816]⟩ 1 8 c (m' (((0 : Dev Cert.WeightsReference.nD).tc : Thread Cert.WeightsReference.nD Cert.WeightsReference.τ).loc Cert.WeightsReference.main_arg7))
      ∧ m ((c.tc : Thread Cert.Weights.nD Cert.Weights.τ).loc Cert.Weights.main_arg8) = Layout.block ⟨2, ![352, 1024]⟩ ⟨2, ![2816, 1024]⟩ 0 8 c (m' (((0 : Dev Cert.WeightsReference.nD).tc : Thread Cert.WeightsReference.nD Cert.WeightsReference.τ).loc Cert.WeightsReference.main_arg8))
      ∧ m ((c.tc : Thread Cert.Weights.nD Cert.Weights.τ).loc Cert.Weights.main_arg9) = Layout.block ⟨2, ![31, 32]⟩ ⟨2, ![31, 256]⟩ 1 8 c (m' (((0 : Dev Cert.WeightsReference.nD).tc : Thread Cert.WeightsReference.nD Cert.WeightsReference.τ).loc Cert.WeightsReference.main_arg9))) →
    ∃ (v0 : Buf (Elt Bits) (((0 : Dev Cert.WeightsReference.nD).tc : Thread Cert.WeightsReference.nD Cert.WeightsReference.τ).loc Cert.WeightsReference.main_v1)) (v1 : Buf (Elt Bits) (((0 : Dev Cert.WeightsReference.nD).tc : Thread Cert.WeightsReference.nD Cert.WeightsReference.τ).loc Cert.WeightsReference.main_v3)) (v2 : Buf (Elt Bits) (((0 : Dev Cert.WeightsReference.nD).tc : Thread Cert.WeightsReference.nD Cert.WeightsReference.τ).loc Cert.WeightsReference.main_v4)) (v3 : Buf (Elt Bits) (((0 : Dev Cert.WeightsReference.nD).tc : Thread Cert.WeightsReference.nD Cert.WeightsReference.τ).loc Cert.WeightsReference.main_v6)) (v4 : Buf (Elt Bits) (((0 : Dev Cert.WeightsReference.nD).tc : Thread Cert.WeightsReference.nD Cert.WeightsReference.τ).loc Cert.WeightsReference.main_v7)) (v5 : Buf (Elt Bits) (((0 : Dev Cert.WeightsReference.nD).tc : Thread Cert.WeightsReference.nD Cert.WeightsReference.τ).loc Cert.WeightsReference.main_v8)) (v6 : Buf (Elt Bits) (((0 : Dev Cert.WeightsReference.nD).tc : Thread Cert.WeightsReference.nD Cert.WeightsReference.τ).loc Cert.WeightsReference.main_v10)) (v7 : Buf (Elt Bits) (((0 : Dev Cert.WeightsReference.nD).tc : Thread Cert.WeightsReference.nD Cert.WeightsReference.τ).loc Cert.WeightsReference.main_v12)) (v8 : Buf (Elt Bits) (((0 : Dev Cert.WeightsReference.nD).tc : Thread Cert.WeightsReference.nD Cert.WeightsReference.τ).loc Cert.WeightsReference.main_v13)) (v9 : Buf (Elt Bits) (((0 : Dev Cert.WeightsReference.nD).tc : Thread Cert.WeightsReference.nD Cert.WeightsReference.τ).loc Cert.WeightsReference.main_v15)),
      θ_run (Cert.Weights.defs (F := Bits)) (onTc (τ := Cert.Weights.τ) (Cert.Weights.main (F := Bits))) ⟨m, fun _ => 0, g⟩ (fun r => ∀ c : Dev Cert.Weights.nD,
          r.2.mem ((c.tc : Thread Cert.Weights.nD Cert.Weights.τ).loc Cert.Weights.main_v1_0) = v0
          ∧ r.2.mem ((c.tc : Thread Cert.Weights.nD Cert.Weights.τ).loc Cert.Weights.main_v1_1) = v1
          ∧ r.2.mem ((c.tc : Thread Cert.Weights.nD Cert.Weights.τ).loc Cert.Weights.main_v1_2) = v2
          ∧ r.2.mem ((c.tc : Thread Cert.Weights.nD Cert.Weights.τ).loc Cert.Weights.main_v1_3) = v3
          ∧ r.2.mem ((c.tc : Thread Cert.Weights.nD Cert.Weights.τ).loc Cert.Weights.main_v1_4) = v4
          ∧ r.2.mem ((c.tc : Thread Cert.Weights.nD Cert.Weights.τ).loc Cert.Weights.main_v1_5) = v5
          ∧ r.2.mem ((c.tc : Thread Cert.Weights.nD Cert.Weights.τ).loc Cert.Weights.main_v1_6) = v6
          ∧ r.2.mem ((c.tc : Thread Cert.Weights.nD Cert.Weights.τ).loc Cert.Weights.main_v1_7) = v7
          ∧ r.2.mem ((c.tc : Thread Cert.Weights.nD Cert.Weights.τ).loc Cert.Weights.main_v1_8) = v8
          ∧ r.2.mem ((c.tc : Thread Cert.Weights.nD Cert.Weights.τ).loc Cert.Weights.main_v1_9) = v9
          ∧ r.2.mem ((c.tc : Thread Cert.Weights.nD Cert.Weights.τ).loc Cert.Weights.main_arg0) = m ((c.tc : Thread Cert.Weights.nD Cert.Weights.τ).loc Cert.Weights.main_arg0)
          ∧ r.2.mem ((c.tc : Thread Cert.Weights.nD Cert.Weights.τ).loc Cert.Weights.main_arg1) = m ((c.tc : Thread Cert.Weights.nD Cert.Weights.τ).loc Cert.Weights.main_arg1)
          ∧ r.2.mem ((c.tc : Thread Cert.Weights.nD Cert.Weights.τ).loc Cert.Weights.main_arg2) = m ((c.tc : Thread Cert.Weights.nD Cert.Weights.τ).loc Cert.Weights.main_arg2)
          ∧ r.2.mem ((c.tc : Thread Cert.Weights.nD Cert.Weights.τ).loc Cert.Weights.main_arg3) = m ((c.tc : Thread Cert.Weights.nD Cert.Weights.τ).loc Cert.Weights.main_arg3)
          ∧ r.2.mem ((c.tc : Thread Cert.Weights.nD Cert.Weights.τ).loc Cert.Weights.main_arg4) = m ((c.tc : Thread Cert.Weights.nD Cert.Weights.τ).loc Cert.Weights.main_arg4)
          ∧ r.2.mem ((c.tc : Thread Cert.Weights.nD Cert.Weights.τ).loc Cert.Weights.main_arg5) = m ((c.tc : Thread Cert.Weights.nD Cert.Weights.τ).loc Cert.Weights.main_arg5)
          ∧ r.2.mem ((c.tc : Thread Cert.Weights.nD Cert.Weights.τ).loc Cert.Weights.main_arg6) = m ((c.tc : Thread Cert.Weights.nD Cert.Weights.τ).loc Cert.Weights.main_arg6)
          ∧ r.2.mem ((c.tc : Thread Cert.Weights.nD Cert.Weights.τ).loc Cert.Weights.main_arg7) = m ((c.tc : Thread Cert.Weights.nD Cert.Weights.τ).loc Cert.Weights.main_arg7)
          ∧ r.2.mem ((c.tc : Thread Cert.Weights.nD Cert.Weights.τ).loc Cert.Weights.main_arg8) = m ((c.tc : Thread Cert.Weights.nD Cert.Weights.τ).loc Cert.Weights.main_arg8)
          ∧ r.2.mem ((c.tc : Thread Cert.Weights.nD Cert.Weights.τ).loc Cert.Weights.main_arg9) = m ((c.tc : Thread Cert.Weights.nD Cert.Weights.τ).loc Cert.Weights.main_arg9))
      ∧ θ_run (Cert.WeightsReference.defs (F := Bits)) (onTc (τ := Cert.WeightsReference.τ) (Cert.WeightsReference.main (F := Bits))) ⟨m', fun _ => 0, g'⟩ (fun r =>
          r.2.mem (((0 : Dev Cert.WeightsReference.nD).tc : Thread Cert.WeightsReference.nD Cert.WeightsReference.τ).loc Cert.WeightsReference.main_v1) = v0
          ∧ r.2.mem (((0 : Dev Cert.WeightsReference.nD).tc : Thread Cert.WeightsReference.nD Cert.WeightsReference.τ).loc Cert.WeightsReference.main_v3) = v1
          ∧ r.2.mem (((0 : Dev Cert.WeightsReference.nD).tc : Thread Cert.WeightsReference.nD Cert.WeightsReference.τ).loc Cert.WeightsReference.main_v4) = v2
          ∧ r.2.mem (((0 : Dev Cert.WeightsReference.nD).tc : Thread Cert.WeightsReference.nD Cert.WeightsReference.τ).loc Cert.WeightsReference.main_v6) = v3
          ∧ r.2.mem (((0 : Dev Cert.WeightsReference.nD).tc : Thread Cert.WeightsReference.nD Cert.WeightsReference.τ).loc Cert.WeightsReference.main_v7) = v4
          ∧ r.2.mem (((0 : Dev Cert.WeightsReference.nD).tc : Thread Cert.WeightsReference.nD Cert.WeightsReference.τ).loc Cert.WeightsReference.main_v8) = v5
          ∧ r.2.mem (((0 : Dev Cert.WeightsReference.nD).tc : Thread Cert.WeightsReference.nD Cert.WeightsReference.τ).loc Cert.WeightsReference.main_v10) = v6
          ∧ r.2.mem (((0 : Dev Cert.WeightsReference.nD).tc : Thread Cert.WeightsReference.nD Cert.WeightsReference.τ).loc Cert.WeightsReference.main_v12) = v7
          ∧ r.2.mem (((0 : Dev Cert.WeightsReference.nD).tc : Thread Cert.WeightsReference.nD Cert.WeightsReference.τ).loc Cert.WeightsReference.main_v13) = v8
          ∧ r.2.mem (((0 : Dev Cert.WeightsReference.nD).tc : Thread Cert.WeightsReference.nD Cert.WeightsReference.τ).loc Cert.WeightsReference.main_v15) = v9
          ∧ r.2.mem (((0 : Dev Cert.WeightsReference.nD).tc : Thread Cert.WeightsReference.nD Cert.WeightsReference.τ).loc Cert.WeightsReference.main_arg0) = m' (((0 : Dev Cert.WeightsReference.nD).tc : Thread Cert.WeightsReference.nD Cert.WeightsReference.τ).loc Cert.WeightsReference.main_arg0)
          ∧ r.2.mem (((0 : Dev Cert.WeightsReference.nD).tc : Thread Cert.WeightsReference.nD Cert.WeightsReference.τ).loc Cert.WeightsReference.main_arg1) = m' (((0 : Dev Cert.WeightsReference.nD).tc : Thread Cert.WeightsReference.nD Cert.WeightsReference.τ).loc Cert.WeightsReference.main_arg1)
          ∧ r.2.mem (((0 : Dev Cert.WeightsReference.nD).tc : Thread Cert.WeightsReference.nD Cert.WeightsReference.τ).loc Cert.WeightsReference.main_arg2) = m' (((0 : Dev Cert.WeightsReference.nD).tc : Thread Cert.WeightsReference.nD Cert.WeightsReference.τ).loc Cert.WeightsReference.main_arg2)
          ∧ r.2.mem (((0 : Dev Cert.WeightsReference.nD).tc : Thread Cert.WeightsReference.nD Cert.WeightsReference.τ).loc Cert.WeightsReference.main_arg3) = m' (((0 : Dev Cert.WeightsReference.nD).tc : Thread Cert.WeightsReference.nD Cert.WeightsReference.τ).loc Cert.WeightsReference.main_arg3)
          ∧ r.2.mem (((0 : Dev Cert.WeightsReference.nD).tc : Thread Cert.WeightsReference.nD Cert.WeightsReference.τ).loc Cert.WeightsReference.main_arg4) = m' (((0 : Dev Cert.WeightsReference.nD).tc : Thread Cert.WeightsReference.nD Cert.WeightsReference.τ).loc Cert.WeightsReference.main_arg4)
          ∧ r.2.mem (((0 : Dev Cert.WeightsReference.nD).tc : Thread Cert.WeightsReference.nD Cert.WeightsReference.τ).loc Cert.WeightsReference.main_arg5) = m' (((0 : Dev Cert.WeightsReference.nD).tc : Thread Cert.WeightsReference.nD Cert.WeightsReference.τ).loc Cert.WeightsReference.main_arg5)
          ∧ r.2.mem (((0 : Dev Cert.WeightsReference.nD).tc : Thread Cert.WeightsReference.nD Cert.WeightsReference.τ).loc Cert.WeightsReference.main_arg6) = m' (((0 : Dev Cert.WeightsReference.nD).tc : Thread Cert.WeightsReference.nD Cert.WeightsReference.τ).loc Cert.WeightsReference.main_arg6)
          ∧ r.2.mem (((0 : Dev Cert.WeightsReference.nD).tc : Thread Cert.WeightsReference.nD Cert.WeightsReference.τ).loc Cert.WeightsReference.main_arg7) = m' (((0 : Dev Cert.WeightsReference.nD).tc : Thread Cert.WeightsReference.nD Cert.WeightsReference.τ).loc Cert.WeightsReference.main_arg7)
          ∧ r.2.mem (((0 : Dev Cert.WeightsReference.nD).tc : Thread Cert.WeightsReference.nD Cert.WeightsReference.τ).loc Cert.WeightsReference.main_arg8) = m' (((0 : Dev Cert.WeightsReference.nD).tc : Thread Cert.WeightsReference.nD Cert.WeightsReference.τ).loc Cert.WeightsReference.main_arg8)
          ∧ r.2.mem (((0 : Dev Cert.WeightsReference.nD).tc : Thread Cert.WeightsReference.nD Cert.WeightsReference.τ).loc Cert.WeightsReference.main_arg9) = m' (((0 : Dev Cert.WeightsReference.nD).tc : Thread Cert.WeightsReference.nD Cert.WeightsReference.τ).loc Cert.WeightsReference.main_arg9))

def preserves_UpdateIn_UpdateInIdeal : Prop :=
  True

def algebraic_UpdateInIdeal_UpdateInReferenceIdeal [hUpdateInIdeal : Cert.UpdateInIdeal.Facts] [hUpdateInReferenceIdeal : Cert.UpdateInReferenceIdeal.Facts] : Prop :=
  ∀ (m : (ℓ : Loc Cert.UpdateInIdeal.nD Cert.UpdateInIdeal.τ Cert.UpdateInIdeal.sig) → Buf (Elt Ideal) ℓ) (g : Dev Cert.UpdateInIdeal.nD → PrngReg)
    (m' : (ℓ : Loc Cert.UpdateInReferenceIdeal.nD Cert.UpdateInReferenceIdeal.τ Cert.UpdateInReferenceIdeal.sig) → Buf (Elt Ideal) ℓ) (g' : Dev Cert.UpdateInReferenceIdeal.nD → PrngReg), Pre_UpdateInIdeal m →
    (∀ c : Dev Cert.UpdateInIdeal.nD,
      m' ((c.tc : Thread Cert.UpdateInReferenceIdeal.nD Cert.UpdateInReferenceIdeal.τ).loc Cert.UpdateInReferenceIdeal.main_arg0) = m ((c.tc : Thread Cert.UpdateInIdeal.nD Cert.UpdateInIdeal.τ).loc Cert.UpdateInIdeal.main_arg0)
      ∧ m' ((c.tc : Thread Cert.UpdateInReferenceIdeal.nD Cert.UpdateInReferenceIdeal.τ).loc Cert.UpdateInReferenceIdeal.main_arg1) = m ((c.tc : Thread Cert.UpdateInIdeal.nD Cert.UpdateInIdeal.τ).loc Cert.UpdateInIdeal.main_arg1)
      ∧ m' ((c.tc : Thread Cert.UpdateInReferenceIdeal.nD Cert.UpdateInReferenceIdeal.τ).loc Cert.UpdateInReferenceIdeal.main_arg2) = m ((c.tc : Thread Cert.UpdateInIdeal.nD Cert.UpdateInIdeal.τ).loc Cert.UpdateInIdeal.main_arg2)
      ∧ m' ((c.tc : Thread Cert.UpdateInReferenceIdeal.nD Cert.UpdateInReferenceIdeal.τ).loc Cert.UpdateInReferenceIdeal.main_arg3) = m ((c.tc : Thread Cert.UpdateInIdeal.nD Cert.UpdateInIdeal.τ).loc Cert.UpdateInIdeal.main_arg3)) →
    ∃ (v0 : (c : Dev Cert.UpdateInIdeal.nD) → Buf (Elt Ideal) ((c.tc : Thread Cert.UpdateInIdeal.nD Cert.UpdateInIdeal.τ).loc Cert.UpdateInIdeal.main_v0_0)) (v1 : (c : Dev Cert.UpdateInIdeal.nD) → Buf (Elt Ideal) ((c.tc : Thread Cert.UpdateInIdeal.nD Cert.UpdateInIdeal.τ).loc Cert.UpdateInIdeal.main_v0_1)) (v2 : (c : Dev Cert.UpdateInIdeal.nD) → Buf (Elt Ideal) ((c.tc : Thread Cert.UpdateInIdeal.nD Cert.UpdateInIdeal.τ).loc Cert.UpdateInIdeal.main_v0_2)) (v3 : (c : Dev Cert.UpdateInIdeal.nD) → Buf (Elt Ideal) ((c.tc : Thread Cert.UpdateInIdeal.nD Cert.UpdateInIdeal.τ).loc Cert.UpdateInIdeal.main_v0_3)),
      θ_run (Cert.UpdateInIdeal.defs (F := Ideal)) (onTc (τ := Cert.UpdateInIdeal.τ) (Cert.UpdateInIdeal.main (F := Ideal))) ⟨m, fun _ => 0, g⟩ (fun r => ∀ c : Dev Cert.UpdateInIdeal.nD,
          r.2.mem ((c.tc : Thread Cert.UpdateInIdeal.nD Cert.UpdateInIdeal.τ).loc Cert.UpdateInIdeal.main_v0_0) = v0 c
          ∧ r.2.mem ((c.tc : Thread Cert.UpdateInIdeal.nD Cert.UpdateInIdeal.τ).loc Cert.UpdateInIdeal.main_v0_1) = v1 c
          ∧ r.2.mem ((c.tc : Thread Cert.UpdateInIdeal.nD Cert.UpdateInIdeal.τ).loc Cert.UpdateInIdeal.main_v0_2) = v2 c
          ∧ r.2.mem ((c.tc : Thread Cert.UpdateInIdeal.nD Cert.UpdateInIdeal.τ).loc Cert.UpdateInIdeal.main_v0_3) = v3 c
          ∧ r.2.mem ((c.tc : Thread Cert.UpdateInIdeal.nD Cert.UpdateInIdeal.τ).loc Cert.UpdateInIdeal.main_arg0) = m ((c.tc : Thread Cert.UpdateInIdeal.nD Cert.UpdateInIdeal.τ).loc Cert.UpdateInIdeal.main_arg0)
          ∧ r.2.mem ((c.tc : Thread Cert.UpdateInIdeal.nD Cert.UpdateInIdeal.τ).loc Cert.UpdateInIdeal.main_arg1) = m ((c.tc : Thread Cert.UpdateInIdeal.nD Cert.UpdateInIdeal.τ).loc Cert.UpdateInIdeal.main_arg1)
          ∧ r.2.mem ((c.tc : Thread Cert.UpdateInIdeal.nD Cert.UpdateInIdeal.τ).loc Cert.UpdateInIdeal.main_arg2) = m ((c.tc : Thread Cert.UpdateInIdeal.nD Cert.UpdateInIdeal.τ).loc Cert.UpdateInIdeal.main_arg2)
          ∧ r.2.mem ((c.tc : Thread Cert.UpdateInIdeal.nD Cert.UpdateInIdeal.τ).loc Cert.UpdateInIdeal.main_arg3) = m ((c.tc : Thread Cert.UpdateInIdeal.nD Cert.UpdateInIdeal.τ).loc Cert.UpdateInIdeal.main_arg3))
      ∧ θ_run (Cert.UpdateInReferenceIdeal.defs (F := Ideal)) (onTc (τ := Cert.UpdateInReferenceIdeal.τ) (Cert.UpdateInReferenceIdeal.main (F := Ideal))) ⟨m', fun _ => 0, g'⟩ (fun r => ∀ c : Dev Cert.UpdateInReferenceIdeal.nD,
          r.2.mem ((c.tc : Thread Cert.UpdateInReferenceIdeal.nD Cert.UpdateInReferenceIdeal.τ).loc Cert.UpdateInReferenceIdeal.main_v1) = v0 c
          ∧ r.2.mem ((c.tc : Thread Cert.UpdateInReferenceIdeal.nD Cert.UpdateInReferenceIdeal.τ).loc Cert.UpdateInReferenceIdeal.main_v25) = v1 c
          ∧ r.2.mem ((c.tc : Thread Cert.UpdateInReferenceIdeal.nD Cert.UpdateInReferenceIdeal.τ).loc Cert.UpdateInReferenceIdeal.main_v6) = v2 c
          ∧ r.2.mem ((c.tc : Thread Cert.UpdateInReferenceIdeal.nD Cert.UpdateInReferenceIdeal.τ).loc Cert.UpdateInReferenceIdeal.main_v12) = v3 c
          ∧ r.2.mem ((c.tc : Thread Cert.UpdateInReferenceIdeal.nD Cert.UpdateInReferenceIdeal.τ).loc Cert.UpdateInReferenceIdeal.main_arg0) = m' ((c.tc : Thread Cert.UpdateInReferenceIdeal.nD Cert.UpdateInReferenceIdeal.τ).loc Cert.UpdateInReferenceIdeal.main_arg0)
          ∧ r.2.mem ((c.tc : Thread Cert.UpdateInReferenceIdeal.nD Cert.UpdateInReferenceIdeal.τ).loc Cert.UpdateInReferenceIdeal.main_arg1) = m' ((c.tc : Thread Cert.UpdateInReferenceIdeal.nD Cert.UpdateInReferenceIdeal.τ).loc Cert.UpdateInReferenceIdeal.main_arg1)
          ∧ r.2.mem ((c.tc : Thread Cert.UpdateInReferenceIdeal.nD Cert.UpdateInReferenceIdeal.τ).loc Cert.UpdateInReferenceIdeal.main_arg2) = m' ((c.tc : Thread Cert.UpdateInReferenceIdeal.nD Cert.UpdateInReferenceIdeal.τ).loc Cert.UpdateInReferenceIdeal.main_arg2)
          ∧ r.2.mem ((c.tc : Thread Cert.UpdateInReferenceIdeal.nD Cert.UpdateInReferenceIdeal.τ).loc Cert.UpdateInReferenceIdeal.main_arg3) = m' ((c.tc : Thread Cert.UpdateInReferenceIdeal.nD Cert.UpdateInReferenceIdeal.τ).loc Cert.UpdateInReferenceIdeal.main_arg3))

def preserves_UpdateKv_UpdateKvIdeal : Prop :=
  True

def algebraic_UpdateKvIdeal_UpdateKvReferenceIdeal [hUpdateKvIdeal : Cert.UpdateKvIdeal.Facts] [hUpdateKvReferenceIdeal : Cert.UpdateKvReferenceIdeal.Facts] : Prop :=
  ∀ (m : (ℓ : Loc Cert.UpdateKvIdeal.nD Cert.UpdateKvIdeal.τ Cert.UpdateKvIdeal.sig) → Buf (Elt Ideal) ℓ) (g : Dev Cert.UpdateKvIdeal.nD → PrngReg)
    (m' : (ℓ : Loc Cert.UpdateKvReferenceIdeal.nD Cert.UpdateKvReferenceIdeal.τ Cert.UpdateKvReferenceIdeal.sig) → Buf (Elt Ideal) ℓ) (g' : Dev Cert.UpdateKvReferenceIdeal.nD → PrngReg), Pre_UpdateKvIdeal m →
    (∀ c : Dev Cert.UpdateKvIdeal.nD,
      m' ((c.tc : Thread Cert.UpdateKvReferenceIdeal.nD Cert.UpdateKvReferenceIdeal.τ).loc Cert.UpdateKvReferenceIdeal.main_arg0) = m ((c.tc : Thread Cert.UpdateKvIdeal.nD Cert.UpdateKvIdeal.τ).loc Cert.UpdateKvIdeal.main_arg0)
      ∧ m' ((c.tc : Thread Cert.UpdateKvReferenceIdeal.nD Cert.UpdateKvReferenceIdeal.τ).loc Cert.UpdateKvReferenceIdeal.main_arg1) = m ((c.tc : Thread Cert.UpdateKvIdeal.nD Cert.UpdateKvIdeal.τ).loc Cert.UpdateKvIdeal.main_arg1)
      ∧ m' ((c.tc : Thread Cert.UpdateKvReferenceIdeal.nD Cert.UpdateKvReferenceIdeal.τ).loc Cert.UpdateKvReferenceIdeal.main_arg2) = m ((c.tc : Thread Cert.UpdateKvIdeal.nD Cert.UpdateKvIdeal.τ).loc Cert.UpdateKvIdeal.main_arg2)
      ∧ m' ((c.tc : Thread Cert.UpdateKvReferenceIdeal.nD Cert.UpdateKvReferenceIdeal.τ).loc Cert.UpdateKvReferenceIdeal.main_arg3) = m ((c.tc : Thread Cert.UpdateKvIdeal.nD Cert.UpdateKvIdeal.τ).loc Cert.UpdateKvIdeal.main_arg3)) →
    ∃ (v0 : (c : Dev Cert.UpdateKvIdeal.nD) → Buf (Elt Ideal) ((c.tc : Thread Cert.UpdateKvIdeal.nD Cert.UpdateKvIdeal.τ).loc Cert.UpdateKvIdeal.main_v0_0)) (v1 : (c : Dev Cert.UpdateKvIdeal.nD) → Buf (Elt Ideal) ((c.tc : Thread Cert.UpdateKvIdeal.nD Cert.UpdateKvIdeal.τ).loc Cert.UpdateKvIdeal.main_v0_1)) (v2 : (c : Dev Cert.UpdateKvIdeal.nD) → Buf (Elt Ideal) ((c.tc : Thread Cert.UpdateKvIdeal.nD Cert.UpdateKvIdeal.τ).loc Cert.UpdateKvIdeal.main_v0_2)) (v3 : (c : Dev Cert.UpdateKvIdeal.nD) → Buf (Elt Ideal) ((c.tc : Thread Cert.UpdateKvIdeal.nD Cert.UpdateKvIdeal.τ).loc Cert.UpdateKvIdeal.main_v0_3)),
      θ_run (Cert.UpdateKvIdeal.defs (F := Ideal)) (onTc (τ := Cert.UpdateKvIdeal.τ) (Cert.UpdateKvIdeal.main (F := Ideal))) ⟨m, fun _ => 0, g⟩ (fun r => ∀ c : Dev Cert.UpdateKvIdeal.nD,
          r.2.mem ((c.tc : Thread Cert.UpdateKvIdeal.nD Cert.UpdateKvIdeal.τ).loc Cert.UpdateKvIdeal.main_v0_0) = v0 c
          ∧ r.2.mem ((c.tc : Thread Cert.UpdateKvIdeal.nD Cert.UpdateKvIdeal.τ).loc Cert.UpdateKvIdeal.main_v0_1) = v1 c
          ∧ r.2.mem ((c.tc : Thread Cert.UpdateKvIdeal.nD Cert.UpdateKvIdeal.τ).loc Cert.UpdateKvIdeal.main_v0_2) = v2 c
          ∧ r.2.mem ((c.tc : Thread Cert.UpdateKvIdeal.nD Cert.UpdateKvIdeal.τ).loc Cert.UpdateKvIdeal.main_v0_3) = v3 c
          ∧ r.2.mem ((c.tc : Thread Cert.UpdateKvIdeal.nD Cert.UpdateKvIdeal.τ).loc Cert.UpdateKvIdeal.main_arg0) = m ((c.tc : Thread Cert.UpdateKvIdeal.nD Cert.UpdateKvIdeal.τ).loc Cert.UpdateKvIdeal.main_arg0)
          ∧ r.2.mem ((c.tc : Thread Cert.UpdateKvIdeal.nD Cert.UpdateKvIdeal.τ).loc Cert.UpdateKvIdeal.main_arg1) = m ((c.tc : Thread Cert.UpdateKvIdeal.nD Cert.UpdateKvIdeal.τ).loc Cert.UpdateKvIdeal.main_arg1)
          ∧ r.2.mem ((c.tc : Thread Cert.UpdateKvIdeal.nD Cert.UpdateKvIdeal.τ).loc Cert.UpdateKvIdeal.main_arg2) = m ((c.tc : Thread Cert.UpdateKvIdeal.nD Cert.UpdateKvIdeal.τ).loc Cert.UpdateKvIdeal.main_arg2)
          ∧ r.2.mem ((c.tc : Thread Cert.UpdateKvIdeal.nD Cert.UpdateKvIdeal.τ).loc Cert.UpdateKvIdeal.main_arg3) = m ((c.tc : Thread Cert.UpdateKvIdeal.nD Cert.UpdateKvIdeal.τ).loc Cert.UpdateKvIdeal.main_arg3))
      ∧ θ_run (Cert.UpdateKvReferenceIdeal.defs (F := Ideal)) (onTc (τ := Cert.UpdateKvReferenceIdeal.τ) (Cert.UpdateKvReferenceIdeal.main (F := Ideal))) ⟨m', fun _ => 0, g'⟩ (fun r => ∀ c : Dev Cert.UpdateKvReferenceIdeal.nD,
          r.2.mem ((c.tc : Thread Cert.UpdateKvReferenceIdeal.nD Cert.UpdateKvReferenceIdeal.τ).loc Cert.UpdateKvReferenceIdeal.main_v1) = v0 c
          ∧ r.2.mem ((c.tc : Thread Cert.UpdateKvReferenceIdeal.nD Cert.UpdateKvReferenceIdeal.τ).loc Cert.UpdateKvReferenceIdeal.main_v25) = v1 c
          ∧ r.2.mem ((c.tc : Thread Cert.UpdateKvReferenceIdeal.nD Cert.UpdateKvReferenceIdeal.τ).loc Cert.UpdateKvReferenceIdeal.main_v6) = v2 c
          ∧ r.2.mem ((c.tc : Thread Cert.UpdateKvReferenceIdeal.nD Cert.UpdateKvReferenceIdeal.τ).loc Cert.UpdateKvReferenceIdeal.main_v12) = v3 c
          ∧ r.2.mem ((c.tc : Thread Cert.UpdateKvReferenceIdeal.nD Cert.UpdateKvReferenceIdeal.τ).loc Cert.UpdateKvReferenceIdeal.main_arg0) = m' ((c.tc : Thread Cert.UpdateKvReferenceIdeal.nD Cert.UpdateKvReferenceIdeal.τ).loc Cert.UpdateKvReferenceIdeal.main_arg0)
          ∧ r.2.mem ((c.tc : Thread Cert.UpdateKvReferenceIdeal.nD Cert.UpdateKvReferenceIdeal.τ).loc Cert.UpdateKvReferenceIdeal.main_arg1) = m' ((c.tc : Thread Cert.UpdateKvReferenceIdeal.nD Cert.UpdateKvReferenceIdeal.τ).loc Cert.UpdateKvReferenceIdeal.main_arg1)
          ∧ r.2.mem ((c.tc : Thread Cert.UpdateKvReferenceIdeal.nD Cert.UpdateKvReferenceIdeal.τ).loc Cert.UpdateKvReferenceIdeal.main_arg2) = m' ((c.tc : Thread Cert.UpdateKvReferenceIdeal.nD Cert.UpdateKvReferenceIdeal.τ).loc Cert.UpdateKvReferenceIdeal.main_arg2)
          ∧ r.2.mem ((c.tc : Thread Cert.UpdateKvReferenceIdeal.nD Cert.UpdateKvReferenceIdeal.τ).loc Cert.UpdateKvReferenceIdeal.main_arg3) = m' ((c.tc : Thread Cert.UpdateKvReferenceIdeal.nD Cert.UpdateKvReferenceIdeal.τ).loc Cert.UpdateKvReferenceIdeal.main_arg3))

def preserves_UpdateOut_UpdateOutIdeal : Prop :=
  True

def algebraic_UpdateOutIdeal_UpdateOutReferenceIdeal [hUpdateOutIdeal : Cert.UpdateOutIdeal.Facts] [hUpdateOutReferenceIdeal : Cert.UpdateOutReferenceIdeal.Facts] : Prop :=
  ∀ (m : (ℓ : Loc Cert.UpdateOutIdeal.nD Cert.UpdateOutIdeal.τ Cert.UpdateOutIdeal.sig) → Buf (Elt Ideal) ℓ) (g : Dev Cert.UpdateOutIdeal.nD → PrngReg)
    (m' : (ℓ : Loc Cert.UpdateOutReferenceIdeal.nD Cert.UpdateOutReferenceIdeal.τ Cert.UpdateOutReferenceIdeal.sig) → Buf (Elt Ideal) ℓ) (g' : Dev Cert.UpdateOutReferenceIdeal.nD → PrngReg), Pre_UpdateOutIdeal m →
    (∀ c : Dev Cert.UpdateOutIdeal.nD,
      m' ((c.tc : Thread Cert.UpdateOutReferenceIdeal.nD Cert.UpdateOutReferenceIdeal.τ).loc Cert.UpdateOutReferenceIdeal.main_arg0) = m ((c.tc : Thread Cert.UpdateOutIdeal.nD Cert.UpdateOutIdeal.τ).loc Cert.UpdateOutIdeal.main_arg0)
      ∧ m' ((c.tc : Thread Cert.UpdateOutReferenceIdeal.nD Cert.UpdateOutReferenceIdeal.τ).loc Cert.UpdateOutReferenceIdeal.main_arg1) = m ((c.tc : Thread Cert.UpdateOutIdeal.nD Cert.UpdateOutIdeal.τ).loc Cert.UpdateOutIdeal.main_arg1)
      ∧ m' ((c.tc : Thread Cert.UpdateOutReferenceIdeal.nD Cert.UpdateOutReferenceIdeal.τ).loc Cert.UpdateOutReferenceIdeal.main_arg2) = m ((c.tc : Thread Cert.UpdateOutIdeal.nD Cert.UpdateOutIdeal.τ).loc Cert.UpdateOutIdeal.main_arg2)
      ∧ m' ((c.tc : Thread Cert.UpdateOutReferenceIdeal.nD Cert.UpdateOutReferenceIdeal.τ).loc Cert.UpdateOutReferenceIdeal.main_arg3) = m ((c.tc : Thread Cert.UpdateOutIdeal.nD Cert.UpdateOutIdeal.τ).loc Cert.UpdateOutIdeal.main_arg3)) →
    ∃ (v0 : (c : Dev Cert.UpdateOutIdeal.nD) → Buf (Elt Ideal) ((c.tc : Thread Cert.UpdateOutIdeal.nD Cert.UpdateOutIdeal.τ).loc Cert.UpdateOutIdeal.main_v0_0)) (v1 : (c : Dev Cert.UpdateOutIdeal.nD) → Buf (Elt Ideal) ((c.tc : Thread Cert.UpdateOutIdeal.nD Cert.UpdateOutIdeal.τ).loc Cert.UpdateOutIdeal.main_v0_1)) (v2 : (c : Dev Cert.UpdateOutIdeal.nD) → Buf (Elt Ideal) ((c.tc : Thread Cert.UpdateOutIdeal.nD Cert.UpdateOutIdeal.τ).loc Cert.UpdateOutIdeal.main_v0_2)) (v3 : (c : Dev Cert.UpdateOutIdeal.nD) → Buf (Elt Ideal) ((c.tc : Thread Cert.UpdateOutIdeal.nD Cert.UpdateOutIdeal.τ).loc Cert.UpdateOutIdeal.main_v0_3)),
      θ_run (Cert.UpdateOutIdeal.defs (F := Ideal)) (onTc (τ := Cert.UpdateOutIdeal.τ) (Cert.UpdateOutIdeal.main (F := Ideal))) ⟨m, fun _ => 0, g⟩ (fun r => ∀ c : Dev Cert.UpdateOutIdeal.nD,
          r.2.mem ((c.tc : Thread Cert.UpdateOutIdeal.nD Cert.UpdateOutIdeal.τ).loc Cert.UpdateOutIdeal.main_v0_0) = v0 c
          ∧ r.2.mem ((c.tc : Thread Cert.UpdateOutIdeal.nD Cert.UpdateOutIdeal.τ).loc Cert.UpdateOutIdeal.main_v0_1) = v1 c
          ∧ r.2.mem ((c.tc : Thread Cert.UpdateOutIdeal.nD Cert.UpdateOutIdeal.τ).loc Cert.UpdateOutIdeal.main_v0_2) = v2 c
          ∧ r.2.mem ((c.tc : Thread Cert.UpdateOutIdeal.nD Cert.UpdateOutIdeal.τ).loc Cert.UpdateOutIdeal.main_v0_3) = v3 c
          ∧ r.2.mem ((c.tc : Thread Cert.UpdateOutIdeal.nD Cert.UpdateOutIdeal.τ).loc Cert.UpdateOutIdeal.main_arg0) = m ((c.tc : Thread Cert.UpdateOutIdeal.nD Cert.UpdateOutIdeal.τ).loc Cert.UpdateOutIdeal.main_arg0)
          ∧ r.2.mem ((c.tc : Thread Cert.UpdateOutIdeal.nD Cert.UpdateOutIdeal.τ).loc Cert.UpdateOutIdeal.main_arg1) = m ((c.tc : Thread Cert.UpdateOutIdeal.nD Cert.UpdateOutIdeal.τ).loc Cert.UpdateOutIdeal.main_arg1)
          ∧ r.2.mem ((c.tc : Thread Cert.UpdateOutIdeal.nD Cert.UpdateOutIdeal.τ).loc Cert.UpdateOutIdeal.main_arg2) = m ((c.tc : Thread Cert.UpdateOutIdeal.nD Cert.UpdateOutIdeal.τ).loc Cert.UpdateOutIdeal.main_arg2)
          ∧ r.2.mem ((c.tc : Thread Cert.UpdateOutIdeal.nD Cert.UpdateOutIdeal.τ).loc Cert.UpdateOutIdeal.main_arg3) = m ((c.tc : Thread Cert.UpdateOutIdeal.nD Cert.UpdateOutIdeal.τ).loc Cert.UpdateOutIdeal.main_arg3))
      ∧ θ_run (Cert.UpdateOutReferenceIdeal.defs (F := Ideal)) (onTc (τ := Cert.UpdateOutReferenceIdeal.τ) (Cert.UpdateOutReferenceIdeal.main (F := Ideal))) ⟨m', fun _ => 0, g'⟩ (fun r => ∀ c : Dev Cert.UpdateOutReferenceIdeal.nD,
          r.2.mem ((c.tc : Thread Cert.UpdateOutReferenceIdeal.nD Cert.UpdateOutReferenceIdeal.τ).loc Cert.UpdateOutReferenceIdeal.main_v1) = v0 c
          ∧ r.2.mem ((c.tc : Thread Cert.UpdateOutReferenceIdeal.nD Cert.UpdateOutReferenceIdeal.τ).loc Cert.UpdateOutReferenceIdeal.main_v25) = v1 c
          ∧ r.2.mem ((c.tc : Thread Cert.UpdateOutReferenceIdeal.nD Cert.UpdateOutReferenceIdeal.τ).loc Cert.UpdateOutReferenceIdeal.main_v6) = v2 c
          ∧ r.2.mem ((c.tc : Thread Cert.UpdateOutReferenceIdeal.nD Cert.UpdateOutReferenceIdeal.τ).loc Cert.UpdateOutReferenceIdeal.main_v12) = v3 c
          ∧ r.2.mem ((c.tc : Thread Cert.UpdateOutReferenceIdeal.nD Cert.UpdateOutReferenceIdeal.τ).loc Cert.UpdateOutReferenceIdeal.main_arg0) = m' ((c.tc : Thread Cert.UpdateOutReferenceIdeal.nD Cert.UpdateOutReferenceIdeal.τ).loc Cert.UpdateOutReferenceIdeal.main_arg0)
          ∧ r.2.mem ((c.tc : Thread Cert.UpdateOutReferenceIdeal.nD Cert.UpdateOutReferenceIdeal.τ).loc Cert.UpdateOutReferenceIdeal.main_arg1) = m' ((c.tc : Thread Cert.UpdateOutReferenceIdeal.nD Cert.UpdateOutReferenceIdeal.τ).loc Cert.UpdateOutReferenceIdeal.main_arg1)
          ∧ r.2.mem ((c.tc : Thread Cert.UpdateOutReferenceIdeal.nD Cert.UpdateOutReferenceIdeal.τ).loc Cert.UpdateOutReferenceIdeal.main_arg2) = m' ((c.tc : Thread Cert.UpdateOutReferenceIdeal.nD Cert.UpdateOutReferenceIdeal.τ).loc Cert.UpdateOutReferenceIdeal.main_arg2)
          ∧ r.2.mem ((c.tc : Thread Cert.UpdateOutReferenceIdeal.nD Cert.UpdateOutReferenceIdeal.τ).loc Cert.UpdateOutReferenceIdeal.main_arg3) = m' ((c.tc : Thread Cert.UpdateOutReferenceIdeal.nD Cert.UpdateOutReferenceIdeal.τ).loc Cert.UpdateOutReferenceIdeal.main_arg3))

def preserves_SmallSum_SmallSumIdeal : Prop :=
  True

def algebraic_SmallSumIdeal_SmallSumReferenceIdeal [hSmallSumIdeal : Cert.SmallSumIdeal.Facts] [hSmallSumReferenceIdeal : Cert.SmallSumReferenceIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg)
    (m' : (ℓ : Loc Cert.SmallSumReferenceIdeal.nD Cert.SmallSumReferenceIdeal.τ Cert.SmallSumReferenceIdeal.sig) → Buf (Elt Ideal) ℓ) (g' : Dev Cert.SmallSumReferenceIdeal.nD → PrngReg), Pre_SmallSumIdeal m →
    (∀ c : Dev Cert.SmallSumIdeal.nD,
      m' ((c.tc : Thread Cert.SmallSumReferenceIdeal.nD Cert.SmallSumReferenceIdeal.τ).loc Cert.SmallSumReferenceIdeal.main_arg0) = m ((c.tc : Thread Cert.SmallSumIdeal.nD Cert.SmallSumIdeal.τ).loc Cert.SmallSumIdeal.main_arg0)) →
    ∃ (v0 : (c : Dev Cert.SmallSumIdeal.nD) → Buf (Elt Ideal) ((c.tc : Thread Cert.SmallSumIdeal.nD Cert.SmallSumIdeal.τ).loc Cert.SmallSumIdeal.main_v0)),
      θ_run (Cert.SmallSumIdeal.defs (F := Ideal)) (onTc (τ := Cert.SmallSumIdeal.τ) (Cert.SmallSumIdeal.main (F := Ideal))) ⟨m, fun _ => 0, g⟩ (fun r => ∀ c : Dev Cert.SmallSumIdeal.nD,
          r.2.mem ((c.tc : Thread Cert.SmallSumIdeal.nD Cert.SmallSumIdeal.τ).loc Cert.SmallSumIdeal.main_v0) = v0 c
          ∧ r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ θ_run (Cert.SmallSumReferenceIdeal.defs (F := Ideal)) (onTc (τ := Cert.SmallSumReferenceIdeal.τ) (Cert.SmallSumReferenceIdeal.main (F := Ideal))) ⟨m', fun _ => 0, g'⟩ (fun r => ∀ c : Dev Cert.SmallSumReferenceIdeal.nD,
          r.2.mem ((c.tc : Thread Cert.SmallSumReferenceIdeal.nD Cert.SmallSumReferenceIdeal.τ).loc Cert.SmallSumReferenceIdeal.main_v0) = v0 c
          ∧ r.2.mem ((c.tc : Thread Cert.SmallSumReferenceIdeal.nD Cert.SmallSumReferenceIdeal.τ).loc Cert.SmallSumReferenceIdeal.main_arg0) = m' ((c.tc : Thread Cert.SmallSumReferenceIdeal.nD Cert.SmallSumReferenceIdeal.τ).loc Cert.SmallSumReferenceIdeal.main_arg0))

def preserves_StepSmall_StepSmallIdeal : Prop :=
  True

def algebraic_StepSmallIdeal_StepSmallReferenceIdeal [hStepSmallIdeal : Cert.StepSmallIdeal.Facts] [hStepSmallReferenceIdeal : Cert.StepSmallReferenceIdeal.Facts] : Prop :=
  ∀ (m : (ℓ : Loc Cert.StepSmallIdeal.nD Cert.StepSmallIdeal.τ Cert.StepSmallIdeal.sig) → Buf (Elt Ideal) ℓ) (g : Dev Cert.StepSmallIdeal.nD → PrngReg)
    (m' : (ℓ : Loc Cert.StepSmallReferenceIdeal.nD Cert.StepSmallReferenceIdeal.τ Cert.StepSmallReferenceIdeal.sig) → Buf (Elt Ideal) ℓ) (g' : Dev Cert.StepSmallReferenceIdeal.nD → PrngReg), Pre_StepSmallIdeal m →
    (∀ c : Dev Cert.StepSmallIdeal.nD,
      m' ((c.tc : Thread Cert.StepSmallReferenceIdeal.nD Cert.StepSmallReferenceIdeal.τ).loc Cert.StepSmallReferenceIdeal.main_arg0) = m ((c.tc : Thread Cert.StepSmallIdeal.nD Cert.StepSmallIdeal.τ).loc Cert.StepSmallIdeal.main_arg0)
      ∧ m' ((c.tc : Thread Cert.StepSmallReferenceIdeal.nD Cert.StepSmallReferenceIdeal.τ).loc Cert.StepSmallReferenceIdeal.main_arg1) = m ((c.tc : Thread Cert.StepSmallIdeal.nD Cert.StepSmallIdeal.τ).loc Cert.StepSmallIdeal.main_arg1)
      ∧ m' ((c.tc : Thread Cert.StepSmallReferenceIdeal.nD Cert.StepSmallReferenceIdeal.τ).loc Cert.StepSmallReferenceIdeal.main_arg2) = m ((c.tc : Thread Cert.StepSmallIdeal.nD Cert.StepSmallIdeal.τ).loc Cert.StepSmallIdeal.main_arg2)
      ∧ m' ((c.tc : Thread Cert.StepSmallReferenceIdeal.nD Cert.StepSmallReferenceIdeal.τ).loc Cert.StepSmallReferenceIdeal.main_arg3) = m ((c.tc : Thread Cert.StepSmallIdeal.nD Cert.StepSmallIdeal.τ).loc Cert.StepSmallIdeal.main_arg3)) →
    ∃ (v0 : (c : Dev Cert.StepSmallIdeal.nD) → Buf (Elt Ideal) ((c.tc : Thread Cert.StepSmallIdeal.nD Cert.StepSmallIdeal.τ).loc Cert.StepSmallIdeal.main_v0_0)) (v1 : (c : Dev Cert.StepSmallIdeal.nD) → Buf (Elt Ideal) ((c.tc : Thread Cert.StepSmallIdeal.nD Cert.StepSmallIdeal.τ).loc Cert.StepSmallIdeal.main_v0_1)) (v2 : (c : Dev Cert.StepSmallIdeal.nD) → Buf (Elt Ideal) ((c.tc : Thread Cert.StepSmallIdeal.nD Cert.StepSmallIdeal.τ).loc Cert.StepSmallIdeal.main_v0_2)),
      θ_run (Cert.StepSmallIdeal.defs (F := Ideal)) (onTc (τ := Cert.StepSmallIdeal.τ) (Cert.StepSmallIdeal.main (F := Ideal))) ⟨m, fun _ => 0, g⟩ (fun r => ∀ c : Dev Cert.StepSmallIdeal.nD,
          r.2.mem ((c.tc : Thread Cert.StepSmallIdeal.nD Cert.StepSmallIdeal.τ).loc Cert.StepSmallIdeal.main_v0_0) = v0 c
          ∧ r.2.mem ((c.tc : Thread Cert.StepSmallIdeal.nD Cert.StepSmallIdeal.τ).loc Cert.StepSmallIdeal.main_v0_1) = v1 c
          ∧ r.2.mem ((c.tc : Thread Cert.StepSmallIdeal.nD Cert.StepSmallIdeal.τ).loc Cert.StepSmallIdeal.main_v0_2) = v2 c
          ∧ r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
          ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
          ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
          ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3))
      ∧ θ_run (Cert.StepSmallReferenceIdeal.defs (F := Ideal)) (onTc (τ := Cert.StepSmallReferenceIdeal.τ) (Cert.StepSmallReferenceIdeal.main (F := Ideal))) ⟨m', fun _ => 0, g'⟩ (fun r => ∀ c : Dev Cert.StepSmallReferenceIdeal.nD,
          r.2.mem ((c.tc : Thread Cert.StepSmallReferenceIdeal.nD Cert.StepSmallReferenceIdeal.τ).loc Cert.StepSmallReferenceIdeal.main_v23) = v0 c
          ∧ r.2.mem ((c.tc : Thread Cert.StepSmallReferenceIdeal.nD Cert.StepSmallReferenceIdeal.τ).loc Cert.StepSmallReferenceIdeal.main_v4) = v1 c
          ∧ r.2.mem ((c.tc : Thread Cert.StepSmallReferenceIdeal.nD Cert.StepSmallReferenceIdeal.τ).loc Cert.StepSmallReferenceIdeal.main_v10) = v2 c
          ∧ r.2.mem ((c.tc : Thread Cert.StepSmallReferenceIdeal.nD Cert.StepSmallReferenceIdeal.τ).loc Cert.StepSmallReferenceIdeal.main_arg0) = m' ((c.tc : Thread Cert.StepSmallReferenceIdeal.nD Cert.StepSmallReferenceIdeal.τ).loc Cert.StepSmallReferenceIdeal.main_arg0)
          ∧ r.2.mem ((c.tc : Thread Cert.StepSmallReferenceIdeal.nD Cert.StepSmallReferenceIdeal.τ).loc Cert.StepSmallReferenceIdeal.main_arg1) = m' ((c.tc : Thread Cert.StepSmallReferenceIdeal.nD Cert.StepSmallReferenceIdeal.τ).loc Cert.StepSmallReferenceIdeal.main_arg1)
          ∧ r.2.mem ((c.tc : Thread Cert.StepSmallReferenceIdeal.nD Cert.StepSmallReferenceIdeal.τ).loc Cert.StepSmallReferenceIdeal.main_arg2) = m' ((c.tc : Thread Cert.StepSmallReferenceIdeal.nD Cert.StepSmallReferenceIdeal.τ).loc Cert.StepSmallReferenceIdeal.main_arg2)
          ∧ r.2.mem ((c.tc : Thread Cert.StepSmallReferenceIdeal.nD Cert.StepSmallReferenceIdeal.τ).loc Cert.StepSmallReferenceIdeal.main_arg3) = m' ((c.tc : Thread Cert.StepSmallReferenceIdeal.nD Cert.StepSmallReferenceIdeal.τ).loc Cert.StepSmallReferenceIdeal.main_arg3))

def preserves_StepDw_StepDwIdeal : Prop :=
  True

def algebraic_StepDwIdeal_StepDwReferenceIdeal [hStepDwIdeal : Cert.StepDwIdeal.Facts] [hStepDwReferenceIdeal : Cert.StepDwReferenceIdeal.Facts] : Prop :=
  ∀ (m : (ℓ : Loc Cert.StepDwIdeal.nD Cert.StepDwIdeal.τ Cert.StepDwIdeal.sig) → Buf (Elt Ideal) ℓ) (g : Dev Cert.StepDwIdeal.nD → PrngReg)
    (m' : (ℓ : Loc Cert.StepDwReferenceIdeal.nD Cert.StepDwReferenceIdeal.τ Cert.StepDwReferenceIdeal.sig) → Buf (Elt Ideal) ℓ) (g' : Dev Cert.StepDwReferenceIdeal.nD → PrngReg), Pre_StepDwIdeal m →
    (∀ c : Dev Cert.StepDwIdeal.nD,
      m' ((c.tc : Thread Cert.StepDwReferenceIdeal.nD Cert.StepDwReferenceIdeal.τ).loc Cert.StepDwReferenceIdeal.main_arg0) = m ((c.tc : Thread Cert.StepDwIdeal.nD Cert.StepDwIdeal.τ).loc Cert.StepDwIdeal.main_arg0)
      ∧ m' ((c.tc : Thread Cert.StepDwReferenceIdeal.nD Cert.StepDwReferenceIdeal.τ).loc Cert.StepDwReferenceIdeal.main_arg1) = m ((c.tc : Thread Cert.StepDwIdeal.nD Cert.StepDwIdeal.τ).loc Cert.StepDwIdeal.main_arg1)
      ∧ m' ((c.tc : Thread Cert.StepDwReferenceIdeal.nD Cert.StepDwReferenceIdeal.τ).loc Cert.StepDwReferenceIdeal.main_arg2) = m ((c.tc : Thread Cert.StepDwIdeal.nD Cert.StepDwIdeal.τ).loc Cert.StepDwIdeal.main_arg2)
      ∧ m' ((c.tc : Thread Cert.StepDwReferenceIdeal.nD Cert.StepDwReferenceIdeal.τ).loc Cert.StepDwReferenceIdeal.main_arg3) = m ((c.tc : Thread Cert.StepDwIdeal.nD Cert.StepDwIdeal.τ).loc Cert.StepDwIdeal.main_arg3)) →
    ∃ (v0 : (c : Dev Cert.StepDwIdeal.nD) → Buf (Elt Ideal) ((c.tc : Thread Cert.StepDwIdeal.nD Cert.StepDwIdeal.τ).loc Cert.StepDwIdeal.main_v0_0)) (v1 : (c : Dev Cert.StepDwIdeal.nD) → Buf (Elt Ideal) ((c.tc : Thread Cert.StepDwIdeal.nD Cert.StepDwIdeal.τ).loc Cert.StepDwIdeal.main_v0_1)) (v2 : (c : Dev Cert.StepDwIdeal.nD) → Buf (Elt Ideal) ((c.tc : Thread Cert.StepDwIdeal.nD Cert.StepDwIdeal.τ).loc Cert.StepDwIdeal.main_v0_2)),
      θ_run (Cert.StepDwIdeal.defs (F := Ideal)) (onTc (τ := Cert.StepDwIdeal.τ) (Cert.StepDwIdeal.main (F := Ideal))) ⟨m, fun _ => 0, g⟩ (fun r => ∀ c : Dev Cert.StepDwIdeal.nD,
          r.2.mem ((c.tc : Thread Cert.StepDwIdeal.nD Cert.StepDwIdeal.τ).loc Cert.StepDwIdeal.main_v0_0) = v0 c
          ∧ r.2.mem ((c.tc : Thread Cert.StepDwIdeal.nD Cert.StepDwIdeal.τ).loc Cert.StepDwIdeal.main_v0_1) = v1 c
          ∧ r.2.mem ((c.tc : Thread Cert.StepDwIdeal.nD Cert.StepDwIdeal.τ).loc Cert.StepDwIdeal.main_v0_2) = v2 c
          ∧ r.2.mem ((c.tc : Thread Cert.StepDwIdeal.nD Cert.StepDwIdeal.τ).loc Cert.StepDwIdeal.main_arg0) = m ((c.tc : Thread Cert.StepDwIdeal.nD Cert.StepDwIdeal.τ).loc Cert.StepDwIdeal.main_arg0)
          ∧ r.2.mem ((c.tc : Thread Cert.StepDwIdeal.nD Cert.StepDwIdeal.τ).loc Cert.StepDwIdeal.main_arg1) = m ((c.tc : Thread Cert.StepDwIdeal.nD Cert.StepDwIdeal.τ).loc Cert.StepDwIdeal.main_arg1)
          ∧ r.2.mem ((c.tc : Thread Cert.StepDwIdeal.nD Cert.StepDwIdeal.τ).loc Cert.StepDwIdeal.main_arg2) = m ((c.tc : Thread Cert.StepDwIdeal.nD Cert.StepDwIdeal.τ).loc Cert.StepDwIdeal.main_arg2)
          ∧ r.2.mem ((c.tc : Thread Cert.StepDwIdeal.nD Cert.StepDwIdeal.τ).loc Cert.StepDwIdeal.main_arg3) = m ((c.tc : Thread Cert.StepDwIdeal.nD Cert.StepDwIdeal.τ).loc Cert.StepDwIdeal.main_arg3))
      ∧ θ_run (Cert.StepDwReferenceIdeal.defs (F := Ideal)) (onTc (τ := Cert.StepDwReferenceIdeal.τ) (Cert.StepDwReferenceIdeal.main (F := Ideal))) ⟨m', fun _ => 0, g'⟩ (fun r => ∀ c : Dev Cert.StepDwReferenceIdeal.nD,
          r.2.mem ((c.tc : Thread Cert.StepDwReferenceIdeal.nD Cert.StepDwReferenceIdeal.τ).loc Cert.StepDwReferenceIdeal.main_v23) = v0 c
          ∧ r.2.mem ((c.tc : Thread Cert.StepDwReferenceIdeal.nD Cert.StepDwReferenceIdeal.τ).loc Cert.StepDwReferenceIdeal.main_v4) = v1 c
          ∧ r.2.mem ((c.tc : Thread Cert.StepDwReferenceIdeal.nD Cert.StepDwReferenceIdeal.τ).loc Cert.StepDwReferenceIdeal.main_v10) = v2 c
          ∧ r.2.mem ((c.tc : Thread Cert.StepDwReferenceIdeal.nD Cert.StepDwReferenceIdeal.τ).loc Cert.StepDwReferenceIdeal.main_arg0) = m' ((c.tc : Thread Cert.StepDwReferenceIdeal.nD Cert.StepDwReferenceIdeal.τ).loc Cert.StepDwReferenceIdeal.main_arg0)
          ∧ r.2.mem ((c.tc : Thread Cert.StepDwReferenceIdeal.nD Cert.StepDwReferenceIdeal.τ).loc Cert.StepDwReferenceIdeal.main_arg1) = m' ((c.tc : Thread Cert.StepDwReferenceIdeal.nD Cert.StepDwReferenceIdeal.τ).loc Cert.StepDwReferenceIdeal.main_arg1)
          ∧ r.2.mem ((c.tc : Thread Cert.StepDwReferenceIdeal.nD Cert.StepDwReferenceIdeal.τ).loc Cert.StepDwReferenceIdeal.main_arg2) = m' ((c.tc : Thread Cert.StepDwReferenceIdeal.nD Cert.StepDwReferenceIdeal.τ).loc Cert.StepDwReferenceIdeal.main_arg2)
          ∧ r.2.mem ((c.tc : Thread Cert.StepDwReferenceIdeal.nD Cert.StepDwReferenceIdeal.τ).loc Cert.StepDwReferenceIdeal.main_arg3) = m' ((c.tc : Thread Cert.StepDwReferenceIdeal.nD Cert.StepDwReferenceIdeal.τ).loc Cert.StepDwReferenceIdeal.main_arg3))

def preserves_FfnW_FfnWIdeal : Prop :=
  True

def algebraic_FfnWIdeal_FfnWReferenceIdeal [hFfnWIdeal : Cert.FfnWIdeal.Facts] [hFfnWReferenceIdeal : Cert.FfnWReferenceIdeal.Facts] : Prop :=
  ∀ (m : (ℓ : Loc Cert.FfnWIdeal.nD Cert.FfnWIdeal.τ Cert.FfnWIdeal.sig) → Buf (Elt Ideal) ℓ) (g : Dev Cert.FfnWIdeal.nD → PrngReg)
    (m' : (ℓ : Loc Cert.FfnWReferenceIdeal.nD Cert.FfnWReferenceIdeal.τ Cert.FfnWReferenceIdeal.sig) → Buf (Elt Ideal) ℓ) (g' : Dev Cert.FfnWReferenceIdeal.nD → PrngReg), Pre_FfnWIdeal m →
    (∀ c : Dev Cert.FfnWIdeal.nD,
      m' ((c.tc : Thread Cert.FfnWReferenceIdeal.nD Cert.FfnWReferenceIdeal.τ).loc Cert.FfnWReferenceIdeal.main_arg0) = m ((c.tc : Thread Cert.FfnWIdeal.nD Cert.FfnWIdeal.τ).loc Cert.FfnWIdeal.main_arg0)
      ∧ m' ((c.tc : Thread Cert.FfnWReferenceIdeal.nD Cert.FfnWReferenceIdeal.τ).loc Cert.FfnWReferenceIdeal.main_arg1) = m ((c.tc : Thread Cert.FfnWIdeal.nD Cert.FfnWIdeal.τ).loc Cert.FfnWIdeal.main_arg1)
      ∧ m' ((c.tc : Thread Cert.FfnWReferenceIdeal.nD Cert.FfnWReferenceIdeal.τ).loc Cert.FfnWReferenceIdeal.main_arg2) = m ((c.tc : Thread Cert.FfnWIdeal.nD Cert.FfnWIdeal.τ).loc Cert.FfnWIdeal.main_arg2)
      ∧ m' ((c.tc : Thread Cert.FfnWReferenceIdeal.nD Cert.FfnWReferenceIdeal.τ).loc Cert.FfnWReferenceIdeal.main_arg3) = m ((c.tc : Thread Cert.FfnWIdeal.nD Cert.FfnWIdeal.τ).loc Cert.FfnWIdeal.main_arg3)
      ∧ m' ((c.tc : Thread Cert.FfnWReferenceIdeal.nD Cert.FfnWReferenceIdeal.τ).loc Cert.FfnWReferenceIdeal.main_arg4) = m ((c.tc : Thread Cert.FfnWIdeal.nD Cert.FfnWIdeal.τ).loc Cert.FfnWIdeal.main_arg4)) →
    ∃ (v0 : (c : Dev Cert.FfnWIdeal.nD) → Buf (Elt Ideal) ((c.tc : Thread Cert.FfnWIdeal.nD Cert.FfnWIdeal.τ).loc Cert.FfnWIdeal.main_v0_0)) (v1 : (c : Dev Cert.FfnWIdeal.nD) → Buf (Elt Ideal) ((c.tc : Thread Cert.FfnWIdeal.nD Cert.FfnWIdeal.τ).loc Cert.FfnWIdeal.main_v0_1)) (v2 : (c : Dev Cert.FfnWIdeal.nD) → Buf (Elt Ideal) ((c.tc : Thread Cert.FfnWIdeal.nD Cert.FfnWIdeal.τ).loc Cert.FfnWIdeal.main_v0_2)),
      θ_run (Cert.FfnWIdeal.defs (F := Ideal)) (onTc (τ := Cert.FfnWIdeal.τ) (Cert.FfnWIdeal.main (F := Ideal))) ⟨m, fun _ => 0, g⟩ (fun r => ∀ c : Dev Cert.FfnWIdeal.nD,
          r.2.mem ((c.tc : Thread Cert.FfnWIdeal.nD Cert.FfnWIdeal.τ).loc Cert.FfnWIdeal.main_v0_0) = v0 c
          ∧ r.2.mem ((c.tc : Thread Cert.FfnWIdeal.nD Cert.FfnWIdeal.τ).loc Cert.FfnWIdeal.main_v0_1) = v1 c
          ∧ r.2.mem ((c.tc : Thread Cert.FfnWIdeal.nD Cert.FfnWIdeal.τ).loc Cert.FfnWIdeal.main_v0_2) = v2 c
          ∧ r.2.mem ((c.tc : Thread Cert.FfnWIdeal.nD Cert.FfnWIdeal.τ).loc Cert.FfnWIdeal.main_arg0) = m ((c.tc : Thread Cert.FfnWIdeal.nD Cert.FfnWIdeal.τ).loc Cert.FfnWIdeal.main_arg0)
          ∧ r.2.mem ((c.tc : Thread Cert.FfnWIdeal.nD Cert.FfnWIdeal.τ).loc Cert.FfnWIdeal.main_arg1) = m ((c.tc : Thread Cert.FfnWIdeal.nD Cert.FfnWIdeal.τ).loc Cert.FfnWIdeal.main_arg1)
          ∧ r.2.mem ((c.tc : Thread Cert.FfnWIdeal.nD Cert.FfnWIdeal.τ).loc Cert.FfnWIdeal.main_arg2) = m ((c.tc : Thread Cert.FfnWIdeal.nD Cert.FfnWIdeal.τ).loc Cert.FfnWIdeal.main_arg2)
          ∧ r.2.mem ((c.tc : Thread Cert.FfnWIdeal.nD Cert.FfnWIdeal.τ).loc Cert.FfnWIdeal.main_arg3) = m ((c.tc : Thread Cert.FfnWIdeal.nD Cert.FfnWIdeal.τ).loc Cert.FfnWIdeal.main_arg3)
          ∧ r.2.mem ((c.tc : Thread Cert.FfnWIdeal.nD Cert.FfnWIdeal.τ).loc Cert.FfnWIdeal.main_arg4) = m ((c.tc : Thread Cert.FfnWIdeal.nD Cert.FfnWIdeal.τ).loc Cert.FfnWIdeal.main_arg4))
      ∧ θ_run (Cert.FfnWReferenceIdeal.defs (F := Ideal)) (onTc (τ := Cert.FfnWReferenceIdeal.τ) (Cert.FfnWReferenceIdeal.main (F := Ideal))) ⟨m', fun _ => 0, g'⟩ (fun r => ∀ c : Dev Cert.FfnWReferenceIdeal.nD,
          r.2.mem ((c.tc : Thread Cert.FfnWReferenceIdeal.nD Cert.FfnWReferenceIdeal.τ).loc Cert.FfnWReferenceIdeal.main_v7) = v0 c
          ∧ r.2.mem ((c.tc : Thread Cert.FfnWReferenceIdeal.nD Cert.FfnWReferenceIdeal.τ).loc Cert.FfnWReferenceIdeal.main_v10) = v1 c
          ∧ r.2.mem ((c.tc : Thread Cert.FfnWReferenceIdeal.nD Cert.FfnWReferenceIdeal.τ).loc Cert.FfnWReferenceIdeal.main_v13) = v2 c
          ∧ r.2.mem ((c.tc : Thread Cert.FfnWReferenceIdeal.nD Cert.FfnWReferenceIdeal.τ).loc Cert.FfnWReferenceIdeal.main_arg0) = m' ((c.tc : Thread Cert.FfnWReferenceIdeal.nD Cert.FfnWReferenceIdeal.τ).loc Cert.FfnWReferenceIdeal.main_arg0)
          ∧ r.2.mem ((c.tc : Thread Cert.FfnWReferenceIdeal.nD Cert.FfnWReferenceIdeal.τ).loc Cert.FfnWReferenceIdeal.main_arg1) = m' ((c.tc : Thread Cert.FfnWReferenceIdeal.nD Cert.FfnWReferenceIdeal.τ).loc Cert.FfnWReferenceIdeal.main_arg1)
          ∧ r.2.mem ((c.tc : Thread Cert.FfnWReferenceIdeal.nD Cert.FfnWReferenceIdeal.τ).loc Cert.FfnWReferenceIdeal.main_arg2) = m' ((c.tc : Thread Cert.FfnWReferenceIdeal.nD Cert.FfnWReferenceIdeal.τ).loc Cert.FfnWReferenceIdeal.main_arg2)
          ∧ r.2.mem ((c.tc : Thread Cert.FfnWReferenceIdeal.nD Cert.FfnWReferenceIdeal.τ).loc Cert.FfnWReferenceIdeal.main_arg3) = m' ((c.tc : Thread Cert.FfnWReferenceIdeal.nD Cert.FfnWReferenceIdeal.τ).loc Cert.FfnWReferenceIdeal.main_arg3)
          ∧ r.2.mem ((c.tc : Thread Cert.FfnWReferenceIdeal.nD Cert.FfnWReferenceIdeal.τ).loc Cert.FfnWReferenceIdeal.main_arg4) = m' ((c.tc : Thread Cert.FfnWReferenceIdeal.nD Cert.FfnWReferenceIdeal.τ).loc Cert.FfnWReferenceIdeal.main_arg4))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v12) = v0 c
          ∧ r.2.mem ((c.tc : Thread Cert.InProjReferenceIdeal.nD Cert.InProjReferenceIdeal.τ).loc Cert.InProjReferenceIdeal.main_v15) = v1 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v4) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4))

def preserves_OutBwd_OutBwdIdeal : Prop :=
  True

def algebraic_OutBwdIdeal_OutBwdReferenceIdeal [hOutBwdIdeal : Cert.OutBwdIdeal.Facts] [hOutBwdReferenceIdeal : Cert.OutBwdReferenceIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdReferenceIdeal.nD Cert.OutBwdReferenceIdeal.τ Cert.OutBwdReferenceIdeal.sig) → Buf (Elt Ideal) ℓ) (g' : Dev Cert.OutBwdReferenceIdeal.nD → PrngReg), Pre_OutBwdIdeal m →
    (∀ c : Dev Cert.OutBwdIdeal.nD,
      m' ((c.tc : Thread Cert.OutBwdReferenceIdeal.nD Cert.OutBwdReferenceIdeal.τ).loc Cert.OutBwdReferenceIdeal.main_arg0) = m ((c.tc : Thread Cert.OutBwdIdeal.nD Cert.OutBwdIdeal.τ).loc Cert.OutBwdIdeal.main_arg0)
      ∧ m' ((c.tc : Thread Cert.OutBwdReferenceIdeal.nD Cert.OutBwdReferenceIdeal.τ).loc Cert.OutBwdReferenceIdeal.main_arg1) = m ((c.tc : Thread Cert.OutBwdIdeal.nD Cert.OutBwdIdeal.τ).loc Cert.OutBwdIdeal.main_arg1)
      ∧ m' ((c.tc : Thread Cert.OutBwdReferenceIdeal.nD Cert.OutBwdReferenceIdeal.τ).loc Cert.OutBwdReferenceIdeal.main_arg2) = m ((c.tc : Thread Cert.OutBwdIdeal.nD Cert.OutBwdIdeal.τ).loc Cert.OutBwdIdeal.main_arg2)
      ∧ m' ((c.tc : Thread Cert.OutBwdReferenceIdeal.nD Cert.OutBwdReferenceIdeal.τ).loc Cert.OutBwdReferenceIdeal.main_arg3) = m ((c.tc : Thread Cert.OutBwdIdeal.nD Cert.OutBwdIdeal.τ).loc Cert.OutBwdIdeal.main_arg3)
      ∧ m' ((c.tc : Thread Cert.OutBwdReferenceIdeal.nD Cert.OutBwdReferenceIdeal.τ).loc Cert.OutBwdReferenceIdeal.main_arg4) = m ((c.tc : Thread Cert.OutBwdIdeal.nD Cert.OutBwdIdeal.τ).loc Cert.OutBwdIdeal.main_arg4)) →
    ∃ (v0 : (c : Dev Cert.OutBwdIdeal.nD) → Buf (Elt Ideal) ((c.tc : Thread Cert.OutBwdIdeal.nD Cert.OutBwdIdeal.τ).loc Cert.OutBwdIdeal.main_v0_0)) (v1 : (c : Dev Cert.OutBwdIdeal.nD) → Buf (Elt Ideal) ((c.tc : Thread Cert.OutBwdIdeal.nD Cert.OutBwdIdeal.τ).loc Cert.OutBwdIdeal.main_v0_1)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v0_0) = v0 c
          ∧ r.2.mem ((c.tc : Thread Cert.OutBwdIdeal.nD Cert.OutBwdIdeal.τ).loc Cert.OutBwdIdeal.main_v0_1) = v1 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
          ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4))
      ∧ θ_run (Cert.OutBwdReferenceIdeal.defs (F := Ideal)) (onTc (τ := Cert.OutBwdReferenceIdeal.τ) (Cert.OutBwdReferenceIdeal.main (F := Ideal))) ⟨m', fun _ => 0, g'⟩ (fun r => ∀ c : Dev Cert.OutBwdReferenceIdeal.nD,
          r.2.mem ((c.tc : Thread Cert.OutBwdReferenceIdeal.nD Cert.OutBwdReferenceIdeal.τ).loc Cert.OutBwdReferenceIdeal.main_v4) = v0 c
          ∧ r.2.mem ((c.tc : Thread Cert.OutBwdReferenceIdeal.nD Cert.OutBwdReferenceIdeal.τ).loc Cert.OutBwdReferenceIdeal.main_v7) = v1 c
          ∧ r.2.mem ((c.tc : Thread Cert.OutBwdReferenceIdeal.nD Cert.OutBwdReferenceIdeal.τ).loc Cert.OutBwdReferenceIdeal.main_arg0) = m' ((c.tc : Thread Cert.OutBwdReferenceIdeal.nD Cert.OutBwdReferenceIdeal.τ).loc Cert.OutBwdReferenceIdeal.main_arg0)
          ∧ r.2.mem ((c.tc : Thread Cert.OutBwdReferenceIdeal.nD Cert.OutBwdReferenceIdeal.τ).loc Cert.OutBwdReferenceIdeal.main_arg1) = m' ((c.tc : Thread Cert.OutBwdReferenceIdeal.nD Cert.OutBwdReferenceIdeal.τ).loc Cert.OutBwdReferenceIdeal.main_arg1)
          ∧ r.2.mem ((c.tc : Thread Cert.OutBwdReferenceIdeal.nD Cert.OutBwdReferenceIdeal.τ).loc Cert.OutBwdReferenceIdeal.main_arg2) = m' ((c.tc : Thread Cert.OutBwdReferenceIdeal.nD Cert.OutBwdReferenceIdeal.τ).loc Cert.OutBwdReferenceIdeal.main_arg2)
          ∧ r.2.mem ((c.tc : Thread Cert.OutBwdReferenceIdeal.nD Cert.OutBwdReferenceIdeal.τ).loc Cert.OutBwdReferenceIdeal.main_arg3) = m' ((c.tc : Thread Cert.OutBwdReferenceIdeal.nD Cert.OutBwdReferenceIdeal.τ).loc Cert.OutBwdReferenceIdeal.main_arg3)
          ∧ r.2.mem ((c.tc : Thread Cert.OutBwdReferenceIdeal.nD Cert.OutBwdReferenceIdeal.τ).loc Cert.OutBwdReferenceIdeal.main_arg4) = m' ((c.tc : Thread Cert.OutBwdReferenceIdeal.nD Cert.OutBwdReferenceIdeal.τ).loc Cert.OutBwdReferenceIdeal.main_arg4))

def preserves_MemKv_MemKvIdeal : Prop :=
  True

def algebraic_MemKvIdeal_MemKvReferenceIdeal [hMemKvIdeal : Cert.MemKvIdeal.Facts] [hMemKvReferenceIdeal : Cert.MemKvReferenceIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvIdeal m →
    (∀ c : Dev Cert.MemKvIdeal.nD,
      m' ((c.tc : Thread Cert.MemKvReferenceIdeal.nD Cert.MemKvReferenceIdeal.τ).loc Cert.MemKvReferenceIdeal.main_arg0) = m ((c.tc : Thread Cert.MemKvIdeal.nD Cert.MemKvIdeal.τ).loc Cert.MemKvIdeal.main_arg0)
      ∧ m' ((c.tc : Thread Cert.MemKvReferenceIdeal.nD Cert.MemKvReferenceIdeal.τ).loc Cert.MemKvReferenceIdeal.main_arg1) = m ((c.tc : Thread Cert.MemKvIdeal.nD Cert.MemKvIdeal.τ).loc Cert.MemKvIdeal.main_arg1)
      ∧ m' ((c.tc : Thread Cert.MemKvReferenceIdeal.nD Cert.MemKvReferenceIdeal.τ).loc Cert.MemKvReferenceIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v0_0)) (v1 : (c : Dev Cert.MemKvIdeal.nD) → Buf (Elt Ideal) ((c.tc : Thread Cert.MemKvIdeal.nD Cert.MemKvIdeal.τ).loc Cert.MemKvIdeal.main_v0_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0_0) = v0 c
          ∧ r.2.mem ((c.tc : Thread Cert.MemKvIdeal.nD Cert.MemKvIdeal.τ).loc Cert.MemKvIdeal.main_v0_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v12) = v0 c
          ∧ r.2.mem ((c.tc : Thread Cert.MemKvReferenceIdeal.nD Cert.MemKvReferenceIdeal.τ).loc Cert.MemKvReferenceIdeal.main_v14) = v1 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1)
          ∧ r.2.mem ((c.tc : Thread Cert.MemKvReferenceIdeal.nD Cert.MemKvReferenceIdeal.τ).loc Cert.MemKvReferenceIdeal.main_arg2) = m' ((c.tc : Thread Cert.MemKvReferenceIdeal.nD Cert.MemKvReferenceIdeal.τ).loc Cert.MemKvReferenceIdeal.main_arg2))

def preserves_KvBwd_KvBwdIdeal : Prop :=
  True

def algebraic_KvBwdIdeal_KvBwdReferenceIdeal [hKvBwdIdeal : Cert.KvBwdIdeal.Facts] [hKvBwdReferenceIdeal : Cert.KvBwdReferenceIdeal.Facts] : Prop :=
  ∀ (m : (ℓ : Loc Cert.KvBwdIdeal.nD Cert.KvBwdIdeal.τ Cert.KvBwdIdeal.sig) → Buf (Elt Ideal) ℓ) (g : Dev Cert.KvBwdIdeal.nD → PrngReg)
    (m' : (ℓ : Loc Cert.KvBwdReferenceIdeal.nD Cert.KvBwdReferenceIdeal.τ Cert.KvBwdReferenceIdeal.sig) → Buf (Elt Ideal) ℓ) (g' : Dev Cert.KvBwdReferenceIdeal.nD → PrngReg), Pre_KvBwdIdeal m →
    (∀ c : Dev Cert.KvBwdIdeal.nD,
      m' ((c.tc : Thread Cert.KvBwdReferenceIdeal.nD Cert.KvBwdReferenceIdeal.τ).loc Cert.KvBwdReferenceIdeal.main_arg0) = m ((c.tc : Thread Cert.KvBwdIdeal.nD Cert.KvBwdIdeal.τ).loc Cert.KvBwdIdeal.main_arg0)
      ∧ m' ((c.tc : Thread Cert.KvBwdReferenceIdeal.nD Cert.KvBwdReferenceIdeal.τ).loc Cert.KvBwdReferenceIdeal.main_arg1) = m ((c.tc : Thread Cert.KvBwdIdeal.nD Cert.KvBwdIdeal.τ).loc Cert.KvBwdIdeal.main_arg1)
      ∧ m' ((c.tc : Thread Cert.KvBwdReferenceIdeal.nD Cert.KvBwdReferenceIdeal.τ).loc Cert.KvBwdReferenceIdeal.main_arg2) = m ((c.tc : Thread Cert.KvBwdIdeal.nD Cert.KvBwdIdeal.τ).loc Cert.KvBwdIdeal.main_arg2)
      ∧ m' ((c.tc : Thread Cert.KvBwdReferenceIdeal.nD Cert.KvBwdReferenceIdeal.τ).loc Cert.KvBwdReferenceIdeal.main_arg3) = m ((c.tc : Thread Cert.KvBwdIdeal.nD Cert.KvBwdIdeal.τ).loc Cert.KvBwdIdeal.main_arg3)
      ∧ m' ((c.tc : Thread Cert.KvBwdReferenceIdeal.nD Cert.KvBwdReferenceIdeal.τ).loc Cert.KvBwdReferenceIdeal.main_arg4) = m ((c.tc : Thread Cert.KvBwdIdeal.nD Cert.KvBwdIdeal.τ).loc Cert.KvBwdIdeal.main_arg4)) →
    ∃ (v0 : (c : Dev Cert.KvBwdIdeal.nD) → Buf (Elt Ideal) ((c.tc : Thread Cert.KvBwdIdeal.nD Cert.KvBwdIdeal.τ).loc Cert.KvBwdIdeal.main_v0_0)) (v1 : (c : Dev Cert.KvBwdIdeal.nD) → Buf (Elt Ideal) ((c.tc : Thread Cert.KvBwdIdeal.nD Cert.KvBwdIdeal.τ).loc Cert.KvBwdIdeal.main_v0_1)),
      θ_run (Cert.KvBwdIdeal.defs (F := Ideal)) (onTc (τ := Cert.KvBwdIdeal.τ) (Cert.KvBwdIdeal.main (F := Ideal))) ⟨m, fun _ => 0, g⟩ (fun r => ∀ c : Dev Cert.KvBwdIdeal.nD,
          r.2.mem ((c.tc : Thread Cert.KvBwdIdeal.nD Cert.KvBwdIdeal.τ).loc Cert.KvBwdIdeal.main_v0_0) = v0 c
          ∧ r.2.mem ((c.tc : Thread Cert.KvBwdIdeal.nD Cert.KvBwdIdeal.τ).loc Cert.KvBwdIdeal.main_v0_1) = v1 c
          ∧ r.2.mem ((c.tc : Thread Cert.KvBwdIdeal.nD Cert.KvBwdIdeal.τ).loc Cert.KvBwdIdeal.main_arg0) = m ((c.tc : Thread Cert.KvBwdIdeal.nD Cert.KvBwdIdeal.τ).loc Cert.KvBwdIdeal.main_arg0)
          ∧ r.2.mem ((c.tc : Thread Cert.KvBwdIdeal.nD Cert.KvBwdIdeal.τ).loc Cert.KvBwdIdeal.main_arg1) = m ((c.tc : Thread Cert.KvBwdIdeal.nD Cert.KvBwdIdeal.τ).loc Cert.KvBwdIdeal.main_arg1)
          ∧ r.2.mem ((c.tc : Thread Cert.KvBwdIdeal.nD Cert.KvBwdIdeal.τ).loc Cert.KvBwdIdeal.main_arg2) = m ((c.tc : Thread Cert.KvBwdIdeal.nD Cert.KvBwdIdeal.τ).loc Cert.KvBwdIdeal.main_arg2)
          ∧ r.2.mem ((c.tc : Thread Cert.KvBwdIdeal.nD Cert.KvBwdIdeal.τ).loc Cert.KvBwdIdeal.main_arg3) = m ((c.tc : Thread Cert.KvBwdIdeal.nD Cert.KvBwdIdeal.τ).loc Cert.KvBwdIdeal.main_arg3)
          ∧ r.2.mem ((c.tc : Thread Cert.KvBwdIdeal.nD Cert.KvBwdIdeal.τ).loc Cert.KvBwdIdeal.main_arg4) = m ((c.tc : Thread Cert.KvBwdIdeal.nD Cert.KvBwdIdeal.τ).loc Cert.KvBwdIdeal.main_arg4))
      ∧ θ_run (Cert.KvBwdReferenceIdeal.defs (F := Ideal)) (onTc (τ := Cert.KvBwdReferenceIdeal.τ) (Cert.KvBwdReferenceIdeal.main (F := Ideal))) ⟨m', fun _ => 0, g'⟩ (fun r => ∀ c : Dev Cert.KvBwdReferenceIdeal.nD,
          r.2.mem ((c.tc : Thread Cert.KvBwdReferenceIdeal.nD Cert.KvBwdReferenceIdeal.τ).loc Cert.KvBwdReferenceIdeal.main_v14) = v0 c
          ∧ r.2.mem ((c.tc : Thread Cert.KvBwdReferenceIdeal.nD Cert.KvBwdReferenceIdeal.τ).loc Cert.KvBwdReferenceIdeal.main_v19) = v1 c
          ∧ r.2.mem ((c.tc : Thread Cert.KvBwdReferenceIdeal.nD Cert.KvBwdReferenceIdeal.τ).loc Cert.KvBwdReferenceIdeal.main_arg0) = m' ((c.tc : Thread Cert.KvBwdReferenceIdeal.nD Cert.KvBwdReferenceIdeal.τ).loc Cert.KvBwdReferenceIdeal.main_arg0)
          ∧ r.2.mem ((c.tc : Thread Cert.KvBwdReferenceIdeal.nD Cert.KvBwdReferenceIdeal.τ).loc Cert.KvBwdReferenceIdeal.main_arg1) = m' ((c.tc : Thread Cert.KvBwdReferenceIdeal.nD Cert.KvBwdReferenceIdeal.τ).loc Cert.KvBwdReferenceIdeal.main_arg1)
          ∧ r.2.mem ((c.tc : Thread Cert.KvBwdReferenceIdeal.nD Cert.KvBwdReferenceIdeal.τ).loc Cert.KvBwdReferenceIdeal.main_arg2) = m' ((c.tc : Thread Cert.KvBwdReferenceIdeal.nD Cert.KvBwdReferenceIdeal.τ).loc Cert.KvBwdReferenceIdeal.main_arg2)
          ∧ r.2.mem ((c.tc : Thread Cert.KvBwdReferenceIdeal.nD Cert.KvBwdReferenceIdeal.τ).loc Cert.KvBwdReferenceIdeal.main_arg3) = m' ((c.tc : Thread Cert.KvBwdReferenceIdeal.nD Cert.KvBwdReferenceIdeal.τ).loc Cert.KvBwdReferenceIdeal.main_arg3)
          ∧ r.2.mem ((c.tc : Thread Cert.KvBwdReferenceIdeal.nD Cert.KvBwdReferenceIdeal.τ).loc Cert.KvBwdReferenceIdeal.main_arg4) = m' ((c.tc : Thread Cert.KvBwdReferenceIdeal.nD Cert.KvBwdReferenceIdeal.τ).loc Cert.KvBwdReferenceIdeal.main_arg4))

def preserves_InBwd_InBwdIdeal : Prop :=
  True

def algebraic_InBwdIdeal_InBwdReferenceIdeal [hInBwdIdeal : Cert.InBwdIdeal.Facts] [hInBwdReferenceIdeal : Cert.InBwdReferenceIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdReferenceIdeal.nD Cert.InBwdReferenceIdeal.τ Cert.InBwdReferenceIdeal.sig) → Buf (Elt Ideal) ℓ) (g' : Dev Cert.InBwdReferenceIdeal.nD → PrngReg), Pre_InBwdIdeal m →
    (∀ c : Dev Cert.InBwdIdeal.nD,
      m' ((c.tc : Thread Cert.InBwdReferenceIdeal.nD Cert.InBwdReferenceIdeal.τ).loc Cert.InBwdReferenceIdeal.main_arg0) = m ((c.tc : Thread Cert.InBwdIdeal.nD Cert.InBwdIdeal.τ).loc Cert.InBwdIdeal.main_arg0)
      ∧ m' ((c.tc : Thread Cert.InBwdReferenceIdeal.nD Cert.InBwdReferenceIdeal.τ).loc Cert.InBwdReferenceIdeal.main_arg1) = m ((c.tc : Thread Cert.InBwdIdeal.nD Cert.InBwdIdeal.τ).loc Cert.InBwdIdeal.main_arg1)
      ∧ m' ((c.tc : Thread Cert.InBwdReferenceIdeal.nD Cert.InBwdReferenceIdeal.τ).loc Cert.InBwdReferenceIdeal.main_arg2) = m ((c.tc : Thread Cert.InBwdIdeal.nD Cert.InBwdIdeal.τ).loc Cert.InBwdIdeal.main_arg2)
      ∧ m' ((c.tc : Thread Cert.InBwdReferenceIdeal.nD Cert.InBwdReferenceIdeal.τ).loc Cert.InBwdReferenceIdeal.main_arg3) = m ((c.tc : Thread Cert.InBwdIdeal.nD Cert.InBwdIdeal.τ).loc Cert.InBwdIdeal.main_arg3)
      ∧ m' ((c.tc : Thread Cert.InBwdReferenceIdeal.nD Cert.InBwdReferenceIdeal.τ).loc Cert.InBwdReferenceIdeal.main_arg4) = m ((c.tc : Thread Cert.InBwdIdeal.nD Cert.InBwdIdeal.τ).loc Cert.InBwdIdeal.main_arg4)
      ∧ m' ((c.tc : Thread Cert.InBwdReferenceIdeal.nD Cert.InBwdReferenceIdeal.τ).loc Cert.InBwdReferenceIdeal.main_arg5) = m ((c.tc : Thread Cert.InBwdIdeal.nD Cert.InBwdIdeal.τ).loc Cert.InBwdIdeal.main_arg5)
      ∧ m' ((c.tc : Thread Cert.InBwdReferenceIdeal.nD Cert.InBwdReferenceIdeal.τ).loc Cert.InBwdReferenceIdeal.main_arg6) = m ((c.tc : Thread Cert.InBwdIdeal.nD Cert.InBwdIdeal.τ).loc Cert.InBwdIdeal.main_arg6)
      ∧ m' ((c.tc : Thread Cert.InBwdReferenceIdeal.nD Cert.InBwdReferenceIdeal.τ).loc Cert.InBwdReferenceIdeal.main_arg7) = m ((c.tc : Thread Cert.InBwdIdeal.nD Cert.InBwdIdeal.τ).loc Cert.InBwdIdeal.main_arg7)
      ∧ m' ((c.tc : Thread Cert.InBwdReferenceIdeal.nD Cert.InBwdReferenceIdeal.τ).loc Cert.InBwdReferenceIdeal.main_arg8) = m ((c.tc : Thread Cert.InBwdIdeal.nD Cert.InBwdIdeal.τ).loc Cert.InBwdIdeal.main_arg8)
      ∧ m' ((c.tc : Thread Cert.InBwdReferenceIdeal.nD Cert.InBwdReferenceIdeal.τ).loc Cert.InBwdReferenceIdeal.main_arg9) = m ((c.tc : Thread Cert.InBwdIdeal.nD Cert.InBwdIdeal.τ).loc Cert.InBwdIdeal.main_arg9)) →
    ∃ (v0 : (c : Dev Cert.InBwdIdeal.nD) → Buf (Elt Ideal) ((c.tc : Thread Cert.InBwdIdeal.nD Cert.InBwdIdeal.τ).loc Cert.InBwdIdeal.main_v0_0)) (v1 : (c : Dev Cert.InBwdIdeal.nD) → Buf (Elt Ideal) ((c.tc : Thread Cert.InBwdIdeal.nD Cert.InBwdIdeal.τ).loc Cert.InBwdIdeal.main_v0_1)) (v2 : (c : Dev Cert.InBwdIdeal.nD) → Buf (Elt Ideal) ((c.tc : Thread Cert.InBwdIdeal.nD Cert.InBwdIdeal.τ).loc Cert.InBwdIdeal.main_v0_2)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v0_0) = v0 c
          ∧ r.2.mem ((c.tc : Thread Cert.InBwdIdeal.nD Cert.InBwdIdeal.τ).loc Cert.InBwdIdeal.main_v0_1) = v1 c
          ∧ r.2.mem ((c.tc : Thread Cert.InBwdIdeal.nD Cert.InBwdIdeal.τ).loc Cert.InBwdIdeal.main_v0_2) = v2 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
          ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
          ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
          ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9))
      ∧ θ_run (Cert.InBwdReferenceIdeal.defs (F := Ideal)) (onTc (τ := Cert.InBwdReferenceIdeal.τ) (Cert.InBwdReferenceIdeal.main (F := Ideal))) ⟨m', fun _ => 0, g'⟩ (fun r => ∀ c : Dev Cert.InBwdReferenceIdeal.nD,
          r.2.mem ((c.tc : Thread Cert.InBwdReferenceIdeal.nD Cert.InBwdReferenceIdeal.τ).loc Cert.InBwdReferenceIdeal.main_v28) = v0 c
          ∧ r.2.mem ((c.tc : Thread Cert.InBwdReferenceIdeal.nD Cert.InBwdReferenceIdeal.τ).loc Cert.InBwdReferenceIdeal.main_v33) = v1 c
          ∧ r.2.mem ((c.tc : Thread Cert.InBwdReferenceIdeal.nD Cert.InBwdReferenceIdeal.τ).loc Cert.InBwdReferenceIdeal.main_v37) = v2 c
          ∧ r.2.mem ((c.tc : Thread Cert.InBwdReferenceIdeal.nD Cert.InBwdReferenceIdeal.τ).loc Cert.InBwdReferenceIdeal.main_arg0) = m' ((c.tc : Thread Cert.InBwdReferenceIdeal.nD Cert.InBwdReferenceIdeal.τ).loc Cert.InBwdReferenceIdeal.main_arg0)
          ∧ r.2.mem ((c.tc : Thread Cert.InBwdReferenceIdeal.nD Cert.InBwdReferenceIdeal.τ).loc Cert.InBwdReferenceIdeal.main_arg1) = m' ((c.tc : Thread Cert.InBwdReferenceIdeal.nD Cert.InBwdReferenceIdeal.τ).loc Cert.InBwdReferenceIdeal.main_arg1)
          ∧ r.2.mem ((c.tc : Thread Cert.InBwdReferenceIdeal.nD Cert.InBwdReferenceIdeal.τ).loc Cert.InBwdReferenceIdeal.main_arg2) = m' ((c.tc : Thread Cert.InBwdReferenceIdeal.nD Cert.InBwdReferenceIdeal.τ).loc Cert.InBwdReferenceIdeal.main_arg2)
          ∧ r.2.mem ((c.tc : Thread Cert.InBwdReferenceIdeal.nD Cert.InBwdReferenceIdeal.τ).loc Cert.InBwdReferenceIdeal.main_arg3) = m' ((c.tc : Thread Cert.InBwdReferenceIdeal.nD Cert.InBwdReferenceIdeal.τ).loc Cert.InBwdReferenceIdeal.main_arg3)
          ∧ r.2.mem ((c.tc : Thread Cert.InBwdReferenceIdeal.nD Cert.InBwdReferenceIdeal.τ).loc Cert.InBwdReferenceIdeal.main_arg4) = m' ((c.tc : Thread Cert.InBwdReferenceIdeal.nD Cert.InBwdReferenceIdeal.τ).loc Cert.InBwdReferenceIdeal.main_arg4)
          ∧ r.2.mem ((c.tc : Thread Cert.InBwdReferenceIdeal.nD Cert.InBwdReferenceIdeal.τ).loc Cert.InBwdReferenceIdeal.main_arg5) = m' ((c.tc : Thread Cert.InBwdReferenceIdeal.nD Cert.InBwdReferenceIdeal.τ).loc Cert.InBwdReferenceIdeal.main_arg5)
          ∧ r.2.mem ((c.tc : Thread Cert.InBwdReferenceIdeal.nD Cert.InBwdReferenceIdeal.τ).loc Cert.InBwdReferenceIdeal.main_arg6) = m' ((c.tc : Thread Cert.InBwdReferenceIdeal.nD Cert.InBwdReferenceIdeal.τ).loc Cert.InBwdReferenceIdeal.main_arg6)
          ∧ r.2.mem ((c.tc : Thread Cert.InBwdReferenceIdeal.nD Cert.InBwdReferenceIdeal.τ).loc Cert.InBwdReferenceIdeal.main_arg7) = m' ((c.tc : Thread Cert.InBwdReferenceIdeal.nD Cert.InBwdReferenceIdeal.τ).loc Cert.InBwdReferenceIdeal.main_arg7)
          ∧ r.2.mem ((c.tc : Thread Cert.InBwdReferenceIdeal.nD Cert.InBwdReferenceIdeal.τ).loc Cert.InBwdReferenceIdeal.main_arg8) = m' ((c.tc : Thread Cert.InBwdReferenceIdeal.nD Cert.InBwdReferenceIdeal.τ).loc Cert.InBwdReferenceIdeal.main_arg8)
          ∧ r.2.mem ((c.tc : Thread Cert.InBwdReferenceIdeal.nD Cert.InBwdReferenceIdeal.τ).loc Cert.InBwdReferenceIdeal.main_arg9) = m' ((c.tc : Thread Cert.InBwdReferenceIdeal.nD Cert.InBwdReferenceIdeal.τ).loc Cert.InBwdReferenceIdeal.main_arg9))

def preserves_ActBwd_ActBwdIdeal : Prop :=
  True

def algebraic_ActBwdIdeal_ActBwdReferenceIdeal [hActBwdIdeal : Cert.ActBwdIdeal.Facts] [hActBwdReferenceIdeal : Cert.ActBwdReferenceIdeal.Facts] : Prop :=
  ∀ (m : (ℓ : Loc Cert.ActBwdIdeal.nD Cert.ActBwdIdeal.τ Cert.ActBwdIdeal.sig) → Buf (Elt Ideal) ℓ) (g : Dev Cert.ActBwdIdeal.nD → PrngReg)
    (m' : (ℓ : Loc Cert.ActBwdReferenceIdeal.nD Cert.ActBwdReferenceIdeal.τ Cert.ActBwdReferenceIdeal.sig) → Buf (Elt Ideal) ℓ) (g' : Dev Cert.ActBwdReferenceIdeal.nD → PrngReg), Pre_ActBwdIdeal m →
    (∀ c : Dev Cert.ActBwdIdeal.nD,
      m' ((c.tc : Thread Cert.ActBwdReferenceIdeal.nD Cert.ActBwdReferenceIdeal.τ).loc Cert.ActBwdReferenceIdeal.main_arg0) = m ((c.tc : Thread Cert.ActBwdIdeal.nD Cert.ActBwdIdeal.τ).loc Cert.ActBwdIdeal.main_arg0)
      ∧ m' ((c.tc : Thread Cert.ActBwdReferenceIdeal.nD Cert.ActBwdReferenceIdeal.τ).loc Cert.ActBwdReferenceIdeal.main_arg1) = m ((c.tc : Thread Cert.ActBwdIdeal.nD Cert.ActBwdIdeal.τ).loc Cert.ActBwdIdeal.main_arg1)
      ∧ m' ((c.tc : Thread Cert.ActBwdReferenceIdeal.nD Cert.ActBwdReferenceIdeal.τ).loc Cert.ActBwdReferenceIdeal.main_arg2) = m ((c.tc : Thread Cert.ActBwdIdeal.nD Cert.ActBwdIdeal.τ).loc Cert.ActBwdIdeal.main_arg2)
      ∧ m' ((c.tc : Thread Cert.ActBwdReferenceIdeal.nD Cert.ActBwdReferenceIdeal.τ).loc Cert.ActBwdReferenceIdeal.main_arg3) = m ((c.tc : Thread Cert.ActBwdIdeal.nD Cert.ActBwdIdeal.τ).loc Cert.ActBwdIdeal.main_arg3)
      ∧ m' ((c.tc : Thread Cert.ActBwdReferenceIdeal.nD Cert.ActBwdReferenceIdeal.τ).loc Cert.ActBwdReferenceIdeal.main_arg4) = m ((c.tc : Thread Cert.ActBwdIdeal.nD Cert.ActBwdIdeal.τ).loc Cert.ActBwdIdeal.main_arg4)
      ∧ m' ((c.tc : Thread Cert.ActBwdReferenceIdeal.nD Cert.ActBwdReferenceIdeal.τ).loc Cert.ActBwdReferenceIdeal.main_arg5) = m ((c.tc : Thread Cert.ActBwdIdeal.nD Cert.ActBwdIdeal.τ).loc Cert.ActBwdIdeal.main_arg5)
      ∧ m' ((c.tc : Thread Cert.ActBwdReferenceIdeal.nD Cert.ActBwdReferenceIdeal.τ).loc Cert.ActBwdReferenceIdeal.main_arg6) = m ((c.tc : Thread Cert.ActBwdIdeal.nD Cert.ActBwdIdeal.τ).loc Cert.ActBwdIdeal.main_arg6)
      ∧ m' ((c.tc : Thread Cert.ActBwdReferenceIdeal.nD Cert.ActBwdReferenceIdeal.τ).loc Cert.ActBwdReferenceIdeal.main_arg7) = m ((c.tc : Thread Cert.ActBwdIdeal.nD Cert.ActBwdIdeal.τ).loc Cert.ActBwdIdeal.main_arg7)) →
    ∃ (v0 : (c : Dev Cert.ActBwdIdeal.nD) → Buf (Elt Ideal) ((c.tc : Thread Cert.ActBwdIdeal.nD Cert.ActBwdIdeal.τ).loc Cert.ActBwdIdeal.main_v0_0)) (v1 : (c : Dev Cert.ActBwdIdeal.nD) → Buf (Elt Ideal) ((c.tc : Thread Cert.ActBwdIdeal.nD Cert.ActBwdIdeal.τ).loc Cert.ActBwdIdeal.main_v0_1)) (v2 : (c : Dev Cert.ActBwdIdeal.nD) → Buf (Elt Ideal) ((c.tc : Thread Cert.ActBwdIdeal.nD Cert.ActBwdIdeal.τ).loc Cert.ActBwdIdeal.main_v0_2)) (v3 : (c : Dev Cert.ActBwdIdeal.nD) → Buf (Elt Ideal) ((c.tc : Thread Cert.ActBwdIdeal.nD Cert.ActBwdIdeal.τ).loc Cert.ActBwdIdeal.main_v0_3)) (v4 : (c : Dev Cert.ActBwdIdeal.nD) → Buf (Elt Ideal) ((c.tc : Thread Cert.ActBwdIdeal.nD Cert.ActBwdIdeal.τ).loc Cert.ActBwdIdeal.main_v0_4)) (v5 : (c : Dev Cert.ActBwdIdeal.nD) → Buf (Elt Ideal) ((c.tc : Thread Cert.ActBwdIdeal.nD Cert.ActBwdIdeal.τ).loc Cert.ActBwdIdeal.main_v0_5)),
      θ_run (Cert.ActBwdIdeal.defs (F := Ideal)) (onTc (τ := Cert.ActBwdIdeal.τ) (Cert.ActBwdIdeal.main (F := Ideal))) ⟨m, fun _ => 0, g⟩ (fun r => ∀ c : Dev Cert.ActBwdIdeal.nD,
          r.2.mem ((c.tc : Thread Cert.ActBwdIdeal.nD Cert.ActBwdIdeal.τ).loc Cert.ActBwdIdeal.main_v0_0) = v0 c
          ∧ r.2.mem ((c.tc : Thread Cert.ActBwdIdeal.nD Cert.ActBwdIdeal.τ).loc Cert.ActBwdIdeal.main_v0_1) = v1 c
          ∧ r.2.mem ((c.tc : Thread Cert.ActBwdIdeal.nD Cert.ActBwdIdeal.τ).loc Cert.ActBwdIdeal.main_v0_2) = v2 c
          ∧ r.2.mem ((c.tc : Thread Cert.ActBwdIdeal.nD Cert.ActBwdIdeal.τ).loc Cert.ActBwdIdeal.main_v0_3) = v3 c
          ∧ r.2.mem ((c.tc : Thread Cert.ActBwdIdeal.nD Cert.ActBwdIdeal.τ).loc Cert.ActBwdIdeal.main_v0_4) = v4 c
          ∧ r.2.mem ((c.tc : Thread Cert.ActBwdIdeal.nD Cert.ActBwdIdeal.τ).loc Cert.ActBwdIdeal.main_v0_5) = v5 c
          ∧ r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
          ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1)
          ∧ r.2.mem ((c.tc : Thread Cert.ActBwdIdeal.nD Cert.ActBwdIdeal.τ).loc Cert.ActBwdIdeal.main_arg2) = m ((c.tc : Thread Cert.ActBwdIdeal.nD Cert.ActBwdIdeal.τ).loc Cert.ActBwdIdeal.main_arg2)
          ∧ r.2.mem ((c.tc : Thread Cert.ActBwdIdeal.nD Cert.ActBwdIdeal.τ).loc Cert.ActBwdIdeal.main_arg3) = m ((c.tc : Thread Cert.ActBwdIdeal.nD Cert.ActBwdIdeal.τ).loc Cert.ActBwdIdeal.main_arg3)
          ∧ r.2.mem ((c.tc : Thread Cert.ActBwdIdeal.nD Cert.ActBwdIdeal.τ).loc Cert.ActBwdIdeal.main_arg4) = m ((c.tc : Thread Cert.ActBwdIdeal.nD Cert.ActBwdIdeal.τ).loc Cert.ActBwdIdeal.main_arg4)
          ∧ r.2.mem ((c.tc : Thread Cert.ActBwdIdeal.nD Cert.ActBwdIdeal.τ).loc Cert.ActBwdIdeal.main_arg5) = m ((c.tc : Thread Cert.ActBwdIdeal.nD Cert.ActBwdIdeal.τ).loc Cert.ActBwdIdeal.main_arg5)
          ∧ r.2.mem ((c.tc : Thread Cert.ActBwdIdeal.nD Cert.ActBwdIdeal.τ).loc Cert.ActBwdIdeal.main_arg6) = m ((c.tc : Thread Cert.ActBwdIdeal.nD Cert.ActBwdIdeal.τ).loc Cert.ActBwdIdeal.main_arg6)
          ∧ r.2.mem ((c.tc : Thread Cert.ActBwdIdeal.nD Cert.ActBwdIdeal.τ).loc Cert.ActBwdIdeal.main_arg7) = m ((c.tc : Thread Cert.ActBwdIdeal.nD Cert.ActBwdIdeal.τ).loc Cert.ActBwdIdeal.main_arg7))
      ∧ θ_run (Cert.ActBwdReferenceIdeal.defs (F := Ideal)) (onTc (τ := Cert.ActBwdReferenceIdeal.τ) (Cert.ActBwdReferenceIdeal.main (F := Ideal))) ⟨m', fun _ => 0, g'⟩ (fun r => ∀ c : Dev Cert.ActBwdReferenceIdeal.nD,
          r.2.mem ((c.tc : Thread Cert.ActBwdReferenceIdeal.nD Cert.ActBwdReferenceIdeal.τ).loc Cert.ActBwdReferenceIdeal.main_v2) = v0 c
          ∧ r.2.mem ((c.tc : Thread Cert.ActBwdReferenceIdeal.nD Cert.ActBwdReferenceIdeal.τ).loc Cert.ActBwdReferenceIdeal.main_v59) = v1 c
          ∧ r.2.mem ((c.tc : Thread Cert.ActBwdReferenceIdeal.nD Cert.ActBwdReferenceIdeal.τ).loc Cert.ActBwdReferenceIdeal.main_v26) = v2 c
          ∧ r.2.mem ((c.tc : Thread Cert.ActBwdReferenceIdeal.nD Cert.ActBwdReferenceIdeal.τ).loc Cert.ActBwdReferenceIdeal.main_v17) = v3 c
          ∧ r.2.mem ((c.tc : Thread Cert.ActBwdReferenceIdeal.nD Cert.ActBwdReferenceIdeal.τ).loc Cert.ActBwdReferenceIdeal.main_v60) = v4 c
          ∧ r.2.mem ((c.tc : Thread Cert.ActBwdReferenceIdeal.nD Cert.ActBwdReferenceIdeal.τ).loc Cert.ActBwdReferenceIdeal.main_v65) = v5 c
          ∧ r.2.mem ((c.tc : Thread Cert.ActBwdReferenceIdeal.nD Cert.ActBwdReferenceIdeal.τ).loc Cert.ActBwdReferenceIdeal.main_arg0) = m' ((c.tc : Thread Cert.ActBwdReferenceIdeal.nD Cert.ActBwdReferenceIdeal.τ).loc Cert.ActBwdReferenceIdeal.main_arg0)
          ∧ r.2.mem ((c.tc : Thread Cert.ActBwdReferenceIdeal.nD Cert.ActBwdReferenceIdeal.τ).loc Cert.ActBwdReferenceIdeal.main_arg1) = m' ((c.tc : Thread Cert.ActBwdReferenceIdeal.nD Cert.ActBwdReferenceIdeal.τ).loc Cert.ActBwdReferenceIdeal.main_arg1)
          ∧ r.2.mem ((c.tc : Thread Cert.ActBwdReferenceIdeal.nD Cert.ActBwdReferenceIdeal.τ).loc Cert.ActBwdReferenceIdeal.main_arg2) = m' ((c.tc : Thread Cert.ActBwdReferenceIdeal.nD Cert.ActBwdReferenceIdeal.τ).loc Cert.ActBwdReferenceIdeal.main_arg2)
          ∧ r.2.mem ((c.tc : Thread Cert.ActBwdReferenceIdeal.nD Cert.ActBwdReferenceIdeal.τ).loc Cert.ActBwdReferenceIdeal.main_arg3) = m' ((c.tc : Thread Cert.ActBwdReferenceIdeal.nD Cert.ActBwdReferenceIdeal.τ).loc Cert.ActBwdReferenceIdeal.main_arg3)
          ∧ r.2.mem ((c.tc : Thread Cert.ActBwdReferenceIdeal.nD Cert.ActBwdReferenceIdeal.τ).loc Cert.ActBwdReferenceIdeal.main_arg4) = m' ((c.tc : Thread Cert.ActBwdReferenceIdeal.nD Cert.ActBwdReferenceIdeal.τ).loc Cert.ActBwdReferenceIdeal.main_arg4)
          ∧ r.2.mem ((c.tc : Thread Cert.ActBwdReferenceIdeal.nD Cert.ActBwdReferenceIdeal.τ).loc Cert.ActBwdReferenceIdeal.main_arg5) = m' ((c.tc : Thread Cert.ActBwdReferenceIdeal.nD Cert.ActBwdReferenceIdeal.τ).loc Cert.ActBwdReferenceIdeal.main_arg5)
          ∧ r.2.mem ((c.tc : Thread Cert.ActBwdReferenceIdeal.nD Cert.ActBwdReferenceIdeal.τ).loc Cert.ActBwdReferenceIdeal.main_arg6) = m' ((c.tc : Thread Cert.ActBwdReferenceIdeal.nD Cert.ActBwdReferenceIdeal.τ).loc Cert.ActBwdReferenceIdeal.main_arg6)
          ∧ r.2.mem ((c.tc : Thread Cert.ActBwdReferenceIdeal.nD Cert.ActBwdReferenceIdeal.τ).loc Cert.ActBwdReferenceIdeal.main_arg7) = m' ((c.tc : Thread Cert.ActBwdReferenceIdeal.nD Cert.ActBwdReferenceIdeal.τ).loc Cert.ActBwdReferenceIdeal.main_arg7))

def Claim : Prop :=
  ∃ (hKernel : Cert.Kernel.Facts) (hKernelIdeal : Cert.KernelIdeal.Facts) (hReferenceIdeal : Cert.ReferenceIdeal.Facts) (hReference : Cert.Reference.Facts) (hUpdate : Cert.Update.Facts) (hUpdateIdeal : Cert.UpdateIdeal.Facts) (hUpdateReferenceIdeal : Cert.UpdateReferenceIdeal.Facts) (hScatter : Cert.Scatter.Facts) (hScatterIdeal : Cert.ScatterIdeal.Facts) (hScatterReferenceIdeal : Cert.ScatterReferenceIdeal.Facts) (hScatterReference : Cert.ScatterReference.Facts) (hWeights : Cert.Weights.Facts) (hWeightsIdeal : Cert.WeightsIdeal.Facts) (hWeightsReferenceIdeal : Cert.WeightsReferenceIdeal.Facts) (hWeightsReference : Cert.WeightsReference.Facts) (hUpdateIn : Cert.UpdateIn.Facts) (hUpdateInIdeal : Cert.UpdateInIdeal.Facts) (hUpdateInReferenceIdeal : Cert.UpdateInReferenceIdeal.Facts) (hUpdateKv : Cert.UpdateKv.Facts) (hUpdateKvIdeal : Cert.UpdateKvIdeal.Facts) (hUpdateKvReferenceIdeal : Cert.UpdateKvReferenceIdeal.Facts) (hUpdateOut : Cert.UpdateOut.Facts) (hUpdateOutIdeal : Cert.UpdateOutIdeal.Facts) (hUpdateOutReferenceIdeal : Cert.UpdateOutReferenceIdeal.Facts) (hSmallSum : Cert.SmallSum.Facts) (hSmallSumIdeal : Cert.SmallSumIdeal.Facts) (hSmallSumReferenceIdeal : Cert.SmallSumReferenceIdeal.Facts) (hStepSmall : Cert.StepSmall.Facts) (hStepSmallIdeal : Cert.StepSmallIdeal.Facts) (hStepSmallReferenceIdeal : Cert.StepSmallReferenceIdeal.Facts) (hStepDw : Cert.StepDw.Facts) (hStepDwIdeal : Cert.StepDwIdeal.Facts) (hStepDwReferenceIdeal : Cert.StepDwReferenceIdeal.Facts) (hFfnW : Cert.FfnW.Facts) (hFfnWIdeal : Cert.FfnWIdeal.Facts) (hFfnWReferenceIdeal : Cert.FfnWReferenceIdeal.Facts) (hInProj : Cert.InProj.Facts) (hInProjIdeal : Cert.InProjIdeal.Facts) (hInProjReferenceIdeal : Cert.InProjReferenceIdeal.Facts) (hOutProj : Cert.OutProj.Facts) (hOutProjIdeal : Cert.OutProjIdeal.Facts) (hOutProjReferenceIdeal : Cert.OutProjReferenceIdeal.Facts) (hOutBwd : Cert.OutBwd.Facts) (hOutBwdIdeal : Cert.OutBwdIdeal.Facts) (hOutBwdReferenceIdeal : Cert.OutBwdReferenceIdeal.Facts) (hMemKv : Cert.MemKv.Facts) (hMemKvIdeal : Cert.MemKvIdeal.Facts) (hMemKvReferenceIdeal : Cert.MemKvReferenceIdeal.Facts) (hKvBwd : Cert.KvBwd.Facts) (hKvBwdIdeal : Cert.KvBwdIdeal.Facts) (hKvBwdReferenceIdeal : Cert.KvBwdReferenceIdeal.Facts) (hInBwd : Cert.InBwd.Facts) (hInBwdIdeal : Cert.InBwdIdeal.Facts) (hInBwdReferenceIdeal : Cert.InBwdReferenceIdeal.Facts) (hActBwd : Cert.ActBwd.Facts) (hActBwdIdeal : Cert.ActBwdIdeal.Facts) (hActBwdReferenceIdeal : Cert.ActBwdReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Update (hUpdate := hUpdate)
    ∧ quiescent_UpdateIdeal (hUpdateIdeal := hUpdateIdeal)
    ∧ quiescent_UpdateReferenceIdeal (hUpdateReferenceIdeal := hUpdateReferenceIdeal)
    ∧ quiescent_Scatter (hScatter := hScatter)
    ∧ quiescent_ScatterIdeal (hScatterIdeal := hScatterIdeal)
    ∧ quiescent_ScatterReferenceIdeal (hScatterReferenceIdeal := hScatterReferenceIdeal)
    ∧ quiescent_ScatterReference (hScatterReference := hScatterReference)
    ∧ quiescent_Weights (hWeights := hWeights)
    ∧ quiescent_WeightsIdeal (hWeightsIdeal := hWeightsIdeal)
    ∧ quiescent_WeightsReferenceIdeal (hWeightsReferenceIdeal := hWeightsReferenceIdeal)
    ∧ quiescent_WeightsReference (hWeightsReference := hWeightsReference)
    ∧ quiescent_UpdateIn (hUpdateIn := hUpdateIn)
    ∧ quiescent_UpdateInIdeal (hUpdateInIdeal := hUpdateInIdeal)
    ∧ quiescent_UpdateInReferenceIdeal (hUpdateInReferenceIdeal := hUpdateInReferenceIdeal)
    ∧ quiescent_UpdateKv (hUpdateKv := hUpdateKv)
    ∧ quiescent_UpdateKvIdeal (hUpdateKvIdeal := hUpdateKvIdeal)
    ∧ quiescent_UpdateKvReferenceIdeal (hUpdateKvReferenceIdeal := hUpdateKvReferenceIdeal)
    ∧ quiescent_UpdateOut (hUpdateOut := hUpdateOut)
    ∧ quiescent_UpdateOutIdeal (hUpdateOutIdeal := hUpdateOutIdeal)
    ∧ quiescent_UpdateOutReferenceIdeal (hUpdateOutReferenceIdeal := hUpdateOutReferenceIdeal)
    ∧ quiescent_SmallSum (hSmallSum := hSmallSum)
    ∧ quiescent_SmallSumIdeal (hSmallSumIdeal := hSmallSumIdeal)
    ∧ quiescent_SmallSumReferenceIdeal (hSmallSumReferenceIdeal := hSmallSumReferenceIdeal)
    ∧ quiescent_StepSmall (hStepSmall := hStepSmall)
    ∧ quiescent_StepSmallIdeal (hStepSmallIdeal := hStepSmallIdeal)
    ∧ quiescent_StepSmallReferenceIdeal (hStepSmallReferenceIdeal := hStepSmallReferenceIdeal)
    ∧ quiescent_StepDw (hStepDw := hStepDw)
    ∧ quiescent_StepDwIdeal (hStepDwIdeal := hStepDwIdeal)
    ∧ quiescent_StepDwReferenceIdeal (hStepDwReferenceIdeal := hStepDwReferenceIdeal)
    ∧ quiescent_FfnW (hFfnW := hFfnW)
    ∧ quiescent_FfnWIdeal (hFfnWIdeal := hFfnWIdeal)
    ∧ quiescent_FfnWReferenceIdeal (hFfnWReferenceIdeal := hFfnWReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_OutBwd (hOutBwd := hOutBwd)
    ∧ quiescent_OutBwdIdeal (hOutBwdIdeal := hOutBwdIdeal)
    ∧ quiescent_OutBwdReferenceIdeal (hOutBwdReferenceIdeal := hOutBwdReferenceIdeal)
    ∧ quiescent_MemKv (hMemKv := hMemKv)
    ∧ quiescent_MemKvIdeal (hMemKvIdeal := hMemKvIdeal)
    ∧ quiescent_MemKvReferenceIdeal (hMemKvReferenceIdeal := hMemKvReferenceIdeal)
    ∧ quiescent_KvBwd (hKvBwd := hKvBwd)
    ∧ quiescent_KvBwdIdeal (hKvBwdIdeal := hKvBwdIdeal)
    ∧ quiescent_KvBwdReferenceIdeal (hKvBwdReferenceIdeal := hKvBwdReferenceIdeal)
    ∧ quiescent_InBwd (hInBwd := hInBwd)
    ∧ quiescent_InBwdIdeal (hInBwdIdeal := hInBwdIdeal)
    ∧ quiescent_InBwdReferenceIdeal (hInBwdReferenceIdeal := hInBwdReferenceIdeal)
    ∧ quiescent_ActBwd (hActBwd := hActBwd)
    ∧ quiescent_ActBwdIdeal (hActBwdIdeal := hActBwdIdeal)
    ∧ quiescent_ActBwdReferenceIdeal (hActBwdReferenceIdeal := hActBwdReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Update_UpdateIdeal
    ∧ algebraic_UpdateIdeal_UpdateReferenceIdeal (hUpdateIdeal := hUpdateIdeal) (hUpdateReferenceIdeal := hUpdateReferenceIdeal)
    ∧ preserves_Scatter_ScatterIdeal
    ∧ algebraic_ScatterIdeal_ScatterReferenceIdeal (hScatterIdeal := hScatterIdeal) (hScatterReferenceIdeal := hScatterReferenceIdeal)
    ∧ bitexact_Scatter_ScatterReference (hScatter := hScatter) (hScatterReference := hScatterReference)
    ∧ preserves_Weights_WeightsIdeal
    ∧ algebraic_WeightsIdeal_WeightsReferenceIdeal (hWeightsIdeal := hWeightsIdeal) (hWeightsReferenceIdeal := hWeightsReferenceIdeal)
    ∧ bitexact_Weights_WeightsReference (hWeights := hWeights) (hWeightsReference := hWeightsReference)
    ∧ preserves_UpdateIn_UpdateInIdeal
    ∧ algebraic_UpdateInIdeal_UpdateInReferenceIdeal (hUpdateInIdeal := hUpdateInIdeal) (hUpdateInReferenceIdeal := hUpdateInReferenceIdeal)
    ∧ preserves_UpdateKv_UpdateKvIdeal
    ∧ algebraic_UpdateKvIdeal_UpdateKvReferenceIdeal (hUpdateKvIdeal := hUpdateKvIdeal) (hUpdateKvReferenceIdeal := hUpdateKvReferenceIdeal)
    ∧ preserves_UpdateOut_UpdateOutIdeal
    ∧ algebraic_UpdateOutIdeal_UpdateOutReferenceIdeal (hUpdateOutIdeal := hUpdateOutIdeal) (hUpdateOutReferenceIdeal := hUpdateOutReferenceIdeal)
    ∧ preserves_SmallSum_SmallSumIdeal
    ∧ algebraic_SmallSumIdeal_SmallSumReferenceIdeal (hSmallSumIdeal := hSmallSumIdeal) (hSmallSumReferenceIdeal := hSmallSumReferenceIdeal)
    ∧ preserves_StepSmall_StepSmallIdeal
    ∧ algebraic_StepSmallIdeal_StepSmallReferenceIdeal (hStepSmallIdeal := hStepSmallIdeal) (hStepSmallReferenceIdeal := hStepSmallReferenceIdeal)
    ∧ preserves_StepDw_StepDwIdeal
    ∧ algebraic_StepDwIdeal_StepDwReferenceIdeal (hStepDwIdeal := hStepDwIdeal) (hStepDwReferenceIdeal := hStepDwReferenceIdeal)
    ∧ preserves_FfnW_FfnWIdeal
    ∧ algebraic_FfnWIdeal_FfnWReferenceIdeal (hFfnWIdeal := hFfnWIdeal) (hFfnWReferenceIdeal := hFfnWReferenceIdeal)
    ∧ preserves_InProj_InProjIdeal
    ∧ algebraic_InProjIdeal_InProjReferenceIdeal (hInProjIdeal := hInProjIdeal) (hInProjReferenceIdeal := hInProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_OutBwd_OutBwdIdeal
    ∧ algebraic_OutBwdIdeal_OutBwdReferenceIdeal (hOutBwdIdeal := hOutBwdIdeal) (hOutBwdReferenceIdeal := hOutBwdReferenceIdeal)
    ∧ preserves_MemKv_MemKvIdeal
    ∧ algebraic_MemKvIdeal_MemKvReferenceIdeal (hMemKvIdeal := hMemKvIdeal) (hMemKvReferenceIdeal := hMemKvReferenceIdeal)
    ∧ preserves_KvBwd_KvBwdIdeal
    ∧ algebraic_KvBwdIdeal_KvBwdReferenceIdeal (hKvBwdIdeal := hKvBwdIdeal) (hKvBwdReferenceIdeal := hKvBwdReferenceIdeal)
    ∧ preserves_InBwd_InBwdIdeal
    ∧ algebraic_InBwdIdeal_InBwdReferenceIdeal (hInBwdIdeal := hInBwdIdeal) (hInBwdReferenceIdeal := hInBwdReferenceIdeal)
    ∧ preserves_ActBwd_ActBwdIdeal
    ∧ algebraic_ActBwdIdeal_ActBwdReferenceIdeal (hActBwdIdeal := hActBwdIdeal) (hActBwdReferenceIdeal := hActBwdReferenceIdeal)
-- ==== Kernel.lean ====
abbrev S352x1024 : Shape := ⟨2, ![352, 1024]⟩
abbrev S8x352x1024 : Shape := ⟨3, ![8, 352, 1024]⟩
abbrev S21 : Shape := ⟨1, ![21]⟩
abbrev S3 : Shape := ⟨1, ![3]⟩
abbrev S1 : Shape := ⟨1, ![1]⟩
abbrev S_ : Shape := ⟨0, ![]⟩
abbrev S1x352x1024 : Shape := ⟨3, ![1, 352, 1024]⟩

abbrev nBuf : Space → Nat
  | .hbm => 6
  | .vmem => 0
  | .smem => 0
  | _ => 0

abbrev bufTy : (tb : Table) → Fin (tcTables nBuf tb) → BufTy
  | .hbm, ⟨0, _⟩ => ⟨S352x1024, .bf16⟩
  | .hbm, ⟨1, _⟩ => ⟨S352x1024, .bf16⟩
  | .hbm, ⟨2, _⟩ => ⟨S352x1024, .bf16⟩
  | .hbm, ⟨3, _⟩ => ⟨S8x352x1024, .bf16⟩
  | .hbm, ⟨4, _⟩ => ⟨S8x352x1024, .bf16⟩
  | .hbm, ⟨5, _⟩ => ⟨S8x352x1024, .bf16⟩
  | _, _ => ⟨S352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_10 : BitVec 32 := 0#32
  let c0_i32_11 : BitVec 32 := 0#32
  ![v12.toNat, 0, 0]
def k0_dev1 (d0 : Dev nD) : Nat :=
  let c0_i32_21 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let c4_i32_20 : BitVec 32 := 4#32
  let v30 : BitVec 32 := Scalar.muli v14 c4_i32_20
  let v31 : BitVec 32 := Scalar.addi c0_i32_21 v30
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_22 : BitVec 32 := 2#32
  let v32 : BitVec 32 := Scalar.muli v5 c2_i32_22
  let v33 : BitVec 32 := Scalar.addi v31 v32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_23 : BitVec 32 := 1#32
  let v34 : BitVec 32 := Scalar.muli v8 c1_i32_23
  let v35 : BitVec 32 := Scalar.addi v33 v34
  v35.toNat
def k0_dev2 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_28 : BitVec 32 := 4#32
  let v42 : BitVec 32 := Scalar.muli v2 c4_i32_28
  let v43 : BitVec 32 := Scalar.addi c0_i32_29 v42
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let c2_i32_30 : BitVec 32 := 2#32
  let v44 : BitVec 32 := Scalar.muli v15 c2_i32_30
  let v45 : BitVec 32 := Scalar.addi v43 v44
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_31 : BitVec 32 := 1#32
  let v46 : BitVec 32 := Scalar.muli v8 c1_i32_31
  let v47 : BitVec 32 := Scalar.addi v45 v46
  v47.toNat
def k0_dev3 (d0 : Dev nD) : Nat :=
  let c0_i32_36 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let c4_i32_35 : BitVec 32 := 4#32
  let v54 : BitVec 32 := Scalar.muli v16 c4_i32_35
  let v55 : BitVec 32 := Scalar.addi c0_i32_36 v54
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let c2_i32_37 : BitVec 32 := 2#32
  let v56 : BitVec 32 := Scalar.muli v17 c2_i32_37
  let v57 : BitVec 32 := Scalar.addi v55 v56
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_38 : BitVec 32 := 1#32
  let v58 : BitVec 32 := Scalar.muli v8 c1_i32_38
  let v59 : BitVec 32 := Scalar.addi v57 v58
  v59.toNat
def k0_dev4 (d0 : Dev nD) : Nat :=
  let c0_i32_44 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_43 : BitVec 32 := 4#32
  let v66 : BitVec 32 := Scalar.muli v2 c4_i32_43
  let v67 : BitVec 32 := Scalar.addi c0_i32_44 v66
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_45 : BitVec 32 := 2#32
  let v68 : BitVec 32 := Scalar.muli v5 c2_i32_45
  let v69 : BitVec 32 := Scalar.addi v67 v68
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_46 : BitVec 32 := 1#32
  let v70 : BitVec 32 := Scalar.muli v13 c1_i32_46
  let v71 : BitVec 32 := Scalar.addi v69 v70
  v71.toNat
def k0_dev5 (d0 : Dev nD) : Nat :=
  let c0_i32_51 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let c4_i32_50 : BitVec 32 := 4#32
  let v78 : BitVec 32 := Scalar.muli v14 c4_i32_50
  let v79 : BitVec 32 := Scalar.addi c0_i32_51 v78
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_52 : BitVec 32 := 2#32
  let v80 : BitVec 32 := Scalar.muli v5 c2_i32_52
  let v81 : BitVec 32 := Scalar.addi v79 v80
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_53 : BitVec 32 := 1#32
  let v82 : BitVec 32 := Scalar.muli v8 c1_i32_53
  let v83 : BitVec 32 := Scalar.addi v81 v82
  v83.toNat
def k0_dev6 (d0 : Dev nD) : Nat :=
  let c0_i32_58 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_57 : BitVec 32 := 4#32
  let v90 : BitVec 32 := Scalar.muli v2 c4_i32_57
  let v91 : BitVec 32 := Scalar.addi c0_i32_58 v90
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let c2_i32_59 : BitVec 32 := 2#32
  let v92 : BitVec 32 := Scalar.muli v15 c2_i32_59
  let v93 : BitVec 32 := Scalar.addi v91 v92
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v94 : BitVec 32 := Scalar.muli v8 c1_i32_60
  let v95 : BitVec 32 := Scalar.addi v93 v94
  v95.toNat
def k0_dev7 (d0 : Dev nD) : Nat :=
  let c0_i32_65 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let c4_i32_64 : BitVec 32 := 4#32
  let v102 : BitVec 32 := Scalar.muli v16 c4_i32_64
  let v103 : BitVec 32 := Scalar.addi c0_i32_65 v102
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let c2_i32_66 : BitVec 32 := 2#32
  let v104 : BitVec 32 := Scalar.muli v17 c2_i32_66
  let v105 : BitVec 32 := Scalar.addi v103 v104
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_67 : BitVec 32 := 1#32
  let v106 : BitVec 32 := Scalar.muli v8 c1_i32_67
  let v107 : BitVec 32 := Scalar.addi v105 v106
  v107.toNat
def k0_dev8 (d0 : Dev nD) : Nat :=
  let c0_i32_72 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_71 : BitVec 32 := 4#32
  let v114 : BitVec 32 := Scalar.muli v2 c4_i32_71
  let v115 : BitVec 32 := Scalar.addi c0_i32_72 v114
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_73 : BitVec 32 := 2#32
  let v116 : BitVec 32 := Scalar.muli v5 c2_i32_73
  let v117 : BitVec 32 := Scalar.addi v115 v116
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_74 : BitVec 32 := 1#32
  let v118 : BitVec 32 := Scalar.muli v13 c1_i32_74
  let v119 : BitVec 32 := Scalar.addi v117 v118
  v119.toNat
def k0_dev9 (d0 : Dev nD) : Nat :=
  let c0_i32_79 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let c4_i32_78 : BitVec 32 := 4#32
  let v126 : BitVec 32 := Scalar.muli v14 c4_i32_78
  let v127 : BitVec 32 := Scalar.addi c0_i32_79 v126
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v128 : BitVec 32 := Scalar.muli v5 c2_i32_80
  let v129 : BitVec 32 := Scalar.addi v127 v128
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v130 : BitVec 32 := Scalar.muli v8 c1_i32_81
  let v131 : BitVec 32 := Scalar.addi v129 v130
  v131.toNat
def k0_dev10 (d0 : Dev nD) : Nat :=
  let c0_i32_86 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_85 : BitVec 32 := 4#32
  let v138 : BitVec 32 := Scalar.muli v2 c4_i32_85
  let v139 : BitVec 32 := Scalar.addi c0_i32_86 v138
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let c2_i32_87 : BitVec 32 := 2#32
  let v140 : BitVec 32 := Scalar.muli v15 c2_i32_87
  let v141 : BitVec 32 := Scalar.addi v139 v140
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_88 : BitVec 32 := 1#32
  let v142 : BitVec 32 := Scalar.muli v8 c1_i32_88
  let v143 : BitVec 32 := Scalar.addi v141 v142
  v143.toNat
def k0_dev11 (d0 : Dev nD) : Nat :=
  let c0_i32_93 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let c4_i32_92 : BitVec 32 := 4#32
  let v150 : BitVec 32 := Scalar.muli v16 c4_i32_92
  let v151 : BitVec 32 := Scalar.addi c0_i32_93 v150
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let c2_i32_94 : BitVec 32 := 2#32
  let v152 : BitVec 32 := Scalar.muli v17 c2_i32_94
  let v153 : BitVec 32 := Scalar.addi v151 v152
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_95 : BitVec 32 := 1#32
  let v154 : BitVec 32 := Scalar.muli v8 c1_i32_95
  let v155 : BitVec 32 := Scalar.addi v153 v154
  v155.toNat
def k0_dev12 (d0 : Dev nD) : Nat :=
  let c0_i32_100 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_99 : BitVec 32 := 4#32
  let v162 : BitVec 32 := Scalar.muli v2 c4_i32_99
  let v163 : BitVec 32 := Scalar.addi c0_i32_100 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_101 : BitVec 32 := 2#32
  let v164 : BitVec 32 := Scalar.muli v5 c2_i32_101
  let v165 : BitVec 32 := Scalar.addi v163 v164
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_102 : BitVec 32 := 1#32
  let v166 : BitVec 32 := Scalar.muli v13 c1_i32_102
  let v167 : BitVec 32 := Scalar.addi v165 v166
  v167.toNat
def k0_off2 (d0 : Dev nD) : Fin 3 → Nat :=
  let c4_i32_105 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let v174 : BitVec 32 := Scalar.muli c4_i32_105 v14
  let c2_i32_106 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v175 : BitVec 32 := Scalar.muli c2_i32_106 v5
  let v176 : BitVec 32 := Scalar.addi v174 v175
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v177 : BitVec 32 := Scalar.addi v176 v8
  let c0_i32_113 : BitVec 32 := 0#32
  let c0_i32_114 : BitVec 32 := 0#32
  ![v177.toNat, 0, 0]
def k0_dev13 (d0 : Dev nD) : Nat :=
  let c0_i32_118 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_117 : BitVec 32 := 4#32
  let v188 : BitVec 32 := Scalar.muli v2 c4_i32_117
  let v189 : BitVec 32 := Scalar.addi c0_i32_118 v188
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_119 : BitVec 32 := 2#32
  let v190 : BitVec 32 := Scalar.muli v5 c2_i32_119
  let v191 : BitVec 32 := Scalar.addi v189 v190
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_120 : BitVec 32 := 1#32
  let v192 : BitVec 32 := Scalar.muli v13 c1_i32_120
  let v193 : BitVec 32 := Scalar.addi v191 v192
  v193.toNat
def k0_off3 (d0 : Dev nD) : Fin 3 → Nat :=
  let c4_i32_125 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v202 : BitVec 32 := Scalar.muli c4_i32_125 v2
  let c2_i32_126 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v203 : BitVec 32 := Scalar.muli c2_i32_126 v15
  let v204 : BitVec 32 := Scalar.addi v202 v203
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v205 : BitVec 32 := Scalar.addi v204 v8
  let c0_i32_133 : BitVec 32 := 0#32
  let c0_i32_134 : BitVec 32 := 0#32
  ![v205.toNat, 0, 0]
def k0_dev14 (d0 : Dev nD) : Nat :=
  let c0_i32_137 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_136 : BitVec 32 := 4#32
  let v216 : BitVec 32 := Scalar.muli v2 c4_i32_136
  let v217 : BitVec 32 := Scalar.addi c0_i32_137 v216
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_138 : BitVec 32 := 2#32
  let v218 : BitVec 32 := Scalar.muli v5 c2_i32_138
  let v219 : BitVec 32 := Scalar.addi v217 v218
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_139 : BitVec 32 := 1#32
  let v220 : BitVec 32 := Scalar.muli v13 c1_i32_139
  let v221 : BitVec 32 := Scalar.addi v219 v220
  v221.toNat
def k0_off4 (d0 : Dev nD) : Fin 3 → Nat :=
  let c4_i32_144 : BitVec 32 := 4#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v230 : BitVec 32 := Scalar.muli c4_i32_144 v16
  let c2_i32_145 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v231 : BitVec 32 := Scalar.muli c2_i32_145 v17
  let v232 : BitVec 32 := Scalar.addi v230 v231
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v233 : BitVec 32 := Scalar.addi v232 v8
  let c0_i32_152 : BitVec 32 := 0#32
  let c0_i32_153 : BitVec 32 := 0#32
  ![v233.toNat, 0, 0]
def k0_dev15 (d0 : Dev nD) : Nat :=
  let c0_i32_156 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_155 : BitVec 32 := 4#32
  let v244 : BitVec 32 := Scalar.muli v2 c4_i32_155
  let v245 : BitVec 32 := Scalar.addi c0_i32_156 v244
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_157 : BitVec 32 := 2#32
  let v246 : BitVec 32 := Scalar.muli v5 c2_i32_157
  let v247 : BitVec 32 := Scalar.addi v245 v246
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_158 : BitVec 32 := 1#32
  let v248 : BitVec 32 := Scalar.muli v13 c1_i32_158
  let v249 : BitVec 32 := Scalar.addi v247 v248
  v249.toNat
def k0_dev16 (d0 : Dev nD) : Nat :=
  let c0_i32_175 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_174 : BitVec 32 := 4#32
  let v272 : BitVec 32 := Scalar.muli v2 c4_i32_174
  let v273 : BitVec 32 := Scalar.addi c0_i32_175 v272
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_176 : BitVec 32 := 2#32
  let v274 : BitVec 32 := Scalar.muli v5 c2_i32_176
  let v275 : BitVec 32 := Scalar.addi v273 v274
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_177 : BitVec 32 := 1#32
  let v276 : BitVec 32 := Scalar.muli v13 c1_i32_177
  let v277 : BitVec 32 := Scalar.addi v275 v276
  v277.toNat
def k0_dev17 (d0 : Dev nD) : Nat :=
  let c0_i32_194 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_193 : BitVec 32 := 4#32
  let v300 : BitVec 32 := Scalar.muli v2 c4_i32_193
  let v301 : BitVec 32 := Scalar.addi c0_i32_194 v300
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_195 : BitVec 32 := 2#32
  let v302 : BitVec 32 := Scalar.muli v5 c2_i32_195
  let v303 : BitVec 32 := Scalar.addi v301 v302
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_196 : BitVec 32 := 1#32
  let v304 : BitVec 32 := Scalar.muli v13 c1_i32_196
  let v305 : BitVec 32 := Scalar.addi v303 v304
  v305.toNat
def k0_dev18 (d0 : Dev nD) : Nat :=
  let c0_i32_213 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_212 : BitVec 32 := 4#32
  let v328 : BitVec 32 := Scalar.muli v2 c4_i32_212
  let v329 : BitVec 32 := Scalar.addi c0_i32_213 v328
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_214 : BitVec 32 := 2#32
  let v330 : BitVec 32 := Scalar.muli v5 c2_i32_214
  let v331 : BitVec 32 := Scalar.addi v329 v330
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_215 : BitVec 32 := 1#32
  let v332 : BitVec 32 := Scalar.muli v13 c1_i32_215
  let v333 : BitVec 32 := Scalar.addi v331 v332
  v333.toNat
def k0_dev19 (d0 : Dev nD) : Nat :=
  let c0_i32_232 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_231 : BitVec 32 := 4#32
  let v356 : BitVec 32 := Scalar.muli v2 c4_i32_231
  let v357 : BitVec 32 := Scalar.addi c0_i32_232 v356
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_233 : BitVec 32 := 2#32
  let v358 : BitVec 32 := Scalar.muli v5 c2_i32_233
  let v359 : BitVec 32 := Scalar.addi v357 v358
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_234 : BitVec 32 := 1#32
  let v360 : BitVec 32 := Scalar.muli v13 c1_i32_234
  let v361 : BitVec 32 := Scalar.addi v359 v360
  v361.toNat
def k0_dev20 (d0 : Dev nD) : Nat :=
  let c0_i32_251 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_250 : BitVec 32 := 4#32
  let v384 : BitVec 32 := Scalar.muli v2 c4_i32_250
  let v385 : BitVec 32 := Scalar.addi c0_i32_251 v384
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_252 : BitVec 32 := 2#32
  let v386 : BitVec 32 := Scalar.muli v5 c2_i32_252
  let v387 : BitVec 32 := Scalar.addi v385 v386
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_253 : BitVec 32 := 1#32
  let v388 : BitVec 32 := Scalar.muli v13 c1_i32_253
  let v389 : BitVec 32 := Scalar.addi v387 v388
  v389.toNat
def k0_dev21 (d0 : Dev nD) : Nat :=
  let c0_i32_270 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_269 : BitVec 32 := 4#32
  let v412 : BitVec 32 := Scalar.muli v2 c4_i32_269
  let v413 : BitVec 32 := Scalar.addi c0_i32_270 v412
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_271 : BitVec 32 := 2#32
  let v414 : BitVec 32 := Scalar.muli v5 c2_i32_271
  let v415 : BitVec 32 := Scalar.addi v413 v414
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_272 : BitVec 32 := 1#32
  let v416 : BitVec 32 := Scalar.muli v13 c1_i32_272
  let v417 : BitVec 32 := Scalar.addi v415 v416
  v417.toNat
def k0_off5 (d0 : Dev nD) : Fin 3 → Nat :=
  let c4_i32_278 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v427 : BitVec 32 := Scalar.muli c4_i32_278 v2
  let c2_i32_279 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v428 : BitVec 32 := Scalar.muli c2_i32_279 v5
  let v429 : BitVec 32 := Scalar.addi v427 v428
  let c1_i32_277 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v426 : BitVec 32 := Scalar.subi c1_i32_277 v8
  let v430 : BitVec 32 := Scalar.addi v429 v426
  let c0_i32_286 : BitVec 32 := 0#32
  let c0_i32_287 : BitVec 32 := 0#32
  ![v430.toNat, 0, 0]
def k0_off6 (d0 : Dev nD) : Fin 3 → Nat :=
  let c4_i32_289 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let v442 : BitVec 32 := Scalar.muli c4_i32_289 v14
  let c2_i32_290 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v443 : BitVec 32 := Scalar.muli c2_i32_290 v5
  let v444 : BitVec 32 := Scalar.addi v442 v443
  let c1_i32_288 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v441 : BitVec 32 := Scalar.subi c1_i32_288 v8
  let v445 : BitVec 32 := Scalar.addi v444 v441
  let c0_i32_297 : BitVec 32 := 0#32
  let c0_i32_298 : BitVec 32 := 0#32
  ![v445.toNat, 0, 0]
def k0_off7 (d0 : Dev nD) : Fin 3 → Nat :=
  let c4_i32_300 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v457 : BitVec 32 := Scalar.muli c4_i32_300 v2
  let c2_i32_301 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v458 : BitVec 32 := Scalar.muli c2_i32_301 v15
  let v459 : BitVec 32 := Scalar.addi v457 v458
  let c1_i32_299 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v456 : BitVec 32 := Scalar.subi c1_i32_299 v8
  let v460 : BitVec 32 := Scalar.addi v459 v456
  let c0_i32_308 : BitVec 32 := 0#32
  let c0_i32_309 : BitVec 32 := 0#32
  ![v460.toNat, 0, 0]
def k0_off8 (d0 : Dev nD) : Fin 3 → Nat :=
  let c4_i32_311 : BitVec 32 := 4#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v472 : BitVec 32 := Scalar.muli c4_i32_311 v16
  let c2_i32_312 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v473 : BitVec 32 := Scalar.muli c2_i32_312 v17
  let v474 : BitVec 32 := Scalar.addi v472 v473
  let c1_i32_310 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v471 : BitVec 32 := Scalar.subi c1_i32_310 v8
  let v475 : BitVec 32 := Scalar.addi v474 v471
  let c0_i32_319 : BitVec 32 := 0#32
  let c0_i32_320 : BitVec 32 := 0#32
  ![v475.toNat, 0, 0]
-- ==== Reference.lean ====
abbrev S2816x1024 : Shape := ⟨2, ![2816, 1024]⟩
abbrev S8x352x1024 : Shape := ⟨3, ![8, 352, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2816x1024, .bf16⟩
  | .hbm, ⟨1, _⟩ => ⟨S2816x1024, .bf16⟩
  | .hbm, ⟨2, _⟩ => ⟨S2816x1024, .bf16⟩
  | .hbm, ⟨3, _⟩ => ⟨S8x352x1024, .bf16⟩
  | .hbm, ⟨4, _⟩ => ⟨S8x352x1024, .bf16⟩
  | .hbm, ⟨5, _⟩ => ⟨S8x352x1024, .bf16⟩
  | _, _ => ⟨S2816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Update.lean ====
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x352x1024, .bf16⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdateReferenceIdeal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Scatter.lean ====
abbrev S16x1024 : Shape := ⟨2, ![16, 1024]⟩
abbrev S8x1024x352 : Shape := ⟨3, ![8, 1024, 352]⟩
abbrev S8x352x1024 : Shape := ⟨3, ![8, 352, 1024]⟩
abbrev S8x1024x192 : Shape := ⟨3, ![8, 1024, 192]⟩
abbrev S8x128x512 : Shape := ⟨3, ![8, 128, 512]⟩
abbrev S8x128x1024 : Shape := ⟨3, ![8, 128, 1024]⟩
abbrev S8x16x1024 : Shape := ⟨3, ![8, 16, 1024]⟩
abbrev S70 : Shape := ⟨1, ![70]⟩
abbrev S10 : Shape := ⟨1, ![10]⟩
abbrev S1 : Shape := ⟨1, ![1]⟩
abbrev S_ : Shape := ⟨0, ![]⟩
abbrev S1x16x1024 : Shape := ⟨3, ![1, 16, 1024]⟩
abbrev S1x1024x352 : Shape := ⟨3, ![1, 1024, 352]⟩
abbrev S1024x352 : Shape := ⟨2, ![1024, 352]⟩
abbrev S1x352x1024 : Shape := ⟨3, ![1, 352, 1024]⟩
abbrev S352x1024 : Shape := ⟨2, ![352, 1024]⟩
abbrev S1x1024x192 : Shape := ⟨3, ![1, 1024, 192]⟩
abbrev S1024x192 : Shape := ⟨2, ![1024, 192]⟩
abbrev S1x128x512 : Shape := ⟨3, ![1, 128, 512]⟩
abbrev S128x512 : Shape := ⟨2, ![128, 512]⟩
abbrev S1x128x1024 : Shape := ⟨3, ![1, 128, 1024]⟩
abbrev S128x1024 : Shape := ⟨2, ![128, 1024]⟩

abbrev nBuf : Space → Nat
  | .hbm => 20
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S8x1024x352, .bf16⟩
  | .hbm, ⟨2, _⟩ => ⟨S8x1024x352, .bf16⟩
  | .hbm, ⟨3, _⟩ => ⟨S8x352x1024, .bf16⟩
  | .hbm, ⟨4, _⟩ => ⟨S8x1024x192, .bf16⟩
  | .hbm, ⟨5, _⟩ => ⟨S8x128x512, .bf16⟩
  | .hbm, ⟨6, _⟩ => ⟨S8x128x1024, .bf16⟩
  | .hbm, ⟨7, _⟩ => ⟨S8x1024x352, .bf16⟩
  | .hbm, ⟨8, _⟩ => ⟨S8x1024x352, .bf16⟩
  | .hbm, ⟨9, _⟩ => ⟨S8x352x1024, .bf16⟩
  | .hbm, ⟨10, _⟩ => ⟨S8x16x1024, .f32⟩
  | .hbm, ⟨11, _⟩ => ⟨S8x1024x352, .bf16⟩
  | .hbm, ⟨12, _⟩ => ⟨S8x1024x352, .bf16⟩
  | .hbm, ⟨13, _⟩ => ⟨S8x352x1024, .bf16⟩
  | .hbm, ⟨14, _⟩ => ⟨S8x1024x192, .bf16⟩
  | .hbm, ⟨15, _⟩ => ⟨S8x128x512, .bf16⟩
  | .hbm, ⟨16, _⟩ => ⟨S8x128x1024, .bf16⟩
  | .hbm, ⟨17, _⟩ => ⟨S8x1024x352, .bf16⟩
  | .hbm, ⟨18, _⟩ => ⟨S8x1024x352, .bf16⟩
  | .hbm, ⟨19, _⟩ => ⟨S8x352x1024, .bf16⟩
  | _, _ => ⟨S16x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | _, _ => false

abbrev semScoped : Fin 0 → Bool
  | ⟨_, h⟩ => absurd h (Nat.not_lt_zero _)

abbrev dmaSemScoped : Fin 150 → Bool
  | ⟨i, _⟩ => dmaSemScopedAt i

abbrev sig : RefSig :=
  ofTc nBuf bufTy 0 150 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev main_v1_5 : Ref sig .tc := ⟨.hbm, 15, rfl⟩
abbrev main_v1_6 : Ref sig .tc := ⟨.hbm, 16, rfl⟩
abbrev main_v1_7 : Ref sig .tc := ⟨.hbm, 17, rfl⟩
abbrev main_v1_8 : Ref sig .tc := ⟨.hbm, 18, rfl⟩
abbrev main_v1_9 : Ref sig .tc := ⟨.hbm, 19, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_8 : BitVec 32 := 0#32
  let c0_i32_9 : BitVec 32 := 0#32
  ![v12.toNat, 0, 0]
def k0_off3 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_17 : BitVec 32 := 0#32
  let c0_i32_18 : BitVec 32 := 0#32
  ![v12.toNat, 0, 0]
def k0_off4 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_22 : BitVec 32 := 0#32
  let c0_i32_23 : BitVec 32 := 0#32
  ![v12.toNat, 0, 0]
def k0_off5 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_26 : BitVec 32 := 0#32
  let c0_i32_27 : BitVec 32 := 0#32
  ![v12.toNat, 0, 0]
def k0_off6 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_30 : BitVec 32 := 0#32
  let c0_i32_31 : BitVec 32 := 0#32
  ![v12.toNat, 0, 0]
def k0_dev1 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v72 : BitVec 32 := Scalar.muli v2 c4_i32_49
  let v73 : BitVec 32 := Scalar.addi c0_i32_50 v72
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_51 : BitVec 32 := 2#32
  let v74 : BitVec 32 := Scalar.muli v5 c2_i32_51
  let v75 : BitVec 32 := Scalar.addi v73 v74
  let c1_i32_46 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v71 : BitVec 32 := Scalar.subi c1_i32_46 v8
  let c1_i32_52 : BitVec 32 := 1#32
  let v76 : BitVec 32 := Scalar.muli v71 c1_i32_52
  let v77 : BitVec 32 := Scalar.addi v75 v76
  v77.toNat
def k0_dev2 (d0 : Dev nD) : Nat :=
  let c0_i32_59 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_58 : BitVec 32 := 4#32
  let v85 : BitVec 32 := Scalar.muli v2 c4_i32_58
  let v86 : BitVec 32 := Scalar.addi c0_i32_59 v85
  let c1_i32_55 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v84 : BitVec 32 := Scalar.subi c1_i32_55 v5
  let c2_i32_60 : BitVec 32 := 2#32
  let v87 : BitVec 32 := Scalar.muli v84 c2_i32_60
  let v88 : BitVec 32 := Scalar.addi v86 v87
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_61 : BitVec 32 := 1#32
  let v89 : BitVec 32 := Scalar.muli v8 c1_i32_61
  let v90 : BitVec 32 := Scalar.addi v88 v89
  v90.toNat
def k0_dev3 (d0 : Dev nD) : Nat :=
  let c0_i32_69 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_68 : BitVec 32 := 4#32
  let v99 : BitVec 32 := Scalar.muli v2 c4_i32_68
  let v100 : BitVec 32 := Scalar.addi c0_i32_69 v99
  let c1_i32_64 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v97 : BitVec 32 := Scalar.subi c1_i32_64 v5
  let c2_i32_70 : BitVec 32 := 2#32
  let v101 : BitVec 32 := Scalar.muli v97 c2_i32_70
  let v102 : BitVec 32 := Scalar.addi v100 v101
  let c1_i32_65 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v98 : BitVec 32 := Scalar.subi c1_i32_65 v8
  let c1_i32_71 : BitVec 32 := 1#32
  let v103 : BitVec 32 := Scalar.muli v98 c1_i32_71
  let v104 : BitVec 32 := Scalar.addi v102 v103
  v104.toNat
def k0_dev4 (d0 : Dev nD) : Nat :=
  let c0_i32_78 : BitVec 32 := 0#32
  let c1_i32_74 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v111 : BitVec 32 := Scalar.subi c1_i32_74 v2
  let c4_i32_77 : BitVec 32 := 4#32
  let v112 : BitVec 32 := Scalar.muli v111 c4_i32_77
  let v113 : BitVec 32 := Scalar.addi c0_i32_78 v112
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_79 : BitVec 32 := 2#32
  let v114 : BitVec 32 := Scalar.muli v5 c2_i32_79
  let v115 : BitVec 32 := Scalar.addi v113 v114
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_80 : BitVec 32 := 1#32
  let v116 : BitVec 32 := Scalar.muli v8 c1_i32_80
  let v117 : BitVec 32 := Scalar.addi v115 v116
  v117.toNat
def k0_dev5 (d0 : Dev nD) : Nat :=
  let c0_i32_88 : BitVec 32 := 0#32
  let c1_i32_83 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v124 : BitVec 32 := Scalar.subi c1_i32_83 v2
  let c4_i32_87 : BitVec 32 := 4#32
  let v126 : BitVec 32 := Scalar.muli v124 c4_i32_87
  let v127 : BitVec 32 := Scalar.addi c0_i32_88 v126
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_89 : BitVec 32 := 2#32
  let v128 : BitVec 32 := Scalar.muli v5 c2_i32_89
  let v129 : BitVec 32 := Scalar.addi v127 v128
  let c1_i32_84 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v125 : BitVec 32 := Scalar.subi c1_i32_84 v8
  let c1_i32_90 : BitVec 32 := 1#32
  let v130 : BitVec 32 := Scalar.muli v125 c1_i32_90
  let v131 : BitVec 32 := Scalar.addi v129 v130
  v131.toNat
def k0_dev6 (d0 : Dev nD) : Nat :=
  let c0_i32_98 : BitVec 32 := 0#32
  let c1_i32_93 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v138 : BitVec 32 := Scalar.subi c1_i32_93 v2
  let c4_i32_97 : BitVec 32 := 4#32
  let v140 : BitVec 32 := Scalar.muli v138 c4_i32_97
  let v141 : BitVec 32 := Scalar.addi c0_i32_98 v140
  let c1_i32_94 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v139 : BitVec 32 := Scalar.subi c1_i32_94 v5
  let c2_i32_99 : BitVec 32 := 2#32
  let v142 : BitVec 32 := Scalar.muli v139 c2_i32_99
  let v143 : BitVec 32 := Scalar.addi v141 v142
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_100 : BitVec 32 := 1#32
  let v144 : BitVec 32 := Scalar.muli v8 c1_i32_100
  let v145 : BitVec 32 := Scalar.addi v143 v144
  v145.toNat
def k0_dev7 (d0 : Dev nD) : Nat :=
  let c0_i32_109 : BitVec 32 := 0#32
  let c1_i32_103 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v152 : BitVec 32 := Scalar.subi c1_i32_103 v2
  let c4_i32_108 : BitVec 32 := 4#32
  let v155 : BitVec 32 := Scalar.muli v152 c4_i32_108
  let v156 : BitVec 32 := Scalar.addi c0_i32_109 v155
  let c1_i32_104 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v153 : BitVec 32 := Scalar.subi c1_i32_104 v5
  let c2_i32_110 : BitVec 32 := 2#32
  let v157 : BitVec 32 := Scalar.muli v153 c2_i32_110
  let v158 : BitVec 32 := Scalar.addi v156 v157
  let c1_i32_105 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v154 : BitVec 32 := Scalar.subi c1_i32_105 v8
  let c1_i32_111 : BitVec 32 := 1#32
  let v159 : BitVec 32 := Scalar.muli v154 c1_i32_111
  let v160 : BitVec 32 := Scalar.addi v158 v159
  v160.toNat
def k0_off7 (d0 : Dev nD) : Fin 3 → Nat :=
  let c4_i32_115 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v168 : BitVec 32 := Scalar.muli c4_i32_115 v2
  let c2_i32_116 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v169 : BitVec 32 := Scalar.muli c2_i32_116 v5
  let v170 : BitVec 32 := Scalar.addi v168 v169
  let c1_i32_114 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v167 : BitVec 32 := Scalar.subi c1_i32_114 v8
  let v171 : BitVec 32 := Scalar.addi v170 v167
  let c0_i32_125 : BitVec 32 := 0#32
  let c0_i32_126 : BitVec 32 := 0#32
  ![v171.toNat, 0, 0]
def k0_dev8 (d0 : Dev nD) : Nat :=
  let c0_i32_120 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_119 : BitVec 32 := 4#32
  let v172 : BitVec 32 := Scalar.muli v2 c4_i32_119
  let v173 : BitVec 32 := Scalar.addi c0_i32_120 v172
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_121 : BitVec 32 := 2#32
  let v174 : BitVec 32 := Scalar.muli v5 c2_i32_121
  let v175 : BitVec 32 := Scalar.addi v173 v174
  let c1_i32_114 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v167 : BitVec 32 := Scalar.subi c1_i32_114 v8
  let c1_i32_122 : BitVec 32 := 1#32
  let v176 : BitVec 32 := Scalar.muli v167 c1_i32_122
  let v177 : BitVec 32 := Scalar.addi v175 v176
  v177.toNat
def k0_off8 (d0 : Dev nD) : Fin 3 → Nat :=
  let c4_i32_128 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v187 : BitVec 32 := Scalar.muli c4_i32_128 v2
  let c2_i32_129 : BitVec 32 := 2#32
  let c1_i32_127 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v186 : BitVec 32 := Scalar.subi c1_i32_127 v5
  let v188 : BitVec 32 := Scalar.muli c2_i32_129 v186
  let v189 : BitVec 32 := Scalar.addi v187 v188
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v190 : BitVec 32 := Scalar.addi v189 v8
  let c0_i32_138 : BitVec 32 := 0#32
  let c0_i32_139 : BitVec 32 := 0#32
  ![v190.toNat, 0, 0]
def k0_dev9 (d0 : Dev nD) : Nat :=
  let c0_i32_133 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_132 : BitVec 32 := 4#32
  let v191 : BitVec 32 := Scalar.muli v2 c4_i32_132
  let v192 : BitVec 32 := Scalar.addi c0_i32_133 v191
  let c1_i32_127 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v186 : BitVec 32 := Scalar.subi c1_i32_127 v5
  let c2_i32_134 : BitVec 32 := 2#32
  let v193 : BitVec 32 := Scalar.muli v186 c2_i32_134
  let v194 : BitVec 32 := Scalar.addi v192 v193
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_135 : BitVec 32 := 1#32
  let v195 : BitVec 32 := Scalar.muli v8 c1_i32_135
  let v196 : BitVec 32 := Scalar.addi v194 v195
  v196.toNat
def k0_off9 (d0 : Dev nD) : Fin 3 → Nat :=
  let c4_i32_142 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v207 : BitVec 32 := Scalar.muli c4_i32_142 v2
  let c2_i32_143 : BitVec 32 := 2#32
  let c1_i32_140 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v205 : BitVec 32 := Scalar.subi c1_i32_140 v5
  let v208 : BitVec 32 := Scalar.muli c2_i32_143 v205
  let v209 : BitVec 32 := Scalar.addi v207 v208
  let c1_i32_141 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v206 : BitVec 32 := Scalar.subi c1_i32_141 v8
  let v210 : BitVec 32 := Scalar.addi v209 v206
  let c0_i32_152 : BitVec 32 := 0#32
  let c0_i32_153 : BitVec 32 := 0#32
  ![v210.toNat, 0, 0]
def k0_dev10 (d0 : Dev nD) : Nat :=
  let c0_i32_147 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_146 : BitVec 32 := 4#32
  let v211 : BitVec 32 := Scalar.muli v2 c4_i32_146
  let v212 : BitVec 32 := Scalar.addi c0_i32_147 v211
  let c1_i32_140 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v205 : BitVec 32 := Scalar.subi c1_i32_140 v5
  let c2_i32_148 : BitVec 32 := 2#32
  let v213 : BitVec 32 := Scalar.muli v205 c2_i32_148
  let v214 : BitVec 32 := Scalar.addi v212 v213
  let c1_i32_141 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v206 : BitVec 32 := Scalar.subi c1_i32_141 v8
  let c1_i32_149 : BitVec 32 := 1#32
  let v215 : BitVec 32 := Scalar.muli v206 c1_i32_149
  let v216 : BitVec 32 := Scalar.addi v214 v215
  v216.toNat
def k0_off10 (d0 : Dev nD) : Fin 3 → Nat :=
  let c4_i32_155 : BitVec 32 := 4#32
  let c1_i32_154 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v225 : BitVec 32 := Scalar.subi c1_i32_154 v2
  let v226 : BitVec 32 := Scalar.muli c4_i32_155 v225
  let c2_i32_156 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v227 : BitVec 32 := Scalar.muli c2_i32_156 v5
  let v228 : BitVec 32 := Scalar.addi v226 v227
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v229 : BitVec 32 := Scalar.addi v228 v8
  let c0_i32_164 : BitVec 32 := 0#32
  let c0_i32_165 : BitVec 32 := 0#32
  ![v229.toNat, 0, 0]
def k0_dev11 (d0 : Dev nD) : Nat :=
  let c0_i32_159 : BitVec 32 := 0#32
  let c1_i32_154 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v225 : BitVec 32 := Scalar.subi c1_i32_154 v2
  let c4_i32_158 : BitVec 32 := 4#32
  let v230 : BitVec 32 := Scalar.muli v225 c4_i32_158
  let v231 : BitVec 32 := Scalar.addi c0_i32_159 v230
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_160 : BitVec 32 := 2#32
  let v232 : BitVec 32 := Scalar.muli v5 c2_i32_160
  let v233 : BitVec 32 := Scalar.addi v231 v232
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_161 : BitVec 32 := 1#32
  let v234 : BitVec 32 := Scalar.muli v8 c1_i32_161
  let v235 : BitVec 32 := Scalar.addi v233 v234
  v235.toNat
def k0_off11 (d0 : Dev nD) : Fin 3 → Nat :=
  let c4_i32_168 : BitVec 32 := 4#32
  let c1_i32_166 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v244 : BitVec 32 := Scalar.subi c1_i32_166 v2
  let v246 : BitVec 32 := Scalar.muli c4_i32_168 v244
  let c2_i32_169 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v247 : BitVec 32 := Scalar.muli c2_i32_169 v5
  let v248 : BitVec 32 := Scalar.addi v246 v247
  let c1_i32_167 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v245 : BitVec 32 := Scalar.subi c1_i32_167 v8
  let v249 : BitVec 32 := Scalar.addi v248 v245
  let c0_i32_177 : BitVec 32 := 0#32
  let c0_i32_178 : BitVec 32 := 0#32
  ![v249.toNat, 0, 0]
def k0_dev12 (d0 : Dev nD) : Nat :=
  let c0_i32_172 : BitVec 32 := 0#32
  let c1_i32_166 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v244 : BitVec 32 := Scalar.subi c1_i32_166 v2
  let c4_i32_171 : BitVec 32 := 4#32
  let v250 : BitVec 32 := Scalar.muli v244 c4_i32_171
  let v251 : BitVec 32 := Scalar.addi c0_i32_172 v250
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_173 : BitVec 32 := 2#32
  let v252 : BitVec 32 := Scalar.muli v5 c2_i32_173
  let v253 : BitVec 32 := Scalar.addi v251 v252
  let c1_i32_167 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v245 : BitVec 32 := Scalar.subi c1_i32_167 v8
  let c1_i32_174 : BitVec 32 := 1#32
  let v254 : BitVec 32 := Scalar.muli v245 c1_i32_174
  let v255 : BitVec 32 := Scalar.addi v253 v254
  v255.toNat
def k0_off12 (d0 : Dev nD) : Fin 3 → Nat :=
  let c4_i32_181 : BitVec 32 := 4#32
  let c1_i32_179 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v264 : BitVec 32 := Scalar.subi c1_i32_179 v2
  let v266 : BitVec 32 := Scalar.muli c4_i32_181 v264
  let c2_i32_182 : BitVec 32 := 2#32
  let c1_i32_180 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v265 : BitVec 32 := Scalar.subi c1_i32_180 v5
  let v267 : BitVec 32 := Scalar.muli c2_i32_182 v265
  let v268 : BitVec 32 := Scalar.addi v266 v267
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v269 : BitVec 32 := Scalar.addi v268 v8
  let c0_i32_190 : BitVec 32 := 0#32
  let c0_i32_191 : BitVec 32 := 0#32
  ![v269.toNat, 0, 0]
def k0_dev13 (d0 : Dev nD) : Nat :=
  let c0_i32_185 : BitVec 32 := 0#32
  let c1_i32_179 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v264 : BitVec 32 := Scalar.subi c1_i32_179 v2
  let c4_i32_184 : BitVec 32 := 4#32
  let v270 : BitVec 32 := Scalar.muli v264 c4_i32_184
  let v271 : BitVec 32 := Scalar.addi c0_i32_185 v270
  let c1_i32_180 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v265 : BitVec 32 := Scalar.subi c1_i32_180 v5
  let c2_i32_186 : BitVec 32 := 2#32
  let v272 : BitVec 32 := Scalar.muli v265 c2_i32_186
  let v273 : BitVec 32 := Scalar.addi v271 v272
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_187 : BitVec 32 := 1#32
  let v274 : BitVec 32 := Scalar.muli v8 c1_i32_187
  let v275 : BitVec 32 := Scalar.addi v273 v274
  v275.toNat
def k0_off13 (d0 : Dev nD) : Fin 3 → Nat :=
  let c4_i32_195 : BitVec 32 := 4#32
  let c1_i32_192 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v284 : BitVec 32 := Scalar.subi c1_i32_192 v2
  let v287 : BitVec 32 := Scalar.muli c4_i32_195 v284
  let c2_i32_196 : BitVec 32 := 2#32
  let c1_i32_193 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v285 : BitVec 32 := Scalar.subi c1_i32_193 v5
  let v288 : BitVec 32 := Scalar.muli c2_i32_196 v285
  let v289 : BitVec 32 := Scalar.addi v287 v288
  let c1_i32_194 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v286 : BitVec 32 := Scalar.subi c1_i32_194 v8
  let v290 : BitVec 32 := Scalar.addi v289 v286
  let c0_i32_204 : BitVec 32 := 0#32
  let c0_i32_205 : BitVec 32 := 0#32
  ![v290.toNat, 0, 0]
def k0_dev14 (d0 : Dev nD) : Nat :=
  let c0_i32_199 : BitVec 32 := 0#32
  let c1_i32_192 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v284 : BitVec 32 := Scalar.subi c1_i32_192 v2
  let c4_i32_198 : BitVec 32 := 4#32
  let v291 : BitVec 32 := Scalar.muli v284 c4_i32_198
  let v292 : BitVec 32 := Scalar.addi c0_i32_199 v291
  let c1_i32_193 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v285 : BitVec 32 := Scalar.subi c1_i32_193 v5
  let c2_i32_200 : BitVec 32 := 2#32
  let v293 : BitVec 32 := Scalar.muli v285 c2_i32_200
  let v294 : BitVec 32 := Scalar.addi v292 v293
  let c1_i32_194 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v286 : BitVec 32 := Scalar.subi c1_i32_194 v8
  let c1_i32_201 : BitVec 32 := 1#32
  let v295 : BitVec 32 := Scalar.muli v286 c1_i32_201
  let v296 : BitVec 32 := Scalar.addi v294 v295
  v296.toNat
def k0_dev15 (d0 : Dev nD) : Nat :=
  let c0_i32_211 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_210 : BitVec 32 := 4#32
  let v310 : BitVec 32 := Scalar.muli v2 c4_i32_210
  let v311 : BitVec 32 := Scalar.addi c0_i32_211 v310
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_212 : BitVec 32 := 2#32
  let v312 : BitVec 32 := Scalar.muli v5 c2_i32_212
  let v313 : BitVec 32 := Scalar.addi v311 v312
  let c1_i32_206 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v305 : BitVec 32 := Scalar.subi c1_i32_206 v8
  let c1_i32_213 : BitVec 32 := 1#32
  let v314 : BitVec 32 := Scalar.muli v305 c1_i32_213
  let v315 : BitVec 32 := Scalar.addi v313 v314
  v315.toNat
def k0_dev16 (d0 : Dev nD) : Nat :=
  let c0_i32_223 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_222 : BitVec 32 := 4#32
  let v329 : BitVec 32 := Scalar.muli v2 c4_i32_222
  let v330 : BitVec 32 := Scalar.addi c0_i32_223 v329
  let c1_i32_218 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v324 : BitVec 32 := Scalar.subi c1_i32_218 v5
  let c2_i32_224 : BitVec 32 := 2#32
  let v331 : BitVec 32 := Scalar.muli v324 c2_i32_224
  let v332 : BitVec 32 := Scalar.addi v330 v331
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_225 : BitVec 32 := 1#32
  let v333 : BitVec 32 := Scalar.muli v8 c1_i32_225
  let v334 : BitVec 32 := Scalar.addi v332 v333
  v334.toNat
def k0_dev17 (d0 : Dev nD) : Nat :=
  let c0_i32_236 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_235 : BitVec 32 := 4#32
  let v349 : BitVec 32 := Scalar.muli v2 c4_i32_235
  let v350 : BitVec 32 := Scalar.addi c0_i32_236 v349
  let c1_i32_230 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v343 : BitVec 32 := Scalar.subi c1_i32_230 v5
  let c2_i32_237 : BitVec 32 := 2#32
  let v351 : BitVec 32 := Scalar.muli v343 c2_i32_237
  let v352 : BitVec 32 := Scalar.addi v350 v351
  let c1_i32_231 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v344 : BitVec 32 := Scalar.subi c1_i32_231 v8
  let c1_i32_238 : BitVec 32 := 1#32
  let v353 : BitVec 32 := Scalar.muli v344 c1_i32_238
  let v354 : BitVec 32 := Scalar.addi v352 v353
  v354.toNat
def k0_dev18 (d0 : Dev nD) : Nat :=
  let c0_i32_248 : BitVec 32 := 0#32
  let c1_i32_243 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v363 : BitVec 32 := Scalar.subi c1_i32_243 v2
  let c4_i32_247 : BitVec 32 := 4#32
  let v368 : BitVec 32 := Scalar.muli v363 c4_i32_247
  let v369 : BitVec 32 := Scalar.addi c0_i32_248 v368
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_249 : BitVec 32 := 2#32
  let v370 : BitVec 32 := Scalar.muli v5 c2_i32_249
  let v371 : BitVec 32 := Scalar.addi v369 v370
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_250 : BitVec 32 := 1#32
  let v372 : BitVec 32 := Scalar.muli v8 c1_i32_250
  let v373 : BitVec 32 := Scalar.addi v371 v372
  v373.toNat
def k0_dev19 (d0 : Dev nD) : Nat :=
  let c0_i32_261 : BitVec 32 := 0#32
  let c1_i32_255 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v382 : BitVec 32 := Scalar.subi c1_i32_255 v2
  let c4_i32_260 : BitVec 32 := 4#32
  let v388 : BitVec 32 := Scalar.muli v382 c4_i32_260
  let v389 : BitVec 32 := Scalar.addi c0_i32_261 v388
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_262 : BitVec 32 := 2#32
  let v390 : BitVec 32 := Scalar.muli v5 c2_i32_262
  let v391 : BitVec 32 := Scalar.addi v389 v390
  let c1_i32_256 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v383 : BitVec 32 := Scalar.subi c1_i32_256 v8
  let c1_i32_263 : BitVec 32 := 1#32
  let v392 : BitVec 32 := Scalar.muli v383 c1_i32_263
  let v393 : BitVec 32 := Scalar.addi v391 v392
  v393.toNat
def k0_dev20 (d0 : Dev nD) : Nat :=
  let c0_i32_274 : BitVec 32 := 0#32
  let c1_i32_268 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v402 : BitVec 32 := Scalar.subi c1_i32_268 v2
  let c4_i32_273 : BitVec 32 := 4#32
  let v408 : BitVec 32 := Scalar.muli v402 c4_i32_273
  let v409 : BitVec 32 := Scalar.addi c0_i32_274 v408
  let c1_i32_269 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v403 : BitVec 32 := Scalar.subi c1_i32_269 v5
  let c2_i32_275 : BitVec 32 := 2#32
  let v410 : BitVec 32 := Scalar.muli v403 c2_i32_275
  let v411 : BitVec 32 := Scalar.addi v409 v410
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_276 : BitVec 32 := 1#32
  let v412 : BitVec 32 := Scalar.muli v8 c1_i32_276
  let v413 : BitVec 32 := Scalar.addi v411 v412
  v413.toNat
def k0_dev21 (d0 : Dev nD) : Nat :=
  let c0_i32_288 : BitVec 32 := 0#32
  let c1_i32_281 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v422 : BitVec 32 := Scalar.subi c1_i32_281 v2
  let c4_i32_287 : BitVec 32 := 4#32
  let v429 : BitVec 32 := Scalar.muli v422 c4_i32_287
  let v430 : BitVec 32 := Scalar.addi c0_i32_288 v429
  let c1_i32_282 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v423 : BitVec 32 := Scalar.subi c1_i32_282 v5
  let c2_i32_289 : BitVec 32 := 2#32
  let v431 : BitVec 32 := Scalar.muli v423 c2_i32_289
  let v432 : BitVec 32 := Scalar.addi v430 v431
  let c1_i32_283 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v424 : BitVec 32 := Scalar.subi c1_i32_283 v8
  let c1_i32_290 : BitVec 32 := 1#32
  let v433 : BitVec 32 := Scalar.muli v424 c1_i32_290
  let v434 : BitVec 32 := Scalar.addi v432 v433
  v434.toNat
def k0_off14 (d0 : Dev nD) : Fin 3 → Nat :=
  let c4_i32_296 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v444 : BitVec 32 := Scalar.muli c4_i32_296 v2
  let c2_i32_297 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v445 : BitVec 32 := Scalar.muli c2_i32_297 v5
  let v446 : BitVec 32 := Scalar.addi v444 v445
  let c1_i32_295 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v443 : BitVec 32 := Scalar.subi c1_i32_295 v8
  let v447 : BitVec 32 := Scalar.addi v446 v443
  let c0_i32_305 : BitVec 32 := 0#32
  let c0_i32_306 : BitVec 32 := 0#32
  ![v447.toNat, 0, 0]
def k0_dev22 (d0 : Dev nD) : Nat :=
  let c0_i32_300 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_299 : BitVec 32 := 4#32
  let v448 : BitVec 32 := Scalar.muli v2 c4_i32_299
  let v449 : BitVec 32 := Scalar.addi c0_i32_300 v448
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_301 : BitVec 32 := 2#32
  let v450 : BitVec 32 := Scalar.muli v5 c2_i32_301
  let v451 : BitVec 32 := Scalar.addi v449 v450
  let c1_i32_295 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v443 : BitVec 32 := Scalar.subi c1_i32_295 v8
  let c1_i32_302 : BitVec 32 := 1#32
  let v452 : BitVec 32 := Scalar.muli v443 c1_i32_302
  let v453 : BitVec 32 := Scalar.addi v451 v452
  v453.toNat
def k0_off15 (d0 : Dev nD) : Fin 3 → Nat :=
  let c4_i32_308 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v463 : BitVec 32 := Scalar.muli c4_i32_308 v2
  let c2_i32_309 : BitVec 32 := 2#32
  let c1_i32_307 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v462 : BitVec 32 := Scalar.subi c1_i32_307 v5
  let v464 : BitVec 32 := Scalar.muli c2_i32_309 v462
  let v465 : BitVec 32 := Scalar.addi v463 v464
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v466 : BitVec 32 := Scalar.addi v465 v8
  let c0_i32_317 : BitVec 32 := 0#32
  let c0_i32_318 : BitVec 32 := 0#32
  ![v466.toNat, 0, 0]
def k0_dev23 (d0 : Dev nD) : Nat :=
  let c0_i32_312 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_311 : BitVec 32 := 4#32
  let v467 : BitVec 32 := Scalar.muli v2 c4_i32_311
  let v468 : BitVec 32 := Scalar.addi c0_i32_312 v467
  let c1_i32_307 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v462 : BitVec 32 := Scalar.subi c1_i32_307 v5
  let c2_i32_313 : BitVec 32 := 2#32
  let v469 : BitVec 32 := Scalar.muli v462 c2_i32_313
  let v470 : BitVec 32 := Scalar.addi v468 v469
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_314 : BitVec 32 := 1#32
  let v471 : BitVec 32 := Scalar.muli v8 c1_i32_314
  let v472 : BitVec 32 := Scalar.addi v470 v471
  v472.toNat
def k0_off16 (d0 : Dev nD) : Fin 3 → Nat :=
  let c4_i32_321 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v483 : BitVec 32 := Scalar.muli c4_i32_321 v2
  let c2_i32_322 : BitVec 32 := 2#32
  let c1_i32_319 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v481 : BitVec 32 := Scalar.subi c1_i32_319 v5
  let v484 : BitVec 32 := Scalar.muli c2_i32_322 v481
  let v485 : BitVec 32 := Scalar.addi v483 v484
  let c1_i32_320 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v482 : BitVec 32 := Scalar.subi c1_i32_320 v8
  let v486 : BitVec 32 := Scalar.addi v485 v482
  let c0_i32_330 : BitVec 32 := 0#32
  let c0_i32_331 : BitVec 32 := 0#32
  ![v486.toNat, 0, 0]
def k0_dev24 (d0 : Dev nD) : Nat :=
  let c0_i32_325 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_324 : BitVec 32 := 4#32
  let v487 : BitVec 32 := Scalar.muli v2 c4_i32_324
  let v488 : BitVec 32 := Scalar.addi c0_i32_325 v487
  let c1_i32_319 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v481 : BitVec 32 := Scalar.subi c1_i32_319 v5
  let c2_i32_326 : BitVec 32 := 2#32
  let v489 : BitVec 32 := Scalar.muli v481 c2_i32_326
  let v490 : BitVec 32 := Scalar.addi v488 v489
  let c1_i32_320 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v482 : BitVec 32 := Scalar.subi c1_i32_320 v8
  let c1_i32_327 : BitVec 32 := 1#32
  let v491 : BitVec 32 := Scalar.muli v482 c1_i32_327
  let v492 : BitVec 32 := Scalar.addi v490 v491
  v492.toNat
def k0_off17 (d0 : Dev nD) : Fin 3 → Nat :=
  let c4_i32_333 : BitVec 32 := 4#32
  let c1_i32_332 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v501 : BitVec 32 := Scalar.subi c1_i32_332 v2
  let v502 : BitVec 32 := Scalar.muli c4_i32_333 v501
  let c2_i32_334 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v503 : BitVec 32 := Scalar.muli c2_i32_334 v5
  let v504 : BitVec 32 := Scalar.addi v502 v503
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v505 : BitVec 32 := Scalar.addi v504 v8
  let c0_i32_342 : BitVec 32 := 0#32
  let c0_i32_343 : BitVec 32 := 0#32
  ![v505.toNat, 0, 0]
def k0_dev25 (d0 : Dev nD) : Nat :=
  let c0_i32_337 : BitVec 32 := 0#32
  let c1_i32_332 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v501 : BitVec 32 := Scalar.subi c1_i32_332 v2
  let c4_i32_336 : BitVec 32 := 4#32
  let v506 : BitVec 32 := Scalar.muli v501 c4_i32_336
  let v507 : BitVec 32 := Scalar.addi c0_i32_337 v506
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_338 : BitVec 32 := 2#32
  let v508 : BitVec 32 := Scalar.muli v5 c2_i32_338
  let v509 : BitVec 32 := Scalar.addi v507 v508
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_339 : BitVec 32 := 1#32
  let v510 : BitVec 32 := Scalar.muli v8 c1_i32_339
  let v511 : BitVec 32 := Scalar.addi v509 v510
  v511.toNat
def k0_off18 (d0 : Dev nD) : Fin 3 → Nat :=
  let c4_i32_346 : BitVec 32 := 4#32
  let c1_i32_344 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v520 : BitVec 32 := Scalar.subi c1_i32_344 v2
  let v522 : BitVec 32 := Scalar.muli c4_i32_346 v520
  let c2_i32_347 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v523 : BitVec 32 := Scalar.muli c2_i32_347 v5
  let v524 : BitVec 32 := Scalar.addi v522 v523
  let c1_i32_345 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v521 : BitVec 32 := Scalar.subi c1_i32_345 v8
  let v525 : BitVec 32 := Scalar.addi v524 v521
  let c0_i32_355 : BitVec 32 := 0#32
  let c0_i32_356 : BitVec 32 := 0#32
  ![v525.toNat, 0, 0]
def k0_dev26 (d0 : Dev nD) : Nat :=
  let c0_i32_350 : BitVec 32 := 0#32
  let c1_i32_344 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v520 : BitVec 32 := Scalar.subi c1_i32_344 v2
  let c4_i32_349 : BitVec 32 := 4#32
  let v526 : BitVec 32 := Scalar.muli v520 c4_i32_349
  let v527 : BitVec 32 := Scalar.addi c0_i32_350 v526
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_351 : BitVec 32 := 2#32
  let v528 : BitVec 32 := Scalar.muli v5 c2_i32_351
  let v529 : BitVec 32 := Scalar.addi v527 v528
  let c1_i32_345 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v521 : BitVec 32 := Scalar.subi c1_i32_345 v8
  let c1_i32_352 : BitVec 32 := 1#32
  let v530 : BitVec 32 := Scalar.muli v521 c1_i32_352
  let v531 : BitVec 32 := Scalar.addi v529 v530
  v531.toNat
def k0_off19 (d0 : Dev nD) : Fin 3 → Nat :=
  let c4_i32_359 : BitVec 32 := 4#32
  let c1_i32_357 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v540 : BitVec 32 := Scalar.subi c1_i32_357 v2
  let v542 : BitVec 32 := Scalar.muli c4_i32_359 v540
  let c2_i32_360 : BitVec 32 := 2#32
  let c1_i32_358 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v541 : BitVec 32 := Scalar.subi c1_i32_358 v5
  let v543 : BitVec 32 := Scalar.muli c2_i32_360 v541
  let v544 : BitVec 32 := Scalar.addi v542 v543
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v545 : BitVec 32 := Scalar.addi v544 v8
  let c0_i32_368 : BitVec 32 := 0#32
  let c0_i32_369 : BitVec 32 := 0#32
  ![v545.toNat, 0, 0]
def k0_dev27 (d0 : Dev nD) : Nat :=
  let c0_i32_363 : BitVec 32 := 0#32
  let c1_i32_357 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v540 : BitVec 32 := Scalar.subi c1_i32_357 v2
  let c4_i32_362 : BitVec 32 := 4#32
  let v546 : BitVec 32 := Scalar.muli v540 c4_i32_362
  let v547 : BitVec 32 := Scalar.addi c0_i32_363 v546
  let c1_i32_358 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v541 : BitVec 32 := Scalar.subi c1_i32_358 v5
  let c2_i32_364 : BitVec 32 := 2#32
  let v548 : BitVec 32 := Scalar.muli v541 c2_i32_364
  let v549 : BitVec 32 := Scalar.addi v547 v548
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_365 : BitVec 32 := 1#32
  let v550 : BitVec 32 := Scalar.muli v8 c1_i32_365
  let v551 : BitVec 32 := Scalar.addi v549 v550
  v551.toNat
def k0_off20 (d0 : Dev nD) : Fin 3 → Nat :=
  let c4_i32_373 : BitVec 32 := 4#32
  let c1_i32_370 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v560 : BitVec 32 := Scalar.subi c1_i32_370 v2
  let v563 : BitVec 32 := Scalar.muli c4_i32_373 v560
  let c2_i32_374 : BitVec 32 := 2#32
  let c1_i32_371 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v561 : BitVec 32 := Scalar.subi c1_i32_371 v5
  let v564 : BitVec 32 := Scalar.muli c2_i32_374 v561
  let v565 : BitVec 32 := Scalar.addi v563 v564
  let c1_i32_372 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v562 : BitVec 32 := Scalar.subi c1_i32_372 v8
  let v566 : BitVec 32 := Scalar.addi v565 v562
  let c0_i32_382 : BitVec 32 := 0#32
  let c0_i32_383 : BitVec 32 := 0#32
  ![v566.toNat, 0, 0]
def k0_dev28 (d0 : Dev nD) : Nat :=
  let c0_i32_377 : BitVec 32 := 0#32
  let c1_i32_370 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v560 : BitVec 32 := Scalar.subi c1_i32_370 v2
  let c4_i32_376 : BitVec 32 := 4#32
  let v567 : BitVec 32 := Scalar.muli v560 c4_i32_376
  let v568 : BitVec 32 := Scalar.addi c0_i32_377 v567
  let c1_i32_371 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v561 : BitVec 32 := Scalar.subi c1_i32_371 v5
  let c2_i32_378 : BitVec 32 := 2#32
  let v569 : BitVec 32 := Scalar.muli v561 c2_i32_378
  let v570 : BitVec 32 := Scalar.addi v568 v569
  let c1_i32_372 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v562 : BitVec 32 := Scalar.subi c1_i32_372 v8
  let c1_i32_379 : BitVec 32 := 1#32
  let v571 : BitVec 32 := Scalar.muli v562 c1_i32_379
  let v572 : BitVec 32 := Scalar.addi v570 v571
  v572.toNat
def k0_off21 (d0 : Dev nD) : Fin 3 → Nat :=
  let c4_i32_385 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v582 : BitVec 32 := Scalar.muli c4_i32_385 v2
  let c2_i32_386 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v583 : BitVec 32 := Scalar.muli c2_i32_386 v5
  let v584 : BitVec 32 := Scalar.addi v582 v583
  let c1_i32_384 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v581 : BitVec 32 := Scalar.subi c1_i32_384 v8
  let v585 : BitVec 32 := Scalar.addi v584 v581
  let c0_i32_394 : BitVec 32 := 0#32
  let c0_i32_395 : BitVec 32 := 0#32
  ![v585.toNat, 0, 0]
def k0_dev29 (d0 : Dev nD) : Nat :=
  let c0_i32_389 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_388 : BitVec 32 := 4#32
  let v586 : BitVec 32 := Scalar.muli v2 c4_i32_388
  let v587 : BitVec 32 := Scalar.addi c0_i32_389 v586
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_390 : BitVec 32 := 2#32
  let v588 : BitVec 32 := Scalar.muli v5 c2_i32_390
  let v589 : BitVec 32 := Scalar.addi v587 v588
  let c1_i32_384 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v581 : BitVec 32 := Scalar.subi c1_i32_384 v8
  let c1_i32_391 : BitVec 32 := 1#32
  let v590 : BitVec 32 := Scalar.muli v581 c1_i32_391
  let v591 : BitVec 32 := Scalar.addi v589 v590
  v591.toNat
def k0_off22 (d0 : Dev nD) : Fin 3 → Nat :=
  let c4_i32_397 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v601 : BitVec 32 := Scalar.muli c4_i32_397 v2
  let c2_i32_398 : BitVec 32 := 2#32
  let c1_i32_396 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v600 : BitVec 32 := Scalar.subi c1_i32_396 v5
  let v602 : BitVec 32 := Scalar.muli c2_i32_398 v600
  let v603 : BitVec 32 := Scalar.addi v601 v602
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v604 : BitVec 32 := Scalar.addi v603 v8
  let c0_i32_406 : BitVec 32 := 0#32
  let c0_i32_407 : BitVec 32 := 0#32
  ![v604.toNat, 0, 0]
def k0_dev30 (d0 : Dev nD) : Nat :=
  let c0_i32_401 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_400 : BitVec 32 := 4#32
  let v605 : BitVec 32 := Scalar.muli v2 c4_i32_400
  let v606 : BitVec 32 := Scalar.addi c0_i32_401 v605
  let c1_i32_396 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v600 : BitVec 32 := Scalar.subi c1_i32_396 v5
  let c2_i32_402 : BitVec 32 := 2#32
  let v607 : BitVec 32 := Scalar.muli v600 c2_i32_402
  let v608 : BitVec 32 := Scalar.addi v606 v607
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_403 : BitVec 32 := 1#32
  let v609 : BitVec 32 := Scalar.muli v8 c1_i32_403
  let v610 : BitVec 32 := Scalar.addi v608 v609
  v610.toNat
def k0_off23 (d0 : Dev nD) : Fin 3 → Nat :=
  let c4_i32_410 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v621 : BitVec 32 := Scalar.muli c4_i32_410 v2
  let c2_i32_411 : BitVec 32 := 2#32
  let c1_i32_408 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v619 : BitVec 32 := Scalar.subi c1_i32_408 v5
  let v622 : BitVec 32 := Scalar.muli c2_i32_411 v619
  let v623 : BitVec 32 := Scalar.addi v621 v622
  let c1_i32_409 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v620 : BitVec 32 := Scalar.subi c1_i32_409 v8
  let v624 : BitVec 32 := Scalar.addi v623 v620
  let c0_i32_419 : BitVec 32 := 0#32
  let c0_i32_420 : BitVec 32 := 0#32
  ![v624.toNat, 0, 0]
def k0_dev31 (d0 : Dev nD) : Nat :=
  let c0_i32_414 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_413 : BitVec 32 := 4#32
  let v625 : BitVec 32 := Scalar.muli v2 c4_i32_413
  let v626 : BitVec 32 := Scalar.addi c0_i32_414 v625
  let c1_i32_408 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v619 : BitVec 32 := Scalar.subi c1_i32_408 v5
  let c2_i32_415 : BitVec 32 := 2#32
  let v627 : BitVec 32 := Scalar.muli v619 c2_i32_415
  let v628 : BitVec 32 := Scalar.addi v626 v627
  let c1_i32_409 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v620 : BitVec 32 := Scalar.subi c1_i32_409 v8
  let c1_i32_416 : BitVec 32 := 1#32
  let v629 : BitVec 32 := Scalar.muli v620 c1_i32_416
  let v630 : BitVec 32 := Scalar.addi v628 v629
  v630.toNat
def k0_off24 (d0 : Dev nD) : Fin 3 → Nat :=
  let c4_i32_422 : BitVec 32 := 4#32
  let c1_i32_421 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v639 : BitVec 32 := Scalar.subi c1_i32_421 v2
  let v640 : BitVec 32 := Scalar.muli c4_i32_422 v639
  let c2_i32_423 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v641 : BitVec 32 := Scalar.muli c2_i32_423 v5
  let v642 : BitVec 32 := Scalar.addi v640 v641
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v643 : BitVec 32 := Scalar.addi v642 v8
  let c0_i32_431 : BitVec 32 := 0#32
  let c0_i32_432 : BitVec 32 := 0#32
  ![v643.toNat, 0, 0]
def k0_dev32 (d0 : Dev nD) : Nat :=
  let c0_i32_426 : BitVec 32 := 0#32
  let c1_i32_421 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v639 : BitVec 32 := Scalar.subi c1_i32_421 v2
  let c4_i32_425 : BitVec 32 := 4#32
  let v644 : BitVec 32 := Scalar.muli v639 c4_i32_425
  let v645 : BitVec 32 := Scalar.addi c0_i32_426 v644
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_427 : BitVec 32 := 2#32
  let v646 : BitVec 32 := Scalar.muli v5 c2_i32_427
  let v647 : BitVec 32 := Scalar.addi v645 v646
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_428 : BitVec 32 := 1#32
  let v648 : BitVec 32 := Scalar.muli v8 c1_i32_428
  let v649 : BitVec 32 := Scalar.addi v647 v648
  v649.toNat
def k0_off25 (d0 : Dev nD) : Fin 3 → Nat :=
  let c4_i32_435 : BitVec 32 := 4#32
  let c1_i32_433 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v658 : BitVec 32 := Scalar.subi c1_i32_433 v2
  let v660 : BitVec 32 := Scalar.muli c4_i32_435 v658
  let c2_i32_436 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v661 : BitVec 32 := Scalar.muli c2_i32_436 v5
  let v662 : BitVec 32 := Scalar.addi v660 v661
  let c1_i32_434 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v659 : BitVec 32 := Scalar.subi c1_i32_434 v8
  let v663 : BitVec 32 := Scalar.addi v662 v659
  let c0_i32_444 : BitVec 32 := 0#32
  let c0_i32_445 : BitVec 32 := 0#32
  ![v663.toNat, 0, 0]
def k0_dev33 (d0 : Dev nD) : Nat :=
  let c0_i32_439 : BitVec 32 := 0#32
  let c1_i32_433 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v658 : BitVec 32 := Scalar.subi c1_i32_433 v2
  let c4_i32_438 : BitVec 32 := 4#32
  let v664 : BitVec 32 := Scalar.muli v658 c4_i32_438
  let v665 : BitVec 32 := Scalar.addi c0_i32_439 v664
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_440 : BitVec 32 := 2#32
  let v666 : BitVec 32 := Scalar.muli v5 c2_i32_440
  let v667 : BitVec 32 := Scalar.addi v665 v666
  let c1_i32_434 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v659 : BitVec 32 := Scalar.subi c1_i32_434 v8
  let c1_i32_441 : BitVec 32 := 1#32
  let v668 : BitVec 32 := Scalar.muli v659 c1_i32_441
  let v669 : BitVec 32 := Scalar.addi v667 v668
  v669.toNat
def k0_off26 (d0 : Dev nD) : Fin 3 → Nat :=
  let c4_i32_448 : BitVec 32 := 4#32
  let c1_i32_446 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v678 : BitVec 32 := Scalar.subi c1_i32_446 v2
  let v680 : BitVec 32 := Scalar.muli c4_i32_448 v678
  let c2_i32_449 : BitVec 32 := 2#32
  let c1_i32_447 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v679 : BitVec 32 := Scalar.subi c1_i32_447 v5
  let v681 : BitVec 32 := Scalar.muli c2_i32_449 v679
  let v682 : BitVec 32 := Scalar.addi v680 v681
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v683 : BitVec 32 := Scalar.addi v682 v8
  let c0_i32_457 : BitVec 32 := 0#32
  let c0_i32_458 : BitVec 32 := 0#32
  ![v683.toNat, 0, 0]
def k0_dev34 (d0 : Dev nD) : Nat :=
  let c0_i32_452 : BitVec 32 := 0#32
  let c1_i32_446 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v678 : BitVec 32 := Scalar.subi c1_i32_446 v2
  let c4_i32_451 : BitVec 32 := 4#32
  let v684 : BitVec 32 := Scalar.muli v678 c4_i32_451
  let v685 : BitVec 32 := Scalar.addi c0_i32_452 v684
  let c1_i32_447 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v679 : BitVec 32 := Scalar.subi c1_i32_447 v5
  let c2_i32_453 : BitVec 32 := 2#32
  let v686 : BitVec 32 := Scalar.muli v679 c2_i32_453
  let v687 : BitVec 32 := Scalar.addi v685 v686
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_454 : BitVec 32 := 1#32
  let v688 : BitVec 32 := Scalar.muli v8 c1_i32_454
  let v689 : BitVec 32 := Scalar.addi v687 v688
  v689.toNat
def k0_off27 (d0 : Dev nD) : Fin 3 → Nat :=
  let c4_i32_462 : BitVec 32 := 4#32
  let c1_i32_459 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v698 : BitVec 32 := Scalar.subi c1_i32_459 v2
  let v701 : BitVec 32 := Scalar.muli c4_i32_462 v698
  let c2_i32_463 : BitVec 32 := 2#32
  let c1_i32_460 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v699 : BitVec 32 := Scalar.subi c1_i32_460 v5
  let v702 : BitVec 32 := Scalar.muli c2_i32_463 v699
  let v703 : BitVec 32 := Scalar.addi v701 v702
  let c1_i32_461 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v700 : BitVec 32 := Scalar.subi c1_i32_461 v8
  let v704 : BitVec 32 := Scalar.addi v703 v700
  let c0_i32_471 : BitVec 32 := 0#32
  let c0_i32_472 : BitVec 32 := 0#32
  ![v704.toNat, 0, 0]
def k0_dev35 (d0 : Dev nD) : Nat :=
  let c0_i32_466 : BitVec 32 := 0#32
  let c1_i32_459 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v698 : BitVec 32 := Scalar.subi c1_i32_459 v2
  let c4_i32_465 : BitVec 32 := 4#32
  let v705 : BitVec 32 := Scalar.muli v698 c4_i32_465
  let v706 : BitVec 32 := Scalar.addi c0_i32_466 v705
  let c1_i32_460 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v699 : BitVec 32 := Scalar.subi c1_i32_460 v5
  let c2_i32_467 : BitVec 32 := 2#32
  let v707 : BitVec 32 := Scalar.muli v699 c2_i32_467
  let v708 : BitVec 32 := Scalar.addi v706 v707
  let c1_i32_461 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v700 : BitVec 32 := Scalar.subi c1_i32_461 v8
  let c1_i32_468 : BitVec 32 := 1#32
  let v709 : BitVec 32 := Scalar.muli v700 c1_i32_468
  let v710 : BitVec 32 := Scalar.addi v708 v709
  v710.toNat
def k0_off28 (d0 : Dev nD) : Fin 3 → Nat :=
  let c4_i32_474 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v720 : BitVec 32 := Scalar.muli c4_i32_474 v2
  let c2_i32_475 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v721 : BitVec 32 := Scalar.muli c2_i32_475 v5
  let v722 : BitVec 32 := Scalar.addi v720 v721
  let c1_i32_473 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v719 : BitVec 32 := Scalar.subi c1_i32_473 v8
  let v723 : BitVec 32 := Scalar.addi v722 v719
  let c0_i32_483 : BitVec 32 := 0#32
  let c0_i32_484 : BitVec 32 := 0#32
  ![v723.toNat, 0, 0]
def k0_dev36 (d0 : Dev nD) : Nat :=
  let c0_i32_478 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_477 : BitVec 32 := 4#32
  let v724 : BitVec 32 := Scalar.muli v2 c4_i32_477
  let v725 : BitVec 32 := Scalar.addi c0_i32_478 v724
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_479 : BitVec 32 := 2#32
  let v726 : BitVec 32 := Scalar.muli v5 c2_i32_479
  let v727 : BitVec 32 := Scalar.addi v725 v726
  let c1_i32_473 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v719 : BitVec 32 := Scalar.subi c1_i32_473 v8
  let c1_i32_480 : BitVec 32 := 1#32
  let v728 : BitVec 32 := Scalar.muli v719 c1_i32_480
  let v729 : BitVec 32 := Scalar.addi v727 v728
  v729.toNat
def k0_off29 (d0 : Dev nD) : Fin 3 → Nat :=
  let c4_i32_486 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v739 : BitVec 32 := Scalar.muli c4_i32_486 v2
  let c2_i32_487 : BitVec 32 := 2#32
  let c1_i32_485 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v738 : BitVec 32 := Scalar.subi c1_i32_485 v5
  let v740 : BitVec 32 := Scalar.muli c2_i32_487 v738
  let v741 : BitVec 32 := Scalar.addi v739 v740
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v742 : BitVec 32 := Scalar.addi v741 v8
  let c0_i32_495 : BitVec 32 := 0#32
  let c0_i32_496 : BitVec 32 := 0#32
  ![v742.toNat, 0, 0]
def k0_dev37 (d0 : Dev nD) : Nat :=
  let c0_i32_490 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_489 : BitVec 32 := 4#32
  let v743 : BitVec 32 := Scalar.muli v2 c4_i32_489
  let v744 : BitVec 32 := Scalar.addi c0_i32_490 v743
  let c1_i32_485 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v738 : BitVec 32 := Scalar.subi c1_i32_485 v5
  let c2_i32_491 : BitVec 32 := 2#32
  let v745 : BitVec 32 := Scalar.muli v738 c2_i32_491
  let v746 : BitVec 32 := Scalar.addi v744 v745
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_492 : BitVec 32 := 1#32
  let v747 : BitVec 32 := Scalar.muli v8 c1_i32_492
  let v748 : BitVec 32 := Scalar.addi v746 v747
  v748.toNat
def k0_off30 (d0 : Dev nD) : Fin 3 → Nat :=
  let c4_i32_499 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v759 : BitVec 32 := Scalar.muli c4_i32_499 v2
  let c2_i32_500 : BitVec 32 := 2#32
  let c1_i32_497 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v757 : BitVec 32 := Scalar.subi c1_i32_497 v5
  let v760 : BitVec 32 := Scalar.muli c2_i32_500 v757
  let v761 : BitVec 32 := Scalar.addi v759 v760
  let c1_i32_498 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v758 : BitVec 32 := Scalar.subi c1_i32_498 v8
  let v762 : BitVec 32 := Scalar.addi v761 v758
  let c0_i32_508 : BitVec 32 := 0#32
  let c0_i32_509 : BitVec 32 := 0#32
  ![v762.toNat, 0, 0]
def k0_dev38 (d0 : Dev nD) : Nat :=
  let c0_i32_503 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_502 : BitVec 32 := 4#32
  let v763 : BitVec 32 := Scalar.muli v2 c4_i32_502
  let v764 : BitVec 32 := Scalar.addi c0_i32_503 v763
  let c1_i32_497 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v757 : BitVec 32 := Scalar.subi c1_i32_497 v5
  let c2_i32_504 : BitVec 32 := 2#32
  let v765 : BitVec 32 := Scalar.muli v757 c2_i32_504
  let v766 : BitVec 32 := Scalar.addi v764 v765
  let c1_i32_498 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v758 : BitVec 32 := Scalar.subi c1_i32_498 v8
  let c1_i32_505 : BitVec 32 := 1#32
  let v767 : BitVec 32 := Scalar.muli v758 c1_i32_505
  let v768 : BitVec 32 := Scalar.addi v766 v767
  v768.toNat
def k0_off31 (d0 : Dev nD) : Fin 3 → Nat :=
  let c4_i32_511 : BitVec 32 := 4#32
  let c1_i32_510 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v777 : BitVec 32 := Scalar.subi c1_i32_510 v2
  let v778 : BitVec 32 := Scalar.muli c4_i32_511 v777
  let c2_i32_512 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v779 : BitVec 32 := Scalar.muli c2_i32_512 v5
  let v780 : BitVec 32 := Scalar.addi v778 v779
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v781 : BitVec 32 := Scalar.addi v780 v8
  let c0_i32_520 : BitVec 32 := 0#32
  let c0_i32_521 : BitVec 32 := 0#32
  ![v781.toNat, 0, 0]
def k0_dev39 (d0 : Dev nD) : Nat :=
  let c0_i32_515 : BitVec 32 := 0#32
  let c1_i32_510 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v777 : BitVec 32 := Scalar.subi c1_i32_510 v2
  let c4_i32_514 : BitVec 32 := 4#32
  let v782 : BitVec 32 := Scalar.muli v777 c4_i32_514
  let v783 : BitVec 32 := Scalar.addi c0_i32_515 v782
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_516 : BitVec 32 := 2#32
  let v784 : BitVec 32 := Scalar.muli v5 c2_i32_516
  let v785 : BitVec 32 := Scalar.addi v783 v784
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_517 : BitVec 32 := 1#32
  let v786 : BitVec 32 := Scalar.muli v8 c1_i32_517
  let v787 : BitVec 32 := Scalar.addi v785 v786
  v787.toNat
def k0_off32 (d0 : Dev nD) : Fin 3 → Nat :=
  let c4_i32_524 : BitVec 32 := 4#32
  let c1_i32_522 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v796 : BitVec 32 := Scalar.subi c1_i32_522 v2
  let v798 : BitVec 32 := Scalar.muli c4_i32_524 v796
  let c2_i32_525 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v799 : BitVec 32 := Scalar.muli c2_i32_525 v5
  let v800 : BitVec 32 := Scalar.addi v798 v799
  let c1_i32_523 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v797 : BitVec 32 := Scalar.subi c1_i32_523 v8
  let v801 : BitVec 32 := Scalar.addi v800 v797
  let c0_i32_533 : BitVec 32 := 0#32
  let c0_i32_534 : BitVec 32 := 0#32
  ![v801.toNat, 0, 0]
def k0_dev40 (d0 : Dev nD) : Nat :=
  let c0_i32_528 : BitVec 32 := 0#32
  let c1_i32_522 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v796 : BitVec 32 := Scalar.subi c1_i32_522 v2
  let c4_i32_527 : BitVec 32 := 4#32
  let v802 : BitVec 32 := Scalar.muli v796 c4_i32_527
  let v803 : BitVec 32 := Scalar.addi c0_i32_528 v802
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_529 : BitVec 32 := 2#32
  let v804 : BitVec 32 := Scalar.muli v5 c2_i32_529
  let v805 : BitVec 32 := Scalar.addi v803 v804
  let c1_i32_523 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v797 : BitVec 32 := Scalar.subi c1_i32_523 v8
  let c1_i32_530 : BitVec 32 := 1#32
  let v806 : BitVec 32 := Scalar.muli v797 c1_i32_530
  let v807 : BitVec 32 := Scalar.addi v805 v806
  v807.toNat
def k0_off33 (d0 : Dev nD) : Fin 3 → Nat :=
  let c4_i32_537 : BitVec 32 := 4#32
  let c1_i32_535 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v816 : BitVec 32 := Scalar.subi c1_i32_535 v2
  let v818 : BitVec 32 := Scalar.muli c4_i32_537 v816
  let c2_i32_538 : BitVec 32 := 2#32
  let c1_i32_536 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v817 : BitVec 32 := Scalar.subi c1_i32_536 v5
  let v819 : BitVec 32 := Scalar.muli c2_i32_538 v817
  let v820 : BitVec 32 := Scalar.addi v818 v819
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v821 : BitVec 32 := Scalar.addi v820 v8
  let c0_i32_546 : BitVec 32 := 0#32
  let c0_i32_547 : BitVec 32 := 0#32
  ![v821.toNat, 0, 0]
def k0_dev41 (d0 : Dev nD) : Nat :=
  let c0_i32_541 : BitVec 32 := 0#32
  let c1_i32_535 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v816 : BitVec 32 := Scalar.subi c1_i32_535 v2
  let c4_i32_540 : BitVec 32 := 4#32
  let v822 : BitVec 32 := Scalar.muli v816 c4_i32_540
  let v823 : BitVec 32 := Scalar.addi c0_i32_541 v822
  let c1_i32_536 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v817 : BitVec 32 := Scalar.subi c1_i32_536 v5
  let c2_i32_542 : BitVec 32 := 2#32
  let v824 : BitVec 32 := Scalar.muli v817 c2_i32_542
  let v825 : BitVec 32 := Scalar.addi v823 v824
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_543 : BitVec 32 := 1#32
  let v826 : BitVec 32 := Scalar.muli v8 c1_i32_543
  let v827 : BitVec 32 := Scalar.addi v825 v826
  v827.toNat
def k0_off34 (d0 : Dev nD) : Fin 3 → Nat :=
  let c4_i32_551 : BitVec 32 := 4#32
  let c1_i32_548 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v836 : BitVec 32 := Scalar.subi c1_i32_548 v2
  let v839 : BitVec 32 := Scalar.muli c4_i32_551 v836
  let c2_i32_552 : BitVec 32 := 2#32
  let c1_i32_549 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v837 : BitVec 32 := Scalar.subi c1_i32_549 v5
  let v840 : BitVec 32 := Scalar.muli c2_i32_552 v837
  let v841 : BitVec 32 := Scalar.addi v839 v840
  let c1_i32_550 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v838 : BitVec 32 := Scalar.subi c1_i32_550 v8
  let v842 : BitVec 32 := Scalar.addi v841 v838
  let c0_i32_560 : BitVec 32 := 0#32
  let c0_i32_561 : BitVec 32 := 0#32
  ![v842.toNat, 0, 0]
def k0_dev42 (d0 : Dev nD) : Nat :=
  let c0_i32_555 : BitVec 32 := 0#32
  let c1_i32_548 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v836 : BitVec 32 := Scalar.subi c1_i32_548 v2
  let c4_i32_554 : BitVec 32 := 4#32
  let v843 : BitVec 32 := Scalar.muli v836 c4_i32_554
  let v844 : BitVec 32 := Scalar.addi c0_i32_555 v843
  let c1_i32_549 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v837 : BitVec 32 := Scalar.subi c1_i32_549 v5
  let c2_i32_556 : BitVec 32 := 2#32
  let v845 : BitVec 32 := Scalar.muli v837 c2_i32_556
  let v846 : BitVec 32 := Scalar.addi v844 v845
  let c1_i32_550 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v838 : BitVec 32 := Scalar.subi c1_i32_550 v8
  let c1_i32_557 : BitVec 32 := 1#32
  let v847 : BitVec 32 := Scalar.muli v838 c1_i32_557
  let v848 : BitVec 32 := Scalar.addi v846 v847
  v848.toNat
def k0_off35 (d0 : Dev nD) : Fin 3 → Nat :=
  let c4_i32_563 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v858 : BitVec 32 := Scalar.muli c4_i32_563 v2
  let c2_i32_564 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v859 : BitVec 32 := Scalar.muli c2_i32_564 v5
  let v860 : BitVec 32 := Scalar.addi v858 v859
  let c1_i32_562 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v857 : BitVec 32 := Scalar.subi c1_i32_562 v8
  let v861 : BitVec 32 := Scalar.addi v860 v857
  let c0_i32_572 : BitVec 32 := 0#32
  let c0_i32_573 : BitVec 32 := 0#32
  ![v861.toNat, 0, 0]
def k0_dev43 (d0 : Dev nD) : Nat :=
  let c0_i32_567 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_566 : BitVec 32 := 4#32
  let v862 : BitVec 32 := Scalar.muli v2 c4_i32_566
  let v863 : BitVec 32 := Scalar.addi c0_i32_567 v862
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_568 : BitVec 32 := 2#32
  let v864 : BitVec 32 := Scalar.muli v5 c2_i32_568
  let v865 : BitVec 32 := Scalar.addi v863 v864
  let c1_i32_562 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v857 : BitVec 32 := Scalar.subi c1_i32_562 v8
  let c1_i32_569 : BitVec 32 := 1#32
  let v866 : BitVec 32 := Scalar.muli v857 c1_i32_569
  let v867 : BitVec 32 := Scalar.addi v865 v866
  v867.toNat
def k0_off36 (d0 : Dev nD) : Fin 3 → Nat :=
  let c4_i32_575 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v877 : BitVec 32 := Scalar.muli c4_i32_575 v2
  let c2_i32_576 : BitVec 32 := 2#32
  let c1_i32_574 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v876 : BitVec 32 := Scalar.subi c1_i32_574 v5
  let v878 : BitVec 32 := Scalar.muli c2_i32_576 v876
  let v879 : BitVec 32 := Scalar.addi v877 v878
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v880 : BitVec 32 := Scalar.addi v879 v8
  let c0_i32_584 : BitVec 32 := 0#32
  let c0_i32_585 : BitVec 32 := 0#32
  ![v880.toNat, 0, 0]
def k0_dev44 (d0 : Dev nD) : Nat :=
  let c0_i32_579 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_578 : BitVec 32 := 4#32
  let v881 : BitVec 32 := Scalar.muli v2 c4_i32_578
  let v882 : BitVec 32 := Scalar.addi c0_i32_579 v881
  let c1_i32_574 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v876 : BitVec 32 := Scalar.subi c1_i32_574 v5
  let c2_i32_580 : BitVec 32 := 2#32
  let v883 : BitVec 32 := Scalar.muli v876 c2_i32_580
  let v884 : BitVec 32 := Scalar.addi v882 v883
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_581 : BitVec 32 := 1#32
  let v885 : BitVec 32 := Scalar.muli v8 c1_i32_581
  let v886 : BitVec 32 := Scalar.addi v884 v885
  v886.toNat
def k0_off37 (d0 : Dev nD) : Fin 3 → Nat :=
  let c4_i32_588 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v897 : BitVec 32 := Scalar.muli c4_i32_588 v2
  let c2_i32_589 : BitVec 32 := 2#32
  let c1_i32_586 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v895 : BitVec 32 := Scalar.subi c1_i32_586 v5
  let v898 : BitVec 32 := Scalar.muli c2_i32_589 v895
  let v899 : BitVec 32 := Scalar.addi v897 v898
  let c1_i32_587 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v896 : BitVec 32 := Scalar.subi c1_i32_587 v8
  let v900 : BitVec 32 := Scalar.addi v899 v896
  let c0_i32_597 : BitVec 32 := 0#32
  let c0_i32_598 : BitVec 32 := 0#32
  ![v900.toNat, 0, 0]
def k0_dev45 (d0 : Dev nD) : Nat :=
  let c0_i32_592 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_591 : BitVec 32 := 4#32
  let v901 : BitVec 32 := Scalar.muli v2 c4_i32_591
  let v902 : BitVec 32 := Scalar.addi c0_i32_592 v901
  let c1_i32_586 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v895 : BitVec 32 := Scalar.subi c1_i32_586 v5
  let c2_i32_593 : BitVec 32 := 2#32
  let v903 : BitVec 32 := Scalar.muli v895 c2_i32_593
  let v904 : BitVec 32 := Scalar.addi v902 v903
  let c1_i32_587 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v896 : BitVec 32 := Scalar.subi c1_i32_587 v8
  let c1_i32_594 : BitVec 32 := 1#32
  let v905 : BitVec 32 := Scalar.muli v896 c1_i32_594
  let v906 : BitVec 32 := Scalar.addi v904 v905
  v906.toNat
def k0_off38 (d0 : Dev nD) : Fin 3 → Nat :=
  let c4_i32_600 : BitVec 32 := 4#32
  let c1_i32_599 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v915 : BitVec 32 := Scalar.subi c1_i32_599 v2
  let v916 : BitVec 32 := Scalar.muli c4_i32_600 v915
  let c2_i32_601 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v917 : BitVec 32 := Scalar.muli c2_i32_601 v5
  let v918 : BitVec 32 := Scalar.addi v916 v917
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v919 : BitVec 32 := Scalar.addi v918 v8
  let c0_i32_609 : BitVec 32 := 0#32
  let c0_i32_610 : BitVec 32 := 0#32
  ![v919.toNat, 0, 0]
def k0_dev46 (d0 : Dev nD) : Nat :=
  let c0_i32_604 : BitVec 32 := 0#32
  let c1_i32_599 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v915 : BitVec 32 := Scalar.subi c1_i32_599 v2
  let c4_i32_603 : BitVec 32 := 4#32
  let v920 : BitVec 32 := Scalar.muli v915 c4_i32_603
  let v921 : BitVec 32 := Scalar.addi c0_i32_604 v920
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_605 : BitVec 32 := 2#32
  let v922 : BitVec 32 := Scalar.muli v5 c2_i32_605
  let v923 : BitVec 32 := Scalar.addi v921 v922
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_606 : BitVec 32 := 1#32
  let v924 : BitVec 32 := Scalar.muli v8 c1_i32_606
  let v925 : BitVec 32 := Scalar.addi v923 v924
  v925.toNat
def k0_off39 (d0 : Dev nD) : Fin 3 → Nat :=
  let c4_i32_613 : BitVec 32 := 4#32
  let c1_i32_611 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v934 : BitVec 32 := Scalar.subi c1_i32_611 v2
  let v936 : BitVec 32 := Scalar.muli c4_i32_613 v934
  let c2_i32_614 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v937 : BitVec 32 := Scalar.muli c2_i32_614 v5
  let v938 : BitVec 32 := Scalar.addi v936 v937
  let c1_i32_612 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v935 : BitVec 32 := Scalar.subi c1_i32_612 v8
  let v939 : BitVec 32 := Scalar.addi v938 v935
  let c0_i32_622 : BitVec 32 := 0#32
  let c0_i32_623 : BitVec 32 := 0#32
  ![v939.toNat, 0, 0]
def k0_dev47 (d0 : Dev nD) : Nat :=
  let c0_i32_617 : BitVec 32 := 0#32
  let c1_i32_611 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v934 : BitVec 32 := Scalar.subi c1_i32_611 v2
  let c4_i32_616 : BitVec 32 := 4#32
  let v940 : BitVec 32 := Scalar.muli v934 c4_i32_616
  let v941 : BitVec 32 := Scalar.addi c0_i32_617 v940
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_618 : BitVec 32 := 2#32
  let v942 : BitVec 32 := Scalar.muli v5 c2_i32_618
  let v943 : BitVec 32 := Scalar.addi v941 v942
  let c1_i32_612 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v935 : BitVec 32 := Scalar.subi c1_i32_612 v8
  let c1_i32_619 : BitVec 32 := 1#32
  let v944 : BitVec 32 := Scalar.muli v935 c1_i32_619
  let v945 : BitVec 32 := Scalar.addi v943 v944
  v945.toNat
def k0_off40 (d0 : Dev nD) : Fin 3 → Nat :=
  let c4_i32_626 : BitVec 32 := 4#32
  let c1_i32_624 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v954 : BitVec 32 := Scalar.subi c1_i32_624 v2
  let v956 : BitVec 32 := Scalar.muli c4_i32_626 v954
  let c2_i32_627 : BitVec 32 := 2#32
  let c1_i32_625 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v955 : BitVec 32 := Scalar.subi c1_i32_625 v5
  let v957 : BitVec 32 := Scalar.muli c2_i32_627 v955
  let v958 : BitVec 32 := Scalar.addi v956 v957
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v959 : BitVec 32 := Scalar.addi v958 v8
  let c0_i32_635 : BitVec 32 := 0#32
  let c0_i32_636 : BitVec 32 := 0#32
  ![v959.toNat, 0, 0]
def k0_dev48 (d0 : Dev nD) : Nat :=
  let c0_i32_630 : BitVec 32 := 0#32
  let c1_i32_624 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v954 : BitVec 32 := Scalar.subi c1_i32_624 v2
  let c4_i32_629 : BitVec 32 := 4#32
  let v960 : BitVec 32 := Scalar.muli v954 c4_i32_629
  let v961 : BitVec 32 := Scalar.addi c0_i32_630 v960
  let c1_i32_625 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v955 : BitVec 32 := Scalar.subi c1_i32_625 v5
  let c2_i32_631 : BitVec 32 := 2#32
  let v962 : BitVec 32 := Scalar.muli v955 c2_i32_631
  let v963 : BitVec 32 := Scalar.addi v961 v962
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_632 : BitVec 32 := 1#32
  let v964 : BitVec 32 := Scalar.muli v8 c1_i32_632
  let v965 : BitVec 32 := Scalar.addi v963 v964
  v965.toNat
def k0_off41 (d0 : Dev nD) : Fin 3 → Nat :=
  let c4_i32_640 : BitVec 32 := 4#32
  let c1_i32_637 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v974 : BitVec 32 := Scalar.subi c1_i32_637 v2
  let v977 : BitVec 32 := Scalar.muli c4_i32_640 v974
  let c2_i32_641 : BitVec 32 := 2#32
  let c1_i32_638 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v975 : BitVec 32 := Scalar.subi c1_i32_638 v5
  let v978 : BitVec 32 := Scalar.muli c2_i32_641 v975
  let v979 : BitVec 32 := Scalar.addi v977 v978
  let c1_i32_639 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v976 : BitVec 32 := Scalar.subi c1_i32_639 v8
  let v980 : BitVec 32 := Scalar.addi v979 v976
  let c0_i32_649 : BitVec 32 := 0#32
  let c0_i32_650 : BitVec 32 := 0#32
  ![v980.toNat, 0, 0]
def k0_dev49 (d0 : Dev nD) : Nat :=
  let c0_i32_644 : BitVec 32 := 0#32
  let c1_i32_637 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v974 : BitVec 32 := Scalar.subi c1_i32_637 v2
  let c4_i32_643 : BitVec 32 := 4#32
  let v981 : BitVec 32 := Scalar.muli v974 c4_i32_643
  let v982 : BitVec 32 := Scalar.addi c0_i32_644 v981
  let c1_i32_638 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v975 : BitVec 32 := Scalar.subi c1_i32_638 v5
  let c2_i32_645 : BitVec 32 := 2#32
  let v983 : BitVec 32 := Scalar.muli v975 c2_i32_645
  let v984 : BitVec 32 := Scalar.addi v982 v983
  let c1_i32_639 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v976 : BitVec 32 := Scalar.subi c1_i32_639 v8
  let c1_i32_646 : BitVec 32 := 1#32
  let v985 : BitVec 32 := Scalar.muli v976 c1_i32_646
  let v986 : BitVec 32 := Scalar.addi v984 v985
  v986.toNat
def k0_dev50 (d0 : Dev nD) : Nat :=
  let c0_i32_656 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_655 : BitVec 32 := 4#32
  let v1000 : BitVec 32 := Scalar.muli v2 c4_i32_655
  let v1001 : BitVec 32 := Scalar.addi c0_i32_656 v1000
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_657 : BitVec 32 := 2#32
  let v1002 : BitVec 32 := Scalar.muli v5 c2_i32_657
  let v1003 : BitVec 32 := Scalar.addi v1001 v1002
  let c1_i32_651 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v995 : BitVec 32 := Scalar.subi c1_i32_651 v8
  let c1_i32_658 : BitVec 32 := 1#32
  let v1004 : BitVec 32 := Scalar.muli v995 c1_i32_658
  let v1005 : BitVec 32 := Scalar.addi v1003 v1004
  v1005.toNat
def k0_dev51 (d0 : Dev nD) : Nat :=
  let c0_i32_668 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_667 : BitVec 32 := 4#32
  let v1019 : BitVec 32 := Scalar.muli v2 c4_i32_667
  let v1020 : BitVec 32 := Scalar.addi c0_i32_668 v1019
  let c1_i32_663 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1014 : BitVec 32 := Scalar.subi c1_i32_663 v5
  let c2_i32_669 : BitVec 32 := 2#32
  let v1021 : BitVec 32 := Scalar.muli v1014 c2_i32_669
  let v1022 : BitVec 32 := Scalar.addi v1020 v1021
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_670 : BitVec 32 := 1#32
  let v1023 : BitVec 32 := Scalar.muli v8 c1_i32_670
  let v1024 : BitVec 32 := Scalar.addi v1022 v1023
  v1024.toNat
def k0_dev52 (d0 : Dev nD) : Nat :=
  let c0_i32_681 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_680 : BitVec 32 := 4#32
  let v1039 : BitVec 32 := Scalar.muli v2 c4_i32_680
  let v1040 : BitVec 32 := Scalar.addi c0_i32_681 v1039
  let c1_i32_675 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1033 : BitVec 32 := Scalar.subi c1_i32_675 v5
  let c2_i32_682 : BitVec 32 := 2#32
  let v1041 : BitVec 32 := Scalar.muli v1033 c2_i32_682
  let v1042 : BitVec 32 := Scalar.addi v1040 v1041
  let c1_i32_676 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1034 : BitVec 32 := Scalar.subi c1_i32_676 v8
  let c1_i32_683 : BitVec 32 := 1#32
  let v1043 : BitVec 32 := Scalar.muli v1034 c1_i32_683
  let v1044 : BitVec 32 := Scalar.addi v1042 v1043
  v1044.toNat
def k0_dev53 (d0 : Dev nD) : Nat :=
  let c0_i32_693 : BitVec 32 := 0#32
  let c1_i32_688 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1053 : BitVec 32 := Scalar.subi c1_i32_688 v2
  let c4_i32_692 : BitVec 32 := 4#32
  let v1058 : BitVec 32 := Scalar.muli v1053 c4_i32_692
  let v1059 : BitVec 32 := Scalar.addi c0_i32_693 v1058
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_694 : BitVec 32 := 2#32
  let v1060 : BitVec 32 := Scalar.muli v5 c2_i32_694
  let v1061 : BitVec 32 := Scalar.addi v1059 v1060
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_695 : BitVec 32 := 1#32
  let v1062 : BitVec 32 := Scalar.muli v8 c1_i32_695
  let v1063 : BitVec 32 := Scalar.addi v1061 v1062
  v1063.toNat
def k0_dev54 (d0 : Dev nD) : Nat :=
  let c0_i32_706 : BitVec 32 := 0#32
  let c1_i32_700 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1072 : BitVec 32 := Scalar.subi c1_i32_700 v2
  let c4_i32_705 : BitVec 32 := 4#32
  let v1078 : BitVec 32 := Scalar.muli v1072 c4_i32_705
  let v1079 : BitVec 32 := Scalar.addi c0_i32_706 v1078
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_707 : BitVec 32 := 2#32
  let v1080 : BitVec 32 := Scalar.muli v5 c2_i32_707
  let v1081 : BitVec 32 := Scalar.addi v1079 v1080
  let c1_i32_701 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1073 : BitVec 32 := Scalar.subi c1_i32_701 v8
  let c1_i32_708 : BitVec 32 := 1#32
  let v1082 : BitVec 32 := Scalar.muli v1073 c1_i32_708
  let v1083 : BitVec 32 := Scalar.addi v1081 v1082
  v1083.toNat
def k0_dev55 (d0 : Dev nD) : Nat :=
  let c0_i32_719 : BitVec 32 := 0#32
  let c1_i32_713 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1092 : BitVec 32 := Scalar.subi c1_i32_713 v2
  let c4_i32_718 : BitVec 32 := 4#32
  let v1098 : BitVec 32 := Scalar.muli v1092 c4_i32_718
  let v1099 : BitVec 32 := Scalar.addi c0_i32_719 v1098
  let c1_i32_714 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1093 : BitVec 32 := Scalar.subi c1_i32_714 v5
  let c2_i32_720 : BitVec 32 := 2#32
  let v1100 : BitVec 32 := Scalar.muli v1093 c2_i32_720
  let v1101 : BitVec 32 := Scalar.addi v1099 v1100
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_721 : BitVec 32 := 1#32
  let v1102 : BitVec 32 := Scalar.muli v8 c1_i32_721
  let v1103 : BitVec 32 := Scalar.addi v1101 v1102
  v1103.toNat
def k0_dev56 (d0 : Dev nD) : Nat :=
  let c0_i32_733 : BitVec 32 := 0#32
  let c1_i32_726 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1112 : BitVec 32 := Scalar.subi c1_i32_726 v2
  let c4_i32_732 : BitVec 32 := 4#32
  let v1119 : BitVec 32 := Scalar.muli v1112 c4_i32_732
  let v1120 : BitVec 32 := Scalar.addi c0_i32_733 v1119
  let c1_i32_727 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1113 : BitVec 32 := Scalar.subi c1_i32_727 v5
  let c2_i32_734 : BitVec 32 := 2#32
  let v1121 : BitVec 32 := Scalar.muli v1113 c2_i32_734
  let v1122 : BitVec 32 := Scalar.addi v1120 v1121
  let c1_i32_728 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1114 : BitVec 32 := Scalar.subi c1_i32_728 v8
  let c1_i32_735 : BitVec 32 := 1#32
  let v1123 : BitVec 32 := Scalar.muli v1114 c1_i32_735
  let v1124 : BitVec 32 := Scalar.addi v1122 v1123
  v1124.toNat
def k0_dev57 (d0 : Dev nD) : Nat :=
  let c0_i32_745 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_744 : BitVec 32 := 4#32
  let v1138 : BitVec 32 := Scalar.muli v2 c4_i32_744
  let v1139 : BitVec 32 := Scalar.addi c0_i32_745 v1138
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_746 : BitVec 32 := 2#32
  let v1140 : BitVec 32 := Scalar.muli v5 c2_i32_746
  let v1141 : BitVec 32 := Scalar.addi v1139 v1140
  let c1_i32_740 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1133 : BitVec 32 := Scalar.subi c1_i32_740 v8
  let c1_i32_747 : BitVec 32 := 1#32
  let v1142 : BitVec 32 := Scalar.muli v1133 c1_i32_747
  let v1143 : BitVec 32 := Scalar.addi v1141 v1142
  v1143.toNat
def k0_dev58 (d0 : Dev nD) : Nat :=
  let c0_i32_757 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_756 : BitVec 32 := 4#32
  let v1157 : BitVec 32 := Scalar.muli v2 c4_i32_756
  let v1158 : BitVec 32 := Scalar.addi c0_i32_757 v1157
  let c1_i32_752 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1152 : BitVec 32 := Scalar.subi c1_i32_752 v5
  let c2_i32_758 : BitVec 32 := 2#32
  let v1159 : BitVec 32 := Scalar.muli v1152 c2_i32_758
  let v1160 : BitVec 32 := Scalar.addi v1158 v1159
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_759 : BitVec 32 := 1#32
  let v1161 : BitVec 32 := Scalar.muli v8 c1_i32_759
  let v1162 : BitVec 32 := Scalar.addi v1160 v1161
  v1162.toNat
def k0_dev59 (d0 : Dev nD) : Nat :=
  let c0_i32_770 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_769 : BitVec 32 := 4#32
  let v1177 : BitVec 32 := Scalar.muli v2 c4_i32_769
  let v1178 : BitVec 32 := Scalar.addi c0_i32_770 v1177
  let c1_i32_764 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1171 : BitVec 32 := Scalar.subi c1_i32_764 v5
  let c2_i32_771 : BitVec 32 := 2#32
  let v1179 : BitVec 32 := Scalar.muli v1171 c2_i32_771
  let v1180 : BitVec 32 := Scalar.addi v1178 v1179
  let c1_i32_765 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1172 : BitVec 32 := Scalar.subi c1_i32_765 v8
  let c1_i32_772 : BitVec 32 := 1#32
  let v1181 : BitVec 32 := Scalar.muli v1172 c1_i32_772
  let v1182 : BitVec 32 := Scalar.addi v1180 v1181
  v1182.toNat
def k0_dev60 (d0 : Dev nD) : Nat :=
  let c0_i32_782 : BitVec 32 := 0#32
  let c1_i32_777 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1191 : BitVec 32 := Scalar.subi c1_i32_777 v2
  let c4_i32_781 : BitVec 32 := 4#32
  let v1196 : BitVec 32 := Scalar.muli v1191 c4_i32_781
  let v1197 : BitVec 32 := Scalar.addi c0_i32_782 v1196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_783 : BitVec 32 := 2#32
  let v1198 : BitVec 32 := Scalar.muli v5 c2_i32_783
  let v1199 : BitVec 32 := Scalar.addi v1197 v1198
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_784 : BitVec 32 := 1#32
  let v1200 : BitVec 32 := Scalar.muli v8 c1_i32_784
  let v1201 : BitVec 32 := Scalar.addi v1199 v1200
  v1201.toNat
def k0_dev61 (d0 : Dev nD) : Nat :=
  let c0_i32_795 : BitVec 32 := 0#32
  let c1_i32_789 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1210 : BitVec 32 := Scalar.subi c1_i32_789 v2
  let c4_i32_794 : BitVec 32 := 4#32
  let v1216 : BitVec 32 := Scalar.muli v1210 c4_i32_794
  let v1217 : BitVec 32 := Scalar.addi c0_i32_795 v1216
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_796 : BitVec 32 := 2#32
  let v1218 : BitVec 32 := Scalar.muli v5 c2_i32_796
  let v1219 : BitVec 32 := Scalar.addi v1217 v1218
  let c1_i32_790 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1211 : BitVec 32 := Scalar.subi c1_i32_790 v8
  let c1_i32_797 : BitVec 32 := 1#32
  let v1220 : BitVec 32 := Scalar.muli v1211 c1_i32_797
  let v1221 : BitVec 32 := Scalar.addi v1219 v1220
  v1221.toNat
def k0_dev62 (d0 : Dev nD) : Nat :=
  let c0_i32_808 : BitVec 32 := 0#32
  let c1_i32_802 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1230 : BitVec 32 := Scalar.subi c1_i32_802 v2
  let c4_i32_807 : BitVec 32 := 4#32
  let v1236 : BitVec 32 := Scalar.muli v1230 c4_i32_807
  let v1237 : BitVec 32 := Scalar.addi c0_i32_808 v1236
  let c1_i32_803 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1231 : BitVec 32 := Scalar.subi c1_i32_803 v5
  let c2_i32_809 : BitVec 32 := 2#32
  let v1238 : BitVec 32 := Scalar.muli v1231 c2_i32_809
  let v1239 : BitVec 32 := Scalar.addi v1237 v1238
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_810 : BitVec 32 := 1#32
  let v1240 : BitVec 32 := Scalar.muli v8 c1_i32_810
  let v1241 : BitVec 32 := Scalar.addi v1239 v1240
  v1241.toNat
def k0_dev63 (d0 : Dev nD) : Nat :=
  let c0_i32_822 : BitVec 32 := 0#32
  let c1_i32_815 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1250 : BitVec 32 := Scalar.subi c1_i32_815 v2
  let c4_i32_821 : BitVec 32 := 4#32
  let v1257 : BitVec 32 := Scalar.muli v1250 c4_i32_821
  let v1258 : BitVec 32 := Scalar.addi c0_i32_822 v1257
  let c1_i32_816 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1251 : BitVec 32 := Scalar.subi c1_i32_816 v5
  let c2_i32_823 : BitVec 32 := 2#32
  let v1259 : BitVec 32 := Scalar.muli v1251 c2_i32_823
  let v1260 : BitVec 32 := Scalar.addi v1258 v1259
  let c1_i32_817 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1252 : BitVec 32 := Scalar.subi c1_i32_817 v8
  let c1_i32_824 : BitVec 32 := 1#32
  let v1261 : BitVec 32 := Scalar.muli v1252 c1_i32_824
  let v1262 : BitVec 32 := Scalar.addi v1260 v1261
  v1262.toNat
def k0_dev64 (d0 : Dev nD) : Nat :=
  let c0_i32_834 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_833 : BitVec 32 := 4#32
  let v1276 : BitVec 32 := Scalar.muli v2 c4_i32_833
  let v1277 : BitVec 32 := Scalar.addi c0_i32_834 v1276
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_835 : BitVec 32 := 2#32
  let v1278 : BitVec 32 := Scalar.muli v5 c2_i32_835
  let v1279 : BitVec 32 := Scalar.addi v1277 v1278
  let c1_i32_829 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1271 : BitVec 32 := Scalar.subi c1_i32_829 v8
  let c1_i32_836 : BitVec 32 := 1#32
  let v1280 : BitVec 32 := Scalar.muli v1271 c1_i32_836
  let v1281 : BitVec 32 := Scalar.addi v1279 v1280
  v1281.toNat
def k0_dev65 (d0 : Dev nD) : Nat :=
  let c0_i32_846 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_845 : BitVec 32 := 4#32
  let v1295 : BitVec 32 := Scalar.muli v2 c4_i32_845
  let v1296 : BitVec 32 := Scalar.addi c0_i32_846 v1295
  let c1_i32_841 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1290 : BitVec 32 := Scalar.subi c1_i32_841 v5
  let c2_i32_847 : BitVec 32 := 2#32
  let v1297 : BitVec 32 := Scalar.muli v1290 c2_i32_847
  let v1298 : BitVec 32 := Scalar.addi v1296 v1297
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_848 : BitVec 32 := 1#32
  let v1299 : BitVec 32 := Scalar.muli v8 c1_i32_848
  let v1300 : BitVec 32 := Scalar.addi v1298 v1299
  v1300.toNat
def k0_dev66 (d0 : Dev nD) : Nat :=
  let c0_i32_859 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_858 : BitVec 32 := 4#32
  let v1315 : BitVec 32 := Scalar.muli v2 c4_i32_858
  let v1316 : BitVec 32 := Scalar.addi c0_i32_859 v1315
  let c1_i32_853 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1309 : BitVec 32 := Scalar.subi c1_i32_853 v5
  let c2_i32_860 : BitVec 32 := 2#32
  let v1317 : BitVec 32 := Scalar.muli v1309 c2_i32_860
  let v1318 : BitVec 32 := Scalar.addi v1316 v1317
  let c1_i32_854 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1310 : BitVec 32 := Scalar.subi c1_i32_854 v8
  let c1_i32_861 : BitVec 32 := 1#32
  let v1319 : BitVec 32 := Scalar.muli v1310 c1_i32_861
  let v1320 : BitVec 32 := Scalar.addi v1318 v1319
  v1320.toNat
def k0_dev67 (d0 : Dev nD) : Nat :=
  let c0_i32_871 : BitVec 32 := 0#32
  let c1_i32_866 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1329 : BitVec 32 := Scalar.subi c1_i32_866 v2
  let c4_i32_870 : BitVec 32 := 4#32
  let v1334 : BitVec 32 := Scalar.muli v1329 c4_i32_870
  let v1335 : BitVec 32 := Scalar.addi c0_i32_871 v1334
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_872 : BitVec 32 := 2#32
  let v1336 : BitVec 32 := Scalar.muli v5 c2_i32_872
  let v1337 : BitVec 32 := Scalar.addi v1335 v1336
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_873 : BitVec 32 := 1#32
  let v1338 : BitVec 32 := Scalar.muli v8 c1_i32_873
  let v1339 : BitVec 32 := Scalar.addi v1337 v1338
  v1339.toNat
def k0_dev68 (d0 : Dev nD) : Nat :=
  let c0_i32_884 : BitVec 32 := 0#32
  let c1_i32_878 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1348 : BitVec 32 := Scalar.subi c1_i32_878 v2
  let c4_i32_883 : BitVec 32 := 4#32
  let v1354 : BitVec 32 := Scalar.muli v1348 c4_i32_883
  let v1355 : BitVec 32 := Scalar.addi c0_i32_884 v1354
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_885 : BitVec 32 := 2#32
  let v1356 : BitVec 32 := Scalar.muli v5 c2_i32_885
  let v1357 : BitVec 32 := Scalar.addi v1355 v1356
  let c1_i32_879 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1349 : BitVec 32 := Scalar.subi c1_i32_879 v8
  let c1_i32_886 : BitVec 32 := 1#32
  let v1358 : BitVec 32 := Scalar.muli v1349 c1_i32_886
  let v1359 : BitVec 32 := Scalar.addi v1357 v1358
  v1359.toNat
def k0_dev69 (d0 : Dev nD) : Nat :=
  let c0_i32_897 : BitVec 32 := 0#32
  let c1_i32_891 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1368 : BitVec 32 := Scalar.subi c1_i32_891 v2
  let c4_i32_896 : BitVec 32 := 4#32
  let v1374 : BitVec 32 := Scalar.muli v1368 c4_i32_896
  let v1375 : BitVec 32 := Scalar.addi c0_i32_897 v1374
  let c1_i32_892 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1369 : BitVec 32 := Scalar.subi c1_i32_892 v5
  let c2_i32_898 : BitVec 32 := 2#32
  let v1376 : BitVec 32 := Scalar.muli v1369 c2_i32_898
  let v1377 : BitVec 32 := Scalar.addi v1375 v1376
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_899 : BitVec 32 := 1#32
  let v1378 : BitVec 32 := Scalar.muli v8 c1_i32_899
  let v1379 : BitVec 32 := Scalar.addi v1377 v1378
  v1379.toNat
def k0_dev70 (d0 : Dev nD) : Nat :=
  let c0_i32_911 : BitVec 32 := 0#32
  let c1_i32_904 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1388 : BitVec 32 := Scalar.subi c1_i32_904 v2
  let c4_i32_910 : BitVec 32 := 4#32
  let v1395 : BitVec 32 := Scalar.muli v1388 c4_i32_910
  let v1396 : BitVec 32 := Scalar.addi c0_i32_911 v1395
  let c1_i32_905 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1389 : BitVec 32 := Scalar.subi c1_i32_905 v5
  let c2_i32_912 : BitVec 32 := 2#32
  let v1397 : BitVec 32 := Scalar.muli v1389 c2_i32_912
  let v1398 : BitVec 32 := Scalar.addi v1396 v1397
  let c1_i32_906 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1390 : BitVec 32 := Scalar.subi c1_i32_906 v8
  let c1_i32_913 : BitVec 32 := 1#32
  let v1399 : BitVec 32 := Scalar.muli v1390 c1_i32_913
  let v1400 : BitVec 32 := Scalar.addi v1398 v1399
  v1400.toNat
def k0_off42 (d0 : Dev nD) : Fin 3 → Nat :=
  let c4_i32_919 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1410 : BitVec 32 := Scalar.muli c4_i32_919 v2
  let c2_i32_920 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1411 : BitVec 32 := Scalar.muli c2_i32_920 v5
  let v1412 : BitVec 32 := Scalar.addi v1410 v1411
  let c1_i32_918 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1409 : BitVec 32 := Scalar.subi c1_i32_918 v8
  let v1413 : BitVec 32 := Scalar.addi v1412 v1409
  let c0_i32_927 : BitVec 32 := 0#32
  let c0_i32_928 : BitVec 32 := 0#32
  ![v1413.toNat, 0, 0]
def k0_off43 (d0 : Dev nD) : Fin 3 → Nat :=
  let c4_i32_930 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1425 : BitVec 32 := Scalar.muli c4_i32_930 v2
  let c2_i32_931 : BitVec 32 := 2#32
  let c1_i32_929 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1424 : BitVec 32 := Scalar.subi c1_i32_929 v5
  let v1426 : BitVec 32 := Scalar.muli c2_i32_931 v1424
  let v1427 : BitVec 32 := Scalar.addi v1425 v1426
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1428 : BitVec 32 := Scalar.addi v1427 v8
  let c0_i32_938 : BitVec 32 := 0#32
  let c0_i32_939 : BitVec 32 := 0#32
  ![v1428.toNat, 0, 0]
def k0_off44 (d0 : Dev nD) : Fin 3 → Nat :=
  let c4_i32_942 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1441 : BitVec 32 := Scalar.muli c4_i32_942 v2
  let c2_i32_943 : BitVec 32 := 2#32
  let c1_i32_940 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1439 : BitVec 32 := Scalar.subi c1_i32_940 v5
  let v1442 : BitVec 32 := Scalar.muli c2_i32_943 v1439
  let v1443 : BitVec 32 := Scalar.addi v1441 v1442
  let c1_i32_941 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1440 : BitVec 32 := Scalar.subi c1_i32_941 v8
  let v1444 : BitVec 32 := Scalar.addi v1443 v1440
  let c0_i32_950 : BitVec 32 := 0#32
  let c0_i32_951 : BitVec 32 := 0#32
  ![v1444.toNat, 0, 0]
def k0_off45 (d0 : Dev nD) : Fin 3 → Nat :=
  let c4_i32_953 : BitVec 32 := 4#32
  let c1_i32_952 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1455 : BitVec 32 := Scalar.subi c1_i32_952 v2
  let v1456 : BitVec 32 := Scalar.muli c4_i32_953 v1455
  let c2_i32_954 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1457 : BitVec 32 := Scalar.muli c2_i32_954 v5
  let v1458 : BitVec 32 := Scalar.addi v1456 v1457
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1459 : BitVec 32 := Scalar.addi v1458 v8
  let c0_i32_961 : BitVec 32 := 0#32
  let c0_i32_962 : BitVec 32 := 0#32
  ![v1459.toNat, 0, 0]
def k0_off46 (d0 : Dev nD) : Fin 3 → Nat :=
  let c4_i32_965 : BitVec 32 := 4#32
  let c1_i32_963 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1470 : BitVec 32 := Scalar.subi c1_i32_963 v2
  let v1472 : BitVec 32 := Scalar.muli c4_i32_965 v1470
  let c2_i32_966 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1473 : BitVec 32 := Scalar.muli c2_i32_966 v5
  let v1474 : BitVec 32 := Scalar.addi v1472 v1473
  let c1_i32_964 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1471 : BitVec 32 := Scalar.subi c1_i32_964 v8
  let v1475 : BitVec 32 := Scalar.addi v1474 v1471
  let c0_i32_973 : BitVec 32 := 0#32
  let c0_i32_974 : BitVec 32 := 0#32
  ![v1475.toNat, 0, 0]
def k0_off47 (d0 : Dev nD) : Fin 3 → Nat :=
  let c4_i32_977 : BitVec 32 := 4#32
  let c1_i32_975 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1486 : BitVec 32 := Scalar.subi c1_i32_975 v2
  let v1488 : BitVec 32 := Scalar.muli c4_i32_977 v1486
  let c2_i32_978 : BitVec 32 := 2#32
  let c1_i32_976 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1487 : BitVec 32 := Scalar.subi c1_i32_976 v5
  let v1489 : BitVec 32 := Scalar.muli c2_i32_978 v1487
  let v1490 : BitVec 32 := Scalar.addi v1488 v1489
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1491 : BitVec 32 := Scalar.addi v1490 v8
  let c0_i32_985 : BitVec 32 := 0#32
  let c0_i32_986 : BitVec 32 := 0#32
  ![v1491.toNat, 0, 0]
def k0_off48 (d0 : Dev nD) : Fin 3 → Nat :=
  let c4_i32_990 : BitVec 32 := 4#32
  let c1_i32_987 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1502 : BitVec 32 := Scalar.subi c1_i32_987 v2
  let v1505 : BitVec 32 := Scalar.muli c4_i32_990 v1502
  let c2_i32_991 : BitVec 32 := 2#32
  let c1_i32_988 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1503 : BitVec 32 := Scalar.subi c1_i32_988 v5
  let v1506 : BitVec 32 := Scalar.muli c2_i32_991 v1503
  let v1507 : BitVec 32 := Scalar.addi v1505 v1506
  let c1_i32_989 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1504 : BitVec 32 := Scalar.subi c1_i32_989 v8
  let v1508 : BitVec 32 := Scalar.addi v1507 v1504
  let c0_i32_998 : BitVec 32 := 0#32
  let c0_i32_999 : BitVec 32 := 0#32
  ![v1508.toNat, 0, 0]
-- ==== ScatterReference.lean ====
abbrev S128x1024 : Shape := ⟨2, ![128, 1024]⟩
abbrev S64x1024x352 : Shape := ⟨3, ![64, 1024, 352]⟩
abbrev S64x352x1024 : Shape := ⟨3, ![64, 352, 1024]⟩
abbrev S64x1024x192 : Shape := ⟨3, ![64, 1024, 192]⟩
abbrev S64x128x512 : Shape := ⟨3, ![64, 128, 512]⟩
abbrev S64x128x1024 : Shape := ⟨3, ![64, 128, 1024]⟩
abbrev S8x8x1024x352 : Shape := ⟨4, ![8, 8, 1024, 352]⟩
abbrev S8x8x352x1024 : Shape := ⟨4, ![8, 8, 352, 1024]⟩
abbrev S8x8x1024x192 : Shape := ⟨4, ![8, 8, 1024, 192]⟩
abbrev S8x8x128x512 : Shape := ⟨4, ![8, 8, 128, 512]⟩
abbrev S8x8x128x1024 : Shape := ⟨4, ![8, 8, 128, 1024]⟩
abbrev S8x16x1024 : Shape := ⟨3, ![8, 16, 1024]⟩

abbrev nBuf : Space → Nat
  | .hbm => 38
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S64x1024x352, .bf16⟩
  | .hbm, ⟨2, _⟩ => ⟨S64x1024x352, .bf16⟩
  | .hbm, ⟨3, _⟩ => ⟨S64x352x1024, .bf16⟩
  | .hbm, ⟨4, _⟩ => ⟨S64x1024x192, .bf16⟩
  | .hbm, ⟨5, _⟩ => ⟨S64x128x512, .bf16⟩
  | .hbm, ⟨6, _⟩ => ⟨S64x128x1024, .bf16⟩
  | .hbm, ⟨7, _⟩ => ⟨S64x1024x352, .bf16⟩
  | .hbm, ⟨8, _⟩ => ⟨S64x1024x352, .bf16⟩
  | .hbm, ⟨9, _⟩ => ⟨S64x352x1024, .bf16⟩
  | .hbm, ⟨10, _⟩ => ⟨S8x8x1024x352, .bf16⟩
  | .hbm, ⟨11, _⟩ => ⟨S8x8x1024x352, .bf16⟩
  | .hbm, ⟨12, _⟩ => ⟨S64x1024x352, .bf16⟩
  | .hbm, ⟨13, _⟩ => ⟨S8x8x1024x352, .bf16⟩
  | .hbm, ⟨14, _⟩ => ⟨S8x8x1024x352, .bf16⟩
  | .hbm, ⟨15, _⟩ => ⟨S64x1024x352, .bf16⟩
  | .hbm, ⟨16, _⟩ => ⟨S8x8x352x1024, .bf16⟩
  | .hbm, ⟨17, _⟩ => ⟨S8x8x352x1024, .bf16⟩
  | .hbm, ⟨18, _⟩ => ⟨S64x352x1024, .bf16⟩
  | .hbm, ⟨19, _⟩ => ⟨S8x8x1024x192, .bf16⟩
  | .hbm, ⟨20, _⟩ => ⟨S8x8x1024x192, .bf16⟩
  | .hbm, ⟨21, _⟩ => ⟨S64x1024x192, .bf16⟩
  | .hbm, ⟨22, _⟩ => ⟨S8x8x128x512, .bf16⟩
  | .hbm, ⟨23, _⟩ => ⟨S8x8x128x512, .bf16⟩
  | .hbm, ⟨24, _⟩ => ⟨S64x128x512, .bf16⟩
  | .hbm, ⟨25, _⟩ => ⟨S8x8x128x1024, .bf16⟩
  | .hbm, ⟨26, _⟩ => ⟨S8x8x128x1024, .bf16⟩
  | .hbm, ⟨27, _⟩ => ⟨S64x128x1024, .bf16⟩
  | .hbm, ⟨28, _⟩ => ⟨S8x8x1024x352, .bf16⟩
  | .hbm, ⟨29, _⟩ => ⟨S8x8x1024x352, .bf16⟩
  | .hbm, ⟨30, _⟩ => ⟨S64x1024x352, .bf16⟩
  | .hbm, ⟨31, _⟩ => ⟨S8x8x1024x352, .bf16⟩
  | .hbm, ⟨32, _⟩ => ⟨S8x8x1024x352, .bf16⟩
  | .hbm, ⟨33, _⟩ => ⟨S64x1024x352, .bf16⟩
  | .hbm, ⟨34, _⟩ => ⟨S8x8x352x1024, .bf16⟩
  | .hbm, ⟨35, _⟩ => ⟨S8x8x352x1024, .bf16⟩
  | .hbm, ⟨36, _⟩ => ⟨S64x352x1024, .bf16⟩
  | .hbm, ⟨37, _⟩ => ⟨S8x16x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Weights.lean ====
abbrev S1024x352 : Shape := ⟨2, ![1024, 352]⟩
abbrev S352x1024 : Shape := ⟨2, ![352, 1024]⟩
abbrev S1024x192 : Shape := ⟨2, ![1024, 192]⟩
abbrev S128x512 : Shape := ⟨2, ![128, 512]⟩
abbrev S128x1024 : Shape := ⟨2, ![128, 1024]⟩
abbrev S31x32 : Shape := ⟨2, ![31, 32]⟩
abbrev S8x1024x352 : Shape := ⟨3, ![8, 1024, 352]⟩
abbrev S8x352x1024 : Shape := ⟨3, ![8, 352, 1024]⟩
abbrev S8x1024x192 : Shape := ⟨3, ![8, 1024, 192]⟩
abbrev S8x128x512 : Shape := ⟨3, ![8, 128, 512]⟩
abbrev S8x128x1024 : Shape := ⟨3, ![8, 128, 1024]⟩
abbrev S8x31x32 : Shape := ⟨3, ![8, 31, 32]⟩
abbrev S70 : Shape := ⟨1, ![70]⟩
abbrev S10 : Shape := ⟨1, ![10]⟩
abbrev S1 : Shape := ⟨1, ![1]⟩
abbrev S_ : Shape := ⟨0, ![]⟩
abbrev S1x1024x352 : Shape := ⟨3, ![1, 1024, 352]⟩
abbrev S1x352x1024 : Shape := ⟨3, ![1, 352, 1024]⟩
abbrev S1x1024x192 : Shape := ⟨3, ![1, 1024, 192]⟩
abbrev S1x128x512 : Shape := ⟨3, ![1, 128, 512]⟩
abbrev S1x128x1024 : Shape := ⟨3, ![1, 128, 1024]⟩
abbrev S1x31x32 : Shape := ⟨3, ![1, 31, 32]⟩

abbrev nBuf : Space → Nat
  | .hbm => 20
  | .vmem => 0
  | .smem => 0
  | _ => 0

abbrev bufTy : (tb : Table) → Fin (tcTables nBuf tb) → BufTy
  | .hbm, ⟨0, _⟩ => ⟨S1024x352, .bf16⟩
  | .hbm, ⟨1, _⟩ => ⟨S1024x352, .bf16⟩
  | .hbm, ⟨2, _⟩ => ⟨S352x1024, .bf16⟩
  | .hbm, ⟨3, _⟩ => ⟨S1024x192, .bf16⟩
  | .hbm, ⟨4, _⟩ => ⟨S128x512, .bf16⟩
  | .hbm, ⟨5, _⟩ => ⟨S128x1024, .bf16⟩
  | .hbm, ⟨6, _⟩ => ⟨S1024x352, .bf16⟩
  | .hbm, ⟨7, _⟩ => ⟨S1024x352, .bf16⟩
  | .hbm, ⟨8, _⟩ => ⟨S352x1024, .bf16⟩
  | .hbm, ⟨9, _⟩ => ⟨S31x32, .f32⟩
  | .hbm, ⟨10, _⟩ => ⟨S8x1024x352, .bf16⟩
  | .hbm, ⟨11, _⟩ => ⟨S8x1024x352, .bf16⟩
  | .hbm, ⟨12, _⟩ => ⟨S8x352x1024, .bf16⟩
  | .hbm, ⟨13, _⟩ => ⟨S8x1024x192, .bf16⟩
  | .hbm, ⟨14, _⟩ => ⟨S8x128x512, .bf16⟩
  | .hbm, ⟨15, _⟩ => ⟨S8x128x1024, .bf16⟩
  | .hbm, ⟨16, _⟩ => ⟨S8x1024x352, .bf16⟩
  | .hbm, ⟨17, _⟩ => ⟨S8x1024x352, .bf16⟩
  | .hbm, ⟨18, _⟩ => ⟨S8x352x1024, .bf16⟩
  | .hbm, ⟨19, _⟩ => ⟨S8x31x32, .f32⟩
  | _, _ => ⟨S1024x352, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | _, _ => false

abbrev semScoped : Fin 0 → Bool
  | ⟨_, h⟩ => absurd h (Nat.not_lt_zero _)

abbrev dmaSemScoped : Fin 150 → Bool
  | ⟨i, _⟩ => dmaSemScopedAt i

abbrev sig : RefSig :=
  ofTc nBuf bufTy 0 150 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev main_v1_5 : Ref sig .tc := ⟨.hbm, 15, rfl⟩
abbrev main_v1_6 : Ref sig .tc := ⟨.hbm, 16, rfl⟩
abbrev main_v1_7 : Ref sig .tc := ⟨.hbm, 17, rfl⟩
abbrev main_v1_8 : Ref sig .tc := ⟨.hbm, 18, rfl⟩
abbrev main_v1_9 : Ref sig .tc := ⟨.hbm, 19, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_11 : BitVec 32 := 0#32
  let c0_i32_12 : BitVec 32 := 0#32
  ![v12.toNat, 0, 0]
def k0_off3 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_13 : BitVec 32 := 0#32
  let c0_i32_14 : BitVec 32 := 0#32
  ![v12.toNat, 0, 0]
def k0_off4 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_16 : BitVec 32 := 0#32
  let c0_i32_17 : BitVec 32 := 0#32
  ![v12.toNat, 0, 0]
def k0_off5 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_18 : BitVec 32 := 0#32
  let c0_i32_19 : BitVec 32 := 0#32
  ![v12.toNat, 0, 0]
def k0_off6 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_26 : BitVec 32 := 0#32
  let c0_i32_27 : BitVec 32 := 0#32
  ![v12.toNat, 0, 0]
def k0_dev1 (d0 : Dev nD) : Nat :=
  let c0_i32_32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_31 : BitVec 32 := 4#32
  let v54 : BitVec 32 := Scalar.muli v2 c4_i32_31
  let v55 : BitVec 32 := Scalar.addi c0_i32_32 v54
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_33 : BitVec 32 := 2#32
  let v56 : BitVec 32 := Scalar.muli v5 c2_i32_33
  let v57 : BitVec 32 := Scalar.addi v55 v56
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v53 : BitVec 32 := Scalar.subi c1_i32_28 v8
  let c1_i32_34 : BitVec 32 := 1#32
  let v58 : BitVec 32 := Scalar.muli v53 c1_i32_34
  let v59 : BitVec 32 := Scalar.addi v57 v58
  v59.toNat
def k0_dev2 (d0 : Dev nD) : Nat :=
  let c0_i32_41 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_40 : BitVec 32 := 4#32
  let v67 : BitVec 32 := Scalar.muli v2 c4_i32_40
  let v68 : BitVec 32 := Scalar.addi c0_i32_41 v67
  let c1_i32_37 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v66 : BitVec 32 := Scalar.subi c1_i32_37 v5
  let c2_i32_42 : BitVec 32 := 2#32
  let v69 : BitVec 32 := Scalar.muli v66 c2_i32_42
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_43 : BitVec 32 := 1#32
  let v71 : BitVec 32 := Scalar.muli v8 c1_i32_43
  let v72 : BitVec 32 := Scalar.addi v70 v71
  v72.toNat
def k0_dev3 (d0 : Dev nD) : Nat :=
  let c0_i32_51 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_50 : BitVec 32 := 4#32
  let v81 : BitVec 32 := Scalar.muli v2 c4_i32_50
  let v82 : BitVec 32 := Scalar.addi c0_i32_51 v81
  let c1_i32_46 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v79 : BitVec 32 := Scalar.subi c1_i32_46 v5
  let c2_i32_52 : BitVec 32 := 2#32
  let v83 : BitVec 32 := Scalar.muli v79 c2_i32_52
  let v84 : BitVec 32 := Scalar.addi v82 v83
  let c1_i32_47 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v80 : BitVec 32 := Scalar.subi c1_i32_47 v8
  let c1_i32_53 : BitVec 32 := 1#32
  let v85 : BitVec 32 := Scalar.muli v80 c1_i32_53
  let v86 : BitVec 32 := Scalar.addi v84 v85
  v86.toNat
def k0_dev4 (d0 : Dev nD) : Nat :=
  let c0_i32_60 : BitVec 32 := 0#32
  let c1_i32_56 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v93 : BitVec 32 := Scalar.subi c1_i32_56 v2
  let c4_i32_59 : BitVec 32 := 4#32
  let v94 : BitVec 32 := Scalar.muli v93 c4_i32_59
  let v95 : BitVec 32 := Scalar.addi c0_i32_60 v94
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_61 : BitVec 32 := 2#32
  let v96 : BitVec 32 := Scalar.muli v5 c2_i32_61
  let v97 : BitVec 32 := Scalar.addi v95 v96
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_62 : BitVec 32 := 1#32
  let v98 : BitVec 32 := Scalar.muli v8 c1_i32_62
  let v99 : BitVec 32 := Scalar.addi v97 v98
  v99.toNat
def k0_dev5 (d0 : Dev nD) : Nat :=
  let c0_i32_70 : BitVec 32 := 0#32
  let c1_i32_65 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v106 : BitVec 32 := Scalar.subi c1_i32_65 v2
  let c4_i32_69 : BitVec 32 := 4#32
  let v108 : BitVec 32 := Scalar.muli v106 c4_i32_69
  let v109 : BitVec 32 := Scalar.addi c0_i32_70 v108
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_71 : BitVec 32 := 2#32
  let v110 : BitVec 32 := Scalar.muli v5 c2_i32_71
  let v111 : BitVec 32 := Scalar.addi v109 v110
  let c1_i32_66 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v107 : BitVec 32 := Scalar.subi c1_i32_66 v8
  let c1_i32_72 : BitVec 32 := 1#32
  let v112 : BitVec 32 := Scalar.muli v107 c1_i32_72
  let v113 : BitVec 32 := Scalar.addi v111 v112
  v113.toNat
def k0_dev6 (d0 : Dev nD) : Nat :=
  let c0_i32_80 : BitVec 32 := 0#32
  let c1_i32_75 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v120 : BitVec 32 := Scalar.subi c1_i32_75 v2
  let c4_i32_79 : BitVec 32 := 4#32
  let v122 : BitVec 32 := Scalar.muli v120 c4_i32_79
  let v123 : BitVec 32 := Scalar.addi c0_i32_80 v122
  let c1_i32_76 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v121 : BitVec 32 := Scalar.subi c1_i32_76 v5
  let c2_i32_81 : BitVec 32 := 2#32
  let v124 : BitVec 32 := Scalar.muli v121 c2_i32_81
  let v125 : BitVec 32 := Scalar.addi v123 v124
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v126 : BitVec 32 := Scalar.muli v8 c1_i32_82
  let v127 : BitVec 32 := Scalar.addi v125 v126
  v127.toNat
def k0_dev7 (d0 : Dev nD) : Nat :=
  let c0_i32_91 : BitVec 32 := 0#32
  let c1_i32_85 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v134 : BitVec 32 := Scalar.subi c1_i32_85 v2
  let c4_i32_90 : BitVec 32 := 4#32
  let v137 : BitVec 32 := Scalar.muli v134 c4_i32_90
  let v138 : BitVec 32 := Scalar.addi c0_i32_91 v137
  let c1_i32_86 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v135 : BitVec 32 := Scalar.subi c1_i32_86 v5
  let c2_i32_92 : BitVec 32 := 2#32
  let v139 : BitVec 32 := Scalar.muli v135 c2_i32_92
  let v140 : BitVec 32 := Scalar.addi v138 v139
  let c1_i32_87 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v136 : BitVec 32 := Scalar.subi c1_i32_87 v8
  let c1_i32_93 : BitVec 32 := 1#32
  let v141 : BitVec 32 := Scalar.muli v136 c1_i32_93
  let v142 : BitVec 32 := Scalar.addi v140 v141
  v142.toNat
def k0_dev8 (d0 : Dev nD) : Nat :=
  let c0_i32_100 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_99 : BitVec 32 := 4#32
  let v150 : BitVec 32 := Scalar.muli v2 c4_i32_99
  let v151 : BitVec 32 := Scalar.addi c0_i32_100 v150
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_101 : BitVec 32 := 2#32
  let v152 : BitVec 32 := Scalar.muli v5 c2_i32_101
  let v153 : BitVec 32 := Scalar.addi v151 v152
  let c1_i32_96 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.subi c1_i32_96 v8
  let c1_i32_102 : BitVec 32 := 1#32
  let v154 : BitVec 32 := Scalar.muli v149 c1_i32_102
  let v155 : BitVec 32 := Scalar.addi v153 v154
  v155.toNat
def k0_dev9 (d0 : Dev nD) : Nat :=
  let c0_i32_109 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_108 : BitVec 32 := 4#32
  let v163 : BitVec 32 := Scalar.muli v2 c4_i32_108
  let v164 : BitVec 32 := Scalar.addi c0_i32_109 v163
  let c1_i32_105 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v162 : BitVec 32 := Scalar.subi c1_i32_105 v5
  let c2_i32_110 : BitVec 32 := 2#32
  let v165 : BitVec 32 := Scalar.muli v162 c2_i32_110
  let v166 : BitVec 32 := Scalar.addi v164 v165
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_111 : BitVec 32 := 1#32
  let v167 : BitVec 32 := Scalar.muli v8 c1_i32_111
  let v168 : BitVec 32 := Scalar.addi v166 v167
  v168.toNat
def k0_dev10 (d0 : Dev nD) : Nat :=
  let c0_i32_119 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_118 : BitVec 32 := 4#32
  let v177 : BitVec 32 := Scalar.muli v2 c4_i32_118
  let v178 : BitVec 32 := Scalar.addi c0_i32_119 v177
  let c1_i32_114 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v175 : BitVec 32 := Scalar.subi c1_i32_114 v5
  let c2_i32_120 : BitVec 32 := 2#32
  let v179 : BitVec 32 := Scalar.muli v175 c2_i32_120
  let v180 : BitVec 32 := Scalar.addi v178 v179
  let c1_i32_115 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v176 : BitVec 32 := Scalar.subi c1_i32_115 v8
  let c1_i32_121 : BitVec 32 := 1#32
  let v181 : BitVec 32 := Scalar.muli v176 c1_i32_121
  let v182 : BitVec 32 := Scalar.addi v180 v181
  v182.toNat
def k0_dev11 (d0 : Dev nD) : Nat :=
  let c0_i32_127 : BitVec 32 := 0#32
  let c1_i32_124 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v189 : BitVec 32 := Scalar.subi c1_i32_124 v2
  let c4_i32_126 : BitVec 32 := 4#32
  let v190 : BitVec 32 := Scalar.muli v189 c4_i32_126
  let v191 : BitVec 32 := Scalar.addi c0_i32_127 v190
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_128 : BitVec 32 := 2#32
  let v192 : BitVec 32 := Scalar.muli v5 c2_i32_128
  let v193 : BitVec 32 := Scalar.addi v191 v192
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_129 : BitVec 32 := 1#32
  let v194 : BitVec 32 := Scalar.muli v8 c1_i32_129
  let v195 : BitVec 32 := Scalar.addi v193 v194
  v195.toNat
def k0_dev12 (d0 : Dev nD) : Nat :=
  let c0_i32_136 : BitVec 32 := 0#32
  let c1_i32_132 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v202 : BitVec 32 := Scalar.subi c1_i32_132 v2
  let c4_i32_135 : BitVec 32 := 4#32
  let v204 : BitVec 32 := Scalar.muli v202 c4_i32_135
  let v205 : BitVec 32 := Scalar.addi c0_i32_136 v204
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_137 : BitVec 32 := 2#32
  let v206 : BitVec 32 := Scalar.muli v5 c2_i32_137
  let v207 : BitVec 32 := Scalar.addi v205 v206
  let c1_i32_133 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v203 : BitVec 32 := Scalar.subi c1_i32_133 v8
  let c1_i32_138 : BitVec 32 := 1#32
  let v208 : BitVec 32 := Scalar.muli v203 c1_i32_138
  let v209 : BitVec 32 := Scalar.addi v207 v208
  v209.toNat
def k0_dev13 (d0 : Dev nD) : Nat :=
  let c0_i32_145 : BitVec 32 := 0#32
  let c1_i32_141 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v216 : BitVec 32 := Scalar.subi c1_i32_141 v2
  let c4_i32_144 : BitVec 32 := 4#32
  let v218 : BitVec 32 := Scalar.muli v216 c4_i32_144
  let v219 : BitVec 32 := Scalar.addi c0_i32_145 v218
  let c1_i32_142 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v217 : BitVec 32 := Scalar.subi c1_i32_142 v5
  let c2_i32_146 : BitVec 32 := 2#32
  let v220 : BitVec 32 := Scalar.muli v217 c2_i32_146
  let v221 : BitVec 32 := Scalar.addi v219 v220
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_147 : BitVec 32 := 1#32
  let v222 : BitVec 32 := Scalar.muli v8 c1_i32_147
  let v223 : BitVec 32 := Scalar.addi v221 v222
  v223.toNat
def k0_dev14 (d0 : Dev nD) : Nat :=
  let c0_i32_155 : BitVec 32 := 0#32
  let c1_i32_150 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v230 : BitVec 32 := Scalar.subi c1_i32_150 v2
  let c4_i32_154 : BitVec 32 := 4#32
  let v233 : BitVec 32 := Scalar.muli v230 c4_i32_154
  let v234 : BitVec 32 := Scalar.addi c0_i32_155 v233
  let c1_i32_151 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v231 : BitVec 32 := Scalar.subi c1_i32_151 v5
  let c2_i32_156 : BitVec 32 := 2#32
  let v235 : BitVec 32 := Scalar.muli v231 c2_i32_156
  let v236 : BitVec 32 := Scalar.addi v234 v235
  let c1_i32_152 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v232 : BitVec 32 := Scalar.subi c1_i32_152 v8
  let c1_i32_157 : BitVec 32 := 1#32
  let v237 : BitVec 32 := Scalar.muli v232 c1_i32_157
  let v238 : BitVec 32 := Scalar.addi v236 v237
  v238.toNat
def k0_dev15 (d0 : Dev nD) : Nat :=
  let c0_i32_163 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_162 : BitVec 32 := 4#32
  let v246 : BitVec 32 := Scalar.muli v2 c4_i32_162
  let v247 : BitVec 32 := Scalar.addi c0_i32_163 v246
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_164 : BitVec 32 := 2#32
  let v248 : BitVec 32 := Scalar.muli v5 c2_i32_164
  let v249 : BitVec 32 := Scalar.addi v247 v248
  let c1_i32_160 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v245 : BitVec 32 := Scalar.subi c1_i32_160 v8
  let c1_i32_165 : BitVec 32 := 1#32
  let v250 : BitVec 32 := Scalar.muli v245 c1_i32_165
  let v251 : BitVec 32 := Scalar.addi v249 v250
  v251.toNat
def k0_dev16 (d0 : Dev nD) : Nat :=
  let c0_i32_171 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_170 : BitVec 32 := 4#32
  let v259 : BitVec 32 := Scalar.muli v2 c4_i32_170
  let v260 : BitVec 32 := Scalar.addi c0_i32_171 v259
  let c1_i32_168 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v258 : BitVec 32 := Scalar.subi c1_i32_168 v5
  let c2_i32_172 : BitVec 32 := 2#32
  let v261 : BitVec 32 := Scalar.muli v258 c2_i32_172
  let v262 : BitVec 32 := Scalar.addi v260 v261
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_173 : BitVec 32 := 1#32
  let v263 : BitVec 32 := Scalar.muli v8 c1_i32_173
  let v264 : BitVec 32 := Scalar.addi v262 v263
  v264.toNat
def k0_dev17 (d0 : Dev nD) : Nat :=
  let c0_i32_180 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_179 : BitVec 32 := 4#32
  let v273 : BitVec 32 := Scalar.muli v2 c4_i32_179
  let v274 : BitVec 32 := Scalar.addi c0_i32_180 v273
  let c1_i32_176 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v271 : BitVec 32 := Scalar.subi c1_i32_176 v5
  let c2_i32_181 : BitVec 32 := 2#32
  let v275 : BitVec 32 := Scalar.muli v271 c2_i32_181
  let v276 : BitVec 32 := Scalar.addi v274 v275
  let c1_i32_177 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_177 v8
  let c1_i32_182 : BitVec 32 := 1#32
  let v277 : BitVec 32 := Scalar.muli v272 c1_i32_182
  let v278 : BitVec 32 := Scalar.addi v276 v277
  v278.toNat
def k0_dev18 (d0 : Dev nD) : Nat :=
  let c0_i32_188 : BitVec 32 := 0#32
  let c1_i32_185 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v285 : BitVec 32 := Scalar.subi c1_i32_185 v2
  let c4_i32_187 : BitVec 32 := 4#32
  let v286 : BitVec 32 := Scalar.muli v285 c4_i32_187
  let v287 : BitVec 32 := Scalar.addi c0_i32_188 v286
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_189 : BitVec 32 := 2#32
  let v288 : BitVec 32 := Scalar.muli v5 c2_i32_189
  let v289 : BitVec 32 := Scalar.addi v287 v288
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_190 : BitVec 32 := 1#32
  let v290 : BitVec 32 := Scalar.muli v8 c1_i32_190
  let v291 : BitVec 32 := Scalar.addi v289 v290
  v291.toNat
def k0_dev19 (d0 : Dev nD) : Nat :=
  let c0_i32_197 : BitVec 32 := 0#32
  let c1_i32_193 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v298 : BitVec 32 := Scalar.subi c1_i32_193 v2
  let c4_i32_196 : BitVec 32 := 4#32
  let v300 : BitVec 32 := Scalar.muli v298 c4_i32_196
  let v301 : BitVec 32 := Scalar.addi c0_i32_197 v300
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_198 : BitVec 32 := 2#32
  let v302 : BitVec 32 := Scalar.muli v5 c2_i32_198
  let v303 : BitVec 32 := Scalar.addi v301 v302
  let c1_i32_194 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v299 : BitVec 32 := Scalar.subi c1_i32_194 v8
  let c1_i32_199 : BitVec 32 := 1#32
  let v304 : BitVec 32 := Scalar.muli v299 c1_i32_199
  let v305 : BitVec 32 := Scalar.addi v303 v304
  v305.toNat
def k0_dev20 (d0 : Dev nD) : Nat :=
  let c0_i32_206 : BitVec 32 := 0#32
  let c1_i32_202 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v312 : BitVec 32 := Scalar.subi c1_i32_202 v2
  let c4_i32_205 : BitVec 32 := 4#32
  let v314 : BitVec 32 := Scalar.muli v312 c4_i32_205
  let v315 : BitVec 32 := Scalar.addi c0_i32_206 v314
  let c1_i32_203 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v313 : BitVec 32 := Scalar.subi c1_i32_203 v5
  let c2_i32_207 : BitVec 32 := 2#32
  let v316 : BitVec 32 := Scalar.muli v313 c2_i32_207
  let v317 : BitVec 32 := Scalar.addi v315 v316
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_208 : BitVec 32 := 1#32
  let v318 : BitVec 32 := Scalar.muli v8 c1_i32_208
  let v319 : BitVec 32 := Scalar.addi v317 v318
  v319.toNat
def k0_dev21 (d0 : Dev nD) : Nat :=
  let c0_i32_216 : BitVec 32 := 0#32
  let c1_i32_211 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v326 : BitVec 32 := Scalar.subi c1_i32_211 v2
  let c4_i32_215 : BitVec 32 := 4#32
  let v329 : BitVec 32 := Scalar.muli v326 c4_i32_215
  let v330 : BitVec 32 := Scalar.addi c0_i32_216 v329
  let c1_i32_212 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v327 : BitVec 32 := Scalar.subi c1_i32_212 v5
  let c2_i32_217 : BitVec 32 := 2#32
  let v331 : BitVec 32 := Scalar.muli v327 c2_i32_217
  let v332 : BitVec 32 := Scalar.addi v330 v331
  let c1_i32_213 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v328 : BitVec 32 := Scalar.subi c1_i32_213 v8
  let c1_i32_218 : BitVec 32 := 1#32
  let v333 : BitVec 32 := Scalar.muli v328 c1_i32_218
  let v334 : BitVec 32 := Scalar.addi v332 v333
  v334.toNat
def k0_dev22 (d0 : Dev nD) : Nat :=
  let c0_i32_224 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_223 : BitVec 32 := 4#32
  let v342 : BitVec 32 := Scalar.muli v2 c4_i32_223
  let v343 : BitVec 32 := Scalar.addi c0_i32_224 v342
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_225 : BitVec 32 := 2#32
  let v344 : BitVec 32 := Scalar.muli v5 c2_i32_225
  let v345 : BitVec 32 := Scalar.addi v343 v344
  let c1_i32_221 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v341 : BitVec 32 := Scalar.subi c1_i32_221 v8
  let c1_i32_226 : BitVec 32 := 1#32
  let v346 : BitVec 32 := Scalar.muli v341 c1_i32_226
  let v347 : BitVec 32 := Scalar.addi v345 v346
  v347.toNat
def k0_dev23 (d0 : Dev nD) : Nat :=
  let c0_i32_232 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_231 : BitVec 32 := 4#32
  let v355 : BitVec 32 := Scalar.muli v2 c4_i32_231
  let v356 : BitVec 32 := Scalar.addi c0_i32_232 v355
  let c1_i32_229 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v354 : BitVec 32 := Scalar.subi c1_i32_229 v5
  let c2_i32_233 : BitVec 32 := 2#32
  let v357 : BitVec 32 := Scalar.muli v354 c2_i32_233
  let v358 : BitVec 32 := Scalar.addi v356 v357
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_234 : BitVec 32 := 1#32
  let v359 : BitVec 32 := Scalar.muli v8 c1_i32_234
  let v360 : BitVec 32 := Scalar.addi v358 v359
  v360.toNat
def k0_dev24 (d0 : Dev nD) : Nat :=
  let c0_i32_241 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_240 : BitVec 32 := 4#32
  let v369 : BitVec 32 := Scalar.muli v2 c4_i32_240
  let v370 : BitVec 32 := Scalar.addi c0_i32_241 v369
  let c1_i32_237 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v367 : BitVec 32 := Scalar.subi c1_i32_237 v5
  let c2_i32_242 : BitVec 32 := 2#32
  let v371 : BitVec 32 := Scalar.muli v367 c2_i32_242
  let v372 : BitVec 32 := Scalar.addi v370 v371
  let c1_i32_238 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v368 : BitVec 32 := Scalar.subi c1_i32_238 v8
  let c1_i32_243 : BitVec 32 := 1#32
  let v373 : BitVec 32 := Scalar.muli v368 c1_i32_243
  let v374 : BitVec 32 := Scalar.addi v372 v373
  v374.toNat
def k0_dev25 (d0 : Dev nD) : Nat :=
  let c0_i32_249 : BitVec 32 := 0#32
  let c1_i32_246 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v381 : BitVec 32 := Scalar.subi c1_i32_246 v2
  let c4_i32_248 : BitVec 32 := 4#32
  let v382 : BitVec 32 := Scalar.muli v381 c4_i32_248
  let v383 : BitVec 32 := Scalar.addi c0_i32_249 v382
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_250 : BitVec 32 := 2#32
  let v384 : BitVec 32 := Scalar.muli v5 c2_i32_250
  let v385 : BitVec 32 := Scalar.addi v383 v384
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_251 : BitVec 32 := 1#32
  let v386 : BitVec 32 := Scalar.muli v8 c1_i32_251
  let v387 : BitVec 32 := Scalar.addi v385 v386
  v387.toNat
def k0_dev26 (d0 : Dev nD) : Nat :=
  let c0_i32_258 : BitVec 32 := 0#32
  let c1_i32_254 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v394 : BitVec 32 := Scalar.subi c1_i32_254 v2
  let c4_i32_257 : BitVec 32 := 4#32
  let v396 : BitVec 32 := Scalar.muli v394 c4_i32_257
  let v397 : BitVec 32 := Scalar.addi c0_i32_258 v396
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_259 : BitVec 32 := 2#32
  let v398 : BitVec 32 := Scalar.muli v5 c2_i32_259
  let v399 : BitVec 32 := Scalar.addi v397 v398
  let c1_i32_255 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v395 : BitVec 32 := Scalar.subi c1_i32_255 v8
  let c1_i32_260 : BitVec 32 := 1#32
  let v400 : BitVec 32 := Scalar.muli v395 c1_i32_260
  let v401 : BitVec 32 := Scalar.addi v399 v400
  v401.toNat
def k0_dev27 (d0 : Dev nD) : Nat :=
  let c0_i32_267 : BitVec 32 := 0#32
  let c1_i32_263 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v408 : BitVec 32 := Scalar.subi c1_i32_263 v2
  let c4_i32_266 : BitVec 32 := 4#32
  let v410 : BitVec 32 := Scalar.muli v408 c4_i32_266
  let v411 : BitVec 32 := Scalar.addi c0_i32_267 v410
  let c1_i32_264 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v409 : BitVec 32 := Scalar.subi c1_i32_264 v5
  let c2_i32_268 : BitVec 32 := 2#32
  let v412 : BitVec 32 := Scalar.muli v409 c2_i32_268
  let v413 : BitVec 32 := Scalar.addi v411 v412
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_269 : BitVec 32 := 1#32
  let v414 : BitVec 32 := Scalar.muli v8 c1_i32_269
  let v415 : BitVec 32 := Scalar.addi v413 v414
  v415.toNat
def k0_dev28 (d0 : Dev nD) : Nat :=
  let c0_i32_277 : BitVec 32 := 0#32
  let c1_i32_272 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v422 : BitVec 32 := Scalar.subi c1_i32_272 v2
  let c4_i32_276 : BitVec 32 := 4#32
  let v425 : BitVec 32 := Scalar.muli v422 c4_i32_276
  let v426 : BitVec 32 := Scalar.addi c0_i32_277 v425
  let c1_i32_273 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v423 : BitVec 32 := Scalar.subi c1_i32_273 v5
  let c2_i32_278 : BitVec 32 := 2#32
  let v427 : BitVec 32 := Scalar.muli v423 c2_i32_278
  let v428 : BitVec 32 := Scalar.addi v426 v427
  let c1_i32_274 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v424 : BitVec 32 := Scalar.subi c1_i32_274 v8
  let c1_i32_279 : BitVec 32 := 1#32
  let v429 : BitVec 32 := Scalar.muli v424 c1_i32_279
  let v430 : BitVec 32 := Scalar.addi v428 v429
  v430.toNat
def k0_dev29 (d0 : Dev nD) : Nat :=
  let c0_i32_285 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_284 : BitVec 32 := 4#32
  let v438 : BitVec 32 := Scalar.muli v2 c4_i32_284
  let v439 : BitVec 32 := Scalar.addi c0_i32_285 v438
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_286 : BitVec 32 := 2#32
  let v440 : BitVec 32 := Scalar.muli v5 c2_i32_286
  let v441 : BitVec 32 := Scalar.addi v439 v440
  let c1_i32_282 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v437 : BitVec 32 := Scalar.subi c1_i32_282 v8
  let c1_i32_287 : BitVec 32 := 1#32
  let v442 : BitVec 32 := Scalar.muli v437 c1_i32_287
  let v443 : BitVec 32 := Scalar.addi v441 v442
  v443.toNat
def k0_dev30 (d0 : Dev nD) : Nat :=
  let c0_i32_293 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_292 : BitVec 32 := 4#32
  let v451 : BitVec 32 := Scalar.muli v2 c4_i32_292
  let v452 : BitVec 32 := Scalar.addi c0_i32_293 v451
  let c1_i32_290 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v450 : BitVec 32 := Scalar.subi c1_i32_290 v5
  let c2_i32_294 : BitVec 32 := 2#32
  let v453 : BitVec 32 := Scalar.muli v450 c2_i32_294
  let v454 : BitVec 32 := Scalar.addi v452 v453
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_295 : BitVec 32 := 1#32
  let v455 : BitVec 32 := Scalar.muli v8 c1_i32_295
  let v456 : BitVec 32 := Scalar.addi v454 v455
  v456.toNat
def k0_dev31 (d0 : Dev nD) : Nat :=
  let c0_i32_302 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_301 : BitVec 32 := 4#32
  let v465 : BitVec 32 := Scalar.muli v2 c4_i32_301
  let v466 : BitVec 32 := Scalar.addi c0_i32_302 v465
  let c1_i32_298 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v463 : BitVec 32 := Scalar.subi c1_i32_298 v5
  let c2_i32_303 : BitVec 32 := 2#32
  let v467 : BitVec 32 := Scalar.muli v463 c2_i32_303
  let v468 : BitVec 32 := Scalar.addi v466 v467
  let c1_i32_299 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v464 : BitVec 32 := Scalar.subi c1_i32_299 v8
  let c1_i32_304 : BitVec 32 := 1#32
  let v469 : BitVec 32 := Scalar.muli v464 c1_i32_304
  let v470 : BitVec 32 := Scalar.addi v468 v469
  v470.toNat
def k0_dev32 (d0 : Dev nD) : Nat :=
  let c0_i32_310 : BitVec 32 := 0#32
  let c1_i32_307 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v477 : BitVec 32 := Scalar.subi c1_i32_307 v2
  let c4_i32_309 : BitVec 32 := 4#32
  let v478 : BitVec 32 := Scalar.muli v477 c4_i32_309
  let v479 : BitVec 32 := Scalar.addi c0_i32_310 v478
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_311 : BitVec 32 := 2#32
  let v480 : BitVec 32 := Scalar.muli v5 c2_i32_311
  let v481 : BitVec 32 := Scalar.addi v479 v480
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_312 : BitVec 32 := 1#32
  let v482 : BitVec 32 := Scalar.muli v8 c1_i32_312
  let v483 : BitVec 32 := Scalar.addi v481 v482
  v483.toNat
def k0_dev33 (d0 : Dev nD) : Nat :=
  let c0_i32_319 : BitVec 32 := 0#32
  let c1_i32_315 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v490 : BitVec 32 := Scalar.subi c1_i32_315 v2
  let c4_i32_318 : BitVec 32 := 4#32
  let v492 : BitVec 32 := Scalar.muli v490 c4_i32_318
  let v493 : BitVec 32 := Scalar.addi c0_i32_319 v492
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_320 : BitVec 32 := 2#32
  let v494 : BitVec 32 := Scalar.muli v5 c2_i32_320
  let v495 : BitVec 32 := Scalar.addi v493 v494
  let c1_i32_316 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v491 : BitVec 32 := Scalar.subi c1_i32_316 v8
  let c1_i32_321 : BitVec 32 := 1#32
  let v496 : BitVec 32 := Scalar.muli v491 c1_i32_321
  let v497 : BitVec 32 := Scalar.addi v495 v496
  v497.toNat
def k0_dev34 (d0 : Dev nD) : Nat :=
  let c0_i32_328 : BitVec 32 := 0#32
  let c1_i32_324 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v504 : BitVec 32 := Scalar.subi c1_i32_324 v2
  let c4_i32_327 : BitVec 32 := 4#32
  let v506 : BitVec 32 := Scalar.muli v504 c4_i32_327
  let v507 : BitVec 32 := Scalar.addi c0_i32_328 v506
  let c1_i32_325 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v505 : BitVec 32 := Scalar.subi c1_i32_325 v5
  let c2_i32_329 : BitVec 32 := 2#32
  let v508 : BitVec 32 := Scalar.muli v505 c2_i32_329
  let v509 : BitVec 32 := Scalar.addi v507 v508
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_330 : BitVec 32 := 1#32
  let v510 : BitVec 32 := Scalar.muli v8 c1_i32_330
  let v511 : BitVec 32 := Scalar.addi v509 v510
  v511.toNat
def k0_dev35 (d0 : Dev nD) : Nat :=
  let c0_i32_338 : BitVec 32 := 0#32
  let c1_i32_333 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v518 : BitVec 32 := Scalar.subi c1_i32_333 v2
  let c4_i32_337 : BitVec 32 := 4#32
  let v521 : BitVec 32 := Scalar.muli v518 c4_i32_337
  let v522 : BitVec 32 := Scalar.addi c0_i32_338 v521
  let c1_i32_334 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v519 : BitVec 32 := Scalar.subi c1_i32_334 v5
  let c2_i32_339 : BitVec 32 := 2#32
  let v523 : BitVec 32 := Scalar.muli v519 c2_i32_339
  let v524 : BitVec 32 := Scalar.addi v522 v523
  let c1_i32_335 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v520 : BitVec 32 := Scalar.subi c1_i32_335 v8
  let c1_i32_340 : BitVec 32 := 1#32
  let v525 : BitVec 32 := Scalar.muli v520 c1_i32_340
  let v526 : BitVec 32 := Scalar.addi v524 v525
  v526.toNat
def k0_dev36 (d0 : Dev nD) : Nat :=
  let c0_i32_346 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_345 : BitVec 32 := 4#32
  let v534 : BitVec 32 := Scalar.muli v2 c4_i32_345
  let v535 : BitVec 32 := Scalar.addi c0_i32_346 v534
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_347 : BitVec 32 := 2#32
  let v536 : BitVec 32 := Scalar.muli v5 c2_i32_347
  let v537 : BitVec 32 := Scalar.addi v535 v536
  let c1_i32_343 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v533 : BitVec 32 := Scalar.subi c1_i32_343 v8
  let c1_i32_348 : BitVec 32 := 1#32
  let v538 : BitVec 32 := Scalar.muli v533 c1_i32_348
  let v539 : BitVec 32 := Scalar.addi v537 v538
  v539.toNat
def k0_dev37 (d0 : Dev nD) : Nat :=
  let c0_i32_354 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_353 : BitVec 32 := 4#32
  let v547 : BitVec 32 := Scalar.muli v2 c4_i32_353
  let v548 : BitVec 32 := Scalar.addi c0_i32_354 v547
  let c1_i32_351 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v546 : BitVec 32 := Scalar.subi c1_i32_351 v5
  let c2_i32_355 : BitVec 32 := 2#32
  let v549 : BitVec 32 := Scalar.muli v546 c2_i32_355
  let v550 : BitVec 32 := Scalar.addi v548 v549
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_356 : BitVec 32 := 1#32
  let v551 : BitVec 32 := Scalar.muli v8 c1_i32_356
  let v552 : BitVec 32 := Scalar.addi v550 v551
  v552.toNat
def k0_dev38 (d0 : Dev nD) : Nat :=
  let c0_i32_363 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_362 : BitVec 32 := 4#32
  let v561 : BitVec 32 := Scalar.muli v2 c4_i32_362
  let v562 : BitVec 32 := Scalar.addi c0_i32_363 v561
  let c1_i32_359 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v559 : BitVec 32 := Scalar.subi c1_i32_359 v5
  let c2_i32_364 : BitVec 32 := 2#32
  let v563 : BitVec 32 := Scalar.muli v559 c2_i32_364
  let v564 : BitVec 32 := Scalar.addi v562 v563
  let c1_i32_360 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v560 : BitVec 32 := Scalar.subi c1_i32_360 v8
  let c1_i32_365 : BitVec 32 := 1#32
  let v565 : BitVec 32 := Scalar.muli v560 c1_i32_365
  let v566 : BitVec 32 := Scalar.addi v564 v565
  v566.toNat
def k0_dev39 (d0 : Dev nD) : Nat :=
  let c0_i32_371 : BitVec 32 := 0#32
  let c1_i32_368 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v573 : BitVec 32 := Scalar.subi c1_i32_368 v2
  let c4_i32_370 : BitVec 32 := 4#32
  let v574 : BitVec 32 := Scalar.muli v573 c4_i32_370
  let v575 : BitVec 32 := Scalar.addi c0_i32_371 v574
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_372 : BitVec 32 := 2#32
  let v576 : BitVec 32 := Scalar.muli v5 c2_i32_372
  let v577 : BitVec 32 := Scalar.addi v575 v576
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_373 : BitVec 32 := 1#32
  let v578 : BitVec 32 := Scalar.muli v8 c1_i32_373
  let v579 : BitVec 32 := Scalar.addi v577 v578
  v579.toNat
def k0_dev40 (d0 : Dev nD) : Nat :=
  let c0_i32_380 : BitVec 32 := 0#32
  let c1_i32_376 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v586 : BitVec 32 := Scalar.subi c1_i32_376 v2
  let c4_i32_379 : BitVec 32 := 4#32
  let v588 : BitVec 32 := Scalar.muli v586 c4_i32_379
  let v589 : BitVec 32 := Scalar.addi c0_i32_380 v588
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_381 : BitVec 32 := 2#32
  let v590 : BitVec 32 := Scalar.muli v5 c2_i32_381
  let v591 : BitVec 32 := Scalar.addi v589 v590
  let c1_i32_377 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v587 : BitVec 32 := Scalar.subi c1_i32_377 v8
  let c1_i32_382 : BitVec 32 := 1#32
  let v592 : BitVec 32 := Scalar.muli v587 c1_i32_382
  let v593 : BitVec 32 := Scalar.addi v591 v592
  v593.toNat
def k0_dev41 (d0 : Dev nD) : Nat :=
  let c0_i32_389 : BitVec 32 := 0#32
  let c1_i32_385 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v600 : BitVec 32 := Scalar.subi c1_i32_385 v2
  let c4_i32_388 : BitVec 32 := 4#32
  let v602 : BitVec 32 := Scalar.muli v600 c4_i32_388
  let v603 : BitVec 32 := Scalar.addi c0_i32_389 v602
  let c1_i32_386 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v601 : BitVec 32 := Scalar.subi c1_i32_386 v5
  let c2_i32_390 : BitVec 32 := 2#32
  let v604 : BitVec 32 := Scalar.muli v601 c2_i32_390
  let v605 : BitVec 32 := Scalar.addi v603 v604
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_391 : BitVec 32 := 1#32
  let v606 : BitVec 32 := Scalar.muli v8 c1_i32_391
  let v607 : BitVec 32 := Scalar.addi v605 v606
  v607.toNat
def k0_dev42 (d0 : Dev nD) : Nat :=
  let c0_i32_399 : BitVec 32 := 0#32
  let c1_i32_394 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v614 : BitVec 32 := Scalar.subi c1_i32_394 v2
  let c4_i32_398 : BitVec 32 := 4#32
  let v617 : BitVec 32 := Scalar.muli v614 c4_i32_398
  let v618 : BitVec 32 := Scalar.addi c0_i32_399 v617
  let c1_i32_395 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v615 : BitVec 32 := Scalar.subi c1_i32_395 v5
  let c2_i32_400 : BitVec 32 := 2#32
  let v619 : BitVec 32 := Scalar.muli v615 c2_i32_400
  let v620 : BitVec 32 := Scalar.addi v618 v619
  let c1_i32_396 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v616 : BitVec 32 := Scalar.subi c1_i32_396 v8
  let c1_i32_401 : BitVec 32 := 1#32
  let v621 : BitVec 32 := Scalar.muli v616 c1_i32_401
  let v622 : BitVec 32 := Scalar.addi v620 v621
  v622.toNat
def k0_dev43 (d0 : Dev nD) : Nat :=
  let c0_i32_407 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_406 : BitVec 32 := 4#32
  let v630 : BitVec 32 := Scalar.muli v2 c4_i32_406
  let v631 : BitVec 32 := Scalar.addi c0_i32_407 v630
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_408 : BitVec 32 := 2#32
  let v632 : BitVec 32 := Scalar.muli v5 c2_i32_408
  let v633 : BitVec 32 := Scalar.addi v631 v632
  let c1_i32_404 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v629 : BitVec 32 := Scalar.subi c1_i32_404 v8
  let c1_i32_409 : BitVec 32 := 1#32
  let v634 : BitVec 32 := Scalar.muli v629 c1_i32_409
  let v635 : BitVec 32 := Scalar.addi v633 v634
  v635.toNat
def k0_dev44 (d0 : Dev nD) : Nat :=
  let c0_i32_415 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_414 : BitVec 32 := 4#32
  let v643 : BitVec 32 := Scalar.muli v2 c4_i32_414
  let v644 : BitVec 32 := Scalar.addi c0_i32_415 v643
  let c1_i32_412 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v642 : BitVec 32 := Scalar.subi c1_i32_412 v5
  let c2_i32_416 : BitVec 32 := 2#32
  let v645 : BitVec 32 := Scalar.muli v642 c2_i32_416
  let v646 : BitVec 32 := Scalar.addi v644 v645
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_417 : BitVec 32 := 1#32
  let v647 : BitVec 32 := Scalar.muli v8 c1_i32_417
  let v648 : BitVec 32 := Scalar.addi v646 v647
  v648.toNat
def k0_dev45 (d0 : Dev nD) : Nat :=
  let c0_i32_424 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_423 : BitVec 32 := 4#32
  let v657 : BitVec 32 := Scalar.muli v2 c4_i32_423
  let v658 : BitVec 32 := Scalar.addi c0_i32_424 v657
  let c1_i32_420 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v655 : BitVec 32 := Scalar.subi c1_i32_420 v5
  let c2_i32_425 : BitVec 32 := 2#32
  let v659 : BitVec 32 := Scalar.muli v655 c2_i32_425
  let v660 : BitVec 32 := Scalar.addi v658 v659
  let c1_i32_421 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v656 : BitVec 32 := Scalar.subi c1_i32_421 v8
  let c1_i32_426 : BitVec 32 := 1#32
  let v661 : BitVec 32 := Scalar.muli v656 c1_i32_426
  let v662 : BitVec 32 := Scalar.addi v660 v661
  v662.toNat
def k0_dev46 (d0 : Dev nD) : Nat :=
  let c0_i32_432 : BitVec 32 := 0#32
  let c1_i32_429 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v669 : BitVec 32 := Scalar.subi c1_i32_429 v2
  let c4_i32_431 : BitVec 32 := 4#32
  let v670 : BitVec 32 := Scalar.muli v669 c4_i32_431
  let v671 : BitVec 32 := Scalar.addi c0_i32_432 v670
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_433 : BitVec 32 := 2#32
  let v672 : BitVec 32 := Scalar.muli v5 c2_i32_433
  let v673 : BitVec 32 := Scalar.addi v671 v672
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_434 : BitVec 32 := 1#32
  let v674 : BitVec 32 := Scalar.muli v8 c1_i32_434
  let v675 : BitVec 32 := Scalar.addi v673 v674
  v675.toNat
def k0_dev47 (d0 : Dev nD) : Nat :=
  let c0_i32_441 : BitVec 32 := 0#32
  let c1_i32_437 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v682 : BitVec 32 := Scalar.subi c1_i32_437 v2
  let c4_i32_440 : BitVec 32 := 4#32
  let v684 : BitVec 32 := Scalar.muli v682 c4_i32_440
  let v685 : BitVec 32 := Scalar.addi c0_i32_441 v684
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_442 : BitVec 32 := 2#32
  let v686 : BitVec 32 := Scalar.muli v5 c2_i32_442
  let v687 : BitVec 32 := Scalar.addi v685 v686
  let c1_i32_438 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v683 : BitVec 32 := Scalar.subi c1_i32_438 v8
  let c1_i32_443 : BitVec 32 := 1#32
  let v688 : BitVec 32 := Scalar.muli v683 c1_i32_443
  let v689 : BitVec 32 := Scalar.addi v687 v688
  v689.toNat
def k0_dev48 (d0 : Dev nD) : Nat :=
  let c0_i32_450 : BitVec 32 := 0#32
  let c1_i32_446 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v696 : BitVec 32 := Scalar.subi c1_i32_446 v2
  let c4_i32_449 : BitVec 32 := 4#32
  let v698 : BitVec 32 := Scalar.muli v696 c4_i32_449
  let v699 : BitVec 32 := Scalar.addi c0_i32_450 v698
  let c1_i32_447 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v697 : BitVec 32 := Scalar.subi c1_i32_447 v5
  let c2_i32_451 : BitVec 32 := 2#32
  let v700 : BitVec 32 := Scalar.muli v697 c2_i32_451
  let v701 : BitVec 32 := Scalar.addi v699 v700
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_452 : BitVec 32 := 1#32
  let v702 : BitVec 32 := Scalar.muli v8 c1_i32_452
  let v703 : BitVec 32 := Scalar.addi v701 v702
  v703.toNat
def k0_dev49 (d0 : Dev nD) : Nat :=
  let c0_i32_460 : BitVec 32 := 0#32
  let c1_i32_455 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v710 : BitVec 32 := Scalar.subi c1_i32_455 v2
  let c4_i32_459 : BitVec 32 := 4#32
  let v713 : BitVec 32 := Scalar.muli v710 c4_i32_459
  let v714 : BitVec 32 := Scalar.addi c0_i32_460 v713
  let c1_i32_456 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v711 : BitVec 32 := Scalar.subi c1_i32_456 v5
  let c2_i32_461 : BitVec 32 := 2#32
  let v715 : BitVec 32 := Scalar.muli v711 c2_i32_461
  let v716 : BitVec 32 := Scalar.addi v714 v715
  let c1_i32_457 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v712 : BitVec 32 := Scalar.subi c1_i32_457 v8
  let c1_i32_462 : BitVec 32 := 1#32
  let v717 : BitVec 32 := Scalar.muli v712 c1_i32_462
  let v718 : BitVec 32 := Scalar.addi v716 v717
  v718.toNat
def k0_dev50 (d0 : Dev nD) : Nat :=
  let c0_i32_468 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_467 : BitVec 32 := 4#32
  let v726 : BitVec 32 := Scalar.muli v2 c4_i32_467
  let v727 : BitVec 32 := Scalar.addi c0_i32_468 v726
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_469 : BitVec 32 := 2#32
  let v728 : BitVec 32 := Scalar.muli v5 c2_i32_469
  let v729 : BitVec 32 := Scalar.addi v727 v728
  let c1_i32_465 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v725 : BitVec 32 := Scalar.subi c1_i32_465 v8
  let c1_i32_470 : BitVec 32 := 1#32
  let v730 : BitVec 32 := Scalar.muli v725 c1_i32_470
  let v731 : BitVec 32 := Scalar.addi v729 v730
  v731.toNat
def k0_dev51 (d0 : Dev nD) : Nat :=
  let c0_i32_476 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_475 : BitVec 32 := 4#32
  let v739 : BitVec 32 := Scalar.muli v2 c4_i32_475
  let v740 : BitVec 32 := Scalar.addi c0_i32_476 v739
  let c1_i32_473 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v738 : BitVec 32 := Scalar.subi c1_i32_473 v5
  let c2_i32_477 : BitVec 32 := 2#32
  let v741 : BitVec 32 := Scalar.muli v738 c2_i32_477
  let v742 : BitVec 32 := Scalar.addi v740 v741
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_478 : BitVec 32 := 1#32
  let v743 : BitVec 32 := Scalar.muli v8 c1_i32_478
  let v744 : BitVec 32 := Scalar.addi v742 v743
  v744.toNat
def k0_dev52 (d0 : Dev nD) : Nat :=
  let c0_i32_485 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_484 : BitVec 32 := 4#32
  let v753 : BitVec 32 := Scalar.muli v2 c4_i32_484
  let v754 : BitVec 32 := Scalar.addi c0_i32_485 v753
  let c1_i32_481 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v751 : BitVec 32 := Scalar.subi c1_i32_481 v5
  let c2_i32_486 : BitVec 32 := 2#32
  let v755 : BitVec 32 := Scalar.muli v751 c2_i32_486
  let v756 : BitVec 32 := Scalar.addi v754 v755
  let c1_i32_482 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v752 : BitVec 32 := Scalar.subi c1_i32_482 v8
  let c1_i32_487 : BitVec 32 := 1#32
  let v757 : BitVec 32 := Scalar.muli v752 c1_i32_487
  let v758 : BitVec 32 := Scalar.addi v756 v757
  v758.toNat
def k0_dev53 (d0 : Dev nD) : Nat :=
  let c0_i32_493 : BitVec 32 := 0#32
  let c1_i32_490 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v765 : BitVec 32 := Scalar.subi c1_i32_490 v2
  let c4_i32_492 : BitVec 32 := 4#32
  let v766 : BitVec 32 := Scalar.muli v765 c4_i32_492
  let v767 : BitVec 32 := Scalar.addi c0_i32_493 v766
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_494 : BitVec 32 := 2#32
  let v768 : BitVec 32 := Scalar.muli v5 c2_i32_494
  let v769 : BitVec 32 := Scalar.addi v767 v768
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_495 : BitVec 32 := 1#32
  let v770 : BitVec 32 := Scalar.muli v8 c1_i32_495
  let v771 : BitVec 32 := Scalar.addi v769 v770
  v771.toNat
def k0_dev54 (d0 : Dev nD) : Nat :=
  let c0_i32_502 : BitVec 32 := 0#32
  let c1_i32_498 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v778 : BitVec 32 := Scalar.subi c1_i32_498 v2
  let c4_i32_501 : BitVec 32 := 4#32
  let v780 : BitVec 32 := Scalar.muli v778 c4_i32_501
  let v781 : BitVec 32 := Scalar.addi c0_i32_502 v780
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_503 : BitVec 32 := 2#32
  let v782 : BitVec 32 := Scalar.muli v5 c2_i32_503
  let v783 : BitVec 32 := Scalar.addi v781 v782
  let c1_i32_499 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v779 : BitVec 32 := Scalar.subi c1_i32_499 v8
  let c1_i32_504 : BitVec 32 := 1#32
  let v784 : BitVec 32 := Scalar.muli v779 c1_i32_504
  let v785 : BitVec 32 := Scalar.addi v783 v784
  v785.toNat
def k0_dev55 (d0 : Dev nD) : Nat :=
  let c0_i32_511 : BitVec 32 := 0#32
  let c1_i32_507 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v792 : BitVec 32 := Scalar.subi c1_i32_507 v2
  let c4_i32_510 : BitVec 32 := 4#32
  let v794 : BitVec 32 := Scalar.muli v792 c4_i32_510
  let v795 : BitVec 32 := Scalar.addi c0_i32_511 v794
  let c1_i32_508 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v793 : BitVec 32 := Scalar.subi c1_i32_508 v5
  let c2_i32_512 : BitVec 32 := 2#32
  let v796 : BitVec 32 := Scalar.muli v793 c2_i32_512
  let v797 : BitVec 32 := Scalar.addi v795 v796
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_513 : BitVec 32 := 1#32
  let v798 : BitVec 32 := Scalar.muli v8 c1_i32_513
  let v799 : BitVec 32 := Scalar.addi v797 v798
  v799.toNat
def k0_dev56 (d0 : Dev nD) : Nat :=
  let c0_i32_521 : BitVec 32 := 0#32
  let c1_i32_516 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v806 : BitVec 32 := Scalar.subi c1_i32_516 v2
  let c4_i32_520 : BitVec 32 := 4#32
  let v809 : BitVec 32 := Scalar.muli v806 c4_i32_520
  let v810 : BitVec 32 := Scalar.addi c0_i32_521 v809
  let c1_i32_517 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v807 : BitVec 32 := Scalar.subi c1_i32_517 v5
  let c2_i32_522 : BitVec 32 := 2#32
  let v811 : BitVec 32 := Scalar.muli v807 c2_i32_522
  let v812 : BitVec 32 := Scalar.addi v810 v811
  let c1_i32_518 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v808 : BitVec 32 := Scalar.subi c1_i32_518 v8
  let c1_i32_523 : BitVec 32 := 1#32
  let v813 : BitVec 32 := Scalar.muli v808 c1_i32_523
  let v814 : BitVec 32 := Scalar.addi v812 v813
  v814.toNat
def k0_dev57 (d0 : Dev nD) : Nat :=
  let c0_i32_529 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_528 : BitVec 32 := 4#32
  let v822 : BitVec 32 := Scalar.muli v2 c4_i32_528
  let v823 : BitVec 32 := Scalar.addi c0_i32_529 v822
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_530 : BitVec 32 := 2#32
  let v824 : BitVec 32 := Scalar.muli v5 c2_i32_530
  let v825 : BitVec 32 := Scalar.addi v823 v824
  let c1_i32_526 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v821 : BitVec 32 := Scalar.subi c1_i32_526 v8
  let c1_i32_531 : BitVec 32 := 1#32
  let v826 : BitVec 32 := Scalar.muli v821 c1_i32_531
  let v827 : BitVec 32 := Scalar.addi v825 v826
  v827.toNat
def k0_dev58 (d0 : Dev nD) : Nat :=
  let c0_i32_537 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_536 : BitVec 32 := 4#32
  let v835 : BitVec 32 := Scalar.muli v2 c4_i32_536
  let v836 : BitVec 32 := Scalar.addi c0_i32_537 v835
  let c1_i32_534 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v834 : BitVec 32 := Scalar.subi c1_i32_534 v5
  let c2_i32_538 : BitVec 32 := 2#32
  let v837 : BitVec 32 := Scalar.muli v834 c2_i32_538
  let v838 : BitVec 32 := Scalar.addi v836 v837
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_539 : BitVec 32 := 1#32
  let v839 : BitVec 32 := Scalar.muli v8 c1_i32_539
  let v840 : BitVec 32 := Scalar.addi v838 v839
  v840.toNat
def k0_dev59 (d0 : Dev nD) : Nat :=
  let c0_i32_546 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_545 : BitVec 32 := 4#32
  let v849 : BitVec 32 := Scalar.muli v2 c4_i32_545
  let v850 : BitVec 32 := Scalar.addi c0_i32_546 v849
  let c1_i32_542 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v847 : BitVec 32 := Scalar.subi c1_i32_542 v5
  let c2_i32_547 : BitVec 32 := 2#32
  let v851 : BitVec 32 := Scalar.muli v847 c2_i32_547
  let v852 : BitVec 32 := Scalar.addi v850 v851
  let c1_i32_543 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v848 : BitVec 32 := Scalar.subi c1_i32_543 v8
  let c1_i32_548 : BitVec 32 := 1#32
  let v853 : BitVec 32 := Scalar.muli v848 c1_i32_548
  let v854 : BitVec 32 := Scalar.addi v852 v853
  v854.toNat
def k0_dev60 (d0 : Dev nD) : Nat :=
  let c0_i32_554 : BitVec 32 := 0#32
  let c1_i32_551 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v861 : BitVec 32 := Scalar.subi c1_i32_551 v2
  let c4_i32_553 : BitVec 32 := 4#32
  let v862 : BitVec 32 := Scalar.muli v861 c4_i32_553
  let v863 : BitVec 32 := Scalar.addi c0_i32_554 v862
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_555 : BitVec 32 := 2#32
  let v864 : BitVec 32 := Scalar.muli v5 c2_i32_555
  let v865 : BitVec 32 := Scalar.addi v863 v864
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_556 : BitVec 32 := 1#32
  let v866 : BitVec 32 := Scalar.muli v8 c1_i32_556
  let v867 : BitVec 32 := Scalar.addi v865 v866
  v867.toNat
def k0_dev61 (d0 : Dev nD) : Nat :=
  let c0_i32_563 : BitVec 32 := 0#32
  let c1_i32_559 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v874 : BitVec 32 := Scalar.subi c1_i32_559 v2
  let c4_i32_562 : BitVec 32 := 4#32
  let v876 : BitVec 32 := Scalar.muli v874 c4_i32_562
  let v877 : BitVec 32 := Scalar.addi c0_i32_563 v876
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_564 : BitVec 32 := 2#32
  let v878 : BitVec 32 := Scalar.muli v5 c2_i32_564
  let v879 : BitVec 32 := Scalar.addi v877 v878
  let c1_i32_560 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v875 : BitVec 32 := Scalar.subi c1_i32_560 v8
  let c1_i32_565 : BitVec 32 := 1#32
  let v880 : BitVec 32 := Scalar.muli v875 c1_i32_565
  let v881 : BitVec 32 := Scalar.addi v879 v880
  v881.toNat
def k0_dev62 (d0 : Dev nD) : Nat :=
  let c0_i32_572 : BitVec 32 := 0#32
  let c1_i32_568 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v888 : BitVec 32 := Scalar.subi c1_i32_568 v2
  let c4_i32_571 : BitVec 32 := 4#32
  let v890 : BitVec 32 := Scalar.muli v888 c4_i32_571
  let v891 : BitVec 32 := Scalar.addi c0_i32_572 v890
  let c1_i32_569 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v889 : BitVec 32 := Scalar.subi c1_i32_569 v5
  let c2_i32_573 : BitVec 32 := 2#32
  let v892 : BitVec 32 := Scalar.muli v889 c2_i32_573
  let v893 : BitVec 32 := Scalar.addi v891 v892
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_574 : BitVec 32 := 1#32
  let v894 : BitVec 32 := Scalar.muli v8 c1_i32_574
  let v895 : BitVec 32 := Scalar.addi v893 v894
  v895.toNat
def k0_dev63 (d0 : Dev nD) : Nat :=
  let c0_i32_582 : BitVec 32 := 0#32
  let c1_i32_577 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v902 : BitVec 32 := Scalar.subi c1_i32_577 v2
  let c4_i32_581 : BitVec 32 := 4#32
  let v905 : BitVec 32 := Scalar.muli v902 c4_i32_581
  let v906 : BitVec 32 := Scalar.addi c0_i32_582 v905
  let c1_i32_578 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v903 : BitVec 32 := Scalar.subi c1_i32_578 v5
  let c2_i32_583 : BitVec 32 := 2#32
  let v907 : BitVec 32 := Scalar.muli v903 c2_i32_583
  let v908 : BitVec 32 := Scalar.addi v906 v907
  let c1_i32_579 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v904 : BitVec 32 := Scalar.subi c1_i32_579 v8
  let c1_i32_584 : BitVec 32 := 1#32
  let v909 : BitVec 32 := Scalar.muli v904 c1_i32_584
  let v910 : BitVec 32 := Scalar.addi v908 v909
  v910.toNat
def k0_dev64 (d0 : Dev nD) : Nat :=
  let c0_i32_590 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_589 : BitVec 32 := 4#32
  let v918 : BitVec 32 := Scalar.muli v2 c4_i32_589
  let v919 : BitVec 32 := Scalar.addi c0_i32_590 v918
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_591 : BitVec 32 := 2#32
  let v920 : BitVec 32 := Scalar.muli v5 c2_i32_591
  let v921 : BitVec 32 := Scalar.addi v919 v920
  let c1_i32_587 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v917 : BitVec 32 := Scalar.subi c1_i32_587 v8
  let c1_i32_592 : BitVec 32 := 1#32
  let v922 : BitVec 32 := Scalar.muli v917 c1_i32_592
  let v923 : BitVec 32 := Scalar.addi v921 v922
  v923.toNat
def k0_dev65 (d0 : Dev nD) : Nat :=
  let c0_i32_598 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_597 : BitVec 32 := 4#32
  let v931 : BitVec 32 := Scalar.muli v2 c4_i32_597
  let v932 : BitVec 32 := Scalar.addi c0_i32_598 v931
  let c1_i32_595 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v930 : BitVec 32 := Scalar.subi c1_i32_595 v5
  let c2_i32_599 : BitVec 32 := 2#32
  let v933 : BitVec 32 := Scalar.muli v930 c2_i32_599
  let v934 : BitVec 32 := Scalar.addi v932 v933
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_600 : BitVec 32 := 1#32
  let v935 : BitVec 32 := Scalar.muli v8 c1_i32_600
  let v936 : BitVec 32 := Scalar.addi v934 v935
  v936.toNat
def k0_dev66 (d0 : Dev nD) : Nat :=
  let c0_i32_607 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_606 : BitVec 32 := 4#32
  let v945 : BitVec 32 := Scalar.muli v2 c4_i32_606
  let v946 : BitVec 32 := Scalar.addi c0_i32_607 v945
  let c1_i32_603 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v943 : BitVec 32 := Scalar.subi c1_i32_603 v5
  let c2_i32_608 : BitVec 32 := 2#32
  let v947 : BitVec 32 := Scalar.muli v943 c2_i32_608
  let v948 : BitVec 32 := Scalar.addi v946 v947
  let c1_i32_604 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v944 : BitVec 32 := Scalar.subi c1_i32_604 v8
  let c1_i32_609 : BitVec 32 := 1#32
  let v949 : BitVec 32 := Scalar.muli v944 c1_i32_609
  let v950 : BitVec 32 := Scalar.addi v948 v949
  v950.toNat
def k0_dev67 (d0 : Dev nD) : Nat :=
  let c0_i32_615 : BitVec 32 := 0#32
  let c1_i32_612 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v957 : BitVec 32 := Scalar.subi c1_i32_612 v2
  let c4_i32_614 : BitVec 32 := 4#32
  let v958 : BitVec 32 := Scalar.muli v957 c4_i32_614
  let v959 : BitVec 32 := Scalar.addi c0_i32_615 v958
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_616 : BitVec 32 := 2#32
  let v960 : BitVec 32 := Scalar.muli v5 c2_i32_616
  let v961 : BitVec 32 := Scalar.addi v959 v960
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_617 : BitVec 32 := 1#32
  let v962 : BitVec 32 := Scalar.muli v8 c1_i32_617
  let v963 : BitVec 32 := Scalar.addi v961 v962
  v963.toNat
def k0_dev68 (d0 : Dev nD) : Nat :=
  let c0_i32_624 : BitVec 32 := 0#32
  let c1_i32_620 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v970 : BitVec 32 := Scalar.subi c1_i32_620 v2
  let c4_i32_623 : BitVec 32 := 4#32
  let v972 : BitVec 32 := Scalar.muli v970 c4_i32_623
  let v973 : BitVec 32 := Scalar.addi c0_i32_624 v972
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_625 : BitVec 32 := 2#32
  let v974 : BitVec 32 := Scalar.muli v5 c2_i32_625
  let v975 : BitVec 32 := Scalar.addi v973 v974
  let c1_i32_621 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v971 : BitVec 32 := Scalar.subi c1_i32_621 v8
  let c1_i32_626 : BitVec 32 := 1#32
  let v976 : BitVec 32 := Scalar.muli v971 c1_i32_626
  let v977 : BitVec 32 := Scalar.addi v975 v976
  v977.toNat
def k0_dev69 (d0 : Dev nD) : Nat :=
  let c0_i32_633 : BitVec 32 := 0#32
  let c1_i32_629 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v984 : BitVec 32 := Scalar.subi c1_i32_629 v2
  let c4_i32_632 : BitVec 32 := 4#32
  let v986 : BitVec 32 := Scalar.muli v984 c4_i32_632
  let v987 : BitVec 32 := Scalar.addi c0_i32_633 v986
  let c1_i32_630 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v985 : BitVec 32 := Scalar.subi c1_i32_630 v5
  let c2_i32_634 : BitVec 32 := 2#32
  let v988 : BitVec 32 := Scalar.muli v985 c2_i32_634
  let v989 : BitVec 32 := Scalar.addi v987 v988
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_635 : BitVec 32 := 1#32
  let v990 : BitVec 32 := Scalar.muli v8 c1_i32_635
  let v991 : BitVec 32 := Scalar.addi v989 v990
  v991.toNat
def k0_dev70 (d0 : Dev nD) : Nat :=
  let c0_i32_643 : BitVec 32 := 0#32
  let c1_i32_638 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v998 : BitVec 32 := Scalar.subi c1_i32_638 v2
  let c4_i32_642 : BitVec 32 := 4#32
  let v1001 : BitVec 32 := Scalar.muli v998 c4_i32_642
  let v1002 : BitVec 32 := Scalar.addi c0_i32_643 v1001
  let c1_i32_639 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v999 : BitVec 32 := Scalar.subi c1_i32_639 v5
  let c2_i32_644 : BitVec 32 := 2#32
  let v1003 : BitVec 32 := Scalar.muli v999 c2_i32_644
  let v1004 : BitVec 32 := Scalar.addi v1002 v1003
  let c1_i32_640 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1000 : BitVec 32 := Scalar.subi c1_i32_640 v8
  let c1_i32_645 : BitVec 32 := 1#32
  let v1005 : BitVec 32 := Scalar.muli v1000 c1_i32_645
  let v1006 : BitVec 32 := Scalar.addi v1004 v1005
  v1006.toNat
def k0_off7 (d0 : Dev nD) : Fin 3 → Nat :=
  let c4_i32_649 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1014 : BitVec 32 := Scalar.muli c4_i32_649 v2
  let c2_i32_650 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1015 : BitVec 32 := Scalar.muli c2_i32_650 v5
  let v1016 : BitVec 32 := Scalar.addi v1014 v1015
  let c1_i32_648 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1013 : BitVec 32 := Scalar.subi c1_i32_648 v8
  let v1017 : BitVec 32 := Scalar.addi v1016 v1013
  let c0_i32_657 : BitVec 32 := 0#32
  let c0_i32_658 : BitVec 32 := 0#32
  ![v1017.toNat, 0, 0]
def k0_off8 (d0 : Dev nD) : Fin 3 → Nat :=
  let c4_i32_660 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1029 : BitVec 32 := Scalar.muli c4_i32_660 v2
  let c2_i32_661 : BitVec 32 := 2#32
  let c1_i32_659 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1028 : BitVec 32 := Scalar.subi c1_i32_659 v5
  let v1030 : BitVec 32 := Scalar.muli c2_i32_661 v1028
  let v1031 : BitVec 32 := Scalar.addi v1029 v1030
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1032 : BitVec 32 := Scalar.addi v1031 v8
  let c0_i32_668 : BitVec 32 := 0#32
  let c0_i32_669 : BitVec 32 := 0#32
  ![v1032.toNat, 0, 0]
def k0_off9 (d0 : Dev nD) : Fin 3 → Nat :=
  let c4_i32_672 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1045 : BitVec 32 := Scalar.muli c4_i32_672 v2
  let c2_i32_673 : BitVec 32 := 2#32
  let c1_i32_670 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1043 : BitVec 32 := Scalar.subi c1_i32_670 v5
  let v1046 : BitVec 32 := Scalar.muli c2_i32_673 v1043
  let v1047 : BitVec 32 := Scalar.addi v1045 v1046
  let c1_i32_671 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1044 : BitVec 32 := Scalar.subi c1_i32_671 v8
  let v1048 : BitVec 32 := Scalar.addi v1047 v1044
  let c0_i32_680 : BitVec 32 := 0#32
  let c0_i32_681 : BitVec 32 := 0#32
  ![v1048.toNat, 0, 0]
def k0_off10 (d0 : Dev nD) : Fin 3 → Nat :=
  let c4_i32_683 : BitVec 32 := 4#32
  let c1_i32_682 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1059 : BitVec 32 := Scalar.subi c1_i32_682 v2
  let v1060 : BitVec 32 := Scalar.muli c4_i32_683 v1059
  let c2_i32_684 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1061 : BitVec 32 := Scalar.muli c2_i32_684 v5
  let v1062 : BitVec 32 := Scalar.addi v1060 v1061
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1063 : BitVec 32 := Scalar.addi v1062 v8
  let c0_i32_691 : BitVec 32 := 0#32
  let c0_i32_692 : BitVec 32 := 0#32
  ![v1063.toNat, 0, 0]
def k0_off11 (d0 : Dev nD) : Fin 3 → Nat :=
  let c4_i32_695 : BitVec 32 := 4#32
  let c1_i32_693 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1074 : BitVec 32 := Scalar.subi c1_i32_693 v2
  let v1076 : BitVec 32 := Scalar.muli c4_i32_695 v1074
  let c2_i32_696 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1077 : BitVec 32 := Scalar.muli c2_i32_696 v5
  let v1078 : BitVec 32 := Scalar.addi v1076 v1077
  let c1_i32_694 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1075 : BitVec 32 := Scalar.subi c1_i32_694 v8
  let v1079 : BitVec 32 := Scalar.addi v1078 v1075
  let c0_i32_703 : BitVec 32 := 0#32
  let c0_i32_704 : BitVec 32 := 0#32
  ![v1079.toNat, 0, 0]
def k0_off12 (d0 : Dev nD) : Fin 3 → Nat :=
  let c4_i32_707 : BitVec 32 := 4#32
  let c1_i32_705 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1090 : BitVec 32 := Scalar.subi c1_i32_705 v2
  let v1092 : BitVec 32 := Scalar.muli c4_i32_707 v1090
  let c2_i32_708 : BitVec 32 := 2#32
  let c1_i32_706 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1091 : BitVec 32 := Scalar.subi c1_i32_706 v5
  let v1093 : BitVec 32 := Scalar.muli c2_i32_708 v1091
  let v1094 : BitVec 32 := Scalar.addi v1092 v1093
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1095 : BitVec 32 := Scalar.addi v1094 v8
  let c0_i32_715 : BitVec 32 := 0#32
  let c0_i32_716 : BitVec 32 := 0#32
  ![v1095.toNat, 0, 0]
def k0_off13 (d0 : Dev nD) : Fin 3 → Nat :=
  let c4_i32_720 : BitVec 32 := 4#32
  let c1_i32_717 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1106 : BitVec 32 := Scalar.subi c1_i32_717 v2
  let v1109 : BitVec 32 := Scalar.muli c4_i32_720 v1106
  let c2_i32_721 : BitVec 32 := 2#32
  let c1_i32_718 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1107 : BitVec 32 := Scalar.subi c1_i32_718 v5
  let v1110 : BitVec 32 := Scalar.muli c2_i32_721 v1107
  let v1111 : BitVec 32 := Scalar.addi v1109 v1110
  let c1_i32_719 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1108 : BitVec 32 := Scalar.subi c1_i32_719 v8
  let v1112 : BitVec 32 := Scalar.addi v1111 v1108
  let c0_i32_728 : BitVec 32 := 0#32
  let c0_i32_729 : BitVec 32 := 0#32
  ![v1112.toNat, 0, 0]
def k0_off14 (d0 : Dev nD) : Fin 3 → Nat :=
  let c4_i32_813 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1234 : BitVec 32 := Scalar.muli c4_i32_813 v2
  let c2_i32_814 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1235 : BitVec 32 := Scalar.muli c2_i32_814 v5
  let v1236 : BitVec 32 := Scalar.addi v1234 v1235
  let c1_i32_812 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1233 : BitVec 32 := Scalar.subi c1_i32_812 v8
  let v1237 : BitVec 32 := Scalar.addi v1236 v1233
  let c0_i32_821 : BitVec 32 := 0#32
  let c0_i32_822 : BitVec 32 := 0#32
  ![v1237.toNat, 0, 0]
def k0_off15 (d0 : Dev nD) : Fin 3 → Nat :=
  let c4_i32_824 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1249 : BitVec 32 := Scalar.muli c4_i32_824 v2
  let c2_i32_825 : BitVec 32 := 2#32
  let c1_i32_823 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1248 : BitVec 32 := Scalar.subi c1_i32_823 v5
  let v1250 : BitVec 32 := Scalar.muli c2_i32_825 v1248
  let v1251 : BitVec 32 := Scalar.addi v1249 v1250
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1252 : BitVec 32 := Scalar.addi v1251 v8
  let c0_i32_832 : BitVec 32 := 0#32
  let c0_i32_833 : BitVec 32 := 0#32
  ![v1252.toNat, 0, 0]
def k0_off16 (d0 : Dev nD) : Fin 3 → Nat :=
  let c4_i32_836 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1265 : BitVec 32 := Scalar.muli c4_i32_836 v2
  let c2_i32_837 : BitVec 32 := 2#32
  let c1_i32_834 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1263 : BitVec 32 := Scalar.subi c1_i32_834 v5
  let v1266 : BitVec 32 := Scalar.muli c2_i32_837 v1263
  let v1267 : BitVec 32 := Scalar.addi v1265 v1266
  let c1_i32_835 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1264 : BitVec 32 := Scalar.subi c1_i32_835 v8
  let v1268 : BitVec 32 := Scalar.addi v1267 v1264
  let c0_i32_844 : BitVec 32 := 0#32
  let c0_i32_845 : BitVec 32 := 0#32
  ![v1268.toNat, 0, 0]
def k0_off17 (d0 : Dev nD) : Fin 3 → Nat :=
  let c4_i32_847 : BitVec 32 := 4#32
  let c1_i32_846 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1279 : BitVec 32 := Scalar.subi c1_i32_846 v2
  let v1280 : BitVec 32 := Scalar.muli c4_i32_847 v1279
  let c2_i32_848 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1281 : BitVec 32 := Scalar.muli c2_i32_848 v5
  let v1282 : BitVec 32 := Scalar.addi v1280 v1281
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1283 : BitVec 32 := Scalar.addi v1282 v8
  let c0_i32_855 : BitVec 32 := 0#32
  let c0_i32_856 : BitVec 32 := 0#32
  ![v1283.toNat, 0, 0]
def k0_off18 (d0 : Dev nD) : Fin 3 → Nat :=
  let c4_i32_859 : BitVec 32 := 4#32
  let c1_i32_857 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1294 : BitVec 32 := Scalar.subi c1_i32_857 v2
  let v1296 : BitVec 32 := Scalar.muli c4_i32_859 v1294
  let c2_i32_860 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1297 : BitVec 32 := Scalar.muli c2_i32_860 v5
  let v1298 : BitVec 32 := Scalar.addi v1296 v1297
  let c1_i32_858 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1295 : BitVec 32 := Scalar.subi c1_i32_858 v8
  let v1299 : BitVec 32 := Scalar.addi v1298 v1295
  let c0_i32_867 : BitVec 32 := 0#32
  let c0_i32_868 : BitVec 32 := 0#32
  ![v1299.toNat, 0, 0]
def k0_off19 (d0 : Dev nD) : Fin 3 → Nat :=
  let c4_i32_871 : BitVec 32 := 4#32
  let c1_i32_869 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1310 : BitVec 32 := Scalar.subi c1_i32_869 v2
  let v1312 : BitVec 32 := Scalar.muli c4_i32_871 v1310
  let c2_i32_872 : BitVec 32 := 2#32
  let c1_i32_870 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1311 : BitVec 32 := Scalar.subi c1_i32_870 v5
  let v1313 : BitVec 32 := Scalar.muli c2_i32_872 v1311
  let v1314 : BitVec 32 := Scalar.addi v1312 v1313
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1315 : BitVec 32 := Scalar.addi v1314 v8
  let c0_i32_879 : BitVec 32 := 0#32
  let c0_i32_880 : BitVec 32 := 0#32
  ![v1315.toNat, 0, 0]
def k0_off20 (d0 : Dev nD) : Fin 3 → Nat :=
  let c4_i32_884 : BitVec 32 := 4#32
  let c1_i32_881 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1326 : BitVec 32 := Scalar.subi c1_i32_881 v2
  let v1329 : BitVec 32 := Scalar.muli c4_i32_884 v1326
  let c2_i32_885 : BitVec 32 := 2#32
  let c1_i32_882 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1327 : BitVec 32 := Scalar.subi c1_i32_882 v5
  let v1330 : BitVec 32 := Scalar.muli c2_i32_885 v1327
  let v1331 : BitVec 32 := Scalar.addi v1329 v1330
  let c1_i32_883 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1328 : BitVec 32 := Scalar.subi c1_i32_883 v8
  let v1332 : BitVec 32 := Scalar.addi v1331 v1328
  let c0_i32_892 : BitVec 32 := 0#32
  let c0_i32_893 : BitVec 32 := 0#32
  ![v1332.toNat, 0, 0]
def k0_off21 (d0 : Dev nD) : Fin 3 → Nat :=
  let c4_i32_895 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1344 : BitVec 32 := Scalar.muli c4_i32_895 v2
  let c2_i32_896 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1345 : BitVec 32 := Scalar.muli c2_i32_896 v5
  let v1346 : BitVec 32 := Scalar.addi v1344 v1345
  let c1_i32_894 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1343 : BitVec 32 := Scalar.subi c1_i32_894 v8
  let v1347 : BitVec 32 := Scalar.addi v1346 v1343
  let c0_i32_903 : BitVec 32 := 0#32
  let c0_i32_904 : BitVec 32 := 0#32
  ![v1347.toNat, 0, 0]
def k0_off22 (d0 : Dev nD) : Fin 3 → Nat :=
  let c4_i32_906 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1359 : BitVec 32 := Scalar.muli c4_i32_906 v2
  let c2_i32_907 : BitVec 32 := 2#32
  let c1_i32_905 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1358 : BitVec 32 := Scalar.subi c1_i32_905 v5
  let v1360 : BitVec 32 := Scalar.muli c2_i32_907 v1358
  let v1361 : BitVec 32 := Scalar.addi v1359 v1360
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1362 : BitVec 32 := Scalar.addi v1361 v8
  let c0_i32_914 : BitVec 32 := 0#32
  let c0_i32_915 : BitVec 32 := 0#32
  ![v1362.toNat, 0, 0]
def k0_off23 (d0 : Dev nD) : Fin 3 → Nat :=
  let c4_i32_918 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1375 : BitVec 32 := Scalar.muli c4_i32_918 v2
  let c2_i32_919 : BitVec 32 := 2#32
  let c1_i32_916 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1373 : BitVec 32 := Scalar.subi c1_i32_916 v5
  let v1376 : BitVec 32 := Scalar.muli c2_i32_919 v1373
  let v1377 : BitVec 32 := Scalar.addi v1375 v1376
  let c1_i32_917 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1374 : BitVec 32 := Scalar.subi c1_i32_917 v8
  let v1378 : BitVec 32 := Scalar.addi v1377 v1374
  let c0_i32_926 : BitVec 32 := 0#32
  let c0_i32_927 : BitVec 32 := 0#32
  ![v1378.toNat, 0, 0]
def k0_off24 (d0 : Dev nD) : Fin 3 → Nat :=
  let c4_i32_929 : BitVec 32 := 4#32
  let c1_i32_928 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1389 : BitVec 32 := Scalar.subi c1_i32_928 v2
  let v1390 : BitVec 32 := Scalar.muli c4_i32_929 v1389
  let c2_i32_930 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1391 : BitVec 32 := Scalar.muli c2_i32_930 v5
  let v1392 : BitVec 32 := Scalar.addi v1390 v1391
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1393 : BitVec 32 := Scalar.addi v1392 v8
  let c0_i32_937 : BitVec 32 := 0#32
  let c0_i32_938 : BitVec 32 := 0#32
  ![v1393.toNat, 0, 0]
def k0_off25 (d0 : Dev nD) : Fin 3 → Nat :=
  let c4_i32_941 : BitVec 32 := 4#32
  let c1_i32_939 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1404 : BitVec 32 := Scalar.subi c1_i32_939 v2
  let v1406 : BitVec 32 := Scalar.muli c4_i32_941 v1404
  let c2_i32_942 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1407 : BitVec 32 := Scalar.muli c2_i32_942 v5
  let v1408 : BitVec 32 := Scalar.addi v1406 v1407
  let c1_i32_940 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1405 : BitVec 32 := Scalar.subi c1_i32_940 v8
  let v1409 : BitVec 32 := Scalar.addi v1408 v1405
  let c0_i32_949 : BitVec 32 := 0#32
  let c0_i32_950 : BitVec 32 := 0#32
  ![v1409.toNat, 0, 0]
def k0_off26 (d0 : Dev nD) : Fin 3 → Nat :=
  let c4_i32_953 : BitVec 32 := 4#32
  let c1_i32_951 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1420 : BitVec 32 := Scalar.subi c1_i32_951 v2
  let v1422 : BitVec 32 := Scalar.muli c4_i32_953 v1420
  let c2_i32_954 : BitVec 32 := 2#32
  let c1_i32_952 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1421 : BitVec 32 := Scalar.subi c1_i32_952 v5
  let v1423 : BitVec 32 := Scalar.muli c2_i32_954 v1421
  let v1424 : BitVec 32 := Scalar.addi v1422 v1423
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1425 : BitVec 32 := Scalar.addi v1424 v8
  let c0_i32_961 : BitVec 32 := 0#32
  let c0_i32_962 : BitVec 32 := 0#32
  ![v1425.toNat, 0, 0]
def k0_off27 (d0 : Dev nD) : Fin 3 → Nat :=
  let c4_i32_966 : BitVec 32 := 4#32
  let c1_i32_963 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1436 : BitVec 32 := Scalar.subi c1_i32_963 v2
  let v1439 : BitVec 32 := Scalar.muli c4_i32_966 v1436
  let c2_i32_967 : BitVec 32 := 2#32
  let c1_i32_964 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1437 : BitVec 32 := Scalar.subi c1_i32_964 v5
  let v1440 : BitVec 32 := Scalar.muli c2_i32_967 v1437
  let v1441 : BitVec 32 := Scalar.addi v1439 v1440
  let c1_i32_965 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1438 : BitVec 32 := Scalar.subi c1_i32_965 v8
  let v1442 : BitVec 32 := Scalar.addi v1441 v1438
  let c0_i32_974 : BitVec 32 := 0#32
  let c0_i32_975 : BitVec 32 := 0#32
  ![v1442.toNat, 0, 0]
def k0_off28 (d0 : Dev nD) : Fin 3 → Nat :=
  let c4_i32_977 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1454 : BitVec 32 := Scalar.muli c4_i32_977 v2
  let c2_i32_978 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1455 : BitVec 32 := Scalar.muli c2_i32_978 v5
  let v1456 : BitVec 32 := Scalar.addi v1454 v1455
  let c1_i32_976 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1453 : BitVec 32 := Scalar.subi c1_i32_976 v8
  let v1457 : BitVec 32 := Scalar.addi v1456 v1453
  let c0_i32_985 : BitVec 32 := 0#32
  let c0_i32_986 : BitVec 32 := 0#32
  ![v1457.toNat, 0, 0]
def k0_off29 (d0 : Dev nD) : Fin 3 → Nat :=
  let c4_i32_988 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1469 : BitVec 32 := Scalar.muli c4_i32_988 v2
  let c2_i32_989 : BitVec 32 := 2#32
  let c1_i32_987 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1468 : BitVec 32 := Scalar.subi c1_i32_987 v5
  let v1470 : BitVec 32 := Scalar.muli c2_i32_989 v1468
  let v1471 : BitVec 32 := Scalar.addi v1469 v1470
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1472 : BitVec 32 := Scalar.addi v1471 v8
  let c0_i32_996 : BitVec 32 := 0#32
  let c0_i32_997 : BitVec 32 := 0#32
  ![v1472.toNat, 0, 0]
def k0_off30 (d0 : Dev nD) : Fin 3 → Nat :=
  let c4_i32_1000 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1485 : BitVec 32 := Scalar.muli c4_i32_1000 v2
  let c2_i32_1001 : BitVec 32 := 2#32
  let c1_i32_998 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1483 : BitVec 32 := Scalar.subi c1_i32_998 v5
  let v1486 : BitVec 32 := Scalar.muli c2_i32_1001 v1483
  let v1487 : BitVec 32 := Scalar.addi v1485 v1486
  let c1_i32_999 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1484 : BitVec 32 := Scalar.subi c1_i32_999 v8
  let v1488 : BitVec 32 := Scalar.addi v1487 v1484
  let c0_i32_1008 : BitVec 32 := 0#32
  let c0_i32_1009 : BitVec 32 := 0#32
  ![v1488.toNat, 0, 0]
def k0_off31 (d0 : Dev nD) : Fin 3 → Nat :=
  let c4_i32_1011 : BitVec 32 := 4#32
  let c1_i32_1010 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1499 : BitVec 32 := Scalar.subi c1_i32_1010 v2
  let v1500 : BitVec 32 := Scalar.muli c4_i32_1011 v1499
  let c2_i32_1012 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1501 : BitVec 32 := Scalar.muli c2_i32_1012 v5
  let v1502 : BitVec 32 := Scalar.addi v1500 v1501
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1503 : BitVec 32 := Scalar.addi v1502 v8
  let c0_i32_1019 : BitVec 32 := 0#32
  let c0_i32_1020 : BitVec 32 := 0#32
  ![v1503.toNat, 0, 0]
def k0_off32 (d0 : Dev nD) : Fin 3 → Nat :=
  let c4_i32_1023 : BitVec 32 := 4#32
  let c1_i32_1021 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1514 : BitVec 32 := Scalar.subi c1_i32_1021 v2
  let v1516 : BitVec 32 := Scalar.muli c4_i32_1023 v1514
  let c2_i32_1024 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1517 : BitVec 32 := Scalar.muli c2_i32_1024 v5
  let v1518 : BitVec 32 := Scalar.addi v1516 v1517
  let c1_i32_1022 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1515 : BitVec 32 := Scalar.subi c1_i32_1022 v8
  let v1519 : BitVec 32 := Scalar.addi v1518 v1515
  let c0_i32_1031 : BitVec 32 := 0#32
  let c0_i32_1032 : BitVec 32 := 0#32
  ![v1519.toNat, 0, 0]
def k0_off33 (d0 : Dev nD) : Fin 3 → Nat :=
  let c4_i32_1035 : BitVec 32 := 4#32
  let c1_i32_1033 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1530 : BitVec 32 := Scalar.subi c1_i32_1033 v2
  let v1532 : BitVec 32 := Scalar.muli c4_i32_1035 v1530
  let c2_i32_1036 : BitVec 32 := 2#32
  let c1_i32_1034 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1531 : BitVec 32 := Scalar.subi c1_i32_1034 v5
  let v1533 : BitVec 32 := Scalar.muli c2_i32_1036 v1531
  let v1534 : BitVec 32 := Scalar.addi v1532 v1533
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1535 : BitVec 32 := Scalar.addi v1534 v8
  let c0_i32_1043 : BitVec 32 := 0#32
  let c0_i32_1044 : BitVec 32 := 0#32
  ![v1535.toNat, 0, 0]
def k0_off34 (d0 : Dev nD) : Fin 3 → Nat :=
  let c4_i32_1048 : BitVec 32 := 4#32
  let c1_i32_1045 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1546 : BitVec 32 := Scalar.subi c1_i32_1045 v2
  let v1549 : BitVec 32 := Scalar.muli c4_i32_1048 v1546
  let c2_i32_1049 : BitVec 32 := 2#32
  let c1_i32_1046 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1547 : BitVec 32 := Scalar.subi c1_i32_1046 v5
  let v1550 : BitVec 32 := Scalar.muli c2_i32_1049 v1547
  let v1551 : BitVec 32 := Scalar.addi v1549 v1550
  let c1_i32_1047 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1548 : BitVec 32 := Scalar.subi c1_i32_1047 v8
  let v1552 : BitVec 32 := Scalar.addi v1551 v1548
  let c0_i32_1056 : BitVec 32 := 0#32
  let c0_i32_1057 : BitVec 32 := 0#32
  ![v1552.toNat, 0, 0]
def k0_off35 (d0 : Dev nD) : Fin 3 → Nat :=
  let c4_i32_1059 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1564 : BitVec 32 := Scalar.muli c4_i32_1059 v2
  let c2_i32_1060 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1565 : BitVec 32 := Scalar.muli c2_i32_1060 v5
  let v1566 : BitVec 32 := Scalar.addi v1564 v1565
  let c1_i32_1058 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1563 : BitVec 32 := Scalar.subi c1_i32_1058 v8
  let v1567 : BitVec 32 := Scalar.addi v1566 v1563
  let c0_i32_1067 : BitVec 32 := 0#32
  let c0_i32_1068 : BitVec 32 := 0#32
  ![v1567.toNat, 0, 0]
def k0_off36 (d0 : Dev nD) : Fin 3 → Nat :=
  let c4_i32_1070 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1579 : BitVec 32 := Scalar.muli c4_i32_1070 v2
  let c2_i32_1071 : BitVec 32 := 2#32
  let c1_i32_1069 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1578 : BitVec 32 := Scalar.subi c1_i32_1069 v5
  let v1580 : BitVec 32 := Scalar.muli c2_i32_1071 v1578
  let v1581 : BitVec 32 := Scalar.addi v1579 v1580
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1582 : BitVec 32 := Scalar.addi v1581 v8
  let c0_i32_1078 : BitVec 32 := 0#32
  let c0_i32_1079 : BitVec 32 := 0#32
  ![v1582.toNat, 0, 0]
def k0_off37 (d0 : Dev nD) : Fin 3 → Nat :=
  let c4_i32_1082 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1595 : BitVec 32 := Scalar.muli c4_i32_1082 v2
  let c2_i32_1083 : BitVec 32 := 2#32
  let c1_i32_1080 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1593 : BitVec 32 := Scalar.subi c1_i32_1080 v5
  let v1596 : BitVec 32 := Scalar.muli c2_i32_1083 v1593
  let v1597 : BitVec 32 := Scalar.addi v1595 v1596
  let c1_i32_1081 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1594 : BitVec 32 := Scalar.subi c1_i32_1081 v8
  let v1598 : BitVec 32 := Scalar.addi v1597 v1594
  let c0_i32_1090 : BitVec 32 := 0#32
  let c0_i32_1091 : BitVec 32 := 0#32
  ![v1598.toNat, 0, 0]
def k0_off38 (d0 : Dev nD) : Fin 3 → Nat :=
  let c4_i32_1093 : BitVec 32 := 4#32
  let c1_i32_1092 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1609 : BitVec 32 := Scalar.subi c1_i32_1092 v2
  let v1610 : BitVec 32 := Scalar.muli c4_i32_1093 v1609
  let c2_i32_1094 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1611 : BitVec 32 := Scalar.muli c2_i32_1094 v5
  let v1612 : BitVec 32 := Scalar.addi v1610 v1611
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1613 : BitVec 32 := Scalar.addi v1612 v8
  let c0_i32_1101 : BitVec 32 := 0#32
  let c0_i32_1102 : BitVec 32 := 0#32
  ![v1613.toNat, 0, 0]
def k0_off39 (d0 : Dev nD) : Fin 3 → Nat :=
  let c4_i32_1105 : BitVec 32 := 4#32
  let c1_i32_1103 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1624 : BitVec 32 := Scalar.subi c1_i32_1103 v2
  let v1626 : BitVec 32 := Scalar.muli c4_i32_1105 v1624
  let c2_i32_1106 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1627 : BitVec 32 := Scalar.muli c2_i32_1106 v5
  let v1628 : BitVec 32 := Scalar.addi v1626 v1627
  let c1_i32_1104 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1625 : BitVec 32 := Scalar.subi c1_i32_1104 v8
  let v1629 : BitVec 32 := Scalar.addi v1628 v1625
  let c0_i32_1113 : BitVec 32 := 0#32
  let c0_i32_1114 : BitVec 32 := 0#32
  ![v1629.toNat, 0, 0]
def k0_off40 (d0 : Dev nD) : Fin 3 → Nat :=
  let c4_i32_1117 : BitVec 32 := 4#32
  let c1_i32_1115 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1640 : BitVec 32 := Scalar.subi c1_i32_1115 v2
  let v1642 : BitVec 32 := Scalar.muli c4_i32_1117 v1640
  let c2_i32_1118 : BitVec 32 := 2#32
  let c1_i32_1116 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1641 : BitVec 32 := Scalar.subi c1_i32_1116 v5
  let v1643 : BitVec 32 := Scalar.muli c2_i32_1118 v1641
  let v1644 : BitVec 32 := Scalar.addi v1642 v1643
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1645 : BitVec 32 := Scalar.addi v1644 v8
  let c0_i32_1125 : BitVec 32 := 0#32
  let c0_i32_1126 : BitVec 32 := 0#32
  ![v1645.toNat, 0, 0]
def k0_off41 (d0 : Dev nD) : Fin 3 → Nat :=
  let c4_i32_1130 : BitVec 32 := 4#32
  let c1_i32_1127 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1656 : BitVec 32 := Scalar.subi c1_i32_1127 v2
  let v1659 : BitVec 32 := Scalar.muli c4_i32_1130 v1656
  let c2_i32_1131 : BitVec 32 := 2#32
  let c1_i32_1128 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1657 : BitVec 32 := Scalar.subi c1_i32_1128 v5
  let v1660 : BitVec 32 := Scalar.muli c2_i32_1131 v1657
  let v1661 : BitVec 32 := Scalar.addi v1659 v1660
  let c1_i32_1129 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1658 : BitVec 32 := Scalar.subi c1_i32_1129 v8
  let v1662 : BitVec 32 := Scalar.addi v1661 v1658
  let c0_i32_1138 : BitVec 32 := 0#32
  let c0_i32_1139 : BitVec 32 := 0#32
  ![v1662.toNat, 0, 0]
def k0_off42 (d0 : Dev nD) : Fin 3 → Nat :=
  let c4_i32_1387 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2004 : BitVec 32 := Scalar.muli c4_i32_1387 v2
  let c2_i32_1388 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2005 : BitVec 32 := Scalar.muli c2_i32_1388 v5
  let v2006 : BitVec 32 := Scalar.addi v2004 v2005
  let c1_i32_1386 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2003 : BitVec 32 := Scalar.subi c1_i32_1386 v8
  let v2007 : BitVec 32 := Scalar.addi v2006 v2003
  let c0_i32_1395 : BitVec 32 := 0#32
  let c0_i32_1396 : BitVec 32 := 0#32
  ![v2007.toNat, 0, 0]
def k0_off43 (d0 : Dev nD) : Fin 3 → Nat :=
  let c4_i32_1398 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2019 : BitVec 32 := Scalar.muli c4_i32_1398 v2
  let c2_i32_1399 : BitVec 32 := 2#32
  let c1_i32_1397 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2018 : BitVec 32 := Scalar.subi c1_i32_1397 v5
  let v2020 : BitVec 32 := Scalar.muli c2_i32_1399 v2018
  let v2021 : BitVec 32 := Scalar.addi v2019 v2020
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2022 : BitVec 32 := Scalar.addi v2021 v8
  let c0_i32_1406 : BitVec 32 := 0#32
  let c0_i32_1407 : BitVec 32 := 0#32
  ![v2022.toNat, 0, 0]
def k0_off44 (d0 : Dev nD) : Fin 3 → Nat :=
  let c4_i32_1410 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2035 : BitVec 32 := Scalar.muli c4_i32_1410 v2
  let c2_i32_1411 : BitVec 32 := 2#32
  let c1_i32_1408 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2033 : BitVec 32 := Scalar.subi c1_i32_1408 v5
  let v2036 : BitVec 32 := Scalar.muli c2_i32_1411 v2033
  let v2037 : BitVec 32 := Scalar.addi v2035 v2036
  let c1_i32_1409 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2034 : BitVec 32 := Scalar.subi c1_i32_1409 v8
  let v2038 : BitVec 32 := Scalar.addi v2037 v2034
  let c0_i32_1418 : BitVec 32 := 0#32
  let c0_i32_1419 : BitVec 32 := 0#32
  ![v2038.toNat, 0, 0]
def k0_off45 (d0 : Dev nD) : Fin 3 → Nat :=
  let c4_i32_1421 : BitVec 32 := 4#32
  let c1_i32_1420 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2049 : BitVec 32 := Scalar.subi c1_i32_1420 v2
  let v2050 : BitVec 32 := Scalar.muli c4_i32_1421 v2049
  let c2_i32_1422 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2051 : BitVec 32 := Scalar.muli c2_i32_1422 v5
  let v2052 : BitVec 32 := Scalar.addi v2050 v2051
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2053 : BitVec 32 := Scalar.addi v2052 v8
  let c0_i32_1429 : BitVec 32 := 0#32
  let c0_i32_1430 : BitVec 32 := 0#32
  ![v2053.toNat, 0, 0]
def k0_off46 (d0 : Dev nD) : Fin 3 → Nat :=
  let c4_i32_1433 : BitVec 32 := 4#32
  let c1_i32_1431 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2064 : BitVec 32 := Scalar.subi c1_i32_1431 v2
  let v2066 : BitVec 32 := Scalar.muli c4_i32_1433 v2064
  let c2_i32_1434 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2067 : BitVec 32 := Scalar.muli c2_i32_1434 v5
  let v2068 : BitVec 32 := Scalar.addi v2066 v2067
  let c1_i32_1432 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2065 : BitVec 32 := Scalar.subi c1_i32_1432 v8
  let v2069 : BitVec 32 := Scalar.addi v2068 v2065
  let c0_i32_1441 : BitVec 32 := 0#32
  let c0_i32_1442 : BitVec 32 := 0#32
  ![v2069.toNat, 0, 0]
def k0_off47 (d0 : Dev nD) : Fin 3 → Nat :=
  let c4_i32_1445 : BitVec 32 := 4#32
  let c1_i32_1443 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2080 : BitVec 32 := Scalar.subi c1_i32_1443 v2
  let v2082 : BitVec 32 := Scalar.muli c4_i32_1445 v2080
  let c2_i32_1446 : BitVec 32 := 2#32
  let c1_i32_1444 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2081 : BitVec 32 := Scalar.subi c1_i32_1444 v5
  let v2083 : BitVec 32 := Scalar.muli c2_i32_1446 v2081
  let v2084 : BitVec 32 := Scalar.addi v2082 v2083
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2085 : BitVec 32 := Scalar.addi v2084 v8
  let c0_i32_1453 : BitVec 32 := 0#32
  let c0_i32_1454 : BitVec 32 := 0#32
  ![v2085.toNat, 0, 0]
def k0_off48 (d0 : Dev nD) : Fin 3 → Nat :=
  let c4_i32_1458 : BitVec 32 := 4#32
  let c1_i32_1455 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2096 : BitVec 32 := Scalar.subi c1_i32_1455 v2
  let v2099 : BitVec 32 := Scalar.muli c4_i32_1458 v2096
  let c2_i32_1459 : BitVec 32 := 2#32
  let c1_i32_1456 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2097 : BitVec 32 := Scalar.subi c1_i32_1456 v5
  let v2100 : BitVec 32 := Scalar.muli c2_i32_1459 v2097
  let v2101 : BitVec 32 := Scalar.addi v2099 v2100
  let c1_i32_1457 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2098 : BitVec 32 := Scalar.subi c1_i32_1457 v8
  let v2102 : BitVec 32 := Scalar.addi v2101 v2098
  let c0_i32_1466 : BitVec 32 := 0#32
  let c0_i32_1467 : BitVec 32 := 0#32
  ![v2102.toNat, 0, 0]
-- ==== WeightsReference.lean ====
abbrev S1024x2816 : Shape := ⟨2, ![1024, 2816]⟩
abbrev S2816x1024 : Shape := ⟨2, ![2816, 1024]⟩
abbrev S1024x1536 : Shape := ⟨2, ![1024, 1536]⟩
abbrev S1024x512 : Shape := ⟨2, ![1024, 512]⟩
abbrev S1024x1024 : Shape := ⟨2, ![1024, 1024]⟩
abbrev S31x256 : Shape := ⟨2, ![31, 256]⟩
abbrev S1024x8x352 : Shape := ⟨3, ![1024, 8, 352]⟩
abbrev S8x1024x352 : Shape := ⟨3, ![8, 1024, 352]⟩
abbrev S8x352x1024 : Shape := ⟨3, ![8, 352, 1024]⟩
abbrev S1024x8x192 : Shape := ⟨3, ![1024, 8, 192]⟩
abbrev S8x1024x192 : Shape := ⟨3, ![8, 1024, 192]⟩
abbrev S8x128x512 : Shape := ⟨3, ![8, 128, 512]⟩
abbrev S8x128x1024 : Shape := ⟨3, ![8, 128, 1024]⟩
abbrev S31x8x32 : Shape := ⟨3, ![31, 8, 32]⟩
abbrev S8x31x32 : Shape := ⟨3, ![8, 31, 32]⟩

abbrev nBuf : Space → Nat
  | .hbm => 26
  | .vmem => 0
  | .smem => 0
  | _ => 0

abbrev bufTy : (tb : Table) → Fin (tcTables nBuf tb) → BufTy
  | .hbm, ⟨0, _⟩ => ⟨S1024x2816, .bf16⟩
  | .hbm, ⟨1, _⟩ => ⟨S1024x2816, .bf16⟩
  | .hbm, ⟨2, _⟩ => ⟨S2816x1024, .bf16⟩
  | .hbm, ⟨3, _⟩ => ⟨S1024x1536, .bf16⟩
  | .hbm, ⟨4, _⟩ => ⟨S1024x512, .bf16⟩
  | .hbm, ⟨5, _⟩ => ⟨S1024x1024, .bf16⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S31x256, .f32⟩
  | .hbm, ⟨10, _⟩ => ⟨S1024x8x352, .bf16⟩
  | .hbm, ⟨11, _⟩ => ⟨S8x1024x352, .bf16⟩
  | .hbm, ⟨12, _⟩ => ⟨S1024x8x352, .bf16⟩
  | .hbm, ⟨13, _⟩ => ⟨S8x1024x352, .bf16⟩
  | .hbm, ⟨14, _⟩ => ⟨S8x352x1024, .bf16⟩
  | .hbm, ⟨15, _⟩ => ⟨S1024x8x192, .bf16⟩
  | .hbm, ⟨16, _⟩ => ⟨S8x1024x192, .bf16⟩
  | .hbm, ⟨17, _⟩ => ⟨S8x128x512, .bf16⟩
  | .hbm, ⟨18, _⟩ => ⟨S8x128x1024, .bf16⟩
  | .hbm, ⟨19, _⟩ => ⟨S1024x8x352, .bf16⟩
  | .hbm, ⟨20, _⟩ => ⟨S8x1024x352, .bf16⟩
  | .hbm, ⟨21, _⟩ => ⟨S1024x8x352, .bf16⟩
  | .hbm, ⟨22, _⟩ => ⟨S8x1024x352, .bf16⟩
  | .hbm, ⟨23, _⟩ => ⟨S8x352x1024, .bf16⟩
  | .hbm, ⟨24, _⟩ => ⟨S31x8x32, .f32⟩
  | .hbm, ⟨25, _⟩ => ⟨S8x31x32, .f32⟩
  | _, _ => ⟨S1024x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== UpdateIn.lean ====
abbrev S8x192x1024 : Shape := ⟨3, ![8, 192, 1024]⟩
abbrev S192x1024 : Shape := ⟨2, ![192, 1024]⟩
abbrev S1x192x1024 : Shape := ⟨3, ![1, 192, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x192x1024, .bf16⟩
  | .hbm, ⟨1, _⟩ => ⟨S192x1024, .f32⟩
  | .hbm, ⟨2, _⟩ => ⟨S192x1024, .f32⟩
  | .hbm, ⟨3, _⟩ => ⟨S192x1024, .f32⟩
  | .hbm, ⟨4, _⟩ => ⟨S192x1024, .f32⟩
  | .hbm, ⟨5, _⟩ => ⟨S192x1024, .f32⟩
  | .hbm, ⟨6, _⟩ => ⟨S192x1024, .f32⟩
  | .hbm, ⟨7, _⟩ => ⟨S192x1024, .f32⟩
  | .local _ .vmem, ⟨0, _⟩ => ⟨S8x192x1024, .bf16⟩
  | .local _ .vmem, ⟨1, _⟩ => ⟨S192x1024, .f32⟩
  | .local _ .vmem, ⟨2, _⟩ => ⟨S192x1024, .f32⟩
  | .local _ .vmem, ⟨3, _⟩ => ⟨S192x1024, .f32⟩
  | .local _ .vmem, ⟨4, _⟩ => ⟨S192x1024, .f32⟩
  | .local _ .vmem, ⟨5, _⟩ => ⟨S192x1024, .f32⟩
  | .local _ .vmem, ⟨6, _⟩ => ⟨S192x1024, .f32⟩
  | .local _ .vmem, ⟨7, _⟩ => ⟨S192x1024, .f32⟩
  | _, _ => ⟨S8x192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S192x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S192x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S192x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S192x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S192x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S192x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S192x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdateInReferenceIdeal.lean ====
abbrev S8x192x1024 : Shape := ⟨3, ![8, 192, 1024]⟩
abbrev S192x1024 : Shape := ⟨2, ![192, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x192x1024, .bf16⟩
  | .hbm, ⟨1, _⟩ => ⟨S192x1024, .f32⟩
  | .hbm, ⟨2, _⟩ => ⟨S192x1024, .f32⟩
  | .hbm, ⟨3, _⟩ => ⟨S192x1024, .f32⟩
  | .hbm, ⟨4, _⟩ => ⟨S8x192x1024, .f32⟩
  | .hbm, ⟨5, _⟩ => ⟨S_, .f32⟩
  | .hbm, ⟨6, _⟩ => ⟨S192x1024, .f32⟩
  | .hbm, ⟨7, _⟩ => ⟨S_, .f32⟩
  | .hbm, ⟨8, _⟩ => ⟨S192x1024, .f32⟩
  | .hbm, ⟨9, _⟩ => ⟨S192x1024, .f32⟩
  | .hbm, ⟨10, _⟩ => ⟨S_, .f32⟩
  | .hbm, ⟨11, _⟩ => ⟨S192x1024, .f32⟩
  | .hbm, ⟨12, _⟩ => ⟨S192x1024, .f32⟩
  | .hbm, ⟨13, _⟩ => ⟨S192x1024, .f32⟩
  | .hbm, ⟨14, _⟩ => ⟨S_, .f32⟩
  | .hbm, ⟨15, _⟩ => ⟨S192x1024, .f32⟩
  | .hbm, ⟨16, _⟩ => ⟨S192x1024, .f32⟩
  | .hbm, ⟨17, _⟩ => ⟨S192x1024, .f32⟩
  | .hbm, ⟨18, _⟩ => ⟨S_, .f32⟩
  | .hbm, ⟨19, _⟩ => ⟨S192x1024, .f32⟩
  | .hbm, ⟨20, _⟩ => ⟨S192x1024, .f32⟩
  | .hbm, ⟨21, _⟩ => ⟨S192x1024, .f32⟩
  | .hbm, ⟨22, _⟩ => ⟨S_, .f32⟩
  | .hbm, ⟨23, _⟩ => ⟨S192x1024, .f32⟩
  | .hbm, ⟨24, _⟩ => ⟨S192x1024, .f32⟩
  | .hbm, ⟨25, _⟩ => ⟨S_, .f32⟩
  | .hbm, ⟨26, _⟩ => ⟨S192x1024, .f32⟩
  | .hbm, ⟨27, _⟩ => ⟨S192x1024, .f32⟩
  | .hbm, ⟨28, _⟩ => ⟨S192x1024, .f32⟩
  | .hbm, ⟨29, _⟩ => ⟨S_, .f32⟩
  | .hbm, ⟨30, _⟩ => ⟨S192x1024, .f32⟩
  | .hbm, ⟨31, _⟩ => ⟨S192x1024, .f32⟩
  | .hbm, ⟨32, _⟩ => ⟨S192x1024, .f32⟩
  | .hbm, ⟨33, _⟩ => ⟨S_, .f32⟩
  | .hbm, ⟨34, _⟩ => ⟨S192x1024, .f32⟩
  | .hbm, ⟨35, _⟩ => ⟨S192x1024, .f32⟩
  | .hbm, ⟨36, _⟩ => ⟨S192x1024, .f32⟩
  | .hbm, ⟨37, _⟩ => ⟨S_, .f32⟩
  | .hbm, ⟨38, _⟩ => ⟨S192x1024, .f32⟩
  | .hbm, ⟨39, _⟩ => ⟨S192x1024, .f32⟩
  | _, _ => ⟨S8x192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpdateKv.lean ====
abbrev S8x128x512 : Shape := ⟨3, ![8, 128, 512]⟩
abbrev S128x512 : Shape := ⟨2, ![128, 512]⟩
abbrev S1x128x512 : Shape := ⟨3, ![1, 128, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x128x512, .bf16⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S128x512, .f32⟩
  | .hbm, ⟨7, _⟩ => ⟨S128x512, .f32⟩
  | .local _ .vmem, ⟨0, _⟩ => ⟨S8x128x512, .bf16⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | _, _ => ⟨S8x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdateKvReferenceIdeal.lean ====
abbrev S8x128x512 : Shape := ⟨3, ![8, 128, 512]⟩
abbrev S128x512 : Shape := ⟨2, ![128, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x512, .bf16⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S8x128x512, .f32⟩
  | .hbm, ⟨5, _⟩ => ⟨S_, .f32⟩
  | .hbm, ⟨6, _⟩ => ⟨S128x512, .f32⟩
  | .hbm, ⟨7, _⟩ => ⟨S_, .f32⟩
  | .hbm, ⟨8, _⟩ => ⟨S128x512, .f32⟩
  | .hbm, ⟨9, _⟩ => ⟨S128x512, .f32⟩
  | .hbm, ⟨10, _⟩ => ⟨S_, .f32⟩
  | .hbm, ⟨11, _⟩ => ⟨S128x512, .f32⟩
  | .hbm, ⟨12, _⟩ => ⟨S128x512, .f32⟩
  | .hbm, ⟨13, _⟩ => ⟨S128x512, .f32⟩
  | .hbm, ⟨14, _⟩ => ⟨S_, .f32⟩
  | .hbm, ⟨15, _⟩ => ⟨S128x512, .f32⟩
  | .hbm, ⟨16, _⟩ => ⟨S128x512, .f32⟩
  | .hbm, ⟨17, _⟩ => ⟨S128x512, .f32⟩
  | .hbm, ⟨18, _⟩ => ⟨S_, .f32⟩
  | .hbm, ⟨19, _⟩ => ⟨S128x512, .f32⟩
  | .hbm, ⟨20, _⟩ => ⟨S128x512, .f32⟩
  | .hbm, ⟨21, _⟩ => ⟨S128x512, .f32⟩
  | .hbm, ⟨22, _⟩ => ⟨S_, .f32⟩
  | .hbm, ⟨23, _⟩ => ⟨S128x512, .f32⟩
  | .hbm, ⟨24, _⟩ => ⟨S128x512, .f32⟩
  | .hbm, ⟨25, _⟩ => ⟨S_, .f32⟩
  | .hbm, ⟨26, _⟩ => ⟨S128x512, .f32⟩
  | .hbm, ⟨27, _⟩ => ⟨S128x512, .f32⟩
  | .hbm, ⟨28, _⟩ => ⟨S128x512, .f32⟩
  | .hbm, ⟨29, _⟩ => ⟨S_, .f32⟩
  | .hbm, ⟨30, _⟩ => ⟨S128x512, .f32⟩
  | .hbm, ⟨31, _⟩ => ⟨S128x512, .f32⟩
  | .hbm, ⟨32, _⟩ => ⟨S128x512, .f32⟩
  | .hbm, ⟨33, _⟩ => ⟨S_, .f32⟩
  | .hbm, ⟨34, _⟩ => ⟨S128x512, .f32⟩
  | .hbm, ⟨35, _⟩ => ⟨S128x512, .f32⟩
  | .hbm, ⟨36, _⟩ => ⟨S128x512, .f32⟩
  | .hbm, ⟨37, _⟩ => ⟨S_, .f32⟩
  | .hbm, ⟨38, _⟩ => ⟨S128x512, .f32⟩
  | .hbm, ⟨39, _⟩ => ⟨S128x512, .f32⟩
  | _, _ => ⟨S8x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpdateOut.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdateOutReferenceIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== SmallSum.lean ====
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x16x1024, .f32⟩
  | .hbm, ⟨1, _⟩ => ⟨S16x1024, .f32⟩
  | .local _ .vmem, ⟨0, _⟩ => ⟨S8x16x1024, .f32⟩
  | .local _ .vmem, ⟨1, _⟩ => ⟨S16x1024, .f32⟩
  | _, _ => ⟨S8x16x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SmallSumReferenceIdeal.lean ====
abbrev S8x16x1024 : Shape := ⟨3, ![8, 16, 1024]⟩
abbrev S_ : Shape := ⟨0, ![]⟩
abbrev S16x1024 : Shape := ⟨2, ![16, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S_, .f32⟩
  | .hbm, ⟨2, _⟩ => ⟨S16x1024, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== StepSmall.lean ====
abbrev S8x1024 : Shape := ⟨2, ![8, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== StepSmallReferenceIdeal.lean ====
abbrev S8x1024 : Shape := ⟨2, ![8, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S_, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S_, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S8x1024, .f32⟩
  | .hbm, ⟨26, _⟩ => ⟨S_, .f32⟩
  | .hbm, ⟨27, _⟩ => ⟨S8x1024, .f32⟩
  | .hbm, ⟨28, _⟩ => ⟨S8x1024, .f32⟩
  | .hbm, ⟨29, _⟩ => ⟨S8x1024, .f32⟩
  | .hbm, ⟨30, _⟩ => ⟨S_, .f32⟩
  | .hbm, ⟨31, _⟩ => ⟨S8x1024, .f32⟩
  | .hbm, ⟨32, _⟩ => ⟨S8x1024, .f32⟩
  | .hbm, ⟨33, _⟩ => ⟨S8x1024, .f32⟩
  | .hbm, ⟨34, _⟩ => ⟨S_, .f32⟩
  | .hbm, ⟨35, _⟩ => ⟨S8x1024, .f32⟩
  | .hbm, ⟨36, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepDw.lean ====
abbrev S31x32 : Shape := ⟨2, ![31, 32]⟩

abbrev nBuf : Space → Nat
  | .hbm => 7
  | .vmem => 7
  | .smem => 0
  | _ => 0

abbrev bufTy : (tb : Table) → Fin (tcTables nBuf tb) → BufTy
  | .hbm, ⟨0, _⟩ => ⟨S31x32, .f32⟩
  | .hbm, ⟨1, _⟩ => ⟨S31x32, .f32⟩
  | .hbm, ⟨2, _⟩ => ⟨S31x32, .f32⟩
  | .hbm, ⟨3, _⟩ => ⟨S31x32, .f32⟩
  | .hbm, ⟨4, _⟩ => ⟨S31x32, .f32⟩
  | .hbm, ⟨5, _⟩ => ⟨S31x32, .f32⟩
  | .hbm, ⟨6, _⟩ => ⟨S31x32, .f32⟩
  | .local _ .vmem, ⟨0, _⟩ => ⟨S31x32, .f32⟩
  | .local _ .vmem, ⟨1, _⟩ => ⟨S31x32, .f32⟩
  | .local _ .vmem, ⟨2, _⟩ => ⟨S31x32, .f32⟩
  | .local _ .vmem, ⟨3, _⟩ => ⟨S31x32, .f32⟩
  | .local _ .vmem, ⟨4, _⟩ => ⟨S31x32, .f32⟩
  | .local _ .vmem, ⟨5, _⟩ => ⟨S31x32, .f32⟩
  | .local _ .vmem, ⟨6, _⟩ => ⟨S31x32, .f32⟩
  | _, _ => ⟨S31x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S31x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S31x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S31x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S31x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S31x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S31x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S31x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== StepDwReferenceIdeal.lean ====
abbrev S31x32 : Shape := ⟨2, ![31, 32]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S31x32, .f32⟩
  | .hbm, ⟨1, _⟩ => ⟨S31x32, .f32⟩
  | .hbm, ⟨2, _⟩ => ⟨S31x32, .f32⟩
  | .hbm, ⟨3, _⟩ => ⟨S31x32, .f32⟩
  | .hbm, ⟨4, _⟩ => ⟨S_, .f32⟩
  | .hbm, ⟨5, _⟩ => ⟨S31x32, .f32⟩
  | .hbm, ⟨6, _⟩ => ⟨S31x32, .f32⟩
  | .hbm, ⟨7, _⟩ => ⟨S_, .f32⟩
  | .hbm, ⟨8, _⟩ => ⟨S31x32, .f32⟩
  | .hbm, ⟨9, _⟩ => ⟨S31x32, .f32⟩
  | .hbm, ⟨10, _⟩ => ⟨S31x32, .f32⟩
  | .hbm, ⟨11, _⟩ => ⟨S_, .f32⟩
  | .hbm, ⟨12, _⟩ => ⟨S31x32, .f32⟩
  | .hbm, ⟨13, _⟩ => ⟨S31x32, .f32⟩
  | .hbm, ⟨14, _⟩ => ⟨S31x32, .f32⟩
  | .hbm, ⟨15, _⟩ => ⟨S_, .f32⟩
  | .hbm, ⟨16, _⟩ => ⟨S31x32, .f32⟩
  | .hbm, ⟨17, _⟩ => ⟨S31x32, .f32⟩
  | .hbm, ⟨18, _⟩ => ⟨S31x32, .f32⟩
  | .hbm, ⟨19, _⟩ => ⟨S_, .f32⟩
  | .hbm, ⟨20, _⟩ => ⟨S31x32, .f32⟩
  | .hbm, ⟨21, _⟩ => ⟨S31x32, .f32⟩
  | .hbm, ⟨22, _⟩ => ⟨S_, .f32⟩
  | .hbm, ⟨23, _⟩ => ⟨S31x32, .f32⟩
  | .hbm, ⟨24, _⟩ => ⟨S31x32, .f32⟩
  | .hbm, ⟨25, _⟩ => ⟨S31x32, .f32⟩
  | .hbm, ⟨26, _⟩ => ⟨S_, .f32⟩
  | .hbm, ⟨27, _⟩ => ⟨S31x32, .f32⟩
  | .hbm, ⟨28, _⟩ => ⟨S31x32, .f32⟩
  | .hbm, ⟨29, _⟩ => ⟨S31x32, .f32⟩
  | .hbm, ⟨30, _⟩ => ⟨S_, .f32⟩
  | .hbm, ⟨31, _⟩ => ⟨S31x32, .f32⟩
  | .hbm, ⟨32, _⟩ => ⟨S31x32, .f32⟩
  | .hbm, ⟨33, _⟩ => ⟨S31x32, .f32⟩
  | .hbm, ⟨34, _⟩ => ⟨S_, .f32⟩
  | .hbm, ⟨35, _⟩ => ⟨S31x32, .f32⟩
  | .hbm, ⟨36, _⟩ => ⟨S31x32, .f32⟩
  | _, _ => ⟨S31x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== FfnW.lean ====
abbrev S2048x1024 : Shape := ⟨2, ![2048, 1024]⟩
abbrev S2048x2816 : Shape := ⟨2, ![2048, 2816]⟩
abbrev S2816x1024 : Shape := ⟨2, ![2816, 1024]⟩
abbrev S2048x256 : Shape := ⟨2, ![2048, 256]⟩
abbrev S256x1024 : Shape := ⟨2, ![256, 1024]⟩

abbrev nBuf : Space → Nat
  | .hbm => 8
  | .vmem => 17
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x2816, .bf16⟩
  | .hbm, ⟨3, _⟩ => ⟨S2048x2816, .bf16⟩
  | .hbm, ⟨4, _⟩ => ⟨S2048x2816, .bf16⟩
  | .hbm, ⟨5, _⟩ => ⟨S2816x1024, .bf16⟩
  | .hbm, ⟨6, _⟩ => ⟨S2816x1024, .bf16⟩
  | .hbm, ⟨7, _⟩ => ⟨S2816x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![11, 1], ![false, false]⟩

def k0_cond2 (i : grid0.Coords) : BitVec 1 :=
  let arg1 : BitVec 32 := BitVec.ofNat 32 (i 1).val
  let c0_i32_24 : BitVec 32 := 0#32
  let v26 : BitVec 1 := Scalar.cmpi .eq arg1 c0_i32_24
  let v27 : BitVec 32 := Scalar.extui v26
  let c0_i32_25 : BitVec 32 := 0#32
  let v28 : BitVec 1 := Scalar.cmpi .ne v27 c0_i32_25
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnWReferenceIdeal.lean ====
abbrev S2048x1024 : Shape := ⟨2, ![2048, 1024]⟩
abbrev S2048x2816 : Shape := ⟨2, ![2048, 2816]⟩
abbrev S2816x2048 : Shape := ⟨2, ![2816, 2048]⟩
abbrev S2816x1024 : Shape := ⟨2, ![2816, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x2816, .bf16⟩
  | .hbm, ⟨3, _⟩ => ⟨S2048x2816, .bf16⟩
  | .hbm, ⟨4, _⟩ => ⟨S2048x2816, .bf16⟩
  | .hbm, ⟨5, _⟩ => ⟨S2048x1024, .f32⟩
  | .hbm, ⟨6, _⟩ => ⟨S2048x1024, .f32⟩
  | .hbm, ⟨7, _⟩ => ⟨S2048x2816, .f32⟩
  | .hbm, ⟨8, _⟩ => ⟨S2048x2816, .f32⟩
  | .hbm, ⟨9, _⟩ => ⟨S2048x2816, .f32⟩
  | .hbm, ⟨10, _⟩ => ⟨S2816x2048, .f32⟩
  | .hbm, ⟨11, _⟩ => ⟨S2816x1024, .f32⟩
  | .hbm, ⟨12, _⟩ => ⟨S2816x1024, .bf16⟩
  | .hbm, ⟨13, _⟩ => ⟨S2816x2048, .f32⟩
  | .hbm, ⟨14, _⟩ => ⟨S2816x1024, .f32⟩
  | .hbm, ⟨15, _⟩ => ⟨S2816x1024, .bf16⟩
  | .hbm, ⟨16, _⟩ => ⟨S2816x2048, .f32⟩
  | .hbm, ⟨17, _⟩ => ⟨S2816x1024, .f32⟩
  | .hbm, ⟨18, _⟩ => ⟨S2816x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== InProj.lean ====
abbrev S2048x1024 : Shape := ⟨2, ![2048, 1024]⟩
abbrev S1x1024 : Shape := ⟨2, ![1, 1024]⟩
abbrev S1536x1024 : Shape := ⟨2, ![1536, 1024]⟩
abbrev S2048x1536 : Shape := ⟨2, ![2048, 1536]⟩
abbrev S512x1024 : Shape := ⟨2, ![512, 1024]⟩
abbrev S512x1536 : Shape := ⟨2, ![512, 1536]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1536x1024, .bf16⟩
  | .hbm, ⟨3, _⟩ => ⟨S2048x1024, .bf16⟩
  | .hbm, ⟨4, _⟩ => ⟨S2048x1536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1536x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1536, .f32⟩
  | .local _ .vmem, ⟨7, _⟩ => ⟨S512x1536, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InProjReferenceIdeal.lean ====
abbrev S2048x1024 : Shape := ⟨2, ![2048, 1024]⟩
abbrev S1x1024 : Shape := ⟨2, ![1, 1024]⟩
abbrev S1536x1024 : Shape := ⟨2, ![1536, 1024]⟩
abbrev S_ : Shape := ⟨0, ![]⟩
abbrev S2048 : Shape := ⟨1, ![2048]⟩
abbrev S2048x1 : Shape := ⟨2, ![2048, 1]⟩
abbrev S1024x1536 : Shape := ⟨2, ![1024, 1536]⟩
abbrev S2048x1536 : Shape := ⟨2, ![2048, 1536]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1536x1024, .bf16⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | .hbm, ⟨19, _⟩ => ⟨S1536x1024, .f32⟩
  | .hbm, ⟨20, _⟩ => ⟨S1024x1536, .f32⟩
  | .hbm, ⟨21, _⟩ => ⟨S2048x1536, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== OutProj.lean ====
abbrev S2048x1024 : Shape := ⟨2, ![2048, 1024]⟩
abbrev S2048x512 : Shape := ⟨2, ![2048, 512]⟩
abbrev S2048x256 : Shape := ⟨2, ![2048, 256]⟩
abbrev S1024x1024 : Shape := ⟨2, ![1024, 1024]⟩
abbrev S512x1024 : Shape := ⟨2, ![512, 1024]⟩
abbrev S512x512 : Shape := ⟨2, ![512, 512]⟩
abbrev S512x256 : Shape := ⟨2, ![512, 256]⟩
abbrev S256x1024 : Shape := ⟨2, ![256, 1024]⟩

abbrev nBuf : Space → Nat
  | .hbm => 6
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2048x512, .bf16⟩
  | .hbm, ⟨2, _⟩ => ⟨S2048x256, .bf16⟩
  | .hbm, ⟨3, _⟩ => ⟨S2048x256, .bf16⟩
  | .hbm, ⟨4, _⟩ => ⟨S1024x1024, .bf16⟩
  | .hbm, ⟨5, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjReferenceIdeal.lean ====
abbrev S2048x1024 : Shape := ⟨2, ![2048, 1024]⟩
abbrev S2048x512 : Shape := ⟨2, ![2048, 512]⟩
abbrev S2048x256 : Shape := ⟨2, ![2048, 256]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .bf16⟩
  | .hbm, ⟨2, _⟩ => ⟨S2048x256, .bf16⟩
  | .hbm, ⟨3, _⟩ => ⟨S2048x256, .bf16⟩
  | .hbm, ⟨4, _⟩ => ⟨S1024x1024, .bf16⟩
  | .hbm, ⟨5, _⟩ => ⟨S2048x1024, .bf16⟩
  | .hbm, ⟨6, _⟩ => ⟨S2048x1024, .f32⟩
  | .hbm, ⟨7, _⟩ => ⟨S1024x1024, .f32⟩
  | .hbm, ⟨8, _⟩ => ⟨S2048x1024, .f32⟩
  | .hbm, ⟨9, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== OutBwd.lean ====
abbrev S2048x1024 : Shape := ⟨2, ![2048, 1024]⟩
abbrev S2048x512 : Shape := ⟨2, ![2048, 512]⟩
abbrev S2048x256 : Shape := ⟨2, ![2048, 256]⟩
abbrev S1024x1024 : Shape := ⟨2, ![1024, 1024]⟩
abbrev S512x1024 : Shape := ⟨2, ![512, 1024]⟩
abbrev S512x512 : Shape := ⟨2, ![512, 512]⟩
abbrev S512x256 : Shape := ⟨2, ![512, 256]⟩
abbrev S256x1024 : Shape := ⟨2, ![256, 1024]⟩

abbrev nBuf : Space → Nat
  | .hbm => 7
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2048x512, .bf16⟩
  | .hbm, ⟨2, _⟩ => ⟨S2048x256, .bf16⟩
  | .hbm, ⟨3, _⟩ => ⟨S2048x256, .bf16⟩
  | .hbm, ⟨4, _⟩ => ⟨S1024x1024, .bf16⟩
  | .hbm, ⟨5, _⟩ => ⟨S2048x1024, .f32⟩
  | .hbm, ⟨6, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S1024x1024, .bf16⟩
  | .local _ .vmem, ⟨12, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v29 : BitVec 1 := Scalar.cmpi .eq arg0 c3_i32
  let v30 : BitVec 32 := Scalar.extui v29
  let c0_i32_25 : BitVec 32 := 0#32
  let v31 : BitVec 1 := Scalar.cmpi .ne v30 c0_i32_25
  v31

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== OutBwdReferenceIdeal.lean ====
abbrev S2048x1024 : Shape := ⟨2, ![2048, 1024]⟩
abbrev S2048x512 : Shape := ⟨2, ![2048, 512]⟩
abbrev S2048x256 : Shape := ⟨2, ![2048, 256]⟩
abbrev S1024x1024 : Shape := ⟨2, ![1024, 1024]⟩
abbrev S1024x2048 : Shape := ⟨2, ![1024, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .bf16⟩
  | .hbm, ⟨2, _⟩ => ⟨S2048x256, .bf16⟩
  | .hbm, ⟨3, _⟩ => ⟨S2048x256, .bf16⟩
  | .hbm, ⟨4, _⟩ => ⟨S1024x1024, .bf16⟩
  | .hbm, ⟨5, _⟩ => ⟨S2048x1024, .bf16⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S2048x1024, .f32⟩
  | .hbm, ⟨10, _⟩ => ⟨S1024x2048, .f32⟩
  | .hbm, ⟨11, _⟩ => ⟨S1024x1024, .f32⟩
  | .hbm, ⟨12, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== MemKv.lean ====
abbrev S256x1024 : Shape := ⟨2, ![256, 1024]⟩
abbrev S1x1024 : Shape := ⟨2, ![1, 1024]⟩
abbrev S1024x512 : Shape := ⟨2, ![1024, 512]⟩
abbrev S256x512 : Shape := ⟨2, ![256, 512]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x512, .bf16⟩
  | .hbm, ⟨3, _⟩ => ⟨S256x1024, .bf16⟩
  | .hbm, ⟨4, _⟩ => ⟨S256x512, .f32⟩
  | .local _ .vmem, ⟨0, _⟩ => ⟨S256x1024, .f32⟩
  | .local _ .vmem, ⟨1, _⟩ => ⟨S1x1024, .f32⟩
  | .local _ .vmem, ⟨2, _⟩ => ⟨S1024x512, .bf16⟩
  | .local _ .vmem, ⟨3, _⟩ => ⟨S256x1024, .bf16⟩
  | .local _ .vmem, ⟨4, _⟩ => ⟨S256x512, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== MemKvReferenceIdeal.lean ====
abbrev S256x1024 : Shape := ⟨2, ![256, 1024]⟩
abbrev S1x1024 : Shape := ⟨2, ![1, 1024]⟩
abbrev S1024x512 : Shape := ⟨2, ![1024, 512]⟩
abbrev S_ : Shape := ⟨0, ![]⟩
abbrev S256 : Shape := ⟨1, ![256]⟩
abbrev S256x1 : Shape := ⟨2, ![256, 1]⟩
abbrev S256x512 : Shape := ⟨2, ![256, 512]⟩

abbrev nBuf : Space → Nat
  | .hbm => 21
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x512, .bf16⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .bf16⟩
  | .hbm, ⟨19, _⟩ => ⟨S1024x512, .f32⟩
  | .hbm, ⟨20, _⟩ => ⟨S256x512, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== KvBwd.lean ====
abbrev S256x1024 : Shape := ⟨2, ![256, 1024]⟩
abbrev S1x1024 : Shape := ⟨2, ![1, 1024]⟩
abbrev S1024x512 : Shape := ⟨2, ![1024, 512]⟩
abbrev S256x512 : Shape := ⟨2, ![256, 512]⟩
abbrev S256 : Shape := ⟨1, ![256]⟩
abbrev S256x1 : Shape := ⟨2, ![256, 1]⟩
abbrev S1024 : Shape := ⟨1, ![1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .hbm, ⟨3, _⟩ => ⟨S1024x512, .bf16⟩
  | .hbm, ⟨4, _⟩ => ⟨S256x512, .f32⟩
  | .hbm, ⟨5, _⟩ => ⟨S1024x512, .bf16⟩
  | .hbm, ⟨6, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | .local _ .vmem, ⟨3, _⟩ => ⟨S1024x512, .bf16⟩
  | .local _ .vmem, ⟨4, _⟩ => ⟨S256x512, .f32⟩
  | .local _ .vmem, ⟨5, _⟩ => ⟨S1024x512, .bf16⟩
  | .local _ .vmem, ⟨6, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KvBwdReferenceIdeal.lean ====
abbrev S256x1024 : Shape := ⟨2, ![256, 1024]⟩
abbrev S1x1024 : Shape := ⟨2, ![1, 1024]⟩
abbrev S1024x512 : Shape := ⟨2, ![1024, 512]⟩
abbrev S256x512 : Shape := ⟨2, ![256, 512]⟩
abbrev S512x1024 : Shape := ⟨2, ![512, 1024]⟩
abbrev S_ : Shape := ⟨0, ![]⟩
abbrev S256 : Shape := ⟨1, ![256]⟩
abbrev S256x1 : Shape := ⟨2, ![256, 1]⟩
abbrev S1024x256 : Shape := ⟨2, ![1024, 256]⟩
abbrev S1024 : Shape := ⟨1, ![1024]⟩

abbrev nBuf : Space → Nat
  | .hbm => 29
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .hbm, ⟨3, _⟩ => ⟨S1024x512, .bf16⟩
  | .hbm, ⟨4, _⟩ => ⟨S256x512, .f32⟩
  | .hbm, ⟨5, _⟩ => ⟨S1024x512, .f32⟩
  | .hbm, ⟨6, _⟩ => ⟨S512x1024, .f32⟩
  | .hbm, ⟨7, _⟩ => ⟨S256x1024, .f32⟩
  | .hbm, ⟨8, _⟩ => ⟨S256x1024, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1, .f32⟩
  | .hbm, ⟨19, _⟩ => ⟨S256x1024, .f32⟩
  | .hbm, ⟨20, _⟩ => ⟨S1024x256, .f32⟩
  | .hbm, ⟨21, _⟩ => ⟨S1024x512, .f32⟩
  | .hbm, ⟨22, _⟩ => ⟨S1024x512, .bf16⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S1024, .f32⟩
  | .hbm, ⟨28, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== InBwd.lean ====
abbrev S2048x512 : Shape := ⟨2, ![2048, 512]⟩
abbrev S2048x128 : Shape := ⟨2, ![2048, 128]⟩
abbrev S2048x256 : Shape := ⟨2, ![2048, 256]⟩
abbrev S1536x1024 : Shape := ⟨2, ![1536, 1024]⟩
abbrev S2048x1024 : Shape := ⟨2, ![2048, 1024]⟩
abbrev S1x1024 : Shape := ⟨2, ![1, 1024]⟩
abbrev S512x512 : Shape := ⟨2, ![512, 512]⟩
abbrev S512x128 : Shape := ⟨2, ![512, 128]⟩
abbrev S512x256 : Shape := ⟨2, ![512, 256]⟩
abbrev S512x1024 : Shape := ⟨2, ![512, 1024]⟩
abbrev S128x1024 : Shape := ⟨2, ![128, 1024]⟩
abbrev S256x1024 : Shape := ⟨2, ![256, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 23
  | .smem => 0
  | _ => 0

abbrev bufTy : (tb : Table) → Fin (tcTables nBuf tb) → BufTy
  | .hbm, ⟨0, _⟩ => ⟨S2048x512, .bf16⟩
  | .hbm, ⟨1, _⟩ => ⟨S2048x128, .bf16⟩
  | .hbm, ⟨2, _⟩ => ⟨S2048x128, .bf16⟩
  | .hbm, ⟨3, _⟩ => ⟨S2048x512, .bf16⟩
  | .hbm, ⟨4, _⟩ => ⟨S2048x256, .bf16⟩
  | .hbm, ⟨5, _⟩ => ⟨S1536x1024, .bf16⟩
  | .hbm, ⟨6, _⟩ => ⟨S2048x1024, .bf16⟩
  | .hbm, ⟨7, _⟩ => ⟨S2048x1024, .f32⟩
  | .hbm, ⟨8, _⟩ => ⟨S1x1024, .f32⟩
  | .hbm, ⟨9, _⟩ => ⟨S2048x1024, .f32⟩
  | .hbm, ⟨10, _⟩ => ⟨S2048x1024, .f32⟩
  | .hbm, ⟨11, _⟩ => ⟨S1x1024, .f32⟩
  | .hbm, ⟨12, _⟩ => ⟨S1536x1024, .bf16⟩
  | .local _ .vmem, ⟨0, _⟩ => ⟨S512x512, .bf16⟩
  | .local _ .vmem, ⟨1, _⟩ => ⟨S512x512, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x512, .bf16⟩
  | .local _ .vmem, ⟨7, _⟩ => ⟨S512x512, .bf16⟩
  | .local _ .vmem, ⟨8, _⟩ => ⟨S512x256, .bf16⟩
  | .local _ .vmem, ⟨9, _⟩ => ⟨S512x256, .bf16⟩
  | .local _ .vmem, ⟨10, _⟩ => ⟨S1536x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | .local _ .vmem, ⟨21, _⟩ => ⟨S1536x1024, .bf16⟩
  | .local _ .vmem, ⟨22, _⟩ => ⟨S1536x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v93 : BitVec 1 := Scalar.cmpi .eq arg0 c3_i32
  let v94 : BitVec 32 := Scalar.extui v93
  let c0_i32_66 : BitVec 32 := 0#32
  let v95 : BitVec 1 := Scalar.cmpi .ne v94 c0_i32_66
  v95

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1536x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1536x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== InBwdReferenceIdeal.lean ====
abbrev S2048x512 : Shape := ⟨2, ![2048, 512]⟩
abbrev S2048x128 : Shape := ⟨2, ![2048, 128]⟩
abbrev S2048x256 : Shape := ⟨2, ![2048, 256]⟩
abbrev S1536x1024 : Shape := ⟨2, ![1536, 1024]⟩
abbrev S2048x1024 : Shape := ⟨2, ![2048, 1024]⟩
abbrev S1x1024 : Shape := ⟨2, ![1, 1024]⟩
abbrev S2048x1536 : Shape := ⟨2, ![2048, 1536]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1536x2048 : Shape := ⟨2, ![1536, 2048]⟩

abbrev nBuf : Space → Nat
  | .hbm => 54
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x128, .bf16⟩
  | .hbm, ⟨2, _⟩ => ⟨S2048x128, .bf16⟩
  | .hbm, ⟨3, _⟩ => ⟨S2048x512, .bf16⟩
  | .hbm, ⟨4, _⟩ => ⟨S2048x256, .bf16⟩
  | .hbm, ⟨5, _⟩ => ⟨S1536x1024, .bf16⟩
  | .hbm, ⟨6, _⟩ => ⟨S2048x1024, .bf16⟩
  | .hbm, ⟨7, _⟩ => ⟨S2048x1024, .f32⟩
  | .hbm, ⟨8, _⟩ => ⟨S1x1024, .f32⟩
  | .hbm, ⟨9, _⟩ => ⟨S2048x1024, .f32⟩
  | .hbm, ⟨10, _⟩ => ⟨S2048x1536, .bf16⟩
  | .hbm, ⟨11, _⟩ => ⟨S2048x1536, .f32⟩
  | .hbm, ⟨12, _⟩ => ⟨S1536x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S1536x2048, .f32⟩
  | .hbm, ⟨51, _⟩ => ⟨S2048x1024, .f32⟩
  | .hbm, ⟨52, _⟩ => ⟨S1536x1024, .f32⟩
  | .hbm, ⟨53, _⟩ => ⟨S1536x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]
-- ==== ActBwd.lean ====
abbrev S2048x1024 : Shape := ⟨2, ![2048, 1024]⟩
abbrev S1x1024 : Shape := ⟨2, ![1, 1024]⟩
abbrev S2048x2816 : Shape := ⟨2, ![2048, 2816]⟩
abbrev S2816x1024 : Shape := ⟨2, ![2816, 1024]⟩
abbrev S1024x1024 : Shape := ⟨2, ![1024, 1024]⟩
abbrev S1024x256 : Shape := ⟨2, ![1024, 256]⟩
abbrev S256x1024 : Shape := ⟨2, ![256, 1024]⟩
abbrev S512x1024 : Shape := ⟨2, ![512, 1024]⟩
abbrev S256x256 : Shape := ⟨2, ![256, 256]⟩
abbrev S256x512 : Shape := ⟨2, ![256, 512]⟩
abbrev S1024 : Shape := ⟨1, ![1024]⟩
abbrev S1024x1 : Shape := ⟨2, ![1024, 1]⟩

abbrev nBuf : Space → Nat
  | .hbm => 14
  | .vmem => 27
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x2816, .bf16⟩
  | .hbm, ⟨4, _⟩ => ⟨S2048x2816, .bf16⟩
  | .hbm, ⟨5, _⟩ => ⟨S2816x1024, .bf16⟩
  | .hbm, ⟨6, _⟩ => ⟨S2816x1024, .bf16⟩
  | .hbm, ⟨7, _⟩ => ⟨S2816x1024, .bf16⟩
  | .hbm, ⟨8, _⟩ => ⟨S2048x1024, .bf16⟩
  | .hbm, ⟨9, _⟩ => ⟨S2048x2816, .bf16⟩
  | .hbm, ⟨10, _⟩ => ⟨S2048x2816, .bf16⟩
  | .hbm, ⟨11, _⟩ => ⟨S2048x2816, .bf16⟩
  | .hbm, ⟨12, _⟩ => ⟨S2048x1024, .f32⟩
  | .hbm, ⟨13, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | .local _ .vmem, ⟨20, _⟩ => ⟨S1024x256, .bf16⟩
  | .local _ .vmem, ⟨21, _⟩ => ⟨S1024x256, .bf16⟩
  | .local _ .vmem, ⟨22, _⟩ => ⟨S1024x256, .bf16⟩
  | .local _ .vmem, ⟨23, _⟩ => ⟨S1024x1024, .f32⟩
  | .local _ .vmem, ⟨24, _⟩ => ⟨S1024x1024, .f32⟩
  | .local _ .vmem, ⟨25, _⟩ => ⟨S1x1024, .f32⟩
  | .local _ .vmem, ⟨26, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25

abbrev nD : Nat := 1
abbrev τ : Topo := Topo.v7x

variable {F : FTy → Type} [FloatOps F]

abbrev grid0 : Pipeline.Grid := ⟨2, ![2, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c10_i32 : BitVec 32 := 10#32
  let v138 : BitVec 1 := Scalar.cmpi .eq arg1 c10_i32
  let v139 : BitVec 32 := Scalar.extui v138
  let c0_i32_88 : BitVec 32 := 0#32
  let v140 : BitVec 1 := Scalar.cmpi .ne v139 c0_i32_88
  v140

def k0_cond3 (i : grid0.Coords) : BitVec 1 :=
  let arg0 : BitVec 32 := BitVec.ofNat 32 (i 0).val
  let c0_i32_105 : BitVec 32 := 0#32
  let v176 : BitVec 1 := Scalar.cmpi .eq arg0 c0_i32_105
  let v177 : BitVec 32 := Scalar.extui v176
  let c0_i32_106 : BitVec 32 := 0#32
  let v178 : BitVec 1 := Scalar.cmpi .ne v177 c0_i32_106
  v178

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== ActBwdReferenceIdeal.lean ====
abbrev S2048x1024 : Shape := ⟨2, ![2048, 1024]⟩
abbrev S1x1024 : Shape := ⟨2, ![1, 1024]⟩
abbrev S2048x2816 : Shape := ⟨2, ![2048, 2816]⟩
abbrev S2816x1024 : Shape := ⟨2, ![2816, 1024]⟩
abbrev S_ : Shape := ⟨0, ![]⟩
abbrev S1024x2816 : Shape := ⟨2, ![1024, 2816]⟩
abbrev S2048 : Shape := ⟨1, ![2048]⟩
abbrev S2048x1 : Shape := ⟨2, ![2048, 1]⟩
abbrev S1024 : Shape := ⟨1, ![1024]⟩

abbrev nBuf : Space → Nat
  | .hbm => 85
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x2816, .bf16⟩
  | .hbm, ⟨4, _⟩ => ⟨S2048x2816, .bf16⟩
  | .hbm, ⟨5, _⟩ => ⟨S2816x1024, .bf16⟩
  | .hbm, ⟨6, _⟩ => ⟨S2816x1024, .bf16⟩
  | .hbm, ⟨7, _⟩ => ⟨S2816x1024, .bf16⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S2048x1024, .bf16⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S_, .f32⟩
  | .hbm, ⟨17, _⟩ => ⟨S2048x2816, .f32⟩
  | .hbm, ⟨18, _⟩ => ⟨S2048x2816, .f32⟩
  | .hbm, ⟨19, _⟩ => ⟨S_, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x1024, .f32⟩
  | .hbm, ⟨24, _⟩ => ⟨S2816x1024, .f32⟩
  | .hbm, ⟨25, _⟩ => ⟨S1024x2816, .f32⟩
  | .hbm, ⟨26, _⟩ => ⟨S2048x2816, .f32⟩
  | .hbm, ⟨27, _⟩ => ⟨S2048x2816, .f32⟩
  | .hbm, ⟨28, _⟩ => ⟨S2048x2816, .bf16⟩
  | .hbm, ⟨29, _⟩ => ⟨S2048x2816, .f32⟩
  | .hbm, ⟨30, _⟩ => ⟨S_, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2048x2816, .bf16⟩
  | .hbm, ⟨40, _⟩ => ⟨S2048x2816, .f32⟩
  | .hbm, ⟨41, _⟩ => ⟨S2816x1024, .f32⟩
  | .hbm, ⟨42, _⟩ => ⟨S2048x1024, .f32⟩
  | .hbm, ⟨43, _⟩ => ⟨S2048x2816, .f32⟩
  | .hbm, ⟨44, _⟩ => ⟨S2816x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S_, .f32⟩
  | .hbm, ⟨49, _⟩ => ⟨S2048, .f32⟩
  | .hbm, ⟨50, _⟩ => ⟨S2048x1, .f32⟩
  | .hbm, ⟨51, _⟩ => ⟨S_, .f32⟩
  | .hbm, ⟨52, _⟩ => ⟨S2048x1, .f32⟩
  | .hbm, ⟨53, _⟩ => ⟨S2048x1, .f32⟩
  | .hbm, ⟨54, _⟩ => ⟨S_, .f32⟩
  | .hbm, ⟨55, _⟩ => ⟨S2048x1, .f32⟩
  | .hbm, ⟨56, _⟩ => ⟨S2048x1, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1, .f32⟩
  | .hbm, ⟨63, _⟩ => ⟨S2048x1, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S_, .f32⟩
  | .hbm, ⟨68, _⟩ => ⟨S2048, .f32⟩
  | .hbm, ⟨69, _⟩ => ⟨S2048x1, .f32⟩
  | .hbm, ⟨70, _⟩ => ⟨S_, .f32⟩
  | .hbm, ⟨71, _⟩ => ⟨S2048x1, .f32⟩
  | .hbm, ⟨72, _⟩ => ⟨S2048x1, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x2816, .f32⟩
  | .hbm, ⟨77, _⟩ => ⟨S2048x2816, .bf16⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S_, .f32⟩
  | .hbm, ⟨83, _⟩ => ⟨S1024, .f32⟩
  | .hbm, ⟨84, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_7 : Ref sig .tc := ⟨.hbm, 67, rfl⟩
abbrev main_v51 : Ref sig .tc := ⟨.hbm, 68, rfl⟩
abbrev main_v52 : Ref sig .tc := ⟨.hbm, 69, rfl⟩
abbrev main_cst_8 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_9 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]
-- ==== Proof.Update.lean ====
/-
  The optimizer update of one weight shard on one device, read at exact real arithmetic: the kernel adds the eight received
  gradient blocks one after another, the reference sums them over the leading axis; the AdamW lines then agree operation by
  operation.
-/
module

public import proofs.«01_k».proof.Proof.Gen.UpdateIdeal.Value
public import proofs.«01_k».proof.Proof.Gen.UpdateReferenceIdeal.Run
public import Idealize.ShloMosaic.Lib.Pointwise

@[expose] public section

noncomputable section

namespace Cert.UpdateIdeal.Sum

open Idealize.ShloMosaic Idealize.SL.Sem Cert.UpdateIdeal Cert.UpdateIdeal.Gen

/-- The gradient of the shard: the sum of the eight blocks over the leading axis. -/
abbrev total (a0 : Vec Ideal S8x352x1024 .bf16) : FVec Ideal Cert.UpdateReferenceIdeal.S352x1024 .f32 :=
  Host.reduceAdd (F := Ideal) (φ := .f32) (extf .f32 (a0 : FVec Ideal S8x352x1024 .bf16) Cert.UpdateReferenceIdeal.Facts₀.bitsLt_bf16_f32)
    (constant Cert.UpdateReferenceIdeal.S_ .f32 0x00000000#32)
    Cert.UpdateReferenceIdeal.Facts₀.reducesTo_S8x352x1024_S352x1024_d0 Cert.UpdateReferenceIdeal.Facts₀.h_S_

/-- The sum at an entry: the eight blocks' entries there, added. -/
theorem total_apply (a0 : Vec Ideal S8x352x1024 .bf16) (i : Fin 352) (j : Fin 1024) :
    total a0 (ix2 i j) = ∑ k : Fin 8, a0 (ix3 k i j) := by
  pointwise

/-- Two indices with the same coordinates read the same entry. -/
theorem entry (a0 : Vec Ideal S8x352x1024 .bf16) (k : Fin 8) (i : Fin 352) (j : Fin 1024) (p : S8x352x1024.Idx)
    (h0 : (p 0).val = k.val) (h1 : (p 1).val = i.val) (h2 : (p 2).val = j.val) : a0 p = a0 (ix3 k i j) := by
  refine congrArg a0 (funext fun a => Fin.ext ?_)
  match a with
  | ⟨0, _⟩ => exact h0
  | ⟨1, _⟩ => exact h1
  | ⟨2, _⟩ => exact h2

/-- The kernel's chain of seven additions at an entry. -/
theorem chain_apply (a0 : Vec Ideal S8x352x1024 .bf16) (a1 a2 a3 : Vec Ideal S352x1024 .f32) (i : Fin 352) (j : Fin 1024) :
    k0_pay5 a0 a1 a2 a3 (ix2 i j) = ∑ k : Fin 8, a0 (ix3 k i j) := by
  rw [k0_pay5, Value.piece4_0, Fin.sum_univ_eight]
  show ((((((a0 _ + a0 _) + a0 _) + a0 _) + a0 _) + a0 _) + a0 _) + a0 _ = _
  refine congrArg₂ (· + ·) (congrArg₂ (· + ·) (congrArg₂ (· + ·) (congrArg₂ (· + ·) (congrArg₂ (· + ·)
    (congrArg₂ (· + ·) (congrArg₂ (· + ·) ?_ ?_) ?_) ?_) ?_) ?_) ?_) ?_
  all_goals refine entry a0 _ _ _ _ ?_ ?_ ?_
  all_goals first | rfl | simp

/-- The kernel's gradient is the sum. -/
theorem chain_eq (a0 : Vec Ideal S8x352x1024 .bf16) (a1 a2 a3 : Vec Ideal S352x1024 .f32) :
    k0_pay5 a0 a1 a2 a3 = total a0 := by
  funext x
  have hx : x = ix2 (n0 := 352) (n1 := 1024) (x 0) (x 1) := funext fun a => by
    match a with
    | ⟨0, _⟩ => rfl
    | ⟨1, _⟩ => rfl
  rw [hx]
  exact (chain_apply a0 a1 a2 a3 (x 0) (x 1)).trans (total_apply a0 (x 0) (x 1)).symm

/-- One shard of weights as the reference types it. -/
abbrev Shard : Type := FVec Ideal Cert.UpdateReferenceIdeal.S352x1024 .f32

/-- One number at every entry of a shard. -/
abbrev splat (b : BitVec 32) : Shard :=
  broadcastInDim Cert.UpdateReferenceIdeal.S352x1024 ![] Cert.UpdateReferenceIdeal.Facts₀.bcast_S_S352x1024
    (constant (F := Ideal) Cert.UpdateReferenceIdeal.S_ .f32 b)

/-- The reference's first moment of gradient `g` from moment `m`. -/
abbrev mean (g m : Shard) : Shard := addf (mulf (splat 0x3F666666#32) m) (mulf (splat 0x3DCCCCCD#32) g)

/-- The reference's second moment of gradient `g` from moment `v`. -/
abbrev var (g v : Shard) : Shard := addf (mulf (splat 0x3F7FBE77#32) v) (mulf (splat 0x3A83126F#32) (mulf g g))

/-- The reference's step of weights `w` from the two new moments. -/
abbrev step (m2 v2 w : Shard) : Shard :=
  mulf (splat 0xBA83126F#32) (addf (Host.divf (Host.divf m2 (splat 0x3F26BD02#32))
    (addf (Host.sqrt (Host.divf v2 (splat 0x3C231ACC#32))) (splat 0x322BCC77#32))) (mulf (splat 0x3C23D70A#32) w))

/-- The kernel's first moment is the reference's. -/
theorem mean_eq (g m : Shard) : k0_pay1 (F := Ideal) g m = mean g m := rfl

/-- The kernel's second moment is the reference's. -/
theorem var_eq (g v : Shard) : k0_pay2 (F := Ideal) g v = var g v := rfl

/-- The kernel's step is the reference's. -/
theorem step_eq (g w m v : Shard) : k0_pay3 (F := Ideal) g w m v = step (mean g m) (var g v) w := rfl

/-- The run of the kernel with its four results in the reference's terms. -/
theorem run_values (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = total (m ((c.tc : Thread nD τ).loc main_arg0))
      ∧ r.2.mem ((c.tc : Thread nD τ).loc main_v0_1)
        = step (mean (total (m ((c.tc : Thread nD τ).loc main_arg0))) (m ((c.tc : Thread nD τ).loc main_arg2)))
            (var (total (m ((c.tc : Thread nD τ).loc main_arg0))) (m ((c.tc : Thread nD τ).loc main_arg3)))
            (m ((c.tc : Thread nD τ).loc main_arg1))
      ∧ r.2.mem ((c.tc : Thread nD τ).loc main_v0_2)
        = mean (total (m ((c.tc : Thread nD τ).loc main_arg0))) (m ((c.tc : Thread nD τ).loc main_arg2))
      ∧ r.2.mem ((c.tc : Thread nD τ).loc main_v0_3)
        = var (total (m ((c.tc : Thread nD τ).loc main_arg0))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run (defs (F := Ideal)) _ _).mono (fun r h c => ?_) (Value.run m ρ)
  obtain ⟨h0, h1, h2, h3, h4⟩ := h c
  refine ⟨h0.trans (chain_eq _ (m ((c.tc : Thread nD τ).loc main_arg1)) (m ((c.tc : Thread nD τ).loc main_arg2)) (m ((c.tc : Thread nD τ).loc main_arg3))), h1.trans ?_, h2.trans ?_, h3.trans ?_, h4⟩
  · rw [Value.G5, chain_eq]; exact step_eq _ _ _ _
  · rw [Value.G6, chain_eq]; exact mean_eq _ _
  · rw [Value.G7, chain_eq]; exact var_eq _ _

end Cert.UpdateIdeal.Sum

end
-- ==== Proof.UpdateIn.lean ====
/-
  The optimizer update of a shard of `w_in` on one device, read at exact real arithmetic: the kernel adds the eight received
  gradient blocks one after another, the reference sums them over the leading axis; the AdamW lines then agree operation by
  operation.
-/
module

public import proofs.«01_k».proof.Proof.Gen.UpdateInIdeal.Value
public import proofs.«01_k».proof.Proof.Gen.UpdateInReferenceIdeal.Run
public import Idealize.ShloMosaic.Lib.Pointwise

@[expose] public section

noncomputable section

namespace Cert.UpdateInIdeal.Sum

open Idealize.ShloMosaic Idealize.SL.Sem Cert.UpdateInIdeal Cert.UpdateInIdeal.Gen

/-- The gradient of the shard: the sum of the eight blocks over the leading axis. -/
abbrev total (a0 : Vec Ideal S8x192x1024 .bf16) : FVec Ideal Cert.UpdateInReferenceIdeal.S192x1024 .f32 :=
  Host.reduceAdd (F := Ideal) (φ := .f32) (extf .f32 (a0 : FVec Ideal S8x192x1024 .bf16) Cert.UpdateInReferenceIdeal.Facts₀.bitsLt_bf16_f32)
    (constant Cert.UpdateInReferenceIdeal.S_ .f32 0x00000000#32)
    Cert.UpdateInReferenceIdeal.Facts₀.reducesTo_S8x192x1024_S192x1024_d0 Cert.UpdateInReferenceIdeal.Facts₀.h_S_

/-- The sum at an entry: the eight blocks' entries there, added. -/
theorem total_apply (a0 : Vec Ideal S8x192x1024 .bf16) (i : Fin 192) (j : Fin 1024) :
    total a0 (ix2 i j) = ∑ k : Fin 8, a0 (ix3 k i j) := by
  pointwise

/-- Two indices with the same coordinates read the same entry. -/
theorem entry (a0 : Vec Ideal S8x192x1024 .bf16) (k : Fin 8) (i : Fin 192) (j : Fin 1024) (p : S8x192x1024.Idx)
    (h0 : (p 0).val = k.val) (h1 : (p 1).val = i.val) (h2 : (p 2).val = j.val) : a0 p = a0 (ix3 k i j) := by
  refine congrArg a0 (funext fun a => Fin.ext ?_)
  match a with
  | ⟨0, _⟩ => exact h0
  | ⟨1, _⟩ => exact h1
  | ⟨2, _⟩ => exact h2

/-- The kernel's chain of seven additions at an entry. -/
theorem chain_apply (a0 : Vec Ideal S8x192x1024 .bf16) (a1 a2 a3 : Vec Ideal S192x1024 .f32) (i : Fin 192) (j : Fin 1024) :
    k0_pay5 a0 a1 a2 a3 (ix2 i j) = ∑ k : Fin 8, a0 (ix3 k i j) := by
  rw [k0_pay5, Value.piece4_0, Fin.sum_univ_eight]
  show ((((((a0 _ + a0 _) + a0 _) + a0 _) + a0 _) + a0 _) + a0 _) + a0 _ = _
  refine congrArg₂ (· + ·) (congrArg₂ (· + ·) (congrArg₂ (· + ·) (congrArg₂ (· + ·) (congrArg₂ (· + ·)
    (congrArg₂ (· + ·) (congrArg₂ (· + ·) ?_ ?_) ?_) ?_) ?_) ?_) ?_) ?_
  all_goals refine entry a0 _ _ _ _ ?_ ?_ ?_
  all_goals first | rfl | simp

/-- The kernel's gradient is the sum. -/
theorem chain_eq (a0 : Vec Ideal S8x192x1024 .bf16) (a1 a2 a3 : Vec Ideal S192x1024 .f32) :
    k0_pay5 a0 a1 a2 a3 = total a0 := by
  funext x
  have hx : x = ix2 (n0 := 192) (n1 := 1024) (x 0) (x 1) := funext fun a => by
    match a with
    | ⟨0, _⟩ => rfl
    | ⟨1, _⟩ => rfl
  rw [hx]
  exact (chain_apply a0 a1 a2 a3 (x 0) (x 1)).trans (total_apply a0 (x 0) (x 1)).symm

/-- One shard of weights as the reference types it. -/
abbrev Shard : Type := FVec Ideal Cert.UpdateInReferenceIdeal.S192x1024 .f32

/-- One number at every entry of a shard. -/
abbrev splat (b : BitVec 32) : Shard :=
  broadcastInDim Cert.UpdateInReferenceIdeal.S192x1024 ![] Cert.UpdateInReferenceIdeal.Facts₀.bcast_S_S192x1024
    (constant (F := Ideal) Cert.UpdateInReferenceIdeal.S_ .f32 b)

/-- The reference's first moment of gradient `g` from moment `m`. -/
abbrev mean (g m : Shard) : Shard := addf (mulf (splat 0x3F666666#32) m) (mulf (splat 0x3DCCCCCD#32) g)

/-- The reference's second moment of gradient `g` from moment `v`. -/
abbrev var (g v : Shard) : Shard := addf (mulf (splat 0x3F7FBE77#32) v) (mulf (splat 0x3A83126F#32) (mulf g g))

/-- The reference's step of weights `w` from the two new moments. -/
abbrev step (m2 v2 w : Shard) : Shard :=
  mulf (splat 0xBA83126F#32) (addf (Host.divf (Host.divf m2 (splat 0x3F26BD02#32))
    (addf (Host.sqrt (Host.divf v2 (splat 0x3C231ACC#32))) (splat 0x322BCC77#32))) (mulf (splat 0x3C23D70A#32) w))

/-- The kernel's first moment is the reference's. -/
theorem mean_eq (g m : Shard) : k0_pay1 (F := Ideal) g m = mean g m := rfl

/-- The kernel's second moment is the reference's. -/
theorem var_eq (g v : Shard) : k0_pay2 (F := Ideal) g v = var g v := rfl

/-- The kernel's step is the reference's. -/
theorem step_eq (g w m v : Shard) : k0_pay3 (F := Ideal) g w m v = step (mean g m) (var g v) w := rfl

/-- The run of the kernel with its four results in the reference's terms. -/
theorem run_values (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = total (m ((c.tc : Thread nD τ).loc main_arg0))
      ∧ r.2.mem ((c.tc : Thread nD τ).loc main_v0_1)
        = step (mean (total (m ((c.tc : Thread nD τ).loc main_arg0))) (m ((c.tc : Thread nD τ).loc main_arg2)))
            (var (total (m ((c.tc : Thread nD τ).loc main_arg0))) (m ((c.tc : Thread nD τ).loc main_arg3)))
            (m ((c.tc : Thread nD τ).loc main_arg1))
      ∧ r.2.mem ((c.tc : Thread nD τ).loc main_v0_2)
        = mean (total (m ((c.tc : Thread nD τ).loc main_arg0))) (m ((c.tc : Thread nD τ).loc main_arg2))
      ∧ r.2.mem ((c.tc : Thread nD τ).loc main_v0_3)
        = var (total (m ((c.tc : Thread nD τ).loc main_arg0))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run (defs (F := Ideal)) _ _).mono (fun r h c => ?_) (Value.run m ρ)
  obtain ⟨h0, h1, h2, h3, h4⟩ := h c
  refine ⟨h0.trans (chain_eq _ (m ((c.tc : Thread nD τ).loc main_arg1)) (m ((c.tc : Thread nD τ).loc main_arg2)) (m ((c.tc : Thread nD τ).loc main_arg3))), h1.trans ?_, h2.trans ?_, h3.trans ?_, h4⟩
  · rw [Value.G5, chain_eq]; exact step_eq _ _ _ _
  · rw [Value.G6, chain_eq]; exact mean_eq _ _
  · rw [Value.G7, chain_eq]; exact var_eq _ _

end Cert.UpdateInIdeal.Sum

end
-- ==== Proof.UpdateKv.lean ====
/-
  The optimizer update of a shard of `w_mem_kv` on one device, read at exact real arithmetic: the kernel adds the eight received
  gradient blocks one after another, the reference sums them over the leading axis; the AdamW lines then agree operation by
  operation.
-/
module

public import proofs.«01_k».proof.Proof.Gen.UpdateKvIdeal.Value
public import proofs.«01_k».proof.Proof.Gen.UpdateKvReferenceIdeal.Run
public import Idealize.ShloMosaic.Lib.Pointwise

@[expose] public section

noncomputable section

namespace Cert.UpdateKvIdeal.Sum

open Idealize.ShloMosaic Idealize.SL.Sem Cert.UpdateKvIdeal Cert.UpdateKvIdeal.Gen

/-- The gradient of the shard: the sum of the eight blocks over the leading axis. -/
abbrev total (a0 : Vec Ideal S8x128x512 .bf16) : FVec Ideal Cert.UpdateKvReferenceIdeal.S128x512 .f32 :=
  Host.reduceAdd (F := Ideal) (φ := .f32) (extf .f32 (a0 : FVec Ideal S8x128x512 .bf16) Cert.UpdateKvReferenceIdeal.Facts₀.bitsLt_bf16_f32)
    (constant Cert.UpdateKvReferenceIdeal.S_ .f32 0x00000000#32)
    Cert.UpdateKvReferenceIdeal.Facts₀.reducesTo_S8x128x512_S128x512_d0 Cert.UpdateKvReferenceIdeal.Facts₀.h_S_

/-- The sum at an entry: the eight blocks' entries there, added. -/
theorem total_apply (a0 : Vec Ideal S8x128x512 .bf16) (i : Fin 128) (j : Fin 512) :
    total a0 (ix2 i j) = ∑ k : Fin 8, a0 (ix3 k i j) := by
  pointwise

/-- Two indices with the same coordinates read the same entry. -/
theorem entry (a0 : Vec Ideal S8x128x512 .bf16) (k : Fin 8) (i : Fin 128) (j : Fin 512) (p : S8x128x512.Idx)
    (h0 : (p 0).val = k.val) (h1 : (p 1).val = i.val) (h2 : (p 2).val = j.val) : a0 p = a0 (ix3 k i j) := by
  refine congrArg a0 (funext fun a => Fin.ext ?_)
  match a with
  | ⟨0, _⟩ => exact h0
  | ⟨1, _⟩ => exact h1
  | ⟨2, _⟩ => exact h2

/-- The kernel's chain of seven additions at an entry. -/
theorem chain_apply (a0 : Vec Ideal S8x128x512 .bf16) (a1 a2 a3 : Vec Ideal S128x512 .f32) (i : Fin 128) (j : Fin 512) :
    k0_pay5 a0 a1 a2 a3 (ix2 i j) = ∑ k : Fin 8, a0 (ix3 k i j) := by
  rw [k0_pay5, Value.piece4_0, Fin.sum_univ_eight]
  show ((((((a0 _ + a0 _) + a0 _) + a0 _) + a0 _) + a0 _) + a0 _) + a0 _ = _
  refine congrArg₂ (· + ·) (congrArg₂ (· + ·) (congrArg₂ (· + ·) (congrArg₂ (· + ·) (congrArg₂ (· + ·)
    (congrArg₂ (· + ·) (congrArg₂ (· + ·) ?_ ?_) ?_) ?_) ?_) ?_) ?_) ?_
  all_goals refine entry a0 _ _ _ _ ?_ ?_ ?_
  all_goals first | rfl | simp

/-- The kernel's gradient is the sum. -/
theorem chain_eq (a0 : Vec Ideal S8x128x512 .bf16) (a1 a2 a3 : Vec Ideal S128x512 .f32) :
    k0_pay5 a0 a1 a2 a3 = total a0 := by
  funext x
  have hx : x = ix2 (n0 := 128) (n1 := 512) (x 0) (x 1) := funext fun a => by
    match a with
    | ⟨0, _⟩ => rfl
    | ⟨1, _⟩ => rfl
  rw [hx]
  exact (chain_apply a0 a1 a2 a3 (x 0) (x 1)).trans (total_apply a0 (x 0) (x 1)).symm

/-- One shard of weights as the reference types it. -/
abbrev Shard : Type := FVec Ideal Cert.UpdateKvReferenceIdeal.S128x512 .f32

/-- One number at every entry of a shard. -/
abbrev splat (b : BitVec 32) : Shard :=
  broadcastInDim Cert.UpdateKvReferenceIdeal.S128x512 ![] Cert.UpdateKvReferenceIdeal.Facts₀.bcast_S_S128x512
    (constant (F := Ideal) Cert.UpdateKvReferenceIdeal.S_ .f32 b)

/-- The reference's first moment of gradient `g` from moment `m`. -/
abbrev mean (g m : Shard) : Shard := addf (mulf (splat 0x3F666666#32) m) (mulf (splat 0x3DCCCCCD#32) g)

/-- The reference's second moment of gradient `g` from moment `v`. -/
abbrev var (g v : Shard) : Shard := addf (mulf (splat 0x3F7FBE77#32) v) (mulf (splat 0x3A83126F#32) (mulf g g))

/-- The reference's step of weights `w` from the two new moments. -/
abbrev step (m2 v2 w : Shard) : Shard :=
  mulf (splat 0xBA83126F#32) (addf (Host.divf (Host.divf m2 (splat 0x3F26BD02#32))
    (addf (Host.sqrt (Host.divf v2 (splat 0x3C231ACC#32))) (splat 0x322BCC77#32))) (mulf (splat 0x3C23D70A#32) w))

/-- The kernel's first moment is the reference's. -/
theorem mean_eq (g m : Shard) : k0_pay1 (F := Ideal) g m = mean g m := rfl

/-- The kernel's second moment is the reference's. -/
theorem var_eq (g v : Shard) : k0_pay2 (F := Ideal) g v = var g v := rfl

/-- The kernel's step is the reference's. -/
theorem step_eq (g w m v : Shard) : k0_pay3 (F := Ideal) g w m v = step (mean g m) (var g v) w := rfl

/-- The run of the kernel with its four results in the reference's terms. -/
theorem run_values (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = total (m ((c.tc : Thread nD τ).loc main_arg0))
      ∧ r.2.mem ((c.tc : Thread nD τ).loc main_v0_1)
        = step (mean (total (m ((c.tc : Thread nD τ).loc main_arg0))) (m ((c.tc : Thread nD τ).loc main_arg2)))
            (var (total (m ((c.tc : Thread nD τ).loc main_arg0))) (m ((c.tc : Thread nD τ).loc main_arg3)))
            (m ((c.tc : Thread nD τ).loc main_arg1))
      ∧ r.2.mem ((c.tc : Thread nD τ).loc main_v0_2)
        = mean (total (m ((c.tc : Thread nD τ).loc main_arg0))) (m ((c.tc : Thread nD τ).loc main_arg2))
      ∧ r.2.mem ((c.tc : Thread nD τ).loc main_v0_3)
        = var (total (m ((c.tc : Thread nD τ).loc main_arg0))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run (defs (F := Ideal)) _ _).mono (fun r h c => ?_) (Value.run m ρ)
  obtain ⟨h0, h1, h2, h3, h4⟩ := h c
  refine ⟨h0.trans (chain_eq _ (m ((c.tc : Thread nD τ).loc main_arg1)) (m ((c.tc : Thread nD τ).loc main_arg2)) (m ((c.tc : Thread nD τ).loc main_arg3))), h1.trans ?_, h2.trans ?_, h3.trans ?_, h4⟩
  · rw [Value.G5, chain_eq]; exact step_eq _ _ _ _
  · rw [Value.G6, chain_eq]; exact mean_eq _ _
  · rw [Value.G7, chain_eq]; exact var_eq _ _

end Cert.UpdateKvIdeal.Sum

end
-- ==== Proof.UpdateOut.lean ====
/-
  The optimizer update of a shard of `w_out` on one device, read at exact real arithmetic: the kernel adds the eight received
  gradient blocks one after another, the reference sums them over the leading axis; the AdamW lines then agree operation by
  operation.
-/
module

public import proofs.«01_k».proof.Proof.Gen.UpdateOutIdeal.Value
public import proofs.«01_k».proof.Proof.Gen.UpdateOutReferenceIdeal.Run
public import Idealize.ShloMosaic.Lib.Pointwise

@[expose] public section

noncomputable section

namespace Cert.UpdateOutIdeal.Sum

open Idealize.ShloMosaic Idealize.SL.Sem Cert.UpdateOutIdeal Cert.UpdateOutIdeal.Gen

/-- The gradient of the shard: the sum of the eight blocks over the leading axis. -/
abbrev total (a0 : Vec Ideal S8x128x1024 .bf16) : FVec Ideal Cert.UpdateOutReferenceIdeal.S128x1024 .f32 :=
  Host.reduceAdd (F := Ideal) (φ := .f32) (extf .f32 (a0 : FVec Ideal S8x128x1024 .bf16) Cert.UpdateOutReferenceIdeal.Facts₀.bitsLt_bf16_f32)
    (constant Cert.UpdateOutReferenceIdeal.S_ .f32 0x00000000#32)
    Cert.UpdateOutReferenceIdeal.Facts₀.reducesTo_S8x128x1024_S128x1024_d0 Cert.UpdateOutReferenceIdeal.Facts₀.h_S_

/-- The sum at an entry: the eight blocks' entries there, added. -/
theorem total_apply (a0 : Vec Ideal S8x128x1024 .bf16) (i : Fin 128) (j : Fin 1024) :
    total a0 (ix2 i j) = ∑ k : Fin 8, a0 (ix3 k i j) := by
  pointwise

/-- Two indices with the same coordinates read the same entry. -/
theorem entry (a0 : Vec Ideal S8x128x1024 .bf16) (k : Fin 8) (i : Fin 128) (j : Fin 1024) (p : S8x128x1024.Idx)
    (h0 : (p 0).val = k.val) (h1 : (p 1).val = i.val) (h2 : (p 2).val = j.val) : a0 p = a0 (ix3 k i j) := by
  refine congrArg a0 (funext fun a => Fin.ext ?_)
  match a with
  | ⟨0, _⟩ => exact h0
  | ⟨1, _⟩ => exact h1
  | ⟨2, _⟩ => exact h2

/-- The kernel's chain of seven additions at an entry. -/
theorem chain_apply (a0 : Vec Ideal S8x128x1024 .bf16) (a1 a2 a3 : Vec Ideal S128x1024 .f32) (i : Fin 128) (j : Fin 1024) :
    k0_pay5 a0 a1 a2 a3 (ix2 i j) = ∑ k : Fin 8, a0 (ix3 k i j) := by
  rw [k0_pay5, Value.piece4_0, Fin.sum_univ_eight]
  show ((((((a0 _ + a0 _) + a0 _) + a0 _) + a0 _) + a0 _) + a0 _) + a0 _ = _
  refine congrArg₂ (· + ·) (congrArg₂ (· + ·) (congrArg₂ (· + ·) (congrArg₂ (· + ·) (congrArg₂ (· + ·)
    (congrArg₂ (· + ·) (congrArg₂ (· + ·) ?_ ?_) ?_) ?_) ?_) ?_) ?_) ?_
  all_goals refine entry a0 _ _ _ _ ?_ ?_ ?_
  all_goals first | rfl | simp

/-- The kernel's gradient is the sum. -/
theorem chain_eq (a0 : Vec Ideal S8x128x1024 .bf16) (a1 a2 a3 : Vec Ideal S128x1024 .f32) :
    k0_pay5 a0 a1 a2 a3 = total a0 := by
  funext x
  have hx : x = ix2 (n0 := 128) (n1 := 1024) (x 0) (x 1) := funext fun a => by
    match a with
    | ⟨0, _⟩ => rfl
    | ⟨1, _⟩ => rfl
  rw [hx]
  exact (chain_apply a0 a1 a2 a3 (x 0) (x 1)).trans (total_apply a0 (x 0) (x 1)).symm

/-- One shard of weights as the reference types it. -/
abbrev Shard : Type := FVec Ideal Cert.UpdateOutReferenceIdeal.S128x1024 .f32

/-- One number at every entry of a shard. -/
abbrev splat (b : BitVec 32) : Shard :=
  broadcastInDim Cert.UpdateOutReferenceIdeal.S128x1024 ![] Cert.UpdateOutReferenceIdeal.Facts₀.bcast_S_S128x1024
    (constant (F := Ideal) Cert.UpdateOutReferenceIdeal.S_ .f32 b)

/-- The reference's first moment of gradient `g` from moment `m`. -/
abbrev mean (g m : Shard) : Shard := addf (mulf (splat 0x3F666666#32) m) (mulf (splat 0x3DCCCCCD#32) g)

/-- The reference's second moment of gradient `g` from moment `v`. -/
abbrev var (g v : Shard) : Shard := addf (mulf (splat 0x3F7FBE77#32) v) (mulf (splat 0x3A83126F#32) (mulf g g))

/-- The reference's step of weights `w` from the two new moments. -/
abbrev step (m2 v2 w : Shard) : Shard :=
  mulf (splat 0xBA83126F#32) (addf (Host.divf (Host.divf m2 (splat 0x3F26BD02#32))
    (addf (Host.sqrt (Host.divf v2 (splat 0x3C231ACC#32))) (splat 0x322BCC77#32))) (mulf (splat 0x3C23D70A#32) w))

/-- The kernel's first moment is the reference's. -/
theorem mean_eq (g m : Shard) : k0_pay1 (F := Ideal) g m = mean g m := rfl

/-- The kernel's second moment is the reference's. -/
theorem var_eq (g v : Shard) : k0_pay2 (F := Ideal) g v = var g v := rfl

/-- The kernel's step is the reference's. -/
theorem step_eq (g w m v : Shard) : k0_pay3 (F := Ideal) g w m v = step (mean g m) (var g v) w := rfl

/-- The run of the kernel with its four results in the reference's terms. -/
theorem run_values (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = total (m ((c.tc : Thread nD τ).loc main_arg0))
      ∧ r.2.mem ((c.tc : Thread nD τ).loc main_v0_1)
        = step (mean (total (m ((c.tc : Thread nD τ).loc main_arg0))) (m ((c.tc : Thread nD τ).loc main_arg2)))
            (var (total (m ((c.tc : Thread nD τ).loc main_arg0))) (m ((c.tc : Thread nD τ).loc main_arg3)))
            (m ((c.tc : Thread nD τ).loc main_arg1))
      ∧ r.2.mem ((c.tc : Thread nD τ).loc main_v0_2)
        = mean (total (m ((c.tc : Thread nD τ).loc main_arg0))) (m ((c.tc : Thread nD τ).loc main_arg2))
      ∧ r.2.mem ((c.tc : Thread nD τ).loc main_v0_3)
        = var (total (m ((c.tc : Thread nD τ).loc main_arg0))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run (defs (F := Ideal)) _ _).mono (fun r h c => ?_) (Value.run m ρ)
  obtain ⟨h0, h1, h2, h3, h4⟩ := h c
  refine ⟨h0.trans (chain_eq _ (m ((c.tc : Thread nD τ).loc main_arg1)) (m ((c.tc : Thread nD τ).loc main_arg2)) (m ((c.tc : Thread nD τ).loc main_arg3))), h1.trans ?_, h2.trans ?_, h3.trans ?_, h4⟩
  · rw [Value.G5, chain_eq]; exact step_eq _ _ _ _
  · rw [Value.G6, chain_eq]; exact mean_eq _ _
  · rw [Value.G7, chain_eq]; exact var_eq _ _

end Cert.UpdateOutIdeal.Sum

end
-- ==== Proof.SmallSum.lean ====
/-
  The sum of the eight devices' packed small gradients on one device, read at exact real arithmetic: the kernel adds the eight
  slots one after another, the reference sums them over the leading axis.
-/
module

public import proofs.«01_k».proof.Proof.Gen.SmallSumIdeal.Value
public import proofs.«01_k».proof.Proof.Gen.SmallSumReferenceIdeal.Run
public import Idealize.ShloMosaic.Lib.Pointwise

@[expose] public section

noncomputable section

namespace Cert.SmallSumIdeal.Sum

open Idealize.ShloMosaic Idealize.SL.Sem Cert.SmallSumIdeal Cert.SmallSumIdeal.Gen

/-- The sum of the eight slots over the leading axis. -/
abbrev total (a0 : Vec Ideal S8x16x1024 .f32) : FVec Ideal Cert.SmallSumReferenceIdeal.S16x1024 .f32 :=
  Host.reduceAdd (F := Ideal) (φ := .f32) (a0 : FVec Ideal S8x16x1024 .f32)
    (constant Cert.SmallSumReferenceIdeal.S_ .f32 0x00000000#32)
    Cert.SmallSumReferenceIdeal.Facts₀.reducesTo_S8x16x1024_S16x1024_d0 Cert.SmallSumReferenceIdeal.Facts₀.h_S_

/-- The sum at an entry: the eight slots' entries there, added. -/
theorem total_apply (a0 : Vec Ideal S8x16x1024 .f32) (i : Fin 16) (j : Fin 1024) :
    total a0 (ix2 i j) = ∑ k : Fin 8, a0 (ix3 k i j) := by
  pointwise

/-- Two indices with the same coordinates read the same entry. -/
theorem entry (a0 : Vec Ideal S8x16x1024 .f32) (k : Fin 8) (i : Fin 16) (j : Fin 1024) (p : S8x16x1024.Idx)
    (h0 : (p 0).val = k.val) (h1 : (p 1).val = i.val) (h2 : (p 2).val = j.val) : a0 p = a0 (ix3 k i j) := by
  refine congrArg a0 (funext fun a => Fin.ext ?_)
  match a with
  | ⟨0, _⟩ => exact h0
  | ⟨1, _⟩ => exact h1
  | ⟨2, _⟩ => exact h2

/-- The kernel's chain of seven additions at an entry. -/
theorem chain_apply (a0 : Vec Ideal S8x16x1024 .f32) (i : Fin 16) (j : Fin 1024) :
    Value.G1 a0 (ix2 i j) = ∑ k : Fin 8, a0 (ix3 k i j) := by
  rw [Value.G1, Value.piece1_0, Fin.sum_univ_eight]
  show ((((((a0 _ + a0 _) + a0 _) + a0 _) + a0 _) + a0 _) + a0 _) + a0 _ = _
  refine congrArg₂ (· + ·) (congrArg₂ (· + ·) (congrArg₂ (· + ·) (congrArg₂ (· + ·) (congrArg₂ (· + ·)
    (congrArg₂ (· + ·) (congrArg₂ (· + ·) ?_ ?_) ?_) ?_) ?_) ?_) ?_) ?_
  all_goals refine entry a0 _ _ _ _ ?_ ?_ ?_
  all_goals first | rfl | simp

/-- The kernel's result is the sum. -/
theorem chain_eq (a0 : Vec Ideal S8x16x1024 .f32) : Value.G1 a0 = total a0 := by
  funext x
  have hx : x = ix2 (n0 := 16) (n1 := 1024) (x 0) (x 1) := funext fun a => by
    match a with
    | ⟨0, _⟩ => rfl
    | ⟨1, _⟩ => rfl
  rw [hx]
  exact (chain_apply a0 (x 0) (x 1)).trans (total_apply a0 (x 0) (x 1)).symm

/-- The run of the kernel with its result in the reference's terms. -/
theorem run_values (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = total (m ((c.tc : Thread nD τ).loc main_arg0))
      ∧ r.2.mem ((c.tc : Thread nD τ).loc main_arg0) = m ((c.tc : Thread nD τ).loc main_arg0) :=
  (θ_run (defs (F := Ideal)) _ _).mono (fun _ h c => ⟨(h c).1.trans (chain_eq _), (h c).2⟩) (Value.run m ρ)

end Cert.SmallSumIdeal.Sum

end
-- ==== Proof.StepSmall.lean ====
/-
  The AdamW step of the packed small parameters on one device, read at exact real arithmetic: the kernel's operations are the reference's, one by one.
-/
module

public import proofs.«01_k».proof.Proof.Gen.StepSmallIdeal.Value
public import proofs.«01_k».proof.Proof.Gen.StepSmallReferenceIdeal.Run
public import Idealize.ShloMosaic.Lib.Pointwise

@[expose] public section

noncomputable section

namespace Cert.StepSmallIdeal.Step

open Idealize.ShloMosaic Idealize.SL.Sem Cert.StepSmallIdeal Cert.StepSmallIdeal.Gen

/-- One array as the reference types it. -/
abbrev Shard : Type := FVec Ideal Cert.StepSmallReferenceIdeal.S8x1024 .f32

/-- One number at every entry. -/
abbrev splat (b : BitVec 32) : Shard :=
  broadcastInDim Cert.StepSmallReferenceIdeal.S8x1024 ![] Cert.StepSmallReferenceIdeal.Facts₀.bcast_S_S8x1024
    (constant (F := Ideal) Cert.StepSmallReferenceIdeal.S_ .f32 b)

/-- The reference's first moment of gradient `g` from moment `m`. -/
abbrev mean (g m : Shard) : Shard := addf (mulf (splat 0x3F666666#32) m) (mulf (splat 0x3DCCCCCD#32) g)

/-- The reference's second moment of gradient `g` from moment `v`. -/
abbrev var (g v : Shard) : Shard := addf (mulf (splat 0x3F7FBE77#32) v) (mulf (splat 0x3A83126F#32) (mulf g g))

/-- The reference's step of weights `w` from the two new moments. -/
abbrev step (m2 v2 w : Shard) : Shard :=
  mulf (splat 0xBA83126F#32) (addf (Host.divf (Host.divf m2 (splat 0x3F26BD02#32))
    (addf (Host.sqrt (Host.divf v2 (splat 0x3C231ACC#32))) (splat 0x322BCC77#32))) (mulf (splat 0x3C23D70A#32) w))

/-- The kernel's first moment is the reference's. -/
theorem mean_eq (g m : Shard) : Value.G5 (F := Ideal) g m = mean g m := rfl

/-- The kernel's second moment is the reference's. -/
theorem var_eq (g v : Shard) : Value.G6 (F := Ideal) g v = var g v := rfl

/-- The kernel's step is the reference's. -/
theorem step_eq (w g m v : Shard) : Value.G4 (F := Ideal) w g m v = step (mean g m) (var g v) w := rfl

/-- The run of the kernel with its three results in the reference's terms. -/
theorem run_values (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0)
        = step (mean (m ((c.tc : Thread nD τ).loc main_arg0)) (m ((c.tc : Thread nD τ).loc main_arg2)))
            (var (m ((c.tc : Thread nD τ).loc main_arg0)) (m ((c.tc : Thread nD τ).loc main_arg3)))
            (m ((c.tc : Thread nD τ).loc main_arg1))
      ∧ r.2.mem ((c.tc : Thread nD τ).loc main_v0_1)
        = mean (m ((c.tc : Thread nD τ).loc main_arg0)) (m ((c.tc : Thread nD τ).loc main_arg2))
      ∧ r.2.mem ((c.tc : Thread nD τ).loc main_v0_2)
        = var (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run (defs (F := Ideal)) _ _).mono (fun r h c => ?_) (Value.run m ρ)
  obtain ⟨h0, h1, h2, h3⟩ := h c
  exact ⟨h0.trans (step_eq _ _ _ _), h1.trans (mean_eq _ _), h2.trans (var_eq _ _), h3⟩

end Cert.StepSmallIdeal.Step

end
-- ==== Proof.StepDw.lean ====
/-
  The AdamW step of a shard of `w_dw` on one device, read at exact real arithmetic: the kernel's operations are the reference's, one by one.
-/
module

public import proofs.«01_k».proof.Proof.Gen.StepDwIdeal.Value
public import proofs.«01_k».proof.Proof.Gen.StepDwReferenceIdeal.Run
public import Idealize.ShloMosaic.Lib.Pointwise

@[expose] public section

noncomputable section

namespace Cert.StepDwIdeal.Step

open Idealize.ShloMosaic Idealize.SL.Sem Cert.StepDwIdeal Cert.StepDwIdeal.Gen

/-- One array as the reference types it. -/
abbrev Shard : Type := FVec Ideal Cert.StepDwReferenceIdeal.S31x32 .f32

/-- One number at every entry. -/
abbrev splat (b : BitVec 32) : Shard :=
  broadcastInDim Cert.StepDwReferenceIdeal.S31x32 ![] Cert.StepDwReferenceIdeal.Facts₀.bcast_S_S31x32
    (constant (F := Ideal) Cert.StepDwReferenceIdeal.S_ .f32 b)

/-- The reference's first moment of gradient `g` from moment `m`. -/
abbrev mean (g m : Shard) : Shard := addf (mulf (splat 0x3F666666#32) m) (mulf (splat 0x3DCCCCCD#32) g)

/-- The reference's second moment of gradient `g` from moment `v`. -/
abbrev var (g v : Shard) : Shard := addf (mulf (splat 0x3F7FBE77#32) v) (mulf (splat 0x3A83126F#32) (mulf g g))

/-- The reference's step of weights `w` from the two new moments. -/
abbrev step (m2 v2 w : Shard) : Shard :=
  mulf (splat 0xBA83126F#32) (addf (Host.divf (Host.divf m2 (splat 0x3F26BD02#32))
    (addf (Host.sqrt (Host.divf v2 (splat 0x3C231ACC#32))) (splat 0x322BCC77#32))) (mulf (splat 0x3C23D70A#32) w))

/-- The kernel's first moment is the reference's. -/
theorem mean_eq (g m : Shard) : Value.G5 (F := Ideal) g m = mean g m := rfl

/-- The kernel's second moment is the reference's. -/
theorem var_eq (g v : Shard) : Value.G6 (F := Ideal) g v = var g v := rfl

/-- The kernel's step is the reference's. -/
theorem step_eq (w g m v : Shard) : Value.G4 (F := Ideal) w g m v = step (mean g m) (var g v) w := rfl

/-- The run of the kernel with its three results in the reference's terms. -/
theorem run_values (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0)
        = step (mean (m ((c.tc : Thread nD τ).loc main_arg0)) (m ((c.tc : Thread nD τ).loc main_arg2)))
            (var (m ((c.tc : Thread nD τ).loc main_arg0)) (m ((c.tc : Thread nD τ).loc main_arg3)))
            (m ((c.tc : Thread nD τ).loc main_arg1))
      ∧ r.2.mem ((c.tc : Thread nD τ).loc main_v0_1)
        = mean (m ((c.tc : Thread nD τ).loc main_arg0)) (m ((c.tc : Thread nD τ).loc main_arg2))
      ∧ r.2.mem ((c.tc : Thread nD τ).loc main_v0_2)
        = var (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run (defs (F := Ideal)) _ _).mono (fun r h c => ?_) (Value.run m ρ)
  obtain ⟨h0, h1, h2, h3⟩ := h c
  exact ⟨h0.trans (step_eq _ _ _ _), h1.trans (mean_eq _ _), h2.trans (var_eq _ _), h3⟩

end Cert.StepDwIdeal.Step

end
-- ==== Proof.Blocks.lean ====
/-
  Where an entry of a window's block lies in the window's array, for arrays of two axes.
-/
module

public import Idealize.ShloMosaic.Lib.Pointwise

@[expose] public section

namespace Cert.Blocks

open Idealize.ShloMosaic

/-- A block's entry, by the block's place and the entry's place in it. -/
theorem at_block {n m B C a b a' b' k l : ℕ} {x : (⟨2, ![n, m]⟩ : Shape).Idx} {i : Fin n} {j : Fin m} (e : a = a' ∧ b = b')
    (h0 : (x 0).val = a * B + 1 * k) (h1 : (x 1).val = b * C + 1 * l) (hi : i.val = a' * B + k) (hj : j.val = b' * C + l) : x = ix2 i j := by
  funext d; apply Fin.ext
  obtain ⟨rfl, rfl⟩ := e
  match d with
  | ⟨0, _⟩ => exact (h0.trans (by rw [Nat.one_mul])).trans hi.symm
  | ⟨1, _⟩ => exact (h1.trans (by rw [Nat.one_mul])).trans hj.symm

/-- An entry of a block that is the whole array. -/
theorem at_whole {n m B C a b : ℕ} {x y : (⟨2, ![n, m]⟩ : Shape).Idx} (e : a = 0 ∧ b = 0)
    (h0 : (x 0).val = a * B + 1 * (y 0).val) (h1 : (x 1).val = b * C + 1 * (y 1).val) : x = y := by
  funext d; apply Fin.ext
  obtain ⟨rfl, rfl⟩ := e
  match d with
  | ⟨0, _⟩ => rw [Nat.zero_mul, Nat.zero_add, Nat.one_mul] at h0; exact h0
  | ⟨1, _⟩ => rw [Nat.zero_mul, Nat.zero_add, Nat.one_mul] at h1; exact h1

end Cert.Blocks

end
-- ==== Proof.FfnW.lean ====
/-
  The weight gradients of a gated feed-forward layer on one device, read at exact real arithmetic: three products of a transposed
  activation with the rows it meets. The kernel works through the layer's 2816 inner columns in eleven blocks of 256; for each it
  clears its accumulator, adds the block's one product over all 2048 rows and writes it back, so what each block writes is that
  block of the reference's whole product.
-/
module

public import proofs.«01_k».proof.Proof.Gen.FfnWIdeal.Value
public import proofs.«01_k».proof.Proof.Gen.FfnWReferenceIdeal.Run
public import proofs.«01_k».proof.Proof.Blocks
public import Idealize.ShloMosaic.Lib.Pointwise
public import Idealize.ShloMosaic.Lib.Tactic
public import Idealize.ShloMosaic.Lib.Pipeline.ValueKit

@[expose] public section

noncomputable section

namespace Cert.FfnWReferenceIdeal.Terms

open Idealize.ShloMosaic Cert.FfnWReferenceIdeal Cert.FfnWReferenceIdeal.Facts₀

/-- Each of the reference's results: an inner activation, transposed, times rows of the outer width. -/
abbrev wgrad (d : FVec Ideal S2048x2816 .bf16) (h : FVec Ideal S2048x1024 .bf16) : FVec Ideal S2816x1024 .bf16 :=
  truncf .bf16 (Host.dotGeneral dot_S2816x2048_S2048x1024_S2816x1024_1_0_0_1_n_n none (transpose S2816x2048 [1, 0] (extf .f32 d bitsLt_bf16_f32) transposes_S2048x2816_S2816x2048_1_0) (extf .f32 h bitsLt_bf16_f32)) bitsLt_bf16_f32

end Cert.FfnWReferenceIdeal.Terms

namespace Cert.FfnWIdeal.FfnW

open Idealize.ShloMosaic Idealize.ShloMosaic.TcCoe Idealize.SL.Sem Cert.FfnWIdeal Cert.FfnWIdeal.Gen
open Idealize.ShloMosaic.Pipeline (Dat)
open Cert.FfnWReferenceIdeal.Terms (wgrad)

/-! ## A block's product -/

/-- Column `i` of block `t`, as a column of the whole array. -/
abbrev col (t : Fin 11) (i : Fin 256) : Fin 2816 := ⟨t.val * 256 + i.val, by omega⟩

theorem gate_apply (x : FVec Ideal S2048x256 .bf16) (h : FVec Ideal S2048x1024 .bf16) (d : FVec Ideal S2048x2816 .bf16)
    (t : Fin 11) (hx : ∀ i j, x (ix2 i j) = d (ix2 i (col t j))) (i : Fin 256) (j : Fin 1024) :
    k0_pay1 (F := Ideal) (k0_pay7 (F := Ideal) h (k0_pay4 (F := Ideal)) x) (ix2 i j) = wgrad d h (ix2 (col t i) j) := by
  pointwise! [k0_pay1, k0_pay7, k0_pay4]
  simp only [hx]

theorem up_apply (x : FVec Ideal S2048x256 .bf16) (h : FVec Ideal S2048x1024 .bf16) (d : FVec Ideal S2048x2816 .bf16)
    (t : Fin 11) (hx : ∀ i j, x (ix2 i j) = d (ix2 i (col t j))) (i : Fin 256) (j : Fin 1024) :
    k0_pay2 (F := Ideal) (k0_pay8 (F := Ideal) h (k0_pay5 (F := Ideal)) x) (ix2 i j) = wgrad d h (ix2 (col t i) j) := by
  pointwise! [k0_pay2, k0_pay8, k0_pay5]
  simp only [hx]

theorem down_apply (x : FVec Ideal S2048x256 .bf16) (h : FVec Ideal S2048x1024 .bf16) (d : FVec Ideal S2048x2816 .bf16)
    (t : Fin 11) (hx : ∀ i j, x (ix2 i j) = d (ix2 i (col t j))) (i : Fin 256) (j : Fin 1024) :
    k0_pay3 (F := Ideal) (k0_pay9 (F := Ideal) (k0_pay6 (F := Ideal)) x h) (ix2 i j) = wgrad d h (ix2 (col t i) j) := by
  pointwise! [k0_pay3, k0_pay9, k0_pay6]
  simp only [hx]

/-! ## The blocks of the windows -/

/-- The block indices of the eight windows: the whole of the two row arrays, then the block's number, on the columns of the
three activations and on the rows of the three results. -/
theorem idx : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem emb0 (t : Fin cfg0.N) (j : S2048x1024.Idx) : ((cfg0.win 0).blk t).view.emb j = j :=
  Blocks.at_whole (B := 2048) (C := 1024) ⟨(idx t).1, (idx t).2.1⟩ rfl rfl

theorem emb1 (t : Fin cfg0.N) (j : S2048x1024.Idx) : ((cfg0.win 1).blk t).view.emb j = j :=
  Blocks.at_whole (B := 2048) (C := 1024) ⟨(idx t).2.2.1, (idx t).2.2.2.1⟩ rfl rfl

theorem emb2 (t : Fin cfg0.N) (i : Fin 2048) (j : Fin 256) : ((cfg0.win 2).blk t).view.emb (ix2 i j) = ix2 i (col t j) :=
  Blocks.at_block (B := 2048) (C := 256) ⟨(idx t).2.2.2.2.1, (idx t).2.2.2.2.2.1⟩ rfl rfl (by simp) rfl

theorem emb3 (t : Fin cfg0.N) (i : Fin 2048) (j : Fin 256) : ((cfg0.win 3).blk t).view.emb (ix2 i j) = ix2 i (col t j) :=
  Blocks.at_block (B := 2048) (C := 256) ⟨(idx t).2.2.2.2.2.2.1, (idx t).2.2.2.2.2.2.2.1⟩ rfl rfl (by simp) rfl

theorem emb4 (t : Fin cfg0.N) (i : Fin 2048) (j : Fin 256) : ((cfg0.win 4).blk t).view.emb (ix2 i j) = ix2 i (col t j) :=
  Blocks.at_block (B := 2048) (C := 256) ⟨(idx t).2.2.2.2.2.2.2.2.1, (idx t).2.2.2.2.2.2.2.2.2.1⟩ rfl rfl (by simp) rfl

theorem emb5 (t : Fin cfg0.N) (i : Fin 256) (j : Fin 1024) : ((cfg0.win 5).blk t).view.emb (ix2 i j) = ix2 (col t i) j :=
  Blocks.at_block (B := 256) (C := 1024) ⟨(idx t).2.2.2.2.2.2.2.2.2.2.1, (idx t).2.2.2.2.2.2.2.2.2.2.2.1⟩ rfl rfl rfl (by simp)

theorem emb6 (t : Fin cfg0.N) (i : Fin 256) (j : Fin 1024) : ((cfg0.win 6).blk t).view.emb (ix2 i j) = ix2 (col t i) j :=
  Blocks.at_block (B := 256) (C := 1024) ⟨(idx t).2.2.2.2.2.2.2.2.2.2.2.2.1, (idx t).2.2.2.2.2.2.2.2.2.2.2.2.2.1⟩ rfl rfl rfl (by simp)

theorem emb7 (t : Fin cfg0.N) (i : Fin 256) (j : Fin 1024) : ((cfg0.win 7).blk t).view.emb (ix2 i j) = ix2 (col t i) j :=
  Blocks.at_block (B := 256) (C := 1024) (idx t).2.2.2.2.2.2.2.2.2.2.2.2.2.2 rfl rfl rfl (by simp)

variable (m : (ℓ : Loc nD τ sig) → Buf (Elt Ideal) ℓ) (ρ : Dev nD → PrngReg)

theorem iblk0_eq (c : Dev nD) (t : Fin cfg0.N) : iblk m c 0 t = V m c main_arg0 := by
  funext j; show V m c main_arg0 (((cfg0.win 0).blk t).view.emb j) = V m c main_arg0 j; rw [emb0]

theorem iblk1_eq (c : Dev nD) (t : Fin cfg0.N) : iblk m c 1 t = V m c main_arg1 := by
  funext j; show V m c main_arg1 (((cfg0.win 1).blk t).view.emb j) = V m c main_arg1 j; rw [emb1]

theorem iblk2_apply (c : Dev nD) (t : Fin cfg0.N) (i : Fin 2048) (j : Fin 256) :
    iblk m c 2 t (ix2 i j) = V m c main_arg2 (ix2 i (col t j)) := by
  show V m c main_arg2 (((cfg0.win 2).blk t).view.emb (ix2 i j)) = _
  rw [emb2]

theorem iblk3_apply (c : Dev nD) (t : Fin cfg0.N) (i : Fin 2048) (j : Fin 256) :
    iblk m c 3 t (ix2 i j) = V m c main_arg3 (ix2 i (col t j)) := by
  show V m c main_arg3 (((cfg0.win 3).blk t).view.emb (ix2 i j)) = _
  rw [emb3]

theorem iblk4_apply (c : Dev nD) (t : Fin cfg0.N) (i : Fin 2048) (j : Fin 256) :
    iblk m c 4 t (ix2 i j) = V m c main_arg4 (ix2 i (col t j)) := by
  show V m c main_arg4 (((cfg0.win 4).blk t).view.emb (ix2 i j)) = _
  rw [emb4]

/-! ## What a block leaves -/

/-- A block's first result: the accumulator is cleared, then holds the one product. -/
theorem left5 (c : Dev nD) (t : Fin cfg0.N) :
    (outsAt0 m c t).1 = k0_pay1 (F := Ideal) (k0_pay7 (F := Ideal) (iblk m c 0 t) (k0_pay4 (F := Ideal)) (iblk m c 3 t)) := by
  unfold outsAt0
  dsimp only
  frame_out

theorem left6 (c : Dev nD) (t : Fin cfg0.N) :
    (outsAt0 m c t).2.1 = k0_pay2 (F := Ideal) (k0_pay8 (F := Ideal) (iblk m c 0 t) (k0_pay5 (F := Ideal)) (iblk m c 4 t)) := by
  unfold outsAt0
  dsimp only
  frame_out

theorem left7 (c : Dev nD) (t : Fin cfg0.N) :
    (outsAt0 m c t).2.2 = k0_pay3 (F := Ideal) (k0_pay9 (F := Ideal) (k0_pay6 (F := Ideal)) (iblk m c 2 t) (iblk m c 1 t)) := by
  unfold outsAt0
  dsimp only
  frame_out

/-! ## The arrays after the run -/

/-- The block of a row of a result. -/
abbrev blockOf (r : Fin 2816) : Fin cfg0.N := (⟨r.val / 256, by omega⟩ : Fin 11)

theorem col_blockOf (r : Fin 2816) : col (blockOf r) ⟨r.val % 256, by omega⟩ = r :=
  Fin.ext (by show r.val / 256 * 256 + r.val % 256 = r.val; omega)

/-- What a block writes back is its block of the reference's product. -/
theorem flushed5_eq (c : Dev nD) (t : Fin cfg0.N) :
    (dats m 0 c).flushed 5 t
      = ((cfg0.win 5).blk t).view.read (Elt Ideal) (wgrad (V m c main_arg3) (V m c main_arg0)) := by
  rw [Value.flushed5, left5]
  funext x
  obtain ⟨i, j, rfl⟩ : ∃ (i : Fin 256) (j : Fin 1024), x = ix2 i j := ⟨x 0, x 1, eq_ix2 x⟩
  show k0_pay1 (F := Ideal) (k0_pay7 (F := Ideal) (iblk m c 0 t) (k0_pay4 (F := Ideal)) (iblk m c 3 t)) (ix2 i j)
    = wgrad (V m c main_arg3) (V m c main_arg0) (((cfg0.win 5).blk t).view.emb (ix2 i j))
  rw [emb5, iblk0_eq]
  exact gate_apply _ _ _ t (iblk3_apply m c t) i j

/-- Every entry of the result lies in the block of its row. -/
theorem covered5 (x : S2816x1024.Idx) :
    ∃ t : Fin cfg0.N, (cfg0.win 5).flush t = true ∧ x ∈ ((cfg0.win 5).blk t).view.set := by
  obtain ⟨r, j, rfl⟩ : ∃ (r : Fin 2816) (j : Fin 1024), x = ix2 r j := ⟨x 0, x 1, eq_ix2 x⟩
  refine ⟨blockOf r, flush0_5 _, ?_⟩
  have h := ((cfg0.win 5).blk (blockOf r)).view.emb_mem_set (ix2 (⟨r.val % 256, by omega⟩ : Fin 256) j)
  rwa [emb5, col_blockOf] at h

/-- What a block writes back is its block of the reference's product. -/
theorem flushed6_eq (c : Dev nD) (t : Fin cfg0.N) :
    (dats m 0 c).flushed 6 t
      = ((cfg0.win 6).blk t).view.read (Elt Ideal) (wgrad (V m c main_arg4) (V m c main_arg0)) := by
  rw [Value.flushed6, left6]
  funext x
  obtain ⟨i, j, rfl⟩ : ∃ (i : Fin 256) (j : Fin 1024), x = ix2 i j := ⟨x 0, x 1, eq_ix2 x⟩
  show k0_pay2 (F := Ideal) (k0_pay8 (F := Ideal) (iblk m c 0 t) (k0_pay5 (F := Ideal)) (iblk m c 4 t)) (ix2 i j)
    = wgrad (V m c main_arg4) (V m c main_arg0) (((cfg0.win 6).blk t).view.emb (ix2 i j))
  rw [emb6, iblk0_eq]
  exact up_apply _ _ _ t (iblk4_apply m c t) i j

/-- Every entry of the result lies in the block of its row. -/
theorem covered6 (x : S2816x1024.Idx) :
    ∃ t : Fin cfg0.N, (cfg0.win 6).flush t = true ∧ x ∈ ((cfg0.win 6).blk t).view.set := by
  obtain ⟨r, j, rfl⟩ : ∃ (r : Fin 2816) (j : Fin 1024), x = ix2 r j := ⟨x 0, x 1, eq_ix2 x⟩
  refine ⟨blockOf r, flush0_6 _, ?_⟩
  have h := ((cfg0.win 6).blk (blockOf r)).view.emb_mem_set (ix2 (⟨r.val % 256, by omega⟩ : Fin 256) j)
  rwa [emb6, col_blockOf] at h

/-- What a block writes back is its block of the reference's product. -/
theorem flushed7_eq (c : Dev nD) (t : Fin cfg0.N) :
    (dats m 0 c).flushed 7 t
      = ((cfg0.win 7).blk t).view.read (Elt Ideal) (wgrad (V m c main_arg2) (V m c main_arg1)) := by
  rw [Value.flushed7, left7]
  funext x
  obtain ⟨i, j, rfl⟩ : ∃ (i : Fin 256) (j : Fin 1024), x = ix2 i j := ⟨x 0, x 1, eq_ix2 x⟩
  show k0_pay3 (F := Ideal) (k0_pay9 (F := Ideal) (k0_pay6 (F := Ideal)) (iblk m c 2 t) (iblk m c 1 t)) (ix2 i j)
    = wgrad (V m c main_arg2) (V m c main_arg1) (((cfg0.win 7).blk t).view.emb (ix2 i j))
  rw [emb7, iblk1_eq]
  exact down_apply _ _ _ t (iblk2_apply m c t) i j

/-- Every entry of the result lies in the block of its row. -/
theorem covered7 (x : S2816x1024.Idx) :
    ∃ t : Fin cfg0.N, (cfg0.win 7).flush t = true ∧ x ∈ ((cfg0.win 7).blk t).view.set := by
  obtain ⟨r, j, rfl⟩ : ∃ (r : Fin 2816) (j : Fin 1024), x = ix2 r j := ⟨x 0, x 1, eq_ix2 x⟩
  refine ⟨blockOf r, flush0_7 _, ?_⟩
  have h := ((cfg0.win 7).blk (blockOf r)).view.emb_mem_set (ix2 (⟨r.val % 256, by omega⟩ : Fin 256) j)
  rwa [emb7, col_blockOf] at h

/-- The run of the kernel with its results in the reference's terms. -/
theorem run_values :
    θ_run (defs (F := Ideal)) (onTc (τ := τ) (main (F := Ideal))) ⟨m, fun _ => 0, ρ⟩ fun r => ∀ c : Dev nD,
      r.2.mem ((c.tc : Thread nD τ).loc main_v0_0)
        = wgrad (m ((c.tc : Thread nD τ).loc main_arg3)) (m ((c.tc : Thread nD τ).loc main_arg0))
      ∧ r.2.mem ((c.tc : Thread nD τ).loc main_v0_1)
        = wgrad (m ((c.tc : Thread nD τ).loc main_arg4)) (m ((c.tc : Thread nD τ).loc main_arg0))
      ∧ r.2.mem ((c.tc : Thread nD τ).loc main_v0_2)
        = wgrad (m ((c.tc : Thread nD τ).loc main_arg2)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run (defs (F := Ideal)) _ _).mono (fun r h c => ?_) (Value.run_blocks m ρ)
  obtain ⟨h0, h1, h2, h3⟩ := h c
  exact ⟨h0.trans ((dats m 0 c).arrAt_eq_of_cover 5 (wgrad (V m c main_arg3) (V m c main_arg0))
      (fun t _ => flushed5_eq m c t) covered5),
    h1.trans ((dats m 0 c).arrAt_eq_of_cover 6 (wgrad (V m c main_arg4) (V m c main_arg0))
      (fun t _ => flushed6_eq m c t) covered6),
    h2.trans ((dats m 0 c).arrAt_eq_of_cover 7 (wgrad (V m c main_arg2) (V m c main_arg1))
      (fun t _ => flushed7_eq m c t) covered7), h3⟩

end Cert.FfnWIdeal.FfnW

end
-- ==== Proof.InProj.lean ====
/-
  The layer's input projection on one device, read at exact real arithmetic: the normalised rows and their product with the
  transposed weight. The kernel works through the rows in four tiles of 512; a row's results are read off that row alone, so what
  each tile writes is the tile of the reference's whole result.
-/
module

public import proofs.«01_k».proof.Proof.Gen.InProjIdeal.Value
public import proofs.«01_k».proof.Proof.Gen.InProjReferenceIdeal.Run
public import proofs.«01_k».proof.Proof.Blocks
public import Idealize.ShloMosaic.Lib.Pointwise

@[expose] public section

noncomputable section

namespace Cert.InProjReferenceIdeal.Terms

open Idealize.ShloMosaic Cert.InProjReferenceIdeal Cert.InProjReferenceIdeal.Facts₀

/-- The rows, each divided by its root mean square, times the gain. -/
abbrev norm (a0 : FVec Ideal S2048x1024 .f32) (a1 : FVec Ideal S1x1024 .f32) : FVec Ideal S2048x1024 .f32 :=
  mulf (mulf a0 (broadcastInDim S2048x1024 ![0, 1] bcast_S2048x1_S2048x1024_0_1 (Host.rsqrt (addf (Host.divf (broadcastInDim S2048x1 ![0] bcast_S2048_S2048x1_0 (Host.reduceAdd (mulf a0 a0) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 a1)

/-- The reference's first result. -/
abbrev normed (a0 : FVec Ideal S2048x1024 .f32) (a1 : FVec Ideal S1x1024 .f32) : FVec Ideal S2048x1024 .bf16 :=
  truncf .bf16 (norm a0 a1) bitsLt_bf16_f32

/-- The reference's second result. -/
abbrev proj (a0 : FVec Ideal S2048x1024 .f32) (a1 : FVec Ideal S1x1024 .f32) (a2 : FVec Ideal S1536x1024 .bf16) :
    FVec Ideal S2048x1536 .f32 :=
  Host.dotGeneral dot_S2048x1024_S1024x1536_S2048x1536_1_0_0_1_n_n none (norm a0 a1) (transpose S1024x1536 [1, 0] (extf .f32 a2 bitsLt_bf16_f32) transposes_S1536x1024_S1024x1536_1_0)

end Cert.InProjReferenceIdeal.Terms

namespace Cert.InProjIdeal.InProj

open Idealize.ShloMosaic Idealize.ShloMosaic.TcCoe Idealize.SL.Sem Cert.InProjIdeal Cert.InProjIdeal.Gen
open Idealize.ShloMosaic.Pipeline (Dat)
open Cert.InProjReferenceIdeal.Terms (norm normed proj)

/-! ## A tile's results -/

/-- Row `i` of tile `t`, as a row of the whole array. -/
abbrev row (t : Fin 4) (i : Fin 512) : Fin 2048 := ⟨t.val * 512 + i.val, by omega⟩

/-- A row of a tile's normalised rows is that row of the whole array's. -/
theorem normed_apply (x0 : FVec Ideal S512x1024 .f32) (a0 : FVec Ideal S2048x1024 .f32) (a1 : FVec Ideal S1x1024 .f32)
    (t : Fin 4) (hx : ∀ i j, x0 (ix2 i j) = a0 (ix2 (row t i) j)) (i : Fin 512) (j : Fin 1024) :
    k0_pay1 (F := Ideal) x0 a1 (ix2 i j) = norm a0 a1 (ix2 (row t i) j) := by
  pointwise [k0_pay1]
  simp only [hx]

/-- A row of a tile's projection is that row of the whole array's. -/
theorem proj_apply (x0 : FVec Ideal S512x1024 .f32) (a0 : FVec Ideal S2048x1024 .f32) (a1 : FVec Ideal S1x1024 .f32)
    (a2 : FVec Ideal S1536x1024 .bf16)
    (t : Fin 4) (hx : ∀ i j, x0 (ix2 i j) = a0 (ix2 (row t i) j)) (i : Fin 512) (j : Fin 1536) :
    k0_pay2 (F := Ideal) x0 a1 a2 (ix2 i j) = proj a0 a1 a2 (ix2 (row t i) j) := by
  have h := normed_apply x0 a0 a1 t hx i
  unfold k0_pay2 proj
  revert h
  generalize k0_pay1 (F := Ideal) x0 a1 = y
  generalize norm a0 a1 = z
  intro h
  pointwise
  simp only [h]

/-! ## The blocks of the windows -/

/-- The block indices of the five windows: the tile's number on the rows, zero elsewhere. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem emb0 (t : Fin cfg0.N) (i : Fin 512) (j : Fin 1024) : ((cfg0.win 0).blk t).view.emb (ix2 i j) = ix2 (row t i) j :=
  Blocks.at_block (B := 512) (C := 1024) ⟨(idx t).1, (idx t).2.1⟩ rfl rfl rfl (by simp)

theorem emb1 (t : Fin cfg0.N) (j : S1x1024.Idx) : ((cfg0.win 1).blk t).view.emb j = j :=
  Blocks.at_whole (B := 1) (C := 1024) ⟨(idx t).2.2.1, (idx t).2.2.2.1⟩ rfl rfl

theorem emb2 (t : Fin cfg0.N) (j : S1536x1024.Idx) : ((cfg0.win 2).blk t).view.emb j = j :=
  Blocks.at_whole (B := 1536) (C := 1024) ⟨(idx t).2.2.2.2.1, (idx t).2.2.2.2.2.1⟩ rfl rfl

theorem emb3 (t : Fin cfg0.N) (i : Fin 512) (j : Fin 1024) : ((cfg0.win 3).blk t).view.emb (ix2 i j) = ix2 (row t i) j :=
  Blocks.at_block (B := 512) (C := 1024) ⟨(idx t).2.2.2.2.2.2.1, (idx t).2.2.2.2.2.2.2.1⟩ rfl rfl rfl (by simp)

theorem emb4 (t : Fin cfg0.N) (i : Fin 512) (j : Fin 1536) : ((cfg0.win 4).blk t).view.emb (ix2 i j) = ix2 (row t i) j :=
  Blocks.at_block (B := 512) (C := 1536) (idx t).2.2.2.2.2.2.2.2 rfl rfl rfl (by simp)

variable (m : (ℓ : Loc nD τ sig) → Buf (Elt Ideal) ℓ) (ρ : Dev nD → PrngReg)

/-- The rows' block at a tile. -/
theorem iblk0_apply (c : Dev nD) (t : Fin cfg0.N) (i : Fin 512) (j : Fin 1024) :
    iblk m c 0 t (ix2 i j) = V m c main_arg0 (ix2 (row t i) j) := by
  show V m c main_arg0 (((cfg0.win 0).blk t).view.emb (ix2 i j)) = _
  rw [emb0]

theorem iblk1_eq (c : Dev nD) (t : Fin cfg0.N) : iblk m c 1 t = V m c main_arg1 := by
  funext j; show V m c main_arg1 (((cfg0.win 1).blk t).view.emb j) = V m c main_arg1 j; rw [emb1]

theorem iblk2_eq (c : Dev nD) (t : Fin cfg0.N) : iblk m c 2 t = V m c main_arg2 := by
  funext j; show V m c main_arg2 (((cfg0.win 2).blk t).view.emb j) = V m c main_arg2 j; rw [emb2]

/-! ## The arrays after the run -/

theorem hz : (![0, 0] : Fin 2 → Nat) = fun _ => 0 := funext fun a => by fin_cases a <;> rfl

/-- What a tile writes back to the first result is its block of the reference's. -/
theorem flushed3_eq (c : Dev nD) (t : Fin cfg0.N) :
    (dats m 0 c).flushed 3 t
      = ((cfg0.win 3).blk t).view.read (Elt Ideal) (normed (V m c main_arg0) (V m c main_arg1)) := by
  rw [Value.flushed3]
  funext x
  obtain ⟨i, j, rfl⟩ : ∃ (i : Fin 512) (j : Fin 1024), x = ix2 i j := ⟨x 0, x 1, eq_ix2 x⟩
  show out0_3 (iblk m c 0 t) (iblk m c 1 t) (iblk m c 2 t) (ix2 i j)
    = norm (V m c main_arg0) (V m c main_arg1) (((cfg0.win 3).blk t).view.emb (ix2 i j))
  rw [emb3, iblk1_eq]
  unfold out0_3
  rw [View.canon_unit_zero hz, View.ld_unit_zero (S := S512x1024) hz, View.ld_unit_zero (S := S1x1024) hz]
  exact normed_apply _ _ _ t (iblk0_apply m c t) i j

/-- What a tile writes back to the second result is its block of the reference's. -/
theorem flushed4_eq (c : Dev nD) (t : Fin cfg0.N) :
    (dats m 0 c).flushed 4 t
      = ((cfg0.win 4).blk t).view.read (Elt Ideal)
          (proj (V m c main_arg0) (V m c main_arg1) (V m c main_arg2)) := by
  rw [Value.flushed4]
  funext x
  obtain ⟨i, j, rfl⟩ : ∃ (i : Fin 512) (j : Fin 1536), x = ix2 i j := ⟨x 0, x 1, eq_ix2 x⟩
  show out0_4 (iblk m c 0 t) (iblk m c 1 t) (iblk m c 2 t) (ix2 i j)
    = proj (V m c main_arg0) (V m c main_arg1) (V m c main_arg2) (((cfg0.win 4).blk t).view.emb (ix2 i j))
  rw [emb4, iblk1_eq, iblk2_eq]
  unfold out0_4
  rw [View.canon_unit_zero hz, View.ld_unit_zero (S := S512x1024) hz, View.ld_unit_zero (S := S1x1024) hz,
    View.ld_unit_zero (S := S1536x1024) hz]
  exact proj_apply _ _ _ _ t (iblk0_apply m c t) i j

/-- The tile of a row. -/
abbrev tileOf (r : Fin 2048) : Fin cfg0.N := (⟨r.val / 512, by omega⟩ : Fin 4)

theorem row_tileOf (r : Fin 2048) : row (tileOf r) ⟨r.val % 512, by omega⟩ = r :=
  Fin.ext (by show r.val / 512 * 512 + r.val % 512 = r.val; omega)

/-- Every entry of the first result lies in the block of its row's tile. -/
theorem covered3 (x : S2048x1024.Idx) :
    ∃ t : Fin cfg0.N, (cfg0.win 3).flush t = true ∧ x ∈ ((cfg0.win 3).blk t).view.set := by
  obtain ⟨r, j, rfl⟩ : ∃ (r : Fin 2048) (j : Fin 1024), x = ix2 r j := ⟨x 0, x 1, eq_ix2 x⟩
  refine ⟨tileOf r, flush0_3 _, ?_⟩
  have h := ((cfg0.win 3).blk (tileOf r)).view.emb_mem_set (ix2 (⟨r.val % 512, by omega⟩ : Fin 512) j)
  rwa [emb3, row_tileOf] at h

/-- Every entry of the second result lies in the block of its row's tile. -/
theorem covered4 (x : S2048x1536.Idx) :
    ∃ t : Fin cfg0.N, (cfg0.win 4).flush t = true ∧ x ∈ ((cfg0.win 4).blk t).view.set := by
  obtain ⟨r, j, rfl⟩ : ∃ (r : Fin 2048) (j : Fin 1536), x = ix2 r j := ⟨x 0, x 1, eq_ix2 x⟩
  refine ⟨tileOf r, flush0_4 _, ?_⟩
  have h := ((cfg0.win 4).blk (tileOf r)).view.emb_mem_set (ix2 (⟨r.val % 512, by omega⟩ : Fin 512) j)
  rwa [emb4, row_tileOf] at h

/-- The run of the kernel with its results in the reference's terms. -/
theorem run_values :
    θ_run (defs (F := Ideal)) (onTc (τ := τ) (main (F := Ideal))) ⟨m, fun _ => 0, ρ⟩ fun r => ∀ c : Dev nD,
      r.2.mem ((c.tc : Thread nD τ).loc main_v0_0)
        = normed (m ((c.tc : Thread nD τ).loc main_arg0)) (m ((c.tc : Thread nD τ).loc main_arg1))
      ∧ r.2.mem ((c.tc : Thread nD τ).loc main_v0_1)
        = proj (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run (defs (F := Ideal)) _ _).mono (fun r h c => ?_) (Value.run_blocks m ρ)
  obtain ⟨h0, h1, h2⟩ := h c
  exact ⟨h0.trans ((dats m 0 c).arrAt_eq_of_cover 3 (normed (V m c main_arg0) (V m c main_arg1))
      (fun t _ => flushed3_eq m c t) covered3),
    h1.trans ((dats m 0 c).arrAt_eq_of_cover 4 (proj (V m c main_arg0) (V m c main_arg1) (V m c main_arg2))
      (fun t _ => flushed4_eq m c t) covered4), h2⟩

end Cert.InProjIdeal.InProj

end
-- ==== Proof.OutProj.lean ====
/-
  The layer's output projection on one device, read at exact real arithmetic: the input plus the three branches' results, side by
  side, times the weight. The kernel works through the rows in four tiles of 512 and adds the three branches' products one after
  another; the reference's one product sums over the three branches' columns at once.
-/
module

public import proofs.«01_k».proof.Proof.Gen.OutProjIdeal.Value
public import proofs.«01_k».proof.Proof.Gen.OutProjReferenceIdeal.Run
public import proofs.«01_k».proof.Proof.Blocks
public import Idealize.ShloMosaic.Lib.Pointwise

@[expose] public section

noncomputable section

namespace Cert.OutProjReferenceIdeal.Terms

open Idealize.ShloMosaic Cert.OutProjReferenceIdeal Cert.OutProjReferenceIdeal.Facts₀

/-- The reference's result. -/
abbrev out (a0 : FVec Ideal S2048x1024 .f32) (a1 : FVec Ideal S2048x512 .bf16) (a2 a3 : FVec Ideal S2048x256 .bf16)
    (a4 : FVec Ideal S1024x1024 .bf16) : FVec Ideal S2048x1024 .f32 :=
  addf a0 (Host.dotGeneral (φ₁ := .f32) (φ₂ := .f32) dot_S2048x1024_S1024x1024_S2048x1024_1_0_0_1_n_n none (extf .f32 ((concatenate S2048x1024 1 [⟨S2048x512, (a1 : (⟨S2048x512, .bf16⟩ : BufTy).Contents (Elt Ideal))⟩, ⟨S2048x256, (a2 : (⟨S2048x256, .bf16⟩ : BufTy).Contents (Elt Ideal))⟩, ⟨S2048x256, (a3 : (⟨S2048x256, .bf16⟩ : BufTy).Contents (Elt Ideal))⟩] concatenates_S2048x512_S2048x256_S2048x256_S2048x1024_d1 : (⟨S2048x1024, .bf16⟩ : BufTy).Contents (Elt Ideal))) bitsLt_bf16_f32) (extf .f32 a4 bitsLt_bf16_f32))

end Cert.OutProjReferenceIdeal.Terms

namespace Cert.OutProjIdeal.OutProj

open Idealize.ShloMosaic Idealize.ShloMosaic.TcCoe Idealize.SL.Sem Cert.OutProjIdeal Cert.OutProjIdeal.Gen
open Idealize.ShloMosaic.Pipeline (Dat)
open Cert.OutProjReferenceIdeal.Terms (out)

/-! ## A tile's result -/

/-- Row `i` of tile `t`, as a row of the whole array. -/
abbrev row (t : Fin 4) (i : Fin 512) : Fin 2048 := ⟨t.val * 512 + i.val, by omega⟩

/-- A sum over the 1024 columns, cut at columns 512 and 768. -/
theorem cut (f : Fin 1024 → EReal) : ∑ k, f k = ∑ k : Fin 512, f ⟨k.val, by omega⟩
    + (∑ k : Fin 256, f ⟨512 + k.val, by omega⟩ + ∑ k : Fin 256, f ⟨768 + k.val, by omega⟩) := by
  rw [Fin.sum_univ_two_halves 512 512 rfl f,
    Fin.sum_univ_two_halves 256 256 rfl (fun k : Fin 512 => f ⟨512 + k.val, by omega⟩)]
  refine congrArg₂ _ rfl (congrArg₂ _ rfl (Finset.sum_congr rfl fun k _ => congrArg f (Fin.ext ?_)))
  show 512 + (256 + k.val) = 768 + k.val
  omega

/-- A row of a tile's result is that row of the whole array's. -/
theorem out_apply (x0 : FVec Ideal S512x1024 .f32) (x1 : FVec Ideal S512x512 .bf16) (x2 x3 : FVec Ideal S512x256 .bf16)
    (a0 : FVec Ideal S2048x1024 .f32) (a1 : FVec Ideal S2048x512 .bf16) (a2 a3 : FVec Ideal S2048x256 .bf16)
    (a4 : FVec Ideal S1024x1024 .bf16) (t : Fin 4)
    (h0 : ∀ i j, x0 (ix2 i j) = a0 (ix2 (row t i) j)) (h1 : ∀ i j, x1 (ix2 i j) = a1 (ix2 (row t i) j))
    (h2 : ∀ i j, x2 (ix2 i j) = a2 (ix2 (row t i) j)) (h3 : ∀ i j, x3 (ix2 i j) = a3 (ix2 (row t i) j))
    (i : Fin 512) (j : Fin 1024) :
    k0_pay1 (F := Ideal) x0 x1 (View.ld a4 r0_2) x2 (View.ld a4 r0_4) x3 (View.ld a4 r0_5) (ix2 i j)
      = out a0 a1 a2 a3 a4 (ix2 (row t i) j) := by
  pointwise [k0_pay1]
  simp only [h0, h1, h2, h3, add_assoc]
  rw [cut]
  refine congrArg₂ _ rfl (congrArg₂ _ (Finset.sum_congr rfl fun k _ => ?_)
    (congrArg₂ _ (Finset.sum_congr rfl fun k _ => ?_) (Finset.sum_congr rfl fun k _ => ?_)))
  · rw [dif_pos (show k.val < 512 from k.isLt)]
  · rw [dif_neg (show ¬512 + k.val < 512 by omega), dif_pos (show 512 + k.val - 512 < 256 by omega)]
    refine congrArg₂ _ (congrArg a2 (congrArg (ix2 _) (Fin.ext ?_))) rfl
    show k.val = 512 + k.val - 512
    omega
  · rw [dif_neg (show ¬768 + k.val < 512 by omega), dif_neg (show ¬768 + k.val - 512 < 256 by omega)]
    refine congrArg₂ _ (congrArg a3 (congrArg (ix2 _) (Fin.ext ?_))) rfl
    show k.val = 768 + k.val - 512 - 256
    omega

/-! ## The blocks of the windows -/

/-- The block indices of the six windows: the tile's number on the rows, zero elsewhere. -/
theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

theorem emb0 (t : Fin cfg0.N) (i : Fin 512) (j : Fin 1024) : ((cfg0.win 0).blk t).view.emb (ix2 i j) = ix2 (row t i) j :=
  Blocks.at_block (B := 512) (C := 1024) (idx t).1 rfl rfl rfl (by simp)

theorem emb1 (t : Fin cfg0.N) (i : Fin 512) (j : Fin 512) : ((cfg0.win 1).blk t).view.emb (ix2 i j) = ix2 (row t i) j :=
  Blocks.at_block (B := 512) (C := 512) (idx t).2.1 rfl rfl rfl (by simp)

theorem emb2 (t : Fin cfg0.N) (i : Fin 512) (j : Fin 256) : ((cfg0.win 2).blk t).view.emb (ix2 i j) = ix2 (row t i) j :=
  Blocks.at_block (B := 512) (C := 256) (idx t).2.2.1 rfl rfl rfl (by simp)

theorem emb3 (t : Fin cfg0.N) (i : Fin 512) (j : Fin 256) : ((cfg0.win 3).blk t).view.emb (ix2 i j) = ix2 (row t i) j :=
  Blocks.at_block (B := 512) (C := 256) (idx t).2.2.2.1 rfl rfl rfl (by simp)

theorem emb5 (t : Fin cfg0.N) (i : Fin 512) (j : Fin 1024) : ((cfg0.win 5).blk t).view.emb (ix2 i j) = ix2 (row t i) j :=
  Blocks.at_block (B := 512) (C := 1024) (idx t).2.2.2.2.2 rfl rfl rfl (by simp)

theorem emb4 (t : Fin cfg0.N) (j : S1024x1024.Idx) : ((cfg0.win 4).blk t).view.emb j = j :=
  Blocks.at_whole (B := 1024) (C := 1024) (idx t).2.2.2.2.1 rfl rfl

variable (m : (ℓ : Loc nD τ sig) → Buf (Elt Ideal) ℓ) (ρ : Dev nD → PrngReg)

theorem iblk0_apply (c : Dev nD) (t : Fin cfg0.N) (i : Fin 512) (j : Fin 1024) :
    iblk m c 0 t (ix2 i j) = V m c main_arg0 (ix2 (row t i) j) := by
  show V m c main_arg0 (((cfg0.win 0).blk t).view.emb (ix2 i j)) = _
  rw [emb0]

theorem iblk1_apply (c : Dev nD) (t : Fin cfg0.N) (i : Fin 512) (j : Fin 512) :
    iblk m c 1 t (ix2 i j) = V m c main_arg1 (ix2 (row t i) j) := by
  show V m c main_arg1 (((cfg0.win 1).blk t).view.emb (ix2 i j)) = _
  rw [emb1]

theorem iblk2_apply (c : Dev nD) (t : Fin cfg0.N) (i : Fin 512) (j : Fin 256) :
    iblk m c 2 t (ix2 i j) = V m c main_arg2 (ix2 (row t i) j) := by
  show V m c main_arg2 (((cfg0.win 2).blk t).view.emb (ix2 i j)) = _
  rw [emb2]

theorem iblk3_apply (c : Dev nD) (t : Fin cfg0.N) (i : Fin 512) (j : Fin 256) :
    iblk m c 3 t (ix2 i j) = V m c main_arg3 (ix2 (row t i) j) := by
  show V m c main_arg3 (((cfg0.win 3).blk t).view.emb (ix2 i j)) = _
  rw [emb3]

theorem iblk4_eq (c : Dev nD) (t : Fin cfg0.N) : iblk m c 4 t = V m c main_arg4 := by
  funext j; show V m c main_arg4 (((cfg0.win 4).blk t).view.emb j) = V m c main_arg4 j; rw [emb4]

/-! ## The array after the run -/

theorem hz : (![0, 0] : Fin 2 → Nat) = fun _ => 0 := funext fun a => by fin_cases a <;> rfl

/-- The reference's result on a device's arguments. -/
abbrev outAt (c : Dev nD) : FVec Ideal Cert.OutProjReferenceIdeal.S2048x1024 .f32 :=
  out (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4))

/-- What a tile writes back is its block of the reference's result. -/
theorem flushed5_eq (c : Dev nD) (t : Fin cfg0.N) :
    (dats m 0 c).flushed 5 t = ((cfg0.win 5).blk t).view.read (Elt Ideal) (outAt m c) := by
  rw [Value.flushed5]
  funext x
  obtain ⟨i, j, rfl⟩ : ∃ (i : Fin 512) (j : Fin 1024), x = ix2 i j := ⟨x 0, x 1, eq_ix2 x⟩
  show out0_5 (iblk m c 0 t) (iblk m c 1 t) (iblk m c 2 t) (iblk m c 3 t) (iblk m c 4 t) (ix2 i j)
    = outAt m c (((cfg0.win 5).blk t).view.emb (ix2 i j))
  rw [emb5, iblk4_eq]
  unfold out0_5
  rw [View.canon_unit_zero hz, View.ld_unit_zero (S := S512x1024) hz, View.ld_unit_zero (S := S512x512) hz,
    View.ld_unit_zero (S := S512x256) hz, View.ld_unit_zero (S := S512x256) hz]
  exact out_apply _ _ _ _ _ _ _ _ _ t (iblk0_apply m c t) (iblk1_apply m c t) (iblk2_apply m c t) (iblk3_apply m c t) i j

/-- The tile of a row. -/
abbrev tileOf (r : Fin 2048) : Fin cfg0.N := (⟨r.val / 512, by omega⟩ : Fin 4)

theorem row_tileOf (r : Fin 2048) : row (tileOf r) ⟨r.val % 512, by omega⟩ = r :=
  Fin.ext (by show r.val / 512 * 512 + r.val % 512 = r.val; omega)

/-- Every entry of the result lies in the block of its row's tile. -/
theorem covered5 (x : S2048x1024.Idx) :
    ∃ t : Fin cfg0.N, (cfg0.win 5).flush t = true ∧ x ∈ ((cfg0.win 5).blk t).view.set := by
  obtain ⟨r, j, rfl⟩ : ∃ (r : Fin 2048) (j : Fin 1024), x = ix2 r j := ⟨x 0, x 1, eq_ix2 x⟩
  refine ⟨tileOf r, flush0_5 _, ?_⟩
  have h := ((cfg0.win 5).blk (tileOf r)).view.emb_mem_set (ix2 (⟨r.val % 512, by omega⟩ : Fin 512) j)
  rwa [emb5, row_tileOf] at h

/-- The run of the kernel with its result in the reference's terms. -/
theorem run_values :
    θ_run (defs (F := Ideal)) (onTc (τ := τ) (main (F := Ideal))) ⟨m, fun _ => 0, ρ⟩ fun r => ∀ c : Dev nD,
      r.2.mem ((c.tc : Thread nD τ).loc main_v0) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run (defs (F := Ideal)) _ _).mono (fun r h c => ?_) (Value.run_blocks m ρ)
  obtain ⟨h0, h1⟩ := h c
  exact ⟨h0.trans ((dats m 0 c).arrAt_eq_of_cover 5 (outAt m c) (fun t _ => flushed5_eq m c t) covered5), h1⟩

end Cert.OutProjIdeal.OutProj

end
-- ==== Proof.OutBwd.lean ====
/-
  The backward pass of the layer's output projection on one device, read at exact real arithmetic: the gradient of the
  concatenated inputs, and the gradient of the weight. The kernel works through the rows in four tiles of 512. A row of the first
  result is read off that row alone. The second is a sum over all 2048 rows: each tile adds its 512 rows' part to an accumulator
  held in three pieces, one for each of the three inputs, which the first tile clears and the last writes out.
-/
module

public import proofs.«01_k».proof.Proof.Gen.OutBwdIdeal.Value
public import proofs.«01_k».proof.Proof.Gen.OutBwdReferenceIdeal.Run
public import proofs.«01_k».proof.Proof.Blocks
public import Idealize.ShloMosaic.Lib.Pointwise
public import Idealize.ShloMosaic.Lib.Tactic
public import Idealize.ShloMosaic.Lib.Pipeline.ReadBack
public import Idealize.ShloMosaic.Lib.Pipeline.ValueKit

@[expose] public section

noncomputable section

namespace Cert.OutBwdReferenceIdeal.Terms

open Idealize.ShloMosaic Cert.OutBwdReferenceIdeal Cert.OutBwdReferenceIdeal.Facts₀

/-- The reference's first result. -/
abbrev dcat (a0 : FVec Ideal S2048x1024 .f32) (a4 : FVec Ideal S1024x1024 .bf16) : FVec Ideal S2048x1024 .f32 :=
  Host.dotGeneral dot_S2048x1024_S1024x1024_S2048x1024_1_0_0_1_n_n none a0 (transpose S1024x1024 [1, 0] (extf .f32 a4 bitsLt_bf16_f32) transposes_S1024x1024_S1024x1024_1_0)

/-- The reference's second result. -/
abbrev dweight (a0 : FVec Ideal S2048x1024 .f32) (a1 : FVec Ideal S2048x512 .bf16) (a2 a3 : FVec Ideal S2048x256 .bf16) :
    FVec Ideal S1024x1024 .bf16 :=
  truncf .bf16 (Host.dotGeneral dot_S1024x2048_S2048x1024_S1024x1024_1_0_0_1_n_n none (transpose S1024x2048 [1, 0] (extf .f32 ((concatenate S2048x1024 1 [⟨S2048x512, (a1 : (⟨S2048x512, .bf16⟩ : BufTy).Contents (Elt Ideal))⟩, ⟨S2048x256, (a2 : (⟨S2048x256, .bf16⟩ : BufTy).Contents (Elt Ideal))⟩, ⟨S2048x256, (a3 : (⟨S2048x256, .bf16⟩ : BufTy).Contents (Elt Ideal))⟩] concatenates_S2048x512_S2048x256_S2048x256_S2048x1024_d1 : (⟨S2048x1024, .bf16⟩ : BufTy).Contents (Elt Ideal))) bitsLt_bf16_f32) transposes_S2048x1024_S1024x2048_1_0) a0) bitsLt_bf16_f32

end Cert.OutBwdReferenceIdeal.Terms

namespace Cert.OutBwdIdeal.OutBwd

open Idealize.ShloMosaic Idealize.ShloMosaic.TcCoe Idealize.SL.Sem Cert.OutBwdIdeal Cert.OutBwdIdeal.Gen
open Idealize.ShloMosaic.Pipeline (Dat)
open Cert.OutBwdReferenceIdeal.Terms (dcat dweight)

/-! ## Rows and pieces -/

/-- Row `i` of tile `t`, as a row of the whole array. -/
abbrev row (t : Fin 4) (i : Fin 512) : Fin 2048 := ⟨t.val * 512 + i.val, by omega⟩

/-- The accumulator's rows: the first 512 for the first input, 256 each for the other two. -/
abbrev k1 (i : Fin 512) : Fin 1024 := ⟨i.val, by omega⟩
abbrev k2 (i : Fin 256) : Fin 1024 := ⟨512 + i.val, by omega⟩
abbrev k3 (i : Fin 256) : Fin 1024 := ⟨768 + i.val, by omega⟩

/-- Every row of the accumulator lies in one of the pieces. -/
theorem rows (P : Fin 1024 → Prop) (h1 : ∀ i, P (k1 i)) (h2 : ∀ i, P (k2 i)) (h3 : ∀ i, P (k3 i)) (k : Fin 1024) : P k := by
  by_cases hk : k.val < 512
  · exact h1 ⟨k.val, hk⟩
  · by_cases hk' : k.val < 768
    · have e : k = k2 ⟨k.val - 512, by omega⟩ := Fin.ext (by show k.val = 512 + (k.val - 512); omega)
      rw [e]; exact h2 _
    · have e : k = k3 ⟨k.val - 768, by omega⟩ := Fin.ext (by show k.val = 768 + (k.val - 768); omega)
      rw [e]; exact h3 _

abbrev r1 : Rect S1024x1024 := Rect.unit ![0, 0] ![512, 1024] inb_S1024x1024_S512x1024_0_0
abbrev r2 : Rect S1024x1024 := Rect.unit ![512, 0] ![256, 1024] inb_S1024x1024_S256x1024_512_0
abbrev r3 : Rect S1024x1024 := Rect.unit ![768, 0] ![256, 1024] inb_S1024x1024_S256x1024_768_0

theorem emb_r1 (i : Fin 512) (j : Fin 1024) : r1.idx (ix2 i j) = ix2 (k1 i) j := by
  funext a; apply Fin.ext
  match a with
  | ⟨0, _⟩ => show 0 + 1 * i.val = i.val; omega
  | ⟨1, _⟩ => show 0 + 1 * j.val = j.val; omega

theorem emb_r2 (i : Fin 256) (j : Fin 1024) : r2.idx (ix2 i j) = ix2 (k2 i) j := by
  funext a; apply Fin.ext
  match a with
  | ⟨0, _⟩ => show 512 + 1 * i.val = 512 + i.val; omega
  | ⟨1, _⟩ => show 0 + 1 * j.val = j.val; omega

theorem emb_r3 (i : Fin 256) (j : Fin 1024) : r3.idx (ix2 i j) = ix2 (k3 i) j := by
  funext a; apply Fin.ext
  match a with
  | ⟨0, _⟩ => show 768 + 1 * i.val = 768 + i.val; omega
  | ⟨1, _⟩ => show 0 + 1 * j.val = j.val; omega

section Pieces

variable (w3 : FVec Ideal S256x1024 .f32) (w2 : FVec Ideal S256x1024 .f32) (w1 : FVec Ideal S512x1024 .f32)
  (L : List (View.Piece (Elt Ideal) S1024x1024 .f32))

/-- What the three stores leave, whatever was there. -/
abbrev stored : FVec Ideal S1024x1024 .f32 := View.canon (Val := Elt Ideal) (e := .f32) (⟨r3, w3⟩ :: ⟨r2, w2⟩ :: ⟨r1, w1⟩ :: L)

theorem stored3 (i : Fin 256) (j : Fin 1024) : stored w3 w2 w1 L (ix2 (k3 i) j) = w3 (ix2 i j) := by
  rw [← emb_r3]
  exact View.canon_cons_emb r3 _ _ (ix2 i j)

theorem stored2 (i : Fin 256) (j : Fin 1024) : stored w3 w2 w1 L (ix2 (k2 i) j) = w2 (ix2 i j) := by
  refine (View.canon_cons_of_not_mem _ _ fun h => ?_).trans ?_
  · have := (Rect.mem_set_unit (inb := inb_S1024x1024_S256x1024_768_0) |>.mp h 0).1
    change 768 ≤ 512 + i.val at this
    omega
  rw [← emb_r2]
  exact View.canon_cons_emb r2 _ _ (ix2 i j)

theorem stored1 (i : Fin 512) (j : Fin 1024) : stored w3 w2 w1 L (ix2 (k1 i) j) = w1 (ix2 i j) := by
  refine (View.canon_cons_of_not_mem _ _ fun h => ?_).trans ((View.canon_cons_of_not_mem _ _ fun h => ?_).trans ?_)
  · have := (Rect.mem_set_unit (inb := inb_S1024x1024_S256x1024_768_0) |>.mp h 0).1
    change 768 ≤ i.val at this
    omega
  · have := (Rect.mem_set_unit (inb := inb_S1024x1024_S256x1024_512_0) |>.mp h 0).1
    change 512 ≤ i.val at this
    omega
  rw [← emb_r1]
  exact View.canon_cons_emb r1 _ _ (ix2 i j)

end Pieces

/-! ## A tile's part of the second result -/

section Part

variable (a0 : FVec Ideal S2048x1024 .f32) (a1 : FVec Ideal S2048x512 .bf16) (a2 a3 : FVec Ideal S2048x256 .bf16)

/-- `T` is `S` with tile `t`'s part added, piece by piece. -/
def Adds (t : Fin 4) (S T : FVec Ideal S1024x1024 .f32) : Prop :=
  (∀ (i : Fin 512) (j : Fin 1024), T (ix2 (k1 i) j) = S (ix2 (k1 i) j) + ∑ r : Fin 512, a1 (ix2 (row t r) i) * a0 (ix2 (row t r) j))
  ∧ (∀ (i : Fin 256) (j : Fin 1024), T (ix2 (k2 i) j) = S (ix2 (k2 i) j) + ∑ r : Fin 512, a2 (ix2 (row t r) i) * a0 (ix2 (row t r) j))
  ∧ (∀ (i : Fin 256) (j : Fin 1024), T (ix2 (k3 i) j) = S (ix2 (k3 i) j) + ∑ r : Fin 512, a3 (ix2 (row t r) i) * a0 (ix2 (row t r) j))

/-- The three stores of a tile add its part. -/
theorem adds (t : Fin 4) (S : FVec Ideal S1024x1024 .f32) (L : List (View.Piece (Elt Ideal) S1024x1024 .f32))
    (x0 : FVec Ideal S512x1024 .f32) (x1 : FVec Ideal S512x512 .bf16) (x2 x3 : FVec Ideal S512x256 .bf16)
    (h0 : ∀ i j, x0 (ix2 i j) = a0 (ix2 (row t i) j)) (h1 : ∀ i j, x1 (ix2 i j) = a1 (ix2 (row t i) j))
    (h2 : ∀ i j, x2 (ix2 i j) = a2 (ix2 (row t i) j)) (h3 : ∀ i j, x3 (ix2 i j) = a3 (ix2 (row t i) j)) :
    Adds a0 a1 a2 a3 t S (stored (k0_pay1 (F := Ideal) (k0_pay8 (F := Ideal) x0 (View.ld (Val := Elt Ideal) (e' := .f32) S r3) x3))
      (k0_pay7 (F := Ideal) x0 (View.ld (Val := Elt Ideal) (e' := .f32) S r2) x2)
      (k0_pay6 (F := Ideal) x0 (View.ld (Val := Elt Ideal) (e' := .f32) S r1) x1) L) := by
  have l1 : ∀ i j, View.ld (Val := Elt Ideal) (e' := .f32) S r1 (ix2 i j) = S (ix2 (k1 i) j) := fun i j => congrArg S (emb_r1 i j)
  have l2 : ∀ i j, View.ld (Val := Elt Ideal) (e' := .f32) S r2 (ix2 i j) = S (ix2 (k2 i) j) := fun i j => congrArg S (emb_r2 i j)
  have l3 : ∀ i j, View.ld (Val := Elt Ideal) (e' := .f32) S r3 (ix2 i j) = S (ix2 (k3 i) j) := fun i j => congrArg S (emb_r3 i j)
  refine ⟨fun i j => ?_, fun i j => ?_, fun i j => ?_⟩
  · rw [stored1, ← l1]
    generalize View.ld (Val := Elt Ideal) (e' := .f32) S r1 = y
    pointwise [k0_pay6, k0_pay4]
    simp only [h0, h1]
  · rw [stored2, ← l2]
    generalize View.ld (Val := Elt Ideal) (e' := .f32) S r2 = y
    pointwise [k0_pay7, k0_pay4]
    simp only [h0, h2]
  · rw [stored3, ← l3]
    generalize View.ld (Val := Elt Ideal) (e' := .f32) S r3 = y
    pointwise [k0_pay1, k0_pay8, k0_pay4]
    simp only [h0, h3]

/-- A sum over the 2048 rows, cut into the four tiles. -/
theorem cut (f : Fin 2048 → EReal) : ∑ r, f r
    = ∑ r : Fin 512, f (row 0 r) + ∑ r : Fin 512, f (row 1 r) + ∑ r : Fin 512, f (row 2 r) + ∑ r : Fin 512, f (row 3 r) := by
  rw [Fin.sum_univ_two_halves 1024 1024 rfl f,
    Fin.sum_univ_two_halves 512 512 rfl (fun k : Fin 1024 => f ⟨k.val, by omega⟩),
    Fin.sum_univ_two_halves 512 512 rfl (fun k : Fin 1024 => f ⟨1024 + k.val, by omega⟩), ← add_assoc]
  refine congrArg₂ _ (congrArg₂ _ (congrArg₂ _ ?_ ?_) ?_) ?_ <;>
    refine Finset.sum_congr rfl fun k _ => congrArg f (Fin.ext ?_)
  · show k.val = 0 * 512 + k.val; omega
  · show 512 + k.val = 1 * 512 + k.val; omega
  · show 1024 + k.val = 2 * 512 + k.val; omega
  · show 1024 + (512 + k.val) = 3 * 512 + k.val; omega

/-- Four parts added to zero make the reference's second result. -/
theorem whole (S0 S1 S2 S3 : FVec Ideal S1024x1024 .f32)
    (h0 : Adds a0 a1 a2 a3 0 (k0_pay3 (F := Ideal)) S0) (h1 : Adds a0 a1 a2 a3 1 S0 S1)
    (h2 : Adds a0 a1 a2 a3 2 S1 S2) (h3 : Adds a0 a1 a2 a3 3 S2 S3) :
    k0_pay2 (F := Ideal) S3 = dweight a0 a1 a2 a3 := by
  have z : ∀ k j, k0_pay3 (F := Ideal) (ix2 k j) = (0 : EReal) := fun k j => by pointwise! [k0_pay3]
  funext x
  obtain ⟨k, j, rfl⟩ : ∃ (k : Fin 1024) (j : Fin 1024), x = ix2 k j := ⟨x 0, x 1, eq_ix2 x⟩
  revert k
  refine rows _ (fun i => ?_) (fun i => ?_) (fun i => ?_)
  · refine Eq.trans (b := S3 (ix2 (k1 i) j)) (by pointwise [k0_pay2]) ?_
    rw [h3.1, h2.1, h1.1, h0.1, z, zero_add, ← cut (fun r => a1 (ix2 r i) * a0 (ix2 r j))]
    pointwise
  · refine Eq.trans (b := S3 (ix2 (k2 i) j)) (by pointwise [k0_pay2]) ?_
    rw [h3.2.1, h2.2.1, h1.2.1, h0.2.1, z, zero_add, ← cut (fun r => a2 (ix2 r i) * a0 (ix2 r j))]
    pointwise
  · refine Eq.trans (b := S3 (ix2 (k3 i) j)) (by pointwise [k0_pay2]) ?_
    rw [h3.2.2, h2.2.2, h1.2.2, h0.2.2, z, zero_add, ← cut (fun r => a3 (ix2 r i) * a0 (ix2 r j))]
    pointwise
    refine Finset.sum_congr rfl fun r _ => ?_
    rw [dif_neg (show ¬768 + i.val < 512 by omega), dif_neg (show ¬768 + i.val - 512 < 256 by omega)]
    refine congrArg₂ _ (congrArg a3 (congrArg (ix2 _) (Fin.ext ?_))) rfl
    show i.val = 768 + i.val - 512 - 256
    omega

end Part

/-- A row of a tile's first result is that row of the whole array's. -/
theorem dcat_apply (x0 : FVec Ideal S512x1024 .f32) (a0 : FVec Ideal S2048x1024 .f32) (a4 : FVec Ideal S1024x1024 .bf16)
    (t : Fin 4) (h0 : ∀ i j, x0 (ix2 i j) = a0 (ix2 (row t i) j)) (i : Fin 512) (j : Fin 1024) :
    k0_pay5 (F := Ideal) x0 a4 (ix2 i j) = dcat a0 a4 (ix2 (row t i) j) := by
  pointwise [k0_pay5, k0_pay4]
  simp only [h0]

/-! ## The blocks of the windows -/

/-- The block indices of the seven windows: the tile's number on the rows, zero elsewhere; the weight and its gradient are whole. -/
theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0) :=
  (by decide +kernel : ∀ t : Fin grid0.N, _)

theorem emb0 (t : Fin cfg0.N) (i : Fin 512) (j : Fin 1024) : ((cfg0.win 0).blk t).view.emb (ix2 i j) = ix2 (row t i) j :=
  Blocks.at_block (B := 512) (C := 1024) (idx t).1 rfl rfl rfl (by simp)

theorem emb1 (t : Fin cfg0.N) (i : Fin 512) (j : Fin 512) : ((cfg0.win 1).blk t).view.emb (ix2 i j) = ix2 (row t i) j :=
  Blocks.at_block (B := 512) (C := 512) (idx t).2.1 rfl rfl rfl (by simp)

theorem emb2 (t : Fin cfg0.N) (i : Fin 512) (j : Fin 256) : ((cfg0.win 2).blk t).view.emb (ix2 i j) = ix2 (row t i) j :=
  Blocks.at_block (B := 512) (C := 256) (idx t).2.2.1 rfl rfl rfl (by simp)

theorem emb3 (t : Fin cfg0.N) (i : Fin 512) (j : Fin 256) : ((cfg0.win 3).blk t).view.emb (ix2 i j) = ix2 (row t i) j :=
  Blocks.at_block (B := 512) (C := 256) (idx t).2.2.2.1 rfl rfl rfl (by simp)

theorem emb5 (t : Fin cfg0.N) (i : Fin 512) (j : Fin 1024) : ((cfg0.win 5).blk t).view.emb (ix2 i j) = ix2 (row t i) j :=
  Blocks.at_block (B := 512) (C := 1024) (idx t).2.2.2.2.2.1 rfl rfl rfl (by simp)

theorem emb4 (t : Fin cfg0.N) (j : S1024x1024.Idx) : ((cfg0.win 4).blk t).view.emb j = j :=
  Blocks.at_whole (B := 1024) (C := 1024) (idx t).2.2.2.2.1 rfl rfl

theorem emb6 (t : Fin cfg0.N) (j : S1024x1024.Idx) : ((cfg0.win 6).blk t).view.emb j = j :=
  Blocks.at_whole (B := 1024) (C := 1024) (idx t).2.2.2.2.2.2 rfl rfl

variable (m : (ℓ : Loc nD τ sig) → Buf (Elt Ideal) ℓ) (ρ : Dev nD → PrngReg)

theorem iblk0_apply (c : Dev nD) (t : Fin cfg0.N) (i : Fin 512) (j : Fin 1024) :
    iblk m c 0 t (ix2 i j) = V m c main_arg0 (ix2 (row t i) j) := by
  show V m c main_arg0 (((cfg0.win 0).blk t).view.emb (ix2 i j)) = _
  rw [emb0]

theorem iblk1_apply (c : Dev nD) (t : Fin cfg0.N) (i : Fin 512) (j : Fin 512) :
    iblk m c 1 t (ix2 i j) = V m c main_arg1 (ix2 (row t i) j) := by
  show V m c main_arg1 (((cfg0.win 1).blk t).view.emb (ix2 i j)) = _
  rw [emb1]

theorem iblk2_apply (c : Dev nD) (t : Fin cfg0.N) (i : Fin 512) (j : Fin 256) :
    iblk m c 2 t (ix2 i j) = V m c main_arg2 (ix2 (row t i) j) := by
  show V m c main_arg2 (((cfg0.win 2).blk t).view.emb (ix2 i j)) = _
  rw [emb2]

theorem iblk3_apply (c : Dev nD) (t : Fin cfg0.N) (i : Fin 512) (j : Fin 256) :
    iblk m c 3 t (ix2 i j) = V m c main_arg3 (ix2 (row t i) j) := by
  show V m c main_arg3 (((cfg0.win 3).blk t).view.emb (ix2 i j)) = _
  rw [emb3]

theorem iblk4_eq (c : Dev nD) (t : Fin cfg0.N) : iblk m c 4 t = V m c main_arg4 := by
  funext j; show V m c main_arg4 (((cfg0.win 4).blk t).view.emb j) = V m c main_arg4 j; rw [emb4]

/-! ## What a tile leaves -/

/-- The first result's block. -/
theorem left5 (c : Dev nD) (t : Fin cfg0.N) :
    (outsAt0 m c t.val t.isLt).1 = k0_pay5 (F := Ideal) (iblk m c 0 t) (iblk m c 4 t) := by
  by_cases h0 : t.val % 4 = 0
  · rw [outsAt0_A m c t h0 (by omega)]
    frame_out
  · by_cases h1 : t.val % 4 = 3
    · rw [outsAt0_C m c t h0 h1]
      frame_out
    · rw [outsAt0_B m c t h0 h1]
      frame_out

/-- `T` is `S` with tile `t`'s part of the second result added. -/
abbrev Step (c : Dev nD) (t : Fin 4) (S T : FVec Ideal S1024x1024 .f32) : Prop :=
  Adds (V m c main_arg0) (V m c main_arg1) (V m c main_arg2) (V m c main_arg3) t S T

/-- The first tile adds its part to zero. -/
theorem stepA (c : Dev nD) (t : Fin cfg0.N) (h0 : t.val % 4 = 0) (h1 : ¬t.val % 4 = 3) :
    Step m c t (k0_pay3 (F := Ideal)) (outsAt0 m c t.val t.isLt).2.2 := by
  rw [outsAt0_A m c t h0 h1]
  frame_out
  simp (disch := first | rfl | decide) only [↓View.readCov_skip, ↓View.readCov_fill]
  exact adds _ _ _ _ t (k0_pay3 (F := Ideal)) _ _ _ _ _ (iblk0_apply m c t) (iblk1_apply m c t) (iblk2_apply m c t) (iblk3_apply m c t)

/-- A later tile adds its part to what the tile before left. -/
theorem stepB (c : Dev nD) (t : Fin cfg0.N) (h0 : ¬t.val % 4 = 0) (h1 : ¬t.val % 4 = 3) :
    Step m c t (outsAt0 m c (t.val - 1) (by omega)).2.2 (outsAt0 m c t.val t.isLt).2.2 := by
  rw [outsAt0_B m c t h0 h1]
  frame_out
  simp only [read_unread_whole]
  exact adds _ _ _ _ t _ _ _ _ _ _ (iblk0_apply m c t) (iblk1_apply m c t) (iblk2_apply m c t) (iblk3_apply m c t)

/-- The last tile does so too, and its second result is the narrowed sum. -/
theorem stepC (c : Dev nD) (t : Fin cfg0.N) (h0 : ¬t.val % 4 = 0) (h1 : t.val % 4 = 3) :
    ∃ T, Step m c t (outsAt0 m c (t.val - 1) (by omega)).2.2 T ∧ (outsAt0 m c t.val t.isLt).2.1 = k0_pay2 (F := Ideal) T := by
  rw [outsAt0_C m c t h0 h1]
  frame_out
  simp only [read_unread_whole]
  refine ⟨_, adds _ _ _ _ t (outsAt0 m c (t.val - 1) (by omega)).2.2 [] _ _ _ _ (iblk0_apply m c t) (iblk1_apply m c t) (iblk2_apply m c t) (iblk3_apply m c t), ?_⟩
  rw [View.readCov_eq_canon']
  refine congrArg (k0_pay2 (F := Ideal)) (funext fun x => congrArg _ ?_)
  funext a; apply Fin.ext
  match a with
  | ⟨0, _⟩ => show 0 + 1 * (x 0).val = (x 0).val; omega
  | ⟨1, _⟩ => show 0 + 1 * (x 1).val = (x 1).val; omega

/-- The accumulator after tile `n`. -/
def scr (c : Dev nD) (n : ℕ) (hn : n < cfg0.N) : FVec Ideal S1024x1024 .f32 := (outsAt0 m c n hn).2.2

theorem step0 (c : Dev nD) (h : 0 < cfg0.N) : Step m c ⟨0, by decide⟩ (k0_pay3 (F := Ideal)) (scr m c 0 h) :=
  stepA m c ⟨0, h⟩ rfl (by show ¬(0 % 4 = 3); decide)

theorem stepS (c : Dev nD) (n : ℕ) (h : n + 1 < cfg0.N) (h3 : n + 1 < 3) :
    Step m c ⟨n + 1, by omega⟩ (scr m c n (Nat.lt_of_succ_lt h)) (scr m c (n + 1) h) :=
  stepB m c ⟨n + 1, h⟩ (by show ¬(n + 1) % 4 = 0; omega) (by show ¬(n + 1) % 4 = 3; omega)

theorem stepL (c : Dev nD) (h : 2 + 1 < cfg0.N) :
    ∃ T, Step m c ⟨2 + 1, by decide⟩ (scr m c 2 (Nat.lt_of_succ_lt h)) T ∧ (outsAt0 m c (2 + 1) h).2.1 = k0_pay2 (F := Ideal) T :=
  stepC m c ⟨2 + 1, h⟩ (by show ¬((2 + 1) % 4 = 0); decide) rfl

/-- The second result after the last tile. -/
theorem left6 (c : Dev nD) (h : 2 + 1 < cfg0.N) :
    (outsAt0 m c (2 + 1) h).2.1 = dweight (V m c main_arg0) (V m c main_arg1) (V m c main_arg2) (V m c main_arg3) := by
  obtain ⟨T, h3, e⟩ := stepL m c h
  rw [e]
  exact whole _ _ _ _ _ _ _ _ (step0 m c (by omega)) (stepS m c 0 (by omega) (by decide)) (stepS m c 1 (by omega) (by decide)) h3

/-! ## The arrays after the run -/

/-- What a tile writes back to the first result is its block of the reference's. -/
theorem flushed5_eq (c : Dev nD) (t : Fin cfg0.N) :
    (dats m 0 c).flushed 5 t
      = ((cfg0.win 5).blk t).view.read (Elt Ideal) (dcat (V m c main_arg0) (V m c main_arg4)) := by
  rw [Value.flushed5, left5]
  funext x
  obtain ⟨i, j, rfl⟩ : ∃ (i : Fin 512) (j : Fin 1024), x = ix2 i j := ⟨x 0, x 1, eq_ix2 x⟩
  show k0_pay5 (F := Ideal) (iblk m c 0 t) (iblk m c 4 t) (ix2 i j)
    = dcat (V m c main_arg0) (V m c main_arg4) (((cfg0.win 5).blk t).view.emb (ix2 i j))
  rw [emb5, iblk4_eq]
  exact dcat_apply _ _ _ t (iblk0_apply m c t) i j

/-- What the last tile writes back to the second result is the reference's. -/
theorem flushed6_eq (c : Dev nD) (t : Fin cfg0.N) (hf : (cfg0.win 6).flush t = true) :
    (dats m 0 c).flushed 6 t
      = ((cfg0.win 6).blk t).view.read (Elt Ideal)
          (dweight (V m c main_arg0) (V m c main_arg1) (V m c main_arg2) (V m c main_arg3)) := by
  have h3 := (flush0_6 t).mp hf
  have h4 : t.val < 4 := lt_of_lt_of_eq t.isLt N_0
  obtain ⟨n, hn⟩ := t
  obtain rfl : n = 2 + 1 := by
    change n % 4 = 3 at h3
    change n < 4 at h4
    omega
  rw [Value.flushed6]
  show (cfg0.win 6).cut (grid0.coords ⟨2 + 1, hn⟩) (outsAt0 m c (2 + 1) hn).2.1 = _
  rw [left6 m c hn]
  funext x
  show dweight (V m c main_arg0) (V m c main_arg1) (V m c main_arg2) (V m c main_arg3) x
    = dweight (V m c main_arg0) (V m c main_arg1) (V m c main_arg2) (V m c main_arg3) (((cfg0.win 6).blk ⟨2 + 1, hn⟩).view.emb x)
  rw [emb6]

/-- The tile of a row. -/
abbrev tileOf (r : Fin 2048) : Fin cfg0.N := (⟨r.val / 512, by omega⟩ : Fin 4)

theorem row_tileOf (r : Fin 2048) : row (tileOf r) ⟨r.val % 512, by omega⟩ = r :=
  Fin.ext (by show r.val / 512 * 512 + r.val % 512 = r.val; omega)

/-- The last tile. -/
abbrev lastTile : Fin cfg0.N := (3 : Fin 4)

/-- Every entry of the first result lies in the block of its row's tile. -/
theorem covered5 (x : S2048x1024.Idx) :
    ∃ t : Fin cfg0.N, (cfg0.win 5).flush t = true ∧ x ∈ ((cfg0.win 5).blk t).view.set := by
  obtain ⟨r, j, rfl⟩ : ∃ (r : Fin 2048) (j : Fin 1024), x = ix2 r j := ⟨x 0, x 1, eq_ix2 x⟩
  refine ⟨tileOf r, flush0_5 _, ?_⟩
  have h := ((cfg0.win 5).blk (tileOf r)).view.emb_mem_set (ix2 (⟨r.val % 512, by omega⟩ : Fin 512) j)
  rwa [emb5, row_tileOf] at h

/-- The last tile's block is the whole second result. -/
theorem covered6 (x : S1024x1024.Idx) :
    ∃ t : Fin cfg0.N, (cfg0.win 6).flush t = true ∧ x ∈ ((cfg0.win 6).blk t).view.set := by
  refine ⟨lastTile, (flush0_6 _).mpr rfl, ?_⟩
  have h := ((cfg0.win 6).blk lastTile).view.emb_mem_set x
  rwa [emb6] at h

/-- The run of the kernel with its results in the reference's terms. -/
theorem run_values :
    θ_run (defs (F := Ideal)) (onTc (τ := τ) (main (F := Ideal))) ⟨m, fun _ => 0, ρ⟩ fun r => ∀ c : Dev nD,
      r.2.mem ((c.tc : Thread nD τ).loc main_v0_0)
        = dcat (m ((c.tc : Thread nD τ).loc main_arg0)) (m ((c.tc : Thread nD τ).loc main_arg4))
      ∧ r.2.mem ((c.tc : Thread nD τ).loc main_v0_1)
        = dweight (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run (defs (F := Ideal)) _ _).mono (fun r h c => ?_) (Value.run m ρ)
  obtain ⟨h0, h1, h2⟩ := h c
  exact ⟨h0.trans ((Value.final5 m c).symm.trans ((dats m 0 c).arrAt_eq_of_cover 5 (dcat (V m c main_arg0) (V m c main_arg4))
      (fun t _ => flushed5_eq m c t) covered5)),
    h1.trans ((Value.final6 m c).symm.trans ((dats m 0 c).arrAt_eq_of_cover 6
      (dweight (V m c main_arg0) (V m c main_arg1) (V m c main_arg2) (V m c main_arg3))
      (fun t hf => flushed6_eq m c t hf) covered6)), h2⟩

end Cert.OutBwdIdeal.OutBwd

end
-- ==== Proof.MemKv.lean ====
/-
  The memory's keys and values on one device, read at exact real arithmetic: the normalised memory and its product with the
  key-value weight. The kernel's one block is the whole of each array, so each result is one expression of the arguments, and it
  equals the reference's index by index.
-/
module

public import proofs.«01_k».proof.Proof.Gen.MemKvIdeal.Value
public import proofs.«01_k».proof.Proof.Gen.MemKvReferenceIdeal.Run
public import Idealize.ShloMosaic.Lib.Pointwise

@[expose] public section

noncomputable section

namespace Cert.MemKvReferenceIdeal.Terms

open Idealize.ShloMosaic Cert.MemKvReferenceIdeal Cert.MemKvReferenceIdeal.Facts₀

/-- The memory, each row divided by its root mean square, times the gain. -/
abbrev norm (a0 : FVec Ideal S256x1024 .f32) (a1 : FVec Ideal S1x1024 .f32) : FVec Ideal S256x1024 .f32 :=
  mulf (mulf a0 (broadcastInDim S256x1024 ![0, 1] bcast_S256x1_S256x1024_0_1 (Host.rsqrt (addf (Host.divf (broadcastInDim S256x1 ![0] bcast_S256_S256x1_0 (Host.reduceAdd (mulf a0 a0) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (broadcastInDim S256x1024 ![0, 1] bcast_S1x1024_S256x1024_0_1 a1)

/-- The reference's first result. -/
abbrev normed (a0 : FVec Ideal S256x1024 .f32) (a1 : FVec Ideal S1x1024 .f32) : FVec Ideal S256x1024 .bf16 :=
  truncf .bf16 (norm a0 a1) bitsLt_bf16_f32

/-- The reference's second result. -/
abbrev keyval (a0 : FVec Ideal S256x1024 .f32) (a1 : FVec Ideal S1x1024 .f32) (a2 : FVec Ideal S1024x512 .bf16) :
    FVec Ideal S256x512 .f32 :=
  Host.dotGeneral dot_S256x1024_S1024x512_S256x512_1_0_0_1_n_n none (norm a0 a1) (extf .f32 a2 bitsLt_bf16_f32)

end Cert.MemKvReferenceIdeal.Terms

namespace Cert.MemKvIdeal.MemKv

open Idealize.ShloMosaic Idealize.SL.Sem Cert.MemKvIdeal Cert.MemKvIdeal.Gen
open Cert.MemKvReferenceIdeal.Terms (norm normed keyval)

/-- The normalised memory at an entry. -/
theorem norm_apply (a0 : FVec Ideal S256x1024 .f32) (a1 : FVec Ideal S1x1024 .f32) (i : Fin 256) (j : Fin 1024) :
    k0_pay1 (F := Ideal) a0 a1 (ix2 i j) = norm a0 a1 (ix2 i j) := by
  pointwise! [k0_pay1]

/-- The kernel's normalised memory is the reference's. -/
theorem norm_eq (a0 : FVec Ideal S256x1024 .f32) (a1 : FVec Ideal S1x1024 .f32) :
    k0_pay1 (F := Ideal) a0 a1 = normed a0 a1 := by
  funext x
  rw [eq_ix2 x]
  exact norm_apply a0 a1 (x 0) (x 1)

/-- The kernel's keys and values are the reference's: both sum the same products. -/
theorem keyval_eq (a0 : FVec Ideal S256x1024 .f32) (a1 : FVec Ideal S1x1024 .f32) (a2 : FVec Ideal S1024x512 .bf16) :
    k0_pay2 (F := Ideal) a0 a1 a2 = keyval a0 a1 a2 := by
  funext x
  idx_vars x
  unfold k0_pay2
  rw [norm_eq]
  generalize norm a0 a1 = w
  pointwise!

/-- The run of the kernel with its results in the reference's terms. -/
theorem run_values (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0)
        = normed (m ((c.tc : Thread nD τ).loc main_arg0)) (m ((c.tc : Thread nD τ).loc main_arg1))
      ∧ r.2.mem ((c.tc : Thread nD τ).loc main_v0_1)
        = keyval (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run (defs (F := Ideal)) _ _).mono (fun r h c => ?_) (Value.run m ρ)
  obtain ⟨h0, h1, h2⟩ := h c
  exact ⟨h0.trans (norm_eq _ _), h1.trans (keyval_eq _ _ _), h2⟩

end Cert.MemKvIdeal.MemKv

end
-- ==== Proof.KvBwd.lean ====
/-
  The backward pass of the memory's keys and values on one device, read at exact real arithmetic: the gradient of the key-value
  weight and of the normalisation's gain. The kernel's one block is the whole of each array, so each result is one expression of
  the arguments, and it equals the reference's index by index.
-/
module

public import proofs.«01_k».proof.Proof.Gen.KvBwdIdeal.Value
public import proofs.«01_k».proof.Proof.Gen.KvBwdReferenceIdeal.Run
public import Idealize.ShloMosaic.Lib.Pointwise

@[expose] public section

noncomputable section

namespace Cert.KvBwdReferenceIdeal.Terms

open Idealize.ShloMosaic Cert.KvBwdReferenceIdeal Cert.KvBwdReferenceIdeal.Facts₀

/-- The reference's gradient of the weight. -/
abbrev dweight (a2 : FVec Ideal S256x1024 .bf16) (a4 : FVec Ideal S256x512 .f32) : FVec Ideal S1024x512 .bf16 :=
  truncf .bf16 (Host.dotGeneral dot_S1024x256_S256x512_S1024x512_1_0_0_1_n_n none (transpose S1024x256 [1, 0] (extf .f32 a2 bitsLt_bf16_f32) transposes_S256x1024_S1024x256_1_0) a4) bitsLt_bf16_f32

/-- The reference's gradient of the gain. -/
abbrev dgain (a0 : FVec Ideal S256x1024 .f32) (a3 : FVec Ideal S1024x512 .bf16) (a4 : FVec Ideal S256x512 .f32) :
    FVec Ideal S1x1024 .f32 :=
  broadcastInDim S1x1024 ![1] bcast_S1024_S1x1024_1 (Host.reduceAdd (mulf (mulf (Host.dotGeneral dot_S256x512_S512x1024_S256x1024_1_0_0_1_n_n none a4 (transpose S512x1024 [1, 0] (extf .f32 a3 bitsLt_bf16_f32) transposes_S1024x512_S512x1024_1_0)) a0) (broadcastInDim S256x1024 ![0, 1] bcast_S256x1_S256x1024_0_1 (Host.rsqrt (addf (Host.divf (broadcastInDim S256x1 ![0] bcast_S256_S256x1_0 (Host.reduceAdd (mulf a0 a0) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (constant S_ .f32 0x00000000#32) reducesTo_S256x1024_S1024_d0 h_S_)

end Cert.KvBwdReferenceIdeal.Terms

namespace Cert.KvBwdIdeal.KvBwd

open Idealize.ShloMosaic Idealize.SL.Sem Cert.KvBwdIdeal Cert.KvBwdIdeal.Gen
open Cert.KvBwdReferenceIdeal.Terms (dweight dgain)

/-- The kernel's gradient of the weight is the reference's: both sum the same products over the rows. -/
theorem dweight_eq (a2 : FVec Ideal S256x1024 .bf16) (a4 : FVec Ideal S256x512 .f32) :
    k0_pay2 (F := Ideal) a4 a2 = dweight a2 a4 := by
  funext x
  idx_vars x
  pointwise! [k0_pay2, k0_pay1]

/-- The kernel's gradient of the gain is the reference's. -/
theorem dgain_eq (a0 : FVec Ideal S256x1024 .f32) (a3 : FVec Ideal S1024x512 .bf16) (a4 : FVec Ideal S256x512 .f32) :
    k0_pay3 (F := Ideal) a4 a0 a3 = dgain a0 a3 a4 := by
  funext x
  idx_vars x
  pointwise! [k0_pay3, k0_pay1]

/-- The run of the kernel with its results in the reference's terms. -/
theorem run_values (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0)
        = dweight (m ((c.tc : Thread nD τ).loc main_arg2)) (m ((c.tc : Thread nD τ).loc main_arg4))
      ∧ r.2.mem ((c.tc : Thread nD τ).loc main_v0_1)
        = dgain (m ((c.tc : Thread nD τ).loc main_arg0)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run (defs (F := Ideal)) _ _).mono (fun r h c => ?_) (Value.run m ρ)
  obtain ⟨h0, h1, h2⟩ := h c
  exact ⟨h0.trans (dweight_eq _ _), h1.trans (dgain_eq _ _ _), h2⟩

end Cert.KvBwdIdeal.KvBwd

end
-- ==== Proof.InBwd.lean ====
/-
  The backward pass of the layer's input projection on one device, read at exact real arithmetic: the gradient of the layer's
  input, that of the normalisation's gain, and that of the weight. The kernel works through the rows in four tiles of 512. A row of
  the first result is read off that row alone; the product inside it is taken in five pieces, one for each group of the
  projection's columns. The other two are sums over all 2048 rows: each tile adds its 512 rows' part, to the gain's gradient
  itself and to an accumulator held in five pieces, which the first tile clears and the last writes out.
-/
module

public import proofs.«01_k».proof.Proof.Gen.InBwdIdeal.Value
public import proofs.«01_k».proof.Proof.Gen.InBwdReferenceIdeal.Run
public import proofs.«01_k».proof.Proof.Blocks
public import Idealize.ShloMosaic.Lib.Pointwise
public import Idealize.ShloMosaic.Lib.Tactic
public import Idealize.ShloMosaic.Lib.Pipeline.ReadBack
public import Idealize.ShloMosaic.Lib.Pipeline.ValueKit

@[expose] public section

noncomputable section

namespace Cert.InBwdReferenceIdeal.Terms

open Idealize.ShloMosaic Cert.InBwdReferenceIdeal Cert.InBwdReferenceIdeal.Facts₀

/-- The five groups' gradients side by side. -/
abbrev cat (a0 : FVec Ideal S2048x512 .bf16) (a1 a2 : FVec Ideal S2048x128 .bf16) (a3 : FVec Ideal S2048x512 .bf16)
    (a4 : FVec Ideal S2048x256 .bf16) : FVec Ideal S2048x1536 .f32 :=
  extf .f32 ((concatenate S2048x1536 1 [⟨S2048x512, (a0 : (⟨S2048x512, .bf16⟩ : BufTy).Contents (Elt Ideal))⟩, ⟨S2048x128, (a1 : (⟨S2048x128, .bf16⟩ : BufTy).Contents (Elt Ideal))⟩, ⟨S2048x128, (a2 : (⟨S2048x128, .bf16⟩ : BufTy).Contents (Elt Ideal))⟩, ⟨S2048x512, (a3 : (⟨S2048x512, .bf16⟩ : BufTy).Contents (Elt Ideal))⟩, ⟨S2048x256, (a4 : (⟨S2048x256, .bf16⟩ : BufTy).Contents (Elt Ideal))⟩] concatenates_S2048x512_S2048x128_S2048x128_S2048x512_S2048x256_S2048x1536_d1 : (⟨S2048x1536, .bf16⟩ : BufTy).Contents (Elt Ideal))) bitsLt_bf16_f32

/-- The gradient of the normalised rows. -/
abbrev dh (p : FVec Ideal S2048x1536 .f32) (a5 : FVec Ideal S1536x1024 .bf16) : FVec Ideal S2048x1024 .f32 :=
  Host.dotGeneral (φ₁ := .f32) (φ₂ := .f32) dot_S2048x1536_S1536x1024_S2048x1024_1_0_0_1_n_n none p (extf .f32 a5 bitsLt_bf16_f32)

/-- One over the root mean square of each row. -/
abbrev rms (a7 : FVec Ideal S2048x1024 .f32) : FVec Ideal S2048x1 .f32 :=
  Host.rsqrt (addf (Host.divf (broadcastInDim S2048x1 ![0] bcast_S2048_S2048x1_0 (Host.reduceAdd (mulf a7 a7) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))

/-- The reference's first result, given the gradient `d` of the normalised rows. -/
abbrev dinput (d a7 : FVec Ideal S2048x1024 .f32) (a8 : FVec Ideal S1x1024 .f32) (a9 : FVec Ideal S2048x1024 .f32) :
    FVec Ideal S2048x1024 .f32 :=
  addf a9 (subf (mulf (broadcastInDim S2048x1024 ![0, 1] bcast_S2048x1_S2048x1024_0_1 (rms a7)) (mulf d (broadcastInDim S2048x1024 ![0, 1] bcast_S1x1024_S2048x1024_0_1 a8))) (mulf (mulf a7 (broadcastInDim S2048x1024 ![0, 1] bcast_S2048x1_S2048x1024_0_1 (mulf (mulf (rms a7) (rms a7)) (rms a7)))) (broadcastInDim S2048x1024 ![0, 1] bcast_S2048x1_S2048x1024_0_1 (Host.divf (broadcastInDim S2048x1 ![0] bcast_S2048_S2048x1_0 (Host.reduceAdd (mulf (mulf d (broadcastInDim S2048x1024 ![0, 1] bcast_S1x1024_S2048x1024_0_1 a8)) a7) (constant S_ .f32 0x00000000#32) reducesTo_S2048x1024_S2048_d1 h_S_)) (broadcastInDim S2048x1 ![] bcast_S_S2048x1 (constant S_ .f32 0x44800000#32))))))

/-- What the second result sums over the rows. -/
abbrev gains (d a7 : FVec Ideal S2048x1024 .f32) : FVec Ideal S2048x1024 .f32 :=
  mulf (mulf d a7) (broadcastInDim S2048x1024 ![0, 1] bcast_S2048x1_S2048x1024_0_1 (rms a7))

/-- The reference's second result. -/
abbrev dgain (d a7 : FVec Ideal S2048x1024 .f32) : FVec Ideal S1x1024 .f32 :=
  broadcastInDim S1x1024 ![1] bcast_S1024_S1x1024_1 (Host.reduceAdd (gains d a7) (constant S_ .f32 0x00000000#32) reducesTo_S2048x1024_S1024_d0 h_S_)

/-- The reference's third result. -/
abbrev dweight (p : FVec Ideal S2048x1536 .f32) (a6 : FVec Ideal S2048x1024 .bf16) : FVec Ideal S1536x1024 .bf16 :=
  truncf .bf16 (Host.dotGeneral (φ₁ := .f32) (φ₂ := .f32) dot_S1536x2048_S2048x1024_S1536x1024_1_0_0_1_n_n none (transpose S1536x2048 [1, 0] p transposes_S2048x1536_S1536x2048_1_0) (extf .f32 a6 bitsLt_bf16_f32)) bitsLt_bf16_f32

end Cert.InBwdReferenceIdeal.Terms

namespace Cert.InBwdIdeal.InBwd

open Idealize.ShloMosaic Idealize.ShloMosaic.TcCoe Idealize.SL.Sem Cert.InBwdIdeal Cert.InBwdIdeal.Gen
open Idealize.ShloMosaic.Pipeline (Dat)
open Cert.InBwdReferenceIdeal.Terms (cat dh rms dinput gains dgain dweight)

/-! ## Rows and pieces -/

/-- Row `i` of tile `t`, as a row of the whole array. -/
abbrev row (t : Fin 4) (i : Fin 512) : Fin 2048 := ⟨t.val * 512 + i.val, by omega⟩

/-- The five groups, as ranges of the projection's 1536 columns. -/
abbrev k1 (i : Fin 512) : Fin 1536 := ⟨i.val, by omega⟩
abbrev k2 (i : Fin 128) : Fin 1536 := ⟨512 + i.val, by omega⟩
abbrev k3 (i : Fin 128) : Fin 1536 := ⟨640 + i.val, by omega⟩
abbrev k4 (i : Fin 512) : Fin 1536 := ⟨768 + i.val, by omega⟩
abbrev k5 (i : Fin 256) : Fin 1536 := ⟨1280 + i.val, by omega⟩

/-- Every column lies in one of the groups. -/
theorem groups (P : Fin 1536 → Prop) (h1 : ∀ i, P (k1 i)) (h2 : ∀ i, P (k2 i)) (h3 : ∀ i, P (k3 i)) (h4 : ∀ i, P (k4 i)) (h5 : ∀ i, P (k5 i)) (k : Fin 1536) : P k := by
  by_cases c1 : k.val < 512
  · exact h1 ⟨k.val, c1⟩
  by_cases c2 : k.val < 640
  · have e : k = k2 ⟨k.val - 512, by omega⟩ := Fin.ext (by show k.val = 512 + (k.val - 512); omega)
    rw [e]; exact h2 _
  by_cases c3 : k.val < 768
  · have e : k = k3 ⟨k.val - 640, by omega⟩ := Fin.ext (by show k.val = 640 + (k.val - 640); omega)
    rw [e]; exact h3 _
  by_cases c4 : k.val < 1280
  · have e : k = k4 ⟨k.val - 768, by omega⟩ := Fin.ext (by show k.val = 768 + (k.val - 768); omega)
    rw [e]; exact h4 _
  have e : k = k5 ⟨k.val - 1280, by omega⟩ := Fin.ext (by show k.val = 1280 + (k.val - 1280); omega)
  rw [e]; exact h5 _

/-- A sum over the columns, cut into the groups. -/
theorem cutCols (f : Fin 1536 → EReal) : ∑ k, f k
    = ∑ i, f (k1 i) + ∑ i, f (k2 i) + ∑ i, f (k3 i) + ∑ i, f (k4 i) + ∑ i, f (k5 i) := by
  rw [Fin.sum_univ_two_halves 1280 256 rfl f,
    Fin.sum_univ_two_halves 768 512 rfl (fun k : Fin 1280 => f ⟨k.val, by omega⟩),
    Fin.sum_univ_two_halves 640 128 rfl (fun k : Fin 768 => f ⟨k.val, by omega⟩),
    Fin.sum_univ_two_halves 512 128 rfl (fun k : Fin 640 => f ⟨k.val, by omega⟩)]

/-- A sum over the 2048 rows, cut into the four tiles. -/
theorem cutRows (f : Fin 2048 → EReal) : ∑ r, f r = ∑ i, f (row 0 i) + ∑ i, f (row 1 i) + ∑ i, f (row 2 i) + ∑ i, f (row 3 i) := by
  rw [Fin.sum_univ_two_halves 1536 512 rfl f,
    Fin.sum_univ_two_halves 1024 512 rfl (fun k : Fin 1536 => f ⟨k.val, by omega⟩),
    Fin.sum_univ_two_halves 512 512 rfl (fun k : Fin 1024 => f ⟨k.val, by omega⟩)]
  refine congrArg₂ _ (congrArg₂ _ (congrArg₂ _ ?_ ?_) ?_) ?_ <;>
    refine Finset.sum_congr rfl fun k _ => congrArg f (Fin.ext ?_)
  · show k.val = 0 * 512 + k.val; omega
  · show 512 + k.val = 1 * 512 + k.val; omega
  · show 1024 + k.val = 2 * 512 + k.val; omega
  · show 1536 + k.val = 3 * 512 + k.val; omega

abbrev r1 : Rect S1536x1024 := Rect.unit ![0, 0] ![512, 1024] inb_S1536x1024_S512x1024_0_0
abbrev r2 : Rect S1536x1024 := Rect.unit ![512, 0] ![128, 1024] inb_S1536x1024_S128x1024_512_0
abbrev r3 : Rect S1536x1024 := Rect.unit ![640, 0] ![128, 1024] inb_S1536x1024_S128x1024_640_0
abbrev r4 : Rect S1536x1024 := Rect.unit ![768, 0] ![512, 1024] inb_S1536x1024_S512x1024_768_0
abbrev r5 : Rect S1536x1024 := Rect.unit ![1280, 0] ![256, 1024] inb_S1536x1024_S256x1024_1280_0

theorem emb_r1 (i : Fin 512) (j : Fin 1024) : r1.idx (ix2 i j) = ix2 (k1 i) j := by
  funext a; apply Fin.ext
  match a with
  | ⟨0, _⟩ => show 0 + 1 * i.val = i.val; omega
  | ⟨1, _⟩ => show 0 + 1 * j.val = j.val; omega

theorem emb_r2 (i : Fin 128) (j : Fin 1024) : r2.idx (ix2 i j) = ix2 (k2 i) j := by
  funext a; apply Fin.ext
  match a with
  | ⟨0, _⟩ => show 512 + 1 * i.val = 512 + i.val; omega
  | ⟨1, _⟩ => show 0 + 1 * j.val = j.val; omega

theorem emb_r3 (i : Fin 128) (j : Fin 1024) : r3.idx (ix2 i j) = ix2 (k3 i) j := by
  funext a; apply Fin.ext
  match a with
  | ⟨0, _⟩ => show 640 + 1 * i.val = 640 + i.val; omega
  | ⟨1, _⟩ => show 0 + 1 * j.val = j.val; omega

theorem emb_r4 (i : Fin 512) (j : Fin 1024) : r4.idx (ix2 i j) = ix2 (k4 i) j := by
  funext a; apply Fin.ext
  match a with
  | ⟨0, _⟩ => show 768 + 1 * i.val = 768 + i.val; omega
  | ⟨1, _⟩ => show 0 + 1 * j.val = j.val; omega

theorem emb_r5 (i : Fin 256) (j : Fin 1024) : r5.idx (ix2 i j) = ix2 (k5 i) j := by
  funext a; apply Fin.ext
  match a with
  | ⟨0, _⟩ => show 1280 + 1 * i.val = 1280 + i.val; omega
  | ⟨1, _⟩ => show 0 + 1 * j.val = j.val; omega

section Pieces

variable (w5 : FVec Ideal S256x1024 .f32) (w4 : FVec Ideal S512x1024 .f32) (w3 : FVec Ideal S128x1024 .f32) (w2 : FVec Ideal S128x1024 .f32) (w1 : FVec Ideal S512x1024 .f32)
  (L : List (View.Piece (Elt Ideal) S1536x1024 .f32))

/-- What the five stores leave, whatever was there. -/
abbrev stored : FVec Ideal S1536x1024 .f32 :=
  View.canon (Val := Elt Ideal) (e := .f32) (⟨r5, w5⟩ :: ⟨r4, w4⟩ :: ⟨r3, w3⟩ :: ⟨r2, w2⟩ :: ⟨r1, w1⟩ :: L)

theorem stored5 (i : Fin 256) (j : Fin 1024) : stored w5 w4 w3 w2 w1 L (ix2 (k5 i) j) = w5 (ix2 i j) := by
  rw [← emb_r5]
  exact View.canon_cons_emb r5 _ _ (ix2 i j)

theorem stored4 (i : Fin 512) (j : Fin 1024) : stored w5 w4 w3 w2 w1 L (ix2 (k4 i) j) = w4 (ix2 i j) := by
  refine (View.canon_cons_of_not_mem _ _ fun h => ?_).trans ?_
  · have := (Rect.mem_set_unit (inb := inb_S1536x1024_S256x1024_1280_0) |>.mp h 0).1
    change 1280 ≤ 768 + i.val at this
    omega
  rw [← emb_r4]
  exact View.canon_cons_emb r4 _ _ (ix2 i j)

theorem stored3 (i : Fin 128) (j : Fin 1024) : stored w5 w4 w3 w2 w1 L (ix2 (k3 i) j) = w3 (ix2 i j) := by
  refine (View.canon_cons_of_not_mem _ _ fun h => ?_).trans ?_
  · have := (Rect.mem_set_unit (inb := inb_S1536x1024_S256x1024_1280_0) |>.mp h 0).1
    change 1280 ≤ 640 + i.val at this
    omega
  refine (View.canon_cons_of_not_mem _ _ fun h => ?_).trans ?_
  · have := (Rect.mem_set_unit (inb := inb_S1536x1024_S512x1024_768_0) |>.mp h 0).1
    change 768 ≤ 640 + i.val at this
    omega
  rw [← emb_r3]
  exact View.canon_cons_emb r3 _ _ (ix2 i j)

theorem stored2 (i : Fin 128) (j : Fin 1024) : stored w5 w4 w3 w2 w1 L (ix2 (k2 i) j) = w2 (ix2 i j) := by
  refine (View.canon_cons_of_not_mem _ _ fun h => ?_).trans ?_
  · have := (Rect.mem_set_unit (inb := inb_S1536x1024_S256x1024_1280_0) |>.mp h 0).1
    change 1280 ≤ 512 + i.val at this
    omega
  refine (View.canon_cons_of_not_mem _ _ fun h => ?_).trans ?_
  · have := (Rect.mem_set_unit (inb := inb_S1536x1024_S512x1024_768_0) |>.mp h 0).1
    change 768 ≤ 512 + i.val at this
    omega
  refine (View.canon_cons_of_not_mem _ _ fun h => ?_).trans ?_
  · have := (Rect.mem_set_unit (inb := inb_S1536x1024_S128x1024_640_0) |>.mp h 0).1
    change 640 ≤ 512 + i.val at this
    omega
  rw [← emb_r2]
  exact View.canon_cons_emb r2 _ _ (ix2 i j)

theorem stored1 (i : Fin 512) (j : Fin 1024) : stored w5 w4 w3 w2 w1 L (ix2 (k1 i) j) = w1 (ix2 i j) := by
  refine (View.canon_cons_of_not_mem _ _ fun h => ?_).trans ?_
  · have := (Rect.mem_set_unit (inb := inb_S1536x1024_S256x1024_1280_0) |>.mp h 0).1
    change 1280 ≤ i.val at this
    omega
  refine (View.canon_cons_of_not_mem _ _ fun h => ?_).trans ?_
  · have := (Rect.mem_set_unit (inb := inb_S1536x1024_S512x1024_768_0) |>.mp h 0).1
    change 768 ≤ i.val at this
    omega
  refine (View.canon_cons_of_not_mem _ _ fun h => ?_).trans ?_
  · have := (Rect.mem_set_unit (inb := inb_S1536x1024_S128x1024_640_0) |>.mp h 0).1
    change 640 ≤ i.val at this
    omega
  refine (View.canon_cons_of_not_mem _ _ fun h => ?_).trans ?_
  · have := (Rect.mem_set_unit (inb := inb_S1536x1024_S128x1024_512_0) |>.mp h 0).1
    change 512 ≤ i.val at this
    omega
  rw [← emb_r1]
  exact View.canon_cons_emb r1 _ _ (ix2 i j)

end Pieces

/-! ## A tile's results -/

section Tile

variable (a0 : FVec Ideal S2048x512 .bf16) (a1 a2 : FVec Ideal S2048x128 .bf16) (a3 : FVec Ideal S2048x512 .bf16)
  (a4 : FVec Ideal S2048x256 .bf16) (a5 : FVec Ideal S1536x1024 .bf16) (a6 : FVec Ideal S2048x1024 .bf16)
  (a7 : FVec Ideal S2048x1024 .f32) (a8 : FVec Ideal S1x1024 .f32) (a9 : FVec Ideal S2048x1024 .f32)

theorem cat1 (r : Fin 2048) (i : Fin 512) : cat a0 a1 a2 a3 a4 (ix2 r (k1 i)) = a0 (ix2 r i) := by
  pointwise

theorem cat2 (r : Fin 2048) (i : Fin 128) : cat a0 a1 a2 a3 a4 (ix2 r (k2 i)) = a1 (ix2 r i) := by
  pointwise

theorem cat3 (r : Fin 2048) (i : Fin 128) : cat a0 a1 a2 a3 a4 (ix2 r (k3 i)) = a2 (ix2 r i) := by
  pointwise
  rw [dif_neg (show ¬640 + i.val < 512 by omega), dif_neg (show ¬640 + i.val - 512 < 128 by omega), dif_pos (show 640 + i.val - 512 - 128 < 128 by omega)]
  refine congrArg a2 (congrArg (ix2 _) (Fin.ext ?_))
  show 640 + i.val - 512 - 128 = i.val
  omega

theorem cat4 (r : Fin 2048) (i : Fin 512) : cat a0 a1 a2 a3 a4 (ix2 r (k4 i)) = a3 (ix2 r i) := by
  pointwise
  rw [dif_neg (show ¬768 + i.val < 512 by omega), dif_neg (show ¬768 + i.val - 512 < 128 by omega), dif_neg (show ¬768 + i.val - 512 - 128 < 128 by omega), dif_pos (show 768 + i.val - 512 - 128 - 128 < 512 by omega)]
  refine congrArg a3 (congrArg (ix2 _) (Fin.ext ?_))
  show 768 + i.val - 512 - 128 - 128 = i.val
  omega

theorem cat5 (r : Fin 2048) (i : Fin 256) : cat a0 a1 a2 a3 a4 (ix2 r (k5 i)) = a4 (ix2 r i) := by
  pointwise
  rw [dif_neg (show ¬1280 + i.val < 512 by omega), dif_neg (show ¬1280 + i.val - 512 < 128 by omega), dif_neg (show ¬1280 + i.val - 512 - 128 < 128 by omega), dif_neg (show ¬1280 + i.val - 512 - 128 - 128 < 512 by omega)]
  refine congrArg a4 (congrArg (ix2 _) (Fin.ext ?_))
  show 1280 + i.val - 512 - 128 - 128 - 512 = i.val
  omega

/-- A tile's gradient of the normalised rows. -/
abbrev dtile (x0 : FVec Ideal S512x512 .bf16) (x1 x2 : FVec Ideal S512x128 .bf16) (x3 : FVec Ideal S512x512 .bf16)
    (x4 : FVec Ideal S512x256 .bf16) : FVec Ideal S512x1024 .f32 :=
  k0_pay9 (F := Ideal) (k0_pay5 (F := Ideal) x0 (View.ld (Val := Elt Ideal) (e' := .bf16) a5 r1) x1
      (View.ld (Val := Elt Ideal) (e' := .bf16) a5 r2)) x2 (View.ld (Val := Elt Ideal) (e' := .bf16) a5 r3) x3
    (View.ld (Val := Elt Ideal) (e' := .bf16) a5 r4) x4 (View.ld (Val := Elt Ideal) (e' := .bf16) a5 r5)

/-- A row of it is that row of the whole array's. -/
theorem dtile_apply (t : Fin 4) (x0 : FVec Ideal S512x512 .bf16) (x1 x2 : FVec Ideal S512x128 .bf16) (x3 : FVec Ideal S512x512 .bf16)
    (x4 : FVec Ideal S512x256 .bf16)
    (h0 : ∀ i j, x0 (ix2 i j) = a0 (ix2 (row t i) j))
    (h1 : ∀ i j, x1 (ix2 i j) = a1 (ix2 (row t i) j))
    (h2 : ∀ i j, x2 (ix2 i j) = a2 (ix2 (row t i) j))
    (h3 : ∀ i j, x3 (ix2 i j) = a3 (ix2 (row t i) j))
    (h4 : ∀ i j, x4 (ix2 i j) = a4 (ix2 (row t i) j))
    (i : Fin 512) (j : Fin 1024) : dtile a5 x0 x1 x2 x3 x4 (ix2 i j) = dh (cat a0 a1 a2 a3 a4) a5 (ix2 (row t i) j) := by
  have l1 : ∀ i j, View.ld (Val := Elt Ideal) (e' := .bf16) a5 r1 (ix2 i j) = a5 (ix2 (k1 i) j) := fun i j => congrArg a5 (emb_r1 i j)
  have l2 : ∀ i j, View.ld (Val := Elt Ideal) (e' := .bf16) a5 r2 (ix2 i j) = a5 (ix2 (k2 i) j) := fun i j => congrArg a5 (emb_r2 i j)
  have l3 : ∀ i j, View.ld (Val := Elt Ideal) (e' := .bf16) a5 r3 (ix2 i j) = a5 (ix2 (k3 i) j) := fun i j => congrArg a5 (emb_r3 i j)
  have l4 : ∀ i j, View.ld (Val := Elt Ideal) (e' := .bf16) a5 r4 (ix2 i j) = a5 (ix2 (k4 i) j) := fun i j => congrArg a5 (emb_r4 i j)
  have l5 : ∀ i j, View.ld (Val := Elt Ideal) (e' := .bf16) a5 r5 (ix2 i j) = a5 (ix2 (k5 i) j) := fun i j => congrArg a5 (emb_r5 i j)
  have c1 := cat1 a0 a1 a2 a3 a4 (row t i)
  have c2 := cat2 a0 a1 a2 a3 a4 (row t i)
  have c3 := cat3 a0 a1 a2 a3 a4 (row t i)
  have c4 := cat4 a0 a1 a2 a3 a4 (row t i)
  have c5 := cat5 a0 a1 a2 a3 a4 (row t i)
  revert l1 l2 l3 l4 l5 c1 c2 c3 c4 c5
  unfold dtile dh
  generalize View.ld (Val := Elt Ideal) (e' := .bf16) a5 r1 = y1
  generalize View.ld (Val := Elt Ideal) (e' := .bf16) a5 r2 = y2
  generalize View.ld (Val := Elt Ideal) (e' := .bf16) a5 r3 = y3
  generalize View.ld (Val := Elt Ideal) (e' := .bf16) a5 r4 = y4
  generalize View.ld (Val := Elt Ideal) (e' := .bf16) a5 r5 = y5
  generalize cat a0 a1 a2 a3 a4 = p
  intro l1 l2 l3 l4 l5 c1 c2 c3 c4 c5
  pointwise [k0_pay9, k0_pay5]
  simp only [h0, h1, h2, h3, h4, l1, l2, l3, l4, l5, zero_add]
  rw [cutCols]
  simp only [c1, c2, c3, c4, c5]

/-- A row of a tile's first result is that row of the whole array's. -/
theorem dinput_apply (t : Fin 4) (d : FVec Ideal S2048x1024 .f32) (y x7 x9 : FVec Ideal S512x1024 .f32)
    (hd : ∀ i j, y (ix2 i j) = d (ix2 (row t i) j)) (h7 : ∀ i j, x7 (ix2 i j) = a7 (ix2 (row t i) j))
    (h9 : ∀ i j, x9 (ix2 i j) = a9 (ix2 (row t i) j)) (i : Fin 512) (j : Fin 1024) :
    k0_pay12 (F := Ideal) y x7 a8 x9 (ix2 i j) = dinput d a7 a8 a9 (ix2 (row t i) j) := by
  pointwise [k0_pay12, k0_pay11]
  simp only [hd, h7, h9]

/-- `T` is `S` with tile `t`'s part of the second result added. -/
def AddsGain (d : FVec Ideal S2048x1024 .f32) (t : Fin 4) (S T : FVec Ideal S1x1024 .f32) : Prop :=
  ∀ j : Fin 1024, T (ix2 0 j) = S (ix2 0 j) + ∑ r : Fin 512, gains d a7 (ix2 (row t r) j)

theorem addsGain (t : Fin 4) (d : FVec Ideal S2048x1024 .f32) (y x7 : FVec Ideal S512x1024 .f32) (S : FVec Ideal S1x1024 .f32)
    (hd : ∀ i j, y (ix2 i j) = d (ix2 (row t i) j)) (h7 : ∀ i j, x7 (ix2 i j) = a7 (ix2 (row t i) j)) :
    AddsGain a7 d t S (k0_pay13 (F := Ideal) y x7 S) := fun j => by
  pointwise [k0_pay13, k0_pay11]
  simp only [hd, h7]

/-- Four parts added to zero make the reference's second result. -/
theorem wholeGain (d : FVec Ideal S2048x1024 .f32) (S0 S1 S2 S3 : FVec Ideal S1x1024 .f32)
    (h0 : AddsGain a7 d 0 (k0_pay3 (F := Ideal)) S0) (h1 : AddsGain a7 d 1 S0 S1)
    (h2 : AddsGain a7 d 2 S1 S2) (h3 : AddsGain a7 d 3 S2 S3) : S3 = dgain d a7 := by
  have z : ∀ j, k0_pay3 (F := Ideal) (ix2 0 j) = (0 : EReal) := fun j => by pointwise! [k0_pay3]
  funext x
  obtain ⟨k, j, rfl⟩ : ∃ (k : Fin 1) (j : Fin 1024), x = ix2 k j := ⟨x 0, x 1, eq_ix2 x⟩
  obtain rfl : k = 0 := Subsingleton.elim _ _
  rw [h3 j, h2 j, h1 j, h0 j, z, zero_add, ← cutRows (fun r => gains d a7 (ix2 r j))]
  unfold dgain
  generalize gains d a7 = y
  pointwise!

/-- `T` is `S` with tile `t`'s part of the third result added, group by group. -/
def Adds (t : Fin 4) (S T : FVec Ideal S1536x1024 .f32) : Prop :=
  (∀ (i : Fin 512) (j : Fin 1024), T (ix2 (k1 i) j) = S (ix2 (k1 i) j) + ∑ r : Fin 512, a0 (ix2 (row t r) i) * a6 (ix2 (row t r) j))
  ∧ (∀ (i : Fin 128) (j : Fin 1024), T (ix2 (k2 i) j) = S (ix2 (k2 i) j) + ∑ r : Fin 512, a1 (ix2 (row t r) i) * a6 (ix2 (row t r) j))
  ∧ (∀ (i : Fin 128) (j : Fin 1024), T (ix2 (k3 i) j) = S (ix2 (k3 i) j) + ∑ r : Fin 512, a2 (ix2 (row t r) i) * a6 (ix2 (row t r) j))
  ∧ (∀ (i : Fin 512) (j : Fin 1024), T (ix2 (k4 i) j) = S (ix2 (k4 i) j) + ∑ r : Fin 512, a3 (ix2 (row t r) i) * a6 (ix2 (row t r) j))
  ∧ (∀ (i : Fin 256) (j : Fin 1024), T (ix2 (k5 i) j) = S (ix2 (k5 i) j) + ∑ r : Fin 512, a4 (ix2 (row t r) i) * a6 (ix2 (row t r) j))

/-- The five stores of a tile add its part. -/
theorem adds (t : Fin 4) (S : FVec Ideal S1536x1024 .f32) (L : List (View.Piece (Elt Ideal) S1536x1024 .f32))
    (x0 : FVec Ideal S512x512 .bf16) (x1 x2 : FVec Ideal S512x128 .bf16) (x3 : FVec Ideal S512x512 .bf16)
    (x4 : FVec Ideal S512x256 .bf16) (x6 : FVec Ideal S512x1024 .bf16)
    (h0 : ∀ i j, x0 (ix2 i j) = a0 (ix2 (row t i) j))
    (h1 : ∀ i j, x1 (ix2 i j) = a1 (ix2 (row t i) j))
    (h2 : ∀ i j, x2 (ix2 i j) = a2 (ix2 (row t i) j))
    (h3 : ∀ i j, x3 (ix2 i j) = a3 (ix2 (row t i) j))
    (h4 : ∀ i j, x4 (ix2 i j) = a4 (ix2 (row t i) j))
    (h6 : ∀ i j, x6 (ix2 i j) = a6 (ix2 (row t i) j)) :
    Adds a0 a1 a2 a3 a4 a6 t S (stored
      (k0_pay10 (F := Ideal) x6 x4 (View.ld (Val := Elt Ideal) (e' := .f32) S r5))
      (k0_pay8 (F := Ideal) x6 x3 (View.ld (Val := Elt Ideal) (e' := .f32) S r4))
      (k0_pay7 (F := Ideal) x6 x2 (View.ld (Val := Elt Ideal) (e' := .f32) S r3))
      (k0_pay6 (F := Ideal) x6 x1 (View.ld (Val := Elt Ideal) (e' := .f32) S r2))
      (k0_pay4 (F := Ideal) x6 x0 (View.ld (Val := Elt Ideal) (e' := .f32) S r1))
      L) := by
  have l1 : ∀ i j, View.ld (Val := Elt Ideal) (e' := .f32) S r1 (ix2 i j) = S (ix2 (k1 i) j) := fun i j => congrArg S (emb_r1 i j)
  have l2 : ∀ i j, View.ld (Val := Elt Ideal) (e' := .f32) S r2 (ix2 i j) = S (ix2 (k2 i) j) := fun i j => congrArg S (emb_r2 i j)
  have l3 : ∀ i j, View.ld (Val := Elt Ideal) (e' := .f32) S r3 (ix2 i j) = S (ix2 (k3 i) j) := fun i j => congrArg S (emb_r3 i j)
  have l4 : ∀ i j, View.ld (Val := Elt Ideal) (e' := .f32) S r4 (ix2 i j) = S (ix2 (k4 i) j) := fun i j => congrArg S (emb_r4 i j)
  have l5 : ∀ i j, View.ld (Val := Elt Ideal) (e' := .f32) S r5 (ix2 i j) = S (ix2 (k5 i) j) := fun i j => congrArg S (emb_r5 i j)
  refine ⟨fun i j => ?_, fun i j => ?_, fun i j => ?_, fun i j => ?_, fun i j => ?_⟩
  · rw [stored1, ← l1]
    generalize View.ld (Val := Elt Ideal) (e' := .f32) S r1 = y
    pointwise [k0_pay4]
    simp only [h0, h6]
  · rw [stored2, ← l2]
    generalize View.ld (Val := Elt Ideal) (e' := .f32) S r2 = y
    pointwise [k0_pay6]
    simp only [h1, h6]
  · rw [stored3, ← l3]
    generalize View.ld (Val := Elt Ideal) (e' := .f32) S r3 = y
    pointwise [k0_pay7]
    simp only [h2, h6]
  · rw [stored4, ← l4]
    generalize View.ld (Val := Elt Ideal) (e' := .f32) S r4 = y
    pointwise [k0_pay8]
    simp only [h3, h6]
  · rw [stored5, ← l5]
    generalize View.ld (Val := Elt Ideal) (e' := .f32) S r5 = y
    pointwise [k0_pay10]
    simp only [h4, h6]

/-- Four parts added to zero make the reference's third result. -/
theorem whole (S0 S1 S2 S3 : FVec Ideal S1536x1024 .f32)
    (h0 : Adds a0 a1 a2 a3 a4 a6 0 (k0_pay2 (F := Ideal)) S0) (h1 : Adds a0 a1 a2 a3 a4 a6 1 S0 S1)
    (h2 : Adds a0 a1 a2 a3 a4 a6 2 S1 S2) (h3 : Adds a0 a1 a2 a3 a4 a6 3 S2 S3) :
    k0_pay1 (F := Ideal) S3 = dweight (cat a0 a1 a2 a3 a4) a6 := by
  have z : ∀ k j, k0_pay2 (F := Ideal) (ix2 k j) = (0 : EReal) := fun k j => by pointwise! [k0_pay2]
  have p : ∀ k j, dweight (cat a0 a1 a2 a3 a4) a6 (ix2 k j)
      = (∑ r : Fin 2048, cat a0 a1 a2 a3 a4 (ix2 r k) * a6 (ix2 r j) : EReal) := fun k j => by
    unfold dweight
    generalize cat a0 a1 a2 a3 a4 = y
    pointwise!
  have q : ∀ k j, k0_pay1 (F := Ideal) S3 (ix2 k j) = S3 (ix2 k j) := fun k j => by pointwise [k0_pay1]
  obtain ⟨h01, h02, h03, h04, h05⟩ := h0
  obtain ⟨h11, h12, h13, h14, h15⟩ := h1
  obtain ⟨h21, h22, h23, h24, h25⟩ := h2
  obtain ⟨h31, h32, h33, h34, h35⟩ := h3
  funext x
  obtain ⟨k, j, rfl⟩ : ∃ (k : Fin 1536) (j : Fin 1024), x = ix2 k j := ⟨x 0, x 1, eq_ix2 x⟩
  rw [p, q]
  revert k
  refine groups _ (fun i => ?_) (fun i => ?_) (fun i => ?_) (fun i => ?_) (fun i => ?_)
  · rw [h31, h21, h11, h01, z, zero_add, ← cutRows (fun r => a0 (ix2 r i) * a6 (ix2 r j))]
    simp only [cat1]
  · rw [h32, h22, h12, h02, z, zero_add, ← cutRows (fun r => a1 (ix2 r i) * a6 (ix2 r j))]
    simp only [cat2]
  · rw [h33, h23, h13, h03, z, zero_add, ← cutRows (fun r => a2 (ix2 r i) * a6 (ix2 r j))]
    simp only [cat3]
  · rw [h34, h24, h14, h04, z, zero_add, ← cutRows (fun r => a3 (ix2 r i) * a6 (ix2 r j))]
    simp only [cat4]
  · rw [h35, h25, h15, h05, z, zero_add, ← cutRows (fun r => a4 (ix2 r i) * a6 (ix2 r j))]
    simp only [cat5]

end Tile

/-! ## The blocks of the windows -/

/-- The block indices of the windows: the tile's number on the rows, zero elsewhere; four windows are whole arrays. -/
theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

theorem emb0 (t : Fin cfg0.N) (i : Fin 512) (j : Fin 512) : ((cfg0.win 0).blk t).view.emb (ix2 i j) = ix2 (row t i) j :=
  Blocks.at_block (B := 512) (C := 512) (idx t).1 rfl rfl rfl (by simp)

theorem emb1 (t : Fin cfg0.N) (i : Fin 512) (j : Fin 128) : ((cfg0.win 1).blk t).view.emb (ix2 i j) = ix2 (row t i) j :=
  Blocks.at_block (B := 512) (C := 128) (idx t).2.1 rfl rfl rfl (by simp)

theorem emb2 (t : Fin cfg0.N) (i : Fin 512) (j : Fin 128) : ((cfg0.win 2).blk t).view.emb (ix2 i j) = ix2 (row t i) j :=
  Blocks.at_block (B := 512) (C := 128) (idx t).2.2.1 rfl rfl rfl (by simp)

theorem emb3 (t : Fin cfg0.N) (i : Fin 512) (j : Fin 512) : ((cfg0.win 3).blk t).view.emb (ix2 i j) = ix2 (row t i) j :=
  Blocks.at_block (B := 512) (C := 512) (idx t).2.2.2.1 rfl rfl rfl (by simp)

theorem emb4 (t : Fin cfg0.N) (i : Fin 512) (j : Fin 256) : ((cfg0.win 4).blk t).view.emb (ix2 i j) = ix2 (row t i) j :=
  Blocks.at_block (B := 512) (C := 256) (idx t).2.2.2.2.1 rfl rfl rfl (by simp)

theorem emb5 (t : Fin cfg0.N) (j : S1536x1024.Idx) : ((cfg0.win 5).blk t).view.emb j = j :=
  Blocks.at_whole (B := 1536) (C := 1024) (idx t).2.2.2.2.2.1 rfl rfl

theorem emb6 (t : Fin cfg0.N) (i : Fin 512) (j : Fin 1024) : ((cfg0.win 6).blk t).view.emb (ix2 i j) = ix2 (row t i) j :=
  Blocks.at_block (B := 512) (C := 1024) (idx t).2.2.2.2.2.2.1 rfl rfl rfl (by simp)

theorem emb7 (t : Fin cfg0.N) (i : Fin 512) (j : Fin 1024) : ((cfg0.win 7).blk t).view.emb (ix2 i j) = ix2 (row t i) j :=
  Blocks.at_block (B := 512) (C := 1024) (idx t).2.2.2.2.2.2.2.1 rfl rfl rfl (by simp)

theorem emb8 (t : Fin cfg0.N) (j : S1x1024.Idx) : ((cfg0.win 8).blk t).view.emb j = j :=
  Blocks.at_whole (B := 1) (C := 1024) (idx t).2.2.2.2.2.2.2.2.1 rfl rfl

theorem emb9 (t : Fin cfg0.N) (i : Fin 512) (j : Fin 1024) : ((cfg0.win 9).blk t).view.emb (ix2 i j) = ix2 (row t i) j :=
  Blocks.at_block (B := 512) (C := 1024) (idx t).2.2.2.2.2.2.2.2.2.1 rfl rfl rfl (by simp)

theorem emb10 (t : Fin cfg0.N) (i : Fin 512) (j : Fin 1024) : ((cfg0.win 10).blk t).view.emb (ix2 i j) = ix2 (row t i) j :=
  Blocks.at_block (B := 512) (C := 1024) (idx t).2.2.2.2.2.2.2.2.2.2.1 rfl rfl rfl (by simp)

theorem emb11 (t : Fin cfg0.N) (j : S1x1024.Idx) : ((cfg0.win 11).blk t).view.emb j = j :=
  Blocks.at_whole (B := 1) (C := 1024) (idx t).2.2.2.2.2.2.2.2.2.2.2.1 rfl rfl

theorem emb12 (t : Fin cfg0.N) (j : S1536x1024.Idx) : ((cfg0.win 12).blk t).view.emb j = j :=
  Blocks.at_whole (B := 1536) (C := 1024) (idx t).2.2.2.2.2.2.2.2.2.2.2.2 rfl rfl

variable (m : (ℓ : Loc nD τ sig) → Buf (Elt Ideal) ℓ) (ρ : Dev nD → PrngReg)

theorem iblk0_apply (c : Dev nD) (t : Fin cfg0.N) (i : Fin 512) (j : Fin 512) :
    iblk m c 0 t (ix2 i j) = V m c main_arg0 (ix2 (row t i) j) := by
  show V m c main_arg0 (((cfg0.win 0).blk t).view.emb (ix2 i j)) = _
  rw [emb0]

theorem iblk1_apply (c : Dev nD) (t : Fin cfg0.N) (i : Fin 512) (j : Fin 128) :
    iblk m c 1 t (ix2 i j) = V m c main_arg1 (ix2 (row t i) j) := by
  show V m c main_arg1 (((cfg0.win 1).blk t).view.emb (ix2 i j)) = _
  rw [emb1]

theorem iblk2_apply (c : Dev nD) (t : Fin cfg0.N) (i : Fin 512) (j : Fin 128) :
    iblk m c 2 t (ix2 i j) = V m c main_arg2 (ix2 (row t i) j) := by
  show V m c main_arg2 (((cfg0.win 2).blk t).view.emb (ix2 i j)) = _
  rw [emb2]

theorem iblk3_apply (c : Dev nD) (t : Fin cfg0.N) (i : Fin 512) (j : Fin 512) :
    iblk m c 3 t (ix2 i j) = V m c main_arg3 (ix2 (row t i) j) := by
  show V m c main_arg3 (((cfg0.win 3).blk t).view.emb (ix2 i j)) = _
  rw [emb3]

theorem iblk4_apply (c : Dev nD) (t : Fin cfg0.N) (i : Fin 512) (j : Fin 256) :
    iblk m c 4 t (ix2 i j) = V m c main_arg4 (ix2 (row t i) j) := by
  show V m c main_arg4 (((cfg0.win 4).blk t).view.emb (ix2 i j)) = _
  rw [emb4]

theorem iblk5_eq (c : Dev nD) (t : Fin cfg0.N) : iblk m c 5 t = V m c main_arg5 := by
  funext j; show V m c main_arg5 (((cfg0.win 5).blk t).view.emb j) = V m c main_arg5 j; rw [emb5]

theorem iblk6_apply (c : Dev nD) (t : Fin cfg0.N) (i : Fin 512) (j : Fin 1024) :
    iblk m c 6 t (ix2 i j) = V m c main_arg6 (ix2 (row t i) j) := by
  show V m c main_arg6 (((cfg0.win 6).blk t).view.emb (ix2 i j)) = _
  rw [emb6]

theorem iblk7_apply (c : Dev nD) (t : Fin cfg0.N) (i : Fin 512) (j : Fin 1024) :
    iblk m c 7 t (ix2 i j) = V m c main_arg7 (ix2 (row t i) j) := by
  show V m c main_arg7 (((cfg0.win 7).blk t).view.emb (ix2 i j)) = _
  rw [emb7]

theorem iblk8_eq (c : Dev nD) (t : Fin cfg0.N) : iblk m c 8 t = V m c main_arg8 := by
  funext j; show V m c main_arg8 (((cfg0.win 8).blk t).view.emb j) = V m c main_arg8 j; rw [emb8]

theorem iblk9_apply (c : Dev nD) (t : Fin cfg0.N) (i : Fin 512) (j : Fin 1024) :
    iblk m c 9 t (ix2 i j) = V m c main_arg9 (ix2 (row t i) j) := by
  show V m c main_arg9 (((cfg0.win 9).blk t).view.emb (ix2 i j)) = _
  rw [emb9]

/-! ## What a tile leaves -/

/-- The tile's gradient of the normalised rows, and the whole array's. -/
abbrev dT (c : Dev nD) (t : Fin cfg0.N) : FVec Ideal S512x1024 .f32 :=
  dtile (iblk m c 5 t) (iblk m c 0 t) (iblk m c 1 t) (iblk m c 2 t) (iblk m c 3 t) (iblk m c 4 t)

abbrev p0 (c : Dev nD) : FVec Ideal Cert.InBwdReferenceIdeal.S2048x1536 .f32 := cat (V m c main_arg0) (V m c main_arg1) (V m c main_arg2) (V m c main_arg3) (V m c main_arg4)

abbrev d0 (c : Dev nD) : FVec Ideal S2048x1024 .f32 := dh (p0 m c) (V m c main_arg5)

theorem dT_apply (c : Dev nD) (t : Fin cfg0.N) (i : Fin 512) (j : Fin 1024) : dT m c t (ix2 i j) = d0 m c (ix2 (row t i) j) := by
  unfold dT
  rw [iblk5_eq]
  exact dtile_apply _ _ _ _ _ _ t _ _ _ _ _ (iblk0_apply m c t) (iblk1_apply m c t) (iblk2_apply m c t) (iblk3_apply m c t) (iblk4_apply m c t) i j

/-- The first result's block. -/
theorem left10 (c : Dev nD) (t : Fin cfg0.N) :
    (outsAt0 m c t.val t.isLt).1 = k0_pay12 (F := Ideal) (dT m c t) (iblk m c 7 t) (iblk m c 8 t) (iblk m c 9 t) := by
  by_cases h0 : t.val % 4 = 0
  · rw [outsAt0_A m c t h0 (by omega)]
    frame_out
  · by_cases h1 : t.val % 4 = 3
    · rw [outsAt0_C m c t h0 h1]
      frame_out
    · rw [outsAt0_B m c t h0 h1]
      frame_out

/-- `T` is `S` with tile `t`'s part of the second result added. -/
abbrev StepGain (c : Dev nD) (t : Fin 4) (S T : FVec Ideal S1x1024 .f32) : Prop := AddsGain (V m c main_arg7) (d0 m c) t S T

/-- `T` is `S` with tile `t`'s part of the third result added. -/
abbrev Step (c : Dev nD) (t : Fin 4) (S T : FVec Ideal S1536x1024 .f32) : Prop :=
  Adds (V m c main_arg0) (V m c main_arg1) (V m c main_arg2) (V m c main_arg3) (V m c main_arg4) (V m c main_arg6) t S T

/-- The first tile adds its parts to zero. -/
theorem gainA (c : Dev nD) (t : Fin cfg0.N) (h0 : t.val % 4 = 0) (h1 : ¬t.val % 4 = 3) :
    StepGain m c t (k0_pay3 (F := Ideal)) (outsAt0 m c t.val t.isLt).2.1 := by
  rw [outsAt0_A m c t h0 h1]
  frame_out
  exact addsGain _ t _ _ _ _ (dT_apply m c t) (iblk7_apply m c t)

theorem stepA (c : Dev nD) (t : Fin cfg0.N) (h0 : t.val % 4 = 0) (h1 : ¬t.val % 4 = 3) :
    Step m c t (k0_pay2 (F := Ideal)) (outsAt0 m c t.val t.isLt).2.2.2 := by
  rw [outsAt0_A m c t h0 h1]
  frame_out
  simp (disch := first | rfl | decide) only [↓View.readCov_skip, ↓View.readCov_fill]
  exact adds _ _ _ _ _ _ t (k0_pay2 (F := Ideal)) _ _ _ _ _ _ _ (iblk0_apply m c t) (iblk1_apply m c t) (iblk2_apply m c t)
    (iblk3_apply m c t) (iblk4_apply m c t) (iblk6_apply m c t)

/-- A later tile adds its parts to what the tile before left. -/
theorem gainB (c : Dev nD) (t : Fin cfg0.N) (h0 : ¬t.val % 4 = 0) :
    StepGain m c t (outsAt0 m c (t.val - 1) (by omega)).2.1 (outsAt0 m c t.val t.isLt).2.1 := by
  by_cases h1 : t.val % 4 = 3
  · rw [outsAt0_C m c t h0 h1]
    frame_out
    exact addsGain _ t _ _ _ _ (dT_apply m c t) (iblk7_apply m c t)
  · rw [outsAt0_B m c t h0 h1]
    frame_out
    exact addsGain _ t _ _ _ _ (dT_apply m c t) (iblk7_apply m c t)

theorem stepB (c : Dev nD) (t : Fin cfg0.N) (h0 : ¬t.val % 4 = 0) (h1 : ¬t.val % 4 = 3) :
    Step m c t (outsAt0 m c (t.val - 1) (by omega)).2.2.2 (outsAt0 m c t.val t.isLt).2.2.2 := by
  rw [outsAt0_B m c t h0 h1]
  frame_out
  simp only [read_unread_whole]
  exact adds _ _ _ _ _ _ t _ _ _ _ _ _ _ _ (iblk0_apply m c t) (iblk1_apply m c t) (iblk2_apply m c t)
    (iblk3_apply m c t) (iblk4_apply m c t) (iblk6_apply m c t)

/-- The last tile's third result is the narrowed sum. -/
theorem stepC (c : Dev nD) (t : Fin cfg0.N) (h0 : ¬t.val % 4 = 0) (h1 : t.val % 4 = 3) :
    ∃ T, Step m c t (outsAt0 m c (t.val - 1) (by omega)).2.2.2 T ∧ (outsAt0 m c t.val t.isLt).2.2.1 = k0_pay1 (F := Ideal) T := by
  rw [outsAt0_C m c t h0 h1]
  frame_out
  simp only [read_unread_whole]
  refine ⟨_, adds _ _ _ _ _ _ t (outsAt0 m c (t.val - 1) (by omega)).2.2.2 [] _ _ _ _ _ _ (iblk0_apply m c t) (iblk1_apply m c t)
    (iblk2_apply m c t) (iblk3_apply m c t) (iblk4_apply m c t) (iblk6_apply m c t), ?_⟩
  rw [View.readCov_eq_canon']
  refine congrArg (k0_pay1 (F := Ideal)) (funext fun x => congrArg _ ?_)
  funext a; apply Fin.ext
  match a with
  | ⟨0, _⟩ => show 0 + 1 * (x 0).val = (x 0).val; omega
  | ⟨1, _⟩ => show 0 + 1 * (x 1).val = (x 1).val; omega

/-- The second result and the accumulator after tile `n`. -/
def gain (c : Dev nD) (n : ℕ) (hn : n < cfg0.N) : FVec Ideal S1x1024 .f32 := (outsAt0 m c n hn).2.1

def scr (c : Dev nD) (n : ℕ) (hn : n < cfg0.N) : FVec Ideal S1536x1024 .f32 := (outsAt0 m c n hn).2.2.2

theorem gain0 (c : Dev nD) (h : 0 < cfg0.N) : StepGain m c ⟨0, by decide⟩ (k0_pay3 (F := Ideal)) (gain m c 0 h) :=
  gainA m c ⟨0, h⟩ rfl (by show ¬(0 % 4 = 3); decide)

theorem gainS (c : Dev nD) (n : ℕ) (h : n + 1 < cfg0.N) (h3 : n + 1 < 4) :
    StepGain m c ⟨n + 1, h3⟩ (gain m c n (Nat.lt_of_succ_lt h)) (gain m c (n + 1) h) :=
  gainB m c ⟨n + 1, h⟩ (by show ¬(n + 1) % 4 = 0; omega)

theorem step0 (c : Dev nD) (h : 0 < cfg0.N) : Step m c ⟨0, by decide⟩ (k0_pay2 (F := Ideal)) (scr m c 0 h) :=
  stepA m c ⟨0, h⟩ rfl (by show ¬(0 % 4 = 3); decide)

theorem stepS (c : Dev nD) (n : ℕ) (h : n + 1 < cfg0.N) (h3 : n + 1 < 3) :
    Step m c ⟨n + 1, by omega⟩ (scr m c n (Nat.lt_of_succ_lt h)) (scr m c (n + 1) h) :=
  stepB m c ⟨n + 1, h⟩ (by show ¬(n + 1) % 4 = 0; omega) (by show ¬(n + 1) % 4 = 3; omega)

theorem stepL (c : Dev nD) (h : 2 + 1 < cfg0.N) :
    ∃ T, Step m c ⟨2 + 1, by decide⟩ (scr m c 2 (Nat.lt_of_succ_lt h)) T ∧ (outsAt0 m c (2 + 1) h).2.2.1 = k0_pay1 (F := Ideal) T :=
  stepC m c ⟨2 + 1, h⟩ (by show ¬((2 + 1) % 4 = 0); decide) rfl

/-- The second result after the last tile. -/
theorem left11 (c : Dev nD) (h : 2 + 1 < cfg0.N) : gain m c (2 + 1) h = dgain (d0 m c) (V m c main_arg7) :=
  wholeGain _ _ _ _ _ _ (gain0 m c (by omega)) (gainS m c 0 (by omega) (by decide)) (gainS m c 1 (by omega) (by decide))
    (gainS m c 2 h (by decide))

/-- The third result after the last tile. -/
theorem left12 (c : Dev nD) (h : 2 + 1 < cfg0.N) :
    (outsAt0 m c (2 + 1) h).2.2.1 = dweight (p0 m c) (V m c main_arg6) := by
  obtain ⟨T, h3, e⟩ := stepL m c h
  rw [e]
  exact whole _ _ _ _ _ _ _ _ _ _ (step0 m c (by omega)) (stepS m c 0 (by omega) (by decide)) (stepS m c 1 (by omega) (by decide)) h3

/-! ## The arrays after the run -/

/-- What a tile writes back to the first result is its block of the reference's. -/
theorem flushed10_eq (c : Dev nD) (t : Fin cfg0.N) :
    (dats m 0 c).flushed 10 t
      = ((cfg0.win 10).blk t).view.read (Elt Ideal) (dinput (d0 m c) (V m c main_arg7) (V m c main_arg8) (V m c main_arg9)) := by
  rw [Value.flushed10, left10]
  funext x
  obtain ⟨i, j, rfl⟩ : ∃ (i : Fin 512) (j : Fin 1024), x = ix2 i j := ⟨x 0, x 1, eq_ix2 x⟩
  show k0_pay12 (F := Ideal) (dT m c t) (iblk m c 7 t) (iblk m c 8 t) (iblk m c 9 t) (ix2 i j)
    = dinput (d0 m c) (V m c main_arg7) (V m c main_arg8) (V m c main_arg9) (((cfg0.win 10).blk t).view.emb (ix2 i j))
  rw [emb10, iblk8_eq]
  exact dinput_apply _ _ _ t _ _ _ _ (dT_apply m c t) (iblk7_apply m c t) (iblk9_apply m c t) i j

/-- The one tile that writes the other two results back is the last. -/
theorem last_of (t : Fin cfg0.N) (h3 : t.val % 4 = 3) : t.val = 2 + 1 := by
  have h4 : t.val < 4 := lt_of_lt_of_eq t.isLt N_0
  omega

theorem flushed11_eq (c : Dev nD) (t : Fin cfg0.N) (hf : (cfg0.win 11).flush t = true) :
    (dats m 0 c).flushed 11 t
      = ((cfg0.win 11).blk t).view.read (Elt Ideal) (dgain (d0 m c) (V m c main_arg7)) := by
  have h := last_of t ((flush0_11 t).mp hf)
  obtain ⟨n, hn⟩ := t
  obtain rfl : n = 2 + 1 := h
  rw [Value.flushed11]
  show (cfg0.win 11).cut (grid0.coords ⟨2 + 1, hn⟩) (gain m c (2 + 1) hn) = _
  rw [left11 m c hn]
  funext x
  show dgain (d0 m c) (V m c main_arg7) x
    = dgain (d0 m c) (V m c main_arg7) (((cfg0.win 11).blk ⟨2 + 1, hn⟩).view.emb x)
  rw [emb11]

theorem flushed12_eq (c : Dev nD) (t : Fin cfg0.N) (hf : (cfg0.win 12).flush t = true) :
    (dats m 0 c).flushed 12 t
      = ((cfg0.win 12).blk t).view.read (Elt Ideal) (dweight (p0 m c) (V m c main_arg6)) := by
  have h := last_of t ((flush0_12 t).mp hf)
  obtain ⟨n, hn⟩ := t
  obtain rfl : n = 2 + 1 := h
  rw [Value.flushed12]
  show (cfg0.win 12).cut (grid0.coords ⟨2 + 1, hn⟩) (outsAt0 m c (2 + 1) hn).2.2.1 = _
  rw [left12 m c hn]
  funext x
  show dweight (p0 m c) (V m c main_arg6) x
    = dweight (p0 m c) (V m c main_arg6) (((cfg0.win 12).blk ⟨2 + 1, hn⟩).view.emb x)
  rw [emb12]

/-- The tile of a row. -/
abbrev tileOf (r : Fin 2048) : Fin cfg0.N := (⟨r.val / 512, by omega⟩ : Fin 4)

theorem row_tileOf (r : Fin 2048) : row (tileOf r) ⟨r.val % 512, by omega⟩ = r :=
  Fin.ext (by show r.val / 512 * 512 + r.val % 512 = r.val; omega)

/-- The last tile. -/
abbrev lastTile : Fin cfg0.N := (3 : Fin 4)

/-- Every entry of the first result lies in the block of its row's tile. -/
theorem covered10 (x : S2048x1024.Idx) :
    ∃ t : Fin cfg0.N, (cfg0.win 10).flush t = true ∧ x ∈ ((cfg0.win 10).blk t).view.set := by
  obtain ⟨r, j, rfl⟩ : ∃ (r : Fin 2048) (j : Fin 1024), x = ix2 r j := ⟨x 0, x 1, eq_ix2 x⟩
  refine ⟨tileOf r, flush0_10 _, ?_⟩
  have h := ((cfg0.win 10).blk (tileOf r)).view.emb_mem_set (ix2 (⟨r.val % 512, by omega⟩ : Fin 512) j)
  rwa [emb10, row_tileOf] at h

/-- The last tile's blocks are the whole second and third result. -/
theorem covered11 (x : S1x1024.Idx) :
    ∃ t : Fin cfg0.N, (cfg0.win 11).flush t = true ∧ x ∈ ((cfg0.win 11).blk t).view.set := by
  refine ⟨lastTile, (flush0_11 _).mpr rfl, ?_⟩
  have h := ((cfg0.win 11).blk lastTile).view.emb_mem_set x
  rwa [emb11] at h

theorem covered12 (x : S1536x1024.Idx) :
    ∃ t : Fin cfg0.N, (cfg0.win 12).flush t = true ∧ x ∈ ((cfg0.win 12).blk t).view.set := by
  refine ⟨lastTile, (flush0_12 _).mpr rfl, ?_⟩
  have h := ((cfg0.win 12).blk lastTile).view.emb_mem_set x
  rwa [emb12] at h

/-- The run of the kernel with its results in the reference's terms. -/
theorem run_values :
    θ_run (defs (F := Ideal)) (onTc (τ := τ) (main (F := Ideal))) ⟨m, fun _ => 0, ρ⟩ fun r => ∀ c : Dev nD,
      r.2.mem ((c.tc : Thread nD τ).loc main_v0_0)
        = dinput (dh (cat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
            (m ((c.tc : Thread nD τ).loc main_arg5))) (m ((c.tc : Thread nD τ).loc main_arg7)) (m ((c.tc : Thread nD τ).loc main_arg8)) (m ((c.tc : Thread nD τ).loc main_arg9))
      ∧ r.2.mem ((c.tc : Thread nD τ).loc main_v0_1)
        = dgain (dh (cat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
            (m ((c.tc : Thread nD τ).loc main_arg5))) (m ((c.tc : Thread nD τ).loc main_arg7))
      ∧ r.2.mem ((c.tc : Thread nD τ).loc main_v0_2)
        = dweight (cat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run (defs (F := Ideal)) _ _).mono (fun r h c => ?_) (Value.run m ρ)
  obtain ⟨h0, h1, h2, h3⟩ := h c
  exact ⟨h0.trans ((Value.final10 m c).symm.trans ((dats m 0 c).arrAt_eq_of_cover 10 (dinput (d0 m c) (V m c main_arg7) (V m c main_arg8) (V m c main_arg9))
      (fun t _ => flushed10_eq m c t) covered10)),
    h1.trans ((Value.final11 m c).symm.trans ((dats m 0 c).arrAt_eq_of_cover 11 (dgain (d0 m c) (V m c main_arg7))
      (fun t hf => flushed11_eq m c t hf) covered11)),
    h2.trans ((Value.final12 m c).symm.trans ((dats m 0 c).arrAt_eq_of_cover 12 (dweight (p0 m c) (V m c main_arg6))
      (fun t hf => flushed12_eq m c t hf) covered12)), h3⟩

end Cert.InBwdIdeal.InBwd

end
-- ==== Proof.ActBwdRun.lean ====
/-
  The run of the feed-forward block's backward kernel over one grid point, in its four cases, with what each buffer holds afterwards
  written out.  A grid point is a row block of 1024 rows and a column block of 256 hidden columns; the body walks the 1024 rows in four
  chunks of 256 rows.
-/
module

public import proofs.«01_k».proof.Proof.Gen.ActBwdIdeal.Frame
public import proofs.«01_k».proof.Proof.Gen.ActBwdIdeal.Skeleton
public import Idealize.ShloMosaic.Lib.Pipeline.ValueKit
public import Idealize.ShloMosaic.Lib.Pipeline.ReadBack

@[expose] public section

set_option maxRecDepth 16384

noncomputable section

namespace Cert.ActBwdIdeal.Act

open Cert.ActBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four chunks of rows of a block of 1024 columns. -/
abbrev q0 : Rect S1024x1024 := Rect.unit (s := S1024x1024) ![0, 0] S256x1024.size inb_S1024x1024_S256x1024_0_0
@[inherit_doc q0] abbrev q1 : Rect S1024x1024 := Rect.unit (s := S1024x1024) ![256, 0] S256x1024.size inb_S1024x1024_S256x1024_256_0
@[inherit_doc q0] abbrev q2 : Rect S1024x1024 := Rect.unit (s := S1024x1024) ![512, 0] S256x1024.size inb_S1024x1024_S256x1024_512_0
@[inherit_doc q0] abbrev q3 : Rect S1024x1024 := Rect.unit (s := S1024x1024) ![768, 0] S256x1024.size inb_S1024x1024_S256x1024_768_0
/-- The four chunks of rows of a block of 256 columns. -/
abbrev p0 : Rect S1024x256 := Rect.unit (s := S1024x256) ![0, 0] S256x256.size inb_S1024x256_S256x256_0_0
@[inherit_doc p0] abbrev p1 : Rect S1024x256 := Rect.unit (s := S1024x256) ![256, 0] S256x256.size inb_S1024x256_S256x256_256_0
@[inherit_doc p0] abbrev p2 : Rect S1024x256 := Rect.unit (s := S1024x256) ![512, 0] S256x256.size inb_S1024x256_S256x256_512_0
@[inherit_doc p0] abbrev p3 : Rect S1024x256 := Rect.unit (s := S1024x256) ![768, 0] S256x256.size inb_S1024x256_S256x256_768_0

/-- The activation's block, chunk by chunk. -/
abbrev actv (gt u : Vec F S1024x256 .bf16) : Vec F S1024x256 .bf16 :=
  View.canon (Val := Elt F) [⟨p3, k0_pay44 (View.ld gt p3) (View.ld u p3)⟩, ⟨p2, k0_pay35 (View.ld gt p2) (View.ld u p2)⟩,
    ⟨p1, k0_pay26 (View.ld gt p1) (View.ld u p1)⟩, ⟨p0, k0_pay17 (View.ld gt p0) (View.ld u p0)⟩]

/-- The block of the gate's gradient. -/
abbrev dgatev (b : Vec F S1024x1024 .bf16) (w : Vec F S256x1024 .bf16) (gt u : Vec F S1024x256 .bf16) : Vec F S1024x256 .bf16 :=
  View.canon (Val := Elt F)
    [⟨p3, k0_pay43 (View.ld b q3) w (View.ld gt p3) (View.ld u p3)⟩, ⟨p2, k0_pay34 (View.ld b q2) w (View.ld gt p2) (View.ld u p2)⟩,
     ⟨p1, k0_pay25 (View.ld b q1) w (View.ld gt p1) (View.ld u p1)⟩, ⟨p0, k0_pay16 (View.ld b q0) w (View.ld gt p0) (View.ld u p0)⟩]

/-- The block of the up projection's gradient. -/
abbrev dupv (b : Vec F S1024x1024 .bf16) (w : Vec F S256x1024 .bf16) (gt : Vec F S1024x256 .bf16) : Vec F S1024x256 .bf16 :=
  View.canon (Val := Elt F)
    [⟨p3, k0_pay42 (View.ld b q3) w (View.ld gt p3)⟩, ⟨p2, k0_pay33 (View.ld b q2) w (View.ld gt p2)⟩,
     ⟨p1, k0_pay24 (View.ld b q1) w (View.ld gt p1)⟩, ⟨p0, k0_pay15 (View.ld b q0) w (View.ld gt p0)⟩]

/-- The accumulator after a column block, over what it held before; the stores `L` are the earlier ones of the same point. -/
abbrev accv (wg wu : Vec F S256x1024 .bf16) (b : Vec F S1024x1024 .bf16) (w : Vec F S256x1024 .bf16) (gt u : Vec F S1024x256 .bf16)
    (a : Vec F S1024x1024 .f32) (L : List (View.Piece (Elt F) S1024x1024 .f32)) : Vec F S1024x1024 .f32 :=
  View.canon (Val := Elt F)
    (⟨q3, k0_pay1 (k0_pay9 wg wu) (k0_pay42 (View.ld b q3) w (View.ld gt p3))
        (k0_pay43 (View.ld b q3) w (View.ld gt p3) (View.ld u p3)) (View.ld a q3)⟩
     :: ⟨q2, k0_pay36 (k0_pay9 wg wu) (k0_pay33 (View.ld b q2) w (View.ld gt p2))
        (k0_pay34 (View.ld b q2) w (View.ld gt p2) (View.ld u p2)) (View.ld a q2)⟩
     :: ⟨q1, k0_pay27 (k0_pay9 wg wu) (k0_pay24 (View.ld b q1) w (View.ld gt p1))
        (k0_pay25 (View.ld b q1) w (View.ld gt p1) (View.ld u p1)) (View.ld a q1)⟩
     :: ⟨q0, k0_pay18 (k0_pay9 wg wu) (k0_pay15 (View.ld b q0) w (View.ld gt p0))
        (k0_pay16 (View.ld b q0) w (View.ld gt p0) (View.ld u p0)) (View.ld a q0)⟩ :: L)

/-- A buffer is held whole, with these contents. -/
abbrev own {sp : Space} {S : Shape} {e : EltTy} (c : Dev nD) (a : Memref sig .tc sp S e) (x : Vec F S e) : sProp 𝕄 :=
  owns (c : Thread nD τ) a fullShare x

/-! The buffers and the inputs' blocks. -/

variable (c : Dev nD) (i : grid0.Coords)
  {arg2 : Memref sig .tc .vmem S1024x1024 .f32} {harg2 : arg2.IsWhole}
  {arg3 : Memref sig .tc .vmem S1024x1024 .f32} {harg3 : arg3.IsWhole}
  {arg4 : Memref sig .tc .vmem S1x1024 .f32} {harg4 : arg4.IsWhole}
  {arg5 : Memref sig .tc .vmem S1024x256 .bf16} {harg5 : arg5.IsWhole}
  {arg6 : Memref sig .tc .vmem S1024x256 .bf16} {harg6 : arg6.IsWhole}
  {arg7 : Memref sig .tc .vmem S256x1024 .bf16} {harg7 : arg7.IsWhole}
  {arg8 : Memref sig .tc .vmem S256x1024 .bf16} {harg8 : arg8.IsWhole}
  {arg9 : Memref sig .tc .vmem S256x1024 .bf16} {harg9 : arg9.IsWhole}
  {arg10 : Memref sig .tc .vmem S1024x1024 .bf16} {harg10 : arg10.IsWhole}
  {arg11 : Memref sig .tc .vmem S1024x256 .bf16} {harg11 : arg11.IsWhole}
  {arg12 : Memref sig .tc .vmem S1024x256 .bf16} {harg12 : arg12.IsWhole}
  {arg13 : Memref sig .tc .vmem S1024x256 .bf16} {harg13 : arg13.IsWhole}
  {arg14 : Memref sig .tc .vmem S1024x1024 .f32} {harg14 : arg14.IsWhole}
  {arg15 : Memref sig .tc .vmem S1x1024 .f32} {harg15 : arg15.IsWhole}
  {arg16 : Memref sig .tc .vmem S1024x1024 .f32} {harg16 : arg16.IsWhole}
  (x0 x1 : Vec F S1024x1024 .f32) (x2 : Vec F S1x1024 .f32) (x3 x4 : Vec F S1024x256 .bf16) (x5 x6 x7 : Vec F S256x1024 .bf16)

set_option maxHeartbeats 8000000 in
/-- The first column block of a row block: the copy of `dy` and the zeroed accumulator are stored first. -/
theorem runA
    (hc1 : k0_cond1 i = 1#1) (hc2 : ¬k0_cond2 i = 1#1)
    (xi : Vec F S1024x1024 .f32) (xg : Vec F S1x1024 .f32) (E : Set ℕ) (K : PUnit → sProp 𝕄) :
    iprop(own c arg2 x0 ∗ own c arg3 x1 ∗ own c arg4 x2 ∗ own c arg5 x3 ∗ own c arg6 x4 ∗ own c arg7 x5 ∗ own c arg8 x6 ∗ own c arg9 x7 ∗ (∃ d, own c arg10 d) ∗ (∃ d, own c arg11 d) ∗ (∃ d, own c arg12 d) ∗ (∃ d, own c arg13 d) ∗ own c arg14 xi ∗ own c arg15 xg ∗ (∃ d, own c arg16 d)
        ∗ (iprop(own c arg2 x0 ∗ own c arg3 x1 ∗ own c arg4 x2 ∗ own c arg5 x3 ∗ own c arg6 x4 ∗ own c arg7 x5 ∗ own c arg8 x6 ∗ own c arg9 x7 ∗ own c arg10 (k0_pay7 (F := F) x0) ∗ own c arg11 (actv x3 x4) ∗ own c arg12 (dgatev (k0_pay7 (F := F) x0) x7 x3 x4) ∗ own c arg13 (dupv (k0_pay7 (F := F) x0) x7 x3) ∗ own c arg14 xi ∗ own c arg15 xg ∗ own c arg16 (accv x5 x6 (k0_pay7 (F := F) x0) x7 x3 x4 k0_pay8 [⟨Rect.unit (s := S1024x1024) ![0, 0] S1024x1024.size inb_S1024x1024_S1024x1024_0_0, k0_pay8⟩])) -∗ K ⟨⟩))
      ⊢ wp frame (wpE (defs₀ (F := F)) Variants.none c none) E (cc0_ffn1_bwd_act i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn1_bwd_act_eq_skeleton]; unfold cc0_ffn1_bwd_act_skel
  simp only [k0_part1_eq_skeleton, k0_part2_eq_skeleton, k0_part3_eq_skeleton, k0_part4_eq_skeleton, k0_part5_eq_skeleton]
  unfold own owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%f14, %hf14, H14⟩, ⟨%f15, %hf15, H15⟩, ⟨%d16, %f16, -, H16⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg14.eq_unread hf14
  obtain rfl := harg15.eq_unread hf15
  sl_exec (disch := first | sl_exact hc1 | sl_exact hc2)
  sl_step
  iapply Hk
  isplitl [H2]; rotate_left; isplitl [H3]; rotate_left; isplitl [H4]; rotate_left; isplitl [H5]; rotate_left; isplitl [H6]; rotate_left; isplitl [H7]; rotate_left; isplitl [H8]; rotate_left
  isplitl [H9]; rotate_left; isplitl [H10]; rotate_left; isplitl [H11]; rotate_left; isplitl [H12]; rotate_left; isplitl [H13]; rotate_left; isplitl [H14]; rotate_left; isplitl [H15]; rotate_left
  rotate_left
  all_goals (iexists _; isplitr; swap; iassumption)
  all_goals ipureintro
  iterate 8 exact Memref.IsWhole.read_unread _ _
  · rw [View.read_writes_eq_canon (Val := Elt F)]; swap; · exact View.cover_of_wholeMem _ (by sl_whole_mem)
    frame_open; simp (disch := first | rfl | decide) only [↓View.readCov_skip, ↓View.readCov_fill, View.readCov_unit_lit', View.readAt_eq_ld, Memref.IsWhole.read_unread, View.ld_unit_lit', View.canon_cons_unit_lit']
  iterate 3
    · rw [View.read_writes_eq_canon (Val := Elt F)]; swap; · exact View.cover_of_tiledL _ S256x256.size (by sl_kernel_rfl)
      frame_open; simp (disch := first | rfl | decide) only [↓View.readCov_skip, ↓View.readCov_fill, View.readCov_unit_lit', View.readAt_eq_ld, Memref.IsWhole.read_unread, View.ld_unit_lit', View.canon_cons_unit_lit']
  iterate 2 exact Memref.IsWhole.read_unread _ _
  · rw [View.read_writes_eq_canon (Val := Elt F)]; swap; · exact View.cover_of_wholeMem _ (by sl_whole_mem)
    frame_open; simp (disch := first | rfl | decide) only [↓View.readCov_skip, ↓View.readCov_fill, View.readCov_unit_lit', View.readAt_eq_ld, Memref.IsWhole.read_unread, View.ld_unit_lit', View.canon_cons_unit_lit']

set_option maxHeartbeats 8000000 in
/-- A column block in the middle of a row block. -/
theorem runB
    (hc1 : ¬k0_cond1 i = 1#1) (hc2 : ¬k0_cond2 i = 1#1)
    (x8 : Vec F S1024x1024 .bf16) (xs : Vec F S1024x1024 .f32) (xi : Vec F S1024x1024 .f32) (xg : Vec F S1x1024 .f32) (E : Set ℕ) (K : PUnit → sProp 𝕄) :
    iprop(own c arg2 x0 ∗ own c arg3 x1 ∗ own c arg4 x2 ∗ own c arg5 x3 ∗ own c arg6 x4 ∗ own c arg7 x5 ∗ own c arg8 x6 ∗ own c arg9 x7 ∗ own c arg10 x8 ∗ (∃ d, own c arg11 d) ∗ (∃ d, own c arg12 d) ∗ (∃ d, own c arg13 d) ∗ own c arg14 xi ∗ own c arg15 xg ∗ own c arg16 xs
        ∗ (iprop(own c arg2 x0 ∗ own c arg3 x1 ∗ own c arg4 x2 ∗ own c arg5 x3 ∗ own c arg6 x4 ∗ own c arg7 x5 ∗ own c arg8 x6 ∗ own c arg9 x7 ∗ own c arg10 x8 ∗ own c arg11 (actv x3 x4) ∗ own c arg12 (dgatev x8 x7 x3 x4) ∗ own c arg13 (dupv x8 x7 x3) ∗ own c arg14 xi ∗ own c arg15 xg ∗ own c arg16 (accv x5 x6 x8 x7 x3 x4 xs [])) -∗ K ⟨⟩))
      ⊢ wp frame (wpE (defs₀ (F := F)) Variants.none c none) E (cc0_ffn1_bwd_act i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn1_bwd_act_eq_skeleton]; unfold cc0_ffn1_bwd_act_skel
  simp only [k0_part1_eq_skeleton, k0_part2_eq_skeleton, k0_part3_eq_skeleton, k0_part4_eq_skeleton, k0_part5_eq_skeleton]
  unfold own owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%f15, %hf15, H15⟩, ⟨%f16, %hf16, H16⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg14.eq_unread hf14
  obtain rfl := harg15.eq_unread hf15
  obtain rfl := harg16.eq_unread hf16
  sl_exec (disch := first | sl_exact hc1 | sl_exact hc2)
  sl_step
  iapply Hk
  isplitl [H2]; rotate_left; isplitl [H3]; rotate_left; isplitl [H4]; rotate_left; isplitl [H5]; rotate_left; isplitl [H6]; rotate_left; isplitl [H7]; rotate_left; isplitl [H8]; rotate_left
  isplitl [H9]; rotate_left; isplitl [H10]; rotate_left; isplitl [H11]; rotate_left; isplitl [H12]; rotate_left; isplitl [H13]; rotate_left; isplitl [H14]; rotate_left; isplitl [H15]; rotate_left
  rotate_left
  all_goals (iexists _; isplitr; swap; iassumption)
  all_goals ipureintro
  iterate 9 exact Memref.IsWhole.read_unread _ _
  iterate 3
    · rw [View.read_writes_eq_canon (Val := Elt F)]; swap; · exact View.cover_of_tiledL _ S256x256.size (by sl_kernel_rfl)
      frame_open; simp (disch := first | rfl | decide) only [↓View.readCov_skip, ↓View.readCov_fill, View.readCov_unit_lit', View.readAt_eq_ld, Memref.IsWhole.read_unread, View.ld_unit_lit', View.canon_cons_unit_lit']
  iterate 2 exact Memref.IsWhole.read_unread _ _
  · rw [View.read_writes_eq_canon (Val := Elt F)]; swap; · exact View.cover_of_tiledL _ S256x1024.size (by sl_kernel_rfl)
    frame_open; simp (disch := first | rfl | decide) only [↓View.readCov_skip, ↓View.readCov_fill, View.readCov_unit_lit', View.readAt_eq_ld, Memref.IsWhole.read_unread, View.ld_unit_lit', View.canon_cons_unit_lit']

set_option maxHeartbeats 8000000 in
/-- The last column block of the first row block: the gradient of `x` is stored, and the gain's gradient begun. -/
theorem runC
    (hc1 : ¬k0_cond1 i = 1#1) (hc2 : k0_cond2 i = 1#1) (hc3 : k0_cond3 i = 1#1)
    (x8 : Vec F S1024x1024 .bf16) (xs : Vec F S1024x1024 .f32) (E : Set ℕ) (K : PUnit → sProp 𝕄) :
    iprop(own c arg2 x0 ∗ own c arg3 x1 ∗ own c arg4 x2 ∗ own c arg5 x3 ∗ own c arg6 x4 ∗ own c arg7 x5 ∗ own c arg8 x6 ∗ own c arg9 x7 ∗ own c arg10 x8 ∗ (∃ d, own c arg11 d) ∗ (∃ d, own c arg12 d) ∗ (∃ d, own c arg13 d) ∗ (∃ d, own c arg14 d) ∗ (∃ d, own c arg15 d) ∗ own c arg16 xs
        ∗ (iprop(own c arg2 x0 ∗ own c arg3 x1 ∗ own c arg4 x2 ∗ own c arg5 x3 ∗ own c arg6 x4 ∗ own c arg7 x5 ∗ own c arg8 x6 ∗ own c arg9 x7 ∗ own c arg10 x8 ∗ own c arg11 (actv x3 x4) ∗ own c arg12 (dgatev x8 x7 x3 x4) ∗ own c arg13 (dupv x8 x7 x3) ∗ own c arg14 (k0_pay5 x1 (accv x5 x6 x8 x7 x3 x4 xs []) x2 x0) ∗ own c arg15 (k0_pay2 (k0_pay4 x1 (accv x5 x6 x8 x7 x3 x4 xs [])) k0_pay6) ∗ own c arg16 (accv x5 x6 x8 x7 x3 x4 xs [])) -∗ K ⟨⟩))
      ⊢ wp frame (wpE (defs₀ (F := F)) Variants.none c none) E (cc0_ffn1_bwd_act i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn1_bwd_act_eq_skeleton]; unfold cc0_ffn1_bwd_act_skel
  simp only [k0_part1_eq_skeleton, k0_part2_eq_skeleton, k0_part3_eq_skeleton, k0_part4_eq_skeleton, k0_part5_eq_skeleton]
  unfold own owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%f16, %hf16, H16⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg16.eq_unread hf16
  sl_exec (disch := first | sl_exact hc1 | sl_exact hc2 | sl_exact hc3)
  sl_step
  iapply Hk
  isplitl [H2]; rotate_left; isplitl [H3]; rotate_left; isplitl [H4]; rotate_left; isplitl [H5]; rotate_left; isplitl [H6]; rotate_left; isplitl [H7]; rotate_left; isplitl [H8]; rotate_left
  isplitl [H9]; rotate_left; isplitl [H10]; rotate_left; isplitl [H11]; rotate_left; isplitl [H12]; rotate_left; isplitl [H13]; rotate_left; isplitl [H14]; rotate_left; isplitl [H15]; rotate_left
  rotate_left
  all_goals (iexists _; isplitr; swap; iassumption)
  all_goals ipureintro
  iterate 9 exact Memref.IsWhole.read_unread _ _
  iterate 3
    · rw [View.read_writes_eq_canon (Val := Elt F)]; swap; · exact View.cover_of_tiledL _ S256x256.size (by sl_kernel_rfl)
      frame_open; simp (disch := first | rfl | decide) only [↓View.readCov_skip, ↓View.readCov_fill, View.readCov_unit_lit', View.readAt_eq_ld, Memref.IsWhole.read_unread, View.ld_unit_lit', View.canon_cons_unit_lit']
  iterate 2
    · rw [View.read_writes_eq_canon (Val := Elt F)]; swap; · exact View.cover_of_wholeMem _ (by sl_whole_mem)
      frame_open; simp (disch := first | rfl | decide) only [↓View.readCov_skip, ↓View.readCov_fill, View.readCov_unit_lit', View.readAt_eq_ld, Memref.IsWhole.read_unread, View.ld_unit_lit', View.canon_cons_unit_lit']
      rw [View.readCov_eq_canon_ld (Val := Elt F)]; swap; · exact View.cover_of_tiledL _ S256x1024.size (by sl_kernel_rfl)
      simp (disch := first | rfl | decide) only [View.ld_unit_lit']
  · rw [View.read_writes_eq_canon (Val := Elt F)]; swap; · exact View.cover_of_tiledL _ S256x1024.size (by sl_kernel_rfl)
    frame_open; simp (disch := first | rfl | decide) only [↓View.readCov_skip, ↓View.readCov_fill, View.readCov_unit_lit', View.readAt_eq_ld, Memref.IsWhole.read_unread, View.ld_unit_lit', View.canon_cons_unit_lit']

set_option maxHeartbeats 8000000 in
/-- The last column block of the last row block: the gradient of `x` is stored, and the gain's gradient added to. -/
theorem runD
    (hc1 : ¬k0_cond1 i = 1#1) (hc2 : k0_cond2 i = 1#1) (hc3 : ¬k0_cond3 i = 1#1)
    (x8 : Vec F S1024x1024 .bf16) (xs : Vec F S1024x1024 .f32) (xg : Vec F S1x1024 .f32) (E : Set ℕ) (K : PUnit → sProp 𝕄) :
    iprop(own c arg2 x0 ∗ own c arg3 x1 ∗ own c arg4 x2 ∗ own c arg5 x3 ∗ own c arg6 x4 ∗ own c arg7 x5 ∗ own c arg8 x6 ∗ own c arg9 x7 ∗ own c arg10 x8 ∗ (∃ d, own c arg11 d) ∗ (∃ d, own c arg12 d) ∗ (∃ d, own c arg13 d) ∗ (∃ d, own c arg14 d) ∗ own c arg15 xg ∗ own c arg16 xs
        ∗ (iprop(own c arg2 x0 ∗ own c arg3 x1 ∗ own c arg4 x2 ∗ own c arg5 x3 ∗ own c arg6 x4 ∗ own c arg7 x5 ∗ own c arg8 x6 ∗ own c arg9 x7 ∗ own c arg10 x8 ∗ own c arg11 (actv x3 x4) ∗ own c arg12 (dgatev x8 x7 x3 x4) ∗ own c arg13 (dupv x8 x7 x3) ∗ own c arg14 (k0_pay5 x1 (accv x5 x6 x8 x7 x3 x4 xs []) x2 x0) ∗ own c arg15 (k0_pay2 (k0_pay4 x1 (accv x5 x6 x8 x7 x3 x4 xs [])) xg) ∗ own c arg16 (accv x5 x6 x8 x7 x3 x4 xs [])) -∗ K ⟨⟩))
      ⊢ wp frame (wpE (defs₀ (F := F)) Variants.none c none) E (cc0_ffn1_bwd_act i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn1_bwd_act_eq_skeleton]; unfold cc0_ffn1_bwd_act_skel
  simp only [k0_part1_eq_skeleton, k0_part2_eq_skeleton, k0_part3_eq_skeleton, k0_part4_eq_skeleton, k0_part5_eq_skeleton]
  unfold own owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%f15, %hf15, H15⟩, ⟨%f16, %hf16, H16⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg15.eq_unread hf15
  obtain rfl := harg16.eq_unread hf16
  sl_exec (disch := first | sl_exact hc1 | sl_exact hc2 | sl_exact hc3)
  sl_step
  iapply Hk
  isplitl [H2]; rotate_left; isplitl [H3]; rotate_left; isplitl [H4]; rotate_left; isplitl [H5]; rotate_left; isplitl [H6]; rotate_left; isplitl [H7]; rotate_left; isplitl [H8]; rotate_left
  isplitl [H9]; rotate_left; isplitl [H10]; rotate_left; isplitl [H11]; rotate_left; isplitl [H12]; rotate_left; isplitl [H13]; rotate_left; isplitl [H14]; rotate_left; isplitl [H15]; rotate_left
  rotate_left
  all_goals (iexists _; isplitr; swap; iassumption)
  all_goals ipureintro
  iterate 9 exact Memref.IsWhole.read_unread _ _
  iterate 3
    · rw [View.read_writes_eq_canon (Val := Elt F)]; swap; · exact View.cover_of_tiledL _ S256x256.size (by sl_kernel_rfl)
      frame_open; simp (disch := first | rfl | decide) only [↓View.readCov_skip, ↓View.readCov_fill, View.readCov_unit_lit', View.readAt_eq_ld, Memref.IsWhole.read_unread, View.ld_unit_lit', View.canon_cons_unit_lit']
  iterate 2
    · rw [View.read_writes_eq_canon (Val := Elt F)]; swap; · exact View.cover_of_wholeMem _ (by sl_whole_mem)
      frame_open; simp (disch := first | rfl | decide) only [↓View.readCov_skip, ↓View.readCov_fill, View.readCov_unit_lit', View.readAt_eq_ld, Memref.IsWhole.read_unread, View.ld_unit_lit', View.canon_cons_unit_lit']
      rw [View.readCov_eq_canon_ld (Val := Elt F)]; swap; · exact View.cover_of_tiledL _ S256x1024.size (by sl_kernel_rfl)
      simp (disch := first | rfl | decide) only [View.ld_unit_lit']
  · rw [View.read_writes_eq_canon (Val := Elt F)]; swap; · exact View.cover_of_tiledL _ S256x1024.size (by sl_kernel_rfl)
    frame_open; simp (disch := first | rfl | decide) only [↓View.readCov_skip, ↓View.readCov_fill, View.readCov_unit_lit', View.readAt_eq_ld, Memref.IsWhole.read_unread, View.ld_unit_lit', View.canon_cons_unit_lit']

end Cert.ActBwdIdeal.Act

end
-- ==== Proof.ActBwdFrame.lean ====
/-
  The feed-forward block's backward kernel over the whole grid: what each window's buffer and the accumulator hold after every point,
  that the body keeps to it at every point, and the run of the program that follows.  The copy of `dy` is stored at the first point of
  a row block and read at the later ones; the accumulator is carried from point to point; the gain's gradient from the first row block
  to the second.
-/
module

public import proofs.«01_k».proof.Proof.ActBwdRun
public import Idealize.ShloMosaic.Lib.Pipeline.TableIdle

@[expose] public section

set_option maxRecDepth 16384

noncomputable section

namespace Cert.ActBwdIdeal.Act

open Cert.ActBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

theorem points : cfg0.N = 22 := N_0

theorem cond1_iff : ∀ t : Fin cfg0.N, k0_cond1 (grid0.coords t) = 1#1 ↔ t.val % 11 = 0 := by decide +kernel
theorem cond2_iff : ∀ t : Fin cfg0.N, k0_cond2 (grid0.coords t) = 1#1 ↔ t.val % 11 = 10 := by decide +kernel
theorem cond3_iff : ∀ t : Fin cfg0.N, k0_cond3 (grid0.coords t) = 1#1 ↔ t.val < 11 := by decide +kernel
theorem idle8 : ∀ t : Fin cfg0.N, cfg0.idle 8 (grid0.coords t) = !decide (t.val % 11 = 0) := by decide +kernel
theorem idle12 : ∀ t : Fin cfg0.N, cfg0.idle 12 (grid0.coords t) = !decide (t.val % 11 = 10) := by decide +kernel
theorem idle13 : ∀ t : Fin cfg0.N, cfg0.idle 13 (grid0.coords t) = !decide (t.val % 11 = 10) := by decide +kernel
theorem flush8 (t : Fin cfg0.N) : (cfg0.win 8).flush t = decide (t.val % 11 = 10) := by
  rw [Bool.eq_iff_iff, flush0_8 t, decide_eq_true_iff]
theorem flush12 (t : Fin cfg0.N) : (cfg0.win 12).flush t = decide (t.val % 11 = 10) := by
  rw [Bool.eq_iff_iff, flush0_12 t, decide_eq_true_iff]
theorem flush13 (t : Fin cfg0.N) : (cfg0.win 13).flush t = decide (t.val % 22 = 21) := by
  rw [Bool.eq_iff_iff, flush0_13 t, decide_eq_true_iff]

/-- The copy of `dy` is not there yet only at the start of a row block. -/
theorem fresh8 : ∀ n, n ≤ cfg0.N → cfg0.fresh 8 n = decide (n % 11 = 0) :=
  cfg0.fresh_tab 8 (fun n => decide (n % 11 = 0)) rfl (fun t => by
    rw [flush8, idle8, Bool.eq_iff_iff]; simp only [decide_eq_true_iff, Bool.or_eq_true, Bool.and_eq_true, Bool.not_eq_true', decide_eq_false_iff_not]
    omega)
/-- The gain's gradient is not there yet in the first row block. -/
theorem fresh13 : ∀ n, n ≤ cfg0.N → cfg0.fresh 13 n = decide (n ≤ 10 ∨ n = 22) :=
  cfg0.fresh_tab 13 (fun n => decide (n ≤ 10 ∨ n = 22)) rfl (fun t => by
    have := t.isLt; have hN := points
    rw [flush13, idle13, Bool.eq_iff_iff]; simp only [decide_eq_true_iff, Bool.or_eq_true, Bool.and_eq_true, Bool.not_eq_true', decide_eq_false_iff_not]
    omega)

/-! ## What the buffers hold -/

/-- The first point of a point's row block. -/
def rowc (t : Fin cfg0.N) : Fin cfg0.N := ⟨t.val / 11 * 11, by have := t.isLt; omega⟩

/-- The copy of `dy` for a point's row block. -/
def bAt (c : Dev nD) (t : Fin cfg0.N) : Vec F S1024x1024 .bf16 := k0_pay7 (iblk m c 0 (rowc t))

/-- The accumulator after the first point of a row block, -/
def stepA (c : Dev nD) (t : Fin cfg0.N) : Vec F S1024x1024 .f32 :=
  accv (iblk m c 5 t) (iblk m c 6 t) (k0_pay7 (iblk m c 0 t)) (iblk m c 7 t) (iblk m c 3 t) (iblk m c 4 t) k0_pay8
    [⟨Rect.unit (s := S1024x1024) ![0, 0] S1024x1024.size inb_S1024x1024_S1024x1024_0_0, k0_pay8⟩]

/-- and after a later one, over what it held. -/
def stepB (c : Dev nD) (t : Fin cfg0.N) (a : Vec F S1024x1024 .f32) : Vec F S1024x1024 .f32 :=
  accv (iblk m c 5 t) (iblk m c 6 t) (bAt m c t) (iblk m c 7 t) (iblk m c 3 t) (iblk m c 4 t) a []

/-- The accumulator after each point. -/
def accAt (c : Dev nD) : (n : ℕ) → n < cfg0.N → Vec F S1024x1024 .f32
  | 0, h => stepA m c ⟨0, h⟩
  | n + 1, h => if (n + 1) % 11 = 0 then stepA m c ⟨n + 1, h⟩ else stepB m c ⟨n + 1, h⟩ (accAt c n (by omega))

theorem accAt_A (c : Dev nD) (t : Fin cfg0.N) (h : t.val % 11 = 0) : accAt m c t.val t.isLt = stepA m c t := by
  obtain ⟨n, hn⟩ := t
  cases n with
  | zero => rfl
  | succ n => exact if_pos h

theorem accAt_B (c : Dev nD) (t : Fin cfg0.N) (h : ¬t.val % 11 = 0) :
    accAt m c t.val t.isLt = stepB m c t (accAt m c (t.val - 1) (by have := t.isLt; omega)) := by
  obtain ⟨n, hn⟩ := t
  cases n with
  | zero => exact absurd (Nat.zero_mod _) h
  | succ n => exact if_neg h

theorem rowc_A (t : Fin cfg0.N) (h : t.val % 11 = 0) : rowc t = t := Fin.ext (by show t.val / 11 * 11 = t.val; omega)
theorem rowc_pred (t : Fin cfg0.N) (h : ¬t.val % 11 = 0) : rowc ⟨t.val - 1, by have := t.isLt; omega⟩ = rowc t :=
  Fin.ext (by show (t.val - 1) / 11 * 11 = t.val / 11 * 11; omega)

/-- The last points of the two row blocks. -/
abbrev tC : Fin cfg0.N := ⟨10, by rw [points]; omega⟩
@[inherit_doc tC] abbrev tD : Fin cfg0.N := ⟨21, by rw [points]; omega⟩

/-- The block of the gradient of `x` (stored at the last point of a row block). -/
def dxAt (c : Dev nD) (t : Fin cfg0.N) : Vec F S1024x1024 .f32 :=
  k0_pay5 (iblk m c 1 t) (accAt m c t.val t.isLt) (iblk m c 2 t) (iblk m c 0 t)

/-- The gain's gradient after the first row block, -/
def gainA (c : Dev nD) : Vec F S1x1024 .f32 := k0_pay2 (k0_pay4 (iblk m c 1 tC) (accAt m c tC.val tC.isLt)) k0_pay6
/-- and after the second. -/
def gainB (c : Dev nD) : Vec F S1x1024 .f32 := k0_pay2 (k0_pay4 (iblk m c 1 tD) (accAt m c tD.val tD.isLt)) (gainA m c)
/-- The gain's gradient's buffer, point by point. -/
def gainAt (c : Dev nD) (t : Fin cfg0.N) : Vec F S1x1024 .f32 := if t.val = 21 then gainB m c else gainA m c

/-- The accumulator's buffer. -/
abbrev scM : Memref sig .tc .vmem S1024x1024 .f32 := Memref.whole cc0_scratch0

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- What is held between points: the accumulator at what the point before left. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-- Before any point the accumulator's buffer is held at something. -/
theorem PhiS_any (c : Dev nD) (n : ℕ) (h : n ≤ cfg0.N) :
    PhiS m c n h ⊢ iprop(iprop((∃ d, owns (c : Thread nD τ) scM fullShare d)) ∗ (∃ r, prngReg c r)) := by
  cases n with
  | zero => rw [PhiS_zero m c 0 h rfl, PhiA_eq]
  | succ n =>
    rw [PhiS_succ m c n h]
    iintro ⟨HS, Hg⟩
    isplitl [HS]
    · iexists _; iexact HS
    iexact Hg

/-- What the program's windows hold after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => bAt m c t
    | ⟨9, _⟩ => actv (iblk m c 3 t) (iblk m c 4 t)
    | ⟨10, _⟩ => dgatev (bAt m c t) (iblk m c 7 t) (iblk m c 3 t) (iblk m c 4 t)
    | ⟨11, _⟩ => dupv (bAt m c t) (iblk m c 7 t) (iblk m c 3 t)
    | ⟨12, _⟩ => dxAt m c t
    | ⟨13, _⟩ => gainAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = bAt m c t := by dsimp only [dats]
theorem after9 (c : Dev nD) (t : Fin cfg0.N) : (dats m 0 c).after 9 t = actv (iblk m c 3 t) (iblk m c 4 t) := by dsimp only [dats]
theorem after10 (c : Dev nD) (t : Fin cfg0.N) : (dats m 0 c).after 10 t = dgatev (bAt m c t) (iblk m c 7 t) (iblk m c 3 t) (iblk m c 4 t) := by dsimp only [dats]
theorem after11 (c : Dev nD) (t : Fin cfg0.N) : (dats m 0 c).after 11 t = dupv (bAt m c t) (iblk m c 7 t) (iblk m c 3 t) := by dsimp only [dats]
theorem after12 (c : Dev nD) (t : Fin cfg0.N) : (dats m 0 c).after 12 t = dxAt m c t := by dsimp only [dats]
theorem after13 (c : Dev nD) (t : Fin cfg0.N) : (dats m 0 c).after 13 t = gainAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-- Past the start of a row block the body finds the copy of `dy` there. -/
theorem before8 (c : Dev nD) (t : Fin cfg0.N) (h : ¬t.val % 11 = 0) (d) : (dats m 0 c).before 8 t d = bAt m c t := by
  rw [Dat.before_out_traj (dats m 0 c) 8 rfl (fun _ _ => rfl) (fun s hs hi hf => ?_) t.val t rfl d, fresh8 _ (Nat.le_of_lt t.isLt),
    decide_eq_false h, if_neg Bool.false_ne_true, after8]
  · unfold bAt; rw [rowc_pred t h]
  · rw [idle8, Bool.not_eq_true', decide_eq_false_iff_not] at hi
    rw [after8, after8]; unfold bAt; rw [rowc_pred s hi]

/-- At the last point the body finds the first row block's gain gradient there. -/
theorem before13 (c : Dev nD) (t : Fin cfg0.N) (h : t.val = 21) (d) : (dats m 0 c).before 13 t d = gainA m c := by
  rw [Dat.before_out_traj (dats m 0 c) 13 rfl (fun _ _ => rfl) (fun s hs hi hf => ?_) t.val t rfl d, fresh13 _ (Nat.le_of_lt t.isLt),
    decide_eq_false (by omega), if_neg Bool.false_ne_true, after13]
  · unfold gainAt; rw [if_neg (by show ¬t.val - 1 = 21; omega)]
  · rw [idle13, Bool.not_eq_true', decide_eq_false_iff_not] at hi
    have := s.isLt
    have hN := points
    rw [after13, after13]; unfold gainAt; rw [if_neg (by omega), if_neg (by show ¬s.val - 1 = 21; omega)]

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

theorem leaves_flush (c : Dev nD) (w : Fin cfg0.W) (t : Fin cfg0.N) (h : cfg0.idle w (grid0.coords t) = true)
    (hf : (cfg0.win w).flush t = true) :
    (dats m 0 c).leavesExact w t = owns (c : Thread nD τ) ((cfg0.win w).stage (cfg0.slots t w)) fullShare ((dats m 0 c).after w t) := by
  unfold Dat.leavesExact; rw [h, hf]

/-! ## The body at any point -/

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)
set_option maxHeartbeats 4000000 in
/-- At the first point of a row block. -/
theorem bodyA (c : Dev nD) (t : Fin cfg0.N) (h0 : t.val % 11 = 0) (h1 : ¬t.val % 11 = 10) :
    bodyPre m c t ⊢ wp frame (wpE (defs₀ (F := F)) Variants.none c none) Set.univ (bodyAt0 t) (fun _ => bodyPost m c t) := by
  have hN := points
  have ht := t.isLt
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves_live m c 0 t rfl, after0]
  rw [leaves_live m c 1 t rfl, after1]
  rw [leaves_live m c 2 t rfl, after2]
  rw [leaves_live m c 3 t rfl, after3]
  rw [leaves_live m c 4 t rfl, after4]
  rw [leaves_live m c 5 t rfl, after5]
  rw [leaves_live m c 6 t rfl, after6]
  rw [leaves_live m c 7 t rfl, after7]
  rw [leaves_live m c 9 t rfl, after9]
  rw [leaves_live m c 10 t rfl, after10]
  rw [leaves_live m c 11 t rfl, after11]
  rw [leaves_live m c 8 t (by rw [idle8, decide_eq_true h0]; rfl), after8]
  rw [Dat.leavesExact_idle (dats m 0 c) 12 t (by rw [idle12, decide_eq_false h1]; rfl) (by rw [flush12, decide_eq_false (by omega)])]
  rw [Dat.leavesExact_idle (dats m 0 c) 13 t (by rw [idle13, decide_eq_false h1]; rfl) (by rw [flush13, decide_eq_false (by omega)])]
  rw [show bAt m c t = k0_pay7 (iblk m c 0 t) by unfold bAt; rw [rowc_A t h0], accAt_A m c t h0]; unfold stepA
  refine BIBase.Entails.trans (sep_mono_left (PhiS_any m c _ _)) ?_
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (runA c (grid0.coords t) (iblk m c 0 t) (iblk m c 1 t) (iblk m c 2 t) (iblk m c 3 t) (iblk m c 4 t) (iblk m c 5 t) (iblk m c 6 t) (iblk m c 7 t) ((cond1_iff t).mpr h0) (fun h => h1 ((cond2_iff t).mp h)) _ _ Set.univ _)
  iframe H0 H1 H2 H3 H4 H5 H6 H7
  isplitl [H8]; · iexists _; iexact H8
  isplitl [H9]; · iexists _; iexact H9
  isplitl [H10]; · iexists _; iexact H10
  isplitl [H11]; · iexists _; iexact H11
  iframe H12 H13 HS
  iintro ⟨H0, H1, H2, H3, H4, H5, H6, H7, H8, H9, H10, H11, H12, H13, HS⟩
  isplitl [HS Hg]
  · isplitl [HS]; · iexact HS
    iexact Hg
  iframe Ho H0 H1 H2 H3 H4 H5 H6 H7 H8 H9 H10 H11
  isplitl [H12]; · iexists d12; iexact H12
  iexists d13; iexact H13

set_option maxHeartbeats 4000000 in
/-- At a point in the middle of a row block. -/
theorem bodyB (c : Dev nD) (t : Fin cfg0.N) (h0 : ¬t.val % 11 = 0) (h1 : ¬t.val % 11 = 10) :
    bodyPre m c t ⊢ wp frame (wpE (defs₀ (F := F)) Variants.none c none) Set.univ (bodyAt0 t) (fun _ => bodyPost m c t) := by
  have hN := points
  have ht := t.isLt
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves_live m c 0 t rfl, after0]
  rw [leaves_live m c 1 t rfl, after1]
  rw [leaves_live m c 2 t rfl, after2]
  rw [leaves_live m c 3 t rfl, after3]
  rw [leaves_live m c 4 t rfl, after4]
  rw [leaves_live m c 5 t rfl, after5]
  rw [leaves_live m c 6 t rfl, after6]
  rw [leaves_live m c 7 t rfl, after7]
  rw [leaves_live m c 9 t rfl, after9]
  rw [leaves_live m c 10 t rfl, after10]
  rw [leaves_live m c 11 t rfl, after11]
  rw [Dat.leavesExact_idle (dats m 0 c) 8 t (by rw [idle8, decide_eq_false h0]; rfl) (by rw [flush8, decide_eq_false h1])]
  rw [Dat.leavesExact_idle (dats m 0 c) 12 t (by rw [idle12, decide_eq_false h1]; rfl) (by rw [flush12, decide_eq_false (by omega)])]
  rw [Dat.leavesExact_idle (dats m 0 c) 13 t (by rw [idle13, decide_eq_false h1]; rfl) (by rw [flush13, decide_eq_false (by omega)])]
  simp only [before8 m c t h0]
  rw [PhiS_pos m c _ _ (by omega)]
  rw [accAt_B m c t h0]; unfold stepB
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (runB c (grid0.coords t) (iblk m c 0 t) (iblk m c 1 t) (iblk m c 2 t) (iblk m c 3 t) (iblk m c 4 t) (iblk m c 5 t) (iblk m c 6 t) (iblk m c 7 t) (fun h => h0 ((cond1_iff t).mp h)) (fun h => h1 ((cond2_iff t).mp h)) (bAt m c t) _ _ _ Set.univ _)
  iframe H0 H1 H2 H3 H4 H5 H6 H7 H8
  isplitl [H9]; · iexists _; iexact H9
  isplitl [H10]; · iexists _; iexact H10
  isplitl [H11]; · iexists _; iexact H11
  iframe H12 H13 HS
  iintro ⟨H0, H1, H2, H3, H4, H5, H6, H7, H8, H9, H10, H11, H12, H13, HS⟩
  isplitl [HS Hg]
  · isplitl [HS]; · iexact HS
    iexact Hg
  iframe Ho H0 H1 H2 H3 H4 H5 H6 H7
  isplitl [H8]; · iexists d8; iexact H8
  iframe H9 H10 H11
  isplitl [H12]; · iexists d12; iexact H12
  iexists d13; iexact H13

set_option maxHeartbeats 4000000 in
/-- At the last point of the first row block. -/
theorem bodyC (c : Dev nD) (t : Fin cfg0.N) (h0 : ¬t.val % 11 = 0) (h1 : t.val % 11 = 10) (h2 : t.val < 11) :
    bodyPre m c t ⊢ wp frame (wpE (defs₀ (F := F)) Variants.none c none) Set.univ (bodyAt0 t) (fun _ => bodyPost m c t) := by
  have hN := points
  have ht := t.isLt
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves_live m c 0 t rfl, after0]
  rw [leaves_live m c 1 t rfl, after1]
  rw [leaves_live m c 2 t rfl, after2]
  rw [leaves_live m c 3 t rfl, after3]
  rw [leaves_live m c 4 t rfl, after4]
  rw [leaves_live m c 5 t rfl, after5]
  rw [leaves_live m c 6 t rfl, after6]
  rw [leaves_live m c 7 t rfl, after7]
  rw [leaves_live m c 9 t rfl, after9]
  rw [leaves_live m c 10 t rfl, after10]
  rw [leaves_live m c 11 t rfl, after11]
  rw [leaves_flush m c 8 t (by rw [idle8, decide_eq_false h0]; rfl) (by rw [flush8, decide_eq_true h1]), after8]
  rw [leaves_live m c 12 t (by rw [idle12, decide_eq_true h1]; rfl), after12]
  rw [leaves_live m c 13 t (by rw [idle13, decide_eq_true h1]; rfl), after13]
  simp only [before8 m c t h0]
  rw [PhiS_pos m c _ _ (by omega)]
  unfold dxAt gainAt
  rw [if_neg (by omega)]; unfold gainA
  obtain rfl : t = tC := Fin.ext (by show t.val = 10; omega)
  rw [accAt_B m c tC h0]; unfold stepB
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (runC c (grid0.coords tC) (iblk m c 0 tC) (iblk m c 1 tC) (iblk m c 2 tC) (iblk m c 3 tC) (iblk m c 4 tC) (iblk m c 5 tC) (iblk m c 6 tC) (iblk m c 7 tC) (fun h => h0 ((cond1_iff tC).mp h)) ((cond2_iff tC).mpr h1) ((cond3_iff tC).mpr h2) (bAt m c tC) _ Set.univ _)
  iframe H0 H1 H2 H3 H4 H5 H6 H7 H8
  isplitl [H9]; · iexists _; iexact H9
  isplitl [H10]; · iexists _; iexact H10
  isplitl [H11]; · iexists _; iexact H11
  isplitl [H12]; · iexists _; iexact H12
  isplitl [H13]; · iexists _; iexact H13
  isplitl [HS]; · iexact HS
  iintro ⟨H0, H1, H2, H3, H4, H5, H6, H7, H8, H9, H10, H11, H12, H13, HS⟩
  isplitl [HS Hg]
  · isplitl [HS]; · iexact HS
    iexact Hg
  iframe Ho H0 H1 H2 H3 H4 H5 H6 H7 H8 H9 H10 H11 H12
  iexact H13

set_option maxHeartbeats 4000000 in
/-- At the last point of the second row block. -/
theorem bodyD (c : Dev nD) (t : Fin cfg0.N) (h0 : ¬t.val % 11 = 0) (h1 : t.val % 11 = 10) (h2 : ¬t.val < 11) :
    bodyPre m c t ⊢ wp frame (wpE (defs₀ (F := F)) Variants.none c none) Set.univ (bodyAt0 t) (fun _ => bodyPost m c t) := by
  have hN := points
  have ht := t.isLt
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves_live m c 0 t rfl, after0]
  rw [leaves_live m c 1 t rfl, after1]
  rw [leaves_live m c 2 t rfl, after2]
  rw [leaves_live m c 3 t rfl, after3]
  rw [leaves_live m c 4 t rfl, after4]
  rw [leaves_live m c 5 t rfl, after5]
  rw [leaves_live m c 6 t rfl, after6]
  rw [leaves_live m c 7 t rfl, after7]
  rw [leaves_live m c 9 t rfl, after9]
  rw [leaves_live m c 10 t rfl, after10]
  rw [leaves_live m c 11 t rfl, after11]
  rw [leaves_flush m c 8 t (by rw [idle8, decide_eq_false h0]; rfl) (by rw [flush8, decide_eq_true h1]), after8]
  rw [leaves_live m c 12 t (by rw [idle12, decide_eq_true h1]; rfl), after12]
  rw [leaves_live m c 13 t (by rw [idle13, decide_eq_true h1]; rfl), after13]
  simp only [before8 m c t h0]
  rw [PhiS_pos m c _ _ (by omega)]
  simp only [before13 m c t (by omega)]
  unfold dxAt gainAt
  rw [if_pos (by omega)]; unfold gainB
  obtain rfl : t = tD := Fin.ext (by show t.val = 21; omega)
  rw [accAt_B m c tD h0]; unfold stepB
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (runD c (grid0.coords tD) (iblk m c 0 tD) (iblk m c 1 tD) (iblk m c 2 tD) (iblk m c 3 tD) (iblk m c 4 tD) (iblk m c 5 tD) (iblk m c 6 tD) (iblk m c 7 tD) (fun h => h0 ((cond1_iff tD).mp h)) ((cond2_iff tD).mpr h1) (fun h => h2 ((cond3_iff tD).mp h)) (bAt m c tD) _ (gainA m c) Set.univ _)
  iframe H0 H1 H2 H3 H4 H5 H6 H7 H8
  isplitl [H9]; · iexists _; iexact H9
  isplitl [H10]; · iexists _; iexact H10
  isplitl [H11]; · iexists _; iexact H11
  isplitl [H12]; · iexists _; iexact H12
  isplitl [H13]; · iexact H13
  isplitl [HS]; · iexact HS
  iintro ⟨H0, H1, H2, H3, H4, H5, H6, H7, H8, H9, H10, H11, H12, H13, HS⟩
  isplitl [HS Hg]
  · isplitl [HS]; · iexact HS
    iexact Hg
  iframe Ho H0 H1 H2 H3 H4 H5 H6 H7 H8 H9 H10 H11 H12
  iexact H13

/-- At any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 11 = 0
  · exact bodyA m c t h0 (by omega)
  · by_cases h1 : t.val % 11 = 10
    · by_cases h2 : t.val < 11
      · exact bodyC m c t h0 h1 h2
      · exact bodyD m c t h0 h1 h2
    · exact bodyB m c t h0 h1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [PhiA_eq]
  exact PhiS_any m c cfg0.N (Nat.le_refl _)

/-! ## The run -/

set_option backward.isDefEq.respectTransparency.types false in
/-- The whole program: every array at what its windows write back, and no semaphore left counting. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.ActBwdIdeal.Act

end
-- ==== Proof.ActBwd.lean ====
/-
  The backward pass of the feed-forward block on one device, read at exact real arithmetic: the narrowed half of `dy`, the activation, the
  gradients of the gate and of the up projection, the gradient of the block's input and that of the normalisation's gain.  A grid point
  is a block of 1024 rows and one of 256 hidden columns.  The first four results are read off entry by entry.  For the other two the
  eleven column blocks of a row block add up to the two products over the 2816 hidden columns; the gain's gradient then sums both row
  blocks.
-/
module

public import proofs.«01_k».proof.Proof.ActBwdFrame
public import proofs.«01_k».proof.Proof.Blocks
public import proofs.«01_k».proof.Proof.Gen.ActBwdReferenceIdeal.Run
public import Idealize.ShloMosaic.Lib.Pointwise

@[expose] public section

noncomputable section

namespace Cert.ActBwdReferenceIdeal.Terms

open Idealize.ShloMosaic Cert.ActBwdReferenceIdeal Cert.ActBwdReferenceIdeal.Facts₀

/-- Half of `dy`, narrowed. -/
abbrev dyb (a0 : FVec Ideal S2048x1024 .f32) : FVec Ideal S2048x1024 .bf16 :=
  truncf .bf16 (mulf (broadcastInDim S2048x1024 ![] bcast_S_S2048x1024 (constant S_ .f32 0x3F000000#32)) a0) bitsLt_bf16_f32

/-- The ones of a hidden array's shape. -/
abbrev one : FVec Ideal S2048x2816 .f32 := broadcastInDim S2048x2816 ![] bcast_S_S2048x2816 (constant S_ .f32 0x3F800000#32)

/-- The gate's sigmoid. -/
abbrev sig (gt : FVec Ideal S2048x2816 .bf16) : FVec Ideal S2048x2816 .f32 :=
  Host.divf one (addf one (Host.exp (Host.negf (extf .f32 gt bitsLt_bf16_f32))))

/-- The activation. -/
abbrev act (gt up : FVec Ideal S2048x2816 .bf16) : FVec Ideal S2048x2816 .bf16 :=
  truncf .bf16 (mulf (mulf (extf .f32 gt bitsLt_bf16_f32) (sig gt)) (extf .f32 up bitsLt_bf16_f32)) bitsLt_bf16_f32

/-- The gradient of the activation. -/
abbrev dact (b : FVec Ideal S2048x1024 .bf16) (a7 : FVec Ideal S2816x1024 .bf16) : FVec Ideal S2048x2816 .f32 :=
  Host.dotGeneral (φ₁ := .f32) (φ₂ := .f32) dot_S2048x1024_S1024x2816_S2048x2816_1_0_0_1_n_n none (extf .f32 b bitsLt_bf16_f32)
    (transpose S1024x2816 [1, 0] (extf .f32 a7 bitsLt_bf16_f32) transposes_S2816x1024_S1024x2816_1_0)

/-- The gradient of the up projection, -/
abbrev dup (b : FVec Ideal S2048x1024 .bf16) (a7 : FVec Ideal S2816x1024 .bf16) (gt : FVec Ideal S2048x2816 .bf16) : FVec Ideal S2048x2816 .bf16 :=
  truncf .bf16 (mulf (dact b a7) (mulf (extf .f32 gt bitsLt_bf16_f32) (sig gt))) bitsLt_bf16_f32

/-- and that of the gate. -/
abbrev dgate (b : FVec Ideal S2048x1024 .bf16) (a7 : FVec Ideal S2816x1024 .bf16) (gt up : FVec Ideal S2048x2816 .bf16) : FVec Ideal S2048x2816 .bf16 :=
  truncf .bf16 (mulf (mulf (dact b a7) (extf .f32 up bitsLt_bf16_f32))
    (mulf (sig gt) (addf one (mulf (extf .f32 gt bitsLt_bf16_f32) (subf one (sig gt)))))) bitsLt_bf16_f32

/-- The gradient of the normalised rows. -/
abbrev dh (g u : FVec Ideal S2048x2816 .bf16) (a5 a6 : FVec Ideal S2816x1024 .bf16) : FVec Ideal S2048x1024 .f32 :=
  addf (Host.dotGeneral (φ₁ := .f32) (φ₂ := .f32) dot_S2048x2816_S2816x1024_S2048x1024_1_0_0_1_n_n none (extf .f32 g bitsLt_bf16_f32) (extf .f32 a5 bitsLt_bf16_f32))
    (Host.dotGeneral (φ₁ := .f32) (φ₂ := .f32) dot_S2048x2816_S2816x1024_S2048x1024_1_0_0_1_n_n none (extf .f32 u bitsLt_bf16_f32) (extf .f32 a6 bitsLt_bf16_f32))

/-- One over the root mean square of each row. -/
abbrev rms (x : FVec Ideal S2048x1024 .f32) : FVec Ideal S2048x1 .f32 :=
  Host.rsqrt (addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))

/-- The reference's gradient of the input, given the gradient `d` of the normalised rows. -/
abbrev dinput (d x : FVec Ideal S2048x1024 .f32) (g : FVec Ideal S1x1024 .f32) (dy : FVec Ideal S2048x1024 .f32) :
    FVec Ideal S2048x1024 .f32 :=
  addf dy (subf (mulf (broadcastInDim S2048x1024 ![0, 1] bcast_S2048x1_S2048x1024_0_1 (rms x)) (mulf d (broadcastInDim S2048x1024 ![0, 1] bcast_S1x1024_S2048x1024_0_1 g))) (mulf (mulf x (broadcastInDim S2048x1024 ![0, 1] bcast_S2048x1_S2048x1024_0_1 (mulf (mulf (rms x) (rms x)) (rms x)))) (broadcastInDim S2048x1024 ![0, 1] bcast_S2048x1_S2048x1024_0_1 (Host.divf (broadcastInDim S2048x1 ![0] bcast_S2048_S2048x1_0 (Host.reduceAdd (mulf (mulf d (broadcastInDim S2048x1024 ![0, 1] bcast_S1x1024_S2048x1024_0_1 g)) x) (constant S_ .f32 0x00000000#32) reducesTo_S2048x1024_S2048_d1 h_S_)) (broadcastInDim S2048x1 ![] bcast_S_S2048x1 (constant S_ .f32 0x44800000#32))))))

/-- What the gain's gradient sums over the rows, -/
abbrev gains (d x : FVec Ideal S2048x1024 .f32) : FVec Ideal S2048x1024 .f32 :=
  mulf (mulf d x) (broadcastInDim S2048x1024 ![0, 1] bcast_S2048x1_S2048x1024_0_1 (rms x))

/-- and the sum. -/
abbrev dgain (d x : FVec Ideal S2048x1024 .f32) : FVec Ideal S1x1024 .f32 :=
  broadcastInDim S1x1024 ![1] bcast_S1024_S1x1024_1 (Host.reduceAdd (gains d x) (constant S_ .f32 0x00000000#32) reducesTo_S2048x1024_S1024_d0 h_S_)

end Cert.ActBwdReferenceIdeal.Terms

namespace Cert.ActBwdIdeal.Act

open Idealize.ShloMosaic Idealize.ShloMosaic.TcCoe Idealize.SL.Sem Cert.ActBwdIdeal Cert.ActBwdIdeal.Gen
open Idealize.ShloMosaic.Pipeline (Dat)
open Cert.ActBwdReferenceIdeal.Terms (dyb act dup dgate dh dinput gains dgain)

/-! ## A chunk of 256 rows -/

section Chunk

variable (R : Fin 256 → Fin 2048) (C : Fin 256 → Fin 2816) (b : FVec Ideal S2048x1024 .bf16) (a7 : FVec Ideal S2816x1024 .bf16)
  (gt up : FVec Ideal S2048x2816 .bf16) (y w : FVec Ideal S256x1024 .bf16) (x z : FVec Ideal S256x256 .bf16)

theorem act_apply (hx : ∀ i j, x (ix2 i j) = gt (ix2 (R i) (C j))) (hz : ∀ i j, z (ix2 i j) = up (ix2 (R i) (C j))) (i j : Fin 256) :
    k0_pay17 (F := Ideal) x z (ix2 i j) = act gt up (ix2 (R i) (C j)) := by
  pointwise [k0_pay17, k0_pay14, k0_pay13, k0_pay12, k0_pay11]
  simp only [hx, hz, Ideal.logistic]

theorem dup_apply (hy : ∀ i k, y (ix2 i k) = b (ix2 (R i) k)) (hw : ∀ j k, w (ix2 j k) = a7 (ix2 (C j) k))
    (hx : ∀ i j, x (ix2 i j) = gt (ix2 (R i) (C j))) (i j : Fin 256) :
    k0_pay15 (F := Ideal) y w x (ix2 i j) = dup b a7 gt (ix2 (R i) (C j)) := by
  pointwise [k0_pay15, k0_pay14, k0_pay13, k0_pay11, k0_pay10]
  simp only [hx, hy, hw, Ideal.logistic]

theorem dgate_apply (hy : ∀ i k, y (ix2 i k) = b (ix2 (R i) k)) (hw : ∀ j k, w (ix2 j k) = a7 (ix2 (C j) k))
    (hx : ∀ i j, x (ix2 i j) = gt (ix2 (R i) (C j))) (hz : ∀ i j, z (ix2 i j) = up (ix2 (R i) (C j))) (i j : Fin 256) :
    k0_pay16 (F := Ideal) y w x z (ix2 i j) = dgate b a7 gt up (ix2 (R i) (C j)) := by
  pointwise [k0_pay16, k0_pay13, k0_pay12, k0_pay11, k0_pay10]
  simp only [hx, hy, hz, hw, Ideal.logistic]

theorem prod_apply (wg wu : FVec Ideal S256x1024 .bf16) (u g : FVec Ideal S256x256 .bf16) (a : FVec Ideal S256x1024 .f32) (i : Fin 256) (j : Fin 1024) :
    k0_pay18 (F := Ideal) (k0_pay9 wg wu) u g a (ix2 i j)
      = (a (ix2 i j) + (∑ k : Fin 256, g (ix2 i k) * wg (ix2 k j) + ∑ k : Fin 256, u (ix2 i k) * wu (ix2 k j)) : EReal) := by
  pointwise [k0_pay18, k0_pay9]

/-- A chunk of the accumulator gains the column block's part of the two products. -/
theorem acc_apply (a5 a6 : FVec Ideal S2816x1024 .bf16) (wg wu : FVec Ideal S256x1024 .bf16) (a : FVec Ideal S256x1024 .f32)
    (hy : ∀ i k, y (ix2 i k) = b (ix2 (R i) k)) (hw : ∀ j k, w (ix2 j k) = a7 (ix2 (C j) k))
    (hx : ∀ i j, x (ix2 i j) = gt (ix2 (R i) (C j))) (hz : ∀ i j, z (ix2 i j) = up (ix2 (R i) (C j)))
    (hg : ∀ k j, wg (ix2 k j) = a5 (ix2 (C k) j)) (hu : ∀ k j, wu (ix2 k j) = a6 (ix2 (C k) j)) (i : Fin 256) (j : Fin 1024) :
    k0_pay18 (F := Ideal) (k0_pay9 wg wu) (k0_pay15 y w x) (k0_pay16 y w x z) a (ix2 i j)
      = (a (ix2 i j) + ∑ k : Fin 256, (dgate b a7 gt up (ix2 (R i) (C k)) * a5 (ix2 (C k) j) + dup b a7 gt (ix2 (R i) (C k)) * a6 (ix2 (C k) j)) : EReal) := by
  rw [prod_apply, ← Finset.sum_add_distrib]
  refine congrArg _ (Finset.sum_congr rfl fun k _ => ?_)
  rw [dup_apply R C b a7 gt y w x hy hw hx, dgate_apply R C b a7 gt up y w x z hy hw hx hz, hg, hu]

end Chunk

/-! ## A block of 1024 rows -/

/-- Row `i` of chunk `k`. -/
abbrev ch (k : Fin 4) (i : Fin 256) : Fin 1024 := ⟨k.val * 256 + i.val, by omega⟩

theorem rows4 {p : Fin 1024 → Prop} (h0 : ∀ i, p (ch 0 i)) (h1 : ∀ i, p (ch 1 i)) (h2 : ∀ i, p (ch 2 i)) (h3 : ∀ i, p (ch 3 i)) (i : Fin 1024) :
    p i := by
  have h : ∀ k i, p (ch k i) := fun k => match k with | 0 => h0 | 1 => h1 | 2 => h2 | 3 => h3
  have e : ch ⟨i.val / 256, by omega⟩ ⟨i.val % 256, by omega⟩ = i := Fin.ext (by show i.val / 256 * 256 + i.val % 256 = i.val; omega)
  exact e ▸ h _ _

/-- The last store to hit an entry is what it holds. -/
theorem hit {s : Shape} {e : EltTy} (r : Rect s) (w : r.shape.Idx → Elt Ideal e) (L : List (View.Piece (Elt Ideal) s e)) (x : r.shape.Idx)
    {y : s.Idx} (h : r.idx x = y) : View.canon (Val := Elt Ideal) (⟨r, w⟩ :: L) y = w x := by
  subst h
  exact View.canon_cons_emb r w L x

theorem miss {s : Shape} {e : EltTy} (r : Rect s) (w : r.shape.Idx → Elt Ideal e) (L : List (View.Piece (Elt Ideal) s e))
    {y : s.Idx} {v : Elt Ideal e} (h : y ∉ r.set) (hv : View.canon (Val := Elt Ideal) L y = v) : View.canon (Val := Elt Ideal) (⟨r, w⟩ :: L) y = v :=
  (View.canon_cons_of_not_mem (⟨r, w⟩ : View.Piece (Elt Ideal) s e) L h).trans hv

theorem idx_p (k : Fin 4) {o : ℕ} (ho : o = k.val * 256) (inb) (i : Fin 256) (j : Fin 256) :
    (Rect.unit (s := S1024x256) ![o, 0] S256x256.size inb).idx (ix2 i j) = ix2 (ch k i) j := by
  subst ho
  funext a; apply Fin.ext
  match a with
  | ⟨0, _⟩ => show k.val * 256 + 1 * i.val = k.val * 256 + i.val; omega
  | ⟨1, _⟩ => show 0 + 1 * j.val = j.val; omega

theorem out_p {o : ℕ} {inb} (k : Fin 4) (i : Fin 256) (j : Fin 256) (h : k.val * 256 + 256 ≤ o) :
    ix2 (ch k i) j ∉ (Rect.unit (s := S1024x256) ![o, 0] S256x256.size inb).set := fun hm => by
  have := (Rect.mem_set_unit (inb := inb) |>.mp hm 0).1
  change o ≤ k.val * 256 + i.val at this
  omega

/-- Four chunks stored one after the other make the block. -/
theorem canon_p (f : Fin 1024 → Fin 256 → Elt Ideal .bf16) (P0 P1 P2 P3 : FVec Ideal S256x256 .bf16) (L : List (View.Piece (Elt Ideal) S1024x256 .bf16))
    (h0 : ∀ i j, P0 (ix2 i j) = f (ch 0 i) j) (h1 : ∀ i j, P1 (ix2 i j) = f (ch 1 i) j) (h2 : ∀ i j, P2 (ix2 i j) = f (ch 2 i) j)
    (h3 : ∀ i j, P3 (ix2 i j) = f (ch 3 i) j) (i : Fin 1024) (j : Fin 256) :
    View.canon (Val := Elt Ideal) (e := .bf16) (⟨p3, P3⟩ :: ⟨p2, P2⟩ :: ⟨p1, P1⟩ :: ⟨p0, P0⟩ :: L) (ix2 i j) = f i j := by
  revert i
  refine rows4 (fun i => ?_) (fun i => ?_) (fun i => ?_) (fun i => ?_)
  · refine miss (e := .bf16) p3 P3 _ (out_p (o := 768) (inb := inb_S1024x256_S256x256_768_0) 0 i j (by show 0 * 256 + 256 ≤ 768; omega)) ?_
    refine miss (e := .bf16) p2 P2 _ (out_p (o := 512) (inb := inb_S1024x256_S256x256_512_0) 0 i j (by show 0 * 256 + 256 ≤ 512; omega)) ?_
    refine miss (e := .bf16) p1 P1 _ (out_p (o := 256) (inb := inb_S1024x256_S256x256_256_0) 0 i j (by show 0 * 256 + 256 ≤ 256; omega)) ?_
    exact (hit (e := .bf16) p0 P0 _ (ix2 i j) (idx_p 0 rfl _ i j)).trans (h0 i j)
  · refine miss (e := .bf16) p3 P3 _ (out_p (o := 768) (inb := inb_S1024x256_S256x256_768_0) 1 i j (by show 1 * 256 + 256 ≤ 768; omega)) ?_
    refine miss (e := .bf16) p2 P2 _ (out_p (o := 512) (inb := inb_S1024x256_S256x256_512_0) 1 i j (by show 1 * 256 + 256 ≤ 512; omega)) ?_
    exact (hit (e := .bf16) p1 P1 _ (ix2 i j) (idx_p 1 rfl _ i j)).trans (h1 i j)
  · refine miss (e := .bf16) p3 P3 _ (out_p (o := 768) (inb := inb_S1024x256_S256x256_768_0) 2 i j (by show 2 * 256 + 256 ≤ 768; omega)) ?_
    exact (hit (e := .bf16) p2 P2 _ (ix2 i j) (idx_p 2 rfl _ i j)).trans (h2 i j)
  · exact (hit (e := .bf16) p3 P3 _ (ix2 i j) (idx_p 3 rfl _ i j)).trans (h3 i j)

theorem idx_q (k : Fin 4) {o : ℕ} (ho : o = k.val * 256) (inb) (i : Fin 256) (j : Fin 1024) :
    (Rect.unit (s := S1024x1024) ![o, 0] S256x1024.size inb).idx (ix2 i j) = ix2 (ch k i) j := by
  subst ho
  funext a; apply Fin.ext
  match a with
  | ⟨0, _⟩ => show k.val * 256 + 1 * i.val = k.val * 256 + i.val; omega
  | ⟨1, _⟩ => show 0 + 1 * j.val = j.val; omega

theorem out_q {o : ℕ} {inb} (k : Fin 4) (i : Fin 256) (j : Fin 1024) (h : k.val * 256 + 256 ≤ o) :
    ix2 (ch k i) j ∉ (Rect.unit (s := S1024x1024) ![o, 0] S256x1024.size inb).set := fun hm => by
  have := (Rect.mem_set_unit (inb := inb) |>.mp hm 0).1
  change o ≤ k.val * 256 + i.val at this
  omega

/-- Four chunks stored one after the other make the block. -/
theorem canon_q (f : Fin 1024 → Fin 1024 → Elt Ideal .f32) (P0 P1 P2 P3 : FVec Ideal S256x1024 .f32) (L : List (View.Piece (Elt Ideal) S1024x1024 .f32))
    (h0 : ∀ i j, P0 (ix2 i j) = f (ch 0 i) j) (h1 : ∀ i j, P1 (ix2 i j) = f (ch 1 i) j) (h2 : ∀ i j, P2 (ix2 i j) = f (ch 2 i) j)
    (h3 : ∀ i j, P3 (ix2 i j) = f (ch 3 i) j) (i : Fin 1024) (j : Fin 1024) :
    View.canon (Val := Elt Ideal) (e := .f32) (⟨q3, P3⟩ :: ⟨q2, P2⟩ :: ⟨q1, P1⟩ :: ⟨q0, P0⟩ :: L) (ix2 i j) = f i j := by
  revert i
  refine rows4 (fun i => ?_) (fun i => ?_) (fun i => ?_) (fun i => ?_)
  · refine miss (e := .f32) q3 P3 _ (out_q (o := 768) (inb := inb_S1024x1024_S256x1024_768_0) 0 i j (by show 0 * 256 + 256 ≤ 768; omega)) ?_
    refine miss (e := .f32) q2 P2 _ (out_q (o := 512) (inb := inb_S1024x1024_S256x1024_512_0) 0 i j (by show 0 * 256 + 256 ≤ 512; omega)) ?_
    refine miss (e := .f32) q1 P1 _ (out_q (o := 256) (inb := inb_S1024x1024_S256x1024_256_0) 0 i j (by show 0 * 256 + 256 ≤ 256; omega)) ?_
    exact (hit (e := .f32) q0 P0 _ (ix2 i j) (idx_q 0 rfl _ i j)).trans (h0 i j)
  · refine miss (e := .f32) q3 P3 _ (out_q (o := 768) (inb := inb_S1024x1024_S256x1024_768_0) 1 i j (by show 1 * 256 + 256 ≤ 768; omega)) ?_
    refine miss (e := .f32) q2 P2 _ (out_q (o := 512) (inb := inb_S1024x1024_S256x1024_512_0) 1 i j (by show 1 * 256 + 256 ≤ 512; omega)) ?_
    exact (hit (e := .f32) q1 P1 _ (ix2 i j) (idx_q 1 rfl _ i j)).trans (h1 i j)
  · refine miss (e := .f32) q3 P3 _ (out_q (o := 768) (inb := inb_S1024x1024_S256x1024_768_0) 2 i j (by show 2 * 256 + 256 ≤ 768; omega)) ?_
    exact (hit (e := .f32) q2 P2 _ (ix2 i j) (idx_q 2 rfl _ i j)).trans (h2 i j)
  · exact (hit (e := .f32) q3 P3 _ (ix2 i j) (idx_q 3 rfl _ i j)).trans (h3 i j)

section Block

variable (R : Fin 1024 → Fin 2048) (C : Fin 256 → Fin 2816) (b : FVec Ideal S2048x1024 .bf16) (a7 : FVec Ideal S2816x1024 .bf16)
  (gt up : FVec Ideal S2048x2816 .bf16) (y : FVec Ideal S1024x1024 .bf16) (w : FVec Ideal S256x1024 .bf16) (x z : FVec Ideal S1024x256 .bf16)

theorem actv_apply (hx : ∀ i j, x (ix2 i j) = gt (ix2 (R i) (C j))) (hz : ∀ i j, z (ix2 i j) = up (ix2 (R i) (C j)))
    (i : Fin 1024) (j : Fin 256) : actv (F := Ideal) x z (ix2 i j) = act gt up (ix2 (R i) (C j)) :=
  canon_p (fun i j => act gt up (ix2 (R i) (C j))) _ _ _ _ []
    (act_apply (fun i => R (ch 0 i)) C gt up _ _ (fun i j => (congrArg x (idx_p 0 rfl _ i j)).trans (hx _ _)) (fun i j => (congrArg z (idx_p 0 rfl _ i j)).trans (hz _ _)))
    (act_apply (fun i => R (ch 1 i)) C gt up _ _ (fun i j => (congrArg x (idx_p 1 rfl _ i j)).trans (hx _ _)) (fun i j => (congrArg z (idx_p 1 rfl _ i j)).trans (hz _ _)))
    (act_apply (fun i => R (ch 2 i)) C gt up _ _ (fun i j => (congrArg x (idx_p 2 rfl _ i j)).trans (hx _ _)) (fun i j => (congrArg z (idx_p 2 rfl _ i j)).trans (hz _ _)))
    (act_apply (fun i => R (ch 3 i)) C gt up _ _ (fun i j => (congrArg x (idx_p 3 rfl _ i j)).trans (hx _ _)) (fun i j => (congrArg z (idx_p 3 rfl _ i j)).trans (hz _ _))) i j

theorem dgatev_apply (hy : ∀ i k, y (ix2 i k) = b (ix2 (R i) k)) (hw : ∀ j k, w (ix2 j k) = a7 (ix2 (C j) k))
    (hx : ∀ i j, x (ix2 i j) = gt (ix2 (R i) (C j))) (hz : ∀ i j, z (ix2 i j) = up (ix2 (R i) (C j)))
    (i : Fin 1024) (j : Fin 256) : dgatev (F := Ideal) y w x z (ix2 i j) = dgate b a7 gt up (ix2 (R i) (C j)) :=
  canon_p (fun i j => dgate b a7 gt up (ix2 (R i) (C j))) _ _ _ _ []
    (dgate_apply (fun i => R (ch 0 i)) C b a7 gt up _ _ _ _ (fun i j => (congrArg y (idx_q 0 rfl _ i j)).trans (hy _ _)) hw (fun i j => (congrArg x (idx_p 0 rfl _ i j)).trans (hx _ _)) (fun i j => (congrArg z (idx_p 0 rfl _ i j)).trans (hz _ _)))
    (dgate_apply (fun i => R (ch 1 i)) C b a7 gt up _ _ _ _ (fun i j => (congrArg y (idx_q 1 rfl _ i j)).trans (hy _ _)) hw (fun i j => (congrArg x (idx_p 1 rfl _ i j)).trans (hx _ _)) (fun i j => (congrArg z (idx_p 1 rfl _ i j)).trans (hz _ _)))
    (dgate_apply (fun i => R (ch 2 i)) C b a7 gt up _ _ _ _ (fun i j => (congrArg y (idx_q 2 rfl _ i j)).trans (hy _ _)) hw (fun i j => (congrArg x (idx_p 2 rfl _ i j)).trans (hx _ _)) (fun i j => (congrArg z (idx_p 2 rfl _ i j)).trans (hz _ _)))
    (dgate_apply (fun i => R (ch 3 i)) C b a7 gt up _ _ _ _ (fun i j => (congrArg y (idx_q 3 rfl _ i j)).trans (hy _ _)) hw (fun i j => (congrArg x (idx_p 3 rfl _ i j)).trans (hx _ _)) (fun i j => (congrArg z (idx_p 3 rfl _ i j)).trans (hz _ _))) i j

theorem dupv_apply (hy : ∀ i k, y (ix2 i k) = b (ix2 (R i) k)) (hw : ∀ j k, w (ix2 j k) = a7 (ix2 (C j) k))
    (hx : ∀ i j, x (ix2 i j) = gt (ix2 (R i) (C j)))
    (i : Fin 1024) (j : Fin 256) : dupv (F := Ideal) y w x (ix2 i j) = dup b a7 gt (ix2 (R i) (C j)) :=
  canon_p (fun i j => dup b a7 gt (ix2 (R i) (C j))) _ _ _ _ []
    (dup_apply (fun i => R (ch 0 i)) C b a7 gt _ _ _ (fun i j => (congrArg y (idx_q 0 rfl _ i j)).trans (hy _ _)) hw (fun i j => (congrArg x (idx_p 0 rfl _ i j)).trans (hx _ _)))
    (dup_apply (fun i => R (ch 1 i)) C b a7 gt _ _ _ (fun i j => (congrArg y (idx_q 1 rfl _ i j)).trans (hy _ _)) hw (fun i j => (congrArg x (idx_p 1 rfl _ i j)).trans (hx _ _)))
    (dup_apply (fun i => R (ch 2 i)) C b a7 gt _ _ _ (fun i j => (congrArg y (idx_q 2 rfl _ i j)).trans (hy _ _)) hw (fun i j => (congrArg x (idx_p 2 rfl _ i j)).trans (hx _ _)))
    (dup_apply (fun i => R (ch 3 i)) C b a7 gt _ _ _ (fun i j => (congrArg y (idx_q 3 rfl _ i j)).trans (hy _ _)) hw (fun i j => (congrArg x (idx_p 3 rfl _ i j)).trans (hx _ _))) i j

theorem accv_apply (a5 a6 : FVec Ideal S2816x1024 .bf16) (wg wu : FVec Ideal S256x1024 .bf16) (a : FVec Ideal S1024x1024 .f32)
    (L : List (View.Piece (Elt Ideal) S1024x1024 .f32))
    (hy : ∀ i k, y (ix2 i k) = b (ix2 (R i) k)) (hw : ∀ j k, w (ix2 j k) = a7 (ix2 (C j) k))
    (hx : ∀ i j, x (ix2 i j) = gt (ix2 (R i) (C j))) (hz : ∀ i j, z (ix2 i j) = up (ix2 (R i) (C j)))
    (hg : ∀ k j, wg (ix2 k j) = a5 (ix2 (C k) j)) (hu : ∀ k j, wu (ix2 k j) = a6 (ix2 (C k) j)) (i j : Fin 1024) :
    accv (F := Ideal) wg wu y w x z a L (ix2 i j)
      = (a (ix2 i j) + ∑ k : Fin 256, (dgate b a7 gt up (ix2 (R i) (C k)) * a5 (ix2 (C k) j) + dup b a7 gt (ix2 (R i) (C k)) * a6 (ix2 (C k) j)) : EReal) :=
  canon_q (fun i j => (a (ix2 i j) + ∑ k : Fin 256, (dgate b a7 gt up (ix2 (R i) (C k)) * a5 (ix2 (C k) j) + dup b a7 gt (ix2 (R i) (C k)) * a6 (ix2 (C k) j)) : EReal)) _ _ _ _ L
    (fun i j => (acc_apply (fun i => R (ch 0 i)) C b a7 gt up _ _ _ _ a5 a6 _ _ _ (fun i j => (congrArg y (idx_q 0 rfl _ i j)).trans (hy _ _)) hw (fun i j => (congrArg x (idx_p 0 rfl _ i j)).trans (hx _ _)) (fun i j => (congrArg z (idx_p 0 rfl _ i j)).trans (hz _ _)) hg hu i j).trans
      (congrArg (· + _) (congrArg a (idx_q 0 rfl _ i j))))
    (fun i j => (acc_apply (fun i => R (ch 1 i)) C b a7 gt up _ _ _ _ a5 a6 _ _ _ (fun i j => (congrArg y (idx_q 1 rfl _ i j)).trans (hy _ _)) hw (fun i j => (congrArg x (idx_p 1 rfl _ i j)).trans (hx _ _)) (fun i j => (congrArg z (idx_p 1 rfl _ i j)).trans (hz _ _)) hg hu i j).trans
      (congrArg (· + _) (congrArg a (idx_q 1 rfl _ i j))))
    (fun i j => (acc_apply (fun i => R (ch 2 i)) C b a7 gt up _ _ _ _ a5 a6 _ _ _ (fun i j => (congrArg y (idx_q 2 rfl _ i j)).trans (hy _ _)) hw (fun i j => (congrArg x (idx_p 2 rfl _ i j)).trans (hx _ _)) (fun i j => (congrArg z (idx_p 2 rfl _ i j)).trans (hz _ _)) hg hu i j).trans
      (congrArg (· + _) (congrArg a (idx_q 2 rfl _ i j))))
    (fun i j => (acc_apply (fun i => R (ch 3 i)) C b a7 gt up _ _ _ _ a5 a6 _ _ _ (fun i j => (congrArg y (idx_q 3 rfl _ i j)).trans (hy _ _)) hw (fun i j => (congrArg x (idx_p 3 rfl _ i j)).trans (hx _ _)) (fun i j => (congrArg z (idx_p 3 rfl _ i j)).trans (hz _ _)) hg hu i j).trans
      (congrArg (· + _) (congrArg a (idx_q 3 rfl _ i j)))) i j

end Block

/-- Half of `dy` is read off row by row. -/
theorem dyb_apply (R : Fin 1024 → Fin 2048) (a0 : FVec Ideal S2048x1024 .f32) (x : FVec Ideal S1024x1024 .f32)
    (hx : ∀ i j, x (ix2 i j) = a0 (ix2 (R i) j)) (i j : Fin 1024) : k0_pay7 (F := Ideal) x (ix2 i j) = dyb a0 (ix2 (R i) j) := by
  pointwise [k0_pay7]
  simp only [hx]

/-- A row of the gradient of the input is read off that row alone. -/
theorem dinput_apply (R : Fin 1024 → Fin 2048) (d a1 a0 : FVec Ideal S2048x1024 .f32) (a2 : FVec Ideal S1x1024 .f32)
    (y x z : FVec Ideal S1024x1024 .f32) (hy : ∀ i j, y (ix2 i j) = d (ix2 (R i) j)) (hx : ∀ i j, x (ix2 i j) = a1 (ix2 (R i) j))
    (hz : ∀ i j, z (ix2 i j) = a0 (ix2 (R i) j)) (i j : Fin 1024) :
    k0_pay5 (F := Ideal) x y a2 z (ix2 i j) = dinput d a1 a2 a0 (ix2 (R i) j) := by
  pointwise [k0_pay5, k0_pay3]
  simp only [hx, hy, hz]

/-- A row block adds its rows to the gain's gradient. -/
theorem gain_apply (R : Fin 1024 → Fin 2048) (d a1 : FVec Ideal S2048x1024 .f32) (y x : FVec Ideal S1024x1024 .f32) (S : FVec Ideal S1x1024 .f32)
    (hy : ∀ i j, y (ix2 i j) = d (ix2 (R i) j)) (hx : ∀ i j, x (ix2 i j) = a1 (ix2 (R i) j)) (j : Fin 1024) :
    k0_pay2 (F := Ideal) (k0_pay4 x y) S (ix2 0 j) = (S (ix2 0 j) + ∑ r : Fin 1024, gains d a1 (ix2 (R r) j) : EReal) := by
  pointwise [k0_pay2, k0_pay4, k0_pay3]
  simp only [hx, hy]

theorem dh_apply (g u : FVec Ideal Cert.ActBwdReferenceIdeal.S2048x2816 .bf16) (a5 a6 : FVec Ideal S2816x1024 .bf16) (r : Fin 2048) (j : Fin 1024) :
    dh g u a5 a6 (ix2 r j) = (∑ x : Fin 2816, (g (ix2 r x) * a5 (ix2 x j) + u (ix2 r x) * a6 (ix2 x j)) : EReal) := by
  rw [Finset.sum_add_distrib]
  pointwise

/-! ## The blocks of the windows -/

/-- Row `i` of a point's row block, and column `j` of its column block. -/
abbrev row (t : Fin cfg0.N) (i : Fin 1024) : Fin 2048 := ⟨t.val / 11 * 1024 + i.val, by have := t.isLt; have hN := points; omega⟩
@[inherit_doc row] abbrev col (t : Fin cfg0.N) (j : Fin 256) : Fin 2816 := ⟨t.val % 11 * 256 + j.val, by omega⟩

theorem idxR : ∀ t : Fin cfg0.N, (win0_0.index t (0 : Fin 2) = t.val / 11 ∧ win0_0.index t (1 : Fin 2) = 0)
    ∧ (win0_1.index t (0 : Fin 2) = t.val / 11 ∧ win0_1.index t (1 : Fin 2) = 0)
    ∧ (win0_2.index t (0 : Fin 2) = 0 ∧ win0_2.index t (1 : Fin 2) = 0)
    ∧ (win0_3.index t (0 : Fin 2) = t.val / 11 ∧ win0_3.index t (1 : Fin 2) = t.val % 11)
    ∧ (win0_4.index t (0 : Fin 2) = t.val / 11 ∧ win0_4.index t (1 : Fin 2) = t.val % 11)
    ∧ (win0_5.index t (0 : Fin 2) = t.val % 11 ∧ win0_5.index t (1 : Fin 2) = 0)
    ∧ (win0_6.index t (0 : Fin 2) = t.val % 11 ∧ win0_6.index t (1 : Fin 2) = 0)
    ∧ (win0_7.index t (0 : Fin 2) = t.val % 11 ∧ win0_7.index t (1 : Fin 2) = 0)
    ∧ (win0_8.index t (0 : Fin 2) = t.val / 11 ∧ win0_8.index t (1 : Fin 2) = 0)
    ∧ (win0_9.index t (0 : Fin 2) = t.val / 11 ∧ win0_9.index t (1 : Fin 2) = t.val % 11)
    ∧ (win0_10.index t (0 : Fin 2) = t.val / 11 ∧ win0_10.index t (1 : Fin 2) = t.val % 11)
    ∧ (win0_11.index t (0 : Fin 2) = t.val / 11 ∧ win0_11.index t (1 : Fin 2) = t.val % 11)
    ∧ (win0_12.index t (0 : Fin 2) = t.val / 11 ∧ win0_12.index t (1 : Fin 2) = 0)
    ∧ (win0_13.index t (0 : Fin 2) = 0 ∧ win0_13.index t (1 : Fin 2) = 0) :=
  (by decide +kernel : ∀ t : Fin grid0.N, _)

theorem emb0 (t : Fin cfg0.N) (i j : Fin 1024) : ((cfg0.win 0).blk t).view.emb (ix2 i j) = ix2 (row t i) j :=
  Blocks.at_block (B := 1024) (C := 1024) (idxR t).1 rfl rfl rfl (by simp)

theorem emb1 (t : Fin cfg0.N) (i j : Fin 1024) : ((cfg0.win 1).blk t).view.emb (ix2 i j) = ix2 (row t i) j :=
  Blocks.at_block (B := 1024) (C := 1024) (idxR t).2.1 rfl rfl rfl (by simp)

theorem emb2 (t : Fin cfg0.N) (i : Fin 1) (j : Fin 1024) : ((cfg0.win 2).blk t).view.emb (ix2 i j) = ix2 i j :=
  Blocks.at_block (B := 1) (C := 1024) (idxR t).2.2.1 rfl rfl (by simp) (by simp)

theorem emb3 (t : Fin cfg0.N) (i : Fin 1024) (j : Fin 256) : ((cfg0.win 3).blk t).view.emb (ix2 i j) = ix2 (row t i) (col t j) :=
  Blocks.at_block (B := 1024) (C := 256) (idxR t).2.2.2.1 rfl rfl rfl rfl

theorem emb4 (t : Fin cfg0.N) (i : Fin 1024) (j : Fin 256) : ((cfg0.win 4).blk t).view.emb (ix2 i j) = ix2 (row t i) (col t j) :=
  Blocks.at_block (B := 1024) (C := 256) (idxR t).2.2.2.2.1 rfl rfl rfl rfl

theorem emb5 (t : Fin cfg0.N) (i : Fin 256) (j : Fin 1024) : ((cfg0.win 5).blk t).view.emb (ix2 i j) = ix2 (col t i) j :=
  Blocks.at_block (B := 256) (C := 1024) (idxR t).2.2.2.2.2.1 rfl rfl rfl (by simp)

theorem emb6 (t : Fin cfg0.N) (i : Fin 256) (j : Fin 1024) : ((cfg0.win 6).blk t).view.emb (ix2 i j) = ix2 (col t i) j :=
  Blocks.at_block (B := 256) (C := 1024) (idxR t).2.2.2.2.2.2.1 rfl rfl rfl (by simp)

theorem emb7 (t : Fin cfg0.N) (i : Fin 256) (j : Fin 1024) : ((cfg0.win 7).blk t).view.emb (ix2 i j) = ix2 (col t i) j :=
  Blocks.at_block (B := 256) (C := 1024) (idxR t).2.2.2.2.2.2.2.1 rfl rfl rfl (by simp)

theorem emb8 (t : Fin cfg0.N) (i j : Fin 1024) : ((cfg0.win 8).blk t).view.emb (ix2 i j) = ix2 (row t i) j :=
  Blocks.at_block (B := 1024) (C := 1024) (idxR t).2.2.2.2.2.2.2.2.1 rfl rfl rfl (by simp)

theorem emb9 (t : Fin cfg0.N) (i : Fin 1024) (j : Fin 256) : ((cfg0.win 9).blk t).view.emb (ix2 i j) = ix2 (row t i) (col t j) :=
  Blocks.at_block (B := 1024) (C := 256) (idxR t).2.2.2.2.2.2.2.2.2.1 rfl rfl rfl rfl

theorem emb10 (t : Fin cfg0.N) (i : Fin 1024) (j : Fin 256) : ((cfg0.win 10).blk t).view.emb (ix2 i j) = ix2 (row t i) (col t j) :=
  Blocks.at_block (B := 1024) (C := 256) (idxR t).2.2.2.2.2.2.2.2.2.2.1 rfl rfl rfl rfl

theorem emb11 (t : Fin cfg0.N) (i : Fin 1024) (j : Fin 256) : ((cfg0.win 11).blk t).view.emb (ix2 i j) = ix2 (row t i) (col t j) :=
  Blocks.at_block (B := 1024) (C := 256) (idxR t).2.2.2.2.2.2.2.2.2.2.2.1 rfl rfl rfl rfl

theorem emb12 (t : Fin cfg0.N) (i j : Fin 1024) : ((cfg0.win 12).blk t).view.emb (ix2 i j) = ix2 (row t i) j :=
  Blocks.at_block (B := 1024) (C := 1024) (idxR t).2.2.2.2.2.2.2.2.2.2.2.2.1 rfl rfl rfl (by simp)

theorem emb13 (t : Fin cfg0.N) (i : Fin 1) (j : Fin 1024) : ((cfg0.win 13).blk t).view.emb (ix2 i j) = ix2 i j :=
  Blocks.at_block (B := 1) (C := 1024) (idxR t).2.2.2.2.2.2.2.2.2.2.2.2.2 rfl rfl (by simp) (by simp)

variable (m : (ℓ : Loc nD τ sig) → Buf (Elt Ideal) ℓ) (ρ : Dev nD → PrngReg) (c : Dev nD)

theorem iblk0_apply (t : Fin cfg0.N) (i : Fin 1024) (j : Fin 1024) : iblk m c 0 t (ix2 i j) = V m c main_arg0 (ix2 (row t i) j) :=
  congrArg (V m c main_arg0) (emb0 t i j)

theorem iblk1_apply (t : Fin cfg0.N) (i : Fin 1024) (j : Fin 1024) : iblk m c 1 t (ix2 i j) = V m c main_arg1 (ix2 (row t i) j) :=
  congrArg (V m c main_arg1) (emb1 t i j)

theorem iblk2_apply (t : Fin cfg0.N) (i : Fin 1) (j : Fin 1024) : iblk m c 2 t (ix2 i j) = V m c main_arg2 (ix2 i j) :=
  congrArg (V m c main_arg2) (emb2 t i j)

theorem iblk3_apply (t : Fin cfg0.N) (i : Fin 1024) (j : Fin 256) : iblk m c 3 t (ix2 i j) = V m c main_arg3 (ix2 (row t i) (col t j)) :=
  congrArg (V m c main_arg3) (emb3 t i j)

theorem iblk4_apply (t : Fin cfg0.N) (i : Fin 1024) (j : Fin 256) : iblk m c 4 t (ix2 i j) = V m c main_arg4 (ix2 (row t i) (col t j)) :=
  congrArg (V m c main_arg4) (emb4 t i j)

theorem iblk5_apply (t : Fin cfg0.N) (i : Fin 256) (j : Fin 1024) : iblk m c 5 t (ix2 i j) = V m c main_arg5 (ix2 (col t i) j) :=
  congrArg (V m c main_arg5) (emb5 t i j)

theorem iblk6_apply (t : Fin cfg0.N) (i : Fin 256) (j : Fin 1024) : iblk m c 6 t (ix2 i j) = V m c main_arg6 (ix2 (col t i) j) :=
  congrArg (V m c main_arg6) (emb6 t i j)

theorem iblk7_apply (t : Fin cfg0.N) (i : Fin 256) (j : Fin 1024) : iblk m c 7 t (ix2 i j) = V m c main_arg7 (ix2 (col t i) j) :=
  congrArg (V m c main_arg7) (emb7 t i j)

/-! ## What a point leaves -/

/-- The reference's values at the run's arguments. -/
abbrev B0 : FVec Ideal S2048x1024 .bf16 := dyb (V m c main_arg0)
@[inherit_doc B0] abbrev G0 : FVec Ideal S2048x2816 .bf16 := dgate (B0 m c) (V m c main_arg7) (V m c main_arg3) (V m c main_arg4)
@[inherit_doc B0] abbrev U0 : FVec Ideal S2048x2816 .bf16 := dup (B0 m c) (V m c main_arg7) (V m c main_arg3)
@[inherit_doc B0] abbrev D0 : FVec Ideal S2048x1024 .f32 := dh (G0 m c) (U0 m c) (V m c main_arg5) (V m c main_arg6)

theorem bAt_apply (t : Fin cfg0.N) (i j : Fin 1024) : bAt m c t (ix2 i j) = B0 m c (ix2 (row t i) j) :=
  (dyb_apply (row (rowc t)) _ _ (iblk0_apply m c (rowc t)) i j).trans
    (congrArg (fun r => B0 m c (ix2 r j)) (Fin.ext (by show t.val / 11 * 11 / 11 * 1024 + i.val = t.val / 11 * 1024 + i.val; omega)))

/-- One hidden column's part of an entry of the gradient of the normalised rows. -/
def hid (r : Fin 2048) (j : Fin 1024) (x : ℕ) : EReal :=
  if h : x < 2816 then G0 m c (ix2 r ⟨x, h⟩) * V m c main_arg5 (ix2 (⟨x, h⟩ : Fin 2816) j) + U0 m c (ix2 r ⟨x, h⟩) * V m c main_arg6 (ix2 (⟨x, h⟩ : Fin 2816) j) else 0

theorem hid_tile (t : Fin cfg0.N) (r : Fin 2048) (j : Fin 1024) :
    (∑ k : Fin 256, (G0 m c (ix2 r (col t k)) * V m c main_arg5 (ix2 (col t k) j) + U0 m c (ix2 r (col t k)) * V m c main_arg6 (ix2 (col t k) j)) : EReal)
      = ∑ k ∈ Finset.range 256, hid m c r j (t.val % 11 * 256 + k) := by
  rw [Finset.sum_range]
  refine Finset.sum_congr rfl fun k _ => ?_
  unfold hid
  rw [dif_pos (show t.val % 11 * 256 + k.val < 2816 by omega)]

theorem stepA_apply (t : Fin cfg0.N) (i j : Fin 1024) :
    stepA m c t (ix2 i j) = ∑ k ∈ Finset.range 256, hid m c (row t i) j (t.val % 11 * 256 + k) := by
  have z : k0_pay8 (F := Ideal) (ix2 i j) = (0 : EReal) := by pointwise! [k0_pay8]
  rw [← hid_tile]
  refine (accv_apply (row t) (col t) (B0 m c) (V m c main_arg7) (V m c main_arg3) (V m c main_arg4) _ _ _ _ (V m c main_arg5) (V m c main_arg6) _ _ _ _
    (dyb_apply (row t) _ _ (iblk0_apply m c t)) (iblk7_apply m c t) (iblk3_apply m c t) (iblk4_apply m c t) (iblk5_apply m c t) (iblk6_apply m c t) i j).trans ?_
  rw [z, zero_add]

theorem stepB_apply (t : Fin cfg0.N) (a : FVec Ideal S1024x1024 .f32) (i j : Fin 1024) :
    stepB m c t a (ix2 i j) = (a (ix2 i j) + ∑ k ∈ Finset.range 256, hid m c (row t i) j (t.val % 11 * 256 + k) : EReal) := by
  rw [← hid_tile]
  exact accv_apply (row t) (col t) (B0 m c) (V m c main_arg7) (V m c main_arg3) (V m c main_arg4) _ _ _ _ (V m c main_arg5) (V m c main_arg6) _ _ _ _
    (bAt_apply m c t) (iblk7_apply m c t) (iblk3_apply m c t) (iblk4_apply m c t) (iblk5_apply m c t) (iblk6_apply m c t) i j

/-- The accumulator after a point: the hidden columns so far. -/
theorem accAt_apply (n : ℕ) (hn : n < cfg0.N) (i j : Fin 1024) :
    accAt m c n hn (ix2 i j) = ∑ x ∈ Finset.range ((n % 11 + 1) * 256), hid m c (row ⟨n, hn⟩ i) j x := by
  have hA : ∀ (n : ℕ) (hn : n < cfg0.N), n % 11 = 0 →
      accAt m c n hn (ix2 i j) = ∑ x ∈ Finset.range ((n % 11 + 1) * 256), hid m c (row ⟨n, hn⟩ i) j x := fun n hn h => by
    refine (congrFun (accAt_A m c ⟨n, hn⟩ h) _).trans ((stepA_apply m c ⟨n, hn⟩ i j).trans ?_)
    show ∑ k ∈ Finset.range 256, hid m c (row ⟨n, hn⟩ i) j (n % 11 * 256 + k) = _
    rw [h]
    exact Finset.sum_congr rfl fun k _ => congrArg _ (by omega)
  induction n with
  | zero => exact hA 0 hn rfl
  | succ n ih =>
    by_cases h : (n + 1) % 11 = 0
    · exact hA _ hn h
    · refine (congrFun (accAt_B m c ⟨n + 1, hn⟩ h) _).trans ((stepB_apply m c ⟨n + 1, hn⟩ _ i j).trans ?_)
      have e : row ⟨n, by omega⟩ i = row ⟨n + 1, hn⟩ i := Fin.ext (by show n / 11 * 1024 + i.val = (n + 1) / 11 * 1024 + i.val; omega)
      have e1 : (n + 1) % 11 = n % 11 + 1 := by omega
      refine (congrArg (· + _) ((ih (by omega)).trans (by rw [e]))).trans ?_
      show _ + ∑ k ∈ Finset.range 256, hid m c (row ⟨n + 1, hn⟩ i) j ((n + 1) % 11 * 256 + k) = _
      rw [e1, show (n % 11 + 1 + 1) * 256 = (n % 11 + 1) * 256 + 256 by omega, Finset.sum_range_add]

/-- At the last point of a row block it is the gradient of the normalised rows. -/
theorem accAt_last (t : Fin cfg0.N) (h : t.val % 11 = 10) (i j : Fin 1024) : accAt m c t.val t.isLt (ix2 i j) = D0 m c (ix2 (row t i) j) := by
  rw [accAt_apply, h]
  refine (Finset.sum_range _).trans (Eq.trans ?_ (dh_apply _ _ _ _ _ _).symm)
  refine Finset.sum_congr rfl fun k _ => ?_
  unfold hid
  rw [dif_pos k.isLt]

theorem gain_last : gainB m c = dgain (D0 m c) (V m c main_arg1) := by
  have z : ∀ j, k0_pay6 (F := Ideal) (ix2 0 j) = (0 : EReal) := fun j => by pointwise! [k0_pay6]
  funext x
  obtain ⟨k, j, rfl⟩ : ∃ (k : Fin 1) (j : Fin 1024), x = ix2 k j := ⟨x 0, x 1, eq_ix2 x⟩
  obtain rfl : k = 0 := Subsingleton.elim _ _
  unfold gainB gainA
  rw [gain_apply (row tD) (D0 m c) (V m c main_arg1) _ _ _ (accAt_last m c tD rfl) (iblk1_apply m c tD),
    gain_apply (row tC) (D0 m c) (V m c main_arg1) _ _ _ (accAt_last m c tC rfl) (iblk1_apply m c tC), z, zero_add]
  unfold dgain
  generalize gains (D0 m c) (V m c main_arg1) = y
  pointwise
  rw [Fin.sum_univ_two_halves 1024 1024 rfl]
  refine congrArg₂ _ (Finset.sum_congr rfl fun k _ => congrArg (fun r => y (ix2 r j)) (Fin.ext ?_))
    (Finset.sum_congr rfl fun k _ => congrArg (fun r => y (ix2 r j)) (Fin.ext ?_))
  · show 10 / 11 * 1024 + k.val = k.val; omega
  · show 21 / 11 * 1024 + k.val = 1024 + k.val; omega

/-! ## The arrays after the run -/

theorem final8 : (dats m 0 c).arrAt 8 cfg0.N = B0 m c := by
  refine (dats m 0 c).arrAt_eq_of_covers 8 (B0 m c) (by decide +kernel) fun t hf y => ?_
  obtain ⟨i, j, rfl⟩ : ∃ (i : Fin 1024) (j : Fin 1024), y = ix2 i j := ⟨y 0, y 1, eq_ix2 y⟩
  show (dats m 0 c).after 8 t (ix2 i j) = (B0 m c) (((cfg0.win 8).blk t).view.emb (ix2 i j))
  rw [emb8, after8]
  exact bAt_apply m c t i j

theorem final9 : (dats m 0 c).arrAt 9 cfg0.N = act (V m c main_arg3) (V m c main_arg4) := by
  refine (dats m 0 c).arrAt_eq_of_covers 9 (act (V m c main_arg3) (V m c main_arg4)) (by decide +kernel) fun t hf y => ?_
  obtain ⟨i, j, rfl⟩ : ∃ (i : Fin 1024) (j : Fin 256), y = ix2 i j := ⟨y 0, y 1, eq_ix2 y⟩
  show (dats m 0 c).after 9 t (ix2 i j) = (act (V m c main_arg3) (V m c main_arg4)) (((cfg0.win 9).blk t).view.emb (ix2 i j))
  rw [emb9, after9]
  exact actv_apply (row t) (col t) _ _ _ _ (iblk3_apply m c t) (iblk4_apply m c t) i j

theorem final10 : (dats m 0 c).arrAt 10 cfg0.N = G0 m c := by
  refine (dats m 0 c).arrAt_eq_of_covers 10 (G0 m c) (by decide +kernel) fun t hf y => ?_
  obtain ⟨i, j, rfl⟩ : ∃ (i : Fin 1024) (j : Fin 256), y = ix2 i j := ⟨y 0, y 1, eq_ix2 y⟩
  show (dats m 0 c).after 10 t (ix2 i j) = (G0 m c) (((cfg0.win 10).blk t).view.emb (ix2 i j))
  rw [emb10, after10]
  exact dgatev_apply (row t) (col t) _ _ _ _ _ _ _ _ (bAt_apply m c t) (iblk7_apply m c t) (iblk3_apply m c t) (iblk4_apply m c t) i j

theorem final11 : (dats m 0 c).arrAt 11 cfg0.N = U0 m c := by
  refine (dats m 0 c).arrAt_eq_of_covers 11 (U0 m c) (by decide +kernel) fun t hf y => ?_
  obtain ⟨i, j, rfl⟩ : ∃ (i : Fin 1024) (j : Fin 256), y = ix2 i j := ⟨y 0, y 1, eq_ix2 y⟩
  show (dats m 0 c).after 11 t (ix2 i j) = (U0 m c) (((cfg0.win 11).blk t).view.emb (ix2 i j))
  rw [emb11, after11]
  exact dupv_apply (row t) (col t) _ _ _ _ _ _ (bAt_apply m c t) (iblk7_apply m c t) (iblk3_apply m c t) i j

theorem final12 : (dats m 0 c).arrAt 12 cfg0.N = dinput (D0 m c) (V m c main_arg1) (V m c main_arg2) (V m c main_arg0) := by
  refine (dats m 0 c).arrAt_eq_of_covers 12 (dinput (D0 m c) (V m c main_arg1) (V m c main_arg2) (V m c main_arg0)) (by decide +kernel) fun t hf y => ?_
  obtain ⟨i, j, rfl⟩ : ∃ (i : Fin 1024) (j : Fin 1024), y = ix2 i j := ⟨y 0, y 1, eq_ix2 y⟩
  show (dats m 0 c).after 12 t (ix2 i j) = (dinput (D0 m c) (V m c main_arg1) (V m c main_arg2) (V m c main_arg0)) (((cfg0.win 12).blk t).view.emb (ix2 i j))
  rw [emb12, after12]
  have h2 : iblk m c 2 t = V m c main_arg2 := by
    funext x
    obtain ⟨k, l, rfl⟩ : ∃ (k : Fin 1) (l : Fin 1024), x = ix2 k l := ⟨x 0, x 1, eq_ix2 x⟩
    exact iblk2_apply m c t k l
  unfold dxAt
  rw [h2]
  exact dinput_apply (row t) (D0 m c) _ _ _ _ _ _ (accAt_last m c t (of_decide_eq_true ((flush12 t).symm.trans hf))) (iblk1_apply m c t) (iblk0_apply m c t) i j

theorem final13 : (dats m 0 c).arrAt 13 cfg0.N = dgain (D0 m c) (V m c main_arg1) := by
  refine (dats m 0 c).arrAt_eq_of_covers 13 (dgain (D0 m c) (V m c main_arg1)) (by decide +kernel) fun t hf y => ?_
  obtain ⟨i, j, rfl⟩ : ∃ (i : Fin 1) (j : Fin 1024), y = ix2 i j := ⟨y 0, y 1, eq_ix2 y⟩
  show (dats m 0 c).after 13 t (ix2 i j) = (dgain (D0 m c) (V m c main_arg1)) (((cfg0.win 13).blk t).view.emb (ix2 i j))
  rw [emb13, after13]
  have h : t.val % 22 = 21 := of_decide_eq_true ((flush13 t).symm.trans hf)
  unfold gainAt
  have h2 : t.val < 22 := lt_of_lt_of_eq t.isLt N_0
  rw [if_pos (show t.val = 21 by omega), gain_last]

/-- The run of the kernel with its results in the reference's terms. -/
theorem run_values (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = dyb (m ((c.tc : Thread nD τ).loc main_arg0))
      ∧ r.2.mem ((c.tc : Thread nD τ).loc main_v0_1) = act (m ((c.tc : Thread nD τ).loc main_arg3)) (m ((c.tc : Thread nD τ).loc main_arg4))
      ∧ r.2.mem ((c.tc : Thread nD τ).loc main_v0_2) = dgate (dyb (m ((c.tc : Thread nD τ).loc main_arg0))) (m ((c.tc : Thread nD τ).loc main_arg7)) (m ((c.tc : Thread nD τ).loc main_arg3)) (m ((c.tc : Thread nD τ).loc main_arg4))
      ∧ r.2.mem ((c.tc : Thread nD τ).loc main_v0_3) = dup (dyb (m ((c.tc : Thread nD τ).loc main_arg0))) (m ((c.tc : Thread nD τ).loc main_arg7)) (m ((c.tc : Thread nD τ).loc main_arg3))
      ∧ r.2.mem ((c.tc : Thread nD τ).loc main_v0_4) = dinput (dh (dgate (dyb (m ((c.tc : Thread nD τ).loc main_arg0))) (m ((c.tc : Thread nD τ).loc main_arg7)) (m ((c.tc : Thread nD τ).loc main_arg3)) (m ((c.tc : Thread nD τ).loc main_arg4))) (dup (dyb (m ((c.tc : Thread nD τ).loc main_arg0))) (m ((c.tc : Thread nD τ).loc main_arg7)) (m ((c.tc : Thread nD τ).loc main_arg3))) (m ((c.tc : Thread nD τ).loc main_arg5)) (m ((c.tc : Thread nD τ).loc main_arg6))) (m ((c.tc : Thread nD τ).loc main_arg1)) (m ((c.tc : Thread nD τ).loc main_arg2)) (m ((c.tc : Thread nD τ).loc main_arg0))
      ∧ r.2.mem ((c.tc : Thread nD τ).loc main_v0_5) = dgain (dh (dgate (dyb (m ((c.tc : Thread nD τ).loc main_arg0))) (m ((c.tc : Thread nD τ).loc main_arg7)) (m ((c.tc : Thread nD τ).loc main_arg3)) (m ((c.tc : Thread nD τ).loc main_arg4))) (dup (dyb (m ((c.tc : Thread nD τ).loc main_arg0))) (m ((c.tc : Thread nD τ).loc main_arg7)) (m ((c.tc : Thread nD τ).loc main_arg3))) (m ((c.tc : Thread nD τ).loc main_arg5)) (m ((c.tc : Thread nD τ).loc main_arg6))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run (defs (F := Ideal)) _ _).mono (fun _ h c => ⟨((h.1.1 c).1 8).trans (final8 m c), ((h.1.1 c).1 9).trans (final9 m c),
      ((h.1.1 c).1 10).trans (final10 m c), ((h.1.1 c).1 11).trans (final11 m c), ((h.1.1 c).1 12).trans (final12 m c),
      ((h.1.1 c).1 13).trans (final13 m c), h.2.1 c⟩)
    (θ_run_and (run_main m ρ) (frame m ρ))

end Cert.ActBwdIdeal.Act

end
-- ==== Proof.Ops.lean ====
/- The kernel's body as a list of operations.

   Eight devices, numbered 4 x + 2 y + c.  The seven copies a device makes of each array are numbered as in
   the kernel: copy 0 goes to the other core of the chip, copies 1 … 3 to the same core of the other three
   chips, copies 4 … 6 forward to the other core what copies 1 … 3 brought.  Flipping bits of the device's
   number (`xr`) names the peer, the slot sent and the slot received of each copy. -/
module

public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Gather

open Idealize.ShloMosaic Idealize.ShloMosaic.TcCoe
open Idealize.SL Idealize.SL.Sem
open Cert.KernelIdeal Facts₀ Facts

/-! ## Devices and slots -/

/-- The device whose number differs from `c`'s in the bits of `n`. -/
def xr (n : Fin 8) (c : Dev nD) : Dev nD := ⟨(c.val ^^^ n.val) % 8, Nat.mod_lt _ (by decide)⟩

/-- The peer of copy `k`, the slot it sends, the slot it receives, as bits to flip. -/
def pm : Fin 7 → Fin 8 := ![1, 4, 2, 6, 1, 1, 1]
def sm : Fin 7 → Fin 8 := ![0, 0, 0, 0, 4, 2, 6]
def rm : Fin 7 → Fin 8 := ![1, 4, 2, 6, 5, 3, 7]

def pr (k : Fin 7) (c : Dev nD) : Dev nD := xr (pm k) c
def sl (k : Fin 7) (c : Dev nD) : Dev nD := xr (sm k) c
def rl (k : Fin 7) (c : Dev nD) : Dev nD := xr (rm k) c

theorem pr_pr : ∀ (k : Fin 7) (c : Dev nD), pr k (pr k c) = c := by decide
theorem sl_pr : ∀ (k : Fin 7) (c : Dev nD), sl k (pr k c) = rl k c := by decide
theorem rl_pr : ∀ (k : Fin 7) (c : Dev nD), rl k (pr k c) = sl k c := by decide
theorem sl_low : ∀ (k : Fin 7) (c : Dev nD), k.val < 4 → sl k c = c := by decide
theorem rl_fwd : ∀ (k : Fin 7) (c : Dev nD) (h : 4 ≤ k.val), rl ⟨k.val - 3, by omega⟩ c = sl k c := by decide

/-! ## Arrays, slots and semaphores -/

def inM : Fin 3 → Memref sig .tc .hbm S352x1024 .bf16
  | 0 => Memref.whole main_arg0 | 1 => Memref.whole main_arg1 | 2 => Memref.whole main_arg2
def outM : Fin 3 → Memref sig .tc .hbm S8x352x1024 .bf16
  | 0 => Memref.whole main_v1_0 | 1 => Memref.whole main_v1_1 | 2 => Memref.whole main_v1_2

theorem isWhole_inM : ∀ w, (inM w).IsWhole
  | 0 => Memref.isWhole_whole _ | 1 => Memref.isWhole_whole _ | 2 => Memref.isWhole_whole _
theorem isWhole_outM : ∀ w, (outM w).IsWhole
  | 0 => Memref.isWhole_whole _ | 1 => Memref.isWhole_whole _ | 2 => Memref.isWhole_whole _

/-- An offset of one whole slab inside an output array. -/
def Inb (off : Fin 3 → ℕ) : Prop := ∀ a, off a + S1x352x1024.size a ≤ S8x352x1024.size a
/-- The slab is whole words. -/
def Wds (off : Fin 3 → ℕ) (h : Inb off) : Prop := (Rect.unit (s := S8x352x1024) off S1x352x1024.size h).WholeWords (EltTy.packing .bf16)

/-- The slab of output `w` at `off`. -/
def slab (w : Fin 3) (off : Fin 3 → ℕ) (h : Inb off) : Memref sig .tc .hbm S352x1024 .bf16 :=
  ((outM w).slice (Rect.unit (s := S8x352x1024) off S1x352x1024.size h) (fun _ => rfl)).squeeze S352x1024 squeezes_S1x352x1024_S352x1024

theorem slab_exact (w : Fin 3) (off : Fin 3 → ℕ) (h : Inb off) (hw : Wds off h) : (slab w off h).view.WordExact :=
  ((isWhole_outM w).wordExact_slice rfl _ hw).reshape _ _

def offs (s : Fin 8) : Fin 3 → ℕ := ![s.val, 0, 0]

theorem off1_eq (c : Dev nD) : k0_off1 c = offs c := by revert c; decide
theorem offs_inb (s : Fin 8) : Inb (offs s) := by rw [← off1_eq]; exact k0_off1_inb s
theorem offs_wds (s : Fin 8) : Wds (offs s) (offs_inb s) := by
  have h := k0_off1_wordsbf16 s
  unfold Wds
  have e := off1_eq s
  revert h
  generalize k0_off1_inb s = p
  revert p
  rw [e]
  exact fun _ h => h

/-- Slot `s` of output `w`. -/
def slot (w : Fin 3) (s : Fin 8) : Memref sig .tc .hbm S352x1024 .bf16 := slab w (offs s) (offs_inb s)

def ix (w : Fin 3) (k : Fin 7) : Fin 21 := ⟨7 * w.val + k.val, by omega⟩

theorem inb21 (i : Fin 21) : ∀ a, (![i.val] : Fin 1 → ℕ) a + S1.size a ≤ S21.size a := by revert i; decide
theorem inb3 (i : Fin 3) : ∀ a, (![i.val] : Fin 1 → ℕ) a + S1.size a ≤ S3.size a := by revert i; decide

def sem21 (A : DmaSems sig S21) (i : Fin 21) : DmaSem sig :=
  ((A.slice (Rect.unit (s := S21) ![i.val] S1.size (inb21 i))).squeeze S_ squeezes_S1_S_).sem
def sem3 (A : DmaSems sig S3) (i : Fin 3) : DmaSem sig :=
  ((A.slice (Rect.unit (s := S3) ![i.val] S1.size (inb3 i))).squeeze S_ squeezes_S1_S_).sem

def sendS (w : Fin 3) (k : Fin 7) : DmaSem sig := sem21 cc0_scratch0 (ix w k)
def recvS (w : Fin 3) (k : Fin 7) : DmaSem sig := sem21 cc0_scratch1 (ix w k)
def copyS (w : Fin 3) : DmaSem sig := sem3 cc0_scratch2 w

/-! ## Operations -/

/-- One operation of the body: start the local copy, start copy `k`, wait for what copy `k` brings, wait for
    the end of copy `k`'s reading, wait for the local copy. -/
inductive Op where
  | copy (w : Fin 3)
  | send (w : Fin 3) (k : Fin 7)
  | recv (w : Fin 3) (k : Fin 7)
  | sent (w : Fin 3) (k : Fin 7)
  | copied (w : Fin 3)
deriving DecidableEq

def ops : List Op :=
  [.copy 0, .copy 1, .copy 2,
   .send 0 1, .send 0 2, .send 0 3, .send 0 0,
   .send 1 1, .send 1 2, .send 1 3, .send 1 0,
   .send 2 1, .send 2 2, .send 2 3, .send 2 0,
   .recv 0 1, .send 0 4, .recv 0 2, .send 0 5, .recv 0 3, .send 0 6,
   .recv 1 1, .send 1 4, .recv 1 2, .send 1 5, .recv 1 3, .send 1 6,
   .recv 2 1, .send 2 4, .recv 2 2, .send 2 5, .recv 2 3, .send 2 6,
   .recv 0 0, .recv 0 4, .recv 0 5, .recv 0 6,
   .recv 1 0, .recv 1 4, .recv 1 5, .recv 1 6,
   .recv 2 0, .recv 2 4, .recv 2 5, .recv 2 6,
   .sent 0 1, .sent 0 2, .sent 0 3, .sent 0 0,
   .sent 1 1, .sent 1 2, .sent 1 3, .sent 1 0,
   .sent 2 1, .sent 2 2, .sent 2 3, .sent 2 0,
   .sent 0 4, .sent 0 5, .sent 0 6,
   .sent 1 4, .sent 1 5, .sent 1 6,
   .sent 2 4, .sent 2 5, .sent 2 6,
   .copied 0, .copied 1, .copied 2]

variable {F : FTy → Type} [FloatOps F]

/-- The effects of the body. -/
abbrev Eff (F : FTy → Type) [FloatOps F] := TpuEff nD τ sig (Elt F) Λ₀ .tc PUnit

/-- The slab an operation addresses, with the facts its accesses take. -/
structure Slab where
  off : Fin 3 → ℕ
  inb : Inb off
  wds : Wds off inb

theorem Slab.ext' {a b : Slab} (h : a.off = b.off) : a = b := by
  obtain ⟨o, p, q⟩ := a; obtain ⟨o', p', q'⟩ := b
  cases h; rfl

def at_ (s : Fin 8) : Slab := ⟨offs s, offs_inb s, offs_wds s⟩

def copyE (w : Fin 3) (a : Slab) : Eff F :=
  .enqueueDma (inM w) (.here (slab w a.off a.inb)) (.dma (copyS w)) (isWhole_inM w).wordExact (slab_exact w a.off a.inb a.wds) ⟨Or.inl rfl, trivial⟩

def ownE (w : Fin 3) (k : Fin 7) (n : Dev nD) (a : Slab) : Eff F :=
  .enqueueDma (inM w) (.remote (Dev.tc n) (slab w a.off a.inb) (.dma (sendS w k)) rfl) (.dma (recvS w k))
    (isWhole_inM w).wordExact (slab_exact w a.off a.inb a.wds) ⟨⟨rfl, Or.inl rfl⟩, trivial⟩

def fwdE (w : Fin 3) (k : Fin 7) (n : Dev nD) (a : Slab) : Eff F :=
  .enqueueDma (slab w a.off a.inb) (.remote (Dev.tc n) (slab w a.off a.inb) (.dma (sendS w k)) rfl) (.dma (recvS w k))
    (slab_exact w a.off a.inb a.wds) (slab_exact w a.off a.inb a.wds) ⟨⟨rfl, Or.inl rfl⟩, trivial⟩

/-- A wait for one slab to have landed. -/
def landE (w : Fin 3) (sem : DmaSem sig) (a : Slab) : Eff F :=
  .waitDma2 sem (inM w) (slab w a.off a.inb) (isWhole_inM w).wordExact (slab_exact w a.off a.inb a.wds)
/-- A wait for an own shard to have been read. -/
def leftE (w : Fin 3) (sem : DmaSem sig) (a : Slab) : Eff F :=
  .waitDma2 sem (slab w a.off a.inb) (inM w) (slab_exact w a.off a.inb a.wds) (isWhole_inM w).wordExact
/-- A wait for a forwarded slab to have been read. -/
def passedE (w : Fin 3) (sem : DmaSem sig) (a : Slab) : Eff F :=
  .waitDma2 sem (slab w a.off a.inb) (slab w a.off a.inb) (slab_exact w a.off a.inb a.wds) (slab_exact w a.off a.inb a.wds)

/-- The operation as printed at device `c`, its device and slab given. -/
def mk (dv : Fin 3 → Fin 7 → Dev nD) (own : Slab) (sd : Fin 7 → Slab) (rc : Fin 7 → Slab) : Op → Eff F
  | .copy w => copyE w own
  | .send w k => if k.val < 4 then ownE w k (dv w k) (sd k) else fwdE w k (dv w k) (sd k)
  | .recv w k => landE w (recvS w k) (rc k)
  | .sent w k => if k.val < 4 then leftE w (sendS w k) (sd k) else passedE w (sendS w k) (sd k)
  | .copied w => landE w (copyS w) own

def chain (f : Op → Eff F) : List Op → Prog (TpuEff nD τ sig (Elt F) Λ₀ .tc) PUnit
  | [] => .ret ⟨⟩
  | x :: l => .op (f x) fun _ => chain f l

/-- The printed devices and slabs. -/
def devP (c : Dev nD) (w : Fin 3) (k : Fin 7) : Dev nD :=
  match w, k with
  | 0, 1 => ⟨k0_dev1 c, k0_dev1_lt c⟩ | 0, 2 => ⟨k0_dev2 c, k0_dev2_lt c⟩ | 0, 3 => ⟨k0_dev3 c, k0_dev3_lt c⟩ | 0, 0 => ⟨k0_dev4 c, k0_dev4_lt c⟩
  | 1, 1 => ⟨k0_dev5 c, k0_dev5_lt c⟩ | 1, 2 => ⟨k0_dev6 c, k0_dev6_lt c⟩ | 1, 3 => ⟨k0_dev7 c, k0_dev7_lt c⟩ | 1, 0 => ⟨k0_dev8 c, k0_dev8_lt c⟩
  | 2, 1 => ⟨k0_dev9 c, k0_dev9_lt c⟩ | 2, 2 => ⟨k0_dev10 c, k0_dev10_lt c⟩ | 2, 3 => ⟨k0_dev11 c, k0_dev11_lt c⟩ | 2, 0 => ⟨k0_dev12 c, k0_dev12_lt c⟩
  | 0, 4 => ⟨k0_dev13 c, k0_dev13_lt c⟩ | 0, 5 => ⟨k0_dev14 c, k0_dev14_lt c⟩ | 0, 6 => ⟨k0_dev15 c, k0_dev15_lt c⟩
  | 1, 4 => ⟨k0_dev16 c, k0_dev16_lt c⟩ | 1, 5 => ⟨k0_dev17 c, k0_dev17_lt c⟩ | 1, 6 => ⟨k0_dev18 c, k0_dev18_lt c⟩
  | 2, 4 => ⟨k0_dev19 c, k0_dev19_lt c⟩ | 2, 5 => ⟨k0_dev20 c, k0_dev20_lt c⟩ | 2, 6 => ⟨k0_dev21 c, k0_dev21_lt c⟩

def ownP (c : Dev nD) : Slab := ⟨k0_off1 c, k0_off1_inb c, k0_off1_wordsbf16 c⟩

def sdP (c : Dev nD) (k : Fin 7) : Slab :=
  match k with
  | 4 => ⟨k0_off2 c, k0_off2_inb c, k0_off2_wordsbf16 c⟩
  | 5 => ⟨k0_off3 c, k0_off3_inb c, k0_off3_wordsbf16 c⟩
  | 6 => ⟨k0_off4 c, k0_off4_inb c, k0_off4_wordsbf16 c⟩
  | 0 => ownP c | 1 => ownP c | 2 => ownP c | 3 => ownP c

def rcP (c : Dev nD) (k : Fin 7) : Slab :=
  match k with
  | 0 => ⟨k0_off5 c, k0_off5_inb c, k0_off5_wordsbf16 c⟩
  | 1 => ⟨k0_off2 c, k0_off2_inb c, k0_off2_wordsbf16 c⟩
  | 2 => ⟨k0_off3 c, k0_off3_inb c, k0_off3_wordsbf16 c⟩
  | 3 => ⟨k0_off4 c, k0_off4_inb c, k0_off4_wordsbf16 c⟩
  | 4 => ⟨k0_off6 c, k0_off6_inb c, k0_off6_wordsbf16 c⟩
  | 5 => ⟨k0_off7 c, k0_off7_inb c, k0_off7_wordsbf16 c⟩
  | 6 => ⟨k0_off8 c, k0_off8_inb c, k0_off8_wordsbf16 c⟩

/-- The operation at device `c`, by peer and slot. -/
def eff (c : Dev nD) : Op → Eff F := mk (fun _ k => pr k c) (at_ c) (fun k => at_ (sl k c)) (fun k => at_ (rl k c))

/-- The body after its device id, as a chain of operations. -/
def prog (c : Dev nD) (l : List Op) : Prog (TpuEff nD τ sig (Elt F) Λ₀ .tc) PUnit := chain (eff c) l

theorem devP_eq (c : Dev nD) : devP c = fun _ k => pr k c := by
  funext w k; revert c w k; decide
theorem ownP_eq (c : Dev nD) : ownP c = at_ c := Slab.ext' (off1_eq c)
theorem sdP_eq (c : Dev nD) : sdP c = fun k => at_ (sl k c) := by
  funext k
  refine Slab.ext' ?_
  revert c k; decide
theorem rcP_eq (c : Dev nD) : rcP c = fun k => at_ (rl k c) := by
  funext k
  refine Slab.ext' ?_
  revert c k; decide

set_option maxRecDepth 65536 in
set_option maxHeartbeats 2000000 in
/-- The printed body: its device id, then the chain. -/
theorem body_printed (t : Fin cfg0.N) : Gen.bodyAt0 (F := F) t
    = .op .deviceId fun c => chain (mk (devP c) (ownP c) (sdP c) (rcP c)) ops := rfl

theorem body_eq (t : Fin cfg0.N) : Gen.bodyAt0 (F := F) t = .op .deviceId fun c => prog c ops := by
  rw [body_printed]
  congr 1; funext c
  rw [devP_eq, ownP_eq, sdP_eq, rcP_eq]; rfl

end Cert.KernelIdeal.Gather

end
-- ==== Proof.Contents.lean ====
/- What the arrays hold: the slots of an output, and the gathered contents.

   Output `w` has eight slots of one shard each; they are disjoint and together the whole array (`slot_disjoint`, `slot_cover`).
   `gathered m w c` is device `c`'s output `w` when slot `s` holds device `s`'s shard, for every `s`.  A slot
   read from it is that device's shard (`read_gathered`), and a shard written over its slot makes it (`write_shard`). -/
module

public import proofs.«01_k».proof.Proof.Ops
public import Idealize.ShloMosaic.Lib.ValueLayout

@[expose] public section

noncomputable section

namespace Cert.KernelIdeal.Gather

open Idealize.ShloMosaic Idealize.ShloMosaic.TcCoe Idealize.ShloMosaic.ValueIdx
open Idealize.SL Idealize.SL.Sem
open Cert.KernelIdeal Facts₀ Facts

variable {F : FTy → Type} [FloatOps F]

/-- The element of the array that a slot's element `(a, b)` is. -/
theorem emb_slot (w : Fin 3) (s : Fin 8) (a : Fin 352) (b : Fin 1024) :
    (slot w s).view.emb (ix2 a b) = (outM w).view.emb (ix3 s a b) := by
  show (outM w).view.emb (((Rect.unit (s := S8x352x1024) (offs s) S1x352x1024.size (offs_inb s))).emb
    (Shape.reshapeEquiv _ (ix2 a b))) = _
  congr 1
  rw [reshapeEquiv_ix2_1ab]
  funext d
  match d with
  | ⟨0, _⟩ => exact Fin.ext (by show s.val + 1 * 0 = s.val; omega)
  | ⟨1, _⟩ => exact Fin.ext (by show 0 + 1 * a.val = a.val; omega)
  | ⟨2, _⟩ => exact Fin.ext (by show 0 + 1 * b.val = b.val; omega)

theorem mem_slot (w : Fin 3) (s : Fin 8) (j : S8x352x1024.Idx) :
    ((outM w).view.emb j : (slot w s).view.ty.Idx) ∈ (slot w s).view.set ↔ j 0 = s := by
  constructor
  · intro h
    obtain ⟨x, -, hx⟩ := Finset.mem_map.mp h
    have e : (outM w).view.emb (ix3 s (x 0) (x 1)) = (outM w).view.emb j :=
      ((emb_slot w s (x 0) (x 1)).symm.trans (congrArg (slot w s).view.emb (eq_ix2 x).symm)).trans hx
    exact congrFun ((outM w).view.emb.injective e).symm 0
  · intro h
    have e : (slot w s).view.emb (ix2 (j 1) (j 2)) = (outM w).view.emb j :=
      (emb_slot w s (j 1) (j 2)).trans (congrArg (outM w).view.emb ((congrArg (fun z => ix3 z (j 1) (j 2)) h.symm).trans (eq_ix3 j).symm))
    exact Eq.mp (congrArg (fun z => z ∈ (slot w s).view.set) e) (View.emb_mem_set _ _)

/-- Every element of the array is the image of an index. -/
theorem emb_surj : ∀ (w : Fin 3) (i : (outM w).view.ty.Idx), ∃ j, (outM w).view.emb j = i
  | 0, i => ⟨i, rfl⟩ | 1, i => ⟨i, rfl⟩ | 2, i => ⟨i, rfl⟩

/-- The elements of slot `s`, in the array's own index type. -/
def slotSet (w : Fin 3) (s : Fin 8) : Finset (outM w).view.ty.Idx := (slot w s).view.set

theorem slot_disjoint (w : Fin 3) (s t : Fin 8) (h : s ≠ t) : Disjoint (slotSet w s) (slotSet w t) := by
  rw [Finset.disjoint_left]
  intro i hs ht
  obtain ⟨j, rfl⟩ := emb_surj w i
  exact h (((mem_slot w s j).mp hs).symm.trans ((mem_slot w t j).mp ht))

theorem slot_cover (w : Fin 3) : Finset.univ.biUnion (slotSet w) = Finset.univ := by
  refine Finset.eq_univ_of_forall fun i => ?_
  obtain ⟨j, rfl⟩ := emb_surj w i
  exact Finset.mem_biUnion.mpr ⟨j 0, Finset.mem_univ _, (mem_slot w (j 0) j).mpr rfl⟩

variable (m : (ℓ : Loc nD τ sig) → Buf (Elt F) ℓ)

/-- Device `s`'s shard of input `w`. -/
def shard (w : Fin 3) (s : Dev nD) : S352x1024.Idx → Elt F .bf16 :=
  (inM w).view.read (Elt F) (m ((inM w).view.loc (s : Thread nD τ)))

/-- All shards, stacked by device. -/
def stacked (w : Fin 3) : S8x352x1024.Idx → Elt F .bf16 := fun i => shard m w (i 0) (ix2 (i 1) (i 2))

/-- Device `c`'s output `w` with every shard in its slot. -/
def gathered (w : Fin 3) (c : Dev nD) : Buf (Elt F) ((outM w).view.loc (c : Thread nD τ)) :=
  (outM w).view.write (Elt F) (m ((outM w).view.loc (c : Thread nD τ))) (stacked m w) Finset.univ

theorem gathered_emb (w : Fin 3) (c : Dev nD) (j : S8x352x1024.Idx) :
    gathered m w c ((outM w).view.emb j) = cast (congrArg (Elt F) (outM w).view.elt_eq.symm) (stacked m w j) :=
  View.write_emb_of_mem _ _ (Finset.mem_univ j)

/-- The gathered contents, as contents of slot `s`'s buffer. -/
def atSlot (w : Fin 3) (c : Dev nD) (s : Fin 8) : Buf (Elt F) ((slot w s).view.loc (c : Thread nD τ)) := gathered m w c

/-- A slot read from the gathered contents is its device's shard. -/
theorem read_gathered (w : Fin 3) (c : Dev nD) (s : Fin 8) : (slot w s).view.read (Elt F) (atSlot m w c s) = shard m w s := by
  funext x
  rw [View.read_apply]
  have e : (slot w s).view.emb x = (outM w).view.emb (ix3 s (x 0) (x 1)) :=
    (congrArg (slot w s).view.emb (eq_ix2 x)).trans (emb_slot w s (x 0) (x 1))
  have g : atSlot m w c s ((slot w s).view.emb x)
      = cast (congrArg (Elt F) (outM w).view.elt_eq.symm) (stacked m w (ix3 s (x 0) (x 1))) :=
    (congrArg (gathered m w c) e).trans (gathered_emb m w c _)
  refine (congrArg (cast _) g).trans ?_
  refine (cast_cast _ _ _).trans ?_
  refine (cast_eq _ _).trans ?_
  exact congrArg (shard m w s) (eq_ix2 x).symm

/-- Writing a shard over its slot gives the gathered contents there. -/
theorem write_shard (w : Fin 3) (c : Dev nD) (s : Fin 8) (f : Buf (Elt F) ((slot w s).view.loc (c : Thread nD τ))) :
    ∀ i ∈ (slot w s).view.set, (slot w s).view.write (Elt F) f (shard m w s) Finset.univ i = atSlot m w c s i := by
  intro i hi
  obtain ⟨x, -, rfl⟩ := Finset.mem_map.mp hi
  refine (View.write_emb_of_mem _ _ (Finset.mem_univ x)).trans ?_
  rw [← read_gathered m w c s, View.read_apply]
  exact (cast_cast _ _ _).trans (cast_eq _ _)

end Cert.KernelIdeal.Gather

end
-- ==== Proof.Protocol.lean ====
/- The protocol of the copies: every semaphore of a device is a cell of one round with one contributor.

   Device `c` has fifteen semaphores per array: one per copy for the end of its reading (send cells), one per copy
   for what the peer's copy brings (receive cells), one for the local copy.  A receive cell's credit comes from the
   peer and hands over the landed slot with the peer's gathered shard in it; a send cell's gives back what was read;
   the local copy's gives the own slot, filled, and the share of the input that was read. -/
module

public import proofs.«01_k».proof.Proof.Contents
public import Idealize.ShloMosaic.Lib.Pipeline.Launch
public import Idealize.ShloMosaic.Lib.Pipeline.Kit
public import Idealize.ShloMosaic.Lib.Tactic

@[expose] public section

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F]

abbrev UB := URounds (GSem nD τ sig) Unit
abbrev UU := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells -/

/-- A device's semaphores: per array, the send and receive cell of each copy and the local copy's. -/
abbrev J := Fin 3 × (Fin 7 ⊕ Fin 7 ⊕ Unit)

def semJ : J → DmaSem sig
  | (w, .inl k) => sendS w k
  | (w, .inr (.inl k)) => recvS w k
  | (w, .inr (.inr _)) => copyS w

/-- Which semaphore a number is. -/
def decJ (i : DmaSem sig) : J :=
  if i.val < 21 then (⟨i.val / 7 % 3, Nat.mod_lt _ (by decide)⟩, .inl ⟨i.val % 7, Nat.mod_lt _ (by decide)⟩)
  else if i.val < 42 then (⟨(i.val - 21) / 7 % 3, Nat.mod_lt _ (by decide)⟩, .inr (.inl ⟨(i.val - 21) % 7, Nat.mod_lt _ (by decide)⟩))
  else (⟨(i.val - 42) % 3, Nat.mod_lt _ (by decide)⟩, .inr (.inr ()))

theorem decJ_semJ : ∀ j, decJ (semJ j) = j := by decide
theorem semJ_decJ : ∀ i, semJ (decJ i) = i := by decide

theorem semJ_inj : Function.Injective semJ := fun a b h => (decJ_semJ a).symm.trans ((congrArg decJ h).trans (decJ_semJ b))

abbrev cell (c : Dev nD) (j : J) : GSem nD τ sig := ((c : Thread nD τ), .dma (semJ j))

theorem cell_inj {c c' : Dev nD} {j j' : J} (h : cell c j = cell c' j') : c = c' ∧ j = j' :=
  ⟨congrArg (fun g : GSem nD τ sig => g.1.1) h, semJ_inj (SemLoc.dma.inj (congrArg Prod.snd h))⟩

def N : ℕ := (slot 0 0).view.dmaCredit
theorem N_pos : 0 < N := View.dmaCredit_pos _ (by decide)

/-! ## What is held of the arrays -/

/-- Slot `s` of device `c`'s output `w`, holding `f`. -/
def slotP (c : Dev nD) (w : Fin 3) (s : Fin 8) (f : Buf (Elt F) ((slot w s).view.loc (c : Thread nD τ))) : sProp 𝕄 :=
  (slot w s).view.loc (c : Thread nD τ) ↦[(slot w s).view.set]{fullShare} f

/-- A share of device `c`'s input `w`. -/
def inP (c : Dev nD) (w : Fin 3) (q : PosShare TreeShare) : sProp 𝕄 :=
  (inM w).view.loc (c : Thread nD τ) ↦[(inM w).view.set]{q} m ((inM w).view.loc (c : Thread nD τ))

/-- Slot `s` with its shard in it. -/
def fullP (c : Dev nD) (w : Fin 3) (s : Fin 8) : sProp 𝕄 := slotP c w s (atSlot m w c s)

omit [FloatOps F] in
instance slotP_storable (c : Dev nD) (w : Fin 3) (s : Fin 8) (f) : BI.Storable (upEmb : UEmb _ 𝕄) (slotP (F := F) c w s f) := by
  unfold slotP; infer_instance
omit [FloatOps F] in
instance inP_storable (c : Dev nD) (w : Fin 3) (q) : BI.Storable (upEmb : UEmb _ 𝕄) (inP (F := F) m c w q) := by
  unfold inP; infer_instance
instance fullP_storable (c : Dev nD) (w : Fin 3) (s : Fin 8) : BI.Storable (upEmb : UEmb _ 𝕄) (fullP (F := F) m c w s) := by
  unfold fullP; infer_instance

/-- The share of the input that each of its five readers takes: copies 0 … 3 and the local copy. -/
def qs : Fin 5 → PosShare TreeShare :=
  ![fullShare.left.left, fullShare.left.right, fullShare.right.left, fullShare.right.right.left, fullShare.right.right.right]
/-- The share copy `k` takes. -/
def qk (k : Fin 7) : PosShare TreeShare := qs ⟨k.val % 5, Nat.mod_lt _ (by decide)⟩

omit [FloatOps F] in
/-- The input whole is its five readers' shares. -/
theorem in_split (c : Dev nD) (w : Fin 3) : (inP m c w fullShare : sProp 𝕄)
    = iprop(((inP m c w (qs 0) ∗ inP m c w (qs 1)) ∗ (inP m c w (qs 2) ∗ (inP m c w (qs 3) ∗ inP m c w (qs 4))))) := by
  have h (q : PosShare TreeShare) : (inP m c w q : sProp 𝕄) = iprop(inP m c w q.left ∗ inP m c w q.right) :=
    BI.Entails.antisymm (pointsTo_share (PosShare.mem_left_op_right q)).1 (pointsTo_share (PosShare.mem_left_op_right q)).2
  rw [h fullShare, h fullShare.left, h fullShare.right, h fullShare.right.right]
  rfl

/-! ## The schedule -/

/-- What the credit of each cell hands to its device. -/
def payJ (c : Dev nD) : J → sProp 𝕄
  | (w, .inl k) => if k.val < 4 then inP m c w (qk k) else fullP m c w (sl k c)
  | (w, .inr (.inl k)) => fullP m c w (rl k c)
  | (w, .inr (.inr _)) => iprop(fullP m c w c ∗ inP m c w (qs 4))

def payS (c : Dev nD) : SemLoc sig → sProp 𝕄
  | .dma i => payJ m c (decJ i)
  | .reg _ => iprop(emp)

def isDma : SemLoc sig → Bool
  | .dma _ => true
  | .reg _ => false

instance payS_storable (c : Dev nD) (s : SemLoc sig) : BI.Storable (upEmb : UEmb _ 𝕄) (payS (F := F) m c s) := by
  unfold payS payJ
  (repeat' split) <;> infer_instance

/-- One round: each of a device's copy semaphores is credited one shard, by one copy. -/
def rd : Rounds.Schedule (GSem nD τ sig) Unit 𝕄 where
  duties g r := if r = 0 ∧ g.1.2 = .tc ∧ isDma g.2 = true then {()} else ∅
  unitless _ := False
  amount _ _ _ := N
  payload g _ _ := payS m g.1.1 g.2
  amount_pos _ _ _ _ := N_pos

instance rd_payload_storable (g : GSem nD τ sig) (r : ℕ) (d : Unit) :
    BI.Storable (upEmb : UEmb _ 𝕄) ((rd (F := F) m).payload g r d) := payS_storable m g.1.1 g.2

theorem duties_cell (c : Dev nD) (j : J) : (rd (F := F) m).duties (cell c j) 0 = {()} := by
  dsimp only [rd]; exact if_pos ⟨rfl, rfl, rfl⟩
theorem duties_later (g : GSem nD τ sig) (r : ℕ) (h : 1 ≤ r) : (rd (F := F) m).duties g r = ∅ := by
  dsimp only [rd]; exact if_neg fun h' => by omega
theorem mem_duties (c : Dev nD) (j : J) : () ∈ (rd (F := F) m).duties (cell c j) 0 := by rw [duties_cell]; exact Finset.mem_singleton_self _
theorem payload_cell (c : Dev nD) (j : J) (r : ℕ) (d : Unit) : (rd (F := F) m).payload (cell c j) r d = payJ m c j := by
  show payJ m c (decJ (semJ j)) = _
  rw [decJ_semJ]
theorem expect_cell (c : Dev nD) (j : J) : (rd (F := F) m).expect (cell c j) 0 = N := by
  unfold Schedule.expect Schedule.amountOf; rw [duties_cell, Finset.sum_singleton]; rfl
theorem rest_cell (c : Dev nD) (j : J) :
    bigSep ((rd (F := F) m).duties (cell c j) 0 \ ∅) (fun d => (rd (F := F) m).payload (cell c j) 0 d) = payJ m c j := by
  rw [Finset.sdiff_empty, duties_cell, bigSep_singleton, payload_cell]

/-! ## Levels -/

/-- What forwarding brings is a level above everything else. -/
def lvJ : J → ℕ
  | (_, .inr (.inl k)) => if 4 ≤ k.val then 1 else 0
  | _ => 0

def L (g : GSem nD τ sig) : Finset Unit := if g.1.2 = .tc then {()} else ∅
def lv (g : GSem nD τ sig) (_ : Unit) : ℕ := match g.2 with | .dma i => lvJ (decJ i) | .reg _ => 0

theorem L_tc (c : Dev nD) (s : SemLoc sig) : L ((c : Thread nD τ), s) = {()} := if_pos rfl
theorem L_of_ne (g : GSem nD τ sig) (h : g.1.2 ≠ .tc) : L g = ∅ := if_neg h
theorem lv_cell (c : Dev nD) (j : J) (u : Unit) : lv (cell c j) u = lvJ j := by
  show lvJ (decJ (semJ j)) = _
  rw [decJ_semJ]

/-- What device `c` still owes when the operations `l` remain: the peers' receive cells of the copies it has yet to start. -/
def owedL (c : Dev nD) : List Op → CellTallies nD τ sig Unit
  | [] => 0
  | .send w k :: l => owedL c l + tallyAt (cell (pr k c) (w, .inr (.inl k))) () N
  | _ :: l => owedL c l

theorem owedL_pos {c : Dev nD} {g : GSem nD τ sig} {u : Unit} : ∀ {l : List Op}, 0 < owedL c l g u →
    ∃ w k, .send w k ∈ l ∧ g = cell (pr k c) (w, .inr (.inl k))
  | [], h => absurd h (Nat.lt_irrefl 0)
  | .send w k :: l, h => by
    by_cases h' : g = cell (pr k c) (w, .inr (.inl k))
    · exact ⟨w, k, List.mem_cons_self, h'⟩
    · unfold owedL at h
      rw [Pi.add_apply, Finsupp.add_apply, tallyAt_apply, if_neg (fun h'' => h' h''.1), Nat.add_zero] at h
      obtain ⟨w', k', hm, hg⟩ := owedL_pos h
      exact ⟨w', k', List.mem_cons_of_mem _ hm, hg⟩
  | .copy _ :: l, h => by
    obtain ⟨w', k', hm, hg⟩ := owedL_pos (l := l) h; exact ⟨w', k', List.mem_cons_of_mem _ hm, hg⟩
  | .recv _ _ :: l, h => by
    obtain ⟨w', k', hm, hg⟩ := owedL_pos (l := l) h; exact ⟨w', k', List.mem_cons_of_mem _ hm, hg⟩
  | .sent _ _ :: l, h => by
    obtain ⟨w', k', hm, hg⟩ := owedL_pos (l := l) h; exact ⟨w', k', List.mem_cons_of_mem _ hm, hg⟩
  | .copied _ :: l, h => by
    obtain ⟨w', k', hm, hg⟩ := owedL_pos (l := l) h; exact ⟨w', k', List.mem_cons_of_mem _ hm, hg⟩

/-- The copies yet to be started land above the cell of level `n`. -/
def above (n : ℕ) (l : List Op) : Bool := l.all fun | .send w k => decide (n < lvJ (w, .inr (.inl k))) | _ => true

theorem above_send {n : ℕ} {l : List Op} (h : above n l = true) {w : Fin 3} {k : Fin 7} (hm : .send w k ∈ l) : n < lvJ (w, .inr (.inl k)) :=
  of_decide_eq_true (List.all_eq_true.mp h _ hm)

omit [FloatOps F] in
theorem mayWait (c : Dev nD) (j : J) (l : List Op) (h : above (lvJ j) l = true) :
    (levAts L lv : sProp 𝕄) ⊢ MayWait (c : Thread nD τ) (.dma (semJ j)) () (owedL c l) :=
  Pipeline.mayWait_of_levAts (by rw [L_tc]; exact Finset.mem_singleton_self _) fun g u hg => by
    obtain ⟨w, k, hm, rfl⟩ := owedL_pos hg
    refine ⟨by unfold cell; rw [L_tc]; exact Finset.mem_singleton_self _, ?_⟩
    show lv (cell c j) () < lv (cell (pr k c) _) u
    rw [lv_cell, lv_cell]
    exact above_send h hm

end Cert.KernelIdeal.Gather

end
-- ==== Proof.Steps.lean ====
/- What a device holds as its body runs, and each operation's step.

   With the operations `l` still to run, device `c` holds, for each copy, one thing or another according as the copy
   is still to start, is in flight or has been waited for (`sendR`, `recvR`, `copyR`).  `St l c` is all of it with
   what the device owes.  Each step takes `St (x :: l) c` to `St l c` (`step`), under conditions on the list that are
   checked once for the whole body (`okAll`). -/
module

public import proofs.«01_k».proof.Proof.Protocol

@[expose] public section

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F]

local notation "𝕄" => MT nD τ sig Unit (Elt F) ℕ UU ℕ

abbrev 𝒱₀ : Variants := Variants.none

variable (m : (ℓ : Loc nD τ sig) → Buf (Elt F) ℓ) (κ : Dev nD × J → ℕ)

/-- The send cell, the receive cell, the local copy's cell. -/
abbrev jS (w : Fin 3) (k : Fin 7) : J := (w, .inl k)
abbrev jR (w : Fin 3) (k : Fin 7) : J := (w, .inr (.inl k))
abbrev jC (w : Fin 3) : J := (w, .inr (.inr ()))

/-- A cell's credit and its owner's position before the wait. -/
def due (c : Dev nD) (j : J) : sProp 𝕄 := iprop(cred (tallyAt (cell c j) () N) ∗ atPos ER (cell c j) 0 ∅ 0)

def sendR (l : List Op) (c : Dev nD) (w : Fin 3) (k : Fin 7) : sProp 𝕄 :=
  if .send w k ∈ l then
    iprop((∃ f, slotP (pr k c) w (sl k c) f) ∗ dutyTok ER (cell c (jS w k)) 0 () ∗ dutyTok ER (cell (pr k c) (jR w k)) 0 ()
      ∗ atPos ER (cell c (jS w k)) 0 ∅ 0 ∗ (if k.val < 4 then inP m c w (qk k) else iprop(emp)))
  else if .sent w k ∈ l then due c (jS w k)
  else iprop(payJ m c (jS w k) ∗ atPos ER (cell c (jS w k)) 1 ∅ 0)

def recvR (l : List Op) (c : Dev nD) (w : Fin 3) (k : Fin 7) : sProp 𝕄 :=
  if .recv w k ∈ l then due c (jR w k)
  else iprop((if k ∈ [1, 2, 3] ∧ .send w (k + 3) ∉ l then iprop(emp) else payJ m c (jR w k)) ∗ atPos ER (cell c (jR w k)) 1 ∅ 0)

def copyR (l : List Op) (c : Dev nD) (w : Fin 3) : sProp 𝕄 :=
  if .copy w ∈ l then
    iprop((∃ f, slotP c w c f) ∗ inP m c w (qs 4) ∗ dutyTok ER (cell c (jC w)) 0 () ∗ atPos ER (cell c (jC w)) 0 ∅ 0)
  else if .copied w ∈ l then due c (jC w)
  else iprop(payJ m c (jC w) ∗ atPos ER (cell c (jC w)) 1 ∅ 0)

def sends (l : List Op) (c : Dev nD) : sProp 𝕄 := bigSep Finset.univ fun p : Fin 3 × Fin 7 => sendR m l c p.1 p.2
def recvs (l : List Op) (c : Dev nD) : sProp 𝕄 := bigSep Finset.univ fun p : Fin 3 × Fin 7 => recvR m l c p.1 p.2
def copies (l : List Op) (c : Dev nD) : sProp 𝕄 := bigSep Finset.univ fun w : Fin 3 => copyR m l c w

def owesP (l : List Op) (c : Dev nD) : sProp 𝕄 := iprop(∃ W, owes (c : Thread nD τ) (owedL c l) W)

def St (l : List Op) (c : Dev nD) : sProp 𝕄 := iprop(owesP l c ∗ sends m l c ∗ recvs m l c ∗ copies m l c)

/-- Every cell's invariant and that its round is open, and the levels. -/
def cells : sProp 𝕄 :=
  bigSep Finset.univ fun p : Dev nD × J => iprop(cellInv ER (rd m) (κ p) (cell p.1 p.2) ∗ reached ER (cell p.1 p.2) 0)
def recs : sProp 𝕄 := iprop(cells m κ ∗ levAts L lv)

instance cells_persistent : BI.Persistent (cells m κ) := by unfold cells; infer_instance

instance recs_persistent : BI.Persistent (recs m κ) := by unfold recs; infer_instance

theorem cells_at (c : Dev nD) (j : J) : (cells m κ : sProp 𝕄) ⊢ iprop(cellInv ER (rd m) (κ (c, j)) (cell c j) ∗ reached ER (cell c j) 0) :=
  bigSep_elim (i := (c, j)) (Finset.mem_univ _)

/-! ## Conditions on the list -/

def okStep : Op → List Op → Bool
  | .copy w, l => decide (.copy w ∉ l ∧ .copied w ∈ l)
  | .send w k, l => decide (.send w k ∉ l ∧ .sent w k ∈ l ∧ (4 ≤ k.val → .recv w (k + 4) ∉ l))
  | .recv w k, l => decide (.recv w k ∉ l ∧ (k ∈ [1, 2, 3] → .send w (k + 3) ∈ l)) && above (lvJ (jR w k)) l
  | .sent w k, l => decide (.sent w k ∉ l ∧ .send w k ∉ l) && above (lvJ (jS w k)) l
  | .copied w, l => decide (.copied w ∉ l ∧ .copy w ∉ l) && above (lvJ (jC w)) l

def okAll : List Op → Bool
  | [] => true
  | x :: l => okStep x l && okAll l

theorem ok_ops : okAll ops = true := by decide

/-! ## What is held, case by case -/

section Cases
variable {l : List Op} {c : Dev nD} {w : Fin 3} {k : Fin 7}

theorem sendR_start (h : .send w k ∈ l) : sendR m l c w k
    = iprop((∃ f, slotP (pr k c) w (sl k c) f) ∗ dutyTok ER (cell c (jS w k)) 0 () ∗ dutyTok ER (cell (pr k c) (jR w k)) 0 ()
      ∗ atPos ER (cell c (jS w k)) 0 ∅ 0 ∗ (if k.val < 4 then inP m c w (qk k) else iprop(emp))) := by
  unfold sendR; rw [if_pos h]
theorem sendR_due (h : .send w k ∉ l) (h' : .sent w k ∈ l) : sendR m l c w k = due c (jS w k) := by
  unfold sendR; rw [if_neg h, if_pos h']
theorem sendR_done (h : .send w k ∉ l) (h' : .sent w k ∉ l) :
    sendR m l c w k = iprop(payJ m c (jS w k) ∗ atPos ER (cell c (jS w k)) 1 ∅ 0) := by
  unfold sendR; rw [if_neg h, if_neg h']

theorem recvR_due (h : .recv w k ∈ l) : recvR m l c w k = due c (jR w k) := by
  unfold recvR; rw [if_pos h]
theorem recvR_held (h : .recv w k ∉ l) (h' : k ∈ [1, 2, 3] → .send w (k + 3) ∈ l) :
    recvR m l c w k = iprop(payJ m c (jR w k) ∗ atPos ER (cell c (jR w k)) 1 ∅ 0) := by
  unfold recvR; rw [if_neg h, if_neg fun e => e.2 (h' e.1)]
theorem recvR_passed (h : .recv w k ∉ l) (h₁ : k ∈ [1, 2, 3]) (h' : .send w (k + 3) ∉ l) :
    recvR m l c w k = iprop(emp ∗ atPos ER (cell c (jR w k)) 1 ∅ 0) := by
  unfold recvR; rw [if_neg h, if_pos ⟨h₁, h'⟩]

theorem copyR_start (h : .copy w ∈ l) : copyR m l c w
    = iprop((∃ f, slotP c w c f) ∗ inP m c w (qs 4) ∗ dutyTok ER (cell c (jC w)) 0 () ∗ atPos ER (cell c (jC w)) 0 ∅ 0) := by
  unfold copyR; rw [if_pos h]
theorem copyR_due (h : .copy w ∉ l) (h' : .copied w ∈ l) : copyR m l c w = due c (jC w) := by
  unfold copyR; rw [if_neg h, if_pos h']
theorem copyR_done (h : .copy w ∉ l) (h' : .copied w ∉ l) :
    copyR m l c w = iprop(payJ m c (jC w) ∗ atPos ER (cell c (jC w)) 1 ∅ 0) := by
  unfold copyR; rw [if_neg h, if_neg h']

end Cases

/-! ## Which resources an operation leaves alone -/

section Frame
variable (l : List Op) (c : Dev nD)

theorem sends_of (x : Op) (h : ∀ w k, x ≠ .send w k ∧ x ≠ .sent w k) : sends m (x :: l) c = sends m l c := by
  unfold sends
  congr 1; funext p
  unfold sendR
  simp only [List.mem_cons, (h _ _).1.symm, (h _ _).2.symm, false_or]

theorem recvs_of (x : Op) (h : ∀ w k, x ≠ .recv w k ∧ x ≠ .send w k) : recvs m (x :: l) c = recvs m l c := by
  unfold recvs
  congr 1; funext p
  unfold recvR
  simp only [List.mem_cons, (h _ _).1.symm, (h _ _).2.symm, false_or]

theorem copies_of (x : Op) (h : ∀ w, x ≠ .copy w ∧ x ≠ .copied w) : copies m (x :: l) c = copies m l c := by
  unfold copies
  congr 1; funext p
  unfold copyR
  simp only [List.mem_cons, (h _).1.symm, (h _).2.symm, false_or]

theorem sends_at (x : Op) (w : Fin 3) (k : Fin 7) (h : x = .send w k ∨ x = .sent w k) :
    (sends m (x :: l) c : sProp 𝕄) ⊢ iprop(sendR m (x :: l) c w k ∗ (sendR m l c w k -∗ sends m l c)) := by
  unfold sends
  refine bigSep_univ_update (Φ := fun p : Fin 3 × Fin 7 => sendR m (x :: l) c p.1 p.2) (Ψ := fun p => sendR m l c p.1 p.2) (w, k) fun p hp => ?_
  have h1 : Op.send p.1 p.2 ≠ x := by rcases h with rfl | rfl <;> simp [Prod.ext_iff] at hp ⊢; exact hp
  have h2 : Op.sent p.1 p.2 ≠ x := by rcases h with rfl | rfl <;> simp [Prod.ext_iff] at hp ⊢; exact hp
  unfold sendR
  simp only [List.mem_cons, h1, h2, false_or]

theorem recvs_at (w : Fin 3) (k : Fin 7) :
    (recvs m (.recv w k :: l) c : sProp 𝕄) ⊢ iprop(recvR m (.recv w k :: l) c w k ∗ (recvR m l c w k -∗ recvs m l c)) := by
  unfold recvs
  refine bigSep_univ_update (Φ := fun p : Fin 3 × Fin 7 => recvR m (.recv w k :: l) c p.1 p.2) (Ψ := fun p => recvR m l c p.1 p.2) (w, k) fun p hp => ?_
  have h1 : Op.recv p.1 p.2 ≠ .recv w k := by simp [Prod.ext_iff] at hp ⊢; exact hp
  unfold recvR
  simp only [List.mem_cons, h1, false_or, reduceCtorEq]

theorem fin7_fwd : ∀ k k' : Fin 7, 4 ≤ k.val → k' + 3 = k → k' = k + 4 := by decide
theorem fin7_low : ∀ k : Fin 7, k ∈ [1, 2, 3] → ¬ (k + 3).val < 4 := by decide
theorem fin7_mem : ∀ k : Fin 7, 4 ≤ k.val → (k + 4) ∈ [1, 2, 3] ∧ k + 4 + 3 = k := by decide
theorem rl_back : ∀ (k : Fin 7) (c : Dev nD), 4 ≤ k.val → rl (k + 4) c = sl k c := by decide

/-- Forwarding uses what the earlier copy brought. -/
theorem recvs_fwd (w : Fin 3) (k : Fin 7) (hk : 4 ≤ k.val) :
    (recvs m (.send w k :: l) c : sProp 𝕄) ⊢ iprop(recvR m (.send w k :: l) c w (k + 4) ∗ (recvR m l c w (k + 4) -∗ recvs m l c)) := by
  unfold recvs
  refine bigSep_univ_update (Φ := fun p : Fin 3 × Fin 7 => recvR m (.send w k :: l) c p.1 p.2) (Ψ := fun p => recvR m l c p.1 p.2) (w, k + 4) fun p hp => ?_
  have h1 : Op.send p.1 (p.2 + 3) ≠ .send w k := by
    intro h
    have h' := Op.send.inj h
    exact hp (Prod.ext h'.1 (fin7_fwd _ _ hk h'.2))
  unfold recvR
  simp only [List.mem_cons, h1, false_or, reduceCtorEq]

theorem recvs_low (w : Fin 3) (k : Fin 7) (hk : k.val < 4) : recvs m (.send w k :: l) c = recvs m l c := by
  unfold recvs
  congr 1; funext p
  unfold recvR
  by_cases hp : p.2 ∈ [1, 2, 3]
  · have h1 : Op.send p.1 (p.2 + 3) ≠ .send w k := by
      intro h
      exact fin7_low _ hp (by rw [(Op.send.inj h).2]; exact hk)
    simp only [List.mem_cons, h1, false_or, reduceCtorEq]
  · simp only [List.mem_cons, false_or, reduceCtorEq] at hp ⊢
    simp only [hp, false_and]

theorem copies_at (x : Op) (w : Fin 3) (h : x = .copy w ∨ x = .copied w) :
    (copies m (x :: l) c : sProp 𝕄) ⊢ iprop(copyR m (x :: l) c w ∗ (copyR m l c w -∗ copies m l c)) := by
  unfold copies
  refine bigSep_univ_update (Φ := fun w => copyR m (x :: l) c w) (Ψ := fun w => copyR m l c w) w fun p hp => ?_
  have h1 : Op.copy p ≠ x := by rcases h with rfl | rfl <;> simp [hp]
  have h2 : Op.copied p ≠ x := by rcases h with rfl | rfl <;> simp [hp]
  unfold copyR
  simp only [List.mem_cons, h1, h2, false_or]

end Frame

/-! ## The steps -/

section Step
variable (l : List Op) (c : Dev nD)

variable (k : Prog (TpuEff nD τ sig (Elt F) Λ₀ .tc) PUnit)

/-- A weakest precondition of a piece of device `c`'s body. -/
abbrev wpC (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-- A wait for what cell `j` is due, at that cell's device. -/
theorem wait_due (Q : PUnit → sProp 𝕄) (j : J) (h : above (lvJ j) l = true) (w : Eff F)
    (hw : ∀ K : PUnit → sProp 𝕄, wpE (defs₀ (F := F)) 𝒱₀ (c : Thread nD τ) none Set.univ w K = waitSpec (c : Thread nD τ) Set.univ (.dma (semJ j)) N K) :
    iprop(recs m κ ∗ owesP l c ∗ due c j)
      ⊢ iprop(((owesP l c ∗ payJ m c j ∗ atPos ER (cell c j) 1 ∅ 0) -∗ wpC c k Q) -∗ wpC c (.op w fun _ => k) Q) := by
  unfold owesP due recs
  iintro ⟨⟨#Hcs, #Hlev⟩, ⟨%W, HO⟩, Hcred, Hat⟩ Hk
  ihave ⟨#HI, -⟩ := (cells_at m κ c j) $$ Hcs
  iapply (Rounds.wp_wait_rest_token 𝒱₀ ER (rd m) (c : Thread nD τ) none (κ := κ (c, j)) hw (Set.mem_univ _) () (O := owedL c l) (W := W)
      (R := 0) (m := 0) (T := ∅) (by rw [Nat.zero_add]; exact (expect_cell m c j).symm)) $$ [Hcred HO Hat]
  · isplitr; · iexact HI
    isplitl [Hcred]; · iexact Hcred
    isplitl [HO]; · iexact HO
    isplitr; · iapply (mayWait c j l h); iexact Hlev
    iexact Hat
  iintro ⟨HO, Hat, -, Hpay⟩
  ihave Hp := (Entails.of_eq (rest_cell m c j)) $$ Hpay
  iapply Hk
  isplitl [HO]; · iexists _; iexact HO
  isplitl [Hp]; · iexact Hp
  iexact Hat

/-- Filling a slot with its shard. -/
theorem filled (w : Fin 3) (s : Fin 8) (f : Buf (Elt F) ((slot w s).view.loc (c : Thread nD τ))) :
    ((slot w s).view.loc (c : Thread nD τ) ↦[(slot w s).view.set]{fullShare} ((slot w s).view.write (Elt F) f (shard m w s) Finset.univ) : sProp 𝕄)
      ⊢ fullP m c w s := by
  unfold fullP slotP
  exact Entails.of_eq (pointsTo_congr (write_shard m w c s f))

theorem start_copy (Q : PUnit → sProp 𝕄) (w : Fin 3) (f : Buf (Elt F) ((slot w c).view.loc (c : Thread nD τ))) :
    iprop(cellInv ER (rd m) (κ (c, jC w)) (cell c (jC w)) ∗ inP m c w (qs 4) ∗ slotP c w c f ∗ dutyTok ER (cell c (jC w)) 0 () ∗ reached ER (cell c (jC w)) 0)
      ⊢ iprop((cred (tallyAt (cell c (jC w)) () N) -∗ wpC c k Q) -∗ wpC c (.op (eff c (.copy w)) fun _ => k) Q) := by
  have e : (eff c (.copy w) : Eff F) = .enqueueDma (inM w) (.here (slot w c)) (.dma (semJ (jC w)))
      (isWhole_inM w).wordExact (slab_exact w _ _ (offs_wds c)) ⟨Or.inl rfl, trivial⟩ := rfl
  rw [e]
  unfold inP slotP wpC
  exact Rounds.wp_copy_pointsTo 𝒱₀ ER (rd m) (c : Thread nD τ) none (k := fun _ => k) (κ := κ (c, jC w)) (r := 0) (d := ()) (fd := f)
      (mem_duties m c (jC w)) () N rfl rfl (by
        rw [payload_cell]
        exact sep_mono_left (filled m c w c f))

/-- The local copy starts. -/
theorem step_copy (Q : PUnit → sProp 𝕄) (w : Fin 3) (h : okStep (.copy w) l = true) :
    iprop(recs m κ ∗ St m (.copy w :: l) c) ⊢ iprop((St m l c -∗ wpC c k Q) -∗ wpC c (.op (eff c (.copy w)) fun _ => k) Q) := by
  have h' := of_decide_eq_true h
  unfold St recs
  rw [sends_of m l c _ (fun _ _ => ⟨by simp, by simp⟩), recvs_of m l c _ (fun _ _ => ⟨by simp, by simp⟩)]
  iintro ⟨⟨#Hcs, -⟩, HO, HS, HR, HC⟩ Hk
  ihave ⟨#HI, #Hr⟩ := (cells_at m κ c (jC w)) $$ Hcs
  ihave ⟨Hw, Hback⟩ := (copies_at m l c _ w (.inl rfl)) $$ HC
  ihave Hw := (Entails.of_eq (copyR_start m List.mem_cons_self)) $$ Hw
  icases Hw with ⟨⟨%f, Hslot⟩, Hin, Htok, Hat⟩
  iapply (start_copy m κ c k Q w f) $$ [Hslot Hin Htok]
  · isplitr; · iexact HI
    isplitl [Hin]; · iexact Hin
    isplitl [Hslot]; · iexact Hslot
    isplitl [Htok]; · iexact Htok
    iexact Hr
  iintro Hcred
  iapply Hk
  isplitl [HO]; · iexact HO
  isplitl [HS]; · iexact HS
  isplitl [HR]; · iexact HR
  iapply Hback
  iapply (Entails.of_eq (copyR_due m h'.1 h'.2).symm)
  unfold due
  isplitl [Hcred]; · iexact Hcred
  iexact Hat

/-- The local copy is waited for. -/
theorem step_copied (Q : PUnit → sProp 𝕄) (w : Fin 3) (h : okStep (.copied w) l = true) :
    iprop(recs m κ ∗ St m (.copied w :: l) c) ⊢ iprop((St m l c -∗ wpC c k Q) -∗ wpC c (.op (eff c (.copied w)) fun _ => k) Q) := by
  have h' := of_decide_eq_true (Bool.and_eq_true_iff.mp h).1
  have ha := (Bool.and_eq_true_iff.mp h).2
  unfold St
  rw [sends_of m l c _ (fun _ _ => ⟨by simp, by simp⟩), recvs_of m l c _ (fun _ _ => ⟨by simp, by simp⟩)]
  iintro ⟨#Hrec, HO, HS, HR, HC⟩ Hk
  ihave ⟨Hw, Hback⟩ := (copies_at m l c _ w (.inr rfl)) $$ HC
  ihave Hw := (Entails.of_eq (copyR_due m (by simpa using h'.2) List.mem_cons_self)) $$ Hw
  iapply (wait_due m κ l c k Q (jC w) ha (eff c (.copied w)) (fun _ => rfl)) $$ [HO Hw]
  · isplitr; · iexact Hrec
    isplitl [HO]; · iexact HO
    iexact Hw
  iintro ⟨HO, Hp⟩
  iapply Hk
  isplitl [HO]; · iexact HO
  isplitl [HS]; · iexact HS
  isplitl [HR]; · iexact HR
  iapply Hback
  iapply (Entails.of_eq (copyR_done m h'.2 h'.1).symm)
  iexact Hp

/-- The end of a copy's reading is waited for. -/
theorem step_sent (Q : PUnit → sProp 𝕄) (w : Fin 3) (i : Fin 7) (h : okStep (.sent w i) l = true) :
    iprop(recs m κ ∗ St m (.sent w i :: l) c) ⊢ iprop((St m l c -∗ wpC c k Q) -∗ wpC c (.op (eff c (.sent w i)) fun _ => k) Q) := by
  have h' := of_decide_eq_true (Bool.and_eq_true_iff.mp h).1
  have ha := (Bool.and_eq_true_iff.mp h).2
  unfold St
  rw [copies_of m l c _ (fun _ => ⟨by simp, by simp⟩), recvs_of m l c _ (fun _ _ => ⟨by simp, by simp⟩)]
  iintro ⟨#Hrec, HO, HS, HR, HC⟩ Hk
  ihave ⟨Hw, Hback⟩ := (sends_at m l c _ w i (.inr rfl)) $$ HS
  ihave Hw := (Entails.of_eq (sendR_due m (by simpa using h'.2) List.mem_cons_self)) $$ Hw
  iapply (wait_due m κ l c k Q (jS w i) ha (eff c (.sent w i)) (fun _ => by
      show wpE (defs₀ (F := F)) 𝒱₀ (c : Thread nD τ) none Set.univ
        (if i.val < 4 then leftE w (sendS w i) (at_ (sl i c)) else passedE w (sendS w i) (at_ (sl i c)) : Eff F) _ = _
      split <;> rfl)) $$ [HO Hw]
  · isplitr; · iexact Hrec
    isplitl [HO]; · iexact HO
    iexact Hw
  iintro ⟨HO, Hp⟩
  iapply Hk
  isplitl [HO]; · iexact HO
  isplitl [Hback Hp]
  · iapply Hback
    iapply (Entails.of_eq (sendR_done m h'.2 h'.1).symm)
    iexact Hp
  isplitl [HR]; · iexact HR
  iexact HC

/-- What a copy brings is waited for. -/
theorem step_recv (Q : PUnit → sProp 𝕄) (w : Fin 3) (i : Fin 7) (h : okStep (.recv w i) l = true) :
    iprop(recs m κ ∗ St m (.recv w i :: l) c) ⊢ iprop((St m l c -∗ wpC c k Q) -∗ wpC c (.op (eff c (.recv w i)) fun _ => k) Q) := by
  have h' := of_decide_eq_true (Bool.and_eq_true_iff.mp h).1
  have ha := (Bool.and_eq_true_iff.mp h).2
  unfold St
  rw [copies_of m l c _ (fun _ => ⟨by simp, by simp⟩), sends_of m l c _ (fun _ _ => ⟨by simp, by simp⟩)]
  iintro ⟨#Hrec, HO, HS, HR, HC⟩ Hk
  ihave ⟨Hw, Hback⟩ := (recvs_at m l c w i) $$ HR
  ihave Hw := (Entails.of_eq (recvR_due m List.mem_cons_self)) $$ Hw
  iapply (wait_due m κ l c k Q (jR w i) ha (eff c (.recv w i)) (fun _ => rfl)) $$ [HO Hw]
  · isplitr; · iexact Hrec
    isplitl [HO]; · iexact HO
    iexact Hw
  iintro ⟨HO, Hp⟩
  iapply Hk
  isplitl [HO]; · iexact HO
  isplitl [HS]; · iexact HS
  isplitl [Hback Hp]
  · iapply Hback
    iapply (Entails.of_eq (recvR_held m h'.1 h'.2).symm)
    iexact Hp
  iexact HC

/-- What the peer of copy `i` is handed: the slot, filled. -/
theorem landed (w : Fin 3) (i : Fin 7) (f : Buf (Elt F) ((slot w (sl i c)).view.loc (pr i c : Thread nD τ))) :
    ((slot w (sl i c)).view.loc (pr i c : Thread nD τ) ↦[(slot w (sl i c)).view.set]{fullShare}
        ((slot w (sl i c)).view.write (Elt F) f (shard m w (sl i c)) Finset.univ) : sProp 𝕄)
      ⊢ (rd (F := F) m).payload (cell (pr i c) (jR w i)) 0 () := by
  rw [payload_cell]
  show _ ⊢ fullP m (pr i c) w (rl i (pr i c))
  rw [rl_pr]
  exact filled m (pr i c) w (sl i c) f

/-- A copy of the own shard starts. -/
theorem start_own (Q : PUnit → sProp 𝕄) (w : Fin 3) (i : Fin 7) (hi : i.val < 4) (W : Waits sig Unit)
    (f : Buf (Elt F) ((slot w (sl i c)).view.loc (pr i c : Thread nD τ))) :
    iprop(cellInv ER (rd m) (κ (c, jS w i)) (cell c (jS w i)) ∗ cellInv ER (rd m) (κ (pr i c, jR w i)) (cell (pr i c) (jR w i))
        ∗ inP m c w (qk i) ∗ slotP (pr i c) w (sl i c) f ∗ owes (c : Thread nD τ) (owedL c (.send w i :: l)) W
        ∗ dutyTok ER (cell c (jS w i)) 0 () ∗ reached ER (cell c (jS w i)) 0
        ∗ dutyTok ER (cell (pr i c) (jR w i)) 0 () ∗ reached ER (cell (pr i c) (jR w i)) 0)
      ⊢ iprop(((cred (tallyAt (cell c (jS w i)) () N) ∗ owes (c : Thread nD τ) (owedL c l) W) -∗ wpC c k Q)
          -∗ wpC c (.op (eff c (.send w i)) fun _ => k) Q) := by
  have e : (eff c (.send w i) : Eff F) = .enqueueDma (inM w) (.remote (pr i c).tc (slot w (sl i c)) (.dma (semJ (jS w i))) rfl) (.dma (semJ (jR w i)))
      (isWhole_inM w).wordExact (slab_exact w _ _ (offs_wds (sl i c))) ⟨⟨rfl, Or.inl rfl⟩, trivial⟩ := by
    show (if i.val < 4 then _ else _) = _
    rw [if_pos hi]; rfl
  have es : (inM w).view.read (Elt F) (m ((inM w).view.loc (c : Thread nD τ))) = shard m w (sl i c) := by rw [sl_low i c hi]; rfl
  rw [e]
  unfold inP slotP wpC
  exact Rounds.wp_send_pointsTo 𝒱₀ ER (rd m) (c : Thread nD τ) none (k := fun _ => k) (κ₁ := κ (c, jS w i)) (κ₂ := κ (pr i c, jR w i))
    (r₁ := 0) (r₂ := 0) (d₁ := ()) (d₂ := ()) (fd := f)
    (mem_duties m c (jS w i)) (mem_duties m (pr i c) (jR w i)) () () N rfl rfl rfl (owedL c l) rfl (W := W)
    (by
      rw [payload_cell]
      show _ ⊢ (if i.val < 4 then inP m c w (qk i) else fullP m c w (sl i c))
      rw [if_pos hi]; exact BI.Entails.refl _)
    (by rw [es]; exact landed m c w i f)

/-- A forwarding copy starts. -/
theorem start_fwd (Q : PUnit → sProp 𝕄) (w : Fin 3) (i : Fin 7) (hi : ¬ i.val < 4) (W : Waits sig Unit)
    (f : Buf (Elt F) ((slot w (sl i c)).view.loc (pr i c : Thread nD τ))) :
    iprop(cellInv ER (rd m) (κ (c, jS w i)) (cell c (jS w i)) ∗ cellInv ER (rd m) (κ (pr i c, jR w i)) (cell (pr i c) (jR w i))
        ∗ fullP m c w (sl i c) ∗ slotP (pr i c) w (sl i c) f ∗ owes (c : Thread nD τ) (owedL c (.send w i :: l)) W
        ∗ dutyTok ER (cell c (jS w i)) 0 () ∗ reached ER (cell c (jS w i)) 0
        ∗ dutyTok ER (cell (pr i c) (jR w i)) 0 () ∗ reached ER (cell (pr i c) (jR w i)) 0)
      ⊢ iprop(((cred (tallyAt (cell c (jS w i)) () N) ∗ owes (c : Thread nD τ) (owedL c l) W) -∗ wpC c k Q)
          -∗ wpC c (.op (eff c (.send w i)) fun _ => k) Q) := by
  have e : (eff c (.send w i) : Eff F) = .enqueueDma (slot w (sl i c)) (.remote (pr i c).tc (slot w (sl i c)) (.dma (semJ (jS w i))) rfl) (.dma (semJ (jR w i)))
      (slab_exact w _ _ (offs_wds (sl i c))) (slab_exact w _ _ (offs_wds (sl i c))) ⟨⟨rfl, Or.inl rfl⟩, trivial⟩ := by
    show (if i.val < 4 then _ else _) = _
    rw [if_neg hi]; rfl
  rw [e]
  unfold fullP slotP wpC
  exact Rounds.wp_send_pointsTo 𝒱₀ ER (rd m) (c : Thread nD τ) none (k := fun _ => k) (κ₁ := κ (c, jS w i)) (κ₂ := κ (pr i c, jR w i))
    (r₁ := 0) (r₂ := 0) (d₁ := ()) (d₂ := ()) (fd := f)
    (mem_duties m c (jS w i)) (mem_duties m (pr i c) (jR w i)) () () N rfl rfl rfl (owedL c l) rfl (W := W)
    (by
      rw [payload_cell]
      show _ ⊢ (if i.val < 4 then inP m c w (qk i) else fullP m c w (sl i c))
      rw [if_neg hi]; exact BI.Entails.refl _)
    (by rw [read_gathered]; exact landed m c w i f)

/-- A copy to another device starts. -/
theorem step_send (Q : PUnit → sProp 𝕄) (w : Fin 3) (i : Fin 7) (h : okStep (.send w i) l = true) :
    iprop(recs m κ ∗ St m (.send w i :: l) c) ⊢ iprop((St m l c -∗ wpC c k Q) -∗ wpC c (.op (eff c (.send w i)) fun _ => k) Q) := by
  obtain ⟨hs, ht, hr⟩ := of_decide_eq_true h
  unfold St recs owesP
  rw [copies_of m l c _ (fun _ => ⟨by simp, by simp⟩)]
  iintro ⟨⟨#Hcs, -⟩, ⟨%W, HO⟩, HS, HR, HC⟩ Hk
  ihave ⟨#HI, #Hr⟩ := (cells_at m κ c (jS w i)) $$ Hcs
  ihave ⟨#HI', #Hr'⟩ := (cells_at m κ (pr i c) (jR w i)) $$ Hcs
  ihave ⟨Hw, Hback⟩ := (sends_at m l c _ w i (.inl rfl)) $$ HS
  ihave Hw := (Entails.of_eq (sendR_start m List.mem_cons_self)) $$ Hw
  icases Hw with ⟨⟨%f, Hslot⟩, Htok, Htok', Hat, Hsrc⟩
  by_cases hi : i.val < 4
  · ihave Hsrc := (Entails.of_eq (if_pos hi)) $$ Hsrc
    iapply (start_own m κ l c k Q w i hi W f) $$ [Hslot Hsrc HO Htok Htok']
    · isplitr; · iexact HI
      isplitr; · iexact HI'
      isplitl [Hsrc]; · iexact Hsrc
      isplitl [Hslot]; · iexact Hslot
      isplitl [HO]; · iexact HO
      isplitl [Htok]; · iexact Htok
      isplitr; · iexact Hr
      isplitl [Htok']; · iexact Htok'
      iexact Hr'
    iintro ⟨Hcred, HO⟩
    iapply Hk
    isplitl [HO]; · iexists W; iexact HO
    isplitl [Hback Hcred Hat]
    · iapply Hback
      iapply (Entails.of_eq (sendR_due m hs ht).symm)
      unfold due
      isplitl [Hcred]; · iexact Hcred
      iexact Hat
    isplitl [HR]
    · iapply (Entails.of_eq (recvs_low m l c w i hi)); iexact HR
    iexact HC
  · have h4 : 4 ≤ i.val := Nat.le_of_not_lt hi
    obtain ⟨h13, h43⟩ := fin7_mem i h4
    ihave ⟨Hv, Hback'⟩ := (recvs_fwd m l c w i h4) $$ HR
    ihave Hv := (Entails.of_eq (recvR_held m (by simpa using hr h4) (fun _ => by rw [h43]; exact List.mem_cons_self))) $$ Hv
    icases Hv with ⟨Hfull, Hat'⟩
    ihave Hfull := (show payJ m c (jR w (i + 4)) ⊢ fullP m c w (sl i c) by
      show fullP m c w (rl (i + 4) c) ⊢ _
      rw [rl_back i c h4]) $$ Hfull
    iapply (start_fwd m κ l c k Q w i hi W f) $$ [Hslot Hfull HO Htok Htok']
    · isplitr; · iexact HI
      isplitr; · iexact HI'
      isplitl [Hfull]; · iexact Hfull
      isplitl [Hslot]; · iexact Hslot
      isplitl [HO]; · iexact HO
      isplitl [Htok]; · iexact Htok
      isplitr; · iexact Hr
      isplitl [Htok']; · iexact Htok'
      iexact Hr'
    iintro ⟨Hcred, HO⟩
    iapply Hk
    isplitl [HO]; · iexists W; iexact HO
    isplitl [Hback Hcred Hat]
    · iapply Hback
      iapply (Entails.of_eq (sendR_due m hs ht).symm)
      unfold due
      isplitl [Hcred]; · iexact Hcred
      iexact Hat
    isplitl [Hback' Hat']
    · iapply Hback'
      iapply (Entails.of_eq (recvR_passed m (hr h4) h13 (by rw [h43]; exact hs)).symm)
      isplitr; · iempintro
      iexact Hat'
    iexact HC

/-- Every operation's step. -/
theorem step (Q : PUnit → sProp 𝕄) : ∀ (x : Op) (_ : okStep x l = true),
    iprop(recs m κ ∗ St m (x :: l) c) ⊢ iprop((St m l c -∗ wpC c k Q) -∗ wpC c (.op (eff c x) fun _ => k) Q)
  | .copy w, h => step_copy m κ l c k Q w h
  | .send w i, h => step_send m κ l c k Q w i h
  | .recv w i, h => step_recv m κ l c k Q w i h
  | .sent w i, h => step_sent m κ l c k Q w i h
  | .copied w, h => step_copied m κ l c k Q w h

end Step

/-- A whole list of operations, run one after the other. -/
theorem run_list (c : Dev nD) (Q : PUnit → sProp 𝕄) : ∀ (l : List Op) (_ : okAll l = true),
    iprop(recs m κ ∗ St m l c) ⊢ iprop((St m [] c -∗ Q ⟨⟩) -∗ wpC c (prog c l) Q)
  | [], _ => by
    show _ ⊢ iprop((St m [] c -∗ Q ⟨⟩) -∗ wp frame (wpE (defs₀ (F := F)) 𝒱₀ (c : Thread nD τ) none) Set.univ (.ret ⟨⟩) Q)
    rw [wp_ret]
    iintro ⟨-, HS⟩ Hk
    imodintro
    iapply Hk
    iexact HS
  | x :: l, h => by
    obtain ⟨h₁, h₂⟩ := Bool.and_eq_true_iff.mp h
    show _ ⊢ iprop((St m [] c -∗ Q ⟨⟩) -∗ wpC c (.op (eff c x) fun _ => prog c l) Q)
    iintro ⟨#Hrec, HS⟩ Hk
    iapply (step m κ l c (prog c l) Q x h₁) $$ [HS]
    · isplitr; · iexact Hrec
      iexact HS
    iintro HS
    iapply (run_list c Q l h₂) $$ [HS]
    · isplitr; · iexact Hrec
      iexact HS
    iexact Hk

end Cert.KernelIdeal.Gather

end
-- ==== Proof.Deal.lean ====
/- What is dealt to the devices, and what they give back.

   The arrays come as whole buffers and go to the devices slot by slot: device `c` starts with its own slot of its own
   outputs and, in each peer's outputs, the slot its copy to that peer fills (`swap`).  A receive cell's token goes to
   the peer that credits it, its credit to its device (`creds`).  At the end a device has every slot of its outputs,
   filled, and every share of its inputs (`rest_end`), and its semaphores are at zero (`close`). -/
module

public import proofs.«01_k».proof.Proof.Steps

@[expose] public section

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F]

local notation "𝕄" => MT nD τ sig Unit (Elt F) ℕ UU ℕ

variable (m : (ℓ : Loc nD τ sig) → Buf (Elt F) ℓ)

/-! ## Sums over the cells -/

omit [FloatOps F] in
theorem sum3 (Φ : Fin 3 → sProp 𝕄) : bigSep Finset.univ Φ = iprop(Φ 0 ∗ Φ 1 ∗ Φ 2) :=
  bigSep_univ_eq_bigSepL [0, 1, 2] (by decide) (by decide) Φ

omit [FloatOps F] in
theorem sum7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] in
theorem sumUnit (Φ : Unit → sProp 𝕄) : bigSep Finset.univ Φ = Φ () :=
  bigSep_univ_eq_bigSepL [()] (by decide) (by decide) Φ

omit [FloatOps F] in
/-- A device's cells are its send cells, its receive cells and the local copies'. -/
theorem sumJ (Φ : J → sProp 𝕄) : bigSep Finset.univ Φ
    = iprop((bigSep Finset.univ fun p : Fin 3 × Fin 7 => Φ (jS p.1 p.2)) ∗ (bigSep Finset.univ fun p : Fin 3 × Fin 7 => Φ (jR p.1 p.2))
      ∗ bigSep Finset.univ fun w : Fin 3 => Φ (jC w)) := by
  rw [bigSep_univ_prod, bigSep_univ_prod (fun p : Fin 3 × Fin 7 => Φ (jS p.1 p.2)), bigSep_univ_prod (fun p : Fin 3 × Fin 7 => Φ (jR p.1 p.2)),
    ← bigSep_sep', ← bigSep_sep']
  refine bigSep_congr fun w _ => ?_
  rw [bigSep_univ_sum, bigSep_univ_sum, sumUnit]
  rfl

/-- Each copy's peers, paired. -/
def peer : Dev nD × (Fin 3 × Fin 7) ≃ Dev nD × (Fin 3 × Fin 7) where
  toFun x := (pr x.2.2 x.1, x.2)
  invFun x := (pr x.2.2 x.1, x.2)
  left_inv x := Prod.ext (pr_pr _ _) rfl
  right_inv x := Prod.ext (pr_pr _ _) rfl

omit [FloatOps F] in
/-- What is at each device for each copy, dealt to that copy's peer. -/
theorem swap (Φ : Dev nD → Fin 3 × Fin 7 → sProp 𝕄) :
    (bigSep Finset.univ fun c => bigSep Finset.univ fun p => Φ c p) = bigSep Finset.univ fun c => bigSep Finset.univ fun p => Φ (pr p.2 c) p := by
  rw [← bigSep_univ_prod (fun x : Dev nD × (Fin 3 × Fin 7) => Φ x.1 x.2), bigSep_univ_equiv peer, bigSep_univ_prod]
  rfl

/-! ## The arrays -/

/-- Device `c`'s output `w`, whole, holding `f`. -/
def outP (c : Dev nD) (w : Fin 3) (f : Buf (Elt F) ((outM w).view.loc (c : Thread nD τ))) : sProp 𝕄 :=
  (outM w).view.loc (c : Thread nD τ) ↦{fullShare} f

theorem slots_of : ∀ c : Fin 8, (Finset.univ : Finset (Fin 8)) = insert c (Finset.univ.image fun k : Fin 7 => rl k c) := by decide
theorem own_notMem : ∀ c : Fin 8, c ∉ Finset.univ.image fun k : Fin 7 => rl k c := by decide
theorem rl_inj : ∀ (c : Fin 8) (k k' : Fin 7), rl k c = rl k' c → k = k' := by decide

omit [FloatOps F] in
/-- An output's slots: the own one and the one of each copy to be received. -/
theorem out_split (c : Dev nD) (w : Fin 3) (f : Buf (Elt F) ((outM w).view.loc (c : Thread nD τ))) : (outP c w f : sProp 𝕄)
    = iprop(slotP c w c f ∗ bigSep Finset.univ fun k : Fin 7 => slotP c w (rl k c) f) := by
  have hb := pointsTo_biUnion (Ix := Unit) (Name := ℕ) (U := UU) (Lvl := ℕ) (Val := Elt F) (ℓ := (outM w).view.loc (c : Thread nD τ)) (q := fullShare) (f := f)
    Finset.univ (slotSet w) (fun s _ t _ h => slot_disjoint w s t h)
  have h : (outP c w f : sProp 𝕄) = bigSep Finset.univ fun s : Fin 8 => slotP c w s f := by
    refine Eq.trans (congrArg (fun S => ((outM w).view.loc (c : Thread nD τ) ↦[S]{fullShare} f : sProp 𝕄)) ?_) hb
    refine (Finset.eq_univ_of_forall fun i => ?_).symm
    obtain ⟨s, -, hs⟩ := Finset.mem_biUnion.mp (slot_cover w ▸ Finset.mem_univ i)
    exact Finset.mem_biUnion.mpr ⟨s, Finset.mem_univ s, hs⟩
  refine h.trans ((congrArg (fun S => bigSep S fun s : Fin 8 => slotP c w s f) (slots_of c)).trans ?_)
  refine (bigSep_insert (own_notMem c)).trans ?_
  exact congrArg (fun X => iprop(slotP c w c f ∗ X)) (bigSep_image_of_injOn (fun k _ k' _ h => rl_inj c k k' h) _)

omit [FloatOps F] in
/-- An input's shares: the local copy's and those of the copies of the own shard. -/
theorem in_deal (c : Dev nD) (w : Fin 3) : (inP m c w fullShare : sProp 𝕄)
    = iprop((bigSep Finset.univ fun k : Fin 7 => if k.val < 4 then inP m c w (qk k) else iprop(emp)) ∗ inP m c w (qs 4)) := by
  have h₁ : iprop((inP m c w (qs 0) ∗ inP m c w (qs 1)) ∗ (inP m c w (qs 2) ∗ (inP m c w (qs 3) ∗ inP m c w (qs 4))))
      ⊢ iprop((inP m c w (qs 0) ∗ inP m c w (qs 1) ∗ inP m c w (qs 2) ∗ inP m c w (qs 3) ∗ emp ∗ emp ∗ emp) ∗ inP m c w (qs 4)) := by
    iintro ⟨⟨H0, H1⟩, H2, H3, H4⟩
    isplitr [H4]; swap; · iexact H4
    isplitl [H0]; · iexact H0
    isplitl [H1]; · iexact H1
    isplitl [H2]; · iexact H2
    isplitl [H3]; · iexact H3
    isplitl []; · iempintro
    isplitl <;> iempintro
  have h₂ : iprop((inP m c w (qs 0) ∗ inP m c w (qs 1) ∗ inP m c w (qs 2) ∗ inP m c w (qs 3) ∗ emp ∗ emp ∗ emp) ∗ inP m c w (qs 4))
      ⊢ iprop((inP m c w (qs 0) ∗ inP m c w (qs 1)) ∗ (inP m c w (qs 2) ∗ (inP m c w (qs 3) ∗ inP m c w (qs 4)))) := by
    iintro ⟨⟨H0, H1, H2, H3, -⟩, H4⟩
    isplitl [H0 H1]
    · isplitl [H0]; · iexact H0
      iexact H1
    isplitl [H2]; · iexact H2
    isplitl [H3]; · iexact H3
    iexact H4
  rw [in_split, sum7]
  exact BI.Entails.antisymm h₁ h₂

/-! ## The credit -/

/-- What each device owes when it starts. -/
def O₀ (c : Dev nD) : CellTallies nD τ sig Unit := owedL c ops

/-- What the operations `l` of device `d` owe a receive cell. -/
theorem owedL_recv (d c : Dev nD) (w : Fin 3) (k : Fin 7) : ∀ l : List Op,
    owedL d l (cell c (jR w k)) () = if d = pr k c then l.count (.send w k) * N else 0
  | [] => by split <;> simp [owedL]
  | .send w' k' :: l => by
    unfold owedL
    rw [Pi.add_apply, Finsupp.add_apply, owedL_recv d c w k l, tallyAt_apply]
    by_cases h : w' = w ∧ k' = k
    · obtain ⟨rfl, rfl⟩ := h
      by_cases hd : d = pr k' c
      · subst hd
        rw [if_pos rfl, if_pos rfl, if_pos ⟨by rw [pr_pr], rfl⟩, List.count_cons_self, Nat.succ_mul]
      · rw [if_neg hd, if_neg hd, if_neg fun h => hd (by rw [(cell_inj h.1).1, pr_pr])]
    · have e : (Op.send w' k' == .send w k) = false := by
        refine beq_false_of_ne fun h' => h ?_
        exact Op.send.inj h'
      have hn : ¬(cell c (jR w k) = cell (pr k' d) (w', .inr (.inl k')) ∧ () = ()) := fun h' => by
        have ej : jR w k = (w', .inr (.inl k')) := (cell_inj h'.1).2
        have h1 : w = w' := congrArg Prod.fst ej
        have h2 : k = k' := Sum.inl.inj (Sum.inr.inj (congrArg Prod.snd ej))
        exact h ⟨h1.symm, h2.symm⟩
      rw [if_neg hn, Nat.add_zero, List.count_cons, e]
      rfl
  | .copy _ :: l => (owedL_recv d c w k l).trans (by rw [List.count_cons_of_ne (by simp)])
  | .recv _ _ :: l => (owedL_recv d c w k l).trans (by rw [List.count_cons_of_ne (by simp)])
  | .sent _ _ :: l => (owedL_recv d c w k l).trans (by rw [List.count_cons_of_ne (by simp)])
  | .copied _ :: l => (owedL_recv d c w k l).trans (by rw [List.count_cons_of_ne (by simp)])

theorem count_ops : ∀ (w : Fin 3) (k : Fin 7), ops.count (.send w k) = 1 := by decide

theorem launch_recv (c : Dev nD) (w : Fin 3) (k : Fin 7) :
    tallyOn (cell c (jR w k)) (launchCredit (Pipeline.owing O₀) 0 (cell c (jR w k))) = (tallyAt (cell c (jR w k)) () N : CellTallies nD τ sig Unit) := by
  unfold tallyAt
  refine congrArg _ (Finsupp.ext fun u => ?_)
  cases u
  rw [Pipeline.launchCredit_owing, Finsupp.single_eq_same]
  refine (Finset.sum_congr rfl fun d _ => owedL_recv d c w k ops).trans ?_
  rw [Finset.sum_ite_eq' Finset.univ (pr k c) fun _ => _, if_pos (Finset.mem_univ _), count_ops, Nat.one_mul]

def recvE : Fin 3 × Fin 7 ↪ SemLoc sig :=
  ⟨fun p => .dma (semJ (jR p.1 p.2)), fun p q h => by
    have e : jR p.1 p.2 = jR q.1 q.2 := semJ_inj (SemLoc.dma.inj h)
    exact Prod.ext (Prod.mk.inj e).1 (Sum.inl.inj (Sum.inr.inj (Prod.mk.inj e).2))⟩

omit [FloatOps F] in
/-- The credit of each receive cell. -/
theorem creds (c : Dev nD) : (Pipeline.launchCred O₀ c : sProp 𝕄)
    ⊢ bigSep Finset.univ fun p : Fin 3 × Fin 7 => cred (tallyAt (cell c (jR p.1 p.2)) () N) := by
  unfold Pipeline.launchCred
  refine (bigSep_subset (Finset.subset_univ (Finset.univ.map recvE))).trans ?_
  rw [bigSep_map]
  exact bigSep_mono fun p _ => Entails.of_eq (congrArg cred (launch_recv c p.1 p.2))

/-! ## The start -/

/-- A slot, holding anything. -/
def anyP (c : Dev nD) (w : Fin 3) (s : Fin 8) : sProp 𝕄 := iprop(∃ f, slotP c w s f)

omit [FloatOps F] in
theorem any_of (c : Dev nD) (w : Fin 3) (s : Fin 8) (f : Buf (Elt F) ((slot w s).view.loc (c : Thread nD τ))) : (slotP c w s f : sProp 𝕄) ⊢ anyP c w s := by
  unfold anyP
  iintro H
  iexists f
  iexact H

omit [FloatOps F] in
/-- A device's outputs, slot by slot. -/
theorem outs_slots (c : Dev nD) : (bigSep Finset.univ fun w : Fin 3 => outP c w (m ((outM w).view.loc (c : Thread nD τ))) : sProp 𝕄)
    ⊢ iprop((bigSep Finset.univ fun w : Fin 3 => anyP c w c) ∗ bigSep Finset.univ fun p : Fin 3 × Fin 7 => anyP c p.1 (rl p.2 c)) := by
  rw [bigSep_univ_prod (fun p : Fin 3 × Fin 7 => (anyP c p.1 (rl p.2 c) : sProp 𝕄)), ← bigSep_sep']
  refine bigSep_mono fun w _ => ?_
  rw [out_split]
  exact BI.sep_mono (any_of c w c _) (bigSep_mono fun k _ => any_of c w (rl k c) _)

omit [FloatOps F] in
/-- Every device's outputs, dealt: to each its own slots and the slots its copies fill. -/
theorem outs_deal : (bigSep Finset.univ fun c : Dev nD => bigSep Finset.univ fun w : Fin 3 => outP c w (m ((outM w).view.loc (c : Thread nD τ))) : sProp 𝕄)
    ⊢ iprop((bigSep Finset.univ fun c : Dev nD => bigSep Finset.univ fun w : Fin 3 => anyP c w c)
      ∗ bigSep Finset.univ fun c : Dev nD => bigSep Finset.univ fun p : Fin 3 × Fin 7 => anyP (pr p.2 c) p.1 (sl p.2 c)) := by
  refine (bigSep_mono fun c _ => outs_slots m c).trans ?_
  rw [bigSep_sep', swap fun c p => anyP c p.1 (rl p.2 c)]
  have e : (fun c : Dev nD => bigSep Finset.univ fun p : Fin 3 × Fin 7 => (anyP (pr p.2 c) p.1 (rl p.2 (pr p.2 c)) : sProp 𝕄))
      = fun c => bigSep Finset.univ fun p : Fin 3 × Fin 7 => anyP (pr p.2 c) p.1 (sl p.2 c) := by
    funext c
    exact bigSep_congr fun p _ => by rw [rl_pr]
  rw [e]
  exact BI.Entails.refl _

omit [FloatOps F] in
/-- Every device's inputs, dealt share by share. -/
theorem ins_deal (c : Dev nD) : (bigSep Finset.univ fun w : Fin 3 => inP m c w fullShare : sProp 𝕄)
    ⊢ iprop((bigSep Finset.univ fun p : Fin 3 × Fin 7 => if p.2.val < 4 then inP m c p.1 (qk p.2) else iprop(emp)) ∗ bigSep Finset.univ fun w : Fin 3 => inP m c w (qs 4)) := by
  rw [bigSep_univ_prod (fun p : Fin 3 × Fin 7 => (if p.2.val < 4 then inP m c p.1 (qk p.2) else iprop(emp) : sProp 𝕄)), ← bigSep_sep']
  exact bigSep_mono fun w _ => Entails.of_eq (in_deal m c w)

theorem send_mem : ∀ (w : Fin 3) (k : Fin 7), .send w k ∈ ops := by decide
theorem recv_mem : ∀ (w : Fin 3) (k : Fin 7), .recv w k ∈ ops := by decide
theorem copy_mem : ∀ w : Fin 3, .copy w ∈ ops := by decide

/-- A cell's token. -/
abbrev tok (c : Dev nD) (j : J) : sProp 𝕄 := dutyTok ER (cell c j) 0 ()
/-- A cell's owner's position, at the start. -/
abbrev at0 (c : Dev nD) (j : J) : sProp 𝕄 := atPos ER (cell c j) 0 ∅ 0

/-- What device `c`'s copies start with. -/
def held (c : Dev nD) : sProp 𝕄 := iprop(sends m ops c ∗ recvs m ops c ∗ copies m ops c)

theorem held_intro (c : Dev nD) :
    iprop((bigSep Finset.univ fun p : Fin 3 × Fin 7 => anyP (pr p.2 c) p.1 (sl p.2 c)) ∗ (bigSep Finset.univ fun w : Fin 3 => anyP c w c)
      ∗ (bigSep Finset.univ fun p : Fin 3 × Fin 7 => tok c (jS p.1 p.2)) ∗ (bigSep Finset.univ fun p : Fin 3 × Fin 7 => tok (pr p.2 c) (jR p.1 p.2))
      ∗ (bigSep Finset.univ fun w : Fin 3 => tok c (jC w)) ∗ (bigSep Finset.univ fun j => at0 c j)
      ∗ (bigSep Finset.univ fun w : Fin 3 => inP m c w fullShare) ∗ Pipeline.launchCred O₀ c) ⊢ held m c := by
  have hS : sends m ops c = (bigSep Finset.univ fun p : Fin 3 × Fin 7 => iprop(anyP (pr p.2 c) p.1 (sl p.2 c) ∗ tok c (jS p.1 p.2) ∗ tok (pr p.2 c) (jR p.1 p.2)
      ∗ at0 c (jS p.1 p.2) ∗ (if p.2.val < 4 then inP m c p.1 (qk p.2) else iprop(emp)))) :=
    bigSep_congr fun p _ => sendR_start m (send_mem p.1 p.2)
  have hR : recvs m ops c = (bigSep Finset.univ fun p : Fin 3 × Fin 7 => iprop(cred (tallyAt (cell c (jR p.1 p.2)) () N) ∗ at0 c (jR p.1 p.2))) :=
    bigSep_congr fun p _ => recvR_due m (recv_mem p.1 p.2)
  have hC : copies m ops c = (bigSep Finset.univ fun w : Fin 3 => iprop(anyP c w c ∗ inP m c w (qs 4) ∗ tok c (jC w) ∗ at0 c (jC w))) :=
    bigSep_congr fun w _ => copyR_start m (copy_mem w)
  unfold held
  rw [hS, hR, hC, sumJ]
  simp only [bigSep_sep']
  iintro ⟨Hpeer, Hown, HtS, HtR, HtC, ⟨HaS, HaR, HaC⟩, Hin, Hcr⟩
  ihave ⟨Hin, Hin'⟩ := (ins_deal m c) $$ Hin
  ihave Hcr := (creds c) $$ Hcr
  isplitl [Hpeer HtS HtR HaS Hin]
  · isplitl [Hpeer]; · iexact Hpeer
    isplitl [HtS]; · iexact HtS
    isplitl [HtR]; · iexact HtR
    isplitl [HaS]; · iexact HaS
    iexact Hin
  isplitl [Hcr HaR]
  · isplitl [Hcr]; · iexact Hcr
    iexact HaR
  isplitl [Hown]; · iexact Hown
  isplitl [Hin']; · iexact Hin'
  isplitl [HtC]; · iexact HtC
  iexact HaC

/-- Everything there is at the start, dealt to the devices. -/
theorem deal :
    iprop((bigSep Finset.univ fun c : Dev nD => bigSep Finset.univ fun w : Fin 3 => outP c w (m ((outM w).view.loc (c : Thread nD τ))))
      ∗ (bigSep Finset.univ fun c : Dev nD => bigSep Finset.univ fun w : Fin 3 => inP m c w fullShare)
      ∗ (bigSep Finset.univ fun c : Dev nD => bigSep Finset.univ fun j => tok c j)
      ∗ (bigSep Finset.univ fun c : Dev nD => bigSep Finset.univ fun j => at0 c j)
      ∗ (bigSep Finset.univ fun c : Dev nD => Pipeline.launchCred O₀ c)) ⊢ bigSep Finset.univ fun c : Dev nD => held m c := by
  have hT : (bigSep Finset.univ fun c : Dev nD => bigSep Finset.univ fun j => (tok c j : sProp 𝕄))
      = iprop((bigSep Finset.univ fun c : Dev nD => bigSep Finset.univ fun p : Fin 3 × Fin 7 => tok c (jS p.1 p.2))
        ∗ (bigSep Finset.univ fun c : Dev nD => bigSep Finset.univ fun p : Fin 3 × Fin 7 => tok (pr p.2 c) (jR p.1 p.2))
        ∗ (bigSep Finset.univ fun c : Dev nD => bigSep Finset.univ fun w : Fin 3 => tok c (jC w))) := by
    rw [← swap fun c p => tok c (jR p.1 p.2), ← bigSep_sep', ← bigSep_sep']
    exact bigSep_congr fun c _ => sumJ _
  rw [hT]
  have hall := bigSep_mono (s := Finset.univ) fun (c : Dev nD) _ => held_intro m c
  simp only [bigSep_sep'] at hall
  iintro ⟨Hout, Hin, ⟨HtS, HtR, HtC⟩, Hat, Hcr⟩
  ihave ⟨Hown, Hpeer⟩ := (outs_deal m) $$ Hout
  iapply (show iprop(_ ∗ _) ⊢ (bigSep Finset.univ fun c : Dev nD => held m c) from hall)
  isplitl [Hpeer]; · iexact Hpeer
  isplitl [Hown]; · iexact Hown
  isplitl [HtS]; · iexact HtS
  isplitl [HtR]; · iexact HtR
  isplitl [HtC]; · iexact HtC
  isplitl [Hat]; · iexact Hat
  isplitl [Hin]; · iexact Hin
  iexact Hcr

/-! ## The end -/

/-- A cell's owner's position after the wait. -/
abbrev at1 (c : Dev nD) (j : J) : sProp 𝕄 := atPos ER (cell c j) 1 ∅ 0

/-- What the sends, the receives and the local copy of one array leave: its input and its output, whole. -/
theorem whole_again (c : Dev nD) (w : Fin 3) :
    iprop((bigSep Finset.univ fun k : Fin 7 => payJ m c (jS w k))
      ∗ (bigSep Finset.univ fun k : Fin 7 => if k ∈ [1, 2, 3] then iprop(emp) else payJ m c (jR w k)) ∗ payJ m c (jC w))
      ⊢ iprop(inP m c w fullShare ∗ outP c w (gathered m w c)) := by
  have e : (outP c w (gathered m w c) : sProp 𝕄) = iprop(fullP m c w c ∗ bigSep Finset.univ fun k : Fin 7 => fullP m c w (rl k c)) :=
    out_split c w (gathered m w c)
  have s4 : rl 1 c = sl 4 c := rl_back 4 c (by decide)
  have s5 : rl 2 c = sl 5 c := rl_back 5 c (by decide)
  have s6 : rl 3 c = sl 6 c := rl_back 6 c (by decide)
  rw [e, in_deal, sum7, sum7, sum7, sum7, s4, s5, s6]
  show iprop((inP m c w (qk 0) ∗ inP m c w (qk 1) ∗ inP m c w (qk 2) ∗ inP m c w (qk 3) ∗ fullP m c w (sl 4 c) ∗ fullP m c w (sl 5 c) ∗ fullP m c w (sl 6 c))
      ∗ (fullP m c w (rl 0 c) ∗ emp ∗ emp ∗ emp ∗ fullP m c w (rl 4 c) ∗ fullP m c w (rl 5 c) ∗ fullP m c w (rl 6 c)) ∗ fullP m c w c ∗ inP m c w (qs 4))
    ⊢ iprop(((inP m c w (qk 0) ∗ inP m c w (qk 1) ∗ inP m c w (qk 2) ∗ inP m c w (qk 3) ∗ emp ∗ emp ∗ emp) ∗ inP m c w (qs 4))
      ∗ fullP m c w c ∗ fullP m c w (rl 0 c) ∗ fullP m c w (sl 4 c) ∗ fullP m c w (sl 5 c) ∗ fullP m c w (sl 6 c)
        ∗ fullP m c w (rl 4 c) ∗ fullP m c w (rl 5 c) ∗ fullP m c w (rl 6 c))
  iintro ⟨⟨H0, H1, H2, H3, S4, S5, S6⟩, ⟨R0, -, -, -, R4, R5, R6⟩, Hc, Hi⟩
  isplitl [H0 H1 H2 H3 Hi]
  · isplitr [Hi]; swap; · iexact Hi
    isplitl [H0]; · iexact H0
    isplitl [H1]; · iexact H1
    isplitl [H2]; · iexact H2
    isplitl [H3]; · iexact H3
    isplitl []; · iempintro
    isplitl <;> iempintro
  isplitl [Hc]; · iexact Hc
  isplitl [R0]; · iexact R0
  isplitl [S4]; · iexact S4
  isplitl [S5]; · iexact S5
  isplitl [S6]; · iexact S6
  isplitl [R4]; · iexact R4
  isplitl [R5]; · iexact R5
  iexact R6

theorem rest_end (c : Dev nD) : iprop(sends m [] c ∗ recvs m [] c ∗ copies m [] c)
    ⊢ iprop((bigSep Finset.univ fun w : Fin 3 => iprop(inP m c w fullShare ∗ outP c w (gathered m w c))) ∗ bigSep Finset.univ fun j => at1 c j) := by
  have hS : sends m [] c = (bigSep Finset.univ fun p : Fin 3 × Fin 7 => iprop(payJ m c (jS p.1 p.2) ∗ at1 c (jS p.1 p.2))) :=
    bigSep_congr fun p _ => sendR_done m (by simp) (by simp)
  have hR : recvs m [] c = (bigSep Finset.univ fun p : Fin 3 × Fin 7 =>
      iprop((if p.2 ∈ [1, 2, 3] then iprop(emp) else payJ m c (jR p.1 p.2)) ∗ at1 c (jR p.1 p.2))) :=
    bigSep_congr fun p _ => by unfold recvR; simp
  have hC : copies m [] c = (bigSep Finset.univ fun w : Fin 3 => iprop(payJ m c (jC w) ∗ at1 c (jC w))) :=
    bigSep_congr fun w _ => copyR_done m (by simp) (by simp)
  rw [hS, hR, hC, sumJ]
  simp only [bigSep_sep']
  iintro ⟨⟨HpS, HaS⟩, ⟨HpR, HaR⟩, HpC, HaC⟩
  isplitr [HaS HaR HaC]
  · have hw : iprop((bigSep Finset.univ fun w : Fin 3 => bigSep Finset.univ fun k : Fin 7 => payJ m c (jS w k))
        ∗ (bigSep Finset.univ fun w : Fin 3 => bigSep Finset.univ fun k : Fin 7 => if k ∈ [1, 2, 3] then iprop(emp) else payJ m c (jR w k))
        ∗ bigSep Finset.univ fun w : Fin 3 => payJ m c (jC w))
        ⊢ iprop((bigSep Finset.univ fun w : Fin 3 => inP m c w fullShare) ∗ bigSep Finset.univ fun w : Fin 3 => outP c w (gathered m w c)) := by
      rw [← bigSep_sep', ← bigSep_sep', ← bigSep_sep']
      exact bigSep_mono fun w _ => whole_again m c w
    iapply hw
    isplitl [HpS]
    · iapply (Entails.of_eq (bigSep_univ_prod fun p : Fin 3 × Fin 7 => payJ m c (jS p.1 p.2))); iexact HpS
    isplitl [HpR]
    · iapply (Entails.of_eq (bigSep_univ_prod fun p : Fin 3 × Fin 7 => (if p.2 ∈ [1, 2, 3] then iprop(emp) else payJ m c (jR p.1 p.2) : sProp 𝕄))); iexact HpR
    iexact HpC
  isplitl [HaS]; · iexact HaS
  isplitl [HaR]; · iexact HaR
  iexact HaC

variable (κ : Dev nD × J → ℕ)

/-- A device's semaphores, back at zero. -/
theorem close (c : Dev nD) : iprop(cells m κ ∗ bigSep Finset.univ fun j => at1 c j) ⊢ |={Set.univ}=> bigSep Finset.univ fun j => (semVal (cell c j) 0 : sProp 𝕄) := by
  refine BI.Entails.trans ?_ (bigSep_fupd Finset.univ fun j => (semVal (cell c j) 0 : sProp 𝕄))
  refine (sep_mono_left (BI.bigSep_of_persistent (Finset.univ : Finset J) (cells m κ))).trans ?_
  rw [← bigSep_sep']
  refine bigSep_mono fun j _ => ?_
  show iprop(cells m κ ∗ at1 c j) ⊢ iprop(|={Set.univ}=> semVal (cell c j) 0)
  iintro ⟨#Hcs, Hat⟩
  ihave ⟨#HI, -⟩ := (cells_at m κ c j) $$ Hcs
  iapply (Rounds.cell_close ER (rd m) (Set.mem_univ (κ (c, j))) (fun h => h) (R := 0 + 1) fun r h => duties_later m (cell c j) r h)
  isplitr; · iexact HI
  iexact Hat

end Cert.KernelIdeal.Gather

end
-- ==== Proof.Body.lean ====
/- The body's obligation: from what a device is dealt (`held`) the whole list of operations runs (`run_list`) and leaves
   the device's inputs unchanged, its outputs gathered and its semaphores at zero. -/
module

public import proofs.«01_k».proof.Proof.Deal
public import proofs.«01_k».proof.Proof.Gen.KernelIdeal.Launch
public import Idealize.ShloMosaic.Lib.Pipeline.Launch

@[expose] public section

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)
open Cert.KernelIdeal Facts₀ Facts

variable {F : FTy → Type} [FloatOps F]

local notation "𝕄" => MT nD τ sig Unit (Elt F) ℕ UU ℕ

variable (m : (ℓ : Loc nD τ sig) → Buf (Elt F) ℓ)

/-- The arrays at the end: the inputs as they were, the outputs gathered. -/
def arraysEnd (c : Dev nD) : sProp 𝕄 := bigSep Finset.univ fun w : Fin 3 => iprop(inP m c w fullShare ∗ outP c w (gathered m w c))

/-- The semaphores at zero. -/
def zeros (c : Dev nD) : sProp 𝕄 := bigSep Finset.univ fun j : J => semVal (cell c j) 0

/-- What the body starts from, and what it ends with. -/
def Φ₀ (c : Dev nD) : sProp 𝕄 := iprop(∃ κ, recs m κ ∗ held m c)
def Φ₁ (c : Dev nD) : sProp 𝕄 := iprop(arraysEnd m c ∗ zeros c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- An update after the run. -/
theorem wpC_fupd (c : Dev nD) (p : Prog (TpuEff nD τ sig (Elt F) Λ₀ .tc) PUnit) (Q : PUnit → sProp 𝕄) :
    wpC c p (fun r => iprop(|={Set.univ}=> Q r)) ⊢ wpC c p Q :=
  wp_fupd frame (wpE (defs₀ (F := F)) 𝒱₀ (c : Thread nD τ) none) Set.univ p Q

theorem wpC_post (c : Dev nD) (p : Prog (TpuEff nD τ sig (Elt F) Λ₀ .tc) PUnit) {Q Q' : PUnit → sProp 𝕄} (h : ∀ r, Q r ⊢ Q' r) :
    wpC c p Q ⊢ wpC c p Q' :=
  wp_mono frame (wpE (defs₀ (F := F)) 𝒱₀ (c : Thread nD τ) none) Set.univ h

/-- What is left of the debts. -/
def owesNone (c : Dev nD) : sProp 𝕄 := iprop(∃ W, owes (c : Thread nD τ) (0 : CellTallies nD τ sig Unit) W)

/-- After the run: the cells closed. -/
theorem closed (κ : Dev nD × J → ℕ) (c : Dev nD) : iprop(recs m κ ∗ St m [] c) ⊢ |={Set.univ}=> iprop(Φ₁ m c ∗ owesNone c) := by
  unfold St recs owesP owesNone
  iintro ⟨⟨#Hcs, -⟩, HO, Hrest⟩
  ihave ⟨Ha, Hat⟩ := (rest_end m c) $$ Hrest
  imod (close m κ c) $$ [Hat] with Hz
  · isplitr; · iexact Hcs
    iexact Hat
  imodintro
  isplitr [HO]
  · unfold Φ₁ arraysEnd zeros
    isplitl [Ha]; · iexact Ha
    iexact Hz
  · iexact HO

theorem run_closed (κ : Dev nD × J → ℕ) (c : Dev nD) (l : List Op) (h : okAll l = true) :
    iprop(recs m κ ∗ St m l c) ⊢ wpC c (prog c l) fun _ => iprop(Φ₁ m c ∗ owesNone c) := by
  iintro ⟨#Hrec, HS⟩
  iapply (wpC_fupd c (prog c l) fun _ => iprop(Φ₁ m c ∗ owesNone c))
  iapply (run_list m κ c (fun _ => iprop(|={Set.univ}=> iprop(Φ₁ m c ∗ owesNone c))) l h) $$ [HS]
  · isplitr; · iexact Hrec
    iexact HS
  iintro HS
  iapply (closed m κ c)
  isplitr; · iexact Hrec
  iexact HS

theorem start_state (c : Dev nD) : iprop(Φ₀ m c ∗ owesP ops c) ⊢ iprop(∃ κ, recs m κ ∗ St m ops c) := by
  unfold Φ₀ held St
  iintro ⟨⟨%κ, #Hrec, HS, HR, HC⟩, HO⟩
  iexists κ
  isplitr; · iexact Hrec
  isplitl [HO]; · iexact HO
  isplitl [HS]; · iexact HS
  isplitl [HR] <;> iassumption

/-- The operations run, the cells closed. -/
theorem body_runs (c : Dev nD) : iprop(Φ₀ m c ∗ owesP ops c) ⊢ wpC c (prog c ops) fun _ => iprop(Φ₁ m c ∗ owesNone c) :=
  (start_state m c).trans (sProp.exists_elim fun κ => run_closed m κ c ops ok_ops)

set_option maxRecDepth 4000 in
/-- The body obligation on device `c`. -/
theorem body_obligation (c : Dev nD) : BodyObligationLoose (dats (F := F) m 0 c) (defs₀ (F := F)) 𝒱₀ () Set.univ := fun t => by
  rw [Gen.fin_N0 t]
  have hstart : (dats (F := F) m 0 c).owesAt () (Gen.t0_0 : Fin cfg0.N).castSucc ⊢ owesP ops c := by
    unfold Dat.owesAt Pipeline.owesWithin owesP
    iintro ⟨%W, -, H⟩
    iexists W
    iexact H
  have hend (r : PUnit) : iprop(Φ₁ m c ∗ owesNone c) ⊢ iprop(Φ₁ m c ∗ (dats (F := F) m 0 c).owesAt () (Gen.t0_0 : Fin cfg0.N).succ ∗ emp) := by
    unfold Dat.owesAt Pipeline.owesWithin owesNone
    iintro ⟨H1, ⟨%W, H⟩⟩
    isplitl [H1]; · iexact H1
    isplitl [H]
    · iexists W
      isplitr; · ipureintro; exact fun _ _ => Or.inl trivial
      iexact H
    · iempintro
  have hin : iprop(Φ₀ m c ∗ (dats (F := F) m 0 c).owesAt () (Gen.t0_0 : Fin cfg0.N).castSucc ∗ emp) ⊢ iprop(Φ₀ m c ∗ owesP ops c) := by
    iintro ⟨H0, HO, -⟩
    isplitl [H0]; · iexact H0
    iapply hstart; iexact HO
  have hz (Ψ : Fin cfg0.W → sProp 𝕄) : bigSep Finset.univ Ψ = BI.emp := by
    rw [show (Finset.univ : Finset (Fin cfg0.W)) = ∅ from Finset.univ_eq_empty (α := Fin 0), BI.bigSep_empty]
  rw [hz, hz]
  have hb : defs₀ (F := F) .tc cfg0.body (cfg0.bodyArgs Gen.t0_0 (cfg0.slots Gen.t0_0)) = Gen.bodyAt0 (F := F) Gen.t0_0 := rfl
  have hrun := hin.trans ((body_runs m c).trans (wpC_post c (prog c ops) hend))
  rw [hb, body_eq, wp_deviceId]
  revert hrun
  generalize ops = l
  exact fun h => h

end Cert.KernelIdeal.Gather

end
-- ==== Proof.Start.lean ====
/- The launch's own steps: the arrays taken as inputs and outputs, the cells allocated for every device at once, the
   levels assigned, and all of it dealt (`deal`). -/
module

public import proofs.«01_k».proof.Proof.Body

@[expose] public section

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F]

local notation "𝕄" => MT nD τ sig Unit (Elt F) ℕ UU ℕ

variable (m : (ℓ : Loc nD τ sig) → Buf (Elt F) ℓ)

/-! ## The arrays -/

omit [FloatOps F] in
theorem outs_first (A B C V : sProp 𝕄) : iprop(A ∗ B ∗ C ∗ V) ⊢ iprop(V ∗ A ∗ B ∗ C) := by
  iintro ⟨A0, A1, A2, V⟩
  isplitl [V]; · iexact V
  isplitl [A0]; · iexact A0
  isplitl [A1] <;> iassumption

omit [FloatOps F] in
theorem in_whole (c : Dev nD) (w : Fin 3) : (inP m c w fullShare : sProp 𝕄) = ((inM w).view.loc (c : Thread nD τ) ↦{fullShare} m ((inM w).view.loc (c : Thread nD τ))) := by
  unfold inP
  fin_cases w <;> exact congrArg (fun S => _ ↦[S]{fullShare} _) (View.set_whole _)

omit [FloatOps F] in
/-- A device's unscoped arrays are its three inputs and its three outputs. -/
theorem arrays_start (c : Dev nD) : (unscopedBufs c (fun b => m ((c : Thread nD τ).loc b)) : sProp 𝕄)
    ⊢ iprop((bigSep Finset.univ fun w : Fin 3 => outP c w (m ((outM w).view.loc (c : Thread nD τ))))
        ∗ bigSep Finset.univ fun w : Fin 3 => inP m c w fullShare) := by
  unfold unscopedBufs
  rw [bigSep_eq_bigSepL_of_eq [main_arg0, main_arg1, main_arg2, main_v1_0, main_v1_1, main_v1_2] (by decide) (by decide), sum3, sum3,
    in_whole, in_whole, in_whole]
  exact outs_first _ _ _ _

/-! ## The cells -/

theorem cellP_inj : Function.Injective fun p : Dev nD × J => cell p.1 p.2 := fun p q h => by
  obtain ⟨h₁, h₂⟩ := cell_inj h
  exact Prod.ext h₁ h₂

/-- Every cell of every device, and its one duty. -/
def allCells : Finset (GSem nD τ sig) := Finset.univ.map ⟨fun p : Dev nD × J => cell p.1 p.2, cellP_inj⟩
def allToks : Finset (GSem nD τ sig × ℕ × Unit) :=
  Finset.univ.map ⟨fun p : Dev nD × J => (cell p.1 p.2, 0, ()), fun _ _ h => cellP_inj (Prod.mk.inj h).1⟩

omit [FloatOps F] in
theorem sum_cells (Φ : GSem nD τ sig → sProp 𝕄) : bigSep allCells Φ = bigSep Finset.univ fun p : Dev nD × J => Φ (cell p.1 p.2) := by
  unfold allCells; rw [bigSep_map]; rfl

omit [FloatOps F] in
theorem sum_toks : (bigSep allToks fun x => (dutyTok ER x.1 x.2.1 x.2.2 : sProp 𝕄)) = bigSep Finset.univ fun p : Dev nD × J => tok p.1 p.2 := by
  unfold allToks; rw [bigSep_map]; rfl

/-- The cells of a set `S` allocated, with the tokens `T`. -/
theorem fund_at (S : Finset (GSem nD τ sig)) (T : Finset (GSem nD τ sig × ℕ × Unit)) :
    iprop((bigSep S fun g => semVal g 0) ∗ BI.own (ER (launchOf S ∅ T)))
      ⊢ |={Set.univ}=> iprop(∃ κ : GSem nD τ sig → ℕ, ((bigSep S fun g => cellInv ER (rd m) (κ g) g) ∗ bigSep S fun g => reached ER g 0)
        ∗ (bigSep T fun x => dutyTok ER x.1 x.2.1 x.2.2) ∗ bigSep S fun g => (atPos ER g 0 ∅ 0 : sProp 𝕄)) := by
  have h := Rounds.fund_launch (Es := Set.univ) ER (rd m) (S := S) (Sd := ∅) (Finset.disjoint_empty_right _) (fun g h => absurd h (Finset.notMem_empty g)) T
  rw [Finset.union_empty] at h
  iintro H
  imod h $$ H with ⟨%κ, -, HI, HR, Hat, -, Htok⟩
  imodintro
  iexists κ
  isplitl [HI HR]
  · isplitl [HI] <;> iassumption
  isplitl [Htok] <;> iassumption

omit [FloatOps F] in
theorem zeros_cells : (bigSep Finset.univ fun c : Dev nD => (zeros c : sProp 𝕄)) = bigSep allCells fun g => semVal g 0 := by
  rw [sum_cells, bigSep_univ_prod (fun p : Dev nD × J => (semVal (cell p.1 p.2) 0 : sProp 𝕄))]
  rfl

/-- Every cell's invariant allocated, its position and its token handed out. -/
theorem fund_cells : iprop((bigSep Finset.univ fun c : Dev nD => zeros c) ∗ BI.own (ER (launchOf allCells ∅ allToks)))
    ⊢ |={Set.univ}=> iprop(∃ κ, cells m κ ∗ (bigSep Finset.univ fun c : Dev nD => bigSep Finset.univ fun j => tok c j)
        ∗ bigSep Finset.univ fun c : Dev nD => bigSep Finset.univ fun j => (at0 c j : sProp 𝕄)) := by
  rw [zeros_cells, ← bigSep_univ_prod (fun p : Dev nD × J => (tok p.1 p.2 : sProp 𝕄)), ← bigSep_univ_prod (fun p : Dev nD × J => (at0 p.1 p.2 : sProp 𝕄)),
    ← sum_toks, ← sum_cells fun g => (atPos ER g 0 ∅ 0 : sProp 𝕄)]
  have hcs (κ : GSem nD τ sig → ℕ) : iprop((bigSep allCells fun g => cellInv ER (rd m) (κ g) g) ∗ bigSep allCells fun g => (reached ER g 0 : sProp 𝕄))
      ⊢ cells m fun p => κ (cell p.1 p.2) := by
    rw [sum_cells, sum_cells, ← bigSep_sep']
    exact BI.Entails.refl _
  iintro H
  imod (fund_at m allCells allToks) $$ H with ⟨%κ, Hcs, Hrest⟩
  imodintro
  iexists (fun p : Dev nD × J => κ (cell p.1 p.2))
  isplitl [Hcs]
  · iapply (hcs κ); iexact Hcs
  iexact Hrest

/-! ## The levels -/

/-- A device's cells, no level assigned. -/
abbrev levelsNone (c : Dev nD) : sProp 𝕄 := levels0 (Ix := Unit) (Val := Elt F) (Name := ℕ) (U := UU) (Lvl := ℕ) (τ := τ) (sig := sig) c

omit [FloatOps F] in
theorem levels_assigned : (bigSep Finset.univ fun c : Dev nD => levelsNone (F := F) c) ⊢ (|==> levAts L lv : sProp 𝕄) := by
  have hone (c : Dev nD) : levelsNone (F := F) c
      ⊢ (|==> ((bigSep Finset.univ fun sm : SemLoc sig => levels ((c : Thread nD τ), sm) (L ((c : Thread nD τ), sm))) ∗ coreLevAts (c : Thread nD τ) L lv) : sProp 𝕄) :=
    lev_assign_cells (c : Thread nD τ) L lv
  refine BI.Entails.trans (bigSep_mono fun c _ => hone c) ((BI.bigSep_bupd _ _).trans (BI.bupd_mono ?_))
  have hother (d : Dev nD) (p : Proc τ) (h : p ≠ .tc) : (coreLevAts ((d, p) : Thread nD τ) L lv : sProp 𝕄) = BI.emp := by
    unfold coreLevAts
    rw [bigSep_congr (Ψ := fun _ : SemLoc sig => (BI.emp : sProp 𝕄)) fun sm _ => by rw [L_of_ne (((d, p) : Thread nD τ), sm) h, BI.bigSep_empty]]
    exact BI.bigSep_emp_const _
  have hrest : (bigSep Finset.univ fun d : Dev nD => bigSep (Finset.univ.erase Proc.tc) fun p => (coreLevAts ((d, p) : Thread nD τ) L lv : sProp 𝕄)) = BI.emp := by
    rw [bigSep_congr (Ψ := fun _ : Dev nD => (BI.emp : sProp 𝕄)) fun d _ =>
      (bigSep_congr (Ψ := fun _ : Proc τ => (BI.emp : sProp 𝕄)) fun p hp => hother d p (Finset.ne_of_mem_erase hp)).trans (BI.bigSep_emp_const _)]
    exact BI.bigSep_emp_const _
  have hall : (levAts L lv : sProp 𝕄) = iprop((bigSep Finset.univ fun d : Dev nD => coreLevAts (d : Thread nD τ) L lv) ∗ emp) :=
    (bigSep_univ_prod fun g : GSem nD τ sig => bigSep (L g) fun ι => levAt g ι (lv g ι)).trans
      ((bigSep_threads fun c : Thread nD τ => coreLevAts c L lv).trans (congrArg (fun X => iprop((bigSep Finset.univ fun d : Dev nD => coreLevAts (d : Thread nD τ) L lv) ∗ X)) hrest))
  have hlast (A B : sProp 𝕄) : iprop(A ∗ B) ⊢ iprop(B ∗ emp) := by
    iintro ⟨-, H⟩
    isplitl [H]; · iexact H
    iempintro
  rw [hall, bigSep_sep']
  exact hlast _ _

/-! ## The start of every device -/

theorem started (κ : Dev nD × J → ℕ) : iprop(recs m κ ∗ bigSep Finset.univ fun c : Dev nD => held m c) ⊢ bigSep Finset.univ fun c : Dev nD => Φ₀ m c := by
  refine (sep_mono_left (BI.bigSep_of_persistent (Finset.univ : Finset (Dev nD)) (recs m κ))).trans ?_
  rw [← bigSep_sep']
  refine bigSep_mono fun c _ => ?_
  unfold Φ₀
  show iprop(recs m κ ∗ held m c) ⊢ iprop(∃ κ, recs m κ ∗ held m c)
  iintro H
  iexists κ
  iexact H

/-- Every device ready to run. -/
theorem ready : iprop((bigSep Finset.univ fun c : Dev nD => unscopedBufs c (fun b => m ((c : Thread nD τ).loc b)))
      ∗ (bigSep Finset.univ fun c : Dev nD => zeros c) ∗ (bigSep Finset.univ fun c : Dev nD => levelsNone (F := F) c)
      ∗ (bigSep Finset.univ fun c : Dev nD => Pipeline.launchCred O₀ c) ∗ BI.own (ER (launchOf allCells ∅ allToks)))
    ⊢ |={Set.univ}=> bigSep Finset.univ fun c : Dev nD => (Φ₀ m c : sProp 𝕄) := by
  have harr := bigSep_mono (s := Finset.univ) fun (c : Dev nD) _ => arrays_start m c
  rw [bigSep_sep'] at harr
  iintro ⟨Hb, Hz, Hlv, Hcr, Hu⟩
  ihave ⟨Hout, Hin⟩ := (show _ ⊢ iprop(_ ∗ _) from harr) $$ Hb
  imod (levels_assigned (F := F)) $$ Hlv with Hla
  imod (fund_cells m) $$ [Hz Hu] with ⟨%κ, Hcs, Htok, Hat⟩
  · isplitl [Hz] <;> iassumption
  imodintro
  iapply (started m κ)
  isplitl [Hcs Hla]
  · unfold recs
    isplitl [Hcs] <;> iassumption
  iapply (deal m)
  isplitl [Hout]; · iexact Hout
  isplitl [Hin]; · iexact Hin
  isplitl [Htok]; · iexact Htok
  isplitl [Hat]; · iexact Hat
  iexact Hcr

end Cert.KernelIdeal.Gather

end
-- ==== Proof.Launch.lean ====
/- The run of the whole program: launched on all devices at once, each device's body run (`body_obligation`), and the
   final memory read. -/
module

public import proofs.«01_k».proof.Proof.Start
public import Idealize.ShloMosaic.Adequacy
public import Idealize.ShloMosaic.Init

@[expose] public section

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose owing owing_of_ne)
open Cert.KernelIdeal Facts₀ Facts

variable {F : FTy → Type} [FloatOps F]

local notation "𝕄" => MT nD τ sig Unit (Elt F) ℕ UU ℕ

variable (m : (ℓ : Loc nD τ sig) → Buf (Elt F) ℓ) (ρ : Dev nD → PrngReg)

/-! ## The scoped storage -/

/-- The kernel's own semaphores. -/
abbrev osem (j : J) : SemLoc sig := .dma (semJ j)
theorem ownSemFacts : Pipeline.OwnSemFacts cfg0.spec osem := by decide

/-- The semaphores of no use here. -/
def idle (c : Dev nD) : sProp 𝕄 := Pipeline.idleSems0 cfgs Gen.cellOf_inj (0 : Fin 1) ownSemFacts c

omit [FloatOps F] in
theorem no_windows (Ψ : Fin cfg0.W → sProp 𝕄) : bigSep Finset.univ Ψ = BI.emp := by
  rw [show (Finset.univ : Finset (Fin cfg0.W)) = ∅ from Finset.univ_eq_empty (α := Fin 0), BI.bigSep_empty]

omit [FloatOps F] in
theorem scoped_sems (c : Dev nD) : (scopedSems0 (c : Thread nD τ) : sProp 𝕄) = iprop((emp ∗ zeros c) ∗ idle c) :=
  (Pipeline.scopedSems0_split cfgs Gen.cellOf_inj (0 : Fin 1) Gen.winFacts0.to₀ ownSemFacts c).trans
    (congrArg (fun X => iprop((X ∗ zeros c) ∗ idle c)) (no_windows _))

omit [FloatOps F] in
theorem scoped_bufs (c : Dev nD) : (scopedBufs (c : Thread nD τ) : sProp 𝕄) = iprop(Dat.staging cfg0 c ∗ Pipeline.scopedRest cfg0.spec c) :=
  Pipeline.scopedBufs_split cfgs (0 : Fin 1) Gen.winFacts0.stage_scoped Gen.winFacts0.stage_inj Gen.stage_whole0 c

/-! ## One device's run of @main -/

/-- What a device holds before @main, and after it. -/
def pre (c : Dev nD) : sProp 𝕄 := iprop(scopedBufs (c : Thread nD τ) ∗ idle c ∗ owes (c : Thread nD τ) (O₀ c) ∅ ∗ Φ₀ m c)
def fin (c : Dev nD) : sProp 𝕄 := iprop(arraysEnd m c ∗ scopedSems0 (c : Thread nD τ))

theorem leave (c : Dev nD) : iprop((dats (F := F) m 0 c).Φ (Fin.last cfg0.N) ∗ Pipeline.cellsSems0 cfgs (0 : Fin 1) c ∗ Dat.staging cfg0 c ∗ idle c)
    ⊢ iprop(arraysEnd m c ∗ scopedSems0 (c : Thread nD τ) ∗ scopedBufs (c : Thread nD τ)) := by
  rw [scoped_sems, scoped_bufs, Gen.scopedRest0_eq]
  show iprop(Φ₁ m c ∗ _) ⊢ _
  unfold Φ₁
  iintro ⟨⟨Ha, Hz⟩, -, Hst, Hi⟩
  isplitl [Ha]; · iexact Ha
  isplitl [Hz Hi]
  · isplitl [Hz]
    · isplitr; · iempintro
      iexact Hz
    iexact Hi
  isplitl [Hst]; · iexact Hst
  iempintro

theorem enter (c : Dev nD) : iprop(Φ₀ m c ∗ Pipeline.prefHeld (Pipeline.Prefetch.none (sig := sig)) c (fun _ => fullShare) (fun k => k.elim0) ∗ Pipeline.scopedRest cfg0.spec c)
    ⊢ (dats (F := F) m 0 c).Φ 0 := by
  show _ ⊢ Φ₀ m c
  iintro ⟨H, -⟩
  iexact H

theorem device_run (c : Dev nD) :
    pre m c ⊢ wp frame (wpE (defs (F := F)) (Variants.lift 𝒱₀) (c : Thread nD τ) none) Set.univ (main (F := F) c) (fun _ => post (liftTc (fin m) BI.emp) (c : Thread nD τ)) := by
  have hentry := Pipeline.wp_customCall_entry_frame (pcfgs (F := F)) (fun p => (cfgs p).toPCfg_adm) (dats (F := F) m) () EP (fun _ => 0) Gen.cellOf_inj (0 : Fin 1) defs₀ 𝒱₀
      (fun _ => fullShare) c Set.univ (fun _ _ => Set.mem_univ _)
      (body_obligation m c) (fun w => w.elim0) none (fun u h => nomatch h) (X := Φ₀ m c) (Y := arraysEnd m c) (R := Pipeline.scopedRest cfg0.spec c) (I := idle c)
      (Entails.of_eq (scoped_bufs c)) (enter m c) (leave m c)
      (α := PUnit) (k := fun _ => .ret ⟨⟩) (Q := fun _ => post (liftTc (fin m) BI.emp) (c : Thread nD τ))
  have hpre : pre m c ⊢ iprop(Pipeline.EntryPre (Pipeline.pin (pcfgs (F := F)) (fun p => (cfgs p).toPCfg_adm)) (dats (F := F) m) () EP (fun _ => 0) (0 : Fin 1) c
      ∗ Pipeline.prefHeld (Pipeline.Prefetch.none (sig := sig)) c (fun _ => fullShare) (fun k => k.elim0) ∗ Φ₀ m c ∗ idle c ∗ scopedBufs (c : Thread nD τ)) := by
    have hA : Pipeline.EntryPre (Pipeline.pin (pcfgs (F := F)) (fun p => (cfgs p).toPCfg_adm)) (dats (F := F) m) () EP (fun _ => 0) (0 : Fin 1) c
        = iprop(emp ∗ (dats (F := F) m 0 c).owesAt () 0 ∗ emp ∗ emp ∗ emp) :=
      congrArg₂ (fun X Y => iprop(X ∗ (dats (F := F) m 0 c).owesAt () 0 ∗ Y)) (no_windows _)
        (congrArg₂ (fun X Y => iprop(X ∗ Y)) (no_windows _) (congrArg₂ (fun X Y => iprop(X ∗ Y)) (no_windows _) (no_windows _)))
    have hP : (Pipeline.prefHeld (Pipeline.Prefetch.none (sig := sig)) c (fun _ => fullShare) (fun k => k.elim0) : sProp 𝕄) = BI.emp := by
      unfold Pipeline.prefHeld
      rw [show (Finset.univ : Finset (Fin (Pipeline.Prefetch.none (sig := sig)).K)) = ∅ from Finset.univ_eq_empty (α := Fin 0), BI.bigSep_empty]
    have hO : owes (c : Thread nD τ) (O₀ c) ∅ ⊢ (dats (F := F) m 0 c).owesAt () 0 := by
      unfold Dat.owesAt Pipeline.owesWithin
      iintro HO
      iexists ∅
      isplitr; · ipureintro; rw [Finset.coe_empty]; exact Set.empty_subset _
      iexact HO
    rw [hA, hP]
    unfold pre
    iintro ⟨Hsc, Hi, HO, H0⟩
    isplitl [HO]
    · isplitr; · iempintro
      isplitl [HO]; · iapply hO; iexact HO
      isplitr; · iempintro
      isplitr <;> iempintro
    isplitr; · iempintro
    isplitl [H0]; · iexact H0
    isplitl [Hi] <;> iassumption
  have hret : iprop(Pipeline.EntryPost (Pipeline.pin (pcfgs (F := F)) (fun p => (cfgs p).toPCfg_adm)) (dats (F := F) m) () (0 : Fin 1) c
      ∗ arraysEnd m c ∗ scopedSems0 (c : Thread nD τ) ∗ scopedBufs (c : Thread nD τ)) ⊢ post (liftTc (fin m) BI.emp) (c : Thread nD τ) := by
    have hO : (dats (F := F) m 0 c).owesAt () (Fin.last cfg0.N) ⊢ owesNone c := by
      unfold Dat.owesAt Pipeline.owesWithin owesNone
      iintro ⟨%W, -, HO⟩
      iexists W
      iexact HO
    unfold owesNone at hO
    unfold Pipeline.EntryPost Pipeline.PerCore.EntryPost post
    rw [liftTc_tc]
    unfold fin
    iintro ⟨⟨-, HO⟩, Ha, Hs, -⟩
    isplitr [HO]
    · isplitl [Ha] <;> iassumption
    · iapply hO; iexact HO
  have hmain : main (F := F) c = .op (.customCall (Pipeline.entry 0) ()) fun _ => .ret ⟨⟩ := rfl
  rw [hmain]
  have hcut (A B C : sProp 𝕄) (h : B ⊢ C) (D : sProp 𝕄) (hD : A ⊢ iprop((B -∗ C) -∗ D)) : A ⊢ D := by
    iintro H
    iapply hD $$ H
    iintro HB
    iapply h
    iexact HB
  refine hcut _ _ _ ?_ _ (hpre.trans hentry)
  rw [wp_ret]
  exact hret.trans fupd_intro

/-! ## The launch -/

/-- The ghost state at the launch. -/
def u₀ : UU := (Rounds.initOf ∅ ∅, launchOf allCells ∅ allToks)

/-- What one device's launch resources are made of. -/
theorem device_start (c : Dev nD) :
    coreInit (Ix := Unit) (Name := ℕ) (U := UU) (Lvl := ℕ) (owing O₀) 0 (⟨m, fun _ => 0, ρ⟩ : MemSt nD τ sig (Elt F)) (c : Thread nD τ)
      ⊢ iprop((scopedBufs (c : Thread nD τ) ∗ idle c ∗ owes (c : Thread nD τ) (O₀ c) ∅)
        ∗ unscopedBufs c (fun b => m ((c : Thread nD τ).loc b)) ∗ zeros c ∗ levelsNone (F := F) c ∗ Pipeline.launchCred O₀ c) := by
  have h := Pipeline.coreInit_boundary_owing (Ix := Unit) (Name := ℕ) (U := UU) (Lvl := ℕ) O₀ m ρ c
  unfold boundary at h
  rw [scoped_sems] at h
  iintro H
  ihave ⟨⟨Hsc, ⟨⟨-, Hz⟩, Hi⟩, -⟩, Hub, -, HO, Hlv, -, Hcr⟩ := h $$ H
  isplitl [Hsc Hi HO]
  · isplitl [Hsc]; · iexact Hsc
    isplitl [Hi] <;> iassumption
  isplitl [Hub]; · iexact Hub
  isplitl [Hz]; · iexact Hz
  isplitl [Hlv] <;> iassumption

theorem launch_start :
    iprop((bigSep Finset.univ fun c : Dev nD =>
        coreInit (Ix := Unit) (Name := ℕ) (U := UU) (Lvl := ℕ) (owing O₀) 0 (⟨m, fun _ => 0, ρ⟩ : MemSt nD τ sig (Elt F)) (c : Thread nD τ)) ∗ ownU u₀)
      ⊢ |={Set.univ}=> iprop(∃ _ : Unit, (bigSep Finset.univ fun c : Dev nD => pre m c) ∗ emp) := by
  have h := bigSep_mono (s := Finset.univ) fun (c : Dev nD) _ => device_start m ρ c
  simp only [bigSep_sep'] at h
  unfold u₀ pre
  simp only [bigSep_sep']
  iintro ⟨Hc, Hu⟩
  ihave ⟨⟨Hsc, Hi, HO⟩, Hrest⟩ := (show _ ⊢ iprop((_ ∗ _ ∗ _) ∗ _ ∗ _ ∗ _ ∗ _) from h) $$ Hc
  ihave ⟨-, Hu⟩ := (ownU_pair _ _) $$ Hu
  icases Hrest with ⟨Hub, Hz, Hlv, Hcr⟩
  imod (ready m) $$ [Hub Hz Hlv Hcr Hu] with H0
  · isplitl [Hub]; · iexact Hub
    isplitl [Hz]; · iexact Hz
    isplitl [Hlv]; · iexact Hlv
    isplitl [Hcr] <;> iassumption
  imodintro
  iexists ()
  isplitl; swap; · iempintro
  isplitl [Hsc]; · iexact Hsc
  isplitl [Hi]; · iexact Hi
  isplitl [HO] <;> iassumption

/-- What the arrays of device `c` hold at the end. -/
def ArraysEnd (c : Dev nD) (M : MemSt nD τ sig (Elt F)) : Prop :=
  ∀ w : Fin 3, M.mem ((inM w).view.loc (c : Thread nD τ)) = m ((inM w).view.loc (c : Thread nD τ)) ∧ M.mem ((outM w).view.loc (c : Thread nD τ)) = gathered m w c

theorem arrays_read (c : Dev nD) (s' : Phys nD τ sig (Elt F)) : iprop(arraysEnd m c ∗ SI s') ⊢ (iprop(⌜ArraysEnd m c s'.mem⌝ ∗ SI s') : sProp 𝕄) := by
  unfold arraysEnd
  rw [bigSep_sep', bigSep_congr fun (w : Fin 3) _ => in_whole m c w]
  unfold outP
  iintro ⟨⟨Hi, Ho⟩, HSI⟩
  ihave ⟨%hi, HSI⟩ := (pointsTo_read_all Finset.univ (fun w : Fin 3 => (inM w).view.loc (c : Thread nD τ))
    (fun w => m ((inM w).view.loc (c : Thread nD τ))) s' fullShare) $$ [Hi HSI]
  · isplitl [Hi] <;> iassumption
  ihave ⟨%ho, HSI⟩ := (pointsTo_read_all Finset.univ (fun w : Fin 3 => (outM w).view.loc (c : Thread nD τ))
    (fun w => gathered m w c) s' fullShare) $$ [Ho HSI]
  · isplitl [Ho] <;> iassumption
  isplitr
  · ipureintro
    exact fun w => ⟨hi w (Finset.mem_univ w), ho w (Finset.mem_univ w)⟩
  · iexact HSI

/-- A device's end, read. -/
def Ended (c : Dev nD) (M : MemSt nD τ sig (Elt F)) : Prop :=
  ArraysEnd m c M ∧ ∀ sm : SemLoc sig, sm.isScoped .tc = true → M.sem ((c : Thread nD τ), sm) = 0

theorem fin_read (c : Dev nD) (s' : Phys nD τ sig (Elt F)) : iprop(fin m c ∗ SI s') ⊢ (|={Set.univ}=> iprop(⌜Ended m c s'.mem⌝ ∗ SI s') : sProp 𝕄) := by
  unfold fin
  iintro ⟨⟨Ha, Hs⟩, HSI⟩
  ihave %hz := (tcScoped_read_pers c s') $$ [Hs HSI]
  · isplitl [Hs] <;> iassumption
  ihave ⟨%ha, HSI⟩ := (arrays_read m c s') $$ [Ha HSI]
  · isplitl [Ha] <;> iassumption
  imodintro
  isplitr
  · ipureintro; exact ⟨ha, hz⟩
  · iexact HSI

theorem launch_end :
    iprop((bigSep Finset.univ fun c : Dev nD => fin m c) ∗ emp ∗ scSems (⟨m, fun _ => 0, ρ⟩ : MemSt nD τ sig (Elt F)))
      ⊢ (iprop(∀ s', SI s' -∗ |={Set.univ, Set.univ}=> ⌜(∀ c : Dev nD, Ended m c s'.mem) ∧ ∀ g' : GSem nD τ sig, g'.1.2 ≠ .tc → s'.mem.sem g' = 0⌝) : sProp 𝕄) := by
  iintro ⟨H, -, Hsc⟩ %s' HSI
  ihave %hsc := (scSems_read_zero m ρ s') $$ [Hsc HSI]
  · isplitl [Hsc] <;> iassumption
  imod (posts_fupd Finset.univ (fin_read m) s') $$ [H HSI] with %h
  · isplitl [H] <;> iassumption
  imodintro
  ipureintro
  exact ⟨fun c => h c (Finset.mem_univ c), hsc⟩

theorem all_scoped : ∀ sm : SemLoc sig, sm.isScoped .tc = true := by decide

/-- From any memory with zero counters, every weakly fair execution of @main on the eight devices ends, and every final
    state has each device's inputs unchanged, its outputs gathered and every semaphore at zero. -/
theorem run_main : θ_run (defs (F := F)) (onTc (τ := τ) (main (F := F))) (⟨m, fun _ => 0, ρ⟩ : MemSt nD τ sig (Elt F))
    (fun r => (∀ c : Dev nD, ArraysEnd m c r.2) ∧ r.2.sem = fun _ => 0) :=
  (θ_run (defs (F := F)) _ _).mono
    (Q := fun r => (∀ c : Dev nD, Ended m c r.2) ∧ ∀ g' : GSem nD τ sig, g'.1.2 ≠ .tc → r.2.sem g' = 0)
    (fun r hr => ⟨fun c => (hr.1 c).1, sem_eq_zero_of_scoped all_scoped (sems_of_reads (fun c => (hr.1 c).2) hr.2)⟩)
    (adequate_tpu (defs (F := F)) _ _ _
      (reflect_intro_fupd_tc_sems (X := Unit) (Variants.lift 𝒱₀) (owing O₀) 0 (noBookings fun _ => le_rfl) (owing_of_ne O₀) u₀ (fun _ => pre m) (fun _ => fin m)
        (fun _ => iprop(emp)) Set.univ (launch_start m ρ) (fun _ c => device_run m c) fun _ => launch_end m ρ))

end Cert.KernelIdeal.Gather

end
-- ==== Proof.Values.lean ====
/- The gathered contents as one array.

   Each input is cut along its rows into eight blocks, block `s` on device `s`.  When the shards are the blocks of an array
   `W` of 2816 rows, the stacked shards are `W` read as eight slabs of 352 rows (`stacked_blocks`), so every device ends
   with that in its output (`run_blocks`). -/
module

public import proofs.«01_k».proof.Proof.Launch
public import Idealize.ShloMosaic.Lib.Layout

@[expose] public section

noncomputable section

namespace Cert.KernelIdeal.Gather

open Idealize.ShloMosaic Idealize.ShloMosaic.TcCoe Idealize.ShloMosaic.ValueIdx
open Idealize.SL Idealize.SL.Sem
open Cert.KernelIdeal Facts₀ Facts

variable {F : FTy → Type} [FloatOps F]
variable (m : (ℓ : Loc nD τ sig) → Buf (Elt F) ℓ) (ρ : Dev nD → PrngReg)

/-- A whole array, before it is cut. -/
abbrev Rows : Shape := ⟨2, ![2816, 1024]⟩

theorem rows_cast : Rows.ShapeCasts S8x352x1024 := by decide

/-- Slab `s` of an array read as eight slabs is the block of device `s`. -/
theorem slab_eq_block (W : Rows.Idx → Elt F .bf16) (j : S8x352x1024.Idx) :
    Layout.block ⟨2, ![352, 1024]⟩ Rows 0 8 (j 0) W (by decide) (ix2 (j 1) (j 2)) = shapeCast S8x352x1024 W rows_cast j := by
  refine congrArg W (Eq.symm (Shape.reshapeEquiv_eq_of_rowMajor rows_cast ?_))
  rw [Shape.rowMajor_val_two, Shape.rowMajor_val_three]
  rfl

theorem stacked_blocks (w : Fin 3) (W : Rows.Idx → Elt F .bf16)
    (h : ∀ s : Dev nD, shard m w s = Layout.block ⟨2, ![352, 1024]⟩ Rows 0 8 s W (by decide)) :
    stacked m w = shapeCast S8x352x1024 W rows_cast := by
  funext j
  exact (congrFun (h (j 0)) (ix2 (j 1) (j 2))).trans (slab_eq_block W j)

theorem gathered_stacked₀ (c : Dev nD) : gathered m 0 c = stacked m 0 := funext fun j => gathered_emb m 0 c j
theorem gathered_stacked₁ (c : Dev nD) : gathered m 1 c = stacked m 1 := funext fun j => gathered_emb m 1 c j
theorem gathered_stacked₂ (c : Dev nD) : gathered m 2 c = stacked m 2 := funext fun j => gathered_emb m 2 c j

/-- The arguments end unchanged and the counters at zero. -/
theorem run_frame : θ_run (defs (F := F)) (onTc (τ := τ) (main (F := F))) (⟨m, fun _ => 0, ρ⟩ : MemSt nD τ sig (Elt F))
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run (defs (F := F)) _ _).mono (fun _ h => ⟨fun c => ⟨(h.1 c 0).1, (h.1 c 1).1, (h.1 c 2).1⟩, h.2⟩) (run_main m ρ)

/-- From shards of three whole arrays, every device ends with the three arrays as eight slabs each. -/
theorem run_blocks (W₀ W₁ W₂ : Rows.Idx → Elt F .bf16)
    (h : ∀ c : Dev nD, m ((c.tc : Thread nD τ).loc main_arg0) = Layout.block ⟨2, ![352, 1024]⟩ Rows 0 8 c W₀ (by decide)
      ∧ m ((c.tc : Thread nD τ).loc main_arg1) = Layout.block ⟨2, ![352, 1024]⟩ Rows 0 8 c W₁ (by decide)
      ∧ m ((c.tc : Thread nD τ).loc main_arg2) = Layout.block ⟨2, ![352, 1024]⟩ Rows 0 8 c W₂ (by decide)) :
    θ_run (defs (F := F)) (onTc (τ := τ) (main (F := F))) (⟨m, fun _ => 0, ρ⟩ : MemSt nD τ sig (Elt F))
      (fun r => ∀ c : Dev nD, r.2.mem ((c.tc : Thread nD τ).loc main_v1_0) = shapeCast S8x352x1024 W₀ rows_cast
        ∧ r.2.mem ((c.tc : Thread nD τ).loc main_v1_1) = shapeCast S8x352x1024 W₁ rows_cast
        ∧ r.2.mem ((c.tc : Thread nD τ).loc main_v1_2) = shapeCast S8x352x1024 W₂ rows_cast
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run (defs (F := F)) _ _).mono (fun _ r c =>
    ⟨(r.1 c 0).2.trans ((gathered_stacked₀ m c).trans (stacked_blocks m 0 W₀ fun s => (h s).1)),
      (r.1 c 1).2.trans ((gathered_stacked₁ m c).trans (stacked_blocks m 1 W₁ fun s => (h s).2.1)),
      (r.1 c 2).2.trans ((gathered_stacked₂ m c).trans (stacked_blocks m 2 W₂ fun s => (h s).2.2)),
      (r.1 c 0).1, (r.1 c 1).1, (r.1 c 2).1⟩) (run_main m ρ)

end Cert.KernelIdeal.Gather
-- ==== Proof.ScatterOps.lean ====
/- The exchange's body as a list of operations.

   Eight devices, numbered 4 x + 2 y + c, and ten arrays.  Array 0 is gathered: a device's whole block of it goes to every
   device.  Arrays 1 … 9 are scattered: a device's array is eight blocks, block `s` for device `s`.  Slot `s` of an output
   is for what device `s` sends.  The seven copies a device makes of each array go to the seven devices whose number
   differs from its own in some bits (`pr`); besides, a local copy fills the own slot. -/
module

public import proofs.«01_k».proof.Proof.Gen.ScatterIdeal
public import proofs.«01_k».proof.Proof.Gen.ScatterIdeal.Points

@[expose] public section

noncomputable section

namespace Cert.ScatterIdeal.Exchange

open Idealize.ShloMosaic Idealize.ShloMosaic.TcCoe
open Idealize.SL Idealize.SL.Sem
open Cert.ScatterIdeal Facts₀ Facts

/-! ## Devices -/

/-- The peer of copy `k`: the device whose number differs from `c`'s in the bits of `k + 1`. -/
def pr (k : Fin 7) (c : Dev nD) : Dev nD := ⟨(c.val ^^^ (k.val + 1)) % 8, Nat.mod_lt _ (by decide)⟩

theorem pr_pr : ∀ (k : Fin 7) (c : Dev nD), pr k (pr k c) = c := by decide

/-! ## Arrays, slots and semaphores -/

/-- The rows and columns of array `w`'s blocks, and its elements. -/
def rows : Fin 10 → ℕ
  | 0 => 16 | 1 => 1024 | 2 => 1024 | 3 => 352 | 4 => 1024 | 5 => 128 | 6 => 128 | 7 => 1024 | 8 => 1024 | 9 => 352
def cols : Fin 10 → ℕ
  | 0 => 1024 | 1 => 352 | 2 => 352 | 3 => 1024 | 4 => 192 | 5 => 512 | 6 => 1024 | 7 => 352 | 8 => 352 | 9 => 1024
def el : Fin 10 → EltTy
  | 0 => .f32 | 1 => .bf16 | 2 => .bf16 | 3 => .bf16 | 4 => .bf16 | 5 => .bf16 | 6 => .bf16 | 7 => .bf16 | 8 => .bf16 | 9 => .bf16

abbrev Sq (r c : ℕ) : Shape := ⟨2, ![r, c]⟩
abbrev Sl (r c : ℕ) : Shape := ⟨3, ![1, r, c]⟩
abbrev St8 (r c : ℕ) : Shape := ⟨3, ![8, r, c]⟩

/-- One slab of a stack of eight: its offset, in bounds, and made of whole words. -/
structure Cut (e : EltTy) (r c : ℕ) where
  off : Fin 3 → ℕ
  inb : ∀ a, off a + (Sl r c).size a ≤ (St8 r c).size a
  wds : EltTy.bits e = 32 ∨ (Rect.unit (s := St8 r c) off (Sl r c).size inb).WholeWords (EltTy.packing e)

theorem Cut.ext' {e : EltTy} {r c : ℕ} {a b : Cut e r c} (h : a.off = b.off) : a = b := by
  obtain ⟨o, p, q⟩ := a; obtain ⟨o', p', q'⟩ := b
  cases h; rfl

/-- The slab of a stack as an array of its own. -/
def slab {e : EltTy} {r c : ℕ} (A : Memref sig .tc .hbm (St8 r c) e) (hs : (Sl r c).Squeezes (Sq r c)) (a : Cut e r c) : Memref sig .tc .hbm (Sq r c) e :=
  (A.slice (Rect.unit (s := St8 r c) a.off (Sl r c).size a.inb) (fun _ => rfl)).squeeze (Sq r c) hs

theorem slab_exact {e : EltTy} {r c : ℕ} (A : Memref sig .tc .hbm (St8 r c) e) (hA : A.IsWhole) (hs : (Sl r c).Squeezes (Sq r c)) (a : Cut e r c) :
    (slab A hs a).view.WordExact := by
  rcases a.wds with h | h
  · exact (View.wordExact_bits h).reshape _ _
  · exact (hA.wordExact_slice rfl _ h).reshape _ _

theorem sqz : ∀ w : Fin 10, (Sl (rows w) (cols w)).Squeezes (Sq (rows w) (cols w))
  | 0 => squeezes_S1x16x1024_S16x1024
  | 1 => squeezes_S1x1024x352_S1024x352
  | 2 => squeezes_S1x1024x352_S1024x352
  | 3 => squeezes_S1x352x1024_S352x1024
  | 4 => squeezes_S1x1024x192_S1024x192
  | 5 => squeezes_S1x128x512_S128x512
  | 6 => squeezes_S1x128x1024_S128x1024
  | 7 => squeezes_S1x1024x352_S1024x352
  | 8 => squeezes_S1x1024x352_S1024x352
  | 9 => squeezes_S1x352x1024_S352x1024

def outM : (w : Fin 10) → Memref sig .tc .hbm (St8 (rows w) (cols w)) (el w)
  | 0 => Memref.whole main_v1_0
  | 1 => Memref.whole main_v1_1
  | 2 => Memref.whole main_v1_2
  | 3 => Memref.whole main_v1_3
  | 4 => Memref.whole main_v1_4
  | 5 => Memref.whole main_v1_5
  | 6 => Memref.whole main_v1_6
  | 7 => Memref.whole main_v1_7
  | 8 => Memref.whole main_v1_8
  | 9 => Memref.whole main_v1_9
theorem isWhole_outM : ∀ w, (outM w).IsWhole
  | 0 => Memref.isWhole_whole _
  | 1 => Memref.isWhole_whole _
  | 2 => Memref.isWhole_whole _
  | 3 => Memref.isWhole_whole _
  | 4 => Memref.isWhole_whole _
  | 5 => Memref.isWhole_whole _
  | 6 => Memref.isWhole_whole _
  | 7 => Memref.isWhole_whole _
  | 8 => Memref.isWhole_whole _
  | 9 => Memref.isWhole_whole _

/-- A slab's offset, for slot `s`. -/
def offs (s : Fin 8) : Fin 3 → ℕ := ![s.val, 0, 0]

theorem off1_eq : ∀ c : Dev nD, k0_off1 c = offs c := by decide
theorem off2_eq : ∀ c : Dev nD, k0_off2 c = offs c := by decide
theorem off3_eq : ∀ c : Dev nD, k0_off3 c = offs c := by decide
theorem off4_eq : ∀ c : Dev nD, k0_off4 c = offs c := by decide
theorem off5_eq : ∀ c : Dev nD, k0_off5 c = offs c := by decide
theorem off6_eq : ∀ c : Dev nD, k0_off6 c = offs c := by decide

/-- The slab of the device itself, as printed. -/
def ownP : (w : Fin 10) → Dev nD → Cut (el w) (rows w) (cols w)
  | 0 => fun c => ⟨k0_off1 c, k0_off1_inb c, Or.inl rfl⟩
  | 1 => fun c => ⟨k0_off2 c, k0_off2_inb c, Or.inr (k0_off2_wordsbf16 c)⟩
  | 2 => fun c => ⟨k0_off2 c, k0_off2_inb c, Or.inr (k0_off2_wordsbf16 c)⟩
  | 3 => fun c => ⟨k0_off3 c, k0_off3_inb c, Or.inr (k0_off3_wordsbf16 c)⟩
  | 4 => fun c => ⟨k0_off4 c, k0_off4_inb c, Or.inr (k0_off4_wordsbf16 c)⟩
  | 5 => fun c => ⟨k0_off5 c, k0_off5_inb c, Or.inr (k0_off5_wordsbf16 c)⟩
  | 6 => fun c => ⟨k0_off6 c, k0_off6_inb c, Or.inr (k0_off6_wordsbf16 c)⟩
  | 7 => fun c => ⟨k0_off2 c, k0_off2_inb c, Or.inr (k0_off2_wordsbf16 c)⟩
  | 8 => fun c => ⟨k0_off2 c, k0_off2_inb c, Or.inr (k0_off2_wordsbf16 c)⟩
  | 9 => fun c => ⟨k0_off3 c, k0_off3_inb c, Or.inr (k0_off3_wordsbf16 c)⟩

theorem ownP_off : ∀ (w : Fin 10) (c : Dev nD), (ownP w c).off = offs c
  | 0, c => off1_eq c
  | 1, c => off2_eq c
  | 2, c => off2_eq c
  | 3, c => off3_eq c
  | 4, c => off4_eq c
  | 5, c => off5_eq c
  | 6, c => off6_eq c
  | 7, c => off2_eq c
  | 8, c => off2_eq c
  | 9, c => off3_eq c

theorem Cut.inb_at {e : EltTy} {r c : ℕ} (a : Cut e r c) {o : Fin 3 → ℕ} (h : a.off = o) : ∀ i, o i + (Sl r c).size i ≤ (St8 r c).size i := by
  subst h; exact a.inb

theorem Cut.wds_at {e : EltTy} {r c : ℕ} (a : Cut e r c) {o : Fin 3 → ℕ} (h : a.off = o) :
    EltTy.bits e = 32 ∨ (Rect.unit (s := St8 r c) o (Sl r c).size (a.inb_at h)).WholeWords (EltTy.packing e) := by
  subst h; exact a.wds

/-- The slab of slot `s`. -/
def at_ (w : Fin 10) (s : Fin 8) : Cut (el w) (rows w) (cols w) :=
  ⟨offs s, (ownP w s).inb_at (ownP_off w s), (ownP w s).wds_at (ownP_off w s)⟩

theorem ownP_eq (w : Fin 10) (c : Dev nD) : ownP w c = at_ w c := Cut.ext' (ownP_off w c)

/-- Slot `s` of output `w`. -/
def slot (w : Fin 10) (s : Fin 8) : Memref sig .tc .hbm (Sq (rows w) (cols w)) (el w) := slab (outM w) (sqz w) (at_ w s)

/-- What of input `w` is read at a slab: all of array 0, the slab of the others. -/
def srcAt : (w : Fin 10) → Cut (el w) (rows w) (cols w) → Memref sig .tc .hbm (Sq (rows w) (cols w)) (el w)
  | 0 => fun _ => Memref.whole main_arg0
  | 1 => fun a => slab (Memref.whole main_arg1) (sqz 1) a
  | 2 => fun a => slab (Memref.whole main_arg2) (sqz 2) a
  | 3 => fun a => slab (Memref.whole main_arg3) (sqz 3) a
  | 4 => fun a => slab (Memref.whole main_arg4) (sqz 4) a
  | 5 => fun a => slab (Memref.whole main_arg5) (sqz 5) a
  | 6 => fun a => slab (Memref.whole main_arg6) (sqz 6) a
  | 7 => fun a => slab (Memref.whole main_arg7) (sqz 7) a
  | 8 => fun a => slab (Memref.whole main_arg8) (sqz 8) a
  | 9 => fun a => slab (Memref.whole main_arg9) (sqz 9) a

theorem srcAt_exact : ∀ (w : Fin 10) (a : Cut (el w) (rows w) (cols w)), (srcAt w a).view.WordExact
  | 0, a => (Memref.isWhole_whole _).wordExact
  | 1, a => slab_exact _ (Memref.isWhole_whole _) (sqz 1) a
  | 2, a => slab_exact _ (Memref.isWhole_whole _) (sqz 2) a
  | 3, a => slab_exact _ (Memref.isWhole_whole _) (sqz 3) a
  | 4, a => slab_exact _ (Memref.isWhole_whole _) (sqz 4) a
  | 5, a => slab_exact _ (Memref.isWhole_whole _) (sqz 5) a
  | 6, a => slab_exact _ (Memref.isWhole_whole _) (sqz 6) a
  | 7, a => slab_exact _ (Memref.isWhole_whole _) (sqz 7) a
  | 8, a => slab_exact _ (Memref.isWhole_whole _) (sqz 8) a
  | 9, a => slab_exact _ (Memref.isWhole_whole _) (sqz 9) a

/-- What a device sends to device `s` of input `w`. -/
def src (w : Fin 10) (s : Fin 8) : Memref sig .tc .hbm (Sq (rows w) (cols w)) (el w) := srcAt w (at_ w s)

def ix (w : Fin 10) (k : Fin 7) : Fin 70 := ⟨7 * w.val + k.val, by omega⟩

theorem inb70 (i : Fin 70) : ∀ a, (![i.val] : Fin 1 → ℕ) a + S1.size a ≤ S70.size a := by revert i; decide
theorem inb10 (i : Fin 10) : ∀ a, (![i.val] : Fin 1 → ℕ) a + S1.size a ≤ S10.size a := by revert i; decide

def sem70 (A : DmaSems sig S70) (i : Fin 70) : DmaSem sig :=
  ((A.slice (Rect.unit (s := S70) ![i.val] S1.size (inb70 i))).squeeze S_ squeezes_S1_S_).sem
def sem10 (A : DmaSems sig S10) (i : Fin 10) : DmaSem sig :=
  ((A.slice (Rect.unit (s := S10) ![i.val] S1.size (inb10 i))).squeeze S_ squeezes_S1_S_).sem

def sendS (w : Fin 10) (k : Fin 7) : DmaSem sig := sem70 cc0_scratch0 (ix w k)
def recvS (w : Fin 10) (k : Fin 7) : DmaSem sig := sem70 cc0_scratch1 (ix w k)
def copyS (w : Fin 10) : DmaSem sig := sem10 cc0_scratch2 w

/-! ## Operations -/

/-- One operation of the body: start the local copy, start copy `k`, wait for what copy `k` brings, wait for
    the end of copy `k`'s reading, wait for the local copy. -/
inductive Op where
  | copy (w : Fin 10)
  | send (w : Fin 10) (k : Fin 7)
  | recv (w : Fin 10) (k : Fin 7)
  | sent (w : Fin 10) (k : Fin 7)
  | copied (w : Fin 10)
deriving DecidableEq

def arrs : List (Fin 10) := [0, 1, 2, 3, 4, 5, 6, 7, 8, 9]
def peers : List (Fin 7) := [0, 1, 2, 3, 4, 5, 6]
def all2 (f : Fin 10 → Fin 7 → Op) : List Op := arrs.flatMap fun w => peers.map fun k => f w k

def ops : List Op := arrs.map .copy ++ (all2 .send ++ (all2 .recv ++ (all2 .sent ++ arrs.map .copied)))

variable {F : FTy → Type} [FloatOps F]

/-- The effects of the body. -/
abbrev Eff (F : FTy → Type) [FloatOps F] := TpuEff nD τ sig (Elt F) Λ₀ .tc PUnit

/-- Start of a copy to a device, and the waits for a copy. -/
def copyE (w : Fin 10) (a : Cut (el w) (rows w) (cols w)) : Eff F :=
  .enqueueDma (srcAt w a) (.here (slab (outM w) (sqz w) a)) (.dma (copyS w)) (srcAt_exact w a) (slab_exact _ (isWhole_outM w) (sqz w) a) ⟨Or.inl rfl, trivial⟩

def sendE (w : Fin 10) (k : Fin 7) (n : Dev nD) (a b : Cut (el w) (rows w) (cols w)) : Eff F :=
  .enqueueDma (srcAt w b) (.remote (Dev.tc n) (slab (outM w) (sqz w) a) (.dma (sendS w k)) rfl) (.dma (recvS w k))
    (srcAt_exact w b) (slab_exact _ (isWhole_outM w) (sqz w) a) ⟨⟨rfl, Or.inl rfl⟩, trivial⟩

/-- A wait for one slab to have landed. -/
def landE (w : Fin 10) (sem : DmaSem sig) (a b : Cut (el w) (rows w) (cols w)) : Eff F :=
  .waitDma2 sem (srcAt w b) (slab (outM w) (sqz w) a) (srcAt_exact w b) (slab_exact _ (isWhole_outM w) (sqz w) a)
/-- A wait for what is sent to have been read. -/
def leftE (w : Fin 10) (sem : DmaSem sig) (a b : Cut (el w) (rows w) (cols w)) : Eff F :=
  .waitDma2 sem (slab (outM w) (sqz w) a) (srcAt w b) (slab_exact _ (isWhole_outM w) (sqz w) a) (srcAt_exact w b)

/-- The operation with its device, its own slab and its peer's given. -/
def mk (dv : Fin 10 → Fin 7 → Dev nD) (own : (w : Fin 10) → Cut (el w) (rows w) (cols w)) (pe : (w : Fin 10) → Fin 7 → Cut (el w) (rows w) (cols w)) : Op → Eff F
  | .copy w => copyE w (own w)
  | .send w k => sendE w k (dv w k) (own w) (pe w k)
  | .recv w k => landE w (recvS w k) (pe w k) (pe w k)
  | .sent w k => leftE w (sendS w k) (own w) (pe w k)
  | .copied w => landE w (copyS w) (own w) (own w)

def chain (f : Op → Eff F) : List Op → Prog (TpuEff nD τ sig (Elt F) Λ₀ .tc) PUnit
  | [] => .ret ⟨⟩
  | x :: l => .op (f x) fun _ => chain f l

/-- The printed devices and the printed slabs of the peers. -/
def devP (c : Dev nD) : Fin 10 → Fin 7 → Dev nD
  | 0, 0 => ⟨k0_dev1 c, k0_dev1_lt c⟩ | 0, 1 => ⟨k0_dev2 c, k0_dev2_lt c⟩ | 0, 2 => ⟨k0_dev3 c, k0_dev3_lt c⟩ | 0, 3 => ⟨k0_dev4 c, k0_dev4_lt c⟩ | 0, 4 => ⟨k0_dev5 c, k0_dev5_lt c⟩ | 0, 5 => ⟨k0_dev6 c, k0_dev6_lt c⟩ | 0, 6 => ⟨k0_dev7 c, k0_dev7_lt c⟩
  | 1, 0 => ⟨k0_dev8 c, k0_dev8_lt c⟩ | 1, 1 => ⟨k0_dev9 c, k0_dev9_lt c⟩ | 1, 2 => ⟨k0_dev10 c, k0_dev10_lt c⟩ | 1, 3 => ⟨k0_dev11 c, k0_dev11_lt c⟩ | 1, 4 => ⟨k0_dev12 c, k0_dev12_lt c⟩ | 1, 5 => ⟨k0_dev13 c, k0_dev13_lt c⟩ | 1, 6 => ⟨k0_dev14 c, k0_dev14_lt c⟩
  | 2, 0 => ⟨k0_dev15 c, k0_dev15_lt c⟩ | 2, 1 => ⟨k0_dev16 c, k0_dev16_lt c⟩ | 2, 2 => ⟨k0_dev17 c, k0_dev17_lt c⟩ | 2, 3 => ⟨k0_dev18 c, k0_dev18_lt c⟩ | 2, 4 => ⟨k0_dev19 c, k0_dev19_lt c⟩ | 2, 5 => ⟨k0_dev20 c, k0_dev20_lt c⟩ | 2, 6 => ⟨k0_dev21 c, k0_dev21_lt c⟩
  | 3, 0 => ⟨k0_dev22 c, k0_dev22_lt c⟩ | 3, 1 => ⟨k0_dev23 c, k0_dev23_lt c⟩ | 3, 2 => ⟨k0_dev24 c, k0_dev24_lt c⟩ | 3, 3 => ⟨k0_dev25 c, k0_dev25_lt c⟩ | 3, 4 => ⟨k0_dev26 c, k0_dev26_lt c⟩ | 3, 5 => ⟨k0_dev27 c, k0_dev27_lt c⟩ | 3, 6 => ⟨k0_dev28 c, k0_dev28_lt c⟩
  | 4, 0 => ⟨k0_dev29 c, k0_dev29_lt c⟩ | 4, 1 => ⟨k0_dev30 c, k0_dev30_lt c⟩ | 4, 2 => ⟨k0_dev31 c, k0_dev31_lt c⟩ | 4, 3 => ⟨k0_dev32 c, k0_dev32_lt c⟩ | 4, 4 => ⟨k0_dev33 c, k0_dev33_lt c⟩ | 4, 5 => ⟨k0_dev34 c, k0_dev34_lt c⟩ | 4, 6 => ⟨k0_dev35 c, k0_dev35_lt c⟩
  | 5, 0 => ⟨k0_dev36 c, k0_dev36_lt c⟩ | 5, 1 => ⟨k0_dev37 c, k0_dev37_lt c⟩ | 5, 2 => ⟨k0_dev38 c, k0_dev38_lt c⟩ | 5, 3 => ⟨k0_dev39 c, k0_dev39_lt c⟩ | 5, 4 => ⟨k0_dev40 c, k0_dev40_lt c⟩ | 5, 5 => ⟨k0_dev41 c, k0_dev41_lt c⟩ | 5, 6 => ⟨k0_dev42 c, k0_dev42_lt c⟩
  | 6, 0 => ⟨k0_dev43 c, k0_dev43_lt c⟩ | 6, 1 => ⟨k0_dev44 c, k0_dev44_lt c⟩ | 6, 2 => ⟨k0_dev45 c, k0_dev45_lt c⟩ | 6, 3 => ⟨k0_dev46 c, k0_dev46_lt c⟩ | 6, 4 => ⟨k0_dev47 c, k0_dev47_lt c⟩ | 6, 5 => ⟨k0_dev48 c, k0_dev48_lt c⟩ | 6, 6 => ⟨k0_dev49 c, k0_dev49_lt c⟩
  | 7, 0 => ⟨k0_dev50 c, k0_dev50_lt c⟩ | 7, 1 => ⟨k0_dev51 c, k0_dev51_lt c⟩ | 7, 2 => ⟨k0_dev52 c, k0_dev52_lt c⟩ | 7, 3 => ⟨k0_dev53 c, k0_dev53_lt c⟩ | 7, 4 => ⟨k0_dev54 c, k0_dev54_lt c⟩ | 7, 5 => ⟨k0_dev55 c, k0_dev55_lt c⟩ | 7, 6 => ⟨k0_dev56 c, k0_dev56_lt c⟩
  | 8, 0 => ⟨k0_dev57 c, k0_dev57_lt c⟩ | 8, 1 => ⟨k0_dev58 c, k0_dev58_lt c⟩ | 8, 2 => ⟨k0_dev59 c, k0_dev59_lt c⟩ | 8, 3 => ⟨k0_dev60 c, k0_dev60_lt c⟩ | 8, 4 => ⟨k0_dev61 c, k0_dev61_lt c⟩ | 8, 5 => ⟨k0_dev62 c, k0_dev62_lt c⟩ | 8, 6 => ⟨k0_dev63 c, k0_dev63_lt c⟩
  | 9, 0 => ⟨k0_dev64 c, k0_dev64_lt c⟩ | 9, 1 => ⟨k0_dev65 c, k0_dev65_lt c⟩ | 9, 2 => ⟨k0_dev66 c, k0_dev66_lt c⟩ | 9, 3 => ⟨k0_dev67 c, k0_dev67_lt c⟩ | 9, 4 => ⟨k0_dev68 c, k0_dev68_lt c⟩ | 9, 5 => ⟨k0_dev69 c, k0_dev69_lt c⟩ | 9, 6 => ⟨k0_dev70 c, k0_dev70_lt c⟩

def peerP (c : Dev nD) : (w : Fin 10) → Fin 7 → Cut (el w) (rows w) (cols w)
  | 0, 0 => ⟨k0_off42 c, k0_off42_inb c, Or.inl rfl⟩
  | 0, 1 => ⟨k0_off43 c, k0_off43_inb c, Or.inl rfl⟩
  | 0, 2 => ⟨k0_off44 c, k0_off44_inb c, Or.inl rfl⟩
  | 0, 3 => ⟨k0_off45 c, k0_off45_inb c, Or.inl rfl⟩
  | 0, 4 => ⟨k0_off46 c, k0_off46_inb c, Or.inl rfl⟩
  | 0, 5 => ⟨k0_off47 c, k0_off47_inb c, Or.inl rfl⟩
  | 0, 6 => ⟨k0_off48 c, k0_off48_inb c, Or.inl rfl⟩
  | 1, 0 => ⟨k0_off7 c, k0_off7_inb c, Or.inr (k0_off7_wordsbf16 c)⟩
  | 1, 1 => ⟨k0_off8 c, k0_off8_inb c, Or.inr (k0_off8_wordsbf16 c)⟩
  | 1, 2 => ⟨k0_off9 c, k0_off9_inb c, Or.inr (k0_off9_wordsbf16 c)⟩
  | 1, 3 => ⟨k0_off10 c, k0_off10_inb c, Or.inr (k0_off10_wordsbf16 c)⟩
  | 1, 4 => ⟨k0_off11 c, k0_off11_inb c, Or.inr (k0_off11_wordsbf16 c)⟩
  | 1, 5 => ⟨k0_off12 c, k0_off12_inb c, Or.inr (k0_off12_wordsbf16 c)⟩
  | 1, 6 => ⟨k0_off13 c, k0_off13_inb c, Or.inr (k0_off13_wordsbf16 c)⟩
  | 2, 0 => ⟨k0_off7 c, k0_off7_inb c, Or.inr (k0_off7_wordsbf16 c)⟩
  | 2, 1 => ⟨k0_off8 c, k0_off8_inb c, Or.inr (k0_off8_wordsbf16 c)⟩
  | 2, 2 => ⟨k0_off9 c, k0_off9_inb c, Or.inr (k0_off9_wordsbf16 c)⟩
  | 2, 3 => ⟨k0_off10 c, k0_off10_inb c, Or.inr (k0_off10_wordsbf16 c)⟩
  | 2, 4 => ⟨k0_off11 c, k0_off11_inb c, Or.inr (k0_off11_wordsbf16 c)⟩
  | 2, 5 => ⟨k0_off12 c, k0_off12_inb c, Or.inr (k0_off12_wordsbf16 c)⟩
  | 2, 6 => ⟨k0_off13 c, k0_off13_inb c, Or.inr (k0_off13_wordsbf16 c)⟩
  | 3, 0 => ⟨k0_off14 c, k0_off14_inb c, Or.inr (k0_off14_wordsbf16 c)⟩
  | 3, 1 => ⟨k0_off15 c, k0_off15_inb c, Or.inr (k0_off15_wordsbf16 c)⟩
  | 3, 2 => ⟨k0_off16 c, k0_off16_inb c, Or.inr (k0_off16_wordsbf16 c)⟩
  | 3, 3 => ⟨k0_off17 c, k0_off17_inb c, Or.inr (k0_off17_wordsbf16 c)⟩
  | 3, 4 => ⟨k0_off18 c, k0_off18_inb c, Or.inr (k0_off18_wordsbf16 c)⟩
  | 3, 5 => ⟨k0_off19 c, k0_off19_inb c, Or.inr (k0_off19_wordsbf16 c)⟩
  | 3, 6 => ⟨k0_off20 c, k0_off20_inb c, Or.inr (k0_off20_wordsbf16 c)⟩
  | 4, 0 => ⟨k0_off21 c, k0_off21_inb c, Or.inr (k0_off21_wordsbf16 c)⟩
  | 4, 1 => ⟨k0_off22 c, k0_off22_inb c, Or.inr (k0_off22_wordsbf16 c)⟩
  | 4, 2 => ⟨k0_off23 c, k0_off23_inb c, Or.inr (k0_off23_wordsbf16 c)⟩
  | 4, 3 => ⟨k0_off24 c, k0_off24_inb c, Or.inr (k0_off24_wordsbf16 c)⟩
  | 4, 4 => ⟨k0_off25 c, k0_off25_inb c, Or.inr (k0_off25_wordsbf16 c)⟩
  | 4, 5 => ⟨k0_off26 c, k0_off26_inb c, Or.inr (k0_off26_wordsbf16 c)⟩
  | 4, 6 => ⟨k0_off27 c, k0_off27_inb c, Or.inr (k0_off27_wordsbf16 c)⟩
  | 5, 0 => ⟨k0_off28 c, k0_off28_inb c, Or.inr (k0_off28_wordsbf16 c)⟩
  | 5, 1 => ⟨k0_off29 c, k0_off29_inb c, Or.inr (k0_off29_wordsbf16 c)⟩
  | 5, 2 => ⟨k0_off30 c, k0_off30_inb c, Or.inr (k0_off30_wordsbf16 c)⟩
  | 5, 3 => ⟨k0_off31 c, k0_off31_inb c, Or.inr (k0_off31_wordsbf16 c)⟩
  | 5, 4 => ⟨k0_off32 c, k0_off32_inb c, Or.inr (k0_off32_wordsbf16 c)⟩
  | 5, 5 => ⟨k0_off33 c, k0_off33_inb c, Or.inr (k0_off33_wordsbf16 c)⟩
  | 5, 6 => ⟨k0_off34 c, k0_off34_inb c, Or.inr (k0_off34_wordsbf16 c)⟩
  | 6, 0 => ⟨k0_off35 c, k0_off35_inb c, Or.inr (k0_off35_wordsbf16 c)⟩
  | 6, 1 => ⟨k0_off36 c, k0_off36_inb c, Or.inr (k0_off36_wordsbf16 c)⟩
  | 6, 2 => ⟨k0_off37 c, k0_off37_inb c, Or.inr (k0_off37_wordsbf16 c)⟩
  | 6, 3 => ⟨k0_off38 c, k0_off38_inb c, Or.inr (k0_off38_wordsbf16 c)⟩
  | 6, 4 => ⟨k0_off39 c, k0_off39_inb c, Or.inr (k0_off39_wordsbf16 c)⟩
  | 6, 5 => ⟨k0_off40 c, k0_off40_inb c, Or.inr (k0_off40_wordsbf16 c)⟩
  | 6, 6 => ⟨k0_off41 c, k0_off41_inb c, Or.inr (k0_off41_wordsbf16 c)⟩
  | 7, 0 => ⟨k0_off7 c, k0_off7_inb c, Or.inr (k0_off7_wordsbf16 c)⟩
  | 7, 1 => ⟨k0_off8 c, k0_off8_inb c, Or.inr (k0_off8_wordsbf16 c)⟩
  | 7, 2 => ⟨k0_off9 c, k0_off9_inb c, Or.inr (k0_off9_wordsbf16 c)⟩
  | 7, 3 => ⟨k0_off10 c, k0_off10_inb c, Or.inr (k0_off10_wordsbf16 c)⟩
  | 7, 4 => ⟨k0_off11 c, k0_off11_inb c, Or.inr (k0_off11_wordsbf16 c)⟩
  | 7, 5 => ⟨k0_off12 c, k0_off12_inb c, Or.inr (k0_off12_wordsbf16 c)⟩
  | 7, 6 => ⟨k0_off13 c, k0_off13_inb c, Or.inr (k0_off13_wordsbf16 c)⟩
  | 8, 0 => ⟨k0_off7 c, k0_off7_inb c, Or.inr (k0_off7_wordsbf16 c)⟩
  | 8, 1 => ⟨k0_off8 c, k0_off8_inb c, Or.inr (k0_off8_wordsbf16 c)⟩
  | 8, 2 => ⟨k0_off9 c, k0_off9_inb c, Or.inr (k0_off9_wordsbf16 c)⟩
  | 8, 3 => ⟨k0_off10 c, k0_off10_inb c, Or.inr (k0_off10_wordsbf16 c)⟩
  | 8, 4 => ⟨k0_off11 c, k0_off11_inb c, Or.inr (k0_off11_wordsbf16 c)⟩
  | 8, 5 => ⟨k0_off12 c, k0_off12_inb c, Or.inr (k0_off12_wordsbf16 c)⟩
  | 8, 6 => ⟨k0_off13 c, k0_off13_inb c, Or.inr (k0_off13_wordsbf16 c)⟩
  | 9, 0 => ⟨k0_off14 c, k0_off14_inb c, Or.inr (k0_off14_wordsbf16 c)⟩
  | 9, 1 => ⟨k0_off15 c, k0_off15_inb c, Or.inr (k0_off15_wordsbf16 c)⟩
  | 9, 2 => ⟨k0_off16 c, k0_off16_inb c, Or.inr (k0_off16_wordsbf16 c)⟩
  | 9, 3 => ⟨k0_off17 c, k0_off17_inb c, Or.inr (k0_off17_wordsbf16 c)⟩
  | 9, 4 => ⟨k0_off18 c, k0_off18_inb c, Or.inr (k0_off18_wordsbf16 c)⟩
  | 9, 5 => ⟨k0_off19 c, k0_off19_inb c, Or.inr (k0_off19_wordsbf16 c)⟩
  | 9, 6 => ⟨k0_off20 c, k0_off20_inb c, Or.inr (k0_off20_wordsbf16 c)⟩

/-- The operation at device `c`, by peer and slot. -/
def eff (c : Dev nD) : Op → Eff F := mk (fun _ k => pr k c) (fun w => at_ w c) (fun w k => at_ w (pr k c))

/-- The body after its device id, as a chain of operations. -/
def prog (c : Dev nD) (l : List Op) : Prog (TpuEff nD τ sig (Elt F) Λ₀ .tc) PUnit := chain (eff c) l

theorem devP_eq (c : Dev nD) : devP c = fun _ k => pr k c := by
  funext w k; revert c w k; decide

theorem peerP_off : ∀ (w : Fin 10) (k : Fin 7) (c : Dev nD), (peerP c w k).off = offs (pr k c) := by decide

theorem peerP_eq (c : Dev nD) : peerP c = fun w k => at_ w (pr k c) := by
  funext w k
  exact Cut.ext' (peerP_off w k c)

set_option maxRecDepth 65536 in
set_option maxHeartbeats 4000000 in
/-- The printed body: its device id, then the chain. -/
theorem body_printed (t : Fin cfg0.N) : Gen.bodyAt0 (F := F) t
    = .op .deviceId fun c => chain (mk (devP c) (fun w => ownP w c) (peerP c)) ops := rfl

theorem body_eq (t : Fin cfg0.N) : Gen.bodyAt0 (F := F) t = .op .deviceId fun c => prog c ops := by
  rw [body_printed]
  congr 1; funext c
  have ho : (fun w => ownP w c) = fun w => at_ w c := funext fun w => ownP_eq w c
  rw [devP_eq, ho, peerP_eq]; rfl

end Cert.ScatterIdeal.Exchange

end
-- ==== Proof.ScatterContents.lean ====
/- What the arrays hold: the slabs of a stack of eight, and the contents the exchange makes.

   The slabs at the eight slots' offsets are disjoint and together the whole stack (`slab_disjoint`, `slab_cover`).
   `made m w c` is device `c`'s output `w` when slot `s` holds what device `s` sends to `c` (`sent_`), for every `s`.  A slot
   read from it is what was sent (`read_made`), and what was sent, written over its slot, makes it (`write_sent`). -/
module

public import proofs.«01_k».proof.Proof.ScatterOps
public import Idealize.ShloMosaic.Lib.ValueLayout

@[expose] public section

noncomputable section

namespace Cert.ScatterIdeal.Exchange

open Idealize.ShloMosaic Idealize.ShloMosaic.TcCoe Idealize.ShloMosaic.ValueIdx
open Idealize.SL Idealize.SL.Sem
open Cert.ScatterIdeal Facts₀ Facts

variable {F : FTy → Type} [FloatOps F]

/-! ## Slabs -/

section Slab
variable {e : EltTy} {r c : ℕ} (A : Memref sig .tc .hbm (St8 r c) e) (hs : (Sl r c).Squeezes (Sq r c))

/-- The element of the stack that a slab's element `(x, y)` is. -/
theorem emb_slab (a : Cut e r c) (s : Fin 8) (h : a.off = offs s) (x : Fin r) (y : Fin c) :
    (slab A hs a).view.emb (ix2 x y) = A.view.emb (ix3 s x y) := by
  obtain ⟨o, p, q⟩ := a
  subst h
  show A.view.emb (((Rect.unit (s := St8 r c) (offs s) (Sl r c).size p)).emb (Shape.reshapeEquiv _ (ix2 x y))) = _
  congr 1
  rw [reshapeEquiv_ix2_1ab]
  funext d
  match d with
  | ⟨0, _⟩ => exact Fin.ext (by show s.val + 1 * 0 = s.val; omega)
  | ⟨1, _⟩ => exact Fin.ext (by show 0 + 1 * x.val = x.val; omega)
  | ⟨2, _⟩ => exact Fin.ext (by show 0 + 1 * y.val = y.val; omega)

theorem mem_slab (a : Cut e r c) (s : Fin 8) (h : a.off = offs s) (j : (St8 r c).Idx) :
    (A.view.emb j : (slab A hs a).view.ty.Idx) ∈ (slab A hs a).view.set ↔ j 0 = s := by
  constructor
  · intro hm
    obtain ⟨x, -, hx⟩ := Finset.mem_map.mp hm
    have e : A.view.emb (ix3 s (x 0) (x 1)) = A.view.emb j :=
      ((emb_slab A hs a s h (x 0) (x 1)).symm.trans (congrArg (slab A hs a).view.emb (eq_ix2 x).symm)).trans hx
    exact congrFun (A.view.emb.injective e).symm 0
  · intro h'
    have e : (slab A hs a).view.emb (ix2 (j 1) (j 2)) = A.view.emb j :=
      (emb_slab A hs a s h (j 1) (j 2)).trans (congrArg A.view.emb ((congrArg (fun z => ix3 z (j 1) (j 2)) h'.symm).trans (eq_ix3 j).symm))
    exact Eq.mp (congrArg (fun z => z ∈ (slab A hs a).view.set) e) (View.emb_mem_set _ _)

/-- The elements of a slab, in the stack's own index type. -/
def slabSet (a : Cut e r c) : Finset A.view.ty.Idx := (slab A hs a).view.set

variable (hA : ∀ i : A.view.ty.Idx, ∃ j, A.view.emb j = i) (at' : Fin 8 → Cut e r c) (hat : ∀ s, (at' s).off = offs s)
include hA hat

theorem slab_disjoint (s t : Fin 8) (h : s ≠ t) : Disjoint (slabSet A hs (at' s)) (slabSet A hs (at' t)) := by
  rw [Finset.disjoint_left]
  intro i h₁ h₂
  obtain ⟨j, rfl⟩ := hA i
  exact h (((mem_slab A hs _ s (hat s) j).mp h₁).symm.trans ((mem_slab A hs _ t (hat t) j).mp h₂))

theorem slab_cover : Finset.univ.biUnion (fun s => slabSet A hs (at' s)) = Finset.univ := by
  refine Finset.eq_univ_of_forall fun i => ?_
  obtain ⟨j, rfl⟩ := hA i
  exact Finset.mem_biUnion.mpr ⟨j 0, Finset.mem_univ _, (mem_slab A hs _ (j 0) (hat _) j).mpr rfl⟩

end Slab

/-! ## Outputs -/

theorem at_off (w : Fin 10) (s : Fin 8) : (at_ w s).off = offs s := rfl

theorem emb_slot (w : Fin 10) (s : Fin 8) (x : Fin (rows w)) (y : Fin (cols w)) :
    (slot w s).view.emb (ix2 x y) = (outM w).view.emb (ix3 s x y) := emb_slab (outM w) (sqz w) _ s rfl x y

/-- Every element of an output is the image of an index. -/
theorem emb_surj : ∀ (w : Fin 10) (i : (outM w).view.ty.Idx), ∃ j, (outM w).view.emb j = i
  | 0, i => ⟨i, rfl⟩ | 1, i => ⟨i, rfl⟩ | 2, i => ⟨i, rfl⟩ | 3, i => ⟨i, rfl⟩ | 4, i => ⟨i, rfl⟩
  | 5, i => ⟨i, rfl⟩ | 6, i => ⟨i, rfl⟩ | 7, i => ⟨i, rfl⟩ | 8, i => ⟨i, rfl⟩ | 9, i => ⟨i, rfl⟩

variable (m : (ℓ : Loc nD τ sig) → Buf (Elt F) ℓ)

/-- What device `s` sends to device `d` of array `w`. -/
def sent_ (w : Fin 10) (s d : Dev nD) : (Sq (rows w) (cols w)).Idx → Elt F (el w) :=
  (src w d).view.read (Elt F) (m ((src w d).view.loc (s : Thread nD τ)))

/-- All that is sent to device `d`, stacked by sender. -/
def stacked (w : Fin 10) (d : Dev nD) : (St8 (rows w) (cols w)).Idx → Elt F (el w) := fun i => sent_ m w (i 0) d (ix2 (i 1) (i 2))

/-- Device `c`'s output `w` with everything in its slot. -/
def made (w : Fin 10) (c : Dev nD) : Buf (Elt F) ((outM w).view.loc (c : Thread nD τ)) :=
  (outM w).view.write (Elt F) (m ((outM w).view.loc (c : Thread nD τ))) (stacked m w c) Finset.univ

theorem made_emb (w : Fin 10) (c : Dev nD) (j : (St8 (rows w) (cols w)).Idx) :
    made m w c ((outM w).view.emb j) = cast (congrArg (Elt F) (outM w).view.elt_eq.symm) (stacked m w c j) :=
  View.write_emb_of_mem _ _ (Finset.mem_univ j)

/-- These contents, as contents of slot `s`'s buffer. -/
def atSlot (w : Fin 10) (c : Dev nD) (s : Fin 8) : Buf (Elt F) ((slot w s).view.loc (c : Thread nD τ)) := made m w c

/-- A slot read from these contents is what its device sent. -/
theorem read_made (w : Fin 10) (c : Dev nD) (s : Fin 8) : (slot w s).view.read (Elt F) (atSlot m w c s) = sent_ m w s c := by
  funext x
  rw [View.read_apply]
  have e : (slot w s).view.emb x = (outM w).view.emb (ix3 s (x 0) (x 1)) :=
    (congrArg (slot w s).view.emb (eq_ix2 x)).trans (emb_slot w s (x 0) (x 1))
  have g : atSlot m w c s ((slot w s).view.emb x)
      = cast (congrArg (Elt F) (outM w).view.elt_eq.symm) (stacked m w c (ix3 s (x 0) (x 1))) :=
    (congrArg (made m w c) e).trans (made_emb m w c _)
  refine (congrArg (cast _) g).trans ?_
  refine (cast_cast _ _ _).trans ?_
  refine (cast_eq _ _).trans ?_
  exact congrArg (sent_ m w s c) (eq_ix2 x).symm

/-- Writing what was sent over its slot gives these contents there. -/
theorem write_sent (w : Fin 10) (c : Dev nD) (s : Fin 8) (f : Buf (Elt F) ((slot w s).view.loc (c : Thread nD τ))) :
    ∀ i ∈ (slot w s).view.set, (slot w s).view.write (Elt F) f (sent_ m w s c) Finset.univ i = atSlot m w c s i := by
  intro i hi
  obtain ⟨x, -, rfl⟩ := Finset.mem_map.mp hi
  refine (View.write_emb_of_mem _ _ (Finset.mem_univ x)).trans ?_
  rw [← read_made m w c s, View.read_apply]
  exact (cast_cast _ _ _).trans (cast_eq _ _)

end Cert.ScatterIdeal.Exchange

end
-- ==== Proof.ScatterProtocol.lean ====
/- The protocol of the exchange: every semaphore of a device is a cell of one round with one contributor.

   Device `c` has fifteen semaphores per array: one per copy for the end of its reading (send cells), one per copy
   for what the peer's copy brings (receive cells), one for the local copy.  A receive cell's credit comes from the
   peer and hands over the landed slot with what the peer sent in it; a send cell's gives back what was read;
   the local copy's gives the own slot, filled, and what was read of the input. -/
module

public import proofs.«01_k».proof.Proof.ScatterContents
public import Idealize.ShloMosaic.Lib.Pipeline.Launch
public import Idealize.ShloMosaic.Lib.Pipeline.Kit
public import Idealize.ShloMosaic.Lib.Tactic

@[expose] public section

noncomputable section

namespace Cert.ScatterIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ScatterIdeal Facts₀ Facts

variable {F : FTy → Type} [FloatOps F]

abbrev UB := URounds (GSem nD τ sig) Unit
abbrev UU := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells -/

/-- A device's semaphores: per array, the send and receive cell of each copy and the local copy's. -/
abbrev J := Fin 10 × (Fin 7 ⊕ Fin 7 ⊕ Unit)

def semJ : J → DmaSem sig
  | (w, .inl k) => sendS w k
  | (w, .inr (.inl k)) => recvS w k
  | (w, .inr (.inr _)) => copyS w

/-- Which semaphore a number is. -/
def decJ (i : DmaSem sig) : J :=
  if i.val < 70 then (⟨i.val / 7 % 10, Nat.mod_lt _ (by decide)⟩, .inl ⟨i.val % 7, Nat.mod_lt _ (by decide)⟩)
  else if i.val < 140 then (⟨(i.val - 70) / 7 % 10, Nat.mod_lt _ (by decide)⟩, .inr (.inl ⟨(i.val - 70) % 7, Nat.mod_lt _ (by decide)⟩))
  else (⟨(i.val - 140) % 10, Nat.mod_lt _ (by decide)⟩, .inr (.inr ()))

theorem decJ_semJ : ∀ j, decJ (semJ j) = j := by decide
theorem semJ_decJ : ∀ i, semJ (decJ i) = i := by decide

theorem semJ_inj : Function.Injective semJ := fun a b h => (decJ_semJ a).symm.trans ((congrArg decJ h).trans (decJ_semJ b))

abbrev cell (c : Dev nD) (j : J) : GSem nD τ sig := ((c : Thread nD τ), .dma (semJ j))

theorem cell_inj {c c' : Dev nD} {j j' : J} (h : cell c j = cell c' j') : c = c' ∧ j = j' :=
  ⟨congrArg (fun g : GSem nD τ sig => g.1.1) h, semJ_inj (SemLoc.dma.inj (congrArg Prod.snd h))⟩

def N (w : Fin 10) : ℕ := (slot w 0).view.dmaCredit
theorem N_pos (w : Fin 10) : 0 < N w := View.dmaCredit_pos _ (by revert w; decide)

/-! ## What is held of the arrays -/

/-- Slot `s` of device `c`'s output `w`, holding `f`. -/
def slotP (c : Dev nD) (w : Fin 10) (s : Fin 8) (f : Buf (Elt F) ((slot w s).view.loc (c : Thread nD τ))) : sProp 𝕄 :=
  (slot w s).view.loc (c : Thread nD τ) ↦[(slot w s).view.set]{fullShare} f

/-- The share of an input that the reader for slot `s` takes: of array 0, read whole by eight, an eighth; of the others, its own slab whole. -/
def q8 : Fin 8 → PosShare TreeShare :=
  ![fullShare.left.left.left, fullShare.left.left.right, fullShare.left.right.left, fullShare.left.right.right,
    fullShare.right.left.left, fullShare.right.left.right, fullShare.right.right.left, fullShare.right.right.right]
def qr (w : Fin 10) (s : Fin 8) : PosShare TreeShare := match w with
  | ⟨0, _⟩ => q8 s
  | ⟨_ + 1, _⟩ => fullShare

/-- What device `c` reads of its input `w` for slot `s`. -/
def srcP (c : Dev nD) (w : Fin 10) (s : Fin 8) : sProp 𝕄 :=
  (src w s).view.loc (c : Thread nD τ) ↦[(src w s).view.set]{qr w s} m ((src w s).view.loc (c : Thread nD τ))

/-- Slot `s` with its shard in it. -/
def fullP (c : Dev nD) (w : Fin 10) (s : Fin 8) : sProp 𝕄 := slotP c w s (atSlot m w c s)

omit [FloatOps F] in
instance slotP_storable (c : Dev nD) (w : Fin 10) (s : Fin 8) (f) : BI.Storable (upEmb : UEmb _ 𝕄) (slotP (F := F) c w s f) := by
  unfold slotP; infer_instance
omit [FloatOps F] in
instance srcP_storable (c : Dev nD) (w : Fin 10) (s : Fin 8) : BI.Storable (upEmb : UEmb _ 𝕄) (srcP (F := F) m c w s) := by
  unfold srcP; infer_instance
instance fullP_storable (c : Dev nD) (w : Fin 10) (s : Fin 8) : BI.Storable (upEmb : UEmb _ 𝕄) (fullP (F := F) m c w s) := by
  unfold fullP; infer_instance

/-! ## The schedule -/

/-- What the credit of each cell hands to its device. -/
def payJ (c : Dev nD) : J → sProp 𝕄
  | (w, .inl k) => srcP m c w (pr k c)
  | (w, .inr (.inl k)) => fullP m c w (pr k c)
  | (w, .inr (.inr _)) => iprop(fullP m c w c ∗ srcP m c w c)

/-- What a cell is credited: one slab of its array. -/
def amt : SemLoc sig → ℕ
  | .dma i => N (decJ i).1
  | .reg _ => 1

theorem amt_pos (s : SemLoc sig) : 0 < amt s := by
  cases s with
  | dma i => exact N_pos _
  | reg _ => exact Nat.one_pos

def payS (c : Dev nD) : SemLoc sig → sProp 𝕄
  | .dma i => payJ m c (decJ i)
  | .reg _ => iprop(emp)

def isDma : SemLoc sig → Bool
  | .dma _ => true
  | .reg _ => false

instance payS_storable (c : Dev nD) (s : SemLoc sig) : BI.Storable (upEmb : UEmb _ 𝕄) (payS (F := F) m c s) := by
  unfold payS payJ
  (repeat' split) <;> infer_instance

/-- One round: each of a device's copy semaphores is credited one slab, by one copy. -/
def rd : Rounds.Schedule (GSem nD τ sig) Unit 𝕄 where
  duties g r := if r = 0 ∧ g.1.2 = .tc ∧ isDma g.2 = true then {()} else ∅
  unitless _ := False
  amount g _ _ := amt g.2
  payload g _ _ := payS m g.1.1 g.2
  amount_pos g _ _ _ := amt_pos g.2

instance rd_payload_storable (g : GSem nD τ sig) (r : ℕ) (d : Unit) :
    BI.Storable (upEmb : UEmb _ 𝕄) ((rd (F := F) m).payload g r d) := payS_storable m g.1.1 g.2

theorem duties_cell (c : Dev nD) (j : J) : (rd (F := F) m).duties (cell c j) 0 = {()} := by
  dsimp only [rd]; exact if_pos ⟨rfl, rfl, rfl⟩
theorem duties_later (g : GSem nD τ sig) (r : ℕ) (h : 1 ≤ r) : (rd (F := F) m).duties g r = ∅ := by
  dsimp only [rd]; exact if_neg fun h' => by omega
theorem mem_duties (c : Dev nD) (j : J) : () ∈ (rd (F := F) m).duties (cell c j) 0 := by rw [duties_cell]; exact Finset.mem_singleton_self _
theorem payload_cell (c : Dev nD) (j : J) (r : ℕ) (d : Unit) : (rd (F := F) m).payload (cell c j) r d = payJ m c j := by
  show payJ m c (decJ (semJ j)) = _
  rw [decJ_semJ]
theorem amt_cell (j : J) : amt (.dma (semJ j)) = N j.1 := by
  show N (decJ (semJ j)).1 = _
  rw [decJ_semJ]
theorem expect_cell (c : Dev nD) (j : J) : (rd (F := F) m).expect (cell c j) 0 = N j.1 := by
  unfold Schedule.expect Schedule.amountOf; rw [duties_cell, Finset.sum_singleton]
  exact amt_cell j
theorem rest_cell (c : Dev nD) (j : J) :
    bigSep ((rd (F := F) m).duties (cell c j) 0 \ ∅) (fun d => (rd (F := F) m).payload (cell c j) 0 d) = payJ m c j := by
  rw [Finset.sdiff_empty, duties_cell, bigSep_singleton, payload_cell]

/-! ## Levels -/

def L (g : GSem nD τ sig) : Finset Unit := if g.1.2 = .tc then {()} else ∅
def lv (_ : GSem nD τ sig) (_ : Unit) : ℕ := 0

theorem L_tc (c : Dev nD) (s : SemLoc sig) : L ((c : Thread nD τ), s) = {()} := if_pos rfl
theorem L_of_ne (g : GSem nD τ sig) (h : g.1.2 ≠ .tc) : L g = ∅ := if_neg h

/-- What device `c` still owes when the operations `l` remain: the peers' receive cells of the copies it has yet to start. -/
def owedL (c : Dev nD) : List Op → CellTallies nD τ sig Unit
  | [] => 0
  | .send w k :: l => owedL c l + tallyAt (cell (pr k c) (w, .inr (.inl k))) () (N w)
  | _ :: l => owedL c l

theorem owedL_pos {c : Dev nD} {g : GSem nD τ sig} {u : Unit} : ∀ {l : List Op}, 0 < owedL c l g u →
    ∃ w k, .send w k ∈ l ∧ g = cell (pr k c) (w, .inr (.inl k))
  | [], h => absurd h (Nat.lt_irrefl 0)
  | .send w k :: l, h => by
    by_cases h' : g = cell (pr k c) (w, .inr (.inl k))
    · exact ⟨w, k, List.mem_cons_self, h'⟩
    · unfold owedL at h
      rw [Pi.add_apply, Finsupp.add_apply, tallyAt_apply, if_neg (fun h'' => h' h''.1), Nat.add_zero] at h
      obtain ⟨w', k', hm, hg⟩ := owedL_pos h
      exact ⟨w', k', List.mem_cons_of_mem _ hm, hg⟩
  | .copy _ :: l, h => by
    obtain ⟨w', k', hm, hg⟩ := owedL_pos (l := l) h; exact ⟨w', k', List.mem_cons_of_mem _ hm, hg⟩
  | .recv _ _ :: l, h => by
    obtain ⟨w', k', hm, hg⟩ := owedL_pos (l := l) h; exact ⟨w', k', List.mem_cons_of_mem _ hm, hg⟩
  | .sent _ _ :: l, h => by
    obtain ⟨w', k', hm, hg⟩ := owedL_pos (l := l) h; exact ⟨w', k', List.mem_cons_of_mem _ hm, hg⟩
  | .copied _ :: l, h => by
    obtain ⟨w', k', hm, hg⟩ := owedL_pos (l := l) h; exact ⟨w', k', List.mem_cons_of_mem _ hm, hg⟩

/-- No copy to another device is yet to be started. -/
def noSend (l : List Op) : Bool := l.all fun | .send _ _ => false | _ => true

theorem noSend_send {l : List Op} (h : noSend l = true) {w : Fin 10} {k : Fin 7} (hm : .send w k ∈ l) : False :=
  Bool.false_ne_true (List.all_eq_true.mp h _ hm)

omit [FloatOps F] in
theorem mayWait (c : Dev nD) (j : J) (l : List Op) (h : noSend l = true) :
    (levAts L lv : sProp 𝕄) ⊢ MayWait (c : Thread nD τ) (.dma (semJ j)) () (owedL c l) :=
  Pipeline.mayWait_of_levAts (by rw [L_tc]; exact Finset.mem_singleton_self _) fun g u hg => by
    obtain ⟨w, k, hm, -⟩ := owedL_pos hg
    exact (noSend_send h hm).elim

end Cert.ScatterIdeal.Exchange

end
-- ==== Proof.ScatterSteps.lean ====
/- What a device holds as its body runs, and each operation's step.

   With the operations `l` still to run, device `c` holds, for each copy, one thing or another according as the copy
   is still to start, is in flight or has been waited for (`sendR`, `recvR`, `copyR`).  `St l c` is all of it with
   what the device owes.  Each step takes `St (x :: l) c` to `St l c` (`step`), under conditions on the list that are
   checked once for the whole body (`okAll`). -/
module

public import proofs.«01_k».proof.Proof.ScatterProtocol

@[expose] public section

noncomputable section

namespace Cert.ScatterIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ScatterIdeal Facts₀ Facts

variable {F : FTy → Type} [FloatOps F]

local notation "𝕄" => MT nD τ sig Unit (Elt F) ℕ UU ℕ

abbrev 𝒱₀ : Variants := Variants.none

variable (m : (ℓ : Loc nD τ sig) → Buf (Elt F) ℓ) (κ : Dev nD × J → ℕ)

/-- The send cell, the receive cell, the local copy's cell. -/
abbrev jS (w : Fin 10) (k : Fin 7) : J := (w, .inl k)
abbrev jR (w : Fin 10) (k : Fin 7) : J := (w, .inr (.inl k))
abbrev jC (w : Fin 10) : J := (w, .inr (.inr ()))

/-- A cell's credit and its owner's position before the wait. -/
def due (c : Dev nD) (j : J) : sProp 𝕄 := iprop(cred (tallyAt (cell c j) () (N j.1)) ∗ atPos ER (cell c j) 0 ∅ 0)

def sendR (l : List Op) (c : Dev nD) (w : Fin 10) (k : Fin 7) : sProp 𝕄 :=
  if .send w k ∈ l then
    iprop((∃ f, slotP (pr k c) w c f) ∗ dutyTok ER (cell c (jS w k)) 0 () ∗ dutyTok ER (cell (pr k c) (jR w k)) 0 ()
      ∗ atPos ER (cell c (jS w k)) 0 ∅ 0 ∗ srcP m c w (pr k c))
  else if .sent w k ∈ l then due c (jS w k)
  else iprop(payJ m c (jS w k) ∗ atPos ER (cell c (jS w k)) 1 ∅ 0)

def recvR (l : List Op) (c : Dev nD) (w : Fin 10) (k : Fin 7) : sProp 𝕄 :=
  if .recv w k ∈ l then due c (jR w k)
  else iprop(payJ m c (jR w k) ∗ atPos ER (cell c (jR w k)) 1 ∅ 0)

def copyR (l : List Op) (c : Dev nD) (w : Fin 10) : sProp 𝕄 :=
  if .copy w ∈ l then
    iprop((∃ f, slotP c w c f) ∗ srcP m c w c ∗ dutyTok ER (cell c (jC w)) 0 () ∗ atPos ER (cell c (jC w)) 0 ∅ 0)
  else if .copied w ∈ l then due c (jC w)
  else iprop(payJ m c (jC w) ∗ atPos ER (cell c (jC w)) 1 ∅ 0)

def sends (l : List Op) (c : Dev nD) : sProp 𝕄 := bigSep Finset.univ fun p : Fin 10 × Fin 7 => sendR m l c p.1 p.2
def recvs (l : List Op) (c : Dev nD) : sProp 𝕄 := bigSep Finset.univ fun p : Fin 10 × Fin 7 => recvR m l c p.1 p.2
def copies (l : List Op) (c : Dev nD) : sProp 𝕄 := bigSep Finset.univ fun w : Fin 10 => copyR m l c w

def owesP (l : List Op) (c : Dev nD) : sProp 𝕄 := iprop(∃ W, owes (c : Thread nD τ) (owedL c l) W)

def St (l : List Op) (c : Dev nD) : sProp 𝕄 := iprop(owesP l c ∗ sends m l c ∗ recvs m l c ∗ copies m l c)

/-- Every cell's invariant and that its round is open, and the levels. -/
def cells : sProp 𝕄 :=
  bigSep Finset.univ fun p : Dev nD × J => iprop(cellInv ER (rd m) (κ p) (cell p.1 p.2) ∗ reached ER (cell p.1 p.2) 0)
def recs : sProp 𝕄 := iprop(cells m κ ∗ levAts L lv)

instance cells_persistent : BI.Persistent (cells m κ) := by unfold cells; infer_instance

instance recs_persistent : BI.Persistent (recs m κ) := by unfold recs; infer_instance

theorem cells_at (c : Dev nD) (j : J) : (cells m κ : sProp 𝕄) ⊢ iprop(cellInv ER (rd m) (κ (c, j)) (cell c j) ∗ reached ER (cell c j) 0) :=
  bigSep_elim (i := (c, j)) (Finset.mem_univ _)

/-! ## Conditions on the list -/

def okStep : Op → List Op → Bool
  | .copy w, l => decide (.copy w ∉ l ∧ .copied w ∈ l)
  | .send w k, l => decide (.send w k ∉ l ∧ .sent w k ∈ l)
  | .recv w k, l => decide (.recv w k ∉ l) && noSend l
  | .sent w k, l => decide (.sent w k ∉ l ∧ .send w k ∉ l) && noSend l
  | .copied w, l => decide (.copied w ∉ l ∧ .copy w ∉ l) && noSend l

def okAll : List Op → Bool
  | [] => true
  | x :: l => okStep x l && okAll l

set_option maxRecDepth 65536 in
theorem ok_ops : okAll ops = true := by decide +kernel

/-! ## What is held, case by case -/

section Cases
variable {l : List Op} {c : Dev nD} {w : Fin 10} {k : Fin 7}

theorem sendR_start (h : .send w k ∈ l) : sendR m l c w k
    = iprop((∃ f, slotP (pr k c) w c f) ∗ dutyTok ER (cell c (jS w k)) 0 () ∗ dutyTok ER (cell (pr k c) (jR w k)) 0 ()
      ∗ atPos ER (cell c (jS w k)) 0 ∅ 0 ∗ srcP m c w (pr k c)) := by
  unfold sendR; rw [if_pos h]
theorem sendR_due (h : .send w k ∉ l) (h' : .sent w k ∈ l) : sendR m l c w k = due c (jS w k) := by
  unfold sendR; rw [if_neg h, if_pos h']
theorem sendR_done (h : .send w k ∉ l) (h' : .sent w k ∉ l) :
    sendR m l c w k = iprop(payJ m c (jS w k) ∗ atPos ER (cell c (jS w k)) 1 ∅ 0) := by
  unfold sendR; rw [if_neg h, if_neg h']

theorem recvR_due (h : .recv w k ∈ l) : recvR m l c w k = due c (jR w k) := by
  unfold recvR; rw [if_pos h]
theorem recvR_held (h : .recv w k ∉ l) : recvR m l c w k = iprop(payJ m c (jR w k) ∗ atPos ER (cell c (jR w k)) 1 ∅ 0) := by
  unfold recvR; rw [if_neg h]

theorem copyR_start (h : .copy w ∈ l) : copyR m l c w
    = iprop((∃ f, slotP c w c f) ∗ srcP m c w c ∗ dutyTok ER (cell c (jC w)) 0 () ∗ atPos ER (cell c (jC w)) 0 ∅ 0) := by
  unfold copyR; rw [if_pos h]
theorem copyR_due (h : .copy w ∉ l) (h' : .copied w ∈ l) : copyR m l c w = due c (jC w) := by
  unfold copyR; rw [if_neg h, if_pos h']
theorem copyR_done (h : .copy w ∉ l) (h' : .copied w ∉ l) :
    copyR m l c w = iprop(payJ m c (jC w) ∗ atPos ER (cell c (jC w)) 1 ∅ 0) := by
  unfold copyR; rw [if_neg h, if_neg h']

end Cases

/-! ## Which resources an operation leaves alone -/

section Frame
variable (l : List Op) (c : Dev nD)

theorem sends_of (x : Op) (h : ∀ w k, x ≠ .send w k ∧ x ≠ .sent w k) : sends m (x :: l) c = sends m l c := by
  unfold sends
  congr 1; funext p
  unfold sendR
  simp only [List.mem_cons, (h _ _).1.symm, (h _ _).2.symm, false_or]

theorem recvs_of (x : Op) (h : ∀ w k, x ≠ .recv w k) : recvs m (x :: l) c = recvs m l c := by
  unfold recvs
  congr 1; funext p
  unfold recvR
  simp only [List.mem_cons, (h _ _).symm, false_or]

theorem copies_of (x : Op) (h : ∀ w, x ≠ .copy w ∧ x ≠ .copied w) : copies m (x :: l) c = copies m l c := by
  unfold copies
  congr 1; funext p
  unfold copyR
  simp only [List.mem_cons, (h _).1.symm, (h _).2.symm, false_or]

theorem sends_at (x : Op) (w : Fin 10) (k : Fin 7) (h : x = .send w k ∨ x = .sent w k) :
    (sends m (x :: l) c : sProp 𝕄) ⊢ iprop(sendR m (x :: l) c w k ∗ (sendR m l c w k -∗ sends m l c)) := by
  unfold sends
  refine bigSep_univ_update (Φ := fun p : Fin 10 × Fin 7 => sendR m (x :: l) c p.1 p.2) (Ψ := fun p => sendR m l c p.1 p.2) (w, k) fun p hp => ?_
  have h1 : Op.send p.1 p.2 ≠ x := by rcases h with rfl | rfl <;> simp [Prod.ext_iff] at hp ⊢; exact hp
  have h2 : Op.sent p.1 p.2 ≠ x := by rcases h with rfl | rfl <;> simp [Prod.ext_iff] at hp ⊢; exact hp
  unfold sendR
  simp only [List.mem_cons, h1, h2, false_or]

theorem recvs_at (w : Fin 10) (k : Fin 7) :
    (recvs m (.recv w k :: l) c : sProp 𝕄) ⊢ iprop(recvR m (.recv w k :: l) c w k ∗ (recvR m l c w k -∗ recvs m l c)) := by
  unfold recvs
  refine bigSep_univ_update (Φ := fun p : Fin 10 × Fin 7 => recvR m (.recv w k :: l) c p.1 p.2) (Ψ := fun p => recvR m l c p.1 p.2) (w, k) fun p hp => ?_
  have h1 : Op.recv p.1 p.2 ≠ .recv w k := by simp [Prod.ext_iff] at hp ⊢; exact hp
  unfold recvR
  simp only [List.mem_cons, h1, false_or]

theorem copies_at (x : Op) (w : Fin 10) (h : x = .copy w ∨ x = .copied w) :
    (copies m (x :: l) c : sProp 𝕄) ⊢ iprop(copyR m (x :: l) c w ∗ (copyR m l c w -∗ copies m l c)) := by
  unfold copies
  refine bigSep_univ_update (Φ := fun w => copyR m (x :: l) c w) (Ψ := fun w => copyR m l c w) w fun p hp => ?_
  have h1 : Op.copy p ≠ x := by rcases h with rfl | rfl <;> simp [hp]
  have h2 : Op.copied p ≠ x := by rcases h with rfl | rfl <;> simp [hp]
  unfold copyR
  simp only [List.mem_cons, h1, h2, false_or]

end Frame

/-! ## The steps -/

section Step
variable (l : List Op) (c : Dev nD)

variable (k : Prog (TpuEff nD τ sig (Elt F) Λ₀ .tc) PUnit)

/-- A weakest precondition of a piece of device `c`'s body. -/
abbrev wpC (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-- A wait for what cell `j` is due, at that cell's device. -/
theorem wait_due (Q : PUnit → sProp 𝕄) (j : J) (h : noSend l = true) (w : Eff F)
    (hw : ∀ K : PUnit → sProp 𝕄, wpE (defs₀ (F := F)) 𝒱₀ (c : Thread nD τ) none Set.univ w K = waitSpec (c : Thread nD τ) Set.univ (.dma (semJ j)) (N j.1) K) :
    iprop(recs m κ ∗ owesP l c ∗ due c j)
      ⊢ iprop(((owesP l c ∗ payJ m c j ∗ atPos ER (cell c j) 1 ∅ 0) -∗ wpC c k Q) -∗ wpC c (.op w fun _ => k) Q) := by
  unfold owesP due recs
  iintro ⟨⟨#Hcs, #Hlev⟩, ⟨%W, HO⟩, Hcred, Hat⟩ Hk
  ihave ⟨#HI, -⟩ := (cells_at m κ c j) $$ Hcs
  iapply (Rounds.wp_wait_rest_token 𝒱₀ ER (rd m) (c : Thread nD τ) none (κ := κ (c, j)) hw (Set.mem_univ _) () (O := owedL c l) (W := W)
      (R := 0) (m := 0) (T := ∅) (by rw [Nat.zero_add]; exact (expect_cell m c j).symm)) $$ [Hcred HO Hat]
  · isplitr; · iexact HI
    isplitl [Hcred]; · iexact Hcred
    isplitl [HO]; · iexact HO
    isplitr; · iapply (mayWait c j l h); iexact Hlev
    iexact Hat
  iintro ⟨HO, Hat, -, Hpay⟩
  ihave Hp := (Entails.of_eq (rest_cell m c j)) $$ Hpay
  iapply Hk
  isplitl [HO]; · iexists _; iexact HO
  isplitl [Hp]; · iexact Hp
  iexact Hat

/-- Filling a slot with what was sent. -/
theorem filled (w : Fin 10) (s : Fin 8) (f : Buf (Elt F) ((slot w s).view.loc (c : Thread nD τ))) :
    ((slot w s).view.loc (c : Thread nD τ) ↦[(slot w s).view.set]{fullShare} ((slot w s).view.write (Elt F) f (sent_ m w s c) Finset.univ) : sProp 𝕄)
      ⊢ fullP m c w s := by
  unfold fullP slotP
  exact Entails.of_eq (pointsTo_congr (write_sent m w c s f))

theorem start_copy (Q : PUnit → sProp 𝕄) (w : Fin 10) (f : Buf (Elt F) ((slot w c).view.loc (c : Thread nD τ))) :
    iprop(cellInv ER (rd m) (κ (c, jC w)) (cell c (jC w)) ∗ srcP m c w c ∗ slotP c w c f ∗ dutyTok ER (cell c (jC w)) 0 () ∗ reached ER (cell c (jC w)) 0)
      ⊢ iprop((cred (tallyAt (cell c (jC w)) () (N w)) -∗ wpC c k Q) -∗ wpC c (.op (eff c (.copy w)) fun _ => k) Q) := by
  have e : (eff c (.copy w) : Eff F) = .enqueueDma (src w c) (.here (slot w c)) (.dma (semJ (jC w)))
      (srcAt_exact w (at_ w c)) (slab_exact _ (isWhole_outM w) (sqz w) (at_ w c)) ⟨Or.inl rfl, trivial⟩ := rfl
  rw [e]
  unfold srcP slotP wpC
  exact Rounds.wp_copy_pointsTo 𝒱₀ ER (rd m) (c : Thread nD τ) none (k := fun _ => k) (κ := κ (c, jC w)) (r := 0) (d := ()) (fd := f)
      (mem_duties m c (jC w)) () (N w) rfl (amt_cell (jC w)) (by
        rw [payload_cell]
        exact sep_mono_left (filled m c w c f))

/-- The local copy starts. -/
theorem step_copy (Q : PUnit → sProp 𝕄) (w : Fin 10) (h : okStep (.copy w) l = true) :
    iprop(recs m κ ∗ St m (.copy w :: l) c) ⊢ iprop((St m l c -∗ wpC c k Q) -∗ wpC c (.op (eff c (.copy w)) fun _ => k) Q) := by
  have h' := of_decide_eq_true h
  unfold St recs
  rw [sends_of m l c _ (fun _ _ => ⟨by simp, by simp⟩), recvs_of m l c _ (fun _ _ => by simp)]
  iintro ⟨⟨#Hcs, -⟩, HO, HS, HR, HC⟩ Hk
  ihave ⟨#HI, #Hr⟩ := (cells_at m κ c (jC w)) $$ Hcs
  ihave ⟨Hw, Hback⟩ := (copies_at m l c _ w (.inl rfl)) $$ HC
  ihave Hw := (Entails.of_eq (copyR_start m List.mem_cons_self)) $$ Hw
  icases Hw with ⟨⟨%f, Hslot⟩, Hin, Htok, Hat⟩
  iapply (start_copy m κ c k Q w f) $$ [Hslot Hin Htok]
  · isplitr; · iexact HI
    isplitl [Hin]; · iexact Hin
    isplitl [Hslot]; · iexact Hslot
    isplitl [Htok]; · iexact Htok
    iexact Hr
  iintro Hcred
  iapply Hk
  isplitl [HO]; · iexact HO
  isplitl [HS]; · iexact HS
  isplitl [HR]; · iexact HR
  iapply Hback
  iapply (Entails.of_eq (copyR_due m h'.1 h'.2).symm)
  unfold due
  isplitl [Hcred]; · iexact Hcred
  iexact Hat

/-- The local copy is waited for. -/
theorem step_copied (Q : PUnit → sProp 𝕄) (w : Fin 10) (h : okStep (.copied w) l = true) :
    iprop(recs m κ ∗ St m (.copied w :: l) c) ⊢ iprop((St m l c -∗ wpC c k Q) -∗ wpC c (.op (eff c (.copied w)) fun _ => k) Q) := by
  have h' := of_decide_eq_true (Bool.and_eq_true_iff.mp h).1
  have ha := (Bool.and_eq_true_iff.mp h).2
  unfold St
  rw [sends_of m l c _ (fun _ _ => ⟨by simp, by simp⟩), recvs_of m l c _ (fun _ _ => by simp)]
  iintro ⟨#Hrec, HO, HS, HR, HC⟩ Hk
  ihave ⟨Hw, Hback⟩ := (copies_at m l c _ w (.inr rfl)) $$ HC
  ihave Hw := (Entails.of_eq (copyR_due m (by simpa using h'.2) List.mem_cons_self)) $$ Hw
  iapply (wait_due m κ l c k Q (jC w) ha (eff c (.copied w)) (fun _ => rfl)) $$ [HO Hw]
  · isplitr; · iexact Hrec
    isplitl [HO]; · iexact HO
    iexact Hw
  iintro ⟨HO, Hp⟩
  iapply Hk
  isplitl [HO]; · iexact HO
  isplitl [HS]; · iexact HS
  isplitl [HR]; · iexact HR
  iapply Hback
  iapply (Entails.of_eq (copyR_done m h'.2 h'.1).symm)
  iexact Hp

/-- The end of a copy's reading is waited for. -/
theorem step_sent (Q : PUnit → sProp 𝕄) (w : Fin 10) (i : Fin 7) (h : okStep (.sent w i) l = true) :
    iprop(recs m κ ∗ St m (.sent w i :: l) c) ⊢ iprop((St m l c -∗ wpC c k Q) -∗ wpC c (.op (eff c (.sent w i)) fun _ => k) Q) := by
  have h' := of_decide_eq_true (Bool.and_eq_true_iff.mp h).1
  have ha := (Bool.and_eq_true_iff.mp h).2
  unfold St
  rw [copies_of m l c _ (fun _ => ⟨by simp, by simp⟩), recvs_of m l c _ (fun _ _ => by simp)]
  iintro ⟨#Hrec, HO, HS, HR, HC⟩ Hk
  ihave ⟨Hw, Hback⟩ := (sends_at m l c _ w i (.inr rfl)) $$ HS
  ihave Hw := (Entails.of_eq (sendR_due m (by simpa using h'.2) List.mem_cons_self)) $$ Hw
  iapply (wait_due m κ l c k Q (jS w i) ha (eff c (.sent w i)) (fun _ => rfl)) $$ [HO Hw]
  · isplitr; · iexact Hrec
    isplitl [HO]; · iexact HO
    iexact Hw
  iintro ⟨HO, Hp⟩
  iapply Hk
  isplitl [HO]; · iexact HO
  isplitl [Hback Hp]
  · iapply Hback
    iapply (Entails.of_eq (sendR_done m h'.2 h'.1).symm)
    iexact Hp
  isplitl [HR]; · iexact HR
  iexact HC

/-- What a copy brings is waited for. -/
theorem step_recv (Q : PUnit → sProp 𝕄) (w : Fin 10) (i : Fin 7) (h : okStep (.recv w i) l = true) :
    iprop(recs m κ ∗ St m (.recv w i :: l) c) ⊢ iprop((St m l c -∗ wpC c k Q) -∗ wpC c (.op (eff c (.recv w i)) fun _ => k) Q) := by
  have h' : .recv w i ∉ l := of_decide_eq_true (Bool.and_eq_true_iff.mp h).1
  have ha := (Bool.and_eq_true_iff.mp h).2
  unfold St
  rw [copies_of m l c _ (fun _ => ⟨by simp, by simp⟩), sends_of m l c _ (fun _ _ => ⟨by simp, by simp⟩)]
  iintro ⟨#Hrec, HO, HS, HR, HC⟩ Hk
  ihave ⟨Hw, Hback⟩ := (recvs_at m l c w i) $$ HR
  ihave Hw := (Entails.of_eq (recvR_due m List.mem_cons_self)) $$ Hw
  iapply (wait_due m κ l c k Q (jR w i) ha (eff c (.recv w i)) (fun _ => rfl)) $$ [HO Hw]
  · isplitr; · iexact Hrec
    isplitl [HO]; · iexact HO
    iexact Hw
  iintro ⟨HO, Hp⟩
  iapply Hk
  isplitl [HO]; · iexact HO
  isplitl [HS]; · iexact HS
  isplitl [Hback Hp]
  · iapply Hback
    iapply (Entails.of_eq (recvR_held m h').symm)
    iexact Hp
  iexact HC

/-- What the peer of copy `i` is handed: the slot, filled. -/
theorem landed (w : Fin 10) (i : Fin 7) (f : Buf (Elt F) ((slot w c).view.loc (pr i c : Thread nD τ))) :
    ((slot w c).view.loc (pr i c : Thread nD τ) ↦[(slot w c).view.set]{fullShare}
        ((slot w c).view.write (Elt F) f (sent_ m w c (pr i c)) Finset.univ) : sProp 𝕄)
      ⊢ (rd (F := F) m).payload (cell (pr i c) (jR w i)) 0 () := by
  rw [payload_cell]
  show _ ⊢ fullP m (pr i c) w (pr i (pr i c))
  rw [pr_pr]
  exact filled m (pr i c) w c f

/-- The copy to a peer starts. -/
theorem start_send (Q : PUnit → sProp 𝕄) (w : Fin 10) (i : Fin 7) (W : Waits sig Unit)
    (f : Buf (Elt F) ((slot w c).view.loc (pr i c : Thread nD τ))) :
    iprop(cellInv ER (rd m) (κ (c, jS w i)) (cell c (jS w i)) ∗ cellInv ER (rd m) (κ (pr i c, jR w i)) (cell (pr i c) (jR w i))
        ∗ srcP m c w (pr i c) ∗ slotP (pr i c) w c f ∗ owes (c : Thread nD τ) (owedL c (.send w i :: l)) W
        ∗ dutyTok ER (cell c (jS w i)) 0 () ∗ reached ER (cell c (jS w i)) 0
        ∗ dutyTok ER (cell (pr i c) (jR w i)) 0 () ∗ reached ER (cell (pr i c) (jR w i)) 0)
      ⊢ iprop(((cred (tallyAt (cell c (jS w i)) () (N w)) ∗ owes (c : Thread nD τ) (owedL c l) W) -∗ wpC c k Q)
          -∗ wpC c (.op (eff c (.send w i)) fun _ => k) Q) := by
  have e : (eff c (.send w i) : Eff F) = .enqueueDma (src w (pr i c)) (.remote (pr i c).tc (slot w c) (.dma (semJ (jS w i))) rfl) (.dma (semJ (jR w i)))
      (srcAt_exact w (at_ w (pr i c))) (slab_exact _ (isWhole_outM w) (sqz w) (at_ w c)) ⟨⟨rfl, Or.inl rfl⟩, trivial⟩ := rfl
  rw [e]
  unfold srcP slotP wpC
  exact Rounds.wp_send_pointsTo 𝒱₀ ER (rd m) (c : Thread nD τ) none (k := fun _ => k) (κ₁ := κ (c, jS w i)) (κ₂ := κ (pr i c, jR w i))
    (r₁ := 0) (r₂ := 0) (d₁ := ()) (d₂ := ()) (fd := f)
    (mem_duties m c (jS w i)) (mem_duties m (pr i c) (jR w i)) () () (N w) rfl (amt_cell (jS w i)) (amt_cell (jR w i)) (owedL c l) rfl (W := W)
    (by
      rw [payload_cell]
      exact BI.Entails.refl _)
    (landed m c w i f)

/-- A copy to another device starts. -/
theorem step_send (Q : PUnit → sProp 𝕄) (w : Fin 10) (i : Fin 7) (h : okStep (.send w i) l = true) :
    iprop(recs m κ ∗ St m (.send w i :: l) c) ⊢ iprop((St m l c -∗ wpC c k Q) -∗ wpC c (.op (eff c (.send w i)) fun _ => k) Q) := by
  obtain ⟨hs, ht⟩ := of_decide_eq_true h
  unfold St recs owesP
  rw [copies_of m l c _ (fun _ => ⟨by simp, by simp⟩), recvs_of m l c _ (fun _ _ => by simp)]
  iintro ⟨⟨#Hcs, -⟩, ⟨%W, HO⟩, HS, HR, HC⟩ Hk
  ihave ⟨#HI, #Hr⟩ := (cells_at m κ c (jS w i)) $$ Hcs
  ihave ⟨#HI', #Hr'⟩ := (cells_at m κ (pr i c) (jR w i)) $$ Hcs
  ihave ⟨Hw, Hback⟩ := (sends_at m l c _ w i (.inl rfl)) $$ HS
  ihave Hw := (Entails.of_eq (sendR_start m List.mem_cons_self)) $$ Hw
  icases Hw with ⟨⟨%f, Hslot⟩, Htok, Htok', Hat, Hsrc⟩
  iapply (start_send m κ l c k Q w i W f) $$ [Hslot Hsrc HO Htok Htok']
  · isplitr; · iexact HI
    isplitr; · iexact HI'
    isplitl [Hsrc]; · iexact Hsrc
    isplitl [Hslot]; · iexact Hslot
    isplitl [HO]; · iexact HO
    isplitl [Htok]; · iexact Htok
    isplitr; · iexact Hr
    isplitl [Htok']; · iexact Htok'
    iexact Hr'
  iintro ⟨Hcred, HO⟩
  iapply Hk
  isplitl [HO]; · iexists W; iexact HO
  isplitl [Hback Hcred Hat]
  · iapply Hback
    iapply (Entails.of_eq (sendR_due m hs ht).symm)
    unfold due
    isplitl [Hcred]; · iexact Hcred
    iexact Hat
  isplitl [HR]; · iexact HR
  iexact HC

/-- Every operation's step. -/
theorem step (Q : PUnit → sProp 𝕄) : ∀ (x : Op) (_ : okStep x l = true),
    iprop(recs m κ ∗ St m (x :: l) c) ⊢ iprop((St m l c -∗ wpC c k Q) -∗ wpC c (.op (eff c x) fun _ => k) Q)
  | .copy w, h => step_copy m κ l c k Q w h
  | .send w i, h => step_send m κ l c k Q w i h
  | .recv w i, h => step_recv m κ l c k Q w i h
  | .sent w i, h => step_sent m κ l c k Q w i h
  | .copied w, h => step_copied m κ l c k Q w h

end Step

/-- A whole list of operations, run one after the other. -/
theorem run_list (c : Dev nD) (Q : PUnit → sProp 𝕄) : ∀ (l : List Op) (_ : okAll l = true),
    iprop(recs m κ ∗ St m l c) ⊢ iprop((St m [] c -∗ Q ⟨⟩) -∗ wpC c (prog c l) Q)
  | [], _ => by
    show _ ⊢ iprop((St m [] c -∗ Q ⟨⟩) -∗ wp frame (wpE (defs₀ (F := F)) 𝒱₀ (c : Thread nD τ) none) Set.univ (.ret ⟨⟩) Q)
    rw [wp_ret]
    iintro ⟨-, HS⟩ Hk
    imodintro
    iapply Hk
    iexact HS
  | x :: l, h => by
    obtain ⟨h₁, h₂⟩ := Bool.and_eq_true_iff.mp h
    show _ ⊢ iprop((St m [] c -∗ Q ⟨⟩) -∗ wpC c (.op (eff c x) fun _ => prog c l) Q)
    iintro ⟨#Hrec, HS⟩ Hk
    iapply (step m κ l c (prog c l) Q x h₁) $$ [HS]
    · isplitr; · iexact Hrec
      iexact HS
    iintro HS
    iapply (run_list c Q l h₂) $$ [HS]
    · isplitr; · iexact Hrec
      iexact HS
    iexact Hk

end Cert.ScatterIdeal.Exchange

end
-- ==== Proof.ScatterDeal.lean ====
/- What is dealt to the devices, and what they give back.

   The arrays come as whole buffers and go to the devices slot by slot: device `c` starts with its own slot of its own
   outputs and, in each peer's outputs, the slot its copy to that peer fills (`swap`).  A receive cell's token goes to
   the peer that credits it, its credit to its device (`creds`).  At the end a device has every slot of its outputs,
   filled, and every share of its inputs (`rest_end`), and its semaphores are at zero (`close`). -/
module

public import proofs.«01_k».proof.Proof.ScatterSteps

@[expose] public section

noncomputable section

namespace Cert.ScatterIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ScatterIdeal Facts₀ Facts

variable {F : FTy → Type} [FloatOps F]

local notation "𝕄" => MT nD τ sig Unit (Elt F) ℕ UU ℕ

variable (m : (ℓ : Loc nD τ sig) → Buf (Elt F) ℓ)

/-! ## Sums over the cells -/

omit [FloatOps F] in
theorem sumUnit (Φ : Unit → sProp 𝕄) : bigSep Finset.univ Φ = Φ () :=
  bigSep_univ_eq_bigSepL [()] (by decide) (by decide) Φ

omit [FloatOps F] in
/-- A device's cells are its send cells, its receive cells and the local copies'. -/
theorem sumJ (Φ : J → sProp 𝕄) : bigSep Finset.univ Φ
    = iprop((bigSep Finset.univ fun p : Fin 10 × Fin 7 => Φ (jS p.1 p.2)) ∗ (bigSep Finset.univ fun p : Fin 10 × Fin 7 => Φ (jR p.1 p.2))
      ∗ bigSep Finset.univ fun w : Fin 10 => Φ (jC w)) := by
  rw [bigSep_univ_prod, bigSep_univ_prod (fun p : Fin 10 × Fin 7 => Φ (jS p.1 p.2)), bigSep_univ_prod (fun p : Fin 10 × Fin 7 => Φ (jR p.1 p.2)),
    ← bigSep_sep', ← bigSep_sep']
  refine bigSep_congr fun w _ => ?_
  rw [bigSep_univ_sum, bigSep_univ_sum, sumUnit]
  rfl

/-- Each copy's peers, paired. -/
def peer : Dev nD × (Fin 10 × Fin 7) ≃ Dev nD × (Fin 10 × Fin 7) where
  toFun x := (pr x.2.2 x.1, x.2)
  invFun x := (pr x.2.2 x.1, x.2)
  left_inv x := Prod.ext (pr_pr _ _) rfl
  right_inv x := Prod.ext (pr_pr _ _) rfl

omit [FloatOps F] in
/-- What is at each device for each copy, dealt to that copy's peer. -/
theorem swap (Φ : Dev nD → Fin 10 × Fin 7 → sProp 𝕄) :
    (bigSep Finset.univ fun c => bigSep Finset.univ fun p => Φ c p) = bigSep Finset.univ fun c => bigSep Finset.univ fun p => Φ (pr p.2 c) p := by
  rw [← bigSep_univ_prod (fun x : Dev nD × (Fin 10 × Fin 7) => Φ x.1 x.2), bigSep_univ_equiv peer, bigSep_univ_prod]
  rfl

/-! ## The arrays -/

/-- Device `c`'s output `w`, whole, holding `f`. -/
def outP (c : Dev nD) (w : Fin 10) (f : Buf (Elt F) ((outM w).view.loc (c : Thread nD τ))) : sProp 𝕄 :=
  (outM w).view.loc (c : Thread nD τ) ↦{fullShare} f

theorem slots_of : ∀ c : Fin 8, (Finset.univ : Finset (Fin 8)) = insert c (Finset.univ.image fun k : Fin 7 => pr k c) := by decide
theorem own_notMem : ∀ c : Fin 8, c ∉ Finset.univ.image fun k : Fin 7 => pr k c := by decide
theorem pr_inj : ∀ (c : Fin 8) (k k' : Fin 7), pr k c = pr k' c → k = k' := by decide

omit [FloatOps F] in
/-- A sum over the eight slots: the own one and the peers'. -/
theorem sum_slots (c : Dev nD) (Φ : Fin 8 → sProp 𝕄) : bigSep Finset.univ Φ = iprop(Φ c ∗ bigSep Finset.univ fun k : Fin 7 => Φ (pr k c)) := by
  refine (congrArg (fun S => bigSep S Φ) (slots_of c)).trans ?_
  refine (bigSep_insert (own_notMem c)).trans ?_
  exact congrArg (fun X => iprop(Φ c ∗ X)) (bigSep_image_of_injOn (fun k _ k' _ h => pr_inj c k k' h) _)

omit [FloatOps F] in
/-- A stack of eight, whole, is its slabs. -/
theorem stack_split {e : EltTy} {r n : ℕ} (A : Memref sig .tc .hbm (St8 r n) e) (hs : (Sl r n).Squeezes (Sq r n))
    (hA : ∀ i : A.view.ty.Idx, ∃ j, A.view.emb j = i) (at' : Fin 8 → Cut e r n) (hat : ∀ s, (at' s).off = offs s)
    (c : Dev nD) (f : Buf (Elt F) (A.view.loc (c : Thread nD τ))) : (A.view.loc (c : Thread nD τ) ↦{fullShare} f : sProp 𝕄)
    = bigSep Finset.univ fun s : Fin 8 => (A.view.loc (c : Thread nD τ) ↦[slabSet A hs (at' s)]{fullShare} f : sProp 𝕄) := by
  have hb := pointsTo_biUnion (Ix := Unit) (Name := ℕ) (U := UU) (Lvl := ℕ) (Val := Elt F) (ℓ := A.view.loc (c : Thread nD τ)) (q := fullShare) (f := f)
    Finset.univ (fun s => slabSet A hs (at' s)) (fun s _ t _ h => slab_disjoint A hs hA at' hat s t h)
  refine Eq.trans (congrArg (fun S => (A.view.loc (c : Thread nD τ) ↦[S]{fullShare} f : sProp 𝕄)) ?_) hb
  refine (Finset.eq_univ_of_forall fun i => ?_).symm
  obtain ⟨s, -, hs'⟩ := Finset.mem_biUnion.mp (slab_cover A hs hA at' hat ▸ Finset.mem_univ i)
  exact Finset.mem_biUnion.mpr ⟨s, Finset.mem_univ s, hs'⟩

omit [FloatOps F] in
/-- An output's slots: the own one and the one of each copy to be received. -/
theorem out_split (c : Dev nD) (w : Fin 10) (f : Buf (Elt F) ((outM w).view.loc (c : Thread nD τ))) : (outP c w f : sProp 𝕄)
    = iprop(slotP c w c f ∗ bigSep Finset.univ fun k : Fin 7 => slotP c w (pr k c) f) :=
  (stack_split (outM w) (sqz w) (emb_surj w) (at_ w) (fun _ => rfl) c f).trans (sum_slots c fun s => slotP c w s f)

/-- The inputs. -/
def argB : Fin 10 → Ref sig .tc
  | 0 => main_arg0
  | 1 => main_arg1
  | 2 => main_arg2
  | 3 => main_arg3
  | 4 => main_arg4
  | 5 => main_arg5
  | 6 => main_arg6
  | 7 => main_arg7
  | 8 => main_arg8
  | 9 => main_arg9

/-- Device `c`'s input `w`, whole. -/
def argP (c : Dev nD) (w : Fin 10) : sProp 𝕄 := (c : Thread nD τ).loc (argB w) ↦{fullShare} m ((c : Thread nD τ).loc (argB w))

omit [FloatOps F] in
/-- Of a whole array, the shares of eight readers. -/
theorem eighths (ℓ : Loc nD τ sig) (S : Finset ℓ.ty.Idx) (f : Buf (Elt F) ℓ) :
    (ℓ ↦[S]{fullShare} f : sProp 𝕄) = bigSep Finset.univ fun s : Fin 8 => (ℓ ↦[S]{q8 s} f : sProp 𝕄) := by
  have h (q : PosShare TreeShare) : (ℓ ↦[S]{q} f : sProp 𝕄) = iprop((ℓ ↦[S]{q.left} f) ∗ (ℓ ↦[S]{q.right} f)) :=
    BI.Entails.antisymm (pointsTo_share (PosShare.mem_left_op_right q)).1 (pointsTo_share (PosShare.mem_left_op_right q)).2
  have assoc (P Q R : sProp 𝕄) : iprop((P ∗ Q) ∗ R) = iprop(P ∗ Q ∗ R) := BI.Entails.antisymm BI.sep_assoc BI.sep_assoc'
  rw [bigSep_univ_eq_bigSepL [0, 1, 2, 3, 4, 5, 6, 7] (by decide) (by decide),
    h fullShare, h fullShare.left, h fullShare.right, h fullShare.left.left, h fullShare.left.right, h fullShare.right.left, h fullShare.right.right]
  simp only [assoc]
  rfl

omit [FloatOps F] in
/-- An input is what is read of it for the eight slots. -/
theorem arg_split (c : Dev nD) : ∀ w : Fin 10, (argP m c w : sProp 𝕄) = bigSep Finset.univ fun s : Fin 8 => srcP m c w s
  | 0 => (congrArg (fun S => ((c : Thread nD τ).loc main_arg0 ↦[S]{fullShare} m ((c : Thread nD τ).loc main_arg0) : sProp 𝕄)) (View.set_whole main_arg0).symm).trans
      (eighths _ _ _)
  | 1 => stack_split (Memref.whole main_arg1) (sqz 1) (fun i => ⟨i, rfl⟩) (at_ 1) (fun _ => rfl) c _
  | 2 => stack_split (Memref.whole main_arg2) (sqz 2) (fun i => ⟨i, rfl⟩) (at_ 2) (fun _ => rfl) c _
  | 3 => stack_split (Memref.whole main_arg3) (sqz 3) (fun i => ⟨i, rfl⟩) (at_ 3) (fun _ => rfl) c _
  | 4 => stack_split (Memref.whole main_arg4) (sqz 4) (fun i => ⟨i, rfl⟩) (at_ 4) (fun _ => rfl) c _
  | 5 => stack_split (Memref.whole main_arg5) (sqz 5) (fun i => ⟨i, rfl⟩) (at_ 5) (fun _ => rfl) c _
  | 6 => stack_split (Memref.whole main_arg6) (sqz 6) (fun i => ⟨i, rfl⟩) (at_ 6) (fun _ => rfl) c _
  | 7 => stack_split (Memref.whole main_arg7) (sqz 7) (fun i => ⟨i, rfl⟩) (at_ 7) (fun _ => rfl) c _
  | 8 => stack_split (Memref.whole main_arg8) (sqz 8) (fun i => ⟨i, rfl⟩) (at_ 8) (fun _ => rfl) c _
  | 9 => stack_split (Memref.whole main_arg9) (sqz 9) (fun i => ⟨i, rfl⟩) (at_ 9) (fun _ => rfl) c _

omit [FloatOps F] in
/-- An input's readers: the copies to the peers and the local copy. -/
theorem in_deal (c : Dev nD) (w : Fin 10) : (argP m c w : sProp 𝕄)
    = iprop(srcP m c w c ∗ bigSep Finset.univ fun k : Fin 7 => srcP m c w (pr k c)) :=
  (arg_split m c w).trans (sum_slots c fun s => srcP m c w s)

/-! ## The credit -/

/-- What each device owes when it starts. -/
def O₀ (c : Dev nD) : CellTallies nD τ sig Unit := owedL c ops

/-- What the operations `l` of device `d` owe a receive cell. -/
theorem owedL_recv (d c : Dev nD) (w : Fin 10) (k : Fin 7) : ∀ l : List Op,
    owedL d l (cell c (jR w k)) () = if d = pr k c then l.count (.send w k) * N w else 0
  | [] => by split <;> simp [owedL]
  | .send w' k' :: l => by
    unfold owedL
    rw [Pi.add_apply, Finsupp.add_apply, owedL_recv d c w k l, tallyAt_apply]
    by_cases h : w' = w ∧ k' = k
    · obtain ⟨rfl, rfl⟩ := h
      by_cases hd : d = pr k' c
      · subst hd
        rw [if_pos rfl, if_pos rfl, if_pos ⟨by rw [pr_pr], rfl⟩, List.count_cons_self, Nat.succ_mul]
      · rw [if_neg hd, if_neg hd, if_neg fun h => hd (by rw [(cell_inj h.1).1, pr_pr])]
    · have e : (Op.send w' k' == .send w k) = false := by
        refine beq_false_of_ne fun h' => h ?_
        exact Op.send.inj h'
      have hn : ¬(cell c (jR w k) = cell (pr k' d) (w', .inr (.inl k')) ∧ () = ()) := fun h' => by
        have ej : jR w k = (w', .inr (.inl k')) := (cell_inj h'.1).2
        have h1 : w = w' := congrArg Prod.fst ej
        have h2 : k = k' := Sum.inl.inj (Sum.inr.inj (congrArg Prod.snd ej))
        exact h ⟨h1.symm, h2.symm⟩
      rw [if_neg hn, Nat.add_zero, List.count_cons, e]
      rfl
  | .copy _ :: l => (owedL_recv d c w k l).trans (by rw [List.count_cons_of_ne (by simp)])
  | .recv _ _ :: l => (owedL_recv d c w k l).trans (by rw [List.count_cons_of_ne (by simp)])
  | .sent _ _ :: l => (owedL_recv d c w k l).trans (by rw [List.count_cons_of_ne (by simp)])
  | .copied _ :: l => (owedL_recv d c w k l).trans (by rw [List.count_cons_of_ne (by simp)])

theorem count_ops : ∀ (w : Fin 10) (k : Fin 7), ops.count (.send w k) = 1 := by decide

theorem launch_recv (c : Dev nD) (w : Fin 10) (k : Fin 7) :
    tallyOn (cell c (jR w k)) (launchCredit (Pipeline.owing O₀) 0 (cell c (jR w k))) = (tallyAt (cell c (jR w k)) () (N w) : CellTallies nD τ sig Unit) := by
  unfold tallyAt
  refine congrArg _ (Finsupp.ext fun u => ?_)
  cases u
  rw [Pipeline.launchCredit_owing, Finsupp.single_eq_same]
  refine (Finset.sum_congr rfl fun d _ => owedL_recv d c w k ops).trans ?_
  rw [Finset.sum_ite_eq' Finset.univ (pr k c) fun _ => _, if_pos (Finset.mem_univ _), count_ops, Nat.one_mul]

def recvE : Fin 10 × Fin 7 ↪ SemLoc sig :=
  ⟨fun p => .dma (semJ (jR p.1 p.2)), fun p q h => by
    have e : jR p.1 p.2 = jR q.1 q.2 := semJ_inj (SemLoc.dma.inj h)
    exact Prod.ext (Prod.mk.inj e).1 (Sum.inl.inj (Sum.inr.inj (Prod.mk.inj e).2))⟩

omit [FloatOps F] in
/-- The credit of each receive cell. -/
theorem creds (c : Dev nD) : (Pipeline.launchCred O₀ c : sProp 𝕄)
    ⊢ bigSep Finset.univ fun p : Fin 10 × Fin 7 => cred (tallyAt (cell c (jR p.1 p.2)) () (N p.1)) := by
  unfold Pipeline.launchCred
  refine (bigSep_subset (Finset.subset_univ (Finset.univ.map recvE))).trans ?_
  rw [bigSep_map]
  exact bigSep_mono fun p _ => Entails.of_eq (congrArg cred (launch_recv c p.1 p.2))

/-! ## The start -/

/-- A slot, holding anything. -/
def anyP (c : Dev nD) (w : Fin 10) (s : Fin 8) : sProp 𝕄 := iprop(∃ f, slotP c w s f)

omit [FloatOps F] in
theorem any_of (c : Dev nD) (w : Fin 10) (s : Fin 8) (f : Buf (Elt F) ((slot w s).view.loc (c : Thread nD τ))) : (slotP c w s f : sProp 𝕄) ⊢ anyP c w s := by
  unfold anyP
  iintro H
  iexists f
  iexact H

omit [FloatOps F] in
/-- A device's outputs, slot by slot. -/
theorem outs_slots (c : Dev nD) : (bigSep Finset.univ fun w : Fin 10 => outP c w (m ((outM w).view.loc (c : Thread nD τ))) : sProp 𝕄)
    ⊢ iprop((bigSep Finset.univ fun w : Fin 10 => anyP c w c) ∗ bigSep Finset.univ fun p : Fin 10 × Fin 7 => anyP c p.1 (pr p.2 c)) := by
  rw [bigSep_univ_prod (fun p : Fin 10 × Fin 7 => (anyP c p.1 (pr p.2 c) : sProp 𝕄)), ← bigSep_sep']
  refine bigSep_mono fun w _ => ?_
  rw [out_split]
  exact BI.sep_mono (any_of c w c _) (bigSep_mono fun k _ => any_of c w (pr k c) _)

omit [FloatOps F] in
/-- Every device's outputs, dealt: to each its own slots and the slots its copies fill. -/
theorem outs_deal : (bigSep Finset.univ fun c : Dev nD => bigSep Finset.univ fun w : Fin 10 => outP c w (m ((outM w).view.loc (c : Thread nD τ))) : sProp 𝕄)
    ⊢ iprop((bigSep Finset.univ fun c : Dev nD => bigSep Finset.univ fun w : Fin 10 => anyP c w c)
      ∗ bigSep Finset.univ fun c : Dev nD => bigSep Finset.univ fun p : Fin 10 × Fin 7 => anyP (pr p.2 c) p.1 c) := by
  refine (bigSep_mono fun c _ => outs_slots m c).trans ?_
  rw [bigSep_sep', swap fun c p => anyP c p.1 (pr p.2 c)]
  have e : (fun c : Dev nD => bigSep Finset.univ fun p : Fin 10 × Fin 7 => (anyP (pr p.2 c) p.1 (pr p.2 (pr p.2 c)) : sProp 𝕄))
      = fun c => bigSep Finset.univ fun p : Fin 10 × Fin 7 => anyP (pr p.2 c) p.1 c := by
    funext c
    exact bigSep_congr fun p _ => by rw [pr_pr]
  rw [e]
  exact BI.Entails.refl _

omit [FloatOps F] in
/-- Every device's inputs, dealt reader by reader. -/
theorem ins_deal (c : Dev nD) : (bigSep Finset.univ fun w : Fin 10 => argP m c w : sProp 𝕄)
    ⊢ iprop((bigSep Finset.univ fun w : Fin 10 => srcP m c w c) ∗ bigSep Finset.univ fun p : Fin 10 × Fin 7 => srcP m c p.1 (pr p.2 c)) := by
  rw [bigSep_univ_prod (fun p : Fin 10 × Fin 7 => (srcP m c p.1 (pr p.2 c) : sProp 𝕄)), ← bigSep_sep']
  exact bigSep_mono fun w _ => Entails.of_eq (in_deal m c w)

theorem send_mem : ∀ (w : Fin 10) (k : Fin 7), .send w k ∈ ops := by decide
theorem recv_mem : ∀ (w : Fin 10) (k : Fin 7), .recv w k ∈ ops := by decide
theorem copy_mem : ∀ w : Fin 10, .copy w ∈ ops := by decide

/-- A cell's token. -/
abbrev tok (c : Dev nD) (j : J) : sProp 𝕄 := dutyTok ER (cell c j) 0 ()
/-- A cell's owner's position, at the start. -/
abbrev at0 (c : Dev nD) (j : J) : sProp 𝕄 := atPos ER (cell c j) 0 ∅ 0

/-- What device `c`'s copies start with. -/
def held (c : Dev nD) : sProp 𝕄 := iprop(sends m ops c ∗ recvs m ops c ∗ copies m ops c)

theorem held_intro (c : Dev nD) :
    iprop((bigSep Finset.univ fun p : Fin 10 × Fin 7 => anyP (pr p.2 c) p.1 c) ∗ (bigSep Finset.univ fun w : Fin 10 => anyP c w c)
      ∗ (bigSep Finset.univ fun p : Fin 10 × Fin 7 => tok c (jS p.1 p.2)) ∗ (bigSep Finset.univ fun p : Fin 10 × Fin 7 => tok (pr p.2 c) (jR p.1 p.2))
      ∗ (bigSep Finset.univ fun w : Fin 10 => tok c (jC w)) ∗ (bigSep Finset.univ fun j => at0 c j)
      ∗ (bigSep Finset.univ fun w : Fin 10 => argP m c w) ∗ Pipeline.launchCred O₀ c) ⊢ held m c := by
  have hS : sends m ops c = (bigSep Finset.univ fun p : Fin 10 × Fin 7 => iprop(anyP (pr p.2 c) p.1 c ∗ tok c (jS p.1 p.2) ∗ tok (pr p.2 c) (jR p.1 p.2)
      ∗ at0 c (jS p.1 p.2) ∗ srcP m c p.1 (pr p.2 c))) :=
    bigSep_congr fun p _ => sendR_start m (send_mem p.1 p.2)
  have hR : recvs m ops c = (bigSep Finset.univ fun p : Fin 10 × Fin 7 => iprop(cred (tallyAt (cell c (jR p.1 p.2)) () (N p.1)) ∗ at0 c (jR p.1 p.2))) :=
    bigSep_congr fun p _ => recvR_due m (recv_mem p.1 p.2)
  have hC : copies m ops c = (bigSep Finset.univ fun w : Fin 10 => iprop(anyP c w c ∗ srcP m c w c ∗ tok c (jC w) ∗ at0 c (jC w))) :=
    bigSep_congr fun w _ => copyR_start m (copy_mem w)
  unfold held
  rw [hS, hR, hC, sumJ]
  simp only [bigSep_sep']
  iintro ⟨Hpeer, Hown, HtS, HtR, HtC, ⟨HaS, HaR, HaC⟩, Hin, Hcr⟩
  ihave ⟨Hin', Hin⟩ := (ins_deal m c) $$ Hin
  ihave Hcr := (creds c) $$ Hcr
  isplitl [Hpeer HtS HtR HaS Hin]
  · isplitl [Hpeer]; · iexact Hpeer
    isplitl [HtS]; · iexact HtS
    isplitl [HtR]; · iexact HtR
    isplitl [HaS]; · iexact HaS
    iexact Hin
  isplitl [Hcr HaR]
  · isplitl [Hcr]; · iexact Hcr
    iexact HaR
  isplitl [Hown]; · iexact Hown
  isplitl [Hin']; · iexact Hin'
  isplitl [HtC]; · iexact HtC
  iexact HaC

/-- Everything there is at the start, dealt to the devices. -/
theorem deal :
    iprop((bigSep Finset.univ fun c : Dev nD => bigSep Finset.univ fun w : Fin 10 => outP c w (m ((outM w).view.loc (c : Thread nD τ))))
      ∗ (bigSep Finset.univ fun c : Dev nD => bigSep Finset.univ fun w : Fin 10 => argP m c w)
      ∗ (bigSep Finset.univ fun c : Dev nD => bigSep Finset.univ fun j => tok c j)
      ∗ (bigSep Finset.univ fun c : Dev nD => bigSep Finset.univ fun j => at0 c j)
      ∗ (bigSep Finset.univ fun c : Dev nD => Pipeline.launchCred O₀ c)) ⊢ bigSep Finset.univ fun c : Dev nD => held m c := by
  have hT : (bigSep Finset.univ fun c : Dev nD => bigSep Finset.univ fun j => (tok c j : sProp 𝕄))
      = iprop((bigSep Finset.univ fun c : Dev nD => bigSep Finset.univ fun p : Fin 10 × Fin 7 => tok c (jS p.1 p.2))
        ∗ (bigSep Finset.univ fun c : Dev nD => bigSep Finset.univ fun p : Fin 10 × Fin 7 => tok (pr p.2 c) (jR p.1 p.2))
        ∗ (bigSep Finset.univ fun c : Dev nD => bigSep Finset.univ fun w : Fin 10 => tok c (jC w))) := by
    rw [← swap fun c p => tok c (jR p.1 p.2), ← bigSep_sep', ← bigSep_sep']
    exact bigSep_congr fun c _ => sumJ _
  rw [hT]
  have hall := bigSep_mono (s := Finset.univ) fun (c : Dev nD) _ => held_intro m c
  simp only [bigSep_sep'] at hall
  iintro ⟨Hout, Hin, ⟨HtS, HtR, HtC⟩, Hat, Hcr⟩
  ihave ⟨Hown, Hpeer⟩ := (outs_deal m) $$ Hout
  iapply (show iprop(_ ∗ _) ⊢ (bigSep Finset.univ fun c : Dev nD => held m c) from hall)
  isplitl [Hpeer]; · iexact Hpeer
  isplitl [Hown]; · iexact Hown
  isplitl [HtS]; · iexact HtS
  isplitl [HtR]; · iexact HtR
  isplitl [HtC]; · iexact HtC
  isplitl [Hat]; · iexact Hat
  isplitl [Hin]; · iexact Hin
  iexact Hcr

/-! ## The end -/

/-- A cell's owner's position after the wait. -/
abbrev at1 (c : Dev nD) (j : J) : sProp 𝕄 := atPos ER (cell c j) 1 ∅ 0

/-- What the sends, the receives and the local copy of one array leave: its input and its output, whole. -/
theorem whole_again (c : Dev nD) (w : Fin 10) :
    iprop((bigSep Finset.univ fun k : Fin 7 => payJ m c (jS w k)) ∗ (bigSep Finset.univ fun k : Fin 7 => payJ m c (jR w k)) ∗ payJ m c (jC w))
      ⊢ iprop(argP m c w ∗ outP c w (made m w c)) := by
  have e : (outP c w (made m w c) : sProp 𝕄) = iprop(fullP m c w c ∗ bigSep Finset.univ fun k : Fin 7 => fullP m c w (pr k c)) :=
    out_split c w (made m w c)
  rw [e, in_deal]
  show iprop((bigSep Finset.univ fun k : Fin 7 => srcP m c w (pr k c)) ∗ (bigSep Finset.univ fun k : Fin 7 => fullP m c w (pr k c)) ∗ fullP m c w c ∗ srcP m c w c) ⊢ _
  iintro ⟨Hs, Hr, Hc, Hi⟩
  isplitl [Hs Hi]
  · isplitl [Hi]; · iexact Hi
    iexact Hs
  isplitl [Hc]; · iexact Hc
  iexact Hr

theorem rest_end (c : Dev nD) : iprop(sends m [] c ∗ recvs m [] c ∗ copies m [] c)
    ⊢ iprop((bigSep Finset.univ fun w : Fin 10 => iprop(argP m c w ∗ outP c w (made m w c))) ∗ bigSep Finset.univ fun j => at1 c j) := by
  have hS : sends m [] c = (bigSep Finset.univ fun p : Fin 10 × Fin 7 => iprop(payJ m c (jS p.1 p.2) ∗ at1 c (jS p.1 p.2))) :=
    bigSep_congr fun p _ => sendR_done m (by simp) (by simp)
  have hR : recvs m [] c = (bigSep Finset.univ fun p : Fin 10 × Fin 7 =>
      iprop(payJ m c (jR p.1 p.2) ∗ at1 c (jR p.1 p.2))) :=
    bigSep_congr fun p _ => recvR_held m (by simp)
  have hC : copies m [] c = (bigSep Finset.univ fun w : Fin 10 => iprop(payJ m c (jC w) ∗ at1 c (jC w))) :=
    bigSep_congr fun w _ => copyR_done m (by simp) (by simp)
  rw [hS, hR, hC, sumJ]
  simp only [bigSep_sep']
  iintro ⟨⟨HpS, HaS⟩, ⟨HpR, HaR⟩, HpC, HaC⟩
  isplitr [HaS HaR HaC]
  · have hw : iprop((bigSep Finset.univ fun w : Fin 10 => bigSep Finset.univ fun k : Fin 7 => payJ m c (jS w k))
        ∗ (bigSep Finset.univ fun w : Fin 10 => bigSep Finset.univ fun k : Fin 7 => payJ m c (jR w k))
        ∗ bigSep Finset.univ fun w : Fin 10 => payJ m c (jC w))
        ⊢ iprop((bigSep Finset.univ fun w : Fin 10 => argP m c w) ∗ bigSep Finset.univ fun w : Fin 10 => outP c w (made m w c)) := by
      rw [← bigSep_sep', ← bigSep_sep', ← bigSep_sep']
      exact bigSep_mono fun w _ => whole_again m c w
    iapply hw
    isplitl [HpS]
    · iapply (Entails.of_eq (bigSep_univ_prod fun p : Fin 10 × Fin 7 => payJ m c (jS p.1 p.2))); iexact HpS
    isplitl [HpR]
    · iapply (Entails.of_eq (bigSep_univ_prod fun p : Fin 10 × Fin 7 => payJ m c (jR p.1 p.2))); iexact HpR
    iexact HpC
  isplitl [HaS]; · iexact HaS
  isplitl [HaR]; · iexact HaR
  iexact HaC

variable (κ : Dev nD × J → ℕ)

/-- A device's semaphores, back at zero. -/
theorem close (c : Dev nD) : iprop(cells m κ ∗ bigSep Finset.univ fun j => at1 c j) ⊢ |={Set.univ}=> bigSep Finset.univ fun j => (semVal (cell c j) 0 : sProp 𝕄) := by
  refine BI.Entails.trans ?_ (bigSep_fupd Finset.univ fun j => (semVal (cell c j) 0 : sProp 𝕄))
  refine (sep_mono_left (BI.bigSep_of_persistent (Finset.univ : Finset J) (cells m κ))).trans ?_
  rw [← bigSep_sep']
  refine bigSep_mono fun j _ => ?_
  show iprop(cells m κ ∗ at1 c j) ⊢ iprop(|={Set.univ}=> semVal (cell c j) 0)
  iintro ⟨#Hcs, Hat⟩
  ihave ⟨#HI, -⟩ := (cells_at m κ c j) $$ Hcs
  iapply (Rounds.cell_close ER (rd m) (Set.mem_univ (κ (c, j))) (fun h => h) (R := 0 + 1) fun r h => duties_later m (cell c j) r h)
  isplitr; · iexact HI
  iexact Hat

end Cert.ScatterIdeal.Exchange

end
-- ==== Proof.ScatterBody.lean ====
/- The body's obligation: from what a device is dealt (`held`) the whole list of operations runs (`run_list`) and leaves
   the device's inputs unchanged, its outputs made and its semaphores at zero. -/
module

public import proofs.«01_k».proof.Proof.ScatterDeal
public import proofs.«01_k».proof.Proof.Gen.ScatterIdeal.Launch
public import Idealize.ShloMosaic.Lib.Pipeline.Launch

@[expose] public section

noncomputable section

namespace Cert.ScatterIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)
open Cert.ScatterIdeal Facts₀ Facts

variable {F : FTy → Type} [FloatOps F]

local notation "𝕄" => MT nD τ sig Unit (Elt F) ℕ UU ℕ

variable (m : (ℓ : Loc nD τ sig) → Buf (Elt F) ℓ)

/-- The arrays at the end: the inputs as they were, the outputs made. -/
def arraysEnd (c : Dev nD) : sProp 𝕄 := bigSep Finset.univ fun w : Fin 10 => iprop(argP m c w ∗ outP c w (made m w c))

/-- The semaphores at zero. -/
def zeros (c : Dev nD) : sProp 𝕄 := bigSep Finset.univ fun j : J => semVal (cell c j) 0

/-- What the body starts from, and what it ends with. -/
def Φ₀ (c : Dev nD) : sProp 𝕄 := iprop(∃ κ, recs m κ ∗ held m c)
def Φ₁ (c : Dev nD) : sProp 𝕄 := iprop(arraysEnd m c ∗ zeros c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- An update after the run. -/
theorem wpC_fupd (c : Dev nD) (p : Prog (TpuEff nD τ sig (Elt F) Λ₀ .tc) PUnit) (Q : PUnit → sProp 𝕄) :
    wpC c p (fun r => iprop(|={Set.univ}=> Q r)) ⊢ wpC c p Q :=
  wp_fupd frame (wpE (defs₀ (F := F)) 𝒱₀ (c : Thread nD τ) none) Set.univ p Q

theorem wpC_post (c : Dev nD) (p : Prog (TpuEff nD τ sig (Elt F) Λ₀ .tc) PUnit) {Q Q' : PUnit → sProp 𝕄} (h : ∀ r, Q r ⊢ Q' r) :
    wpC c p Q ⊢ wpC c p Q' :=
  wp_mono frame (wpE (defs₀ (F := F)) 𝒱₀ (c : Thread nD τ) none) Set.univ h

/-- What is left of the debts. -/
def owesNone (c : Dev nD) : sProp 𝕄 := iprop(∃ W, owes (c : Thread nD τ) (0 : CellTallies nD τ sig Unit) W)

/-- After the run: the cells closed. -/
theorem closed (κ : Dev nD × J → ℕ) (c : Dev nD) : iprop(recs m κ ∗ St m [] c) ⊢ |={Set.univ}=> iprop(Φ₁ m c ∗ owesNone c) := by
  unfold St recs owesP owesNone
  iintro ⟨⟨#Hcs, -⟩, HO, Hrest⟩
  ihave ⟨Ha, Hat⟩ := (rest_end m c) $$ Hrest
  imod (close m κ c) $$ [Hat] with Hz
  · isplitr; · iexact Hcs
    iexact Hat
  imodintro
  isplitr [HO]
  · unfold Φ₁ arraysEnd zeros
    isplitl [Ha]; · iexact Ha
    iexact Hz
  · iexact HO

theorem run_closed (κ : Dev nD × J → ℕ) (c : Dev nD) (l : List Op) (h : okAll l = true) :
    iprop(recs m κ ∗ St m l c) ⊢ wpC c (prog c l) fun _ => iprop(Φ₁ m c ∗ owesNone c) := by
  iintro ⟨#Hrec, HS⟩
  iapply (wpC_fupd c (prog c l) fun _ => iprop(Φ₁ m c ∗ owesNone c))
  iapply (run_list m κ c (fun _ => iprop(|={Set.univ}=> iprop(Φ₁ m c ∗ owesNone c))) l h) $$ [HS]
  · isplitr; · iexact Hrec
    iexact HS
  iintro HS
  iapply (closed m κ c)
  isplitr; · iexact Hrec
  iexact HS

theorem start_state (c : Dev nD) : iprop(Φ₀ m c ∗ owesP ops c) ⊢ iprop(∃ κ, recs m κ ∗ St m ops c) := by
  unfold Φ₀ held St
  iintro ⟨⟨%κ, #Hrec, HS, HR, HC⟩, HO⟩
  iexists κ
  isplitr; · iexact Hrec
  isplitl [HO]; · iexact HO
  isplitl [HS]; · iexact HS
  isplitl [HR] <;> iassumption

/-- The operations run, the cells closed. -/
theorem body_runs (c : Dev nD) : iprop(Φ₀ m c ∗ owesP ops c) ⊢ wpC c (prog c ops) fun _ => iprop(Φ₁ m c ∗ owesNone c) :=
  (start_state m c).trans (sProp.exists_elim fun κ => run_closed m κ c ops ok_ops)

set_option maxRecDepth 4000 in
/-- The body obligation on device `c`. -/
theorem body_obligation (c : Dev nD) : BodyObligationLoose (dats (F := F) m 0 c) (defs₀ (F := F)) 𝒱₀ () Set.univ := fun t => by
  rw [Gen.fin_N0 t]
  have hstart : (dats (F := F) m 0 c).owesAt () (Gen.t0_0 : Fin cfg0.N).castSucc ⊢ owesP ops c := by
    unfold Dat.owesAt Pipeline.owesWithin owesP
    iintro ⟨%W, -, H⟩
    iexists W
    iexact H
  have hend (r : PUnit) : iprop(Φ₁ m c ∗ owesNone c) ⊢ iprop(Φ₁ m c ∗ (dats (F := F) m 0 c).owesAt () (Gen.t0_0 : Fin cfg0.N).succ ∗ emp) := by
    unfold Dat.owesAt Pipeline.owesWithin owesNone
    iintro ⟨H1, ⟨%W, H⟩⟩
    isplitl [H1]; · iexact H1
    isplitl [H]
    · iexists W
      isplitr; · ipureintro; exact fun _ _ => Or.inl trivial
      iexact H
    · iempintro
  have hin : iprop(Φ₀ m c ∗ (dats (F := F) m 0 c).owesAt () (Gen.t0_0 : Fin cfg0.N).castSucc ∗ emp) ⊢ iprop(Φ₀ m c ∗ owesP ops c) := by
    iintro ⟨H0, HO, -⟩
    isplitl [H0]; · iexact H0
    iapply hstart; iexact HO
  have hz (Ψ : Fin cfg0.W → sProp 𝕄) : bigSep Finset.univ Ψ = BI.emp := by
    rw [show (Finset.univ : Finset (Fin cfg0.W)) = ∅ from Finset.univ_eq_empty (α := Fin 0), BI.bigSep_empty]
  rw [hz, hz]
  have hb : defs₀ (F := F) .tc cfg0.body (cfg0.bodyArgs Gen.t0_0 (cfg0.slots Gen.t0_0)) = Gen.bodyAt0 (F := F) Gen.t0_0 := rfl
  have hrun := hin.trans ((body_runs m c).trans (wpC_post c (prog c ops) hend))
  rw [hb, body_eq, wp_deviceId]
  revert hrun
  generalize ops = l
  exact fun h => h

end Cert.ScatterIdeal.Exchange

end
-- ==== Proof.ScatterStart.lean ====
/- The launch's own steps: the arrays taken as inputs and outputs, the cells allocated for every device at once, the
   levels assigned, and all of it dealt (`deal`). -/
module

public import proofs.«01_k».proof.Proof.ScatterBody

@[expose] public section

noncomputable section

namespace Cert.ScatterIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ScatterIdeal Facts₀ Facts

variable {F : FTy → Type} [FloatOps F]

local notation "𝕄" => MT nD τ sig Unit (Elt F) ℕ UU ℕ

variable (m : (ℓ : Loc nD τ sig) → Buf (Elt F) ℓ)

/-! ## The arrays -/

omit [FloatOps F] in
theorem sum10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

omit [FloatOps F] in
theorem outs_first (A0 A1 A2 A3 A4 A5 A6 A7 A8 A9 V : sProp 𝕄) : iprop(A0 ∗ A1 ∗ A2 ∗ A3 ∗ A4 ∗ A5 ∗ A6 ∗ A7 ∗ A8 ∗ A9 ∗ V) ⊢ iprop(V ∗ A0 ∗ A1 ∗ A2 ∗ A3 ∗ A4 ∗ A5 ∗ A6 ∗ A7 ∗ A8 ∗ A9) := by
  iintro ⟨A0, A1, A2, A3, A4, A5, A6, A7, A8, A9, V⟩
  isplitl [V]; · iexact V
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  iexact A9

omit [FloatOps F] in
/-- A device's unscoped arrays are its ten inputs and its ten outputs. -/
theorem arrays_start (c : Dev nD) : (unscopedBufs c (fun b => m ((c : Thread nD τ).loc b)) : sProp 𝕄)
    ⊢ iprop((bigSep Finset.univ fun w : Fin 10 => outP c w (m ((outM w).view.loc (c : Thread nD τ))))
        ∗ bigSep Finset.univ fun w : Fin 10 => argP m c w) := by
  unfold unscopedBufs
  rw [bigSep_eq_bigSepL_of_eq [main_arg0, main_arg1, main_arg2, main_arg3, main_arg4, main_arg5, main_arg6, main_arg7, main_arg8, main_arg9, main_v1_0, main_v1_1, main_v1_2, main_v1_3, main_v1_4, main_v1_5, main_v1_6, main_v1_7, main_v1_8, main_v1_9] (by decide) (by decide), sum10, sum10]
  exact outs_first _ _ _ _ _ _ _ _ _ _ _

/-! ## The cells -/

theorem cellP_inj : Function.Injective fun p : Dev nD × J => cell p.1 p.2 := fun p q h => by
  obtain ⟨h₁, h₂⟩ := cell_inj h
  exact Prod.ext h₁ h₂

/-- Every cell of every device, and its one duty. -/
def allCells : Finset (GSem nD τ sig) := Finset.univ.map ⟨fun p : Dev nD × J => cell p.1 p.2, cellP_inj⟩
def allToks : Finset (GSem nD τ sig × ℕ × Unit) :=
  Finset.univ.map ⟨fun p : Dev nD × J => (cell p.1 p.2, 0, ()), fun _ _ h => cellP_inj (Prod.mk.inj h).1⟩

omit [FloatOps F] in
theorem sum_cells (Φ : GSem nD τ sig → sProp 𝕄) : bigSep allCells Φ = bigSep Finset.univ fun p : Dev nD × J => Φ (cell p.1 p.2) := by
  unfold allCells; rw [bigSep_map]; rfl

omit [FloatOps F] in
theorem sum_toks : (bigSep allToks fun x => (dutyTok ER x.1 x.2.1 x.2.2 : sProp 𝕄)) = bigSep Finset.univ fun p : Dev nD × J => tok p.1 p.2 := by
  unfold allToks; rw [bigSep_map]; rfl

/-- The cells of a set `S` allocated, with the tokens `T`. -/
theorem fund_at (S : Finset (GSem nD τ sig)) (T : Finset (GSem nD τ sig × ℕ × Unit)) :
    iprop((bigSep S fun g => semVal g 0) ∗ BI.own (ER (launchOf S ∅ T)))
      ⊢ |={Set.univ}=> iprop(∃ κ : GSem nD τ sig → ℕ, ((bigSep S fun g => cellInv ER (rd m) (κ g) g) ∗ bigSep S fun g => reached ER g 0)
        ∗ (bigSep T fun x => dutyTok ER x.1 x.2.1 x.2.2) ∗ bigSep S fun g => (atPos ER g 0 ∅ 0 : sProp 𝕄)) := by
  have h := Rounds.fund_launch (Es := Set.univ) ER (rd m) (S := S) (Sd := ∅) (Finset.disjoint_empty_right _) (fun g h => absurd h (Finset.notMem_empty g)) T
  rw [Finset.union_empty] at h
  iintro H
  imod h $$ H with ⟨%κ, -, HI, HR, Hat, -, Htok⟩
  imodintro
  iexists κ
  isplitl [HI HR]
  · isplitl [HI] <;> iassumption
  isplitl [Htok] <;> iassumption

omit [FloatOps F] in
theorem zeros_cells : (bigSep Finset.univ fun c : Dev nD => (zeros c : sProp 𝕄)) = bigSep allCells fun g => semVal g 0 := by
  rw [sum_cells, bigSep_univ_prod (fun p : Dev nD × J => (semVal (cell p.1 p.2) 0 : sProp 𝕄))]
  rfl

/-- Every cell's invariant allocated, its position and its token handed out. -/
theorem fund_cells : iprop((bigSep Finset.univ fun c : Dev nD => zeros c) ∗ BI.own (ER (launchOf allCells ∅ allToks)))
    ⊢ |={Set.univ}=> iprop(∃ κ, cells m κ ∗ (bigSep Finset.univ fun c : Dev nD => bigSep Finset.univ fun j => tok c j)
        ∗ bigSep Finset.univ fun c : Dev nD => bigSep Finset.univ fun j => (at0 c j : sProp 𝕄)) := by
  rw [zeros_cells, ← bigSep_univ_prod (fun p : Dev nD × J => (tok p.1 p.2 : sProp 𝕄)), ← bigSep_univ_prod (fun p : Dev nD × J => (at0 p.1 p.2 : sProp 𝕄)),
    ← sum_toks, ← sum_cells fun g => (atPos ER g 0 ∅ 0 : sProp 𝕄)]
  have hcs (κ : GSem nD τ sig → ℕ) : iprop((bigSep allCells fun g => cellInv ER (rd m) (κ g) g) ∗ bigSep allCells fun g => (reached ER g 0 : sProp 𝕄))
      ⊢ cells m fun p => κ (cell p.1 p.2) := by
    rw [sum_cells, sum_cells, ← bigSep_sep']
    exact BI.Entails.refl _
  iintro H
  imod (fund_at m allCells allToks) $$ H with ⟨%κ, Hcs, Hrest⟩
  imodintro
  iexists (fun p : Dev nD × J => κ (cell p.1 p.2))
  isplitl [Hcs]
  · iapply (hcs κ); iexact Hcs
  iexact Hrest

/-! ## The levels -/

/-- A device's cells, no level assigned. -/
abbrev levelsNone (c : Dev nD) : sProp 𝕄 := levels0 (Ix := Unit) (Val := Elt F) (Name := ℕ) (U := UU) (Lvl := ℕ) (τ := τ) (sig := sig) c

omit [FloatOps F] in
theorem levels_assigned : (bigSep Finset.univ fun c : Dev nD => levelsNone (F := F) c) ⊢ (|==> levAts L lv : sProp 𝕄) := by
  have hone (c : Dev nD) : levelsNone (F := F) c
      ⊢ (|==> ((bigSep Finset.univ fun sm : SemLoc sig => levels ((c : Thread nD τ), sm) (L ((c : Thread nD τ), sm))) ∗ coreLevAts (c : Thread nD τ) L lv) : sProp 𝕄) :=
    lev_assign_cells (c : Thread nD τ) L lv
  refine BI.Entails.trans (bigSep_mono fun c _ => hone c) ((BI.bigSep_bupd _ _).trans (BI.bupd_mono ?_))
  have hother (d : Dev nD) (p : Proc τ) (h : p ≠ .tc) : (coreLevAts ((d, p) : Thread nD τ) L lv : sProp 𝕄) = BI.emp := by
    unfold coreLevAts
    rw [bigSep_congr (Ψ := fun _ : SemLoc sig => (BI.emp : sProp 𝕄)) fun sm _ => by rw [L_of_ne (((d, p) : Thread nD τ), sm) h, BI.bigSep_empty]]
    exact BI.bigSep_emp_const _
  have hrest : (bigSep Finset.univ fun d : Dev nD => bigSep (Finset.univ.erase Proc.tc) fun p => (coreLevAts ((d, p) : Thread nD τ) L lv : sProp 𝕄)) = BI.emp := by
    rw [bigSep_congr (Ψ := fun _ : Dev nD => (BI.emp : sProp 𝕄)) fun d _ =>
      (bigSep_congr (Ψ := fun _ : Proc τ => (BI.emp : sProp 𝕄)) fun p hp => hother d p (Finset.ne_of_mem_erase hp)).trans (BI.bigSep_emp_const _)]
    exact BI.bigSep_emp_const _
  have hall : (levAts L lv : sProp 𝕄) = iprop((bigSep Finset.univ fun d : Dev nD => coreLevAts (d : Thread nD τ) L lv) ∗ emp) :=
    (bigSep_univ_prod fun g : GSem nD τ sig => bigSep (L g) fun ι => levAt g ι (lv g ι)).trans
      ((bigSep_threads fun c : Thread nD τ => coreLevAts c L lv).trans (congrArg (fun X => iprop((bigSep Finset.univ fun d : Dev nD => coreLevAts (d : Thread nD τ) L lv) ∗ X)) hrest))
  have hlast (A B : sProp 𝕄) : iprop(A ∗ B) ⊢ iprop(B ∗ emp) := by
    iintro ⟨-, H⟩
    isplitl [H]; · iexact H
    iempintro
  rw [hall, bigSep_sep']
  exact hlast _ _

/-! ## The start of every device -/

theorem started (κ : Dev nD × J → ℕ) : iprop(recs m κ ∗ bigSep Finset.univ fun c : Dev nD => held m c) ⊢ bigSep Finset.univ fun c : Dev nD => Φ₀ m c := by
  refine (sep_mono_left (BI.bigSep_of_persistent (Finset.univ : Finset (Dev nD)) (recs m κ))).trans ?_
  rw [← bigSep_sep']
  refine bigSep_mono fun c _ => ?_
  unfold Φ₀
  show iprop(recs m κ ∗ held m c) ⊢ iprop(∃ κ, recs m κ ∗ held m c)
  iintro H
  iexists κ
  iexact H

/-- Every device ready to run. -/
theorem ready : iprop((bigSep Finset.univ fun c : Dev nD => unscopedBufs c (fun b => m ((c : Thread nD τ).loc b)))
      ∗ (bigSep Finset.univ fun c : Dev nD => zeros c) ∗ (bigSep Finset.univ fun c : Dev nD => levelsNone (F := F) c)
      ∗ (bigSep Finset.univ fun c : Dev nD => Pipeline.launchCred O₀ c) ∗ BI.own (ER (launchOf allCells ∅ allToks)))
    ⊢ |={Set.univ}=> bigSep Finset.univ fun c : Dev nD => (Φ₀ m c : sProp 𝕄) := by
  have harr := bigSep_mono (s := Finset.univ) fun (c : Dev nD) _ => arrays_start m c
  rw [bigSep_sep'] at harr
  iintro ⟨Hb, Hz, Hlv, Hcr, Hu⟩
  ihave ⟨Hout, Hin⟩ := (show _ ⊢ iprop(_ ∗ _) from harr) $$ Hb
  imod (levels_assigned (F := F)) $$ Hlv with Hla
  imod (fund_cells m) $$ [Hz Hu] with ⟨%κ, Hcs, Htok, Hat⟩
  · isplitl [Hz] <;> iassumption
  imodintro
  iapply (started m κ)
  isplitl [Hcs Hla]
  · unfold recs
    isplitl [Hcs] <;> iassumption
  iapply (deal m)
  isplitl [Hout]; · iexact Hout
  isplitl [Hin]; · iexact Hin
  isplitl [Htok]; · iexact Htok
  isplitl [Hat]; · iexact Hat
  iexact Hcr

end Cert.ScatterIdeal.Exchange

end
-- ==== Proof.ScatterLaunch.lean ====
/- The run of the whole program: launched on all devices at once, each device's body run (`body_obligation`), and the
   final memory read. -/
module

public import proofs.«01_k».proof.Proof.ScatterStart
public import Idealize.ShloMosaic.Adequacy
public import Idealize.ShloMosaic.Init

@[expose] public section

noncomputable section

namespace Cert.ScatterIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose owing owing_of_ne)
open Cert.ScatterIdeal Facts₀ Facts

variable {F : FTy → Type} [FloatOps F]

local notation "𝕄" => MT nD τ sig Unit (Elt F) ℕ UU ℕ

variable (m : (ℓ : Loc nD τ sig) → Buf (Elt F) ℓ) (ρ : Dev nD → PrngReg)

/-! ## The scoped storage -/

/-- The kernel's own semaphores. -/
abbrev osem (j : J) : SemLoc sig := .dma (semJ j)
theorem ownSemFacts : Pipeline.OwnSemFacts cfg0.spec osem := by decide

/-- The semaphores of no use here. -/
def idle (c : Dev nD) : sProp 𝕄 := Pipeline.idleSems0 cfgs Gen.cellOf_inj (0 : Fin 1) ownSemFacts c

omit [FloatOps F] in
theorem no_windows (Ψ : Fin cfg0.W → sProp 𝕄) : bigSep Finset.univ Ψ = BI.emp := by
  rw [show (Finset.univ : Finset (Fin cfg0.W)) = ∅ from Finset.univ_eq_empty (α := Fin 0), BI.bigSep_empty]

omit [FloatOps F] in
theorem scoped_sems (c : Dev nD) : (scopedSems0 (c : Thread nD τ) : sProp 𝕄) = iprop((emp ∗ zeros c) ∗ idle c) :=
  (Pipeline.scopedSems0_split cfgs Gen.cellOf_inj (0 : Fin 1) Gen.winFacts0.to₀ ownSemFacts c).trans
    (congrArg (fun X => iprop((X ∗ zeros c) ∗ idle c)) (no_windows _))

omit [FloatOps F] in
theorem scoped_bufs (c : Dev nD) : (scopedBufs (c : Thread nD τ) : sProp 𝕄) = iprop(Dat.staging cfg0 c ∗ Pipeline.scopedRest cfg0.spec c) :=
  Pipeline.scopedBufs_split cfgs (0 : Fin 1) Gen.winFacts0.stage_scoped Gen.winFacts0.stage_inj Gen.stage_whole0 c

/-! ## One device's run of @main -/

/-- What a device holds before @main, and after it. -/
def pre (c : Dev nD) : sProp 𝕄 := iprop(scopedBufs (c : Thread nD τ) ∗ idle c ∗ owes (c : Thread nD τ) (O₀ c) ∅ ∗ Φ₀ m c)
def fin (c : Dev nD) : sProp 𝕄 := iprop(arraysEnd m c ∗ scopedSems0 (c : Thread nD τ))

theorem leave (c : Dev nD) : iprop((dats (F := F) m 0 c).Φ (Fin.last cfg0.N) ∗ Pipeline.cellsSems0 cfgs (0 : Fin 1) c ∗ Dat.staging cfg0 c ∗ idle c)
    ⊢ iprop(arraysEnd m c ∗ scopedSems0 (c : Thread nD τ) ∗ scopedBufs (c : Thread nD τ)) := by
  rw [scoped_sems, scoped_bufs, Gen.scopedRest0_eq]
  show iprop(Φ₁ m c ∗ _) ⊢ _
  unfold Φ₁
  iintro ⟨⟨Ha, Hz⟩, -, Hst, Hi⟩
  isplitl [Ha]; · iexact Ha
  isplitl [Hz Hi]
  · isplitl [Hz]
    · isplitr; · iempintro
      iexact Hz
    iexact Hi
  isplitl [Hst]; · iexact Hst
  iempintro

theorem enter (c : Dev nD) : iprop(Φ₀ m c ∗ Pipeline.prefHeld (Pipeline.Prefetch.none (sig := sig)) c (fun _ => fullShare) (fun k => k.elim0) ∗ Pipeline.scopedRest cfg0.spec c)
    ⊢ (dats (F := F) m 0 c).Φ 0 := by
  show _ ⊢ Φ₀ m c
  iintro ⟨H, -⟩
  iexact H

theorem device_run (c : Dev nD) :
    pre m c ⊢ wp frame (wpE (defs (F := F)) (Variants.lift 𝒱₀) (c : Thread nD τ) none) Set.univ (main (F := F) c) (fun _ => post (liftTc (fin m) BI.emp) (c : Thread nD τ)) := by
  have hentry := Pipeline.wp_customCall_entry_frame (pcfgs (F := F)) (fun p => (cfgs p).toPCfg_adm) (dats (F := F) m) () EP (fun _ => 0) Gen.cellOf_inj (0 : Fin 1) defs₀ 𝒱₀
      (fun _ => fullShare) c Set.univ (fun _ _ => Set.mem_univ _)
      (body_obligation m c) (fun w => w.elim0) none (fun u h => nomatch h) (X := Φ₀ m c) (Y := arraysEnd m c) (R := Pipeline.scopedRest cfg0.spec c) (I := idle c)
      (Entails.of_eq (scoped_bufs c)) (enter m c) (leave m c)
      (α := PUnit) (k := fun _ => .ret ⟨⟩) (Q := fun _ => post (liftTc (fin m) BI.emp) (c : Thread nD τ))
  have hpre : pre m c ⊢ iprop(Pipeline.EntryPre (Pipeline.pin (pcfgs (F := F)) (fun p => (cfgs p).toPCfg_adm)) (dats (F := F) m) () EP (fun _ => 0) (0 : Fin 1) c
      ∗ Pipeline.prefHeld (Pipeline.Prefetch.none (sig := sig)) c (fun _ => fullShare) (fun k => k.elim0) ∗ Φ₀ m c ∗ idle c ∗ scopedBufs (c : Thread nD τ)) := by
    have hA : Pipeline.EntryPre (Pipeline.pin (pcfgs (F := F)) (fun p => (cfgs p).toPCfg_adm)) (dats (F := F) m) () EP (fun _ => 0) (0 : Fin 1) c
        = iprop(emp ∗ (dats (F := F) m 0 c).owesAt () 0 ∗ emp ∗ emp ∗ emp) :=
      congrArg₂ (fun X Y => iprop(X ∗ (dats (F := F) m 0 c).owesAt () 0 ∗ Y)) (no_windows _)
        (congrArg₂ (fun X Y => iprop(X ∗ Y)) (no_windows _) (congrArg₂ (fun X Y => iprop(X ∗ Y)) (no_windows _) (no_windows _)))
    have hP : (Pipeline.prefHeld (Pipeline.Prefetch.none (sig := sig)) c (fun _ => fullShare) (fun k => k.elim0) : sProp 𝕄) = BI.emp := by
      unfold Pipeline.prefHeld
      rw [show (Finset.univ : Finset (Fin (Pipeline.Prefetch.none (sig := sig)).K)) = ∅ from Finset.univ_eq_empty (α := Fin 0), BI.bigSep_empty]
    have hO : owes (c : Thread nD τ) (O₀ c) ∅ ⊢ (dats (F := F) m 0 c).owesAt () 0 := by
      unfold Dat.owesAt Pipeline.owesWithin
      iintro HO
      iexists ∅
      isplitr; · ipureintro; rw [Finset.coe_empty]; exact Set.empty_subset _
      iexact HO
    rw [hA, hP]
    unfold pre
    iintro ⟨Hsc, Hi, HO, H0⟩
    isplitl [HO]
    · isplitr; · iempintro
      isplitl [HO]; · iapply hO; iexact HO
      isplitr; · iempintro
      isplitr <;> iempintro
    isplitr; · iempintro
    isplitl [H0]; · iexact H0
    isplitl [Hi] <;> iassumption
  have hret : iprop(Pipeline.EntryPost (Pipeline.pin (pcfgs (F := F)) (fun p => (cfgs p).toPCfg_adm)) (dats (F := F) m) () (0 : Fin 1) c
      ∗ arraysEnd m c ∗ scopedSems0 (c : Thread nD τ) ∗ scopedBufs (c : Thread nD τ)) ⊢ post (liftTc (fin m) BI.emp) (c : Thread nD τ) := by
    have hO : (dats (F := F) m 0 c).owesAt () (Fin.last cfg0.N) ⊢ owesNone c := by
      unfold Dat.owesAt Pipeline.owesWithin owesNone
      iintro ⟨%W, -, HO⟩
      iexists W
      iexact HO
    unfold owesNone at hO
    unfold Pipeline.EntryPost Pipeline.PerCore.EntryPost post
    rw [liftTc_tc]
    unfold fin
    iintro ⟨⟨-, HO⟩, Ha, Hs, -⟩
    isplitr [HO]
    · isplitl [Ha] <;> iassumption
    · iapply hO; iexact HO
  have hmain : main (F := F) c = .op (.customCall (Pipeline.entry 0) ()) fun _ => .ret ⟨⟩ := rfl
  rw [hmain]
  have hcut (A B C : sProp 𝕄) (h : B ⊢ C) (D : sProp 𝕄) (hD : A ⊢ iprop((B -∗ C) -∗ D)) : A ⊢ D := by
    iintro H
    iapply hD $$ H
    iintro HB
    iapply h
    iexact HB
  refine hcut _ _ _ ?_ _ (hpre.trans hentry)
  rw [wp_ret]
  exact hret.trans fupd_intro

/-! ## The launch -/

/-- The ghost state at the launch. -/
def u₀ : UU := (Rounds.initOf ∅ ∅, launchOf allCells ∅ allToks)

/-- What one device's launch resources are made of. -/
theorem device_start (c : Dev nD) :
    coreInit (Ix := Unit) (Name := ℕ) (U := UU) (Lvl := ℕ) (owing O₀) 0 (⟨m, fun _ => 0, ρ⟩ : MemSt nD τ sig (Elt F)) (c : Thread nD τ)
      ⊢ iprop((scopedBufs (c : Thread nD τ) ∗ idle c ∗ owes (c : Thread nD τ) (O₀ c) ∅)
        ∗ unscopedBufs c (fun b => m ((c : Thread nD τ).loc b)) ∗ zeros c ∗ levelsNone (F := F) c ∗ Pipeline.launchCred O₀ c) := by
  have h := Pipeline.coreInit_boundary_owing (Ix := Unit) (Name := ℕ) (U := UU) (Lvl := ℕ) O₀ m ρ c
  unfold boundary at h
  rw [scoped_sems] at h
  iintro H
  ihave ⟨⟨Hsc, ⟨⟨-, Hz⟩, Hi⟩, -⟩, Hub, -, HO, Hlv, -, Hcr⟩ := h $$ H
  isplitl [Hsc Hi HO]
  · isplitl [Hsc]; · iexact Hsc
    isplitl [Hi] <;> iassumption
  isplitl [Hub]; · iexact Hub
  isplitl [Hz]; · iexact Hz
  isplitl [Hlv] <;> iassumption

theorem launch_start :
    iprop((bigSep Finset.univ fun c : Dev nD =>
        coreInit (Ix := Unit) (Name := ℕ) (U := UU) (Lvl := ℕ) (owing O₀) 0 (⟨m, fun _ => 0, ρ⟩ : MemSt nD τ sig (Elt F)) (c : Thread nD τ)) ∗ ownU u₀)
      ⊢ |={Set.univ}=> iprop(∃ _ : Unit, (bigSep Finset.univ fun c : Dev nD => pre m c) ∗ emp) := by
  have h := bigSep_mono (s := Finset.univ) fun (c : Dev nD) _ => device_start m ρ c
  simp only [bigSep_sep'] at h
  unfold u₀ pre
  simp only [bigSep_sep']
  iintro ⟨Hc, Hu⟩
  ihave ⟨⟨Hsc, Hi, HO⟩, Hrest⟩ := (show _ ⊢ iprop((_ ∗ _ ∗ _) ∗ _ ∗ _ ∗ _ ∗ _) from h) $$ Hc
  ihave ⟨-, Hu⟩ := (ownU_pair _ _) $$ Hu
  icases Hrest with ⟨Hub, Hz, Hlv, Hcr⟩
  imod (ready m) $$ [Hub Hz Hlv Hcr Hu] with H0
  · isplitl [Hub]; · iexact Hub
    isplitl [Hz]; · iexact Hz
    isplitl [Hlv]; · iexact Hlv
    isplitl [Hcr] <;> iassumption
  imodintro
  iexists ()
  isplitl; swap; · iempintro
  isplitl [Hsc]; · iexact Hsc
  isplitl [Hi]; · iexact Hi
  isplitl [HO] <;> iassumption

/-- What the arrays of device `c` hold at the end. -/
def ArraysEnd (c : Dev nD) (M : MemSt nD τ sig (Elt F)) : Prop :=
  ∀ w : Fin 10, M.mem ((c : Thread nD τ).loc (argB w)) = m ((c : Thread nD τ).loc (argB w)) ∧ M.mem ((outM w).view.loc (c : Thread nD τ)) = made m w c

theorem arrays_read (c : Dev nD) (s' : Phys nD τ sig (Elt F)) : iprop(arraysEnd m c ∗ SI s') ⊢ (iprop(⌜ArraysEnd m c s'.mem⌝ ∗ SI s') : sProp 𝕄) := by
  unfold arraysEnd
  rw [bigSep_sep']
  unfold outP argP
  iintro ⟨⟨Hi, Ho⟩, HSI⟩
  ihave ⟨%hi, HSI⟩ := (pointsTo_read_all Finset.univ (fun w : Fin 10 => (c : Thread nD τ).loc (argB w))
    (fun w => m ((c : Thread nD τ).loc (argB w))) s' fullShare) $$ [Hi HSI]
  · isplitl [Hi] <;> iassumption
  ihave ⟨%ho, HSI⟩ := (pointsTo_read_all Finset.univ (fun w : Fin 10 => (outM w).view.loc (c : Thread nD τ))
    (fun w => made m w c) s' fullShare) $$ [Ho HSI]
  · isplitl [Ho] <;> iassumption
  isplitr
  · ipureintro
    exact fun w => ⟨hi w (Finset.mem_univ w), ho w (Finset.mem_univ w)⟩
  · iexact HSI

/-- A device's end, read. -/
def Ended (c : Dev nD) (M : MemSt nD τ sig (Elt F)) : Prop :=
  ArraysEnd m c M ∧ ∀ sm : SemLoc sig, sm.isScoped .tc = true → M.sem ((c : Thread nD τ), sm) = 0

theorem fin_read (c : Dev nD) (s' : Phys nD τ sig (Elt F)) : iprop(fin m c ∗ SI s') ⊢ (|={Set.univ}=> iprop(⌜Ended m c s'.mem⌝ ∗ SI s') : sProp 𝕄) := by
  unfold fin
  iintro ⟨⟨Ha, Hs⟩, HSI⟩
  ihave %hz := (tcScoped_read_pers c s') $$ [Hs HSI]
  · isplitl [Hs] <;> iassumption
  ihave ⟨%ha, HSI⟩ := (arrays_read m c s') $$ [Ha HSI]
  · isplitl [Ha] <;> iassumption
  imodintro
  isplitr
  · ipureintro; exact ⟨ha, hz⟩
  · iexact HSI

theorem launch_end :
    iprop((bigSep Finset.univ fun c : Dev nD => fin m c) ∗ emp ∗ scSems (⟨m, fun _ => 0, ρ⟩ : MemSt nD τ sig (Elt F)))
      ⊢ (iprop(∀ s', SI s' -∗ |={Set.univ, Set.univ}=> ⌜(∀ c : Dev nD, Ended m c s'.mem) ∧ ∀ g' : GSem nD τ sig, g'.1.2 ≠ .tc → s'.mem.sem g' = 0⌝) : sProp 𝕄) := by
  iintro ⟨H, -, Hsc⟩ %s' HSI
  ihave %hsc := (scSems_read_zero m ρ s') $$ [Hsc HSI]
  · isplitl [Hsc] <;> iassumption
  imod (posts_fupd Finset.univ (fin_read m) s') $$ [H HSI] with %h
  · isplitl [H] <;> iassumption
  imodintro
  ipureintro
  exact ⟨fun c => h c (Finset.mem_univ c), hsc⟩

theorem all_scoped : ∀ sm : SemLoc sig, sm.isScoped .tc = true := by decide

/-- From any memory with zero counters, every weakly fair execution of @main on the eight devices ends, and every final
    state has each device's inputs unchanged, its outputs made and every semaphore at zero. -/
theorem run_main : θ_run (defs (F := F)) (onTc (τ := τ) (main (F := F))) (⟨m, fun _ => 0, ρ⟩ : MemSt nD τ sig (Elt F))
    (fun r => (∀ c : Dev nD, ArraysEnd m c r.2) ∧ r.2.sem = fun _ => 0) :=
  (θ_run (defs (F := F)) _ _).mono
    (Q := fun r => (∀ c : Dev nD, Ended m c r.2) ∧ ∀ g' : GSem nD τ sig, g'.1.2 ≠ .tc → r.2.sem g' = 0)
    (fun r hr => ⟨fun c => (hr.1 c).1, sem_eq_zero_of_scoped all_scoped (sems_of_reads (fun c => (hr.1 c).2) hr.2)⟩)
    (adequate_tpu (defs (F := F)) _ _ _
      (reflect_intro_fupd_tc_sems (X := Unit) (Variants.lift 𝒱₀) (owing O₀) 0 (noBookings fun _ => le_rfl) (owing_of_ne O₀) u₀ (fun _ => pre m) (fun _ => fin m)
        (fun _ => iprop(emp)) Set.univ (launch_start m ρ) (fun _ c => device_run m c) fun _ => launch_end m ρ))

end Cert.ScatterIdeal.Exchange

end
-- ==== Proof.ScatterValues.lean ====
/- The exchanged blocks as whole arrays.

   Array 0 is cut along its rows into eight blocks, block `s` on device `s`; every device ends with the whole, read as eight
   slabs (`made_rows`).  Each other array has 64 slabs, slabs `8 s … 8 s + 7` on device `s`.  Device `d` ends with slab `d` of
   every device, which is its block of the array whose slab `8 d + s` is slab `8 s + d` (`exchanged_block`). -/
module

public import proofs.«01_k».proof.Proof.ScatterLaunch
public import Idealize.ShloMosaic.Lib.Layout
public import Idealize.ShloMosaic.Lib.Pipeline.Value

@[expose] public section

noncomputable section

namespace Cert.ScatterIdeal.Exchange

open Idealize.ShloMosaic Idealize.ShloMosaic.TcCoe Idealize.ShloMosaic.ValueIdx
open Idealize.SL Idealize.SL.Sem
open Cert.ScatterIdeal Facts₀ Facts

/-! ## Whole arrays -/

/-- The whole packed array, before it is cut. -/
abbrev Rows : Shape := ⟨2, ![128, 1024]⟩
/-- A whole array of 64 slabs, and the same as an eight by eight table of slabs. -/
abbrev Whole64 (r c : ℕ) : Shape := ⟨3, ![64, r, c]⟩
abbrev Sq8 (r c : ℕ) : Shape := ⟨4, ![8, 8, r, c]⟩

theorem rows_cast : Rows.ShapeCasts (St8 16 1024) := by decide

/-- Slab `s` of an array read as eight slabs is the block of device `s`. -/
theorem slab_eq_block {α : Type} (W : Rows.Idx → α) (j : (St8 16 1024).Idx) :
    Layout.block ⟨2, ![16, 1024]⟩ Rows 0 8 (j 0) W (by decide) (ix2 (j 1) (j 2)) = shapeCast (St8 16 1024) W rows_cast j := by
  refine congrArg W (Eq.symm (Shape.reshapeEquiv_eq_of_rowMajor rows_cast ?_))
  rw [Shape.rowMajor_val_two, Shape.rowMajor_val_three]
  rfl

/-- The table of slabs transposed: slab `8 d + s` is the array's slab `8 s + d`. -/
abbrev exchanged {α : Type} {r c : ℕ} (W : (Whole64 r c).Idx → α) (h₁ : (Whole64 r c).ShapeCasts (Sq8 r c))
    (ht : (Sq8 r c).Transposes [1, 0, 2, 3] (Sq8 r c)) (h₂ : (Sq8 r c).ShapeCasts (Whole64 r c)) : (Whole64 r c).Idx → α :=
  shapeCast (Whole64 r c) (transpose (Sq8 r c) [1, 0, 2, 3] (shapeCast (Sq8 r c) W h₁) ht) h₂

/-- Slab `s` of device `d`'s block of the transposed table is slab `d` of device `s`'s block of the array. -/
theorem exchanged_block {α : Type} {r c : ℕ} (W : (Whole64 r c).Idx → α) (h₁ : (Whole64 r c).ShapeCasts (Sq8 r c))
    (ht : (Sq8 r c).Transposes [1, 0, 2, 3] (Sq8 r c)) (h₂ : (Sq8 r c).ShapeCasts (Whole64 r c))
    (b b' : Layout.Tiles (St8 r c) (Whole64 r c) 0 8) (d : Fin 8) (j : (St8 r c).Idx) :
    Layout.block (St8 r c) (Whole64 r c) 0 8 d (exchanged W h₁ ht h₂) b j
      = Layout.block (St8 r c) (Whole64 r c) 0 8 (j 0) W b' (ix3 d (j 1) (j 2)) := by
  show shapeCast (Whole64 r c) _ h₂ (b.idx d j) = W (b'.idx (j 0) (ix3 d (j 1) (j 2)))
  refine (shapeCast_apply _ h₂ _ (ix4 d (j 0) (j 1) (j 2)) ?_).trans ?_
  · rw [Shape.rowMajor_val_four, Shape.rowMajor_val_three]
    rfl
  refine (transpose_apply _ _ ht _ (ix4 (j 0) d (j 1) (j 2)) ?_).trans ?_
  · intro a
    match a with
    | ⟨0, _⟩ => rfl
    | ⟨1, _⟩ => rfl
    | ⟨2, _⟩ => rfl
    | ⟨3, _⟩ => rfl
  refine shapeCast_apply _ h₁ _ _ ?_
  rw [Shape.rowMajor_val_four, Shape.rowMajor_val_three]
  rfl

variable {F : FTy → Type} [FloatOps F]
variable (m : (ℓ : Loc nD τ sig) → Buf (Elt F) ℓ) (ρ : Dev nD → PrngReg)

/-! ## What is sent -/

theorem sent_eq1 (s d : Dev nD) (x : Fin 1024) (y : Fin 352) :
    sent_ m 1 s d (ix2 x y) = m ((s.tc : Thread nD τ).loc main_arg1) (ix3 (show Fin 8 from d) x y) := by
  refine (View.read_apply _ _).trans ?_
  exact congrArg (m ((s.tc : Thread nD τ).loc main_arg1)) (emb_slab (Memref.whole main_arg1) (sqz 1) (at_ 1 d) d rfl x y)

theorem sent_eq2 (s d : Dev nD) (x : Fin 1024) (y : Fin 352) :
    sent_ m 2 s d (ix2 x y) = m ((s.tc : Thread nD τ).loc main_arg2) (ix3 (show Fin 8 from d) x y) := by
  refine (View.read_apply _ _).trans ?_
  exact congrArg (m ((s.tc : Thread nD τ).loc main_arg2)) (emb_slab (Memref.whole main_arg2) (sqz 2) (at_ 2 d) d rfl x y)

theorem sent_eq3 (s d : Dev nD) (x : Fin 352) (y : Fin 1024) :
    sent_ m 3 s d (ix2 x y) = m ((s.tc : Thread nD τ).loc main_arg3) (ix3 (show Fin 8 from d) x y) := by
  refine (View.read_apply _ _).trans ?_
  exact congrArg (m ((s.tc : Thread nD τ).loc main_arg3)) (emb_slab (Memref.whole main_arg3) (sqz 3) (at_ 3 d) d rfl x y)

theorem sent_eq4 (s d : Dev nD) (x : Fin 1024) (y : Fin 192) :
    sent_ m 4 s d (ix2 x y) = m ((s.tc : Thread nD τ).loc main_arg4) (ix3 (show Fin 8 from d) x y) := by
  refine (View.read_apply _ _).trans ?_
  exact congrArg (m ((s.tc : Thread nD τ).loc main_arg4)) (emb_slab (Memref.whole main_arg4) (sqz 4) (at_ 4 d) d rfl x y)

theorem sent_eq5 (s d : Dev nD) (x : Fin 128) (y : Fin 512) :
    sent_ m 5 s d (ix2 x y) = m ((s.tc : Thread nD τ).loc main_arg5) (ix3 (show Fin 8 from d) x y) := by
  refine (View.read_apply _ _).trans ?_
  exact congrArg (m ((s.tc : Thread nD τ).loc main_arg5)) (emb_slab (Memref.whole main_arg5) (sqz 5) (at_ 5 d) d rfl x y)

theorem sent_eq6 (s d : Dev nD) (x : Fin 128) (y : Fin 1024) :
    sent_ m 6 s d (ix2 x y) = m ((s.tc : Thread nD τ).loc main_arg6) (ix3 (show Fin 8 from d) x y) := by
  refine (View.read_apply _ _).trans ?_
  exact congrArg (m ((s.tc : Thread nD τ).loc main_arg6)) (emb_slab (Memref.whole main_arg6) (sqz 6) (at_ 6 d) d rfl x y)

theorem sent_eq7 (s d : Dev nD) (x : Fin 1024) (y : Fin 352) :
    sent_ m 7 s d (ix2 x y) = m ((s.tc : Thread nD τ).loc main_arg7) (ix3 (show Fin 8 from d) x y) := by
  refine (View.read_apply _ _).trans ?_
  exact congrArg (m ((s.tc : Thread nD τ).loc main_arg7)) (emb_slab (Memref.whole main_arg7) (sqz 7) (at_ 7 d) d rfl x y)

theorem sent_eq8 (s d : Dev nD) (x : Fin 1024) (y : Fin 352) :
    sent_ m 8 s d (ix2 x y) = m ((s.tc : Thread nD τ).loc main_arg8) (ix3 (show Fin 8 from d) x y) := by
  refine (View.read_apply _ _).trans ?_
  exact congrArg (m ((s.tc : Thread nD τ).loc main_arg8)) (emb_slab (Memref.whole main_arg8) (sqz 8) (at_ 8 d) d rfl x y)

theorem sent_eq9 (s d : Dev nD) (x : Fin 352) (y : Fin 1024) :
    sent_ m 9 s d (ix2 x y) = m ((s.tc : Thread nD τ).loc main_arg9) (ix3 (show Fin 8 from d) x y) := by
  refine (View.read_apply _ _).trans ?_
  exact congrArg (m ((s.tc : Thread nD τ).loc main_arg9)) (emb_slab (Memref.whole main_arg9) (sqz 9) (at_ 9 d) d rfl x y)

/-! ## The outputs -/

theorem made_stacked0 (c : Dev nD) : made m 0 c = stacked m 0 c := funext fun j => made_emb m 0 c j
theorem made_stacked1 (c : Dev nD) : made m 1 c = stacked m 1 c := funext fun j => made_emb m 1 c j
theorem made_stacked2 (c : Dev nD) : made m 2 c = stacked m 2 c := funext fun j => made_emb m 2 c j
theorem made_stacked3 (c : Dev nD) : made m 3 c = stacked m 3 c := funext fun j => made_emb m 3 c j
theorem made_stacked4 (c : Dev nD) : made m 4 c = stacked m 4 c := funext fun j => made_emb m 4 c j
theorem made_stacked5 (c : Dev nD) : made m 5 c = stacked m 5 c := funext fun j => made_emb m 5 c j
theorem made_stacked6 (c : Dev nD) : made m 6 c = stacked m 6 c := funext fun j => made_emb m 6 c j
theorem made_stacked7 (c : Dev nD) : made m 7 c = stacked m 7 c := funext fun j => made_emb m 7 c j
theorem made_stacked8 (c : Dev nD) : made m 8 c = stacked m 8 c := funext fun j => made_emb m 8 c j
theorem made_stacked9 (c : Dev nD) : made m 9 c = stacked m 9 c := funext fun j => made_emb m 9 c j

theorem made_rows (W : Rows.Idx → Elt F .f32)
    (h : ∀ s : Dev nD, m ((s.tc : Thread nD τ).loc main_arg0) = Layout.block ⟨2, ![16, 1024]⟩ Rows 0 8 s W (by decide)) (c : Dev nD) :
    made m 0 c = shapeCast (St8 16 1024) W rows_cast := by
  rw [made_stacked0]
  funext j
  exact (congrFun (h (j 0)) (ix2 (j 1) (j 2))).trans (slab_eq_block W j)

theorem made_blocks1 (W : (Whole64 1024 352).Idx → Elt F .bf16)
    (h : ∀ s : Dev nD, m ((s.tc : Thread nD τ).loc main_arg1) = Layout.block (St8 1024 352) (Whole64 1024 352) 0 8 s W (by decide))
    (h₁ : (Whole64 1024 352).ShapeCasts (Sq8 1024 352)) (ht : (Sq8 1024 352).Transposes [1, 0, 2, 3] (Sq8 1024 352))
    (h₂ : (Sq8 1024 352).ShapeCasts (Whole64 1024 352)) (c : Dev nD) :
    made m 1 c = Layout.block (St8 1024 352) (Whole64 1024 352) 0 8 c (exchanged W h₁ ht h₂) (by decide) := by
  rw [made_stacked1]
  funext j
  exact ((sent_eq1 m (j 0) c (j 1) (j 2)).trans (congrFun (h (j 0)) _)).trans (exchanged_block W h₁ ht h₂ _ _ c j).symm

theorem made_blocks2 (W : (Whole64 1024 352).Idx → Elt F .bf16)
    (h : ∀ s : Dev nD, m ((s.tc : Thread nD τ).loc main_arg2) = Layout.block (St8 1024 352) (Whole64 1024 352) 0 8 s W (by decide))
    (h₁ : (Whole64 1024 352).ShapeCasts (Sq8 1024 352)) (ht : (Sq8 1024 352).Transposes [1, 0, 2, 3] (Sq8 1024 352))
    (h₂ : (Sq8 1024 352).ShapeCasts (Whole64 1024 352)) (c : Dev nD) :
    made m 2 c = Layout.block (St8 1024 352) (Whole64 1024 352) 0 8 c (exchanged W h₁ ht h₂) (by decide) := by
  rw [made_stacked2]
  funext j
  exact ((sent_eq2 m (j 0) c (j 1) (j 2)).trans (congrFun (h (j 0)) _)).trans (exchanged_block W h₁ ht h₂ _ _ c j).symm

theorem made_blocks3 (W : (Whole64 352 1024).Idx → Elt F .bf16)
    (h : ∀ s : Dev nD, m ((s.tc : Thread nD τ).loc main_arg3) = Layout.block (St8 352 1024) (Whole64 352 1024) 0 8 s W (by decide))
    (h₁ : (Whole64 352 1024).ShapeCasts (Sq8 352 1024)) (ht : (Sq8 352 1024).Transposes [1, 0, 2, 3] (Sq8 352 1024))
    (h₂ : (Sq8 352 1024).ShapeCasts (Whole64 352 1024)) (c : Dev nD) :
    made m 3 c = Layout.block (St8 352 1024) (Whole64 352 1024) 0 8 c (exchanged W h₁ ht h₂) (by decide) := by
  rw [made_stacked3]
  funext j
  exact ((sent_eq3 m (j 0) c (j 1) (j 2)).trans (congrFun (h (j 0)) _)).trans (exchanged_block W h₁ ht h₂ _ _ c j).symm

theorem made_blocks4 (W : (Whole64 1024 192).Idx → Elt F .bf16)
    (h : ∀ s : Dev nD, m ((s.tc : Thread nD τ).loc main_arg4) = Layout.block (St8 1024 192) (Whole64 1024 192) 0 8 s W (by decide))
    (h₁ : (Whole64 1024 192).ShapeCasts (Sq8 1024 192)) (ht : (Sq8 1024 192).Transposes [1, 0, 2, 3] (Sq8 1024 192))
    (h₂ : (Sq8 1024 192).ShapeCasts (Whole64 1024 192)) (c : Dev nD) :
    made m 4 c = Layout.block (St8 1024 192) (Whole64 1024 192) 0 8 c (exchanged W h₁ ht h₂) (by decide) := by
  rw [made_stacked4]
  funext j
  exact ((sent_eq4 m (j 0) c (j 1) (j 2)).trans (congrFun (h (j 0)) _)).trans (exchanged_block W h₁ ht h₂ _ _ c j).symm

theorem made_blocks5 (W : (Whole64 128 512).Idx → Elt F .bf16)
    (h : ∀ s : Dev nD, m ((s.tc : Thread nD τ).loc main_arg5) = Layout.block (St8 128 512) (Whole64 128 512) 0 8 s W (by decide))
    (h₁ : (Whole64 128 512).ShapeCasts (Sq8 128 512)) (ht : (Sq8 128 512).Transposes [1, 0, 2, 3] (Sq8 128 512))
    (h₂ : (Sq8 128 512).ShapeCasts (Whole64 128 512)) (c : Dev nD) :
    made m 5 c = Layout.block (St8 128 512) (Whole64 128 512) 0 8 c (exchanged W h₁ ht h₂) (by decide) := by
  rw [made_stacked5]
  funext j
  exact ((sent_eq5 m (j 0) c (j 1) (j 2)).trans (congrFun (h (j 0)) _)).trans (exchanged_block W h₁ ht h₂ _ _ c j).symm

theorem made_blocks6 (W : (Whole64 128 1024).Idx → Elt F .bf16)
    (h : ∀ s : Dev nD, m ((s.tc : Thread nD τ).loc main_arg6) = Layout.block (St8 128 1024) (Whole64 128 1024) 0 8 s W (by decide))
    (h₁ : (Whole64 128 1024).ShapeCasts (Sq8 128 1024)) (ht : (Sq8 128 1024).Transposes [1, 0, 2, 3] (Sq8 128 1024))
    (h₂ : (Sq8 128 1024).ShapeCasts (Whole64 128 1024)) (c : Dev nD) :
    made m 6 c = Layout.block (St8 128 1024) (Whole64 128 1024) 0 8 c (exchanged W h₁ ht h₂) (by decide) := by
  rw [made_stacked6]
  funext j
  exact ((sent_eq6 m (j 0) c (j 1) (j 2)).trans (congrFun (h (j 0)) _)).trans (exchanged_block W h₁ ht h₂ _ _ c j).symm

theorem made_blocks7 (W : (Whole64 1024 352).Idx → Elt F .bf16)
    (h : ∀ s : Dev nD, m ((s.tc : Thread nD τ).loc main_arg7) = Layout.block (St8 1024 352) (Whole64 1024 352) 0 8 s W (by decide))
    (h₁ : (Whole64 1024 352).ShapeCasts (Sq8 1024 352)) (ht : (Sq8 1024 352).Transposes [1, 0, 2, 3] (Sq8 1024 352))
    (h₂ : (Sq8 1024 352).ShapeCasts (Whole64 1024 352)) (c : Dev nD) :
    made m 7 c = Layout.block (St8 1024 352) (Whole64 1024 352) 0 8 c (exchanged W h₁ ht h₂) (by decide) := by
  rw [made_stacked7]
  funext j
  exact ((sent_eq7 m (j 0) c (j 1) (j 2)).trans (congrFun (h (j 0)) _)).trans (exchanged_block W h₁ ht h₂ _ _ c j).symm

theorem made_blocks8 (W : (Whole64 1024 352).Idx → Elt F .bf16)
    (h : ∀ s : Dev nD, m ((s.tc : Thread nD τ).loc main_arg8) = Layout.block (St8 1024 352) (Whole64 1024 352) 0 8 s W (by decide))
    (h₁ : (Whole64 1024 352).ShapeCasts (Sq8 1024 352)) (ht : (Sq8 1024 352).Transposes [1, 0, 2, 3] (Sq8 1024 352))
    (h₂ : (Sq8 1024 352).ShapeCasts (Whole64 1024 352)) (c : Dev nD) :
    made m 8 c = Layout.block (St8 1024 352) (Whole64 1024 352) 0 8 c (exchanged W h₁ ht h₂) (by decide) := by
  rw [made_stacked8]
  funext j
  exact ((sent_eq8 m (j 0) c (j 1) (j 2)).trans (congrFun (h (j 0)) _)).trans (exchanged_block W h₁ ht h₂ _ _ c j).symm

theorem made_blocks9 (W : (Whole64 352 1024).Idx → Elt F .bf16)
    (h : ∀ s : Dev nD, m ((s.tc : Thread nD τ).loc main_arg9) = Layout.block (St8 352 1024) (Whole64 352 1024) 0 8 s W (by decide))
    (h₁ : (Whole64 352 1024).ShapeCasts (Sq8 352 1024)) (ht : (Sq8 352 1024).Transposes [1, 0, 2, 3] (Sq8 352 1024))
    (h₂ : (Sq8 352 1024).ShapeCasts (Whole64 352 1024)) (c : Dev nD) :
    made m 9 c = Layout.block (St8 352 1024) (Whole64 352 1024) 0 8 c (exchanged W h₁ ht h₂) (by decide) := by
  rw [made_stacked9]
  funext j
  exact ((sent_eq9 m (j 0) c (j 1) (j 2)).trans (congrFun (h (j 0)) _)).trans (exchanged_block W h₁ ht h₂ _ _ c j).symm

/-! ## The run -/

/-- The arguments end unchanged and the counters at zero. -/
theorem run_frame : θ_run (defs (F := F)) (onTc (τ := τ) (main (F := F))) (⟨m, fun _ => 0, ρ⟩ : MemSt nD τ sig (Elt F))
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run (defs (F := F)) _ _).mono (fun _ h => ⟨fun c => ⟨(h.1 c 0).1, (h.1 c 1).1, (h.1 c 2).1, (h.1 c 3).1, (h.1 c 4).1, (h.1 c 5).1, (h.1 c 6).1, (h.1 c 7).1, (h.1 c 8).1, (h.1 c 9).1⟩, h.2⟩) (run_main m ρ)

/-- From blocks of ten whole arrays, every device ends with the packed array whole and its blocks of the nine exchanged ones. -/
theorem run_blocks (W0 : Rows.Idx → Elt F .f32) (W1 : (Whole64 1024 352).Idx → Elt F .bf16) (W2 : (Whole64 1024 352).Idx → Elt F .bf16) (W3 : (Whole64 352 1024).Idx → Elt F .bf16) (W4 : (Whole64 1024 192).Idx → Elt F .bf16) (W5 : (Whole64 128 512).Idx → Elt F .bf16) (W6 : (Whole64 128 1024).Idx → Elt F .bf16) (W7 : (Whole64 1024 352).Idx → Elt F .bf16) (W8 : (Whole64 1024 352).Idx → Elt F .bf16) (W9 : (Whole64 352 1024).Idx → Elt F .bf16)
    (h : ∀ c : Dev nD, m ((c.tc : Thread nD τ).loc main_arg0) = Layout.block ⟨2, ![16, 1024]⟩ Rows 0 8 c W0 (by decide)
      ∧ m ((c.tc : Thread nD τ).loc main_arg1) = Layout.block (St8 1024 352) (Whole64 1024 352) 0 8 c W1 (by decide)
      ∧ m ((c.tc : Thread nD τ).loc main_arg2) = Layout.block (St8 1024 352) (Whole64 1024 352) 0 8 c W2 (by decide)
      ∧ m ((c.tc : Thread nD τ).loc main_arg3) = Layout.block (St8 352 1024) (Whole64 352 1024) 0 8 c W3 (by decide)
      ∧ m ((c.tc : Thread nD τ).loc main_arg4) = Layout.block (St8 1024 192) (Whole64 1024 192) 0 8 c W4 (by decide)
      ∧ m ((c.tc : Thread nD τ).loc main_arg5) = Layout.block (St8 128 512) (Whole64 128 512) 0 8 c W5 (by decide)
      ∧ m ((c.tc : Thread nD τ).loc main_arg6) = Layout.block (St8 128 1024) (Whole64 128 1024) 0 8 c W6 (by decide)
      ∧ m ((c.tc : Thread nD τ).loc main_arg7) = Layout.block (St8 1024 352) (Whole64 1024 352) 0 8 c W7 (by decide)
      ∧ m ((c.tc : Thread nD τ).loc main_arg8) = Layout.block (St8 1024 352) (Whole64 1024 352) 0 8 c W8 (by decide)
      ∧ m ((c.tc : Thread nD τ).loc main_arg9) = Layout.block (St8 352 1024) (Whole64 352 1024) 0 8 c W9 (by decide))
    (a0 : (Whole64 128 512).ShapeCasts (Sq8 128 512)) (t0 : (Sq8 128 512).Transposes [1, 0, 2, 3] (Sq8 128 512)) (b0 : (Sq8 128 512).ShapeCasts (Whole64 128 512))
    (a1 : (Whole64 128 1024).ShapeCasts (Sq8 128 1024)) (t1 : (Sq8 128 1024).Transposes [1, 0, 2, 3] (Sq8 128 1024)) (b1 : (Sq8 128 1024).ShapeCasts (Whole64 128 1024))
    (a2 : (Whole64 352 1024).ShapeCasts (Sq8 352 1024)) (t2 : (Sq8 352 1024).Transposes [1, 0, 2, 3] (Sq8 352 1024)) (b2 : (Sq8 352 1024).ShapeCasts (Whole64 352 1024))
    (a3 : (Whole64 1024 192).ShapeCasts (Sq8 1024 192)) (t3 : (Sq8 1024 192).Transposes [1, 0, 2, 3] (Sq8 1024 192)) (b3 : (Sq8 1024 192).ShapeCasts (Whole64 1024 192))
    (a4 : (Whole64 1024 352).ShapeCasts (Sq8 1024 352)) (t4 : (Sq8 1024 352).Transposes [1, 0, 2, 3] (Sq8 1024 352)) (b4 : (Sq8 1024 352).ShapeCasts (Whole64 1024 352)) :
    θ_run (defs (F := F)) (onTc (τ := τ) (main (F := F))) (⟨m, fun _ => 0, ρ⟩ : MemSt nD τ sig (Elt F))
      (fun r => ∀ c : Dev nD, r.2.mem ((c.tc : Thread nD τ).loc main_v1_0) = shapeCast (St8 16 1024) W0 rows_cast
        ∧ r.2.mem ((c.tc : Thread nD τ).loc main_v1_1) = Layout.block (St8 1024 352) (Whole64 1024 352) 0 8 c (exchanged W1 a4 t4 b4) (by decide)
        ∧ r.2.mem ((c.tc : Thread nD τ).loc main_v1_2) = Layout.block (St8 1024 352) (Whole64 1024 352) 0 8 c (exchanged W2 a4 t4 b4) (by decide)
        ∧ r.2.mem ((c.tc : Thread nD τ).loc main_v1_3) = Layout.block (St8 352 1024) (Whole64 352 1024) 0 8 c (exchanged W3 a2 t2 b2) (by decide)
        ∧ r.2.mem ((c.tc : Thread nD τ).loc main_v1_4) = Layout.block (St8 1024 192) (Whole64 1024 192) 0 8 c (exchanged W4 a3 t3 b3) (by decide)
        ∧ r.2.mem ((c.tc : Thread nD τ).loc main_v1_5) = Layout.block (St8 128 512) (Whole64 128 512) 0 8 c (exchanged W5 a0 t0 b0) (by decide)
        ∧ r.2.mem ((c.tc : Thread nD τ).loc main_v1_6) = Layout.block (St8 128 1024) (Whole64 128 1024) 0 8 c (exchanged W6 a1 t1 b1) (by decide)
        ∧ r.2.mem ((c.tc : Thread nD τ).loc main_v1_7) = Layout.block (St8 1024 352) (Whole64 1024 352) 0 8 c (exchanged W7 a4 t4 b4) (by decide)
        ∧ r.2.mem ((c.tc : Thread nD τ).loc main_v1_8) = Layout.block (St8 1024 352) (Whole64 1024 352) 0 8 c (exchanged W8 a4 t4 b4) (by decide)
        ∧ r.2.mem ((c.tc : Thread nD τ).loc main_v1_9) = Layout.block (St8 352 1024) (Whole64 352 1024) 0 8 c (exchanged W9 a2 t2 b2) (by decide)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)) :=
  (θ_run (defs (F := F)) _ _).mono (fun _ r c =>
    ⟨(r.1 c 0).2.trans (made_rows m W0 (fun s => (h s).1) c),
      (r.1 c 1).2.trans (made_blocks1 m W1 (fun s => (h s).2.1) a4 t4 b4 c),
      (r.1 c 2).2.trans (made_blocks2 m W2 (fun s => (h s).2.2.1) a4 t4 b4 c),
      (r.1 c 3).2.trans (made_blocks3 m W3 (fun s => (h s).2.2.2.1) a2 t2 b2 c),
      (r.1 c 4).2.trans (made_blocks4 m W4 (fun s => (h s).2.2.2.2.1) a3 t3 b3 c),
      (r.1 c 5).2.trans (made_blocks5 m W5 (fun s => (h s).2.2.2.2.2.1) a0 t0 b0 c),
      (r.1 c 6).2.trans (made_blocks6 m W6 (fun s => (h s).2.2.2.2.2.2.1) a1 t1 b1 c),
      (r.1 c 7).2.trans (made_blocks7 m W7 (fun s => (h s).2.2.2.2.2.2.2.1) a4 t4 b4 c),
      (r.1 c 8).2.trans (made_blocks8 m W8 (fun s => (h s).2.2.2.2.2.2.2.2.1) a4 t4 b4 c),
      (r.1 c 9).2.trans (made_blocks9 m W9 (fun s => (h s).2.2.2.2.2.2.2.2.2) a2 t2 b2 c),
      (r.1 c 0).1, (r.1 c 1).1, (r.1 c 2).1, (r.1 c 3).1, (r.1 c 4).1, (r.1 c 5).1, (r.1 c 6).1, (r.1 c 7).1, (r.1 c 8).1, (r.1 c 9).1⟩) (run_main m ρ)

end Cert.ScatterIdeal.Exchange

end
-- ==== Proof.WeightsOps.lean ====
/- The gather's body as a list of operations.

   Eight devices, numbered 4 x + 2 y + c, and ten arrays, each gathered: a device's whole block of it goes to every device,
   and slot `s` of an output is for the block of device `s`.  The seven copies a device makes of each of its blocks go to
   the seven devices whose number differs from its own in some bits (`pr`); besides, a local copy fills the own slot. -/
module

public import proofs.«01_k».proof.Proof.Gen.WeightsIdeal
public import proofs.«01_k».proof.Proof.Gen.WeightsIdeal.Points

@[expose] public section

noncomputable section

namespace Cert.WeightsIdeal.Exchange

open Idealize.ShloMosaic Idealize.ShloMosaic.TcCoe
open Idealize.SL Idealize.SL.Sem
open Cert.WeightsIdeal Facts₀ Facts

/-! ## Devices -/

/-- The peer of copy `k`: the device whose number differs from `c`'s in the bits of `k + 1`. -/
def pr (k : Fin 7) (c : Dev nD) : Dev nD := ⟨(c.val ^^^ (k.val + 1)) % 8, Nat.mod_lt _ (by decide)⟩

theorem pr_pr : ∀ (k : Fin 7) (c : Dev nD), pr k (pr k c) = c := by decide

/-! ## Arrays, slots and semaphores -/

/-- The rows and columns of array `w`'s blocks, and its elements. -/
def rows : Fin 10 → ℕ
  | 0 => 1024 | 1 => 1024 | 2 => 352 | 3 => 1024 | 4 => 128 | 5 => 128 | 6 => 1024 | 7 => 1024 | 8 => 352 | 9 => 31
def cols : Fin 10 → ℕ
  | 0 => 352 | 1 => 352 | 2 => 1024 | 3 => 192 | 4 => 512 | 5 => 1024 | 6 => 352 | 7 => 352 | 8 => 1024 | 9 => 32
def el : Fin 10 → EltTy
  | 0 => .bf16 | 1 => .bf16 | 2 => .bf16 | 3 => .bf16 | 4 => .bf16 | 5 => .bf16 | 6 => .bf16 | 7 => .bf16 | 8 => .bf16 | 9 => .f32

abbrev Sq (r c : ℕ) : Shape := ⟨2, ![r, c]⟩
abbrev Sl (r c : ℕ) : Shape := ⟨3, ![1, r, c]⟩
abbrev St8 (r c : ℕ) : Shape := ⟨3, ![8, r, c]⟩

/-- One slab of a stack of eight: its offset, in bounds, and made of whole words. -/
structure Cut (e : EltTy) (r c : ℕ) where
  off : Fin 3 → ℕ
  inb : ∀ a, off a + (Sl r c).size a ≤ (St8 r c).size a
  wds : EltTy.bits e = 32 ∨ (Rect.unit (s := St8 r c) off (Sl r c).size inb).WholeWords (EltTy.packing e)

theorem Cut.ext' {e : EltTy} {r c : ℕ} {a b : Cut e r c} (h : a.off = b.off) : a = b := by
  obtain ⟨o, p, q⟩ := a; obtain ⟨o', p', q'⟩ := b
  cases h; rfl

/-- The slab of a stack as an array of its own. -/
def slab {e : EltTy} {r c : ℕ} (A : Memref sig .tc .hbm (St8 r c) e) (hs : (Sl r c).Squeezes (Sq r c)) (a : Cut e r c) : Memref sig .tc .hbm (Sq r c) e :=
  (A.slice (Rect.unit (s := St8 r c) a.off (Sl r c).size a.inb) (fun _ => rfl)).squeeze (Sq r c) hs

theorem slab_exact {e : EltTy} {r c : ℕ} (A : Memref sig .tc .hbm (St8 r c) e) (hA : A.IsWhole) (hs : (Sl r c).Squeezes (Sq r c)) (a : Cut e r c) :
    (slab A hs a).view.WordExact := by
  rcases a.wds with h | h
  · exact (View.wordExact_bits h).reshape _ _
  · exact (hA.wordExact_slice rfl _ h).reshape _ _

theorem sqz : ∀ w : Fin 10, (Sl (rows w) (cols w)).Squeezes (Sq (rows w) (cols w))
  | 0 => squeezes_S1x1024x352_S1024x352
  | 1 => squeezes_S1x1024x352_S1024x352
  | 2 => squeezes_S1x352x1024_S352x1024
  | 3 => squeezes_S1x1024x192_S1024x192
  | 4 => squeezes_S1x128x512_S128x512
  | 5 => squeezes_S1x128x1024_S128x1024
  | 6 => squeezes_S1x1024x352_S1024x352
  | 7 => squeezes_S1x1024x352_S1024x352
  | 8 => squeezes_S1x352x1024_S352x1024
  | 9 => squeezes_S1x31x32_S31x32

def outM : (w : Fin 10) → Memref sig .tc .hbm (St8 (rows w) (cols w)) (el w)
  | 0 => Memref.whole main_v1_0
  | 1 => Memref.whole main_v1_1
  | 2 => Memref.whole main_v1_2
  | 3 => Memref.whole main_v1_3
  | 4 => Memref.whole main_v1_4
  | 5 => Memref.whole main_v1_5
  | 6 => Memref.whole main_v1_6
  | 7 => Memref.whole main_v1_7
  | 8 => Memref.whole main_v1_8
  | 9 => Memref.whole main_v1_9
theorem isWhole_outM : ∀ w, (outM w).IsWhole
  | 0 => Memref.isWhole_whole _
  | 1 => Memref.isWhole_whole _
  | 2 => Memref.isWhole_whole _
  | 3 => Memref.isWhole_whole _
  | 4 => Memref.isWhole_whole _
  | 5 => Memref.isWhole_whole _
  | 6 => Memref.isWhole_whole _
  | 7 => Memref.isWhole_whole _
  | 8 => Memref.isWhole_whole _
  | 9 => Memref.isWhole_whole _

/-- A slab's offset, for slot `s`. -/
def offs (s : Fin 8) : Fin 3 → ℕ := ![s.val, 0, 0]

theorem off1_eq : ∀ c : Dev nD, k0_off1 c = offs c := by decide
theorem off2_eq : ∀ c : Dev nD, k0_off2 c = offs c := by decide
theorem off3_eq : ∀ c : Dev nD, k0_off3 c = offs c := by decide
theorem off4_eq : ∀ c : Dev nD, k0_off4 c = offs c := by decide
theorem off5_eq : ∀ c : Dev nD, k0_off5 c = offs c := by decide
theorem off6_eq : ∀ c : Dev nD, k0_off6 c = offs c := by decide

/-- The slab of the device itself, as printed. -/
def ownP : (w : Fin 10) → Dev nD → Cut (el w) (rows w) (cols w)
  | 0 => fun c => ⟨k0_off1 c, k0_off1_inb c, Or.inr (k0_off1_wordsbf16 c)⟩
  | 1 => fun c => ⟨k0_off1 c, k0_off1_inb c, Or.inr (k0_off1_wordsbf16 c)⟩
  | 2 => fun c => ⟨k0_off2 c, k0_off2_inb c, Or.inr (k0_off2_wordsbf16 c)⟩
  | 3 => fun c => ⟨k0_off3 c, k0_off3_inb c, Or.inr (k0_off3_wordsbf16 c)⟩
  | 4 => fun c => ⟨k0_off4 c, k0_off4_inb c, Or.inr (k0_off4_wordsbf16 c)⟩
  | 5 => fun c => ⟨k0_off5 c, k0_off5_inb c, Or.inr (k0_off5_wordsbf16 c)⟩
  | 6 => fun c => ⟨k0_off1 c, k0_off1_inb c, Or.inr (k0_off1_wordsbf16 c)⟩
  | 7 => fun c => ⟨k0_off1 c, k0_off1_inb c, Or.inr (k0_off1_wordsbf16 c)⟩
  | 8 => fun c => ⟨k0_off2 c, k0_off2_inb c, Or.inr (k0_off2_wordsbf16 c)⟩
  | 9 => fun c => ⟨k0_off6 c, k0_off6_inb c, Or.inl rfl⟩

theorem ownP_off : ∀ (w : Fin 10) (c : Dev nD), (ownP w c).off = offs c
  | 0, c => off1_eq c
  | 1, c => off1_eq c
  | 2, c => off2_eq c
  | 3, c => off3_eq c
  | 4, c => off4_eq c
  | 5, c => off5_eq c
  | 6, c => off1_eq c
  | 7, c => off1_eq c
  | 8, c => off2_eq c
  | 9, c => off6_eq c

theorem Cut.inb_at {e : EltTy} {r c : ℕ} (a : Cut e r c) {o : Fin 3 → ℕ} (h : a.off = o) : ∀ i, o i + (Sl r c).size i ≤ (St8 r c).size i := by
  subst h; exact a.inb

theorem Cut.wds_at {e : EltTy} {r c : ℕ} (a : Cut e r c) {o : Fin 3 → ℕ} (h : a.off = o) :
    EltTy.bits e = 32 ∨ (Rect.unit (s := St8 r c) o (Sl r c).size (a.inb_at h)).WholeWords (EltTy.packing e) := by
  subst h; exact a.wds

/-- The slab of slot `s`. -/
def at_ (w : Fin 10) (s : Fin 8) : Cut (el w) (rows w) (cols w) :=
  ⟨offs s, (ownP w s).inb_at (ownP_off w s), (ownP w s).wds_at (ownP_off w s)⟩

theorem ownP_eq (w : Fin 10) (c : Dev nD) : ownP w c = at_ w c := Cut.ext' (ownP_off w c)

/-- Slot `s` of output `w`. -/
def slot (w : Fin 10) (s : Fin 8) : Memref sig .tc .hbm (Sq (rows w) (cols w)) (el w) := slab (outM w) (sqz w) (at_ w s)

/-- What is read of input `w`: all of it, whatever the slab. -/
def srcAt : (w : Fin 10) → Cut (el w) (rows w) (cols w) → Memref sig .tc .hbm (Sq (rows w) (cols w)) (el w)
  | 0 => fun _ => Memref.whole main_arg0
  | 1 => fun _ => Memref.whole main_arg1
  | 2 => fun _ => Memref.whole main_arg2
  | 3 => fun _ => Memref.whole main_arg3
  | 4 => fun _ => Memref.whole main_arg4
  | 5 => fun _ => Memref.whole main_arg5
  | 6 => fun _ => Memref.whole main_arg6
  | 7 => fun _ => Memref.whole main_arg7
  | 8 => fun _ => Memref.whole main_arg8
  | 9 => fun _ => Memref.whole main_arg9

theorem srcAt_exact : ∀ (w : Fin 10) (a : Cut (el w) (rows w) (cols w)), (srcAt w a).view.WordExact
  | 0, _ => (Memref.isWhole_whole _).wordExact
  | 1, _ => (Memref.isWhole_whole _).wordExact
  | 2, _ => (Memref.isWhole_whole _).wordExact
  | 3, _ => (Memref.isWhole_whole _).wordExact
  | 4, _ => (Memref.isWhole_whole _).wordExact
  | 5, _ => (Memref.isWhole_whole _).wordExact
  | 6, _ => (Memref.isWhole_whole _).wordExact
  | 7, _ => (Memref.isWhole_whole _).wordExact
  | 8, _ => (Memref.isWhole_whole _).wordExact
  | 9, _ => (Memref.isWhole_whole _).wordExact

/-- What a device sends to device `s` of input `w`. -/
def src (w : Fin 10) (s : Fin 8) : Memref sig .tc .hbm (Sq (rows w) (cols w)) (el w) := srcAt w (at_ w s)

def ix (w : Fin 10) (k : Fin 7) : Fin 70 := ⟨7 * w.val + k.val, by omega⟩

theorem inb70 (i : Fin 70) : ∀ a, (![i.val] : Fin 1 → ℕ) a + S1.size a ≤ S70.size a := by revert i; decide
theorem inb10 (i : Fin 10) : ∀ a, (![i.val] : Fin 1 → ℕ) a + S1.size a ≤ S10.size a := by revert i; decide

def sem70 (A : DmaSems sig S70) (i : Fin 70) : DmaSem sig :=
  ((A.slice (Rect.unit (s := S70) ![i.val] S1.size (inb70 i))).squeeze S_ squeezes_S1_S_).sem
def sem10 (A : DmaSems sig S10) (i : Fin 10) : DmaSem sig :=
  ((A.slice (Rect.unit (s := S10) ![i.val] S1.size (inb10 i))).squeeze S_ squeezes_S1_S_).sem

def sendS (w : Fin 10) (k : Fin 7) : DmaSem sig := sem70 cc0_scratch0 (ix w k)
def recvS (w : Fin 10) (k : Fin 7) : DmaSem sig := sem70 cc0_scratch1 (ix w k)
def copyS (w : Fin 10) : DmaSem sig := sem10 cc0_scratch2 w

/-! ## Operations -/

/-- One operation of the body: start the local copy, start copy `k`, wait for what copy `k` brings, wait for
    the end of copy `k`'s reading, wait for the local copy. -/
inductive Op where
  | copy (w : Fin 10)
  | send (w : Fin 10) (k : Fin 7)
  | recv (w : Fin 10) (k : Fin 7)
  | sent (w : Fin 10) (k : Fin 7)
  | copied (w : Fin 10)
deriving DecidableEq

def arrs : List (Fin 10) := [0, 1, 2, 3, 4, 5, 6, 7, 8, 9]
def peers : List (Fin 7) := [0, 1, 2, 3, 4, 5, 6]
def all2 (f : Fin 10 → Fin 7 → Op) : List Op := arrs.flatMap fun w => peers.map fun k => f w k

def ops : List Op := arrs.map .copy ++ (all2 .send ++ (all2 .recv ++ (all2 .sent ++ arrs.map .copied)))

variable {F : FTy → Type} [FloatOps F]

/-- The effects of the body. -/
abbrev Eff (F : FTy → Type) [FloatOps F] := TpuEff nD τ sig (Elt F) Λ₀ .tc PUnit

/-- Start of a copy to a device, and the waits for a copy. -/
def copyE (w : Fin 10) (a : Cut (el w) (rows w) (cols w)) : Eff F :=
  .enqueueDma (srcAt w a) (.here (slab (outM w) (sqz w) a)) (.dma (copyS w)) (srcAt_exact w a) (slab_exact _ (isWhole_outM w) (sqz w) a) ⟨Or.inl rfl, trivial⟩

def sendE (w : Fin 10) (k : Fin 7) (n : Dev nD) (a b : Cut (el w) (rows w) (cols w)) : Eff F :=
  .enqueueDma (srcAt w b) (.remote (Dev.tc n) (slab (outM w) (sqz w) a) (.dma (sendS w k)) rfl) (.dma (recvS w k))
    (srcAt_exact w b) (slab_exact _ (isWhole_outM w) (sqz w) a) ⟨⟨rfl, Or.inl rfl⟩, trivial⟩

/-- A wait for one slab to have landed. -/
def landE (w : Fin 10) (sem : DmaSem sig) (a b : Cut (el w) (rows w) (cols w)) : Eff F :=
  .waitDma2 sem (srcAt w b) (slab (outM w) (sqz w) a) (srcAt_exact w b) (slab_exact _ (isWhole_outM w) (sqz w) a)
/-- A wait for what is sent to have been read. -/
def leftE (w : Fin 10) (sem : DmaSem sig) (a b : Cut (el w) (rows w) (cols w)) : Eff F :=
  .waitDma2 sem (slab (outM w) (sqz w) a) (srcAt w b) (slab_exact _ (isWhole_outM w) (sqz w) a) (srcAt_exact w b)

/-- The operation with its device, its own slab and its peer's given. -/
def mk (dv : Fin 10 → Fin 7 → Dev nD) (own : (w : Fin 10) → Cut (el w) (rows w) (cols w)) (pe : (w : Fin 10) → Fin 7 → Cut (el w) (rows w) (cols w)) : Op → Eff F
  | .copy w => copyE w (own w)
  | .send w k => sendE w k (dv w k) (own w) (pe w k)
  | .recv w k => landE w (recvS w k) (pe w k) (pe w k)
  | .sent w k => leftE w (sendS w k) (own w) (pe w k)
  | .copied w => landE w (copyS w) (own w) (own w)

def chain (f : Op → Eff F) : List Op → Prog (TpuEff nD τ sig (Elt F) Λ₀ .tc) PUnit
  | [] => .ret ⟨⟩
  | x :: l => .op (f x) fun _ => chain f l

/-- The printed devices and the printed slabs of the peers. -/
def devP (c : Dev nD) : Fin 10 → Fin 7 → Dev nD
  | 0, 0 => ⟨k0_dev1 c, k0_dev1_lt c⟩ | 0, 1 => ⟨k0_dev2 c, k0_dev2_lt c⟩ | 0, 2 => ⟨k0_dev3 c, k0_dev3_lt c⟩ | 0, 3 => ⟨k0_dev4 c, k0_dev4_lt c⟩ | 0, 4 => ⟨k0_dev5 c, k0_dev5_lt c⟩ | 0, 5 => ⟨k0_dev6 c, k0_dev6_lt c⟩ | 0, 6 => ⟨k0_dev7 c, k0_dev7_lt c⟩
  | 1, 0 => ⟨k0_dev8 c, k0_dev8_lt c⟩ | 1, 1 => ⟨k0_dev9 c, k0_dev9_lt c⟩ | 1, 2 => ⟨k0_dev10 c, k0_dev10_lt c⟩ | 1, 3 => ⟨k0_dev11 c, k0_dev11_lt c⟩ | 1, 4 => ⟨k0_dev12 c, k0_dev12_lt c⟩ | 1, 5 => ⟨k0_dev13 c, k0_dev13_lt c⟩ | 1, 6 => ⟨k0_dev14 c, k0_dev14_lt c⟩
  | 2, 0 => ⟨k0_dev15 c, k0_dev15_lt c⟩ | 2, 1 => ⟨k0_dev16 c, k0_dev16_lt c⟩ | 2, 2 => ⟨k0_dev17 c, k0_dev17_lt c⟩ | 2, 3 => ⟨k0_dev18 c, k0_dev18_lt c⟩ | 2, 4 => ⟨k0_dev19 c, k0_dev19_lt c⟩ | 2, 5 => ⟨k0_dev20 c, k0_dev20_lt c⟩ | 2, 6 => ⟨k0_dev21 c, k0_dev21_lt c⟩
  | 3, 0 => ⟨k0_dev22 c, k0_dev22_lt c⟩ | 3, 1 => ⟨k0_dev23 c, k0_dev23_lt c⟩ | 3, 2 => ⟨k0_dev24 c, k0_dev24_lt c⟩ | 3, 3 => ⟨k0_dev25 c, k0_dev25_lt c⟩ | 3, 4 => ⟨k0_dev26 c, k0_dev26_lt c⟩ | 3, 5 => ⟨k0_dev27 c, k0_dev27_lt c⟩ | 3, 6 => ⟨k0_dev28 c, k0_dev28_lt c⟩
  | 4, 0 => ⟨k0_dev29 c, k0_dev29_lt c⟩ | 4, 1 => ⟨k0_dev30 c, k0_dev30_lt c⟩ | 4, 2 => ⟨k0_dev31 c, k0_dev31_lt c⟩ | 4, 3 => ⟨k0_dev32 c, k0_dev32_lt c⟩ | 4, 4 => ⟨k0_dev33 c, k0_dev33_lt c⟩ | 4, 5 => ⟨k0_dev34 c, k0_dev34_lt c⟩ | 4, 6 => ⟨k0_dev35 c, k0_dev35_lt c⟩
  | 5, 0 => ⟨k0_dev36 c, k0_dev36_lt c⟩ | 5, 1 => ⟨k0_dev37 c, k0_dev37_lt c⟩ | 5, 2 => ⟨k0_dev38 c, k0_dev38_lt c⟩ | 5, 3 => ⟨k0_dev39 c, k0_dev39_lt c⟩ | 5, 4 => ⟨k0_dev40 c, k0_dev40_lt c⟩ | 5, 5 => ⟨k0_dev41 c, k0_dev41_lt c⟩ | 5, 6 => ⟨k0_dev42 c, k0_dev42_lt c⟩
  | 6, 0 => ⟨k0_dev43 c, k0_dev43_lt c⟩ | 6, 1 => ⟨k0_dev44 c, k0_dev44_lt c⟩ | 6, 2 => ⟨k0_dev45 c, k0_dev45_lt c⟩ | 6, 3 => ⟨k0_dev46 c, k0_dev46_lt c⟩ | 6, 4 => ⟨k0_dev47 c, k0_dev47_lt c⟩ | 6, 5 => ⟨k0_dev48 c, k0_dev48_lt c⟩ | 6, 6 => ⟨k0_dev49 c, k0_dev49_lt c⟩
  | 7, 0 => ⟨k0_dev50 c, k0_dev50_lt c⟩ | 7, 1 => ⟨k0_dev51 c, k0_dev51_lt c⟩ | 7, 2 => ⟨k0_dev52 c, k0_dev52_lt c⟩ | 7, 3 => ⟨k0_dev53 c, k0_dev53_lt c⟩ | 7, 4 => ⟨k0_dev54 c, k0_dev54_lt c⟩ | 7, 5 => ⟨k0_dev55 c, k0_dev55_lt c⟩ | 7, 6 => ⟨k0_dev56 c, k0_dev56_lt c⟩
  | 8, 0 => ⟨k0_dev57 c, k0_dev57_lt c⟩ | 8, 1 => ⟨k0_dev58 c, k0_dev58_lt c⟩ | 8, 2 => ⟨k0_dev59 c, k0_dev59_lt c⟩ | 8, 3 => ⟨k0_dev60 c, k0_dev60_lt c⟩ | 8, 4 => ⟨k0_dev61 c, k0_dev61_lt c⟩ | 8, 5 => ⟨k0_dev62 c, k0_dev62_lt c⟩ | 8, 6 => ⟨k0_dev63 c, k0_dev63_lt c⟩
  | 9, 0 => ⟨k0_dev64 c, k0_dev64_lt c⟩ | 9, 1 => ⟨k0_dev65 c, k0_dev65_lt c⟩ | 9, 2 => ⟨k0_dev66 c, k0_dev66_lt c⟩ | 9, 3 => ⟨k0_dev67 c, k0_dev67_lt c⟩ | 9, 4 => ⟨k0_dev68 c, k0_dev68_lt c⟩ | 9, 5 => ⟨k0_dev69 c, k0_dev69_lt c⟩ | 9, 6 => ⟨k0_dev70 c, k0_dev70_lt c⟩

def peerP (c : Dev nD) : (w : Fin 10) → Fin 7 → Cut (el w) (rows w) (cols w)
  | 0, 0 => ⟨k0_off7 c, k0_off7_inb c, Or.inr (k0_off7_wordsbf16 c)⟩
  | 0, 1 => ⟨k0_off8 c, k0_off8_inb c, Or.inr (k0_off8_wordsbf16 c)⟩
  | 0, 2 => ⟨k0_off9 c, k0_off9_inb c, Or.inr (k0_off9_wordsbf16 c)⟩
  | 0, 3 => ⟨k0_off10 c, k0_off10_inb c, Or.inr (k0_off10_wordsbf16 c)⟩
  | 0, 4 => ⟨k0_off11 c, k0_off11_inb c, Or.inr (k0_off11_wordsbf16 c)⟩
  | 0, 5 => ⟨k0_off12 c, k0_off12_inb c, Or.inr (k0_off12_wordsbf16 c)⟩
  | 0, 6 => ⟨k0_off13 c, k0_off13_inb c, Or.inr (k0_off13_wordsbf16 c)⟩
  | 1, 0 => ⟨k0_off7 c, k0_off7_inb c, Or.inr (k0_off7_wordsbf16 c)⟩
  | 1, 1 => ⟨k0_off8 c, k0_off8_inb c, Or.inr (k0_off8_wordsbf16 c)⟩
  | 1, 2 => ⟨k0_off9 c, k0_off9_inb c, Or.inr (k0_off9_wordsbf16 c)⟩
  | 1, 3 => ⟨k0_off10 c, k0_off10_inb c, Or.inr (k0_off10_wordsbf16 c)⟩
  | 1, 4 => ⟨k0_off11 c, k0_off11_inb c, Or.inr (k0_off11_wordsbf16 c)⟩
  | 1, 5 => ⟨k0_off12 c, k0_off12_inb c, Or.inr (k0_off12_wordsbf16 c)⟩
  | 1, 6 => ⟨k0_off13 c, k0_off13_inb c, Or.inr (k0_off13_wordsbf16 c)⟩
  | 2, 0 => ⟨k0_off14 c, k0_off14_inb c, Or.inr (k0_off14_wordsbf16 c)⟩
  | 2, 1 => ⟨k0_off15 c, k0_off15_inb c, Or.inr (k0_off15_wordsbf16 c)⟩
  | 2, 2 => ⟨k0_off16 c, k0_off16_inb c, Or.inr (k0_off16_wordsbf16 c)⟩
  | 2, 3 => ⟨k0_off17 c, k0_off17_inb c, Or.inr (k0_off17_wordsbf16 c)⟩
  | 2, 4 => ⟨k0_off18 c, k0_off18_inb c, Or.inr (k0_off18_wordsbf16 c)⟩
  | 2, 5 => ⟨k0_off19 c, k0_off19_inb c, Or.inr (k0_off19_wordsbf16 c)⟩
  | 2, 6 => ⟨k0_off20 c, k0_off20_inb c, Or.inr (k0_off20_wordsbf16 c)⟩
  | 3, 0 => ⟨k0_off21 c, k0_off21_inb c, Or.inr (k0_off21_wordsbf16 c)⟩
  | 3, 1 => ⟨k0_off22 c, k0_off22_inb c, Or.inr (k0_off22_wordsbf16 c)⟩
  | 3, 2 => ⟨k0_off23 c, k0_off23_inb c, Or.inr (k0_off23_wordsbf16 c)⟩
  | 3, 3 => ⟨k0_off24 c, k0_off24_inb c, Or.inr (k0_off24_wordsbf16 c)⟩
  | 3, 4 => ⟨k0_off25 c, k0_off25_inb c, Or.inr (k0_off25_wordsbf16 c)⟩
  | 3, 5 => ⟨k0_off26 c, k0_off26_inb c, Or.inr (k0_off26_wordsbf16 c)⟩
  | 3, 6 => ⟨k0_off27 c, k0_off27_inb c, Or.inr (k0_off27_wordsbf16 c)⟩
  | 4, 0 => ⟨k0_off28 c, k0_off28_inb c, Or.inr (k0_off28_wordsbf16 c)⟩
  | 4, 1 => ⟨k0_off29 c, k0_off29_inb c, Or.inr (k0_off29_wordsbf16 c)⟩
  | 4, 2 => ⟨k0_off30 c, k0_off30_inb c, Or.inr (k0_off30_wordsbf16 c)⟩
  | 4, 3 => ⟨k0_off31 c, k0_off31_inb c, Or.inr (k0_off31_wordsbf16 c)⟩
  | 4, 4 => ⟨k0_off32 c, k0_off32_inb c, Or.inr (k0_off32_wordsbf16 c)⟩
  | 4, 5 => ⟨k0_off33 c, k0_off33_inb c, Or.inr (k0_off33_wordsbf16 c)⟩
  | 4, 6 => ⟨k0_off34 c, k0_off34_inb c, Or.inr (k0_off34_wordsbf16 c)⟩
  | 5, 0 => ⟨k0_off35 c, k0_off35_inb c, Or.inr (k0_off35_wordsbf16 c)⟩
  | 5, 1 => ⟨k0_off36 c, k0_off36_inb c, Or.inr (k0_off36_wordsbf16 c)⟩
  | 5, 2 => ⟨k0_off37 c, k0_off37_inb c, Or.inr (k0_off37_wordsbf16 c)⟩
  | 5, 3 => ⟨k0_off38 c, k0_off38_inb c, Or.inr (k0_off38_wordsbf16 c)⟩
  | 5, 4 => ⟨k0_off39 c, k0_off39_inb c, Or.inr (k0_off39_wordsbf16 c)⟩
  | 5, 5 => ⟨k0_off40 c, k0_off40_inb c, Or.inr (k0_off40_wordsbf16 c)⟩
  | 5, 6 => ⟨k0_off41 c, k0_off41_inb c, Or.inr (k0_off41_wordsbf16 c)⟩
  | 6, 0 => ⟨k0_off7 c, k0_off7_inb c, Or.inr (k0_off7_wordsbf16 c)⟩
  | 6, 1 => ⟨k0_off8 c, k0_off8_inb c, Or.inr (k0_off8_wordsbf16 c)⟩
  | 6, 2 => ⟨k0_off9 c, k0_off9_inb c, Or.inr (k0_off9_wordsbf16 c)⟩
  | 6, 3 => ⟨k0_off10 c, k0_off10_inb c, Or.inr (k0_off10_wordsbf16 c)⟩
  | 6, 4 => ⟨k0_off11 c, k0_off11_inb c, Or.inr (k0_off11_wordsbf16 c)⟩
  | 6, 5 => ⟨k0_off12 c, k0_off12_inb c, Or.inr (k0_off12_wordsbf16 c)⟩
  | 6, 6 => ⟨k0_off13 c, k0_off13_inb c, Or.inr (k0_off13_wordsbf16 c)⟩
  | 7, 0 => ⟨k0_off7 c, k0_off7_inb c, Or.inr (k0_off7_wordsbf16 c)⟩
  | 7, 1 => ⟨k0_off8 c, k0_off8_inb c, Or.inr (k0_off8_wordsbf16 c)⟩
  | 7, 2 => ⟨k0_off9 c, k0_off9_inb c, Or.inr (k0_off9_wordsbf16 c)⟩
  | 7, 3 => ⟨k0_off10 c, k0_off10_inb c, Or.inr (k0_off10_wordsbf16 c)⟩
  | 7, 4 => ⟨k0_off11 c, k0_off11_inb c, Or.inr (k0_off11_wordsbf16 c)⟩
  | 7, 5 => ⟨k0_off12 c, k0_off12_inb c, Or.inr (k0_off12_wordsbf16 c)⟩
  | 7, 6 => ⟨k0_off13 c, k0_off13_inb c, Or.inr (k0_off13_wordsbf16 c)⟩
  | 8, 0 => ⟨k0_off14 c, k0_off14_inb c, Or.inr (k0_off14_wordsbf16 c)⟩
  | 8, 1 => ⟨k0_off15 c, k0_off15_inb c, Or.inr (k0_off15_wordsbf16 c)⟩
  | 8, 2 => ⟨k0_off16 c, k0_off16_inb c, Or.inr (k0_off16_wordsbf16 c)⟩
  | 8, 3 => ⟨k0_off17 c, k0_off17_inb c, Or.inr (k0_off17_wordsbf16 c)⟩
  | 8, 4 => ⟨k0_off18 c, k0_off18_inb c, Or.inr (k0_off18_wordsbf16 c)⟩
  | 8, 5 => ⟨k0_off19 c, k0_off19_inb c, Or.inr (k0_off19_wordsbf16 c)⟩
  | 8, 6 => ⟨k0_off20 c, k0_off20_inb c, Or.inr (k0_off20_wordsbf16 c)⟩
  | 9, 0 => ⟨k0_off42 c, k0_off42_inb c, Or.inl rfl⟩
  | 9, 1 => ⟨k0_off43 c, k0_off43_inb c, Or.inl rfl⟩
  | 9, 2 => ⟨k0_off44 c, k0_off44_inb c, Or.inl rfl⟩
  | 9, 3 => ⟨k0_off45 c, k0_off45_inb c, Or.inl rfl⟩
  | 9, 4 => ⟨k0_off46 c, k0_off46_inb c, Or.inl rfl⟩
  | 9, 5 => ⟨k0_off47 c, k0_off47_inb c, Or.inl rfl⟩
  | 9, 6 => ⟨k0_off48 c, k0_off48_inb c, Or.inl rfl⟩

/-- The operation at device `c`, by peer and slot. -/
def eff (c : Dev nD) : Op → Eff F := mk (fun _ k => pr k c) (fun w => at_ w c) (fun w k => at_ w (pr k c))

/-- The body after its device id, as a chain of operations. -/
def prog (c : Dev nD) (l : List Op) : Prog (TpuEff nD τ sig (Elt F) Λ₀ .tc) PUnit := chain (eff c) l

theorem devP_eq (c : Dev nD) : devP c = fun _ k => pr k c := by
  funext w k; revert c w k; decide

theorem peerP_off : ∀ (w : Fin 10) (k : Fin 7) (c : Dev nD), (peerP c w k).off = offs (pr k c) := by decide

theorem peerP_eq (c : Dev nD) : peerP c = fun w k => at_ w (pr k c) := by
  funext w k
  exact Cut.ext' (peerP_off w k c)

set_option maxRecDepth 65536 in
set_option maxHeartbeats 4000000 in
/-- The printed body: its device id, then the chain. -/
theorem body_printed (t : Fin cfg0.N) : Gen.bodyAt0 (F := F) t
    = .op .deviceId fun c => chain (mk (devP c) (fun w => ownP w c) (peerP c)) ops := rfl

theorem body_eq (t : Fin cfg0.N) : Gen.bodyAt0 (F := F) t = .op .deviceId fun c => prog c ops := by
  rw [body_printed]
  congr 1; funext c
  have ho : (fun w => ownP w c) = fun w => at_ w c := funext fun w => ownP_eq w c
  rw [devP_eq, ho, peerP_eq]; rfl

end Cert.WeightsIdeal.Exchange

end
-- ==== Proof.WeightsContents.lean ====
/- What the arrays hold: the slabs of a stack of eight, and the contents the gather makes.

   The slabs at the eight slots' offsets are disjoint and together the whole stack (`slab_disjoint`, `slab_cover`).
   `made m w c` is device `c`'s output `w` when slot `s` holds what device `s` sends to `c` (`sent_`), for every `s`.  A slot
   read from it is what was sent (`read_made`), and what was sent, written over its slot, makes it (`write_sent`). -/
module

public import proofs.«01_k».proof.Proof.WeightsOps
public import Idealize.ShloMosaic.Lib.ValueLayout

@[expose] public section

noncomputable section

namespace Cert.WeightsIdeal.Exchange

open Idealize.ShloMosaic Idealize.ShloMosaic.TcCoe Idealize.ShloMosaic.ValueIdx
open Idealize.SL Idealize.SL.Sem
open Cert.WeightsIdeal Facts₀ Facts

variable {F : FTy → Type} [FloatOps F]

/-! ## Slabs -/

section Slab
variable {e : EltTy} {r c : ℕ} (A : Memref sig .tc .hbm (St8 r c) e) (hs : (Sl r c).Squeezes (Sq r c))

/-- The element of the stack that a slab's element `(x, y)` is. -/
theorem emb_slab (a : Cut e r c) (s : Fin 8) (h : a.off = offs s) (x : Fin r) (y : Fin c) :
    (slab A hs a).view.emb (ix2 x y) = A.view.emb (ix3 s x y) := by
  obtain ⟨o, p, q⟩ := a
  subst h
  show A.view.emb (((Rect.unit (s := St8 r c) (offs s) (Sl r c).size p)).emb (Shape.reshapeEquiv _ (ix2 x y))) = _
  congr 1
  rw [reshapeEquiv_ix2_1ab]
  funext d
  match d with
  | ⟨0, _⟩ => exact Fin.ext (by show s.val + 1 * 0 = s.val; omega)
  | ⟨1, _⟩ => exact Fin.ext (by show 0 + 1 * x.val = x.val; omega)
  | ⟨2, _⟩ => exact Fin.ext (by show 0 + 1 * y.val = y.val; omega)

theorem mem_slab (a : Cut e r c) (s : Fin 8) (h : a.off = offs s) (j : (St8 r c).Idx) :
    (A.view.emb j : (slab A hs a).view.ty.Idx) ∈ (slab A hs a).view.set ↔ j 0 = s := by
  constructor
  · intro hm
    obtain ⟨x, -, hx⟩ := Finset.mem_map.mp hm
    have e : A.view.emb (ix3 s (x 0) (x 1)) = A.view.emb j :=
      ((emb_slab A hs a s h (x 0) (x 1)).symm.trans (congrArg (slab A hs a).view.emb (eq_ix2 x).symm)).trans hx
    exact congrFun (A.view.emb.injective e).symm 0
  · intro h'
    have e : (slab A hs a).view.emb (ix2 (j 1) (j 2)) = A.view.emb j :=
      (emb_slab A hs a s h (j 1) (j 2)).trans (congrArg A.view.emb ((congrArg (fun z => ix3 z (j 1) (j 2)) h'.symm).trans (eq_ix3 j).symm))
    exact Eq.mp (congrArg (fun z => z ∈ (slab A hs a).view.set) e) (View.emb_mem_set _ _)

/-- The elements of a slab, in the stack's own index type. -/
def slabSet (a : Cut e r c) : Finset A.view.ty.Idx := (slab A hs a).view.set

variable (hA : ∀ i : A.view.ty.Idx, ∃ j, A.view.emb j = i) (at' : Fin 8 → Cut e r c) (hat : ∀ s, (at' s).off = offs s)
include hA hat

theorem slab_disjoint (s t : Fin 8) (h : s ≠ t) : Disjoint (slabSet A hs (at' s)) (slabSet A hs (at' t)) := by
  rw [Finset.disjoint_left]
  intro i h₁ h₂
  obtain ⟨j, rfl⟩ := hA i
  exact h (((mem_slab A hs _ s (hat s) j).mp h₁).symm.trans ((mem_slab A hs _ t (hat t) j).mp h₂))

theorem slab_cover : Finset.univ.biUnion (fun s => slabSet A hs (at' s)) = Finset.univ := by
  refine Finset.eq_univ_of_forall fun i => ?_
  obtain ⟨j, rfl⟩ := hA i
  exact Finset.mem_biUnion.mpr ⟨j 0, Finset.mem_univ _, (mem_slab A hs _ (j 0) (hat _) j).mpr rfl⟩

end Slab

/-! ## Outputs -/

theorem at_off (w : Fin 10) (s : Fin 8) : (at_ w s).off = offs s := rfl

theorem emb_slot (w : Fin 10) (s : Fin 8) (x : Fin (rows w)) (y : Fin (cols w)) :
    (slot w s).view.emb (ix2 x y) = (outM w).view.emb (ix3 s x y) := emb_slab (outM w) (sqz w) _ s rfl x y

/-- Every element of an output is the image of an index. -/
theorem emb_surj : ∀ (w : Fin 10) (i : (outM w).view.ty.Idx), ∃ j, (outM w).view.emb j = i
  | 0, i => ⟨i, rfl⟩ | 1, i => ⟨i, rfl⟩ | 2, i => ⟨i, rfl⟩ | 3, i => ⟨i, rfl⟩ | 4, i => ⟨i, rfl⟩
  | 5, i => ⟨i, rfl⟩ | 6, i => ⟨i, rfl⟩ | 7, i => ⟨i, rfl⟩ | 8, i => ⟨i, rfl⟩ | 9, i => ⟨i, rfl⟩

variable (m : (ℓ : Loc nD τ sig) → Buf (Elt F) ℓ)

/-- What device `s` sends to device `d` of array `w`. -/
def sent_ (w : Fin 10) (s d : Dev nD) : (Sq (rows w) (cols w)).Idx → Elt F (el w) :=
  (src w d).view.read (Elt F) (m ((src w d).view.loc (s : Thread nD τ)))

/-- All that is sent to device `d`, stacked by sender. -/
def stacked (w : Fin 10) (d : Dev nD) : (St8 (rows w) (cols w)).Idx → Elt F (el w) := fun i => sent_ m w (i 0) d (ix2 (i 1) (i 2))

/-- Device `c`'s output `w` with everything in its slot. -/
def made (w : Fin 10) (c : Dev nD) : Buf (Elt F) ((outM w).view.loc (c : Thread nD τ)) :=
  (outM w).view.write (Elt F) (m ((outM w).view.loc (c : Thread nD τ))) (stacked m w c) Finset.univ

theorem made_emb (w : Fin 10) (c : Dev nD) (j : (St8 (rows w) (cols w)).Idx) :
    made m w c ((outM w).view.emb j) = cast (congrArg (Elt F) (outM w).view.elt_eq.symm) (stacked m w c j) :=
  View.write_emb_of_mem _ _ (Finset.mem_univ j)

/-- These contents, as contents of slot `s`'s buffer. -/
def atSlot (w : Fin 10) (c : Dev nD) (s : Fin 8) : Buf (Elt F) ((slot w s).view.loc (c : Thread nD τ)) := made m w c

/-- A slot read from these contents is what its device sent. -/
theorem read_made (w : Fin 10) (c : Dev nD) (s : Fin 8) : (slot w s).view.read (Elt F) (atSlot m w c s) = sent_ m w s c := by
  funext x
  rw [View.read_apply]
  have e : (slot w s).view.emb x = (outM w).view.emb (ix3 s (x 0) (x 1)) :=
    (congrArg (slot w s).view.emb (eq_ix2 x)).trans (emb_slot w s (x 0) (x 1))
  have g : atSlot m w c s ((slot w s).view.emb x)
      = cast (congrArg (Elt F) (outM w).view.elt_eq.symm) (stacked m w c (ix3 s (x 0) (x 1))) :=
    (congrArg (made m w c) e).trans (made_emb m w c _)
  refine (congrArg (cast _) g).trans ?_
  refine (cast_cast _ _ _).trans ?_
  refine (cast_eq _ _).trans ?_
  exact congrArg (sent_ m w s c) (eq_ix2 x).symm

/-- Writing what was sent over its slot gives these contents there. -/
theorem write_sent (w : Fin 10) (c : Dev nD) (s : Fin 8) (f : Buf (Elt F) ((slot w s).view.loc (c : Thread nD τ))) :
    ∀ i ∈ (slot w s).view.set, (slot w s).view.write (Elt F) f (sent_ m w s c) Finset.univ i = atSlot m w c s i := by
  intro i hi
  obtain ⟨x, -, rfl⟩ := Finset.mem_map.mp hi
  refine (View.write_emb_of_mem _ _ (Finset.mem_univ x)).trans ?_
  rw [← read_made m w c s, View.read_apply]
  exact (cast_cast _ _ _).trans (cast_eq _ _)

end Cert.WeightsIdeal.Exchange

end
-- ==== Proof.WeightsProtocol.lean ====
/- The protocol of the gather: every semaphore of a device is a cell of one round with one contributor.

   Device `c` has fifteen semaphores per array: one per copy for the end of its reading (send cells), one per copy
   for what the peer's copy brings (receive cells), one for the local copy.  A receive cell's credit comes from the
   peer and hands over the landed slot with what the peer sent in it; a send cell's gives back what was read;
   the local copy's gives the own slot, filled, and what was read of the input. -/
module

public import proofs.«01_k».proof.Proof.WeightsContents
public import Idealize.ShloMosaic.Lib.Pipeline.Launch
public import Idealize.ShloMosaic.Lib.Pipeline.Kit
public import Idealize.ShloMosaic.Lib.Tactic

@[expose] public section

noncomputable section

namespace Cert.WeightsIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.WeightsIdeal Facts₀ Facts

variable {F : FTy → Type} [FloatOps F]

abbrev UB := URounds (GSem nD τ sig) Unit
abbrev UU := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells -/

/-- A device's semaphores: per array, the send and receive cell of each copy and the local copy's. -/
abbrev J := Fin 10 × (Fin 7 ⊕ Fin 7 ⊕ Unit)

def semJ : J → DmaSem sig
  | (w, .inl k) => sendS w k
  | (w, .inr (.inl k)) => recvS w k
  | (w, .inr (.inr _)) => copyS w

/-- Which semaphore a number is. -/
def decJ (i : DmaSem sig) : J :=
  if i.val < 70 then (⟨i.val / 7 % 10, Nat.mod_lt _ (by decide)⟩, .inl ⟨i.val % 7, Nat.mod_lt _ (by decide)⟩)
  else if i.val < 140 then (⟨(i.val - 70) / 7 % 10, Nat.mod_lt _ (by decide)⟩, .inr (.inl ⟨(i.val - 70) % 7, Nat.mod_lt _ (by decide)⟩))
  else (⟨(i.val - 140) % 10, Nat.mod_lt _ (by decide)⟩, .inr (.inr ()))

theorem decJ_semJ : ∀ j, decJ (semJ j) = j := by decide
theorem semJ_decJ : ∀ i, semJ (decJ i) = i := by decide

theorem semJ_inj : Function.Injective semJ := fun a b h => (decJ_semJ a).symm.trans ((congrArg decJ h).trans (decJ_semJ b))

abbrev cell (c : Dev nD) (j : J) : GSem nD τ sig := ((c : Thread nD τ), .dma (semJ j))

theorem cell_inj {c c' : Dev nD} {j j' : J} (h : cell c j = cell c' j') : c = c' ∧ j = j' :=
  ⟨congrArg (fun g : GSem nD τ sig => g.1.1) h, semJ_inj (SemLoc.dma.inj (congrArg Prod.snd h))⟩

def N (w : Fin 10) : ℕ := (slot w 0).view.dmaCredit
theorem N_pos (w : Fin 10) : 0 < N w := View.dmaCredit_pos _ (by revert w; decide)

/-! ## What is held of the arrays -/

/-- Slot `s` of device `c`'s output `w`, holding `f`. -/
def slotP (c : Dev nD) (w : Fin 10) (s : Fin 8) (f : Buf (Elt F) ((slot w s).view.loc (c : Thread nD τ))) : sProp 𝕄 :=
  (slot w s).view.loc (c : Thread nD τ) ↦[(slot w s).view.set]{fullShare} f

/-- The share of an input, read whole by eight, that the reader for slot `s` takes: an eighth. -/
def q8 : Fin 8 → PosShare TreeShare :=
  ![fullShare.left.left.left, fullShare.left.left.right, fullShare.left.right.left, fullShare.left.right.right,
    fullShare.right.left.left, fullShare.right.left.right, fullShare.right.right.left, fullShare.right.right.right]

/-- What device `c` reads of its input `w` for slot `s`. -/
def srcP (c : Dev nD) (w : Fin 10) (s : Fin 8) : sProp 𝕄 :=
  (src w s).view.loc (c : Thread nD τ) ↦[(src w s).view.set]{q8 s} m ((src w s).view.loc (c : Thread nD τ))

/-- Slot `s` with its shard in it. -/
def fullP (c : Dev nD) (w : Fin 10) (s : Fin 8) : sProp 𝕄 := slotP c w s (atSlot m w c s)

omit [FloatOps F] in
instance slotP_storable (c : Dev nD) (w : Fin 10) (s : Fin 8) (f) : BI.Storable (upEmb : UEmb _ 𝕄) (slotP (F := F) c w s f) := by
  unfold slotP; infer_instance
omit [FloatOps F] in
instance srcP_storable (c : Dev nD) (w : Fin 10) (s : Fin 8) : BI.Storable (upEmb : UEmb _ 𝕄) (srcP (F := F) m c w s) := by
  unfold srcP; infer_instance
instance fullP_storable (c : Dev nD) (w : Fin 10) (s : Fin 8) : BI.Storable (upEmb : UEmb _ 𝕄) (fullP (F := F) m c w s) := by
  unfold fullP; infer_instance

/-! ## The schedule -/

/-- What the credit of each cell hands to its device. -/
def payJ (c : Dev nD) : J → sProp 𝕄
  | (w, .inl k) => srcP m c w (pr k c)
  | (w, .inr (.inl k)) => fullP m c w (pr k c)
  | (w, .inr (.inr _)) => iprop(fullP m c w c ∗ srcP m c w c)

/-- What a cell is credited: one slab of its array. -/
def amt : SemLoc sig → ℕ
  | .dma i => N (decJ i).1
  | .reg _ => 1

theorem amt_pos (s : SemLoc sig) : 0 < amt s := by
  cases s with
  | dma i => exact N_pos _
  | reg _ => exact Nat.one_pos

def payS (c : Dev nD) : SemLoc sig → sProp 𝕄
  | .dma i => payJ m c (decJ i)
  | .reg _ => iprop(emp)

def isDma : SemLoc sig → Bool
  | .dma _ => true
  | .reg _ => false

instance payS_storable (c : Dev nD) (s : SemLoc sig) : BI.Storable (upEmb : UEmb _ 𝕄) (payS (F := F) m c s) := by
  unfold payS payJ
  (repeat' split) <;> infer_instance

/-- One round: each of a device's copy semaphores is credited one slab, by one copy. -/
def rd : Rounds.Schedule (GSem nD τ sig) Unit 𝕄 where
  duties g r := if r = 0 ∧ g.1.2 = .tc ∧ isDma g.2 = true then {()} else ∅
  unitless _ := False
  amount g _ _ := amt g.2
  payload g _ _ := payS m g.1.1 g.2
  amount_pos g _ _ _ := amt_pos g.2

instance rd_payload_storable (g : GSem nD τ sig) (r : ℕ) (d : Unit) :
    BI.Storable (upEmb : UEmb _ 𝕄) ((rd (F := F) m).payload g r d) := payS_storable m g.1.1 g.2

theorem duties_cell (c : Dev nD) (j : J) : (rd (F := F) m).duties (cell c j) 0 = {()} := by
  dsimp only [rd]; exact if_pos ⟨rfl, rfl, rfl⟩
theorem duties_later (g : GSem nD τ sig) (r : ℕ) (h : 1 ≤ r) : (rd (F := F) m).duties g r = ∅ := by
  dsimp only [rd]; exact if_neg fun h' => by omega
theorem mem_duties (c : Dev nD) (j : J) : () ∈ (rd (F := F) m).duties (cell c j) 0 := by rw [duties_cell]; exact Finset.mem_singleton_self _
theorem payload_cell (c : Dev nD) (j : J) (r : ℕ) (d : Unit) : (rd (F := F) m).payload (cell c j) r d = payJ m c j := by
  show payJ m c (decJ (semJ j)) = _
  rw [decJ_semJ]
theorem amt_cell (j : J) : amt (.dma (semJ j)) = N j.1 := by
  show N (decJ (semJ j)).1 = _
  rw [decJ_semJ]
theorem expect_cell (c : Dev nD) (j : J) : (rd (F := F) m).expect (cell c j) 0 = N j.1 := by
  unfold Schedule.expect Schedule.amountOf; rw [duties_cell, Finset.sum_singleton]
  exact amt_cell j
theorem rest_cell (c : Dev nD) (j : J) :
    bigSep ((rd (F := F) m).duties (cell c j) 0 \ ∅) (fun d => (rd (F := F) m).payload (cell c j) 0 d) = payJ m c j := by
  rw [Finset.sdiff_empty, duties_cell, bigSep_singleton, payload_cell]

/-! ## Levels -/

def L (g : GSem nD τ sig) : Finset Unit := if g.1.2 = .tc then {()} else ∅
def lv (_ : GSem nD τ sig) (_ : Unit) : ℕ := 0

theorem L_tc (c : Dev nD) (s : SemLoc sig) : L ((c : Thread nD τ), s) = {()} := if_pos rfl
theorem L_of_ne (g : GSem nD τ sig) (h : g.1.2 ≠ .tc) : L g = ∅ := if_neg h

/-- What device `c` still owes when the operations `l` remain: the peers' receive cells of the copies it has yet to start. -/
def owedL (c : Dev nD) : List Op → CellTallies nD τ sig Unit
  | [] => 0
  | .send w k :: l => owedL c l + tallyAt (cell (pr k c) (w, .inr (.inl k))) () (N w)
  | _ :: l => owedL c l

theorem owedL_pos {c : Dev nD} {g : GSem nD τ sig} {u : Unit} : ∀ {l : List Op}, 0 < owedL c l g u →
    ∃ w k, .send w k ∈ l ∧ g = cell (pr k c) (w, .inr (.inl k))
  | [], h => absurd h (Nat.lt_irrefl 0)
  | .send w k :: l, h => by
    by_cases h' : g = cell (pr k c) (w, .inr (.inl k))
    · exact ⟨w, k, List.mem_cons_self, h'⟩
    · unfold owedL at h
      rw [Pi.add_apply, Finsupp.add_apply, tallyAt_apply, if_neg (fun h'' => h' h''.1), Nat.add_zero] at h
      obtain ⟨w', k', hm, hg⟩ := owedL_pos h
      exact ⟨w', k', List.mem_cons_of_mem _ hm, hg⟩
  | .copy _ :: l, h => by
    obtain ⟨w', k', hm, hg⟩ := owedL_pos (l := l) h; exact ⟨w', k', List.mem_cons_of_mem _ hm, hg⟩
  | .recv _ _ :: l, h => by
    obtain ⟨w', k', hm, hg⟩ := owedL_pos (l := l) h; exact ⟨w', k', List.mem_cons_of_mem _ hm, hg⟩
  | .sent _ _ :: l, h => by
    obtain ⟨w', k', hm, hg⟩ := owedL_pos (l := l) h; exact ⟨w', k', List.mem_cons_of_mem _ hm, hg⟩
  | .copied _ :: l, h => by
    obtain ⟨w', k', hm, hg⟩ := owedL_pos (l := l) h; exact ⟨w', k', List.mem_cons_of_mem _ hm, hg⟩

/-- No copy to another device is yet to be started. -/
def noSend (l : List Op) : Bool := l.all fun | .send _ _ => false | _ => true

theorem noSend_send {l : List Op} (h : noSend l = true) {w : Fin 10} {k : Fin 7} (hm : .send w k ∈ l) : False :=
  Bool.false_ne_true (List.all_eq_true.mp h _ hm)

omit [FloatOps F] in
theorem mayWait (c : Dev nD) (j : J) (l : List Op) (h : noSend l = true) :
    (levAts L lv : sProp 𝕄) ⊢ MayWait (c : Thread nD τ) (.dma (semJ j)) () (owedL c l) :=
  Pipeline.mayWait_of_levAts (by rw [L_tc]; exact Finset.mem_singleton_self _) fun g u hg => by
    obtain ⟨w, k, hm, -⟩ := owedL_pos hg
    exact (noSend_send h hm).elim

end Cert.WeightsIdeal.Exchange

end
-- ==== Proof.WeightsSteps.lean ====
/- What a device holds as its body runs, and each operation's step.

   With the operations `l` still to run, device `c` holds, for each copy, one thing or another according as the copy
   is still to start, is in flight or has been waited for (`sendR`, `recvR`, `copyR`).  `St l c` is all of it with
   what the device owes.  Each step takes `St (x :: l) c` to `St l c` (`step`), under conditions on the list that are
   checked once for the whole body (`okAll`). -/
module

public import proofs.«01_k».proof.Proof.WeightsProtocol

@[expose] public section

noncomputable section

namespace Cert.WeightsIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.WeightsIdeal Facts₀ Facts

variable {F : FTy → Type} [FloatOps F]

local notation "𝕄" => MT nD τ sig Unit (Elt F) ℕ UU ℕ

abbrev 𝒱₀ : Variants := Variants.none

variable (m : (ℓ : Loc nD τ sig) → Buf (Elt F) ℓ) (κ : Dev nD × J → ℕ)

/-- The send cell, the receive cell, the local copy's cell. -/
abbrev jS (w : Fin 10) (k : Fin 7) : J := (w, .inl k)
abbrev jR (w : Fin 10) (k : Fin 7) : J := (w, .inr (.inl k))
abbrev jC (w : Fin 10) : J := (w, .inr (.inr ()))

/-- A cell's credit and its owner's position before the wait. -/
def due (c : Dev nD) (j : J) : sProp 𝕄 := iprop(cred (tallyAt (cell c j) () (N j.1)) ∗ atPos ER (cell c j) 0 ∅ 0)

def sendR (l : List Op) (c : Dev nD) (w : Fin 10) (k : Fin 7) : sProp 𝕄 :=
  if .send w k ∈ l then
    iprop((∃ f, slotP (pr k c) w c f) ∗ dutyTok ER (cell c (jS w k)) 0 () ∗ dutyTok ER (cell (pr k c) (jR w k)) 0 ()
      ∗ atPos ER (cell c (jS w k)) 0 ∅ 0 ∗ srcP m c w (pr k c))
  else if .sent w k ∈ l then due c (jS w k)
  else iprop(payJ m c (jS w k) ∗ atPos ER (cell c (jS w k)) 1 ∅ 0)

def recvR (l : List Op) (c : Dev nD) (w : Fin 10) (k : Fin 7) : sProp 𝕄 :=
  if .recv w k ∈ l then due c (jR w k)
  else iprop(payJ m c (jR w k) ∗ atPos ER (cell c (jR w k)) 1 ∅ 0)

def copyR (l : List Op) (c : Dev nD) (w : Fin 10) : sProp 𝕄 :=
  if .copy w ∈ l then
    iprop((∃ f, slotP c w c f) ∗ srcP m c w c ∗ dutyTok ER (cell c (jC w)) 0 () ∗ atPos ER (cell c (jC w)) 0 ∅ 0)
  else if .copied w ∈ l then due c (jC w)
  else iprop(payJ m c (jC w) ∗ atPos ER (cell c (jC w)) 1 ∅ 0)

def sends (l : List Op) (c : Dev nD) : sProp 𝕄 := bigSep Finset.univ fun p : Fin 10 × Fin 7 => sendR m l c p.1 p.2
def recvs (l : List Op) (c : Dev nD) : sProp 𝕄 := bigSep Finset.univ fun p : Fin 10 × Fin 7 => recvR m l c p.1 p.2
def copies (l : List Op) (c : Dev nD) : sProp 𝕄 := bigSep Finset.univ fun w : Fin 10 => copyR m l c w

def owesP (l : List Op) (c : Dev nD) : sProp 𝕄 := iprop(∃ W, owes (c : Thread nD τ) (owedL c l) W)

def St (l : List Op) (c : Dev nD) : sProp 𝕄 := iprop(owesP l c ∗ sends m l c ∗ recvs m l c ∗ copies m l c)

/-- Every cell's invariant and that its round is open, and the levels. -/
def cells : sProp 𝕄 :=
  bigSep Finset.univ fun p : Dev nD × J => iprop(cellInv ER (rd m) (κ p) (cell p.1 p.2) ∗ reached ER (cell p.1 p.2) 0)
def recs : sProp 𝕄 := iprop(cells m κ ∗ levAts L lv)

instance cells_persistent : BI.Persistent (cells m κ) := by unfold cells; infer_instance

instance recs_persistent : BI.Persistent (recs m κ) := by unfold recs; infer_instance

theorem cells_at (c : Dev nD) (j : J) : (cells m κ : sProp 𝕄) ⊢ iprop(cellInv ER (rd m) (κ (c, j)) (cell c j) ∗ reached ER (cell c j) 0) :=
  bigSep_elim (i := (c, j)) (Finset.mem_univ _)

/-! ## Conditions on the list -/

def okStep : Op → List Op → Bool
  | .copy w, l => decide (.copy w ∉ l ∧ .copied w ∈ l)
  | .send w k, l => decide (.send w k ∉ l ∧ .sent w k ∈ l)
  | .recv w k, l => decide (.recv w k ∉ l) && noSend l
  | .sent w k, l => decide (.sent w k ∉ l ∧ .send w k ∉ l) && noSend l
  | .copied w, l => decide (.copied w ∉ l ∧ .copy w ∉ l) && noSend l

def okAll : List Op → Bool
  | [] => true
  | x :: l => okStep x l && okAll l

set_option maxRecDepth 65536 in
theorem ok_ops : okAll ops = true := by decide +kernel

/-! ## What is held, case by case -/

section Cases
variable {l : List Op} {c : Dev nD} {w : Fin 10} {k : Fin 7}

theorem sendR_start (h : .send w k ∈ l) : sendR m l c w k
    = iprop((∃ f, slotP (pr k c) w c f) ∗ dutyTok ER (cell c (jS w k)) 0 () ∗ dutyTok ER (cell (pr k c) (jR w k)) 0 ()
      ∗ atPos ER (cell c (jS w k)) 0 ∅ 0 ∗ srcP m c w (pr k c)) := by
  unfold sendR; rw [if_pos h]
theorem sendR_due (h : .send w k ∉ l) (h' : .sent w k ∈ l) : sendR m l c w k = due c (jS w k) := by
  unfold sendR; rw [if_neg h, if_pos h']
theorem sendR_done (h : .send w k ∉ l) (h' : .sent w k ∉ l) :
    sendR m l c w k = iprop(payJ m c (jS w k) ∗ atPos ER (cell c (jS w k)) 1 ∅ 0) := by
  unfold sendR; rw [if_neg h, if_neg h']

theorem recvR_due (h : .recv w k ∈ l) : recvR m l c w k = due c (jR w k) := by
  unfold recvR; rw [if_pos h]
theorem recvR_held (h : .recv w k ∉ l) : recvR m l c w k = iprop(payJ m c (jR w k) ∗ atPos ER (cell c (jR w k)) 1 ∅ 0) := by
  unfold recvR; rw [if_neg h]

theorem copyR_start (h : .copy w ∈ l) : copyR m l c w
    = iprop((∃ f, slotP c w c f) ∗ srcP m c w c ∗ dutyTok ER (cell c (jC w)) 0 () ∗ atPos ER (cell c (jC w)) 0 ∅ 0) := by
  unfold copyR; rw [if_pos h]
theorem copyR_due (h : .copy w ∉ l) (h' : .copied w ∈ l) : copyR m l c w = due c (jC w) := by
  unfold copyR; rw [if_neg h, if_pos h']
theorem copyR_done (h : .copy w ∉ l) (h' : .copied w ∉ l) :
    copyR m l c w = iprop(payJ m c (jC w) ∗ atPos ER (cell c (jC w)) 1 ∅ 0) := by
  unfold copyR; rw [if_neg h, if_neg h']

end Cases

/-! ## Which resources an operation leaves alone -/

section Frame
variable (l : List Op) (c : Dev nD)

theorem sends_of (x : Op) (h : ∀ w k, x ≠ .send w k ∧ x ≠ .sent w k) : sends m (x :: l) c = sends m l c := by
  unfold sends
  congr 1; funext p
  unfold sendR
  simp only [List.mem_cons, (h _ _).1.symm, (h _ _).2.symm, false_or]

theorem recvs_of (x : Op) (h : ∀ w k, x ≠ .recv w k) : recvs m (x :: l) c = recvs m l c := by
  unfold recvs
  congr 1; funext p
  unfold recvR
  simp only [List.mem_cons, (h _ _).symm, false_or]

theorem copies_of (x : Op) (h : ∀ w, x ≠ .copy w ∧ x ≠ .copied w) : copies m (x :: l) c = copies m l c := by
  unfold copies
  congr 1; funext p
  unfold copyR
  simp only [List.mem_cons, (h _).1.symm, (h _).2.symm, false_or]

theorem sends_at (x : Op) (w : Fin 10) (k : Fin 7) (h : x = .send w k ∨ x = .sent w k) :
    (sends m (x :: l) c : sProp 𝕄) ⊢ iprop(sendR m (x :: l) c w k ∗ (sendR m l c w k -∗ sends m l c)) := by
  unfold sends
  refine bigSep_univ_update (Φ := fun p : Fin 10 × Fin 7 => sendR m (x :: l) c p.1 p.2) (Ψ := fun p => sendR m l c p.1 p.2) (w, k) fun p hp => ?_
  have h1 : Op.send p.1 p.2 ≠ x := by rcases h with rfl | rfl <;> simp [Prod.ext_iff] at hp ⊢; exact hp
  have h2 : Op.sent p.1 p.2 ≠ x := by rcases h with rfl | rfl <;> simp [Prod.ext_iff] at hp ⊢; exact hp
  unfold sendR
  simp only [List.mem_cons, h1, h2, false_or]

theorem recvs_at (w : Fin 10) (k : Fin 7) :
    (recvs m (.recv w k :: l) c : sProp 𝕄) ⊢ iprop(recvR m (.recv w k :: l) c w k ∗ (recvR m l c w k -∗ recvs m l c)) := by
  unfold recvs
  refine bigSep_univ_update (Φ := fun p : Fin 10 × Fin 7 => recvR m (.recv w k :: l) c p.1 p.2) (Ψ := fun p => recvR m l c p.1 p.2) (w, k) fun p hp => ?_
  have h1 : Op.recv p.1 p.2 ≠ .recv w k := by simp [Prod.ext_iff] at hp ⊢; exact hp
  unfold recvR
  simp only [List.mem_cons, h1, false_or]

theorem copies_at (x : Op) (w : Fin 10) (h : x = .copy w ∨ x = .copied w) :
    (copies m (x :: l) c : sProp 𝕄) ⊢ iprop(copyR m (x :: l) c w ∗ (copyR m l c w -∗ copies m l c)) := by
  unfold copies
  refine bigSep_univ_update (Φ := fun w => copyR m (x :: l) c w) (Ψ := fun w => copyR m l c w) w fun p hp => ?_
  have h1 : Op.copy p ≠ x := by rcases h with rfl | rfl <;> simp [hp]
  have h2 : Op.copied p ≠ x := by rcases h with rfl | rfl <;> simp [hp]
  unfold copyR
  simp only [List.mem_cons, h1, h2, false_or]

end Frame

/-! ## The steps -/

section Step
variable (l : List Op) (c : Dev nD)

variable (k : Prog (TpuEff nD τ sig (Elt F) Λ₀ .tc) PUnit)

/-- A weakest precondition of a piece of device `c`'s body. -/
abbrev wpC (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-- A wait for what cell `j` is due, at that cell's device. -/
theorem wait_due (Q : PUnit → sProp 𝕄) (j : J) (h : noSend l = true) (w : Eff F)
    (hw : ∀ K : PUnit → sProp 𝕄, wpE (defs₀ (F := F)) 𝒱₀ (c : Thread nD τ) none Set.univ w K = waitSpec (c : Thread nD τ) Set.univ (.dma (semJ j)) (N j.1) K) :
    iprop(recs m κ ∗ owesP l c ∗ due c j)
      ⊢ iprop(((owesP l c ∗ payJ m c j ∗ atPos ER (cell c j) 1 ∅ 0) -∗ wpC c k Q) -∗ wpC c (.op w fun _ => k) Q) := by
  unfold owesP due recs
  iintro ⟨⟨#Hcs, #Hlev⟩, ⟨%W, HO⟩, Hcred, Hat⟩ Hk
  ihave ⟨#HI, -⟩ := (cells_at m κ c j) $$ Hcs
  iapply (Rounds.wp_wait_rest_token 𝒱₀ ER (rd m) (c : Thread nD τ) none (κ := κ (c, j)) hw (Set.mem_univ _) () (O := owedL c l) (W := W)
      (R := 0) (m := 0) (T := ∅) (by rw [Nat.zero_add]; exact (expect_cell m c j).symm)) $$ [Hcred HO Hat]
  · isplitr; · iexact HI
    isplitl [Hcred]; · iexact Hcred
    isplitl [HO]; · iexact HO
    isplitr; · iapply (mayWait c j l h); iexact Hlev
    iexact Hat
  iintro ⟨HO, Hat, -, Hpay⟩
  ihave Hp := (Entails.of_eq (rest_cell m c j)) $$ Hpay
  iapply Hk
  isplitl [HO]; · iexists _; iexact HO
  isplitl [Hp]; · iexact Hp
  iexact Hat

/-- Filling a slot with what was sent. -/
theorem filled (w : Fin 10) (s : Fin 8) (f : Buf (Elt F) ((slot w s).view.loc (c : Thread nD τ))) :
    ((slot w s).view.loc (c : Thread nD τ) ↦[(slot w s).view.set]{fullShare} ((slot w s).view.write (Elt F) f (sent_ m w s c) Finset.univ) : sProp 𝕄)
      ⊢ fullP m c w s := by
  unfold fullP slotP
  exact Entails.of_eq (pointsTo_congr (write_sent m w c s f))

theorem start_copy (Q : PUnit → sProp 𝕄) (w : Fin 10) (f : Buf (Elt F) ((slot w c).view.loc (c : Thread nD τ))) :
    iprop(cellInv ER (rd m) (κ (c, jC w)) (cell c (jC w)) ∗ srcP m c w c ∗ slotP c w c f ∗ dutyTok ER (cell c (jC w)) 0 () ∗ reached ER (cell c (jC w)) 0)
      ⊢ iprop((cred (tallyAt (cell c (jC w)) () (N w)) -∗ wpC c k Q) -∗ wpC c (.op (eff c (.copy w)) fun _ => k) Q) := by
  have e : (eff c (.copy w) : Eff F) = .enqueueDma (src w c) (.here (slot w c)) (.dma (semJ (jC w)))
      (srcAt_exact w (at_ w c)) (slab_exact _ (isWhole_outM w) (sqz w) (at_ w c)) ⟨Or.inl rfl, trivial⟩ := rfl
  rw [e]
  unfold srcP slotP wpC
  exact Rounds.wp_copy_pointsTo 𝒱₀ ER (rd m) (c : Thread nD τ) none (k := fun _ => k) (κ := κ (c, jC w)) (r := 0) (d := ()) (fd := f)
      (mem_duties m c (jC w)) () (N w) rfl (amt_cell (jC w)) (by
        rw [payload_cell]
        exact sep_mono_left (filled m c w c f))

/-- The local copy starts. -/
theorem step_copy (Q : PUnit → sProp 𝕄) (w : Fin 10) (h : okStep (.copy w) l = true) :
    iprop(recs m κ ∗ St m (.copy w :: l) c) ⊢ iprop((St m l c -∗ wpC c k Q) -∗ wpC c (.op (eff c (.copy w)) fun _ => k) Q) := by
  have h' := of_decide_eq_true h
  unfold St recs
  rw [sends_of m l c _ (fun _ _ => ⟨by simp, by simp⟩), recvs_of m l c _ (fun _ _ => by simp)]
  iintro ⟨⟨#Hcs, -⟩, HO, HS, HR, HC⟩ Hk
  ihave ⟨#HI, #Hr⟩ := (cells_at m κ c (jC w)) $$ Hcs
  ihave ⟨Hw, Hback⟩ := (copies_at m l c _ w (.inl rfl)) $$ HC
  ihave Hw := (Entails.of_eq (copyR_start m List.mem_cons_self)) $$ Hw
  icases Hw with ⟨⟨%f, Hslot⟩, Hin, Htok, Hat⟩
  iapply (start_copy m κ c k Q w f) $$ [Hslot Hin Htok]
  · isplitr; · iexact HI
    isplitl [Hin]; · iexact Hin
    isplitl [Hslot]; · iexact Hslot
    isplitl [Htok]; · iexact Htok
    iexact Hr
  iintro Hcred
  iapply Hk
  isplitl [HO]; · iexact HO
  isplitl [HS]; · iexact HS
  isplitl [HR]; · iexact HR
  iapply Hback
  iapply (Entails.of_eq (copyR_due m h'.1 h'.2).symm)
  unfold due
  isplitl [Hcred]; · iexact Hcred
  iexact Hat

/-- The local copy is waited for. -/
theorem step_copied (Q : PUnit → sProp 𝕄) (w : Fin 10) (h : okStep (.copied w) l = true) :
    iprop(recs m κ ∗ St m (.copied w :: l) c) ⊢ iprop((St m l c -∗ wpC c k Q) -∗ wpC c (.op (eff c (.copied w)) fun _ => k) Q) := by
  have h' := of_decide_eq_true (Bool.and_eq_true_iff.mp h).1
  have ha := (Bool.and_eq_true_iff.mp h).2
  unfold St
  rw [sends_of m l c _ (fun _ _ => ⟨by simp, by simp⟩), recvs_of m l c _ (fun _ _ => by simp)]
  iintro ⟨#Hrec, HO, HS, HR, HC⟩ Hk
  ihave ⟨Hw, Hback⟩ := (copies_at m l c _ w (.inr rfl)) $$ HC
  ihave Hw := (Entails.of_eq (copyR_due m (by simpa using h'.2) List.mem_cons_self)) $$ Hw
  iapply (wait_due m κ l c k Q (jC w) ha (eff c (.copied w)) (fun _ => rfl)) $$ [HO Hw]
  · isplitr; · iexact Hrec
    isplitl [HO]; · iexact HO
    iexact Hw
  iintro ⟨HO, Hp⟩
  iapply Hk
  isplitl [HO]; · iexact HO
  isplitl [HS]; · iexact HS
  isplitl [HR]; · iexact HR
  iapply Hback
  iapply (Entails.of_eq (copyR_done m h'.2 h'.1).symm)
  iexact Hp

/-- The end of a copy's reading is waited for. -/
theorem step_sent (Q : PUnit → sProp 𝕄) (w : Fin 10) (i : Fin 7) (h : okStep (.sent w i) l = true) :
    iprop(recs m κ ∗ St m (.sent w i :: l) c) ⊢ iprop((St m l c -∗ wpC c k Q) -∗ wpC c (.op (eff c (.sent w i)) fun _ => k) Q) := by
  have h' := of_decide_eq_true (Bool.and_eq_true_iff.mp h).1
  have ha := (Bool.and_eq_true_iff.mp h).2
  unfold St
  rw [copies_of m l c _ (fun _ => ⟨by simp, by simp⟩), recvs_of m l c _ (fun _ _ => by simp)]
  iintro ⟨#Hrec, HO, HS, HR, HC⟩ Hk
  ihave ⟨Hw, Hback⟩ := (sends_at m l c _ w i (.inr rfl)) $$ HS
  ihave Hw := (Entails.of_eq (sendR_due m (by simpa using h'.2) List.mem_cons_self)) $$ Hw
  iapply (wait_due m κ l c k Q (jS w i) ha (eff c (.sent w i)) (fun _ => rfl)) $$ [HO Hw]
  · isplitr; · iexact Hrec
    isplitl [HO]; · iexact HO
    iexact Hw
  iintro ⟨HO, Hp⟩
  iapply Hk
  isplitl [HO]; · iexact HO
  isplitl [Hback Hp]
  · iapply Hback
    iapply (Entails.of_eq (sendR_done m h'.2 h'.1).symm)
    iexact Hp
  isplitl [HR]; · iexact HR
  iexact HC

/-- What a copy brings is waited for. -/
theorem step_recv (Q : PUnit → sProp 𝕄) (w : Fin 10) (i : Fin 7) (h : okStep (.recv w i) l = true) :
    iprop(recs m κ ∗ St m (.recv w i :: l) c) ⊢ iprop((St m l c -∗ wpC c k Q) -∗ wpC c (.op (eff c (.recv w i)) fun _ => k) Q) := by
  have h' : .recv w i ∉ l := of_decide_eq_true (Bool.and_eq_true_iff.mp h).1
  have ha := (Bool.and_eq_true_iff.mp h).2
  unfold St
  rw [copies_of m l c _ (fun _ => ⟨by simp, by simp⟩), sends_of m l c _ (fun _ _ => ⟨by simp, by simp⟩)]
  iintro ⟨#Hrec, HO, HS, HR, HC⟩ Hk
  ihave ⟨Hw, Hback⟩ := (recvs_at m l c w i) $$ HR
  ihave Hw := (Entails.of_eq (recvR_due m List.mem_cons_self)) $$ Hw
  iapply (wait_due m κ l c k Q (jR w i) ha (eff c (.recv w i)) (fun _ => rfl)) $$ [HO Hw]
  · isplitr; · iexact Hrec
    isplitl [HO]; · iexact HO
    iexact Hw
  iintro ⟨HO, Hp⟩
  iapply Hk
  isplitl [HO]; · iexact HO
  isplitl [HS]; · iexact HS
  isplitl [Hback Hp]
  · iapply Hback
    iapply (Entails.of_eq (recvR_held m h').symm)
    iexact Hp
  iexact HC

/-- What the peer of copy `i` is handed: the slot, filled. -/
theorem landed (w : Fin 10) (i : Fin 7) (f : Buf (Elt F) ((slot w c).view.loc (pr i c : Thread nD τ))) :
    ((slot w c).view.loc (pr i c : Thread nD τ) ↦[(slot w c).view.set]{fullShare}
        ((slot w c).view.write (Elt F) f (sent_ m w c (pr i c)) Finset.univ) : sProp 𝕄)
      ⊢ (rd (F := F) m).payload (cell (pr i c) (jR w i)) 0 () := by
  rw [payload_cell]
  show _ ⊢ fullP m (pr i c) w (pr i (pr i c))
  rw [pr_pr]
  exact filled m (pr i c) w c f

/-- The copy to a peer starts. -/
theorem start_send (Q : PUnit → sProp 𝕄) (w : Fin 10) (i : Fin 7) (W : Waits sig Unit)
    (f : Buf (Elt F) ((slot w c).view.loc (pr i c : Thread nD τ))) :
    iprop(cellInv ER (rd m) (κ (c, jS w i)) (cell c (jS w i)) ∗ cellInv ER (rd m) (κ (pr i c, jR w i)) (cell (pr i c) (jR w i))
        ∗ srcP m c w (pr i c) ∗ slotP (pr i c) w c f ∗ owes (c : Thread nD τ) (owedL c (.send w i :: l)) W
        ∗ dutyTok ER (cell c (jS w i)) 0 () ∗ reached ER (cell c (jS w i)) 0
        ∗ dutyTok ER (cell (pr i c) (jR w i)) 0 () ∗ reached ER (cell (pr i c) (jR w i)) 0)
      ⊢ iprop(((cred (tallyAt (cell c (jS w i)) () (N w)) ∗ owes (c : Thread nD τ) (owedL c l) W) -∗ wpC c k Q)
          -∗ wpC c (.op (eff c (.send w i)) fun _ => k) Q) := by
  have e : (eff c (.send w i) : Eff F) = .enqueueDma (src w (pr i c)) (.remote (pr i c).tc (slot w c) (.dma (semJ (jS w i))) rfl) (.dma (semJ (jR w i)))
      (srcAt_exact w (at_ w (pr i c))) (slab_exact _ (isWhole_outM w) (sqz w) (at_ w c)) ⟨⟨rfl, Or.inl rfl⟩, trivial⟩ := rfl
  rw [e]
  unfold srcP slotP wpC
  exact Rounds.wp_send_pointsTo 𝒱₀ ER (rd m) (c : Thread nD τ) none (k := fun _ => k) (κ₁ := κ (c, jS w i)) (κ₂ := κ (pr i c, jR w i))
    (r₁ := 0) (r₂ := 0) (d₁ := ()) (d₂ := ()) (fd := f)
    (mem_duties m c (jS w i)) (mem_duties m (pr i c) (jR w i)) () () (N w) rfl (amt_cell (jS w i)) (amt_cell (jR w i)) (owedL c l) rfl (W := W)
    (by
      rw [payload_cell]
      exact BI.Entails.refl _)
    (landed m c w i f)

/-- A copy to another device starts. -/
theorem step_send (Q : PUnit → sProp 𝕄) (w : Fin 10) (i : Fin 7) (h : okStep (.send w i) l = true) :
    iprop(recs m κ ∗ St m (.send w i :: l) c) ⊢ iprop((St m l c -∗ wpC c k Q) -∗ wpC c (.op (eff c (.send w i)) fun _ => k) Q) := by
  obtain ⟨hs, ht⟩ := of_decide_eq_true h
  unfold St recs owesP
  rw [copies_of m l c _ (fun _ => ⟨by simp, by simp⟩), recvs_of m l c _ (fun _ _ => by simp)]
  iintro ⟨⟨#Hcs, -⟩, ⟨%W, HO⟩, HS, HR, HC⟩ Hk
  ihave ⟨#HI, #Hr⟩ := (cells_at m κ c (jS w i)) $$ Hcs
  ihave ⟨#HI', #Hr'⟩ := (cells_at m κ (pr i c) (jR w i)) $$ Hcs
  ihave ⟨Hw, Hback⟩ := (sends_at m l c _ w i (.inl rfl)) $$ HS
  ihave Hw := (Entails.of_eq (sendR_start m List.mem_cons_self)) $$ Hw
  icases Hw with ⟨⟨%f, Hslot⟩, Htok, Htok', Hat, Hsrc⟩
  iapply (start_send m κ l c k Q w i W f) $$ [Hslot Hsrc HO Htok Htok']
  · isplitr; · iexact HI
    isplitr; · iexact HI'
    isplitl [Hsrc]; · iexact Hsrc
    isplitl [Hslot]; · iexact Hslot
    isplitl [HO]; · iexact HO
    isplitl [Htok]; · iexact Htok
    isplitr; · iexact Hr
    isplitl [Htok']; · iexact Htok'
    iexact Hr'
  iintro ⟨Hcred, HO⟩
  iapply Hk
  isplitl [HO]; · iexists W; iexact HO
  isplitl [Hback Hcred Hat]
  · iapply Hback
    iapply (Entails.of_eq (sendR_due m hs ht).symm)
    unfold due
    isplitl [Hcred]; · iexact Hcred
    iexact Hat
  isplitl [HR]; · iexact HR
  iexact HC

/-- Every operation's step. -/
theorem step (Q : PUnit → sProp 𝕄) : ∀ (x : Op) (_ : okStep x l = true),
    iprop(recs m κ ∗ St m (x :: l) c) ⊢ iprop((St m l c -∗ wpC c k Q) -∗ wpC c (.op (eff c x) fun _ => k) Q)
  | .copy w, h => step_copy m κ l c k Q w h
  | .send w i, h => step_send m κ l c k Q w i h
  | .recv w i, h => step_recv m κ l c k Q w i h
  | .sent w i, h => step_sent m κ l c k Q w i h
  | .copied w, h => step_copied m κ l c k Q w h

end Step

/-- A whole list of operations, run one after the other. -/
theorem run_list (c : Dev nD) (Q : PUnit → sProp 𝕄) : ∀ (l : List Op) (_ : okAll l = true),
    iprop(recs m κ ∗ St m l c) ⊢ iprop((St m [] c -∗ Q ⟨⟩) -∗ wpC c (prog c l) Q)
  | [], _ => by
    show _ ⊢ iprop((St m [] c -∗ Q ⟨⟩) -∗ wp frame (wpE (defs₀ (F := F)) 𝒱₀ (c : Thread nD τ) none) Set.univ (.ret ⟨⟩) Q)
    rw [wp_ret]
    iintro ⟨-, HS⟩ Hk
    imodintro
    iapply Hk
    iexact HS
  | x :: l, h => by
    obtain ⟨h₁, h₂⟩ := Bool.and_eq_true_iff.mp h
    show _ ⊢ iprop((St m [] c -∗ Q ⟨⟩) -∗ wpC c (.op (eff c x) fun _ => prog c l) Q)
    iintro ⟨#Hrec, HS⟩ Hk
    iapply (step m κ l c (prog c l) Q x h₁) $$ [HS]
    · isplitr; · iexact Hrec
      iexact HS
    iintro HS
    iapply (run_list c Q l h₂) $$ [HS]
    · isplitr; · iexact Hrec
      iexact HS
    iexact Hk

end Cert.WeightsIdeal.Exchange

end
-- ==== Proof.WeightsDeal.lean ====
/- What is dealt to the devices, and what they give back.

   The arrays come as whole buffers and go to the devices slot by slot: device `c` starts with its own slot of its own
   outputs and, in each peer's outputs, the slot its copy to that peer fills (`swap`).  A receive cell's token goes to
   the peer that credits it, its credit to its device (`creds`).  At the end a device has every slot of its outputs,
   filled, and every share of its inputs (`rest_end`), and its semaphores are at zero (`close`). -/
module

public import proofs.«01_k».proof.Proof.WeightsSteps

@[expose] public section

noncomputable section

namespace Cert.WeightsIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.WeightsIdeal Facts₀ Facts

variable {F : FTy → Type} [FloatOps F]

local notation "𝕄" => MT nD τ sig Unit (Elt F) ℕ UU ℕ

variable (m : (ℓ : Loc nD τ sig) → Buf (Elt F) ℓ)

/-! ## Sums over the cells -/

omit [FloatOps F] in
theorem sumUnit (Φ : Unit → sProp 𝕄) : bigSep Finset.univ Φ = Φ () :=
  bigSep_univ_eq_bigSepL [()] (by decide) (by decide) Φ

omit [FloatOps F] in
/-- A device's cells are its send cells, its receive cells and the local copies'. -/
theorem sumJ (Φ : J → sProp 𝕄) : bigSep Finset.univ Φ
    = iprop((bigSep Finset.univ fun p : Fin 10 × Fin 7 => Φ (jS p.1 p.2)) ∗ (bigSep Finset.univ fun p : Fin 10 × Fin 7 => Φ (jR p.1 p.2))
      ∗ bigSep Finset.univ fun w : Fin 10 => Φ (jC w)) := by
  rw [bigSep_univ_prod, bigSep_univ_prod (fun p : Fin 10 × Fin 7 => Φ (jS p.1 p.2)), bigSep_univ_prod (fun p : Fin 10 × Fin 7 => Φ (jR p.1 p.2)),
    ← bigSep_sep', ← bigSep_sep']
  refine bigSep_congr fun w _ => ?_
  rw [bigSep_univ_sum, bigSep_univ_sum, sumUnit]
  rfl

/-- Each copy's peers, paired. -/
def peer : Dev nD × (Fin 10 × Fin 7) ≃ Dev nD × (Fin 10 × Fin 7) where
  toFun x := (pr x.2.2 x.1, x.2)
  invFun x := (pr x.2.2 x.1, x.2)
  left_inv x := Prod.ext (pr_pr _ _) rfl
  right_inv x := Prod.ext (pr_pr _ _) rfl

omit [FloatOps F] in
/-- What is at each device for each copy, dealt to that copy's peer. -/
theorem swap (Φ : Dev nD → Fin 10 × Fin 7 → sProp 𝕄) :
    (bigSep Finset.univ fun c => bigSep Finset.univ fun p => Φ c p) = bigSep Finset.univ fun c => bigSep Finset.univ fun p => Φ (pr p.2 c) p := by
  rw [← bigSep_univ_prod (fun x : Dev nD × (Fin 10 × Fin 7) => Φ x.1 x.2), bigSep_univ_equiv peer, bigSep_univ_prod]
  rfl

/-! ## The arrays -/

/-- Device `c`'s output `w`, whole, holding `f`. -/
def outP (c : Dev nD) (w : Fin 10) (f : Buf (Elt F) ((outM w).view.loc (c : Thread nD τ))) : sProp 𝕄 :=
  (outM w).view.loc (c : Thread nD τ) ↦{fullShare} f

theorem slots_of : ∀ c : Fin 8, (Finset.univ : Finset (Fin 8)) = insert c (Finset.univ.image fun k : Fin 7 => pr k c) := by decide
theorem own_notMem : ∀ c : Fin 8, c ∉ Finset.univ.image fun k : Fin 7 => pr k c := by decide
theorem pr_inj : ∀ (c : Fin 8) (k k' : Fin 7), pr k c = pr k' c → k = k' := by decide

omit [FloatOps F] in
/-- A sum over the eight slots: the own one and the peers'. -/
theorem sum_slots (c : Dev nD) (Φ : Fin 8 → sProp 𝕄) : bigSep Finset.univ Φ = iprop(Φ c ∗ bigSep Finset.univ fun k : Fin 7 => Φ (pr k c)) := by
  refine (congrArg (fun S => bigSep S Φ) (slots_of c)).trans ?_
  refine (bigSep_insert (own_notMem c)).trans ?_
  exact congrArg (fun X => iprop(Φ c ∗ X)) (bigSep_image_of_injOn (fun k _ k' _ h => pr_inj c k k' h) _)

omit [FloatOps F] in
/-- A stack of eight, whole, is its slabs. -/
theorem stack_split {e : EltTy} {r n : ℕ} (A : Memref sig .tc .hbm (St8 r n) e) (hs : (Sl r n).Squeezes (Sq r n))
    (hA : ∀ i : A.view.ty.Idx, ∃ j, A.view.emb j = i) (at' : Fin 8 → Cut e r n) (hat : ∀ s, (at' s).off = offs s)
    (c : Dev nD) (f : Buf (Elt F) (A.view.loc (c : Thread nD τ))) : (A.view.loc (c : Thread nD τ) ↦{fullShare} f : sProp 𝕄)
    = bigSep Finset.univ fun s : Fin 8 => (A.view.loc (c : Thread nD τ) ↦[slabSet A hs (at' s)]{fullShare} f : sProp 𝕄) := by
  have hb := pointsTo_biUnion (Ix := Unit) (Name := ℕ) (U := UU) (Lvl := ℕ) (Val := Elt F) (ℓ := A.view.loc (c : Thread nD τ)) (q := fullShare) (f := f)
    Finset.univ (fun s => slabSet A hs (at' s)) (fun s _ t _ h => slab_disjoint A hs hA at' hat s t h)
  refine Eq.trans (congrArg (fun S => (A.view.loc (c : Thread nD τ) ↦[S]{fullShare} f : sProp 𝕄)) ?_) hb
  refine (Finset.eq_univ_of_forall fun i => ?_).symm
  obtain ⟨s, -, hs'⟩ := Finset.mem_biUnion.mp (slab_cover A hs hA at' hat ▸ Finset.mem_univ i)
  exact Finset.mem_biUnion.mpr ⟨s, Finset.mem_univ s, hs'⟩

omit [FloatOps F] in
/-- An output's slots: the own one and the one of each copy to be received. -/
theorem out_split (c : Dev nD) (w : Fin 10) (f : Buf (Elt F) ((outM w).view.loc (c : Thread nD τ))) : (outP c w f : sProp 𝕄)
    = iprop(slotP c w c f ∗ bigSep Finset.univ fun k : Fin 7 => slotP c w (pr k c) f) :=
  (stack_split (outM w) (sqz w) (emb_surj w) (at_ w) (fun _ => rfl) c f).trans (sum_slots c fun s => slotP c w s f)

/-- The inputs. -/
def argB : Fin 10 → Ref sig .tc
  | 0 => main_arg0
  | 1 => main_arg1
  | 2 => main_arg2
  | 3 => main_arg3
  | 4 => main_arg4
  | 5 => main_arg5
  | 6 => main_arg6
  | 7 => main_arg7
  | 8 => main_arg8
  | 9 => main_arg9

/-- Device `c`'s input `w`, whole. -/
def argP (c : Dev nD) (w : Fin 10) : sProp 𝕄 := (c : Thread nD τ).loc (argB w) ↦{fullShare} m ((c : Thread nD τ).loc (argB w))

omit [FloatOps F] in
/-- Of a whole array, the shares of eight readers. -/
theorem eighths (ℓ : Loc nD τ sig) (S : Finset ℓ.ty.Idx) (f : Buf (Elt F) ℓ) :
    (ℓ ↦[S]{fullShare} f : sProp 𝕄) = bigSep Finset.univ fun s : Fin 8 => (ℓ ↦[S]{q8 s} f : sProp 𝕄) := by
  have h (q : PosShare TreeShare) : (ℓ ↦[S]{q} f : sProp 𝕄) = iprop((ℓ ↦[S]{q.left} f) ∗ (ℓ ↦[S]{q.right} f)) :=
    BI.Entails.antisymm (pointsTo_share (PosShare.mem_left_op_right q)).1 (pointsTo_share (PosShare.mem_left_op_right q)).2
  have assoc (P Q R : sProp 𝕄) : iprop((P ∗ Q) ∗ R) = iprop(P ∗ Q ∗ R) := BI.Entails.antisymm BI.sep_assoc BI.sep_assoc'
  rw [bigSep_univ_eq_bigSepL [0, 1, 2, 3, 4, 5, 6, 7] (by decide) (by decide),
    h fullShare, h fullShare.left, h fullShare.right, h fullShare.left.left, h fullShare.left.right, h fullShare.right.left, h fullShare.right.right]
  simp only [assoc]
  rfl

omit [FloatOps F] in
/-- An input is what is read of it for the eight slots. -/
theorem arg_split (c : Dev nD) : ∀ w : Fin 10, (argP m c w : sProp 𝕄) = bigSep Finset.univ fun s : Fin 8 => srcP m c w s
  | 0 => (congrArg (fun S => ((c : Thread nD τ).loc main_arg0 ↦[S]{fullShare} m ((c : Thread nD τ).loc main_arg0) : sProp 𝕄)) (View.set_whole main_arg0).symm).trans (eighths _ _ _)
  | 1 => (congrArg (fun S => ((c : Thread nD τ).loc main_arg1 ↦[S]{fullShare} m ((c : Thread nD τ).loc main_arg1) : sProp 𝕄)) (View.set_whole main_arg1).symm).trans (eighths _ _ _)
  | 2 => (congrArg (fun S => ((c : Thread nD τ).loc main_arg2 ↦[S]{fullShare} m ((c : Thread nD τ).loc main_arg2) : sProp 𝕄)) (View.set_whole main_arg2).symm).trans (eighths _ _ _)
  | 3 => (congrArg (fun S => ((c : Thread nD τ).loc main_arg3 ↦[S]{fullShare} m ((c : Thread nD τ).loc main_arg3) : sProp 𝕄)) (View.set_whole main_arg3).symm).trans (eighths _ _ _)
  | 4 => (congrArg (fun S => ((c : Thread nD τ).loc main_arg4 ↦[S]{fullShare} m ((c : Thread nD τ).loc main_arg4) : sProp 𝕄)) (View.set_whole main_arg4).symm).trans (eighths _ _ _)
  | 5 => (congrArg (fun S => ((c : Thread nD τ).loc main_arg5 ↦[S]{fullShare} m ((c : Thread nD τ).loc main_arg5) : sProp 𝕄)) (View.set_whole main_arg5).symm).trans (eighths _ _ _)
  | 6 => (congrArg (fun S => ((c : Thread nD τ).loc main_arg6 ↦[S]{fullShare} m ((c : Thread nD τ).loc main_arg6) : sProp 𝕄)) (View.set_whole main_arg6).symm).trans (eighths _ _ _)
  | 7 => (congrArg (fun S => ((c : Thread nD τ).loc main_arg7 ↦[S]{fullShare} m ((c : Thread nD τ).loc main_arg7) : sProp 𝕄)) (View.set_whole main_arg7).symm).trans (eighths _ _ _)
  | 8 => (congrArg (fun S => ((c : Thread nD τ).loc main_arg8 ↦[S]{fullShare} m ((c : Thread nD τ).loc main_arg8) : sProp 𝕄)) (View.set_whole main_arg8).symm).trans (eighths _ _ _)
  | 9 => (congrArg (fun S => ((c : Thread nD τ).loc main_arg9 ↦[S]{fullShare} m ((c : Thread nD τ).loc main_arg9) : sProp 𝕄)) (View.set_whole main_arg9).symm).trans (eighths _ _ _)

omit [FloatOps F] in
/-- An input's readers: the copies to the peers and the local copy. -/
theorem in_deal (c : Dev nD) (w : Fin 10) : (argP m c w : sProp 𝕄)
    = iprop(srcP m c w c ∗ bigSep Finset.univ fun k : Fin 7 => srcP m c w (pr k c)) :=
  (arg_split m c w).trans (sum_slots c fun s => srcP m c w s)

/-! ## The credit -/

/-- What each device owes when it starts. -/
def O₀ (c : Dev nD) : CellTallies nD τ sig Unit := owedL c ops

/-- What the operations `l` of device `d` owe a receive cell. -/
theorem owedL_recv (d c : Dev nD) (w : Fin 10) (k : Fin 7) : ∀ l : List Op,
    owedL d l (cell c (jR w k)) () = if d = pr k c then l.count (.send w k) * N w else 0
  | [] => by split <;> simp [owedL]
  | .send w' k' :: l => by
    unfold owedL
    rw [Pi.add_apply, Finsupp.add_apply, owedL_recv d c w k l, tallyAt_apply]
    by_cases h : w' = w ∧ k' = k
    · obtain ⟨rfl, rfl⟩ := h
      by_cases hd : d = pr k' c
      · subst hd
        rw [if_pos rfl, if_pos rfl, if_pos ⟨by rw [pr_pr], rfl⟩, List.count_cons_self, Nat.succ_mul]
      · rw [if_neg hd, if_neg hd, if_neg fun h => hd (by rw [(cell_inj h.1).1, pr_pr])]
    · have e : (Op.send w' k' == .send w k) = false := by
        refine beq_false_of_ne fun h' => h ?_
        exact Op.send.inj h'
      have hn : ¬(cell c (jR w k) = cell (pr k' d) (w', .inr (.inl k')) ∧ () = ()) := fun h' => by
        have ej : jR w k = (w', .inr (.inl k')) := (cell_inj h'.1).2
        have h1 : w = w' := congrArg Prod.fst ej
        have h2 : k = k' := Sum.inl.inj (Sum.inr.inj (congrArg Prod.snd ej))
        exact h ⟨h1.symm, h2.symm⟩
      rw [if_neg hn, Nat.add_zero, List.count_cons, e]
      rfl
  | .copy _ :: l => (owedL_recv d c w k l).trans (by rw [List.count_cons_of_ne (by simp)])
  | .recv _ _ :: l => (owedL_recv d c w k l).trans (by rw [List.count_cons_of_ne (by simp)])
  | .sent _ _ :: l => (owedL_recv d c w k l).trans (by rw [List.count_cons_of_ne (by simp)])
  | .copied _ :: l => (owedL_recv d c w k l).trans (by rw [List.count_cons_of_ne (by simp)])

theorem count_ops : ∀ (w : Fin 10) (k : Fin 7), ops.count (.send w k) = 1 := by decide

theorem launch_recv (c : Dev nD) (w : Fin 10) (k : Fin 7) :
    tallyOn (cell c (jR w k)) (launchCredit (Pipeline.owing O₀) 0 (cell c (jR w k))) = (tallyAt (cell c (jR w k)) () (N w) : CellTallies nD τ sig Unit) := by
  unfold tallyAt
  refine congrArg _ (Finsupp.ext fun u => ?_)
  cases u
  rw [Pipeline.launchCredit_owing, Finsupp.single_eq_same]
  refine (Finset.sum_congr rfl fun d _ => owedL_recv d c w k ops).trans ?_
  rw [Finset.sum_ite_eq' Finset.univ (pr k c) fun _ => _, if_pos (Finset.mem_univ _), count_ops, Nat.one_mul]

def recvE : Fin 10 × Fin 7 ↪ SemLoc sig :=
  ⟨fun p => .dma (semJ (jR p.1 p.2)), fun p q h => by
    have e : jR p.1 p.2 = jR q.1 q.2 := semJ_inj (SemLoc.dma.inj h)
    exact Prod.ext (Prod.mk.inj e).1 (Sum.inl.inj (Sum.inr.inj (Prod.mk.inj e).2))⟩

omit [FloatOps F] in
/-- The credit of each receive cell. -/
theorem creds (c : Dev nD) : (Pipeline.launchCred O₀ c : sProp 𝕄)
    ⊢ bigSep Finset.univ fun p : Fin 10 × Fin 7 => cred (tallyAt (cell c (jR p.1 p.2)) () (N p.1)) := by
  unfold Pipeline.launchCred
  refine (bigSep_subset (Finset.subset_univ (Finset.univ.map recvE))).trans ?_
  rw [bigSep_map]
  exact bigSep_mono fun p _ => Entails.of_eq (congrArg cred (launch_recv c p.1 p.2))

/-! ## The start -/

/-- A slot, holding anything. -/
def anyP (c : Dev nD) (w : Fin 10) (s : Fin 8) : sProp 𝕄 := iprop(∃ f, slotP c w s f)

omit [FloatOps F] in
theorem any_of (c : Dev nD) (w : Fin 10) (s : Fin 8) (f : Buf (Elt F) ((slot w s).view.loc (c : Thread nD τ))) : (slotP c w s f : sProp 𝕄) ⊢ anyP c w s := by
  unfold anyP
  iintro H
  iexists f
  iexact H

omit [FloatOps F] in
/-- A device's outputs, slot by slot. -/
theorem outs_slots (c : Dev nD) : (bigSep Finset.univ fun w : Fin 10 => outP c w (m ((outM w).view.loc (c : Thread nD τ))) : sProp 𝕄)
    ⊢ iprop((bigSep Finset.univ fun w : Fin 10 => anyP c w c) ∗ bigSep Finset.univ fun p : Fin 10 × Fin 7 => anyP c p.1 (pr p.2 c)) := by
  rw [bigSep_univ_prod (fun p : Fin 10 × Fin 7 => (anyP c p.1 (pr p.2 c) : sProp 𝕄)), ← bigSep_sep']
  refine bigSep_mono fun w _ => ?_
  rw [out_split]
  exact BI.sep_mono (any_of c w c _) (bigSep_mono fun k _ => any_of c w (pr k c) _)

omit [FloatOps F] in
/-- Every device's outputs, dealt: to each its own slots and the slots its copies fill. -/
theorem outs_deal : (bigSep Finset.univ fun c : Dev nD => bigSep Finset.univ fun w : Fin 10 => outP c w (m ((outM w).view.loc (c : Thread nD τ))) : sProp 𝕄)
    ⊢ iprop((bigSep Finset.univ fun c : Dev nD => bigSep Finset.univ fun w : Fin 10 => anyP c w c)
      ∗ bigSep Finset.univ fun c : Dev nD => bigSep Finset.univ fun p : Fin 10 × Fin 7 => anyP (pr p.2 c) p.1 c) := by
  refine (bigSep_mono fun c _ => outs_slots m c).trans ?_
  rw [bigSep_sep', swap fun c p => anyP c p.1 (pr p.2 c)]
  have e : (fun c : Dev nD => bigSep Finset.univ fun p : Fin 10 × Fin 7 => (anyP (pr p.2 c) p.1 (pr p.2 (pr p.2 c)) : sProp 𝕄))
      = fun c => bigSep Finset.univ fun p : Fin 10 × Fin 7 => anyP (pr p.2 c) p.1 c := by
    funext c
    exact bigSep_congr fun p _ => by rw [pr_pr]
  rw [e]
  exact BI.Entails.refl _

omit [FloatOps F] in
/-- Every device's inputs, dealt reader by reader. -/
theorem ins_deal (c : Dev nD) : (bigSep Finset.univ fun w : Fin 10 => argP m c w : sProp 𝕄)
    ⊢ iprop((bigSep Finset.univ fun w : Fin 10 => srcP m c w c) ∗ bigSep Finset.univ fun p : Fin 10 × Fin 7 => srcP m c p.1 (pr p.2 c)) := by
  rw [bigSep_univ_prod (fun p : Fin 10 × Fin 7 => (srcP m c p.1 (pr p.2 c) : sProp 𝕄)), ← bigSep_sep']
  exact bigSep_mono fun w _ => Entails.of_eq (in_deal m c w)

theorem send_mem : ∀ (w : Fin 10) (k : Fin 7), .send w k ∈ ops := by decide
theorem recv_mem : ∀ (w : Fin 10) (k : Fin 7), .recv w k ∈ ops := by decide
theorem copy_mem : ∀ w : Fin 10, .copy w ∈ ops := by decide

/-- A cell's token. -/
abbrev tok (c : Dev nD) (j : J) : sProp 𝕄 := dutyTok ER (cell c j) 0 ()
/-- A cell's owner's position, at the start. -/
abbrev at0 (c : Dev nD) (j : J) : sProp 𝕄 := atPos ER (cell c j) 0 ∅ 0

/-- What device `c`'s copies start with. -/
def held (c : Dev nD) : sProp 𝕄 := iprop(sends m ops c ∗ recvs m ops c ∗ copies m ops c)

theorem held_intro (c : Dev nD) :
    iprop((bigSep Finset.univ fun p : Fin 10 × Fin 7 => anyP (pr p.2 c) p.1 c) ∗ (bigSep Finset.univ fun w : Fin 10 => anyP c w c)
      ∗ (bigSep Finset.univ fun p : Fin 10 × Fin 7 => tok c (jS p.1 p.2)) ∗ (bigSep Finset.univ fun p : Fin 10 × Fin 7 => tok (pr p.2 c) (jR p.1 p.2))
      ∗ (bigSep Finset.univ fun w : Fin 10 => tok c (jC w)) ∗ (bigSep Finset.univ fun j => at0 c j)
      ∗ (bigSep Finset.univ fun w : Fin 10 => argP m c w) ∗ Pipeline.launchCred O₀ c) ⊢ held m c := by
  have hS : sends m ops c = (bigSep Finset.univ fun p : Fin 10 × Fin 7 => iprop(anyP (pr p.2 c) p.1 c ∗ tok c (jS p.1 p.2) ∗ tok (pr p.2 c) (jR p.1 p.2)
      ∗ at0 c (jS p.1 p.2) ∗ srcP m c p.1 (pr p.2 c))) :=
    bigSep_congr fun p _ => sendR_start m (send_mem p.1 p.2)
  have hR : recvs m ops c = (bigSep Finset.univ fun p : Fin 10 × Fin 7 => iprop(cred (tallyAt (cell c (jR p.1 p.2)) () (N p.1)) ∗ at0 c (jR p.1 p.2))) :=
    bigSep_congr fun p _ => recvR_due m (recv_mem p.1 p.2)
  have hC : copies m ops c = (bigSep Finset.univ fun w : Fin 10 => iprop(anyP c w c ∗ srcP m c w c ∗ tok c (jC w) ∗ at0 c (jC w))) :=
    bigSep_congr fun w _ => copyR_start m (copy_mem w)
  unfold held
  rw [hS, hR, hC, sumJ]
  simp only [bigSep_sep']
  iintro ⟨Hpeer, Hown, HtS, HtR, HtC, ⟨HaS, HaR, HaC⟩, Hin, Hcr⟩
  ihave ⟨Hin', Hin⟩ := (ins_deal m c) $$ Hin
  ihave Hcr := (creds c) $$ Hcr
  isplitl [Hpeer HtS HtR HaS Hin]
  · isplitl [Hpeer]; · iexact Hpeer
    isplitl [HtS]; · iexact HtS
    isplitl [HtR]; · iexact HtR
    isplitl [HaS]; · iexact HaS
    iexact Hin
  isplitl [Hcr HaR]
  · isplitl [Hcr]; · iexact Hcr
    iexact HaR
  isplitl [Hown]; · iexact Hown
  isplitl [Hin']; · iexact Hin'
  isplitl [HtC]; · iexact HtC
  iexact HaC

/-- Everything there is at the start, dealt to the devices. -/
theorem deal :
    iprop((bigSep Finset.univ fun c : Dev nD => bigSep Finset.univ fun w : Fin 10 => outP c w (m ((outM w).view.loc (c : Thread nD τ))))
      ∗ (bigSep Finset.univ fun c : Dev nD => bigSep Finset.univ fun w : Fin 10 => argP m c w)
      ∗ (bigSep Finset.univ fun c : Dev nD => bigSep Finset.univ fun j => tok c j)
      ∗ (bigSep Finset.univ fun c : Dev nD => bigSep Finset.univ fun j => at0 c j)
      ∗ (bigSep Finset.univ fun c : Dev nD => Pipeline.launchCred O₀ c)) ⊢ bigSep Finset.univ fun c : Dev nD => held m c := by
  have hT : (bigSep Finset.univ fun c : Dev nD => bigSep Finset.univ fun j => (tok c j : sProp 𝕄))
      = iprop((bigSep Finset.univ fun c : Dev nD => bigSep Finset.univ fun p : Fin 10 × Fin 7 => tok c (jS p.1 p.2))
        ∗ (bigSep Finset.univ fun c : Dev nD => bigSep Finset.univ fun p : Fin 10 × Fin 7 => tok (pr p.2 c) (jR p.1 p.2))
        ∗ (bigSep Finset.univ fun c : Dev nD => bigSep Finset.univ fun w : Fin 10 => tok c (jC w))) := by
    rw [← swap fun c p => tok c (jR p.1 p.2), ← bigSep_sep', ← bigSep_sep']
    exact bigSep_congr fun c _ => sumJ _
  rw [hT]
  have hall := bigSep_mono (s := Finset.univ) fun (c : Dev nD) _ => held_intro m c
  simp only [bigSep_sep'] at hall
  iintro ⟨Hout, Hin, ⟨HtS, HtR, HtC⟩, Hat, Hcr⟩
  ihave ⟨Hown, Hpeer⟩ := (outs_deal m) $$ Hout
  iapply (show iprop(_ ∗ _) ⊢ (bigSep Finset.univ fun c : Dev nD => held m c) from hall)
  isplitl [Hpeer]; · iexact Hpeer
  isplitl [Hown]; · iexact Hown
  isplitl [HtS]; · iexact HtS
  isplitl [HtR]; · iexact HtR
  isplitl [HtC]; · iexact HtC
  isplitl [Hat]; · iexact Hat
  isplitl [Hin]; · iexact Hin
  iexact Hcr

/-! ## The end -/

/-- A cell's owner's position after the wait. -/
abbrev at1 (c : Dev nD) (j : J) : sProp 𝕄 := atPos ER (cell c j) 1 ∅ 0

/-- What the sends, the receives and the local copy of one array leave: its input and its output, whole. -/
theorem whole_again (c : Dev nD) (w : Fin 10) :
    iprop((bigSep Finset.univ fun k : Fin 7 => payJ m c (jS w k)) ∗ (bigSep Finset.univ fun k : Fin 7 => payJ m c (jR w k)) ∗ payJ m c (jC w))
      ⊢ iprop(argP m c w ∗ outP c w (made m w c)) := by
  have e : (outP c w (made m w c) : sProp 𝕄) = iprop(fullP m c w c ∗ bigSep Finset.univ fun k : Fin 7 => fullP m c w (pr k c)) :=
    out_split c w (made m w c)
  rw [e, in_deal]
  show iprop((bigSep Finset.univ fun k : Fin 7 => srcP m c w (pr k c)) ∗ (bigSep Finset.univ fun k : Fin 7 => fullP m c w (pr k c)) ∗ fullP m c w c ∗ srcP m c w c) ⊢ _
  iintro ⟨Hs, Hr, Hc, Hi⟩
  isplitl [Hs Hi]
  · isplitl [Hi]; · iexact Hi
    iexact Hs
  isplitl [Hc]; · iexact Hc
  iexact Hr

theorem rest_end (c : Dev nD) : iprop(sends m [] c ∗ recvs m [] c ∗ copies m [] c)
    ⊢ iprop((bigSep Finset.univ fun w : Fin 10 => iprop(argP m c w ∗ outP c w (made m w c))) ∗ bigSep Finset.univ fun j => at1 c j) := by
  have hS : sends m [] c = (bigSep Finset.univ fun p : Fin 10 × Fin 7 => iprop(payJ m c (jS p.1 p.2) ∗ at1 c (jS p.1 p.2))) :=
    bigSep_congr fun p _ => sendR_done m (by simp) (by simp)
  have hR : recvs m [] c = (bigSep Finset.univ fun p : Fin 10 × Fin 7 =>
      iprop(payJ m c (jR p.1 p.2) ∗ at1 c (jR p.1 p.2))) :=
    bigSep_congr fun p _ => recvR_held m (by simp)
  have hC : copies m [] c = (bigSep Finset.univ fun w : Fin 10 => iprop(payJ m c (jC w) ∗ at1 c (jC w))) :=
    bigSep_congr fun w _ => copyR_done m (by simp) (by simp)
  rw [hS, hR, hC, sumJ]
  simp only [bigSep_sep']
  iintro ⟨⟨HpS, HaS⟩, ⟨HpR, HaR⟩, HpC, HaC⟩
  isplitr [HaS HaR HaC]
  · have hw : iprop((bigSep Finset.univ fun w : Fin 10 => bigSep Finset.univ fun k : Fin 7 => payJ m c (jS w k))
        ∗ (bigSep Finset.univ fun w : Fin 10 => bigSep Finset.univ fun k : Fin 7 => payJ m c (jR w k))
        ∗ bigSep Finset.univ fun w : Fin 10 => payJ m c (jC w))
        ⊢ iprop((bigSep Finset.univ fun w : Fin 10 => argP m c w) ∗ bigSep Finset.univ fun w : Fin 10 => outP c w (made m w c)) := by
      rw [← bigSep_sep', ← bigSep_sep', ← bigSep_sep']
      exact bigSep_mono fun w _ => whole_again m c w
    iapply hw
    isplitl [HpS]
    · iapply (Entails.of_eq (bigSep_univ_prod fun p : Fin 10 × Fin 7 => payJ m c (jS p.1 p.2))); iexact HpS
    isplitl [HpR]
    · iapply (Entails.of_eq (bigSep_univ_prod fun p : Fin 10 × Fin 7 => payJ m c (jR p.1 p.2))); iexact HpR
    iexact HpC
  isplitl [HaS]; · iexact HaS
  isplitl [HaR]; · iexact HaR
  iexact HaC

variable (κ : Dev nD × J → ℕ)

/-- A device's semaphores, back at zero. -/
theorem close (c : Dev nD) : iprop(cells m κ ∗ bigSep Finset.univ fun j => at1 c j) ⊢ |={Set.univ}=> bigSep Finset.univ fun j => (semVal (cell c j) 0 : sProp 𝕄) := by
  refine BI.Entails.trans ?_ (bigSep_fupd Finset.univ fun j => (semVal (cell c j) 0 : sProp 𝕄))
  refine (sep_mono_left (BI.bigSep_of_persistent (Finset.univ : Finset J) (cells m κ))).trans ?_
  rw [← bigSep_sep']
  refine bigSep_mono fun j _ => ?_
  show iprop(cells m κ ∗ at1 c j) ⊢ iprop(|={Set.univ}=> semVal (cell c j) 0)
  iintro ⟨#Hcs, Hat⟩
  ihave ⟨#HI, -⟩ := (cells_at m κ c j) $$ Hcs
  iapply (Rounds.cell_close ER (rd m) (Set.mem_univ (κ (c, j))) (fun h => h) (R := 0 + 1) fun r h => duties_later m (cell c j) r h)
  isplitr; · iexact HI
  iexact Hat

end Cert.WeightsIdeal.Exchange

end
-- ==== Proof.WeightsBody.lean ====
/- The body's obligation: from what a device is dealt (`held`) the whole list of operations runs (`run_list`) and leaves
   the device's inputs unchanged, its outputs made and its semaphores at zero. -/
module

public import proofs.«01_k».proof.Proof.WeightsDeal
public import proofs.«01_k».proof.Proof.Gen.WeightsIdeal.Launch
public import Idealize.ShloMosaic.Lib.Pipeline.Launch

@[expose] public section

noncomputable section

namespace Cert.WeightsIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)
open Cert.WeightsIdeal Facts₀ Facts

variable {F : FTy → Type} [FloatOps F]

local notation "𝕄" => MT nD τ sig Unit (Elt F) ℕ UU ℕ

variable (m : (ℓ : Loc nD τ sig) → Buf (Elt F) ℓ)

/-- The arrays at the end: the inputs as they were, the outputs made. -/
def arraysEnd (c : Dev nD) : sProp 𝕄 := bigSep Finset.univ fun w : Fin 10 => iprop(argP m c w ∗ outP c w (made m w c))

/-- The semaphores at zero. -/
def zeros (c : Dev nD) : sProp 𝕄 := bigSep Finset.univ fun j : J => semVal (cell c j) 0

/-- What the body starts from, and what it ends with. -/
def Φ₀ (c : Dev nD) : sProp 𝕄 := iprop(∃ κ, recs m κ ∗ held m c)
def Φ₁ (c : Dev nD) : sProp 𝕄 := iprop(arraysEnd m c ∗ zeros c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- An update after the run. -/
theorem wpC_fupd (c : Dev nD) (p : Prog (TpuEff nD τ sig (Elt F) Λ₀ .tc) PUnit) (Q : PUnit → sProp 𝕄) :
    wpC c p (fun r => iprop(|={Set.univ}=> Q r)) ⊢ wpC c p Q :=
  wp_fupd frame (wpE (defs₀ (F := F)) 𝒱₀ (c : Thread nD τ) none) Set.univ p Q

theorem wpC_post (c : Dev nD) (p : Prog (TpuEff nD τ sig (Elt F) Λ₀ .tc) PUnit) {Q Q' : PUnit → sProp 𝕄} (h : ∀ r, Q r ⊢ Q' r) :
    wpC c p Q ⊢ wpC c p Q' :=
  wp_mono frame (wpE (defs₀ (F := F)) 𝒱₀ (c : Thread nD τ) none) Set.univ h

/-- What is left of the debts. -/
def owesNone (c : Dev nD) : sProp 𝕄 := iprop(∃ W, owes (c : Thread nD τ) (0 : CellTallies nD τ sig Unit) W)

/-- After the run: the cells closed. -/
theorem closed (κ : Dev nD × J → ℕ) (c : Dev nD) : iprop(recs m κ ∗ St m [] c) ⊢ |={Set.univ}=> iprop(Φ₁ m c ∗ owesNone c) := by
  unfold St recs owesP owesNone
  iintro ⟨⟨#Hcs, -⟩, HO, Hrest⟩
  ihave ⟨Ha, Hat⟩ := (rest_end m c) $$ Hrest
  imod (close m κ c) $$ [Hat] with Hz
  · isplitr; · iexact Hcs
    iexact Hat
  imodintro
  isplitr [HO]
  · unfold Φ₁ arraysEnd zeros
    isplitl [Ha]; · iexact Ha
    iexact Hz
  · iexact HO

theorem run_closed (κ : Dev nD × J → ℕ) (c : Dev nD) (l : List Op) (h : okAll l = true) :
    iprop(recs m κ ∗ St m l c) ⊢ wpC c (prog c l) fun _ => iprop(Φ₁ m c ∗ owesNone c) := by
  iintro ⟨#Hrec, HS⟩
  iapply (wpC_fupd c (prog c l) fun _ => iprop(Φ₁ m c ∗ owesNone c))
  iapply (run_list m κ c (fun _ => iprop(|={Set.univ}=> iprop(Φ₁ m c ∗ owesNone c))) l h) $$ [HS]
  · isplitr; · iexact Hrec
    iexact HS
  iintro HS
  iapply (closed m κ c)
  isplitr; · iexact Hrec
  iexact HS

theorem start_state (c : Dev nD) : iprop(Φ₀ m c ∗ owesP ops c) ⊢ iprop(∃ κ, recs m κ ∗ St m ops c) := by
  unfold Φ₀ held St
  iintro ⟨⟨%κ, #Hrec, HS, HR, HC⟩, HO⟩
  iexists κ
  isplitr; · iexact Hrec
  isplitl [HO]; · iexact HO
  isplitl [HS]; · iexact HS
  isplitl [HR] <;> iassumption

/-- The operations run, the cells closed. -/
theorem body_runs (c : Dev nD) : iprop(Φ₀ m c ∗ owesP ops c) ⊢ wpC c (prog c ops) fun _ => iprop(Φ₁ m c ∗ owesNone c) :=
  (start_state m c).trans (sProp.exists_elim fun κ => run_closed m κ c ops ok_ops)

set_option maxRecDepth 4000 in
/-- The body obligation on device `c`. -/
theorem body_obligation (c : Dev nD) : BodyObligationLoose (dats (F := F) m 0 c) (defs₀ (F := F)) 𝒱₀ () Set.univ := fun t => by
  rw [Gen.fin_N0 t]
  have hstart : (dats (F := F) m 0 c).owesAt () (Gen.t0_0 : Fin cfg0.N).castSucc ⊢ owesP ops c := by
    unfold Dat.owesAt Pipeline.owesWithin owesP
    iintro ⟨%W, -, H⟩
    iexists W
    iexact H
  have hend (r : PUnit) : iprop(Φ₁ m c ∗ owesNone c) ⊢ iprop(Φ₁ m c ∗ (dats (F := F) m 0 c).owesAt () (Gen.t0_0 : Fin cfg0.N).succ ∗ emp) := by
    unfold Dat.owesAt Pipeline.owesWithin owesNone
    iintro ⟨H1, ⟨%W, H⟩⟩
    isplitl [H1]; · iexact H1
    isplitl [H]
    · iexists W
      isplitr; · ipureintro; exact fun _ _ => Or.inl trivial
      iexact H
    · iempintro
  have hin : iprop(Φ₀ m c ∗ (dats (F := F) m 0 c).owesAt () (Gen.t0_0 : Fin cfg0.N).castSucc ∗ emp) ⊢ iprop(Φ₀ m c ∗ owesP ops c) := by
    iintro ⟨H0, HO, -⟩
    isplitl [H0]; · iexact H0
    iapply hstart; iexact HO
  have hz (Ψ : Fin cfg0.W → sProp 𝕄) : bigSep Finset.univ Ψ = BI.emp := by
    rw [show (Finset.univ : Finset (Fin cfg0.W)) = ∅ from Finset.univ_eq_empty (α := Fin 0), BI.bigSep_empty]
  rw [hz, hz]
  have hb : defs₀ (F := F) .tc cfg0.body (cfg0.bodyArgs Gen.t0_0 (cfg0.slots Gen.t0_0)) = Gen.bodyAt0 (F := F) Gen.t0_0 := rfl
  have hrun := hin.trans ((body_runs m c).trans (wpC_post c (prog c ops) hend))
  rw [hb, body_eq, wp_deviceId]
  revert hrun
  generalize ops = l
  exact fun h => h

end Cert.WeightsIdeal.Exchange

end
-- ==== Proof.WeightsStart.lean ====
/- The launch's own steps: the arrays taken as inputs and outputs, the cells allocated for every device at once, the
   levels assigned, and all of it dealt (`deal`). -/
module

public import proofs.«01_k».proof.Proof.WeightsBody

@[expose] public section

noncomputable section

namespace Cert.WeightsIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.WeightsIdeal Facts₀ Facts

variable {F : FTy → Type} [FloatOps F]

local notation "𝕄" => MT nD τ sig Unit (Elt F) ℕ UU ℕ

variable (m : (ℓ : Loc nD τ sig) → Buf (Elt F) ℓ)

/-! ## The arrays -/

omit [FloatOps F] in
theorem sum10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

omit [FloatOps F] in
theorem outs_first (A0 A1 A2 A3 A4 A5 A6 A7 A8 A9 V : sProp 𝕄) : iprop(A0 ∗ A1 ∗ A2 ∗ A3 ∗ A4 ∗ A5 ∗ A6 ∗ A7 ∗ A8 ∗ A9 ∗ V) ⊢ iprop(V ∗ A0 ∗ A1 ∗ A2 ∗ A3 ∗ A4 ∗ A5 ∗ A6 ∗ A7 ∗ A8 ∗ A9) := by
  iintro ⟨A0, A1, A2, A3, A4, A5, A6, A7, A8, A9, V⟩
  isplitl [V]; · iexact V
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  iexact A9

omit [FloatOps F] in
/-- A device's unscoped arrays are its ten inputs and its ten outputs. -/
theorem arrays_start (c : Dev nD) : (unscopedBufs c (fun b => m ((c : Thread nD τ).loc b)) : sProp 𝕄)
    ⊢ iprop((bigSep Finset.univ fun w : Fin 10 => outP c w (m ((outM w).view.loc (c : Thread nD τ))))
        ∗ bigSep Finset.univ fun w : Fin 10 => argP m c w) := by
  unfold unscopedBufs
  rw [bigSep_eq_bigSepL_of_eq [main_arg0, main_arg1, main_arg2, main_arg3, main_arg4, main_arg5, main_arg6, main_arg7, main_arg8, main_arg9, main_v1_0, main_v1_1, main_v1_2, main_v1_3, main_v1_4, main_v1_5, main_v1_6, main_v1_7, main_v1_8, main_v1_9] (by decide) (by decide), sum10, sum10]
  exact outs_first _ _ _ _ _ _ _ _ _ _ _

/-! ## The cells -/

theorem cellP_inj : Function.Injective fun p : Dev nD × J => cell p.1 p.2 := fun p q h => by
  obtain ⟨h₁, h₂⟩ := cell_inj h
  exact Prod.ext h₁ h₂

/-- Every cell of every device, and its one duty. -/
def allCells : Finset (GSem nD τ sig) := Finset.univ.map ⟨fun p : Dev nD × J => cell p.1 p.2, cellP_inj⟩
def allToks : Finset (GSem nD τ sig × ℕ × Unit) :=
  Finset.univ.map ⟨fun p : Dev nD × J => (cell p.1 p.2, 0, ()), fun _ _ h => cellP_inj (Prod.mk.inj h).1⟩

omit [FloatOps F] in
theorem sum_cells (Φ : GSem nD τ sig → sProp 𝕄) : bigSep allCells Φ = bigSep Finset.univ fun p : Dev nD × J => Φ (cell p.1 p.2) := by
  unfold allCells; rw [bigSep_map]; rfl

omit [FloatOps F] in
theorem sum_toks : (bigSep allToks fun x => (dutyTok ER x.1 x.2.1 x.2.2 : sProp 𝕄)) = bigSep Finset.univ fun p : Dev nD × J => tok p.1 p.2 := by
  unfold allToks; rw [bigSep_map]; rfl

/-- The cells of a set `S` allocated, with the tokens `T`. -/
theorem fund_at (S : Finset (GSem nD τ sig)) (T : Finset (GSem nD τ sig × ℕ × Unit)) :
    iprop((bigSep S fun g => semVal g 0) ∗ BI.own (ER (launchOf S ∅ T)))
      ⊢ |={Set.univ}=> iprop(∃ κ : GSem nD τ sig → ℕ, ((bigSep S fun g => cellInv ER (rd m) (κ g) g) ∗ bigSep S fun g => reached ER g 0)
        ∗ (bigSep T fun x => dutyTok ER x.1 x.2.1 x.2.2) ∗ bigSep S fun g => (atPos ER g 0 ∅ 0 : sProp 𝕄)) := by
  have h := Rounds.fund_launch (Es := Set.univ) ER (rd m) (S := S) (Sd := ∅) (Finset.disjoint_empty_right _) (fun g h => absurd h (Finset.notMem_empty g)) T
  rw [Finset.union_empty] at h
  iintro H
  imod h $$ H with ⟨%κ, -, HI, HR, Hat, -, Htok⟩
  imodintro
  iexists κ
  isplitl [HI HR]
  · isplitl [HI] <;> iassumption
  isplitl [Htok] <;> iassumption

omit [FloatOps F] in
theorem zeros_cells : (bigSep Finset.univ fun c : Dev nD => (zeros c : sProp 𝕄)) = bigSep allCells fun g => semVal g 0 := by
  rw [sum_cells, bigSep_univ_prod (fun p : Dev nD × J => (semVal (cell p.1 p.2) 0 : sProp 𝕄))]
  rfl

/-- Every cell's invariant allocated, its position and its token handed out. -/
theorem fund_cells : iprop((bigSep Finset.univ fun c : Dev nD => zeros c) ∗ BI.own (ER (launchOf allCells ∅ allToks)))
    ⊢ |={Set.univ}=> iprop(∃ κ, cells m κ ∗ (bigSep Finset.univ fun c : Dev nD => bigSep Finset.univ fun j => tok c j)
        ∗ bigSep Finset.univ fun c : Dev nD => bigSep Finset.univ fun j => (at0 c j : sProp 𝕄)) := by
  rw [zeros_cells, ← bigSep_univ_prod (fun p : Dev nD × J => (tok p.1 p.2 : sProp 𝕄)), ← bigSep_univ_prod (fun p : Dev nD × J => (at0 p.1 p.2 : sProp 𝕄)),
    ← sum_toks, ← sum_cells fun g => (atPos ER g 0 ∅ 0 : sProp 𝕄)]
  have hcs (κ : GSem nD τ sig → ℕ) : iprop((bigSep allCells fun g => cellInv ER (rd m) (κ g) g) ∗ bigSep allCells fun g => (reached ER g 0 : sProp 𝕄))
      ⊢ cells m fun p => κ (cell p.1 p.2) := by
    rw [sum_cells, sum_cells, ← bigSep_sep']
    exact BI.Entails.refl _
  iintro H
  imod (fund_at m allCells allToks) $$ H with ⟨%κ, Hcs, Hrest⟩
  imodintro
  iexists (fun p : Dev nD × J => κ (cell p.1 p.2))
  isplitl [Hcs]
  · iapply (hcs κ); iexact Hcs
  iexact Hrest

/-! ## The levels -/

/-- A device's cells, no level assigned. -/
abbrev levelsNone (c : Dev nD) : sProp 𝕄 := levels0 (Ix := Unit) (Val := Elt F) (Name := ℕ) (U := UU) (Lvl := ℕ) (τ := τ) (sig := sig) c

omit [FloatOps F] in
theorem levels_assigned : (bigSep Finset.univ fun c : Dev nD => levelsNone (F := F) c) ⊢ (|==> levAts L lv : sProp 𝕄) := by
  have hone (c : Dev nD) : levelsNone (F := F) c
      ⊢ (|==> ((bigSep Finset.univ fun sm : SemLoc sig => levels ((c : Thread nD τ), sm) (L ((c : Thread nD τ), sm))) ∗ coreLevAts (c : Thread nD τ) L lv) : sProp 𝕄) :=
    lev_assign_cells (c : Thread nD τ) L lv
  refine BI.Entails.trans (bigSep_mono fun c _ => hone c) ((BI.bigSep_bupd _ _).trans (BI.bupd_mono ?_))
  have hother (d : Dev nD) (p : Proc τ) (h : p ≠ .tc) : (coreLevAts ((d, p) : Thread nD τ) L lv : sProp 𝕄) = BI.emp := by
    unfold coreLevAts
    rw [bigSep_congr (Ψ := fun _ : SemLoc sig => (BI.emp : sProp 𝕄)) fun sm _ => by rw [L_of_ne (((d, p) : Thread nD τ), sm) h, BI.bigSep_empty]]
    exact BI.bigSep_emp_const _
  have hrest : (bigSep Finset.univ fun d : Dev nD => bigSep (Finset.univ.erase Proc.tc) fun p => (coreLevAts ((d, p) : Thread nD τ) L lv : sProp 𝕄)) = BI.emp := by
    rw [bigSep_congr (Ψ := fun _ : Dev nD => (BI.emp : sProp 𝕄)) fun d _ =>
      (bigSep_congr (Ψ := fun _ : Proc τ => (BI.emp : sProp 𝕄)) fun p hp => hother d p (Finset.ne_of_mem_erase hp)).trans (BI.bigSep_emp_const _)]
    exact BI.bigSep_emp_const _
  have hall : (levAts L lv : sProp 𝕄) = iprop((bigSep Finset.univ fun d : Dev nD => coreLevAts (d : Thread nD τ) L lv) ∗ emp) :=
    (bigSep_univ_prod fun g : GSem nD τ sig => bigSep (L g) fun ι => levAt g ι (lv g ι)).trans
      ((bigSep_threads fun c : Thread nD τ => coreLevAts c L lv).trans (congrArg (fun X => iprop((bigSep Finset.univ fun d : Dev nD => coreLevAts (d : Thread nD τ) L lv) ∗ X)) hrest))
  have hlast (A B : sProp 𝕄) : iprop(A ∗ B) ⊢ iprop(B ∗ emp) := by
    iintro ⟨-, H⟩
    isplitl [H]; · iexact H
    iempintro
  rw [hall, bigSep_sep']
  exact hlast _ _

/-! ## The start of every device -/

theorem started (κ : Dev nD × J → ℕ) : iprop(recs m κ ∗ bigSep Finset.univ fun c : Dev nD => held m c) ⊢ bigSep Finset.univ fun c : Dev nD => Φ₀ m c := by
  refine (sep_mono_left (BI.bigSep_of_persistent (Finset.univ : Finset (Dev nD)) (recs m κ))).trans ?_
  rw [← bigSep_sep']
  refine bigSep_mono fun c _ => ?_
  unfold Φ₀
  show iprop(recs m κ ∗ held m c) ⊢ iprop(∃ κ, recs m κ ∗ held m c)
  iintro H
  iexists κ
  iexact H

/-- Every device ready to run. -/
theorem ready : iprop((bigSep Finset.univ fun c : Dev nD => unscopedBufs c (fun b => m ((c : Thread nD τ).loc b)))
      ∗ (bigSep Finset.univ fun c : Dev nD => zeros c) ∗ (bigSep Finset.univ fun c : Dev nD => levelsNone (F := F) c)
      ∗ (bigSep Finset.univ fun c : Dev nD => Pipeline.launchCred O₀ c) ∗ BI.own (ER (launchOf allCells ∅ allToks)))
    ⊢ |={Set.univ}=> bigSep Finset.univ fun c : Dev nD => (Φ₀ m c : sProp 𝕄) := by
  have harr := bigSep_mono (s := Finset.univ) fun (c : Dev nD) _ => arrays_start m c
  rw [bigSep_sep'] at harr
  iintro ⟨Hb, Hz, Hlv, Hcr, Hu⟩
  ihave ⟨Hout, Hin⟩ := (show _ ⊢ iprop(_ ∗ _) from harr) $$ Hb
  imod (levels_assigned (F := F)) $$ Hlv with Hla
  imod (fund_cells m) $$ [Hz Hu] with ⟨%κ, Hcs, Htok, Hat⟩
  · isplitl [Hz] <;> iassumption
  imodintro
  iapply (started m κ)
  isplitl [Hcs Hla]
  · unfold recs
    isplitl [Hcs] <;> iassumption
  iapply (deal m)
  isplitl [Hout]; · iexact Hout
  isplitl [Hin]; · iexact Hin
  isplitl [Htok]; · iexact Htok
  isplitl [Hat]; · iexact Hat
  iexact Hcr

end Cert.WeightsIdeal.Exchange

end
-- ==== Proof.WeightsLaunch.lean ====
/- The run of the whole program: launched on all devices at once, each device's body run (`body_obligation`), and the
   final memory read. -/
module

public import proofs.«01_k».proof.Proof.WeightsStart
public import Idealize.ShloMosaic.Adequacy
public import Idealize.ShloMosaic.Init

@[expose] public section

noncomputable section

namespace Cert.WeightsIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose owing owing_of_ne)
open Cert.WeightsIdeal Facts₀ Facts

variable {F : FTy → Type} [FloatOps F]

local notation "𝕄" => MT nD τ sig Unit (Elt F) ℕ UU ℕ

variable (m : (ℓ : Loc nD τ sig) → Buf (Elt F) ℓ) (ρ : Dev nD → PrngReg)

/-! ## The scoped storage -/

/-- The kernel's own semaphores. -/
abbrev osem (j : J) : SemLoc sig := .dma (semJ j)
theorem ownSemFacts : Pipeline.OwnSemFacts cfg0.spec osem := by decide

/-- The semaphores of no use here. -/
def idle (c : Dev nD) : sProp 𝕄 := Pipeline.idleSems0 cfgs Gen.cellOf_inj (0 : Fin 1) ownSemFacts c

omit [FloatOps F] in
theorem no_windows (Ψ : Fin cfg0.W → sProp 𝕄) : bigSep Finset.univ Ψ = BI.emp := by
  rw [show (Finset.univ : Finset (Fin cfg0.W)) = ∅ from Finset.univ_eq_empty (α := Fin 0), BI.bigSep_empty]

omit [FloatOps F] in
theorem scoped_sems (c : Dev nD) : (scopedSems0 (c : Thread nD τ) : sProp 𝕄) = iprop((emp ∗ zeros c) ∗ idle c) :=
  (Pipeline.scopedSems0_split cfgs Gen.cellOf_inj (0 : Fin 1) Gen.winFacts0.to₀ ownSemFacts c).trans
    (congrArg (fun X => iprop((X ∗ zeros c) ∗ idle c)) (no_windows _))

omit [FloatOps F] in
theorem scoped_bufs (c : Dev nD) : (scopedBufs (c : Thread nD τ) : sProp 𝕄) = iprop(Dat.staging cfg0 c ∗ Pipeline.scopedRest cfg0.spec c) :=
  Pipeline.scopedBufs_split cfgs (0 : Fin 1) Gen.winFacts0.stage_scoped Gen.winFacts0.stage_inj Gen.stage_whole0 c

/-! ## One device's run of @main -/

/-- What a device holds before @main, and after it. -/
def pre (c : Dev nD) : sProp 𝕄 := iprop(scopedBufs (c : Thread nD τ) ∗ idle c ∗ owes (c : Thread nD τ) (O₀ c) ∅ ∗ Φ₀ m c)
def fin (c : Dev nD) : sProp 𝕄 := iprop(arraysEnd m c ∗ scopedSems0 (c : Thread nD τ))

theorem leave (c : Dev nD) : iprop((dats (F := F) m 0 c).Φ (Fin.last cfg0.N) ∗ Pipeline.cellsSems0 cfgs (0 : Fin 1) c ∗ Dat.staging cfg0 c ∗ idle c)
    ⊢ iprop(arraysEnd m c ∗ scopedSems0 (c : Thread nD τ) ∗ scopedBufs (c : Thread nD τ)) := by
  rw [scoped_sems, scoped_bufs, Gen.scopedRest0_eq]
  show iprop(Φ₁ m c ∗ _) ⊢ _
  unfold Φ₁
  iintro ⟨⟨Ha, Hz⟩, -, Hst, Hi⟩
  isplitl [Ha]; · iexact Ha
  isplitl [Hz Hi]
  · isplitl [Hz]
    · isplitr; · iempintro
      iexact Hz
    iexact Hi
  isplitl [Hst]; · iexact Hst
  iempintro

theorem enter (c : Dev nD) : iprop(Φ₀ m c ∗ Pipeline.prefHeld (Pipeline.Prefetch.none (sig := sig)) c (fun _ => fullShare) (fun k => k.elim0) ∗ Pipeline.scopedRest cfg0.spec c)
    ⊢ (dats (F := F) m 0 c).Φ 0 := by
  show _ ⊢ Φ₀ m c
  iintro ⟨H, -⟩
  iexact H

theorem device_run (c : Dev nD) :
    pre m c ⊢ wp frame (wpE (defs (F := F)) (Variants.lift 𝒱₀) (c : Thread nD τ) none) Set.univ (main (F := F) c) (fun _ => post (liftTc (fin m) BI.emp) (c : Thread nD τ)) := by
  have hentry := Pipeline.wp_customCall_entry_frame (pcfgs (F := F)) (fun p => (cfgs p).toPCfg_adm) (dats (F := F) m) () EP (fun _ => 0) Gen.cellOf_inj (0 : Fin 1) defs₀ 𝒱₀
      (fun _ => fullShare) c Set.univ (fun _ _ => Set.mem_univ _)
      (body_obligation m c) (fun w => w.elim0) none (fun u h => nomatch h) (X := Φ₀ m c) (Y := arraysEnd m c) (R := Pipeline.scopedRest cfg0.spec c) (I := idle c)
      (Entails.of_eq (scoped_bufs c)) (enter m c) (leave m c)
      (α := PUnit) (k := fun _ => .ret ⟨⟩) (Q := fun _ => post (liftTc (fin m) BI.emp) (c : Thread nD τ))
  have hpre : pre m c ⊢ iprop(Pipeline.EntryPre (Pipeline.pin (pcfgs (F := F)) (fun p => (cfgs p).toPCfg_adm)) (dats (F := F) m) () EP (fun _ => 0) (0 : Fin 1) c
      ∗ Pipeline.prefHeld (Pipeline.Prefetch.none (sig := sig)) c (fun _ => fullShare) (fun k => k.elim0) ∗ Φ₀ m c ∗ idle c ∗ scopedBufs (c : Thread nD τ)) := by
    have hA : Pipeline.EntryPre (Pipeline.pin (pcfgs (F := F)) (fun p => (cfgs p).toPCfg_adm)) (dats (F := F) m) () EP (fun _ => 0) (0 : Fin 1) c
        = iprop(emp ∗ (dats (F := F) m 0 c).owesAt () 0 ∗ emp ∗ emp ∗ emp) :=
      congrArg₂ (fun X Y => iprop(X ∗ (dats (F := F) m 0 c).owesAt () 0 ∗ Y)) (no_windows _)
        (congrArg₂ (fun X Y => iprop(X ∗ Y)) (no_windows _) (congrArg₂ (fun X Y => iprop(X ∗ Y)) (no_windows _) (no_windows _)))
    have hP : (Pipeline.prefHeld (Pipeline.Prefetch.none (sig := sig)) c (fun _ => fullShare) (fun k => k.elim0) : sProp 𝕄) = BI.emp := by
      unfold Pipeline.prefHeld
      rw [show (Finset.univ : Finset (Fin (Pipeline.Prefetch.none (sig := sig)).K)) = ∅ from Finset.univ_eq_empty (α := Fin 0), BI.bigSep_empty]
    have hO : owes (c : Thread nD τ) (O₀ c) ∅ ⊢ (dats (F := F) m 0 c).owesAt () 0 := by
      unfold Dat.owesAt Pipeline.owesWithin
      iintro HO
      iexists ∅
      isplitr; · ipureintro; rw [Finset.coe_empty]; exact Set.empty_subset _
      iexact HO
    rw [hA, hP]
    unfold pre
    iintro ⟨Hsc, Hi, HO, H0⟩
    isplitl [HO]
    · isplitr; · iempintro
      isplitl [HO]; · iapply hO; iexact HO
      isplitr; · iempintro
      isplitr <;> iempintro
    isplitr; · iempintro
    isplitl [H0]; · iexact H0
    isplitl [Hi] <;> iassumption
  have hret : iprop(Pipeline.EntryPost (Pipeline.pin (pcfgs (F := F)) (fun p => (cfgs p).toPCfg_adm)) (dats (F := F) m) () (0 : Fin 1) c
      ∗ arraysEnd m c ∗ scopedSems0 (c : Thread nD τ) ∗ scopedBufs (c : Thread nD τ)) ⊢ post (liftTc (fin m) BI.emp) (c : Thread nD τ) := by
    have hO : (dats (F := F) m 0 c).owesAt () (Fin.last cfg0.N) ⊢ owesNone c := by
      unfold Dat.owesAt Pipeline.owesWithin owesNone
      iintro ⟨%W, -, HO⟩
      iexists W
      iexact HO
    unfold owesNone at hO
    unfold Pipeline.EntryPost Pipeline.PerCore.EntryPost post
    rw [liftTc_tc]
    unfold fin
    iintro ⟨⟨-, HO⟩, Ha, Hs, -⟩
    isplitr [HO]
    · isplitl [Ha] <;> iassumption
    · iapply hO; iexact HO
  have hmain : main (F := F) c = .op (.customCall (Pipeline.entry 0) ()) fun _ => .ret ⟨⟩ := rfl
  rw [hmain]
  have hcut (A B C : sProp 𝕄) (h : B ⊢ C) (D : sProp 𝕄) (hD : A ⊢ iprop((B -∗ C) -∗ D)) : A ⊢ D := by
    iintro H
    iapply hD $$ H
    iintro HB
    iapply h
    iexact HB
  refine hcut _ _ _ ?_ _ (hpre.trans hentry)
  rw [wp_ret]
  exact hret.trans fupd_intro

/-! ## The launch -/

/-- The ghost state at the launch. -/
def u₀ : UU := (Rounds.initOf ∅ ∅, launchOf allCells ∅ allToks)

/-- What one device's launch resources are made of. -/
theorem device_start (c : Dev nD) :
    coreInit (Ix := Unit) (Name := ℕ) (U := UU) (Lvl := ℕ) (owing O₀) 0 (⟨m, fun _ => 0, ρ⟩ : MemSt nD τ sig (Elt F)) (c : Thread nD τ)
      ⊢ iprop((scopedBufs (c : Thread nD τ) ∗ idle c ∗ owes (c : Thread nD τ) (O₀ c) ∅)
        ∗ unscopedBufs c (fun b => m ((c : Thread nD τ).loc b)) ∗ zeros c ∗ levelsNone (F := F) c ∗ Pipeline.launchCred O₀ c) := by
  have h := Pipeline.coreInit_boundary_owing (Ix := Unit) (Name := ℕ) (U := UU) (Lvl := ℕ) O₀ m ρ c
  unfold boundary at h
  rw [scoped_sems] at h
  iintro H
  ihave ⟨⟨Hsc, ⟨⟨-, Hz⟩, Hi⟩, -⟩, Hub, -, HO, Hlv, -, Hcr⟩ := h $$ H
  isplitl [Hsc Hi HO]
  · isplitl [Hsc]; · iexact Hsc
    isplitl [Hi] <;> iassumption
  isplitl [Hub]; · iexact Hub
  isplitl [Hz]; · iexact Hz
  isplitl [Hlv] <;> iassumption

theorem launch_start :
    iprop((bigSep Finset.univ fun c : Dev nD =>
        coreInit (Ix := Unit) (Name := ℕ) (U := UU) (Lvl := ℕ) (owing O₀) 0 (⟨m, fun _ => 0, ρ⟩ : MemSt nD τ sig (Elt F)) (c : Thread nD τ)) ∗ ownU u₀)
      ⊢ |={Set.univ}=> iprop(∃ _ : Unit, (bigSep Finset.univ fun c : Dev nD => pre m c) ∗ emp) := by
  have h := bigSep_mono (s := Finset.univ) fun (c : Dev nD) _ => device_start m ρ c
  simp only [bigSep_sep'] at h
  unfold u₀ pre
  simp only [bigSep_sep']
  iintro ⟨Hc, Hu⟩
  ihave ⟨⟨Hsc, Hi, HO⟩, Hrest⟩ := (show _ ⊢ iprop((_ ∗ _ ∗ _) ∗ _ ∗ _ ∗ _ ∗ _) from h) $$ Hc
  ihave ⟨-, Hu⟩ := (ownU_pair _ _) $$ Hu
  icases Hrest with ⟨Hub, Hz, Hlv, Hcr⟩
  imod (ready m) $$ [Hub Hz Hlv Hcr Hu] with H0
  · isplitl [Hub]; · iexact Hub
    isplitl [Hz]; · iexact Hz
    isplitl [Hlv]; · iexact Hlv
    isplitl [Hcr] <;> iassumption
  imodintro
  iexists ()
  isplitl; swap; · iempintro
  isplitl [Hsc]; · iexact Hsc
  isplitl [Hi]; · iexact Hi
  isplitl [HO] <;> iassumption

/-- What the arrays of device `c` hold at the end. -/
def ArraysEnd (c : Dev nD) (M : MemSt nD τ sig (Elt F)) : Prop :=
  ∀ w : Fin 10, M.mem ((c : Thread nD τ).loc (argB w)) = m ((c : Thread nD τ).loc (argB w)) ∧ M.mem ((outM w).view.loc (c : Thread nD τ)) = made m w c

theorem arrays_read (c : Dev nD) (s' : Phys nD τ sig (Elt F)) : iprop(arraysEnd m c ∗ SI s') ⊢ (iprop(⌜ArraysEnd m c s'.mem⌝ ∗ SI s') : sProp 𝕄) := by
  unfold arraysEnd
  rw [bigSep_sep']
  unfold outP argP
  iintro ⟨⟨Hi, Ho⟩, HSI⟩
  ihave ⟨%hi, HSI⟩ := (pointsTo_read_all Finset.univ (fun w : Fin 10 => (c : Thread nD τ).loc (argB w))
    (fun w => m ((c : Thread nD τ).loc (argB w))) s' fullShare) $$ [Hi HSI]
  · isplitl [Hi] <;> iassumption
  ihave ⟨%ho, HSI⟩ := (pointsTo_read_all Finset.univ (fun w : Fin 10 => (outM w).view.loc (c : Thread nD τ))
    (fun w => made m w c) s' fullShare) $$ [Ho HSI]
  · isplitl [Ho] <;> iassumption
  isplitr
  · ipureintro
    exact fun w => ⟨hi w (Finset.mem_univ w), ho w (Finset.mem_univ w)⟩
  · iexact HSI

/-- A device's end, read. -/
def Ended (c : Dev nD) (M : MemSt nD τ sig (Elt F)) : Prop :=
  ArraysEnd m c M ∧ ∀ sm : SemLoc sig, sm.isScoped .tc = true → M.sem ((c : Thread nD τ), sm) = 0

theorem fin_read (c : Dev nD) (s' : Phys nD τ sig (Elt F)) : iprop(fin m c ∗ SI s') ⊢ (|={Set.univ}=> iprop(⌜Ended m c s'.mem⌝ ∗ SI s') : sProp 𝕄) := by
  unfold fin
  iintro ⟨⟨Ha, Hs⟩, HSI⟩
  ihave %hz := (tcScoped_read_pers c s') $$ [Hs HSI]
  · isplitl [Hs] <;> iassumption
  ihave ⟨%ha, HSI⟩ := (arrays_read m c s') $$ [Ha HSI]
  · isplitl [Ha] <;> iassumption
  imodintro
  isplitr
  · ipureintro; exact ⟨ha, hz⟩
  · iexact HSI

theorem launch_end :
    iprop((bigSep Finset.univ fun c : Dev nD => fin m c) ∗ emp ∗ scSems (⟨m, fun _ => 0, ρ⟩ : MemSt nD τ sig (Elt F)))
      ⊢ (iprop(∀ s', SI s' -∗ |={Set.univ, Set.univ}=> ⌜(∀ c : Dev nD, Ended m c s'.mem) ∧ ∀ g' : GSem nD τ sig, g'.1.2 ≠ .tc → s'.mem.sem g' = 0⌝) : sProp 𝕄) := by
  iintro ⟨H, -, Hsc⟩ %s' HSI
  ihave %hsc := (scSems_read_zero m ρ s') $$ [Hsc HSI]
  · isplitl [Hsc] <;> iassumption
  imod (posts_fupd Finset.univ (fin_read m) s') $$ [H HSI] with %h
  · isplitl [H] <;> iassumption
  imodintro
  ipureintro
  exact ⟨fun c => h c (Finset.mem_univ c), hsc⟩

theorem all_scoped : ∀ sm : SemLoc sig, sm.isScoped .tc = true := by decide

/-- From any memory with zero counters, every weakly fair execution of @main on the eight devices ends, and every final
    state has each device's inputs unchanged, its outputs made and every semaphore at zero. -/
theorem run_main : θ_run (defs (F := F)) (onTc (τ := τ) (main (F := F))) (⟨m, fun _ => 0, ρ⟩ : MemSt nD τ sig (Elt F))
    (fun r => (∀ c : Dev nD, ArraysEnd m c r.2) ∧ r.2.sem = fun _ => 0) :=
  (θ_run (defs (F := F)) _ _).mono
    (Q := fun r => (∀ c : Dev nD, Ended m c r.2) ∧ ∀ g' : GSem nD τ sig, g'.1.2 ≠ .tc → r.2.sem g' = 0)
    (fun r hr => ⟨fun c => (hr.1 c).1, sem_eq_zero_of_scoped all_scoped (sems_of_reads (fun c => (hr.1 c).2) hr.2)⟩)
    (adequate_tpu (defs (F := F)) _ _ _
      (reflect_intro_fupd_tc_sems (X := Unit) (Variants.lift 𝒱₀) (owing O₀) 0 (noBookings fun _ => le_rfl) (owing_of_ne O₀) u₀ (fun _ => pre m) (fun _ => fin m)
        (fun _ => iprop(emp)) Set.univ (launch_start m ρ) (fun _ c => device_run m c) fun _ => launch_end m ρ))

end Cert.WeightsIdeal.Exchange

end
-- ==== Proof.WeightsValues.lean ====
/- The gathered blocks as whole arrays.

   Each array is cut into eight blocks, along its rows or along its columns, block `s` on device `s`; every device ends with
   all eight, stacked.  For a cut along the rows the stack is the array read as eight slabs (`slab_rows`); for a cut along the
   columns, it is the array with each row read as eight pieces, and the pieces' axis moved to the front (`slab_cols`). -/
module

public import proofs.«01_k».proof.Proof.WeightsLaunch
public import Idealize.ShloMosaic.Lib.Layout
public import Idealize.ShloMosaic.Lib.Pipeline.Value

@[expose] public section

noncomputable section

namespace Cert.WeightsIdeal.Exchange

open Idealize.ShloMosaic Idealize.ShloMosaic.TcCoe Idealize.ShloMosaic.ValueIdx
open Idealize.SL Idealize.SL.Sem
open Cert.WeightsIdeal Facts₀ Facts

/-! ## Whole arrays -/

/-- An array with each row read as eight pieces. -/
abbrev Pieces (r c : ℕ) : Shape := ⟨3, ![r, 8, c]⟩

/-- The block of device `s`, of an array cut along its rows, is slab `s` of the array read as eight slabs. -/
theorem slab_rows {α : Type} {R r c : ℕ} (W : (Sq R c).Idx → α) (h : (Sq R c).ShapeCasts (St8 r c))
    (b : Layout.Tiles (Sq r c) (Sq R c) 0 8) (j : (St8 r c).Idx) :
    Layout.block (Sq r c) (Sq R c) 0 8 (j 0) W b (ix2 (j 1) (j 2)) = shapeCast (St8 r c) W h j := by
  refine (shapeCast_apply _ h _ _ ?_).symm
  rw [Shape.rowMajor_val_two, Shape.rowMajor_val_three]
  rfl

/-- An array cut along its columns, as a stack of its blocks. -/
abbrev pieces {α : Type} {C r c : ℕ} (W : (Sq r C).Idx → α) (h : (Sq r C).ShapeCasts (Pieces r c))
    (ht : (Pieces r c).Transposes [1, 0, 2] (St8 r c)) : (St8 r c).Idx → α :=
  transpose (St8 r c) [1, 0, 2] (shapeCast (Pieces r c) W h) ht

/-- The block of device `s`, of an array cut along its columns, is the stack of every row's piece `s`. -/
theorem slab_cols {α : Type} {C r c : ℕ} (hC : C = 8 * c) (W : (Sq r C).Idx → α) (h : (Sq r C).ShapeCasts (Pieces r c))
    (ht : (Pieces r c).Transposes [1, 0, 2] (St8 r c)) (b : Layout.Tiles (Sq r c) (Sq r C) 1 8) (j : (St8 r c).Idx) :
    Layout.block (Sq r c) (Sq r C) 1 8 (j 0) W b (ix2 (j 1) (j 2)) = pieces W h ht j := by
  refine Eq.symm ((transpose_apply _ _ ht _ (ix3 (j 1) (j 0) (j 2)) ?_).trans (shapeCast_apply _ h _ _ ?_))
  · intro a
    match a with
    | ⟨0, _⟩ => rfl
    | ⟨1, _⟩ => rfl
    | ⟨2, _⟩ => rfl
  rw [Shape.rowMajor_val_two, Shape.rowMajor_val_three]
  show (j 1).val * C + ((j 0).val * c + (j 2).val) = ((j 1).val * 8 + (j 0).val) * c + (j 2).val
  rw [hC, Nat.add_mul, Nat.mul_assoc, Nat.add_assoc]

variable {F : FTy → Type} [FloatOps F]
variable (m : (ℓ : Loc nD τ sig) → Buf (Elt F) ℓ) (ρ : Dev nD → PrngReg)

/-! ## The outputs -/

theorem made_stacked0 (c : Dev nD) : made m 0 c = stacked m 0 c := funext fun j => made_emb m 0 c j
theorem made_stacked1 (c : Dev nD) : made m 1 c = stacked m 1 c := funext fun j => made_emb m 1 c j
theorem made_stacked2 (c : Dev nD) : made m 2 c = stacked m 2 c := funext fun j => made_emb m 2 c j
theorem made_stacked3 (c : Dev nD) : made m 3 c = stacked m 3 c := funext fun j => made_emb m 3 c j
theorem made_stacked4 (c : Dev nD) : made m 4 c = stacked m 4 c := funext fun j => made_emb m 4 c j
theorem made_stacked5 (c : Dev nD) : made m 5 c = stacked m 5 c := funext fun j => made_emb m 5 c j
theorem made_stacked6 (c : Dev nD) : made m 6 c = stacked m 6 c := funext fun j => made_emb m 6 c j
theorem made_stacked7 (c : Dev nD) : made m 7 c = stacked m 7 c := funext fun j => made_emb m 7 c j
theorem made_stacked8 (c : Dev nD) : made m 8 c = stacked m 8 c := funext fun j => made_emb m 8 c j
theorem made_stacked9 (c : Dev nD) : made m 9 c = stacked m 9 c := funext fun j => made_emb m 9 c j

theorem made_whole0 (W : (Sq 1024 2816).Idx → Elt F .bf16)
    (h : ∀ s : Dev nD, m ((s.tc : Thread nD τ).loc main_arg0) = Layout.block (Sq 1024 352) (Sq 1024 2816) 1 8 s W (by decide))
    (h₁ : (Sq 1024 2816).ShapeCasts (Pieces 1024 352)) (ht : (Pieces 1024 352).Transposes [1, 0, 2] (St8 1024 352)) (c : Dev nD) :
    made m 0 c = pieces W h₁ ht := by
  rw [made_stacked0]
  funext j
  exact (congrFun (h (j 0)) (ix2 (j 1) (j 2))).trans (slab_cols rfl W h₁ ht _ j)

theorem made_whole1 (W : (Sq 1024 2816).Idx → Elt F .bf16)
    (h : ∀ s : Dev nD, m ((s.tc : Thread nD τ).loc main_arg1) = Layout.block (Sq 1024 352) (Sq 1024 2816) 1 8 s W (by decide))
    (h₁ : (Sq 1024 2816).ShapeCasts (Pieces 1024 352)) (ht : (Pieces 1024 352).Transposes [1, 0, 2] (St8 1024 352)) (c : Dev nD) :
    made m 1 c = pieces W h₁ ht := by
  rw [made_stacked1]
  funext j
  exact (congrFun (h (j 0)) (ix2 (j 1) (j 2))).trans (slab_cols rfl W h₁ ht _ j)

theorem made_whole2 (W : (Sq 2816 1024).Idx → Elt F .bf16)
    (h : ∀ s : Dev nD, m ((s.tc : Thread nD τ).loc main_arg2) = Layout.block (Sq 352 1024) (Sq 2816 1024) 0 8 s W (by decide))
    (h₁ : (Sq 2816 1024).ShapeCasts (St8 352 1024)) (c : Dev nD) :
    made m 2 c = shapeCast (St8 352 1024) W h₁ := by
  rw [made_stacked2]
  funext j
  exact (congrFun (h (j 0)) (ix2 (j 1) (j 2))).trans (slab_rows W h₁ _ j)

theorem made_whole3 (W : (Sq 1024 1536).Idx → Elt F .bf16)
    (h : ∀ s : Dev nD, m ((s.tc : Thread nD τ).loc main_arg3) = Layout.block (Sq 1024 192) (Sq 1024 1536) 1 8 s W (by decide))
    (h₁ : (Sq 1024 1536).ShapeCasts (Pieces 1024 192)) (ht : (Pieces 1024 192).Transposes [1, 0, 2] (St8 1024 192)) (c : Dev nD) :
    made m 3 c = pieces W h₁ ht := by
  rw [made_stacked3]
  funext j
  exact (congrFun (h (j 0)) (ix2 (j 1) (j 2))).trans (slab_cols rfl W h₁ ht _ j)

theorem made_whole4 (W : (Sq 1024 512).Idx → Elt F .bf16)
    (h : ∀ s : Dev nD, m ((s.tc : Thread nD τ).loc main_arg4) = Layout.block (Sq 128 512) (Sq 1024 512) 0 8 s W (by decide))
    (h₁ : (Sq 1024 512).ShapeCasts (St8 128 512)) (c : Dev nD) :
    made m 4 c = shapeCast (St8 128 512) W h₁ := by
  rw [made_stacked4]
  funext j
  exact (congrFun (h (j 0)) (ix2 (j 1) (j 2))).trans (slab_rows W h₁ _ j)

theorem made_whole5 (W : (Sq 1024 1024).Idx → Elt F .bf16)
    (h : ∀ s : Dev nD, m ((s.tc : Thread nD τ).loc main_arg5) = Layout.block (Sq 128 1024) (Sq 1024 1024) 0 8 s W (by decide))
    (h₁ : (Sq 1024 1024).ShapeCasts (St8 128 1024)) (c : Dev nD) :
    made m 5 c = shapeCast (St8 128 1024) W h₁ := by
  rw [made_stacked5]
  funext j
  exact (congrFun (h (j 0)) (ix2 (j 1) (j 2))).trans (slab_rows W h₁ _ j)

theorem made_whole6 (W : (Sq 1024 2816).Idx → Elt F .bf16)
    (h : ∀ s : Dev nD, m ((s.tc : Thread nD τ).loc main_arg6) = Layout.block (Sq 1024 352) (Sq 1024 2816) 1 8 s W (by decide))
    (h₁ : (Sq 1024 2816).ShapeCasts (Pieces 1024 352)) (ht : (Pieces 1024 352).Transposes [1, 0, 2] (St8 1024 352)) (c : Dev nD) :
    made m 6 c = pieces W h₁ ht := by
  rw [made_stacked6]
  funext j
  exact (congrFun (h (j 0)) (ix2 (j 1) (j 2))).trans (slab_cols rfl W h₁ ht _ j)

theorem made_whole7 (W : (Sq 1024 2816).Idx → Elt F .bf16)
    (h : ∀ s : Dev nD, m ((s.tc : Thread nD τ).loc main_arg7) = Layout.block (Sq 1024 352) (Sq 1024 2816) 1 8 s W (by decide))
    (h₁ : (Sq 1024 2816).ShapeCasts (Pieces 1024 352)) (ht : (Pieces 1024 352).Transposes [1, 0, 2] (St8 1024 352)) (c : Dev nD) :
    made m 7 c = pieces W h₁ ht := by
  rw [made_stacked7]
  funext j
  exact (congrFun (h (j 0)) (ix2 (j 1) (j 2))).trans (slab_cols rfl W h₁ ht _ j)

theorem made_whole8 (W : (Sq 2816 1024).Idx → Elt F .bf16)
    (h : ∀ s : Dev nD, m ((s.tc : Thread nD τ).loc main_arg8) = Layout.block (Sq 352 1024) (Sq 2816 1024) 0 8 s W (by decide))
    (h₁ : (Sq 2816 1024).ShapeCasts (St8 352 1024)) (c : Dev nD) :
    made m 8 c = shapeCast (St8 352 1024) W h₁ := by
  rw [made_stacked8]
  funext j
  exact (congrFun (h (j 0)) (ix2 (j 1) (j 2))).trans (slab_rows W h₁ _ j)

theorem made_whole9 (W : (Sq 31 256).Idx → Elt F .f32)
    (h : ∀ s : Dev nD, m ((s.tc : Thread nD τ).loc main_arg9) = Layout.block (Sq 31 32) (Sq 31 256) 1 8 s W (by decide))
    (h₁ : (Sq 31 256).ShapeCasts (Pieces 31 32)) (ht : (Pieces 31 32).Transposes [1, 0, 2] (St8 31 32)) (c : Dev nD) :
    made m 9 c = pieces W h₁ ht := by
  rw [made_stacked9]
  funext j
  exact (congrFun (h (j 0)) (ix2 (j 1) (j 2))).trans (slab_cols rfl W h₁ ht _ j)

/-! ## The run -/

/-- The arguments end unchanged and the counters at zero. -/
theorem run_frame : θ_run (defs (F := F)) (onTc (τ := τ) (main (F := F))) (⟨m, fun _ => 0, ρ⟩ : MemSt nD τ sig (Elt F))
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run (defs (F := F)) _ _).mono (fun _ h => ⟨fun c => ⟨(h.1 c 0).1, (h.1 c 1).1, (h.1 c 2).1, (h.1 c 3).1, (h.1 c 4).1, (h.1 c 5).1, (h.1 c 6).1, (h.1 c 7).1, (h.1 c 8).1, (h.1 c 9).1⟩, h.2⟩) (run_main m ρ)

/-- From blocks of ten whole arrays, every device ends with all eight blocks of each, stacked. -/
theorem run_blocks (W0 : (Sq 1024 2816).Idx → Elt F .bf16) (W1 : (Sq 1024 2816).Idx → Elt F .bf16) (W2 : (Sq 2816 1024).Idx → Elt F .bf16) (W3 : (Sq 1024 1536).Idx → Elt F .bf16) (W4 : (Sq 1024 512).Idx → Elt F .bf16) (W5 : (Sq 1024 1024).Idx → Elt F .bf16) (W6 : (Sq 1024 2816).Idx → Elt F .bf16) (W7 : (Sq 1024 2816).Idx → Elt F .bf16) (W8 : (Sq 2816 1024).Idx → Elt F .bf16) (W9 : (Sq 31 256).Idx → Elt F .f32)
    (h : ∀ c : Dev nD, m ((c.tc : Thread nD τ).loc main_arg0) = Layout.block (Sq 1024 352) (Sq 1024 2816) 1 8 c W0 (by decide)
      ∧ m ((c.tc : Thread nD τ).loc main_arg1) = Layout.block (Sq 1024 352) (Sq 1024 2816) 1 8 c W1 (by decide)
      ∧ m ((c.tc : Thread nD τ).loc main_arg2) = Layout.block (Sq 352 1024) (Sq 2816 1024) 0 8 c W2 (by decide)
      ∧ m ((c.tc : Thread nD τ).loc main_arg3) = Layout.block (Sq 1024 192) (Sq 1024 1536) 1 8 c W3 (by decide)
      ∧ m ((c.tc : Thread nD τ).loc main_arg4) = Layout.block (Sq 128 512) (Sq 1024 512) 0 8 c W4 (by decide)
      ∧ m ((c.tc : Thread nD τ).loc main_arg5) = Layout.block (Sq 128 1024) (Sq 1024 1024) 0 8 c W5 (by decide)
      ∧ m ((c.tc : Thread nD τ).loc main_arg6) = Layout.block (Sq 1024 352) (Sq 1024 2816) 1 8 c W6 (by decide)
      ∧ m ((c.tc : Thread nD τ).loc main_arg7) = Layout.block (Sq 1024 352) (Sq 1024 2816) 1 8 c W7 (by decide)
      ∧ m ((c.tc : Thread nD τ).loc main_arg8) = Layout.block (Sq 352 1024) (Sq 2816 1024) 0 8 c W8 (by decide)
      ∧ m ((c.tc : Thread nD τ).loc main_arg9) = Layout.block (Sq 31 32) (Sq 31 256) 1 8 c W9 (by decide))
    (a0 : (Sq 1024 2816).ShapeCasts (Pieces 1024 352)) (t0 : (Pieces 1024 352).Transposes [1, 0, 2] (St8 1024 352))
    (a1 : (Sq 2816 1024).ShapeCasts (St8 352 1024))
    (a2 : (Sq 1024 1536).ShapeCasts (Pieces 1024 192)) (t2 : (Pieces 1024 192).Transposes [1, 0, 2] (St8 1024 192))
    (a3 : (Sq 1024 512).ShapeCasts (St8 128 512))
    (a4 : (Sq 1024 1024).ShapeCasts (St8 128 1024))
    (a5 : (Sq 31 256).ShapeCasts (Pieces 31 32)) (t5 : (Pieces 31 32).Transposes [1, 0, 2] (St8 31 32)) :
    θ_run (defs (F := F)) (onTc (τ := τ) (main (F := F))) (⟨m, fun _ => 0, ρ⟩ : MemSt nD τ sig (Elt F))
      (fun r => ∀ c : Dev nD, r.2.mem ((c.tc : Thread nD τ).loc main_v1_0) = pieces W0 a0 t0
        ∧ r.2.mem ((c.tc : Thread nD τ).loc main_v1_1) = pieces W1 a0 t0
        ∧ r.2.mem ((c.tc : Thread nD τ).loc main_v1_2) = shapeCast (St8 352 1024) W2 a1
        ∧ r.2.mem ((c.tc : Thread nD τ).loc main_v1_3) = pieces W3 a2 t2
        ∧ r.2.mem ((c.tc : Thread nD τ).loc main_v1_4) = shapeCast (St8 128 512) W4 a3
        ∧ r.2.mem ((c.tc : Thread nD τ).loc main_v1_5) = shapeCast (St8 128 1024) W5 a4
        ∧ r.2.mem ((c.tc : Thread nD τ).loc main_v1_6) = pieces W6 a0 t0
        ∧ r.2.mem ((c.tc : Thread nD τ).loc main_v1_7) = pieces W7 a0 t0
        ∧ r.2.mem ((c.tc : Thread nD τ).loc main_v1_8) = shapeCast (St8 352 1024) W8 a1
        ∧ r.2.mem ((c.tc : Thread nD τ).loc main_v1_9) = pieces W9 a5 t5
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)) :=
  (θ_run (defs (F := F)) _ _).mono (fun _ r c =>
    ⟨(r.1 c 0).2.trans (made_whole0 m W0 (fun s => (h s).1) a0 t0 c),
      (r.1 c 1).2.trans (made_whole1 m W1 (fun s => (h s).2.1) a0 t0 c),
      (r.1 c 2).2.trans (made_whole2 m W2 (fun s => (h s).2.2.1) a1 c),
      (r.1 c 3).2.trans (made_whole3 m W3 (fun s => (h s).2.2.2.1) a2 t2 c),
      (r.1 c 4).2.trans (made_whole4 m W4 (fun s => (h s).2.2.2.2.1) a3 c),
      (r.1 c 5).2.trans (made_whole5 m W5 (fun s => (h s).2.2.2.2.2.1) a4 c),
      (r.1 c 6).2.trans (made_whole6 m W6 (fun s => (h s).2.2.2.2.2.2.1) a0 t0 c),
      (r.1 c 7).2.trans (made_whole7 m W7 (fun s => (h s).2.2.2.2.2.2.2.1) a0 t0 c),
      (r.1 c 8).2.trans (made_whole8 m W8 (fun s => (h s).2.2.2.2.2.2.2.2.1) a1 c),
      (r.1 c 9).2.trans (made_whole9 m W9 (fun s => (h s).2.2.2.2.2.2.2.2.2) a5 t5 c),
      (r.1 c 0).1, (r.1 c 1).1, (r.1 c 2).1, (r.1 c 3).1, (r.1 c 4).1, (r.1 c 5).1, (r.1 c 6).1, (r.1 c 7).1, (r.1 c 8).1, (r.1 c 9).1⟩) (run_main m ρ)

end Cert.WeightsIdeal.Exchange

end
-- ==== Proof.lean ====
/- The claims about the two-level all-gather, the gather of all weights, the exchange of the gradient blocks, the updates, and
   the one-device calls of the projections and of the feed-forward weights' gradients.

   The run of each exchange is proved once over any float values (`Proof/Launch.lean`, `Proof/Values.lean`;
   `Proof/WeightsLaunch.lean`, `Proof/WeightsValues.lean`; `Proof/ScatterLaunch.lean`, `Proof/ScatterValues.lean`): its frame
   at the bits and at the extended reals, and with it the value claims against the rearranged whole arrays. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Gen.Update.Frame
public import proofs.«01_k».proof.Proof.Gen.UpdateIdeal.Value
public import proofs.«01_k».proof.Proof.Gen.UpdateReferenceIdeal.Run
public import proofs.«01_k».proof.Proof.Gen.Scatter
public import proofs.«01_k».proof.Proof.Gen.ScatterIdeal
public import proofs.«01_k».proof.Proof.Gen.ScatterIdeal.Skeleton
public import proofs.«01_k».proof.Proof.Gen.ScatterIdeal.Launch
public import proofs.«01_k».proof.Proof.Gen.ScatterIdeal.Points
public import proofs.«01_k».proof.Proof.Gen.ScatterReference
public import proofs.«01_k».proof.Proof.Gen.ScatterReference.Run
public import proofs.«01_k».proof.Proof.Gen.ScatterReferenceIdeal
public import proofs.«01_k».proof.Proof.Gen.ScatterReferenceIdeal.Run
public import proofs.«01_k».proof.Proof.Gen.Weights
public import proofs.«01_k».proof.Proof.Gen.WeightsIdeal
public import proofs.«01_k».proof.Proof.Gen.WeightsIdeal.Skeleton
public import proofs.«01_k».proof.Proof.Gen.WeightsIdeal.Launch
public import proofs.«01_k».proof.Proof.Gen.WeightsIdeal.Points
public import proofs.«01_k».proof.Proof.Gen.WeightsReference
public import proofs.«01_k».proof.Proof.Gen.WeightsReference.Run
public import proofs.«01_k».proof.Proof.Gen.WeightsReferenceIdeal
public import proofs.«01_k».proof.Proof.Gen.WeightsReferenceIdeal.Run
public import proofs.«01_k».proof.Proof.Gen.UpdateIn.Frame
public import proofs.«01_k».proof.Proof.Gen.UpdateInIdeal.Value
public import proofs.«01_k».proof.Proof.Gen.UpdateInReferenceIdeal.Run
public import proofs.«01_k».proof.Proof.Gen.UpdateKv.Frame
public import proofs.«01_k».proof.Proof.Gen.UpdateKvIdeal.Value
public import proofs.«01_k».proof.Proof.Gen.UpdateKvReferenceIdeal.Run
public import proofs.«01_k».proof.Proof.Gen.UpdateOut.Frame
public import proofs.«01_k».proof.Proof.Gen.UpdateOutIdeal.Value
public import proofs.«01_k».proof.Proof.Gen.UpdateOutReferenceIdeal.Run
public import proofs.«01_k».proof.Proof.Gen.SmallSum.Frame
public import proofs.«01_k».proof.Proof.Gen.SmallSumIdeal.Value
public import proofs.«01_k».proof.Proof.Gen.SmallSumReferenceIdeal.Run
public import proofs.«01_k».proof.Proof.Gen.StepSmall.Frame
public import proofs.«01_k».proof.Proof.Gen.StepSmallIdeal.Value
public import proofs.«01_k».proof.Proof.Gen.StepSmallReferenceIdeal.Run
public import proofs.«01_k».proof.Proof.Gen.StepDw.Frame
public import proofs.«01_k».proof.Proof.Gen.StepDwIdeal.Value
public import proofs.«01_k».proof.Proof.Gen.StepDwReferenceIdeal.Run
public import proofs.«01_k».proof.Proof.Gen.FfnW.Frame
public import proofs.«01_k».proof.Proof.Gen.FfnWIdeal.Value
public import proofs.«01_k».proof.Proof.Gen.FfnWReferenceIdeal.Run
public import proofs.«01_k».proof.Proof.Gen.InProj.Frame
public import proofs.«01_k».proof.Proof.Gen.InProjIdeal.Value
public import proofs.«01_k».proof.Proof.Gen.InProjReferenceIdeal.Run
public import proofs.«01_k».proof.Proof.Gen.OutProj.Frame
public import proofs.«01_k».proof.Proof.Gen.OutProjIdeal.Value
public import proofs.«01_k».proof.Proof.Gen.OutProjReferenceIdeal.Run
public import proofs.«01_k».proof.Proof.Gen.OutBwd.Frame
public import proofs.«01_k».proof.Proof.Gen.OutBwdIdeal.Value
public import proofs.«01_k».proof.Proof.Gen.OutBwdReferenceIdeal.Run
public import proofs.«01_k».proof.Proof.Gen.MemKv.Frame
public import proofs.«01_k».proof.Proof.Gen.MemKvIdeal.Value
public import proofs.«01_k».proof.Proof.Gen.MemKvReferenceIdeal.Run
public import proofs.«01_k».proof.Proof.Gen.KvBwd.Frame
public import proofs.«01_k».proof.Proof.Gen.KvBwdIdeal.Value
public import proofs.«01_k».proof.Proof.Gen.KvBwdReferenceIdeal.Run
public import proofs.«01_k».proof.Proof.Gen.InBwd.Frame
public import proofs.«01_k».proof.Proof.Gen.ActBwd.Frame
public import proofs.«01_k».proof.Proof.Gen.ActBwdIdeal.Frame
public import proofs.«01_k».proof.Proof.Gen.ActBwdIdeal.Skeleton
public import proofs.«01_k».proof.Proof.Gen.ActBwdReferenceIdeal.Run
public import proofs.«01_k».proof.Proof.Gen.InBwdIdeal.Value
public import proofs.«01_k».proof.Proof.Gen.InBwdReferenceIdeal.Run
public import proofs.«01_k».proof.Proof.Update
public import proofs.«01_k».proof.Proof.UpdateIn
public import proofs.«01_k».proof.Proof.UpdateKv
public import proofs.«01_k».proof.Proof.UpdateOut
public import proofs.«01_k».proof.Proof.SmallSum
public import proofs.«01_k».proof.Proof.StepSmall
public import proofs.«01_k».proof.Proof.StepDw
public import proofs.«01_k».proof.Proof.FfnW
public import proofs.«01_k».proof.Proof.InProj
public import proofs.«01_k».proof.Proof.OutProj
public import proofs.«01_k».proof.Proof.OutBwd
public import proofs.«01_k».proof.Proof.MemKv
public import proofs.«01_k».proof.Proof.KvBwd
public import proofs.«01_k».proof.Proof.InBwd
public import proofs.«01_k».proof.Proof.ActBwd
public import proofs.«01_k».proof.Proof.Values
public import proofs.«01_k».proof.Proof.ScatterValues
public import proofs.«01_k».proof.Proof.WeightsValues
public import Idealize.ShloMosaic.Adequacy
public import Idealize.ShloMosaic.Init

@[expose] public section

noncomputable section

namespace Cert.Proof

open Idealize.ShloMosaic Idealize.SL.Sem Cert.Kernel

/-- The one-device program declares no semaphore. -/
theorem no_sem : ∀ sm : SemLoc Cert.ReferenceIdeal.sig, False := by decide

/-- The update's reference declares no semaphore either. -/
theorem no_update_sem : ∀ sm : SemLoc Cert.UpdateReferenceIdeal.sig, False := by decide

/-- Nor does the reference of the gradient blocks' exchange. -/
theorem no_scatter_sem : ∀ sm : SemLoc Cert.ScatterReferenceIdeal.sig, False := by decide

/-- Nor does the reference of the weights' gather. -/
theorem no_weights_sem : ∀ sm : SemLoc Cert.WeightsReferenceIdeal.sig, False := by decide

/-- Nor does the reference of `UpdateIn`. -/
theorem no_UpdateIn_sem : ∀ sm : SemLoc Cert.UpdateInReferenceIdeal.sig, False := by decide

/-- Nor does the reference of `UpdateKv`. -/
theorem no_UpdateKv_sem : ∀ sm : SemLoc Cert.UpdateKvReferenceIdeal.sig, False := by decide

/-- Nor does the reference of `UpdateOut`. -/
theorem no_UpdateOut_sem : ∀ sm : SemLoc Cert.UpdateOutReferenceIdeal.sig, False := by decide

/-- Nor does the reference of `SmallSum`. -/
theorem no_SmallSum_sem : ∀ sm : SemLoc Cert.SmallSumReferenceIdeal.sig, False := by decide

/-- Nor does the reference of `StepSmall`. -/
theorem no_StepSmall_sem : ∀ sm : SemLoc Cert.StepSmallReferenceIdeal.sig, False := by decide

/-- Nor does the reference of `StepDw`. -/
theorem no_StepDw_sem : ∀ sm : SemLoc Cert.StepDwReferenceIdeal.sig, False := by decide

/-- Nor does the reference of `FfnW`. -/
theorem no_FfnW_sem : ∀ sm : SemLoc Cert.FfnWReferenceIdeal.sig, False := by decide

/-- Nor does the reference of `InProj`. -/
theorem no_InProj_sem : ∀ sm : SemLoc Cert.InProjReferenceIdeal.sig, False := by decide

/-- Nor does the reference of `OutProj`. -/
theorem no_OutProj_sem : ∀ sm : SemLoc Cert.OutProjReferenceIdeal.sig, False := by decide

/-- Nor does the reference of `OutBwd`. -/
theorem no_OutBwd_sem : ∀ sm : SemLoc Cert.OutBwdReferenceIdeal.sig, False := by decide

/-- Nor does the reference of `MemKv`. -/
theorem no_MemKv_sem : ∀ sm : SemLoc Cert.MemKvReferenceIdeal.sig, False := by decide

/-- Nor does the reference of `KvBwd`. -/
theorem no_KvBwd_sem : ∀ sm : SemLoc Cert.KvBwdReferenceIdeal.sig, False := by decide

/-- Nor does the reference of `InBwd`. -/
theorem no_InBwd_sem : ∀ sm : SemLoc Cert.InBwdReferenceIdeal.sig, False := by decide

/-- Nor does the reference of `ActBwd`. -/
theorem no_ActBwd_sem : ∀ sm : SemLoc Cert.ActBwdReferenceIdeal.sig, False := by decide

/-- The frame of `ActBwd`: its text is that of `ActBwdIdeal`, whose frame is proved over any float values. -/
theorem quiescent_actBwd : Cert.quiescent_ActBwd (hActBwd := Cert.ActBwd.Gen.facts) := by
  have h := fun m g (_ : True) => Cert.ActBwdIdeal.Act.frame (F := Bits) m g
  refine Eq.mp ?_ h
  sl_kernel_rfl

set_option maxHeartbeats 4000000 in
/-- The claim, part by part. -/
theorem claim : Cert.Claim := ⟨Cert.Kernel.Gen.facts, Cert.KernelIdeal.Gen.facts, Cert.ReferenceIdeal.Gen.facts, Cert.Reference.Gen.facts,
  Cert.Update.Gen.facts, Cert.UpdateIdeal.Gen.facts, Cert.UpdateReferenceIdeal.Gen.facts,
  Cert.Scatter.Gen.facts, Cert.ScatterIdeal.Gen.facts, Cert.ScatterReferenceIdeal.Gen.facts, Cert.ScatterReference.Gen.facts,
  Cert.Weights.Gen.facts, Cert.WeightsIdeal.Gen.facts, Cert.WeightsReferenceIdeal.Gen.facts, Cert.WeightsReference.Gen.facts,
  Cert.UpdateIn.Gen.facts, Cert.UpdateInIdeal.Gen.facts, Cert.UpdateInReferenceIdeal.Gen.facts,
  Cert.UpdateKv.Gen.facts, Cert.UpdateKvIdeal.Gen.facts, Cert.UpdateKvReferenceIdeal.Gen.facts,
  Cert.UpdateOut.Gen.facts, Cert.UpdateOutIdeal.Gen.facts, Cert.UpdateOutReferenceIdeal.Gen.facts,
  Cert.SmallSum.Gen.facts, Cert.SmallSumIdeal.Gen.facts, Cert.SmallSumReferenceIdeal.Gen.facts,
  Cert.StepSmall.Gen.facts, Cert.StepSmallIdeal.Gen.facts, Cert.StepSmallReferenceIdeal.Gen.facts,
  Cert.StepDw.Gen.facts, Cert.StepDwIdeal.Gen.facts, Cert.StepDwReferenceIdeal.Gen.facts,
  Cert.FfnW.Gen.facts, Cert.FfnWIdeal.Gen.facts, Cert.FfnWReferenceIdeal.Gen.facts,
  Cert.InProj.Gen.facts, Cert.InProjIdeal.Gen.facts, Cert.InProjReferenceIdeal.Gen.facts,
  Cert.OutProj.Gen.facts, Cert.OutProjIdeal.Gen.facts, Cert.OutProjReferenceIdeal.Gen.facts,
  Cert.OutBwd.Gen.facts, Cert.OutBwdIdeal.Gen.facts, Cert.OutBwdReferenceIdeal.Gen.facts,
  Cert.MemKv.Gen.facts, Cert.MemKvIdeal.Gen.facts, Cert.MemKvReferenceIdeal.Gen.facts,
  Cert.KvBwd.Gen.facts, Cert.KvBwdIdeal.Gen.facts, Cert.KvBwdReferenceIdeal.Gen.facts,
  Cert.InBwd.Gen.facts, Cert.InBwdIdeal.Gen.facts, Cert.InBwdReferenceIdeal.Gen.facts,
  Cert.ActBwd.Gen.facts, Cert.ActBwdIdeal.Gen.facts, Cert.ActBwdReferenceIdeal.Gen.facts,
  fun m g _ => Cert.KernelIdeal.Gather.run_frame (F := Bits) m g,
  fun m g _ => Cert.KernelIdeal.Gather.run_frame (F := Ideal) m g,
  fun m g _ => (θ_run (Cert.ReferenceIdeal.defs (F := Ideal)) _ _).mono
    (fun _ h => ⟨fun c => (h c).2.2.2, funext fun x => (no_sem x.2).elim⟩) (Cert.ReferenceIdeal.Value.run m g),
  fun m g _ => (θ_run (Cert.Reference.defs (F := Bits)) _ _).mono
    (fun _ h => ⟨fun c => (h c).2.2.2, funext fun x => (no_sem x.2).elim⟩) (Cert.Reference.Value.run m g),
  fun m g _ => Cert.Update.Gen.frame (F := Bits) m g,
  fun m g _ => Cert.UpdateIdeal.Gen.frame (F := Ideal) m g,
  fun m g _ => (θ_run (Cert.UpdateReferenceIdeal.defs (F := Ideal)) _ _).mono
    (fun _ h => ⟨fun c => (h c).2.2.2.2, funext fun x => (no_update_sem x.2).elim⟩) (Cert.UpdateReferenceIdeal.Value.run m g),
  fun m g _ => Cert.ScatterIdeal.Exchange.run_frame (F := Bits) m g,
  fun m g _ => Cert.ScatterIdeal.Exchange.run_frame (F := Ideal) m g,
  fun m g _ => (θ_run (Cert.ScatterReferenceIdeal.defs (F := Ideal)) _ _).mono
    (fun _ h => ⟨fun c => (h c).2.2.2.2.2.2.2.2.2.2, funext fun x => (no_scatter_sem x.2).elim⟩) (Cert.ScatterReferenceIdeal.Value.run m g),
  fun m g _ => (θ_run (Cert.ScatterReference.defs (F := Bits)) _ _).mono
    (fun _ h => ⟨fun c => (h c).2.2.2.2.2.2.2.2.2.2, funext fun x => (no_scatter_sem x.2).elim⟩) (Cert.ScatterReference.Value.run m g),
  fun m g _ => Cert.WeightsIdeal.Exchange.run_frame (F := Bits) m g,
  fun m g _ => Cert.WeightsIdeal.Exchange.run_frame (F := Ideal) m g,
  fun m g _ => (θ_run (Cert.WeightsReferenceIdeal.defs (F := Ideal)) _ _).mono
    (fun _ h => ⟨fun c => (h c).2.2.2.2.2.2.2.2.2.2, funext fun x => (no_weights_sem x.2).elim⟩) (Cert.WeightsReferenceIdeal.Value.run m g),
  fun m g _ => (θ_run (Cert.WeightsReference.defs (F := Bits)) _ _).mono
    (fun _ h => ⟨fun c => (h c).2.2.2.2.2.2.2.2.2.2, funext fun x => (no_weights_sem x.2).elim⟩) (Cert.WeightsReference.Value.run m g),
  fun m g _ => Cert.UpdateIn.Gen.frame (F := Bits) m g,
  fun m g _ => Cert.UpdateInIdeal.Gen.frame (F := Ideal) m g,
  fun m g _ => (θ_run (Cert.UpdateInReferenceIdeal.defs (F := Ideal)) _ _).mono
    (fun _ h => ⟨fun c => (h c).2.2.2.2, funext fun x => (no_UpdateIn_sem x.2).elim⟩) (Cert.UpdateInReferenceIdeal.Value.run m g),
  fun m g _ => Cert.UpdateKv.Gen.frame (F := Bits) m g,
  fun m g _ => Cert.UpdateKvIdeal.Gen.frame (F := Ideal) m g,
  fun m g _ => (θ_run (Cert.UpdateKvReferenceIdeal.defs (F := Ideal)) _ _).mono
    (fun _ h => ⟨fun c => (h c).2.2.2.2, funext fun x => (no_UpdateKv_sem x.2).elim⟩) (Cert.UpdateKvReferenceIdeal.Value.run m g),
  fun m g _ => Cert.UpdateOut.Gen.frame (F := Bits) m g,
  fun m g _ => Cert.UpdateOutIdeal.Gen.frame (F := Ideal) m g,
  fun m g _ => (θ_run (Cert.UpdateOutReferenceIdeal.defs (F := Ideal)) _ _).mono
    (fun _ h => ⟨fun c => (h c).2.2.2.2, funext fun x => (no_UpdateOut_sem x.2).elim⟩) (Cert.UpdateOutReferenceIdeal.Value.run m g),
  fun m g _ => Cert.SmallSum.Gen.frame (F := Bits) m g,
  fun m g _ => Cert.SmallSumIdeal.Gen.frame (F := Ideal) m g,
  fun m g _ => (θ_run (Cert.SmallSumReferenceIdeal.defs (F := Ideal)) _ _).mono
    (fun _ h => ⟨fun c => (h c).2, funext fun x => (no_SmallSum_sem x.2).elim⟩) (Cert.SmallSumReferenceIdeal.Value.run m g),
  fun m g _ => Cert.StepSmall.Gen.frame (F := Bits) m g,
  fun m g _ => Cert.StepSmallIdeal.Gen.frame (F := Ideal) m g,
  fun m g _ => (θ_run (Cert.StepSmallReferenceIdeal.defs (F := Ideal)) _ _).mono
    (fun _ h => ⟨fun c => (h c).2.2.2, funext fun x => (no_StepSmall_sem x.2).elim⟩) (Cert.StepSmallReferenceIdeal.Value.run m g),
  fun m g _ => Cert.StepDw.Gen.frame (F := Bits) m g,
  fun m g _ => Cert.StepDwIdeal.Gen.frame (F := Ideal) m g,
  fun m g _ => (θ_run (Cert.StepDwReferenceIdeal.defs (F := Ideal)) _ _).mono
    (fun _ h => ⟨fun c => (h c).2.2.2, funext fun x => (no_StepDw_sem x.2).elim⟩) (Cert.StepDwReferenceIdeal.Value.run m g),
  fun m g _ => Cert.FfnW.Gen.frame (F := Bits) m g,
  fun m g _ => Cert.FfnWIdeal.Gen.frame (F := Ideal) m g,
  fun m g _ => (θ_run (Cert.FfnWReferenceIdeal.defs (F := Ideal)) _ _).mono
    (fun _ h => ⟨fun c => (h c).2.2.2, funext fun x => (no_FfnW_sem x.2).elim⟩) (Cert.FfnWReferenceIdeal.Value.run m g),
  fun m g _ => Cert.InProj.Gen.frame (F := Bits) m g,
  fun m g _ => Cert.InProjIdeal.Gen.frame (F := Ideal) m g,
  fun m g _ => (θ_run (Cert.InProjReferenceIdeal.defs (F := Ideal)) _ _).mono
    (fun _ h => ⟨fun c => (h c).2.2, funext fun x => (no_InProj_sem x.2).elim⟩) (Cert.InProjReferenceIdeal.Value.run m g),
  fun m g _ => Cert.OutProj.Gen.frame (F := Bits) m g,
  fun m g _ => Cert.OutProjIdeal.Gen.frame (F := Ideal) m g,
  fun m g _ => (θ_run (Cert.OutProjReferenceIdeal.defs (F := Ideal)) _ _).mono
    (fun _ h => ⟨fun c => (h c).2, funext fun x => (no_OutProj_sem x.2).elim⟩) (Cert.OutProjReferenceIdeal.Value.run m g),
  fun m g _ => Cert.OutBwd.Gen.frame (F := Bits) m g,
  fun m g _ => Cert.OutBwdIdeal.Gen.frame (F := Ideal) m g,
  fun m g _ => (θ_run (Cert.OutBwdReferenceIdeal.defs (F := Ideal)) _ _).mono
    (fun _ h => ⟨fun c => (h c).2.2, funext fun x => (no_OutBwd_sem x.2).elim⟩) (Cert.OutBwdReferenceIdeal.Value.run m g),
  fun m g _ => Cert.MemKv.Gen.frame (F := Bits) m g,
  fun m g _ => Cert.MemKvIdeal.Gen.frame (F := Ideal) m g,
  fun m g _ => (θ_run (Cert.MemKvReferenceIdeal.defs (F := Ideal)) _ _).mono
    (fun _ h => ⟨fun c => (h c).2.2, funext fun x => (no_MemKv_sem x.2).elim⟩) (Cert.MemKvReferenceIdeal.Value.run m g),
  fun m g _ => Cert.KvBwd.Gen.frame (F := Bits) m g,
  fun m g _ => Cert.KvBwdIdeal.Gen.frame (F := Ideal) m g,
  fun m g _ => (θ_run (Cert.KvBwdReferenceIdeal.defs (F := Ideal)) _ _).mono
    (fun _ h => ⟨fun c => (h c).2.2, funext fun x => (no_KvBwd_sem x.2).elim⟩) (Cert.KvBwdReferenceIdeal.Value.run m g),
  fun m g _ => Cert.InBwd.Gen.frame (F := Bits) m g,
  fun m g _ => Cert.InBwdIdeal.Gen.frame (F := Ideal) m g,
  fun m g _ => (θ_run (Cert.InBwdReferenceIdeal.defs (F := Ideal)) _ _).mono
    (fun _ h => ⟨fun c => (h c).2.2.2, funext fun x => (no_InBwd_sem x.2).elim⟩) (Cert.InBwdReferenceIdeal.Value.run m g),
  quiescent_actBwd,
  fun m g _ => Cert.ActBwdIdeal.Act.frame (F := Ideal) m g,
  fun m g _ => (θ_run (Cert.ActBwdReferenceIdeal.defs (F := Ideal)) _ _).mono
    (fun _ h => ⟨fun c => (h c).2.2.2.2.2.2, funext fun x => (no_ActBwd_sem x.2).elim⟩) (Cert.ActBwdReferenceIdeal.Value.run m g),
  trivial,
  fun m g m' g' _ h => ⟨_, _, _, Cert.KernelIdeal.Gather.run_blocks (F := Ideal) m g _ _ _ h,
    (θ_run (Cert.ReferenceIdeal.defs (F := Ideal)) _ _).mono (fun _ r => r 0) (Cert.ReferenceIdeal.Value.run m' g')⟩,
  fun m g m' g' _ h => ⟨_, _, _, Cert.KernelIdeal.Gather.run_blocks (F := Bits) m g _ _ _ h,
    (θ_run (Cert.Reference.defs (F := Bits)) _ _).mono (fun _ r => r 0) (Cert.Reference.Value.run m' g')⟩,
  trivial,
  fun m g m' g' _ h => ⟨_, _, _, _, Cert.UpdateIdeal.Sum.run_values m g,
    (θ_run (Cert.UpdateReferenceIdeal.defs (F := Ideal)) _ _).mono (fun _ r c => by
      obtain ⟨e0, e1, e2, e3, k⟩ := r c
      obtain ⟨a0, a1, a2, a3⟩ := h c
      rw [a0] at e0
      rw [a0, a1, a2, a3] at e1
      rw [a0, a2] at e2
      rw [a0, a3] at e3
      exact ⟨e0, e1, e2, e3, k⟩) (Cert.UpdateReferenceIdeal.Value.run m' g')⟩,
  trivial,
  fun m g m' g' _ h => ⟨_, _, _, _, _, _, _, _, _, _, Cert.ScatterIdeal.Exchange.run_blocks (F := Ideal) m g _ _ _ _ _ _ _ _ _ _ h
      Cert.ScatterReferenceIdeal.Facts₀.shapeCasts_S64x128x512_S8x8x128x512 Cert.ScatterReferenceIdeal.Facts₀.transposes_S8x8x128x512_S8x8x128x512_1_0_2_3 Cert.ScatterReferenceIdeal.Facts₀.shapeCasts_S8x8x128x512_S64x128x512
      Cert.ScatterReferenceIdeal.Facts₀.shapeCasts_S64x128x1024_S8x8x128x1024 Cert.ScatterReferenceIdeal.Facts₀.transposes_S8x8x128x1024_S8x8x128x1024_1_0_2_3 Cert.ScatterReferenceIdeal.Facts₀.shapeCasts_S8x8x128x1024_S64x128x1024
      Cert.ScatterReferenceIdeal.Facts₀.shapeCasts_S64x352x1024_S8x8x352x1024 Cert.ScatterReferenceIdeal.Facts₀.transposes_S8x8x352x1024_S8x8x352x1024_1_0_2_3 Cert.ScatterReferenceIdeal.Facts₀.shapeCasts_S8x8x352x1024_S64x352x1024
      Cert.ScatterReferenceIdeal.Facts₀.shapeCasts_S64x1024x192_S8x8x1024x192 Cert.ScatterReferenceIdeal.Facts₀.transposes_S8x8x1024x192_S8x8x1024x192_1_0_2_3 Cert.ScatterReferenceIdeal.Facts₀.shapeCasts_S8x8x1024x192_S64x1024x192
      Cert.ScatterReferenceIdeal.Facts₀.shapeCasts_S64x1024x352_S8x8x1024x352 Cert.ScatterReferenceIdeal.Facts₀.transposes_S8x8x1024x352_S8x8x1024x352_1_0_2_3 Cert.ScatterReferenceIdeal.Facts₀.shapeCasts_S8x8x1024x352_S64x1024x352,
    (θ_run (Cert.ScatterReferenceIdeal.defs (F := Ideal)) _ _).mono (fun _ r => r 0) (Cert.ScatterReferenceIdeal.Value.run m' g')⟩,
  fun m g m' g' _ h => ⟨_, _, _, _, _, _, _, _, _, _, Cert.ScatterIdeal.Exchange.run_blocks (F := Bits) m g _ _ _ _ _ _ _ _ _ _ h
      Cert.ScatterReference.Facts₀.shapeCasts_S64x128x512_S8x8x128x512 Cert.ScatterReference.Facts₀.transposes_S8x8x128x512_S8x8x128x512_1_0_2_3 Cert.ScatterReference.Facts₀.shapeCasts_S8x8x128x512_S64x128x512
      Cert.ScatterReference.Facts₀.shapeCasts_S64x128x1024_S8x8x128x1024 Cert.ScatterReference.Facts₀.transposes_S8x8x128x1024_S8x8x128x1024_1_0_2_3 Cert.ScatterReference.Facts₀.shapeCasts_S8x8x128x1024_S64x128x1024
      Cert.ScatterReference.Facts₀.shapeCasts_S64x352x1024_S8x8x352x1024 Cert.ScatterReference.Facts₀.transposes_S8x8x352x1024_S8x8x352x1024_1_0_2_3 Cert.ScatterReference.Facts₀.shapeCasts_S8x8x352x1024_S64x352x1024
      Cert.ScatterReference.Facts₀.shapeCasts_S64x1024x192_S8x8x1024x192 Cert.ScatterReference.Facts₀.transposes_S8x8x1024x192_S8x8x1024x192_1_0_2_3 Cert.ScatterReference.Facts₀.shapeCasts_S8x8x1024x192_S64x1024x192
      Cert.ScatterReference.Facts₀.shapeCasts_S64x1024x352_S8x8x1024x352 Cert.ScatterReference.Facts₀.transposes_S8x8x1024x352_S8x8x1024x352_1_0_2_3 Cert.ScatterReference.Facts₀.shapeCasts_S8x8x1024x352_S64x1024x352,
    (θ_run (Cert.ScatterReference.defs (F := Bits)) _ _).mono (fun _ r => r 0) (Cert.ScatterReference.Value.run m' g')⟩,
  trivial,
  fun m g m' g' _ h => ⟨_, _, _, _, _, _, _, _, _, _, Cert.WeightsIdeal.Exchange.run_blocks (F := Ideal) m g _ _ _ _ _ _ _ _ _ _ h
      Cert.WeightsReferenceIdeal.Facts₀.shapeCasts_S1024x2816_S1024x8x352 Cert.WeightsReferenceIdeal.Facts₀.transposes_S1024x8x352_S8x1024x352_1_0_2
      Cert.WeightsReferenceIdeal.Facts₀.shapeCasts_S2816x1024_S8x352x1024
      Cert.WeightsReferenceIdeal.Facts₀.shapeCasts_S1024x1536_S1024x8x192 Cert.WeightsReferenceIdeal.Facts₀.transposes_S1024x8x192_S8x1024x192_1_0_2
      Cert.WeightsReferenceIdeal.Facts₀.shapeCasts_S1024x512_S8x128x512
      Cert.WeightsReferenceIdeal.Facts₀.shapeCasts_S1024x1024_S8x128x1024
      Cert.WeightsReferenceIdeal.Facts₀.shapeCasts_S31x256_S31x8x32 Cert.WeightsReferenceIdeal.Facts₀.transposes_S31x8x32_S8x31x32_1_0_2,
    (θ_run (Cert.WeightsReferenceIdeal.defs (F := Ideal)) _ _).mono (fun _ r => r 0) (Cert.WeightsReferenceIdeal.Value.run m' g')⟩,
  fun m g m' g' _ h => ⟨_, _, _, _, _, _, _, _, _, _, Cert.WeightsIdeal.Exchange.run_blocks (F := Bits) m g _ _ _ _ _ _ _ _ _ _ h
      Cert.WeightsReference.Facts₀.shapeCasts_S1024x2816_S1024x8x352 Cert.WeightsReference.Facts₀.transposes_S1024x8x352_S8x1024x352_1_0_2
      Cert.WeightsReference.Facts₀.shapeCasts_S2816x1024_S8x352x1024
      Cert.WeightsReference.Facts₀.shapeCasts_S1024x1536_S1024x8x192 Cert.WeightsReference.Facts₀.transposes_S1024x8x192_S8x1024x192_1_0_2
      Cert.WeightsReference.Facts₀.shapeCasts_S1024x512_S8x128x512
      Cert.WeightsReference.Facts₀.shapeCasts_S1024x1024_S8x128x1024
      Cert.WeightsReference.Facts₀.shapeCasts_S31x256_S31x8x32 Cert.WeightsReference.Facts₀.transposes_S31x8x32_S8x31x32_1_0_2,
    (θ_run (Cert.WeightsReference.defs (F := Bits)) _ _).mono (fun _ r => r 0) (Cert.WeightsReference.Value.run m' g')⟩,
  trivial,
  fun m g m' g' _ h => ⟨_, _, _, _, Cert.UpdateInIdeal.Sum.run_values m g,
    (θ_run (Cert.UpdateInReferenceIdeal.defs (F := Ideal)) _ _).mono (fun _ r c => by
      obtain ⟨e0, e1, e2, e3, k⟩ := r c
      obtain ⟨a0, a1, a2, a3⟩ := h c
      rw [a0] at e0
      rw [a0, a1, a2, a3] at e1
      rw [a0, a2] at e2
      rw [a0, a3] at e3
      exact ⟨e0, e1, e2, e3, k⟩) (Cert.UpdateInReferenceIdeal.Value.run m' g')⟩,
  trivial,
  fun m g m' g' _ h => ⟨_, _, _, _, Cert.UpdateKvIdeal.Sum.run_values m g,
    (θ_run (Cert.UpdateKvReferenceIdeal.defs (F := Ideal)) _ _).mono (fun _ r c => by
      obtain ⟨e0, e1, e2, e3, k⟩ := r c
      obtain ⟨a0, a1, a2, a3⟩ := h c
      rw [a0] at e0
      rw [a0, a1, a2, a3] at e1
      rw [a0, a2] at e2
      rw [a0, a3] at e3
      exact ⟨e0, e1, e2, e3, k⟩) (Cert.UpdateKvReferenceIdeal.Value.run m' g')⟩,
  trivial,
  fun m g m' g' _ h => ⟨_, _, _, _, Cert.UpdateOutIdeal.Sum.run_values m g,
    (θ_run (Cert.UpdateOutReferenceIdeal.defs (F := Ideal)) _ _).mono (fun _ r c => by
      obtain ⟨e0, e1, e2, e3, k⟩ := r c
      obtain ⟨a0, a1, a2, a3⟩ := h c
      rw [a0] at e0
      rw [a0, a1, a2, a3] at e1
      rw [a0, a2] at e2
      rw [a0, a3] at e3
      exact ⟨e0, e1, e2, e3, k⟩) (Cert.UpdateOutReferenceIdeal.Value.run m' g')⟩,
  trivial,
  fun m g m' g' _ h => ⟨_, Cert.SmallSumIdeal.Sum.run_values m g,
    (θ_run (Cert.SmallSumReferenceIdeal.defs (F := Ideal)) _ _).mono (fun _ r c => by
      obtain ⟨e0, k⟩ := r c
      rw [h c] at e0
      exact ⟨e0, k⟩) (Cert.SmallSumReferenceIdeal.Value.run m' g')⟩,
  trivial,
  fun m g m' g' _ h => ⟨_, _, _, Cert.StepSmallIdeal.Step.run_values m g,
    (θ_run (Cert.StepSmallReferenceIdeal.defs (F := Ideal)) _ _).mono (fun _ r c => by
      obtain ⟨e0, e1, e2, k⟩ := r c
      obtain ⟨a0, a1, a2, a3⟩ := h c
      rw [a0, a1, a2, a3] at e0
      rw [a0, a2] at e1
      rw [a0, a3] at e2
      exact ⟨e0, e1, e2, k⟩) (Cert.StepSmallReferenceIdeal.Value.run m' g')⟩,
  trivial,
  fun m g m' g' _ h => ⟨_, _, _, Cert.StepDwIdeal.Step.run_values m g,
    (θ_run (Cert.StepDwReferenceIdeal.defs (F := Ideal)) _ _).mono (fun _ r c => by
      obtain ⟨e0, e1, e2, k⟩ := r c
      obtain ⟨a0, a1, a2, a3⟩ := h c
      rw [a0, a1, a2, a3] at e0
      rw [a0, a2] at e1
      rw [a0, a3] at e2
      exact ⟨e0, e1, e2, k⟩) (Cert.StepDwReferenceIdeal.Value.run m' g')⟩,
  trivial,
  fun m g m' g' _ h => ⟨_, _, _, Cert.FfnWIdeal.FfnW.run_values m g,
    (θ_run (Cert.FfnWReferenceIdeal.defs (F := Ideal)) _ _).mono (fun _ r c => by
      obtain ⟨e0, e1, e2, k⟩ := r c
      obtain ⟨a0, a1, a2, a3, a4⟩ := h c
      rw [a0, a3] at e0
      rw [a0, a4] at e1
      rw [a1, a2] at e2
      exact ⟨e0, e1, e2, k⟩) (Cert.FfnWReferenceIdeal.Value.run m' g')⟩,
  trivial,
  fun m g m' g' _ h => ⟨_, _, Cert.InProjIdeal.InProj.run_values m g,
    (θ_run (Cert.InProjReferenceIdeal.defs (F := Ideal)) _ _).mono (fun _ r c => by
      obtain ⟨e0, e1, k⟩ := r c
      obtain ⟨a0, a1, a2⟩ := h c
      rw [a0, a1] at e0
      rw [a0, a1, a2] at e1
      exact ⟨e0, e1, k⟩) (Cert.InProjReferenceIdeal.Value.run m' g')⟩,
  trivial,
  fun m g m' g' _ h => ⟨_, Cert.OutProjIdeal.OutProj.run_values m g,
    (θ_run (Cert.OutProjReferenceIdeal.defs (F := Ideal)) _ _).mono (fun _ r c => by
      obtain ⟨e0, k⟩ := r c
      obtain ⟨a0, a1, a2, a3, a4⟩ := h c
      rw [a0, a1, a2, a3, a4] at e0
      exact ⟨e0, k⟩) (Cert.OutProjReferenceIdeal.Value.run m' g')⟩,
  trivial,
  fun m g m' g' _ h => ⟨_, _, Cert.OutBwdIdeal.OutBwd.run_values m g,
    (θ_run (Cert.OutBwdReferenceIdeal.defs (F := Ideal)) _ _).mono (fun _ r c => by
      obtain ⟨e0, e1, k⟩ := r c
      obtain ⟨a0, a1, a2, a3, a4⟩ := h c
      rw [a0, a4] at e0
      rw [a0, a1, a2, a3] at e1
      exact ⟨e0, e1, k⟩) (Cert.OutBwdReferenceIdeal.Value.run m' g')⟩,
  trivial,
  fun m g m' g' _ h => ⟨_, _, Cert.MemKvIdeal.MemKv.run_values m g,
    (θ_run (Cert.MemKvReferenceIdeal.defs (F := Ideal)) _ _).mono (fun _ r c => by
      obtain ⟨e0, e1, k⟩ := r c
      obtain ⟨a0, a1, a2⟩ := h c
      rw [a0, a1] at e0
      rw [a0, a1, a2] at e1
      exact ⟨e0, e1, k⟩) (Cert.MemKvReferenceIdeal.Value.run m' g')⟩,
  trivial,
  fun m g m' g' _ h => ⟨_, _, Cert.KvBwdIdeal.KvBwd.run_values m g,
    (θ_run (Cert.KvBwdReferenceIdeal.defs (F := Ideal)) _ _).mono (fun _ r c => by
      obtain ⟨e0, e1, k⟩ := r c
      obtain ⟨a0, -, a2, a3, a4⟩ := h c
      rw [a2, a4] at e0
      rw [a0, a3, a4] at e1
      exact ⟨e0, e1, k⟩) (Cert.KvBwdReferenceIdeal.Value.run m' g')⟩,
  trivial,
  fun m g m' g' _ h => ⟨_, _, _, Cert.InBwdIdeal.InBwd.run_values m g,
    (θ_run (Cert.InBwdReferenceIdeal.defs (F := Ideal)) _ _).mono (fun _ r c => by
      obtain ⟨e0, e1, e2, k⟩ := r c
      obtain ⟨a0, a1, a2, a3, a4, a5, a6, a7, a8, a9⟩ := h c
      rw [Cert.InBwdReferenceIdeal.Value.res_main_v28, a0, a1, a2, a3, a4, a5, a7, a8, a9] at e0
      rw [a0, a1, a2, a3, a4, a5, a7] at e1
      rw [a0, a1, a2, a3, a4, a6] at e2
      exact ⟨e0, e1, e2, k⟩) (Cert.InBwdReferenceIdeal.Value.run m' g')⟩,
  trivial,
  fun m g m' g' _ h => ⟨_, _, _, _, _, _, Cert.ActBwdIdeal.Act.run_values m g,
    (θ_run (Cert.ActBwdReferenceIdeal.defs (F := Ideal)) _ _).mono (fun _ r c => by
      obtain ⟨e0, e1, e2, e3, e4, e5, k⟩ := r c
      obtain ⟨a0, a1, a2, a3, a4, a5, a6, a7⟩ := h c
      rw [a0] at e0
      rw [a3, a4] at e1
      rw [a0, a3, a4, a7] at e2
      rw [a0, a3, a7] at e3
      rw [Cert.ActBwdReferenceIdeal.Value.res_main_v60, a0, a1, a2, a3, a4, a5, a6, a7] at e4
      rw [a0, a1, a3, a4, a5, a6, a7] at e5
      exact ⟨e0, e1, e2, e3, e4, e5, k⟩) (Cert.ActBwdReferenceIdeal.Value.run m' g')⟩⟩

end Cert.Proof

end
